-- ==== Defs.lean ====
def Pre_AttnSample (m : (ℓ : Loc Cert.AttnSample.nD Cert.AttnSample.τ Cert.AttnSample.sig) → Buf (Elt Bits) ℓ) : Prop :=
  True

def Pre_AttnSampleIdeal (m : (ℓ : Loc Cert.AttnSampleIdeal.nD Cert.AttnSampleIdeal.τ Cert.AttnSampleIdeal.sig) → Buf (Elt Ideal) ℓ) : Prop :=
  True

def Pre_AttnSampleIdeal_finite [hPre_finite : Cert.Pre_finite.Facts] (m : (ℓ : Loc Cert.AttnSampleIdeal.nD Cert.AttnSampleIdeal.τ Cert.AttnSampleIdeal.sig) → Buf (Elt Ideal) ℓ) : Prop :=
  ∀ c : Dev Cert.AttnSampleIdeal.nD,
    (Cert.Pre_finite.fn (F := Ideal) (m ((c.tc : Thread Cert.AttnSampleIdeal.nD Cert.AttnSampleIdeal.τ).loc Cert.AttnSampleIdeal.main_arg0)) (m ((c.tc : Thread Cert.AttnSampleIdeal.nD Cert.AttnSampleIdeal.τ).loc Cert.AttnSampleIdeal.main_arg1)) (m ((c.tc : Thread Cert.AttnSampleIdeal.nD Cert.AttnSampleIdeal.τ).loc Cert.AttnSampleIdeal.main_arg2)) (m ((c.tc : Thread Cert.AttnSampleIdeal.nD Cert.AttnSampleIdeal.τ).loc Cert.AttnSampleIdeal.main_arg3)) (m ((c.tc : Thread Cert.AttnSampleIdeal.nD Cert.AttnSampleIdeal.τ).loc Cert.AttnSampleIdeal.main_arg4)) (m ((c.tc : Thread Cert.AttnSampleIdeal.nD Cert.AttnSampleIdeal.τ).loc Cert.AttnSampleIdeal.main_arg5)) (m ((c.tc : Thread Cert.AttnSampleIdeal.nD Cert.AttnSampleIdeal.τ).loc Cert.AttnSampleIdeal.main_arg6)) (m ((c.tc : Thread Cert.AttnSampleIdeal.nD Cert.AttnSampleIdeal.τ).loc Cert.AttnSampleIdeal.main_arg7))) = (fun _ => 1#1)

def Pre_AttnSampleRefIdeal (m : (ℓ : Loc Cert.AttnSampleRefIdeal.nD Cert.AttnSampleRefIdeal.τ Cert.AttnSampleRefIdeal.sig) → Buf (Elt Ideal) ℓ) : Prop :=
  True

def Pre_AttnSampleRefIdeal_finite [hPre_finite : Cert.Pre_finite.Facts] (m : (ℓ : Loc Cert.AttnSampleRefIdeal.nD Cert.AttnSampleRefIdeal.τ Cert.AttnSampleRefIdeal.sig) → Buf (Elt Ideal) ℓ) : Prop :=
  ∀ c : Dev Cert.AttnSampleRefIdeal.nD,
    (Cert.Pre_finite.fn (F := Ideal) (m ((c.tc : Thread Cert.AttnSampleRefIdeal.nD Cert.AttnSampleRefIdeal.τ).loc Cert.AttnSampleRefIdeal.main_arg0)) (m ((c.tc : Thread Cert.AttnSampleRefIdeal.nD Cert.AttnSampleRefIdeal.τ).loc Cert.AttnSampleRefIdeal.main_arg1)) (m ((c.tc : Thread Cert.AttnSampleRefIdeal.nD Cert.AttnSampleRefIdeal.τ).loc Cert.AttnSampleRefIdeal.main_arg2)) (m ((c.tc : Thread Cert.AttnSampleRefIdeal.nD Cert.AttnSampleRefIdeal.τ).loc Cert.AttnSampleRefIdeal.main_arg3)) (m ((c.tc : Thread Cert.AttnSampleRefIdeal.nD Cert.AttnSampleRefIdeal.τ).loc Cert.AttnSampleRefIdeal.main_arg4)) (m ((c.tc : Thread Cert.AttnSampleRefIdeal.nD Cert.AttnSampleRefIdeal.τ).loc Cert.AttnSampleRefIdeal.main_arg5)) (m ((c.tc : Thread Cert.AttnSampleRefIdeal.nD Cert.AttnSampleRefIdeal.τ).loc Cert.AttnSampleRefIdeal.main_arg6)) (m ((c.tc : Thread Cert.AttnSampleRefIdeal.nD Cert.AttnSampleRefIdeal.τ).loc Cert.AttnSampleRefIdeal.main_arg7))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InProjS (m : (ℓ : Loc Cert.InProjS.nD Cert.InProjS.τ Cert.InProjS.sig) → Buf (Elt Bits) ℓ) : Prop :=
  True

def Pre_InProjSIdeal (m : (ℓ : Loc Cert.InProjSIdeal.nD Cert.InProjSIdeal.τ Cert.InProjSIdeal.sig) → Buf (Elt Ideal) ℓ) : Prop :=
  True

def Pre_InProjSRefIdeal (m : (ℓ : Loc Cert.InProjSRefIdeal.nD Cert.InProjSRefIdeal.τ Cert.InProjSRefIdeal.sig) → Buf (Elt Ideal) ℓ) : Prop :=
  True

def Pre_FfnS (m : (ℓ : Loc Cert.FfnS.nD Cert.FfnS.τ Cert.FfnS.sig) → Buf (Elt Bits) ℓ) : Prop :=
  True

def Pre_FfnSIdeal (m : (ℓ : Loc Cert.FfnSIdeal.nD Cert.FfnSIdeal.τ Cert.FfnSIdeal.sig) → Buf (Elt Ideal) ℓ) : Prop :=
  True

def Pre_FfnSRefIdeal (m : (ℓ : Loc Cert.FfnSRefIdeal.nD Cert.FfnSRefIdeal.τ Cert.FfnSRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def quiescent_AttnSample [hAttnSample : Cert.AttnSample.Facts] : Prop :=
  ∀ (m : (ℓ : Loc Cert.AttnSample.nD Cert.AttnSample.τ Cert.AttnSample.sig) → Buf (Elt Bits) ℓ) (g : Dev Cert.AttnSample.nD → PrngReg), Pre_AttnSample m →
    θ_run (Cert.AttnSample.defs (F := Bits)) (onTc (τ := Cert.AttnSample.τ) (Cert.AttnSample.main (F := Bits))) ⟨m, fun _ => 0, g⟩ (fun r => (∀ c : Dev Cert.AttnSample.nD,
      r.2.mem ((c.tc : Thread Cert.AttnSample.nD Cert.AttnSample.τ).loc Cert.AttnSample.main_arg0) = m ((c.tc : Thread Cert.AttnSample.nD Cert.AttnSample.τ).loc Cert.AttnSample.main_arg0)
      ∧ r.2.mem ((c.tc : Thread Cert.AttnSample.nD Cert.AttnSample.τ).loc Cert.AttnSample.main_arg1) = m ((c.tc : Thread Cert.AttnSample.nD Cert.AttnSample.τ).loc Cert.AttnSample.main_arg1)
      ∧ r.2.mem ((c.tc : Thread Cert.AttnSample.nD Cert.AttnSample.τ).loc Cert.AttnSample.main_arg2) = m ((c.tc : Thread Cert.AttnSample.nD Cert.AttnSample.τ).loc Cert.AttnSample.main_arg2)
      ∧ r.2.mem ((c.tc : Thread Cert.AttnSample.nD Cert.AttnSample.τ).loc Cert.AttnSample.main_arg3) = m ((c.tc : Thread Cert.AttnSample.nD Cert.AttnSample.τ).loc Cert.AttnSample.main_arg3)
      ∧ r.2.mem ((c.tc : Thread Cert.AttnSample.nD Cert.AttnSample.τ).loc Cert.AttnSample.main_arg4) = m ((c.tc : Thread Cert.AttnSample.nD Cert.AttnSample.τ).loc Cert.AttnSample.main_arg4)
      ∧ r.2.mem ((c.tc : Thread Cert.AttnSample.nD Cert.AttnSample.τ).loc Cert.AttnSample.main_arg5) = m ((c.tc : Thread Cert.AttnSample.nD Cert.AttnSample.τ).loc Cert.AttnSample.main_arg5)
      ∧ r.2.mem ((c.tc : Thread Cert.AttnSample.nD Cert.AttnSample.τ).loc Cert.AttnSample.main_arg6) = m ((c.tc : Thread Cert.AttnSample.nD Cert.AttnSample.τ).loc Cert.AttnSample.main_arg6)
      ∧ r.2.mem ((c.tc : Thread Cert.AttnSample.nD Cert.AttnSample.τ).loc Cert.AttnSample.main_arg7) = m ((c.tc : Thread Cert.AttnSample.nD Cert.AttnSample.τ).loc Cert.AttnSample.main_arg7))
      ∧ r.2.sem = fun _ => 0)

def quiescent_AttnSampleIdeal [hAttnSampleIdeal : Cert.AttnSampleIdeal.Facts] : Prop :=
  ∀ (m : (ℓ : Loc Cert.AttnSampleIdeal.nD Cert.AttnSampleIdeal.τ Cert.AttnSampleIdeal.sig) → Buf (Elt Ideal) ℓ) (g : Dev Cert.AttnSampleIdeal.nD → PrngReg), Pre_AttnSampleIdeal m →
    θ_run (Cert.AttnSampleIdeal.defs (F := Ideal)) (onTc (τ := Cert.AttnSampleIdeal.τ) (Cert.AttnSampleIdeal.main (F := Ideal))) ⟨m, fun _ => 0, g⟩ (fun r => (∀ c : Dev Cert.AttnSampleIdeal.nD,
      r.2.mem ((c.tc : Thread Cert.AttnSampleIdeal.nD Cert.AttnSampleIdeal.τ).loc Cert.AttnSampleIdeal.main_arg0) = m ((c.tc : Thread Cert.AttnSampleIdeal.nD Cert.AttnSampleIdeal.τ).loc Cert.AttnSampleIdeal.main_arg0)
      ∧ r.2.mem ((c.tc : Thread Cert.AttnSampleIdeal.nD Cert.AttnSampleIdeal.τ).loc Cert.AttnSampleIdeal.main_arg1) = m ((c.tc : Thread Cert.AttnSampleIdeal.nD Cert.AttnSampleIdeal.τ).loc Cert.AttnSampleIdeal.main_arg1)
      ∧ r.2.mem ((c.tc : Thread Cert.AttnSampleIdeal.nD Cert.AttnSampleIdeal.τ).loc Cert.AttnSampleIdeal.main_arg2) = m ((c.tc : Thread Cert.AttnSampleIdeal.nD Cert.AttnSampleIdeal.τ).loc Cert.AttnSampleIdeal.main_arg2)
      ∧ r.2.mem ((c.tc : Thread Cert.AttnSampleIdeal.nD Cert.AttnSampleIdeal.τ).loc Cert.AttnSampleIdeal.main_arg3) = m ((c.tc : Thread Cert.AttnSampleIdeal.nD Cert.AttnSampleIdeal.τ).loc Cert.AttnSampleIdeal.main_arg3)
      ∧ r.2.mem ((c.tc : Thread Cert.AttnSampleIdeal.nD Cert.AttnSampleIdeal.τ).loc Cert.AttnSampleIdeal.main_arg4) = m ((c.tc : Thread Cert.AttnSampleIdeal.nD Cert.AttnSampleIdeal.τ).loc Cert.AttnSampleIdeal.main_arg4)
      ∧ r.2.mem ((c.tc : Thread Cert.AttnSampleIdeal.nD Cert.AttnSampleIdeal.τ).loc Cert.AttnSampleIdeal.main_arg5) = m ((c.tc : Thread Cert.AttnSampleIdeal.nD Cert.AttnSampleIdeal.τ).loc Cert.AttnSampleIdeal.main_arg5)
      ∧ r.2.mem ((c.tc : Thread Cert.AttnSampleIdeal.nD Cert.AttnSampleIdeal.τ).loc Cert.AttnSampleIdeal.main_arg6) = m ((c.tc : Thread Cert.AttnSampleIdeal.nD Cert.AttnSampleIdeal.τ).loc Cert.AttnSampleIdeal.main_arg6)
      ∧ r.2.mem ((c.tc : Thread Cert.AttnSampleIdeal.nD Cert.AttnSampleIdeal.τ).loc Cert.AttnSampleIdeal.main_arg7) = m ((c.tc : Thread Cert.AttnSampleIdeal.nD Cert.AttnSampleIdeal.τ).loc Cert.AttnSampleIdeal.main_arg7))
      ∧ r.2.sem = fun _ => 0)

def quiescent_AttnSampleIdeal_pre_finite [hAttnSampleIdeal : Cert.AttnSampleIdeal.Facts] [hPre_finite : Cert.Pre_finite.Facts] : Prop :=
  ∀ (m : (ℓ : Loc Cert.AttnSampleIdeal.nD Cert.AttnSampleIdeal.τ Cert.AttnSampleIdeal.sig) → Buf (Elt Ideal) ℓ) (g : Dev Cert.AttnSampleIdeal.nD → PrngReg), Pre_AttnSampleIdeal_finite m →
    θ_run (Cert.AttnSampleIdeal.defs (F := Ideal)) (onTc (τ := Cert.AttnSampleIdeal.τ) (Cert.AttnSampleIdeal.main (F := Ideal))) ⟨m, fun _ => 0, g⟩ (fun r => (∀ c : Dev Cert.AttnSampleIdeal.nD,
      r.2.mem ((c.tc : Thread Cert.AttnSampleIdeal.nD Cert.AttnSampleIdeal.τ).loc Cert.AttnSampleIdeal.main_arg0) = m ((c.tc : Thread Cert.AttnSampleIdeal.nD Cert.AttnSampleIdeal.τ).loc Cert.AttnSampleIdeal.main_arg0)
      ∧ r.2.mem ((c.tc : Thread Cert.AttnSampleIdeal.nD Cert.AttnSampleIdeal.τ).loc Cert.AttnSampleIdeal.main_arg1) = m ((c.tc : Thread Cert.AttnSampleIdeal.nD Cert.AttnSampleIdeal.τ).loc Cert.AttnSampleIdeal.main_arg1)
      ∧ r.2.mem ((c.tc : Thread Cert.AttnSampleIdeal.nD Cert.AttnSampleIdeal.τ).loc Cert.AttnSampleIdeal.main_arg2) = m ((c.tc : Thread Cert.AttnSampleIdeal.nD Cert.AttnSampleIdeal.τ).loc Cert.AttnSampleIdeal.main_arg2)
      ∧ r.2.mem ((c.tc : Thread Cert.AttnSampleIdeal.nD Cert.AttnSampleIdeal.τ).loc Cert.AttnSampleIdeal.main_arg3) = m ((c.tc : Thread Cert.AttnSampleIdeal.nD Cert.AttnSampleIdeal.τ).loc Cert.AttnSampleIdeal.main_arg3)
      ∧ r.2.mem ((c.tc : Thread Cert.AttnSampleIdeal.nD Cert.AttnSampleIdeal.τ).loc Cert.AttnSampleIdeal.main_arg4) = m ((c.tc : Thread Cert.AttnSampleIdeal.nD Cert.AttnSampleIdeal.τ).loc Cert.AttnSampleIdeal.main_arg4)
      ∧ r.2.mem ((c.tc : Thread Cert.AttnSampleIdeal.nD Cert.AttnSampleIdeal.τ).loc Cert.AttnSampleIdeal.main_arg5) = m ((c.tc : Thread Cert.AttnSampleIdeal.nD Cert.AttnSampleIdeal.τ).loc Cert.AttnSampleIdeal.main_arg5)
      ∧ r.2.mem ((c.tc : Thread Cert.AttnSampleIdeal.nD Cert.AttnSampleIdeal.τ).loc Cert.AttnSampleIdeal.main_arg6) = m ((c.tc : Thread Cert.AttnSampleIdeal.nD Cert.AttnSampleIdeal.τ).loc Cert.AttnSampleIdeal.main_arg6)
      ∧ r.2.mem ((c.tc : Thread Cert.AttnSampleIdeal.nD Cert.AttnSampleIdeal.τ).loc Cert.AttnSampleIdeal.main_arg7) = m ((c.tc : Thread Cert.AttnSampleIdeal.nD Cert.AttnSampleIdeal.τ).loc Cert.AttnSampleIdeal.main_arg7))
      ∧ r.2.sem = fun _ => 0)

def quiescent_AttnSampleRefIdeal [hAttnSampleRefIdeal : Cert.AttnSampleRefIdeal.Facts] : Prop :=
  ∀ (m : (ℓ : Loc Cert.AttnSampleRefIdeal.nD Cert.AttnSampleRefIdeal.τ Cert.AttnSampleRefIdeal.sig) → Buf (Elt Ideal) ℓ) (g : Dev Cert.AttnSampleRefIdeal.nD → PrngReg), Pre_AttnSampleRefIdeal m →
    θ_run (Cert.AttnSampleRefIdeal.defs (F := Ideal)) (onTc (τ := Cert.AttnSampleRefIdeal.τ) (Cert.AttnSampleRefIdeal.main (F := Ideal))) ⟨m, fun _ => 0, g⟩ (fun r => (∀ c : Dev Cert.AttnSampleRefIdeal.nD,
      r.2.mem ((c.tc : Thread Cert.AttnSampleRefIdeal.nD Cert.AttnSampleRefIdeal.τ).loc Cert.AttnSampleRefIdeal.main_arg0) = m ((c.tc : Thread Cert.AttnSampleRefIdeal.nD Cert.AttnSampleRefIdeal.τ).loc Cert.AttnSampleRefIdeal.main_arg0)
      ∧ r.2.mem ((c.tc : Thread Cert.AttnSampleRefIdeal.nD Cert.AttnSampleRefIdeal.τ).loc Cert.AttnSampleRefIdeal.main_arg1) = m ((c.tc : Thread Cert.AttnSampleRefIdeal.nD Cert.AttnSampleRefIdeal.τ).loc Cert.AttnSampleRefIdeal.main_arg1)
      ∧ r.2.mem ((c.tc : Thread Cert.AttnSampleRefIdeal.nD Cert.AttnSampleRefIdeal.τ).loc Cert.AttnSampleRefIdeal.main_arg2) = m ((c.tc : Thread Cert.AttnSampleRefIdeal.nD Cert.AttnSampleRefIdeal.τ).loc Cert.AttnSampleRefIdeal.main_arg2)
      ∧ r.2.mem ((c.tc : Thread Cert.AttnSampleRefIdeal.nD Cert.AttnSampleRefIdeal.τ).loc Cert.AttnSampleRefIdeal.main_arg3) = m ((c.tc : Thread Cert.AttnSampleRefIdeal.nD Cert.AttnSampleRefIdeal.τ).loc Cert.AttnSampleRefIdeal.main_arg3)
      ∧ r.2.mem ((c.tc : Thread Cert.AttnSampleRefIdeal.nD Cert.AttnSampleRefIdeal.τ).loc Cert.AttnSampleRefIdeal.main_arg4) = m ((c.tc : Thread Cert.AttnSampleRefIdeal.nD Cert.AttnSampleRefIdeal.τ).loc Cert.AttnSampleRefIdeal.main_arg4)
      ∧ r.2.mem ((c.tc : Thread Cert.AttnSampleRefIdeal.nD Cert.AttnSampleRefIdeal.τ).loc Cert.AttnSampleRefIdeal.main_arg5) = m ((c.tc : Thread Cert.AttnSampleRefIdeal.nD Cert.AttnSampleRefIdeal.τ).loc Cert.AttnSampleRefIdeal.main_arg5)
      ∧ r.2.mem ((c.tc : Thread Cert.AttnSampleRefIdeal.nD Cert.AttnSampleRefIdeal.τ).loc Cert.AttnSampleRefIdeal.main_arg6) = m ((c.tc : Thread Cert.AttnSampleRefIdeal.nD Cert.AttnSampleRefIdeal.τ).loc Cert.AttnSampleRefIdeal.main_arg6)
      ∧ r.2.mem ((c.tc : Thread Cert.AttnSampleRefIdeal.nD Cert.AttnSampleRefIdeal.τ).loc Cert.AttnSampleRefIdeal.main_arg7) = m ((c.tc : Thread Cert.AttnSampleRefIdeal.nD Cert.AttnSampleRefIdeal.τ).loc Cert.AttnSampleRefIdeal.main_arg7))
      ∧ r.2.sem = fun _ => 0)

def quiescent_AttnSampleRefIdeal_pre_finite [hAttnSampleRefIdeal : Cert.AttnSampleRefIdeal.Facts] [hPre_finite : Cert.Pre_finite.Facts] : Prop :=
  ∀ (m : (ℓ : Loc Cert.AttnSampleRefIdeal.nD Cert.AttnSampleRefIdeal.τ Cert.AttnSampleRefIdeal.sig) → Buf (Elt Ideal) ℓ) (g : Dev Cert.AttnSampleRefIdeal.nD → PrngReg), Pre_AttnSampleRefIdeal_finite m →
    θ_run (Cert.AttnSampleRefIdeal.defs (F := Ideal)) (onTc (τ := Cert.AttnSampleRefIdeal.τ) (Cert.AttnSampleRefIdeal.main (F := Ideal))) ⟨m, fun _ => 0, g⟩ (fun r => (∀ c : Dev Cert.AttnSampleRefIdeal.nD,
      r.2.mem ((c.tc : Thread Cert.AttnSampleRefIdeal.nD Cert.AttnSampleRefIdeal.τ).loc Cert.AttnSampleRefIdeal.main_arg0) = m ((c.tc : Thread Cert.AttnSampleRefIdeal.nD Cert.AttnSampleRefIdeal.τ).loc Cert.AttnSampleRefIdeal.main_arg0)
      ∧ r.2.mem ((c.tc : Thread Cert.AttnSampleRefIdeal.nD Cert.AttnSampleRefIdeal.τ).loc Cert.AttnSampleRefIdeal.main_arg1) = m ((c.tc : Thread Cert.AttnSampleRefIdeal.nD Cert.AttnSampleRefIdeal.τ).loc Cert.AttnSampleRefIdeal.main_arg1)
      ∧ r.2.mem ((c.tc : Thread Cert.AttnSampleRefIdeal.nD Cert.AttnSampleRefIdeal.τ).loc Cert.AttnSampleRefIdeal.main_arg2) = m ((c.tc : Thread Cert.AttnSampleRefIdeal.nD Cert.AttnSampleRefIdeal.τ).loc Cert.AttnSampleRefIdeal.main_arg2)
      ∧ r.2.mem ((c.tc : Thread Cert.AttnSampleRefIdeal.nD Cert.AttnSampleRefIdeal.τ).loc Cert.AttnSampleRefIdeal.main_arg3) = m ((c.tc : Thread Cert.AttnSampleRefIdeal.nD Cert.AttnSampleRefIdeal.τ).loc Cert.AttnSampleRefIdeal.main_arg3)
      ∧ r.2.mem ((c.tc : Thread Cert.AttnSampleRefIdeal.nD Cert.AttnSampleRefIdeal.τ).loc Cert.AttnSampleRefIdeal.main_arg4) = m ((c.tc : Thread Cert.AttnSampleRefIdeal.nD Cert.AttnSampleRefIdeal.τ).loc Cert.AttnSampleRefIdeal.main_arg4)
      ∧ r.2.mem ((c.tc : Thread Cert.AttnSampleRefIdeal.nD Cert.AttnSampleRefIdeal.τ).loc Cert.AttnSampleRefIdeal.main_arg5) = m ((c.tc : Thread Cert.AttnSampleRefIdeal.nD Cert.AttnSampleRefIdeal.τ).loc Cert.AttnSampleRefIdeal.main_arg5)
      ∧ r.2.mem ((c.tc : Thread Cert.AttnSampleRefIdeal.nD Cert.AttnSampleRefIdeal.τ).loc Cert.AttnSampleRefIdeal.main_arg6) = m ((c.tc : Thread Cert.AttnSampleRefIdeal.nD Cert.AttnSampleRefIdeal.τ).loc Cert.AttnSampleRefIdeal.main_arg6)
      ∧ r.2.mem ((c.tc : Thread Cert.AttnSampleRefIdeal.nD Cert.AttnSampleRefIdeal.τ).loc Cert.AttnSampleRefIdeal.main_arg7) = m ((c.tc : Thread Cert.AttnSampleRefIdeal.nD Cert.AttnSampleRefIdeal.τ).loc Cert.AttnSampleRefIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_InProjS [hInProjS : Cert.InProjS.Facts] : Prop :=
  ∀ (m : (ℓ : Loc Cert.InProjS.nD Cert.InProjS.τ Cert.InProjS.sig) → Buf (Elt Bits) ℓ) (g : Dev Cert.InProjS.nD → PrngReg), Pre_InProjS m →
    θ_run (Cert.InProjS.defs (F := Bits)) (onTc (τ := Cert.InProjS.τ) (Cert.InProjS.main (F := Bits))) ⟨m, fun _ => 0, g⟩ (fun r => (∀ c : Dev Cert.InProjS.nD,
      r.2.mem ((c.tc : Thread Cert.InProjS.nD Cert.InProjS.τ).loc Cert.InProjS.main_arg0) = m ((c.tc : Thread Cert.InProjS.nD Cert.InProjS.τ).loc Cert.InProjS.main_arg0)
      ∧ r.2.mem ((c.tc : Thread Cert.InProjS.nD Cert.InProjS.τ).loc Cert.InProjS.main_arg1) = m ((c.tc : Thread Cert.InProjS.nD Cert.InProjS.τ).loc Cert.InProjS.main_arg1)
      ∧ r.2.mem ((c.tc : Thread Cert.InProjS.nD Cert.InProjS.τ).loc Cert.InProjS.main_arg2) = m ((c.tc : Thread Cert.InProjS.nD Cert.InProjS.τ).loc Cert.InProjS.main_arg2))
      ∧ r.2.sem = fun _ => 0)

def quiescent_InProjSIdeal [hInProjSIdeal : Cert.InProjSIdeal.Facts] : Prop :=
  ∀ (m : (ℓ : Loc Cert.InProjSIdeal.nD Cert.InProjSIdeal.τ Cert.InProjSIdeal.sig) → Buf (Elt Ideal) ℓ) (g : Dev Cert.InProjSIdeal.nD → PrngReg), Pre_InProjSIdeal m →
    θ_run (Cert.InProjSIdeal.defs (F := Ideal)) (onTc (τ := Cert.InProjSIdeal.τ) (Cert.InProjSIdeal.main (F := Ideal))) ⟨m, fun _ => 0, g⟩ (fun r => (∀ c : Dev Cert.InProjSIdeal.nD,
      r.2.mem ((c.tc : Thread Cert.InProjSIdeal.nD Cert.InProjSIdeal.τ).loc Cert.InProjSIdeal.main_arg0) = m ((c.tc : Thread Cert.InProjSIdeal.nD Cert.InProjSIdeal.τ).loc Cert.InProjSIdeal.main_arg0)
      ∧ r.2.mem ((c.tc : Thread Cert.InProjSIdeal.nD Cert.InProjSIdeal.τ).loc Cert.InProjSIdeal.main_arg1) = m ((c.tc : Thread Cert.InProjSIdeal.nD Cert.InProjSIdeal.τ).loc Cert.InProjSIdeal.main_arg1)
      ∧ r.2.mem ((c.tc : Thread Cert.InProjSIdeal.nD Cert.InProjSIdeal.τ).loc Cert.InProjSIdeal.main_arg2) = m ((c.tc : Thread Cert.InProjSIdeal.nD Cert.InProjSIdeal.τ).loc Cert.InProjSIdeal.main_arg2))
      ∧ r.2.sem = fun _ => 0)

def quiescent_InProjSRefIdeal [hInProjSRefIdeal : Cert.InProjSRefIdeal.Facts] : Prop :=
  ∀ (m : (ℓ : Loc Cert.InProjSRefIdeal.nD Cert.InProjSRefIdeal.τ Cert.InProjSRefIdeal.sig) → Buf (Elt Ideal) ℓ) (g : Dev Cert.InProjSRefIdeal.nD → PrngReg), Pre_InProjSRefIdeal m →
    θ_run (Cert.InProjSRefIdeal.defs (F := Ideal)) (onTc (τ := Cert.InProjSRefIdeal.τ) (Cert.InProjSRefIdeal.main (F := Ideal))) ⟨m, fun _ => 0, g⟩ (fun r => (∀ c : Dev Cert.InProjSRefIdeal.nD,
      r.2.mem ((c.tc : Thread Cert.InProjSRefIdeal.nD Cert.InProjSRefIdeal.τ).loc Cert.InProjSRefIdeal.main_arg0) = m ((c.tc : Thread Cert.InProjSRefIdeal.nD Cert.InProjSRefIdeal.τ).loc Cert.InProjSRefIdeal.main_arg0)
      ∧ r.2.mem ((c.tc : Thread Cert.InProjSRefIdeal.nD Cert.InProjSRefIdeal.τ).loc Cert.InProjSRefIdeal.main_arg1) = m ((c.tc : Thread Cert.InProjSRefIdeal.nD Cert.InProjSRefIdeal.τ).loc Cert.InProjSRefIdeal.main_arg1)
      ∧ r.2.mem ((c.tc : Thread Cert.InProjSRefIdeal.nD Cert.InProjSRefIdeal.τ).loc Cert.InProjSRefIdeal.main_arg2) = m ((c.tc : Thread Cert.InProjSRefIdeal.nD Cert.InProjSRefIdeal.τ).loc Cert.InProjSRefIdeal.main_arg2))
      ∧ r.2.sem = fun _ => 0)

def quiescent_FfnS [hFfnS : Cert.FfnS.Facts] : Prop :=
  ∀ (m : (ℓ : Loc Cert.FfnS.nD Cert.FfnS.τ Cert.FfnS.sig) → Buf (Elt Bits) ℓ) (g : Dev Cert.FfnS.nD → PrngReg), Pre_FfnS m →
    θ_run (Cert.FfnS.defs (F := Bits)) (onTc (τ := Cert.FfnS.τ) (Cert.FfnS.main (F := Bits))) ⟨m, fun _ => 0, g⟩ (fun r => (∀ c : Dev Cert.FfnS.nD,
      r.2.mem ((c.tc : Thread Cert.FfnS.nD Cert.FfnS.τ).loc Cert.FfnS.main_arg0) = m ((c.tc : Thread Cert.FfnS.nD Cert.FfnS.τ).loc Cert.FfnS.main_arg0)
      ∧ r.2.mem ((c.tc : Thread Cert.FfnS.nD Cert.FfnS.τ).loc Cert.FfnS.main_arg1) = m ((c.tc : Thread Cert.FfnS.nD Cert.FfnS.τ).loc Cert.FfnS.main_arg1)
      ∧ r.2.mem ((c.tc : Thread Cert.FfnS.nD Cert.FfnS.τ).loc Cert.FfnS.main_arg2) = m ((c.tc : Thread Cert.FfnS.nD Cert.FfnS.τ).loc Cert.FfnS.main_arg2)
      ∧ r.2.mem ((c.tc : Thread Cert.FfnS.nD Cert.FfnS.τ).loc Cert.FfnS.main_arg3) = m ((c.tc : Thread Cert.FfnS.nD Cert.FfnS.τ).loc Cert.FfnS.main_arg3)
      ∧ r.2.mem ((c.tc : Thread Cert.FfnS.nD Cert.FfnS.τ).loc Cert.FfnS.main_arg4) = m ((c.tc : Thread Cert.FfnS.nD Cert.FfnS.τ).loc Cert.FfnS.main_arg4)
      ∧ r.2.mem ((c.tc : Thread Cert.FfnS.nD Cert.FfnS.τ).loc Cert.FfnS.main_arg5) = m ((c.tc : Thread Cert.FfnS.nD Cert.FfnS.τ).loc Cert.FfnS.main_arg5))
      ∧ r.2.sem = fun _ => 0)

def quiescent_FfnSIdeal [hFfnSIdeal : Cert.FfnSIdeal.Facts] : Prop :=
  ∀ (m : (ℓ : Loc Cert.FfnSIdeal.nD Cert.FfnSIdeal.τ Cert.FfnSIdeal.sig) → Buf (Elt Ideal) ℓ) (g : Dev Cert.FfnSIdeal.nD → PrngReg), Pre_FfnSIdeal m →
    θ_run (Cert.FfnSIdeal.defs (F := Ideal)) (onTc (τ := Cert.FfnSIdeal.τ) (Cert.FfnSIdeal.main (F := Ideal))) ⟨m, fun _ => 0, g⟩ (fun r => (∀ c : Dev Cert.FfnSIdeal.nD,
      r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
      ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
      ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
      ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
      ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
      ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5))
      ∧ r.2.sem = fun _ => 0)

def quiescent_FfnSRefIdeal [hFfnSRefIdeal : Cert.FfnSRefIdeal.Facts] : Prop :=
  ∀ (m : (ℓ : Loc Cert.FfnSRefIdeal.nD Cert.FfnSRefIdeal.τ Cert.FfnSRefIdeal.sig) → Buf (Elt Ideal) ℓ) (g : Dev Cert.FfnSRefIdeal.nD → PrngReg), Pre_FfnSRefIdeal m →
    θ_run (Cert.FfnSRefIdeal.defs (F := Ideal)) (onTc (τ := Cert.FfnSRefIdeal.τ) (Cert.FfnSRefIdeal.main (F := Ideal))) ⟨m, fun _ => 0, g⟩ (fun r => (∀ c : Dev Cert.FfnSRefIdeal.nD,
      r.2.mem ((c.tc : Thread Cert.FfnSRefIdeal.nD Cert.FfnSRefIdeal.τ).loc Cert.FfnSRefIdeal.main_arg0) = m ((c.tc : Thread Cert.FfnSRefIdeal.nD Cert.FfnSRefIdeal.τ).loc Cert.FfnSRefIdeal.main_arg0)
      ∧ r.2.mem ((c.tc : Thread Cert.FfnSRefIdeal.nD Cert.FfnSRefIdeal.τ).loc Cert.FfnSRefIdeal.main_arg1) = m ((c.tc : Thread Cert.FfnSRefIdeal.nD Cert.FfnSRefIdeal.τ).loc Cert.FfnSRefIdeal.main_arg1)
      ∧ r.2.mem ((c.tc : Thread Cert.FfnSRefIdeal.nD Cert.FfnSRefIdeal.τ).loc Cert.FfnSRefIdeal.main_arg2) = m ((c.tc : Thread Cert.FfnSRefIdeal.nD Cert.FfnSRefIdeal.τ).loc Cert.FfnSRefIdeal.main_arg2)
      ∧ r.2.mem ((c.tc : Thread Cert.FfnSRefIdeal.nD Cert.FfnSRefIdeal.τ).loc Cert.FfnSRefIdeal.main_arg3) = m ((c.tc : Thread Cert.FfnSRefIdeal.nD Cert.FfnSRefIdeal.τ).loc Cert.FfnSRefIdeal.main_arg3)
      ∧ r.2.mem ((c.tc : Thread Cert.FfnSRefIdeal.nD Cert.FfnSRefIdeal.τ).loc Cert.FfnSRefIdeal.main_arg4) = m ((c.tc : Thread Cert.FfnSRefIdeal.nD Cert.FfnSRefIdeal.τ).loc Cert.FfnSRefIdeal.main_arg4)
      ∧ r.2.mem ((c.tc : Thread Cert.FfnSRefIdeal.nD Cert.FfnSRefIdeal.τ).loc Cert.FfnSRefIdeal.main_arg5) = m ((c.tc : Thread Cert.FfnSRefIdeal.nD Cert.FfnSRefIdeal.τ).loc Cert.FfnSRefIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11))
      ∧ r.2.sem = fun _ => 0)

def preserves_AttnSample_AttnSampleIdeal : Prop :=
  True

def algebraic_AttnSampleIdeal_AttnSampleRefIdeal_pre_finite [hAttnSampleIdeal : Cert.AttnSampleIdeal.Facts] [hAttnSampleRefIdeal : Cert.AttnSampleRefIdeal.Facts] [hPre_finite : Cert.Pre_finite.Facts] : Prop :=
  ∀ (m : (ℓ : Loc Cert.AttnSampleIdeal.nD Cert.AttnSampleIdeal.τ Cert.AttnSampleIdeal.sig) → Buf (Elt Ideal) ℓ) (g : Dev Cert.AttnSampleIdeal.nD → PrngReg)
    (m' : (ℓ : Loc Cert.AttnSampleRefIdeal.nD Cert.AttnSampleRefIdeal.τ Cert.AttnSampleRefIdeal.sig) → Buf (Elt Ideal) ℓ) (g' : Dev Cert.AttnSampleRefIdeal.nD → PrngReg), Pre_AttnSampleIdeal_finite m →
    (∀ c : Dev Cert.AttnSampleIdeal.nD,
      m' ((c.tc : Thread Cert.AttnSampleRefIdeal.nD Cert.AttnSampleRefIdeal.τ).loc Cert.AttnSampleRefIdeal.main_arg0) = m ((c.tc : Thread Cert.AttnSampleIdeal.nD Cert.AttnSampleIdeal.τ).loc Cert.AttnSampleIdeal.main_arg0)
      ∧ m' ((c.tc : Thread Cert.AttnSampleRefIdeal.nD Cert.AttnSampleRefIdeal.τ).loc Cert.AttnSampleRefIdeal.main_arg1) = m ((c.tc : Thread Cert.AttnSampleIdeal.nD Cert.AttnSampleIdeal.τ).loc Cert.AttnSampleIdeal.main_arg1)
      ∧ m' ((c.tc : Thread Cert.AttnSampleRefIdeal.nD Cert.AttnSampleRefIdeal.τ).loc Cert.AttnSampleRefIdeal.main_arg2) = m ((c.tc : Thread Cert.AttnSampleIdeal.nD Cert.AttnSampleIdeal.τ).loc Cert.AttnSampleIdeal.main_arg2)
      ∧ m' ((c.tc : Thread Cert.AttnSampleRefIdeal.nD Cert.AttnSampleRefIdeal.τ).loc Cert.AttnSampleRefIdeal.main_arg3) = m ((c.tc : Thread Cert.AttnSampleIdeal.nD Cert.AttnSampleIdeal.τ).loc Cert.AttnSampleIdeal.main_arg3)
      ∧ m' ((c.tc : Thread Cert.AttnSampleRefIdeal.nD Cert.AttnSampleRefIdeal.τ).loc Cert.AttnSampleRefIdeal.main_arg4) = m ((c.tc : Thread Cert.AttnSampleIdeal.nD Cert.AttnSampleIdeal.τ).loc Cert.AttnSampleIdeal.main_arg4)
      ∧ m' ((c.tc : Thread Cert.AttnSampleRefIdeal.nD Cert.AttnSampleRefIdeal.τ).loc Cert.AttnSampleRefIdeal.main_arg5) = m ((c.tc : Thread Cert.AttnSampleIdeal.nD Cert.AttnSampleIdeal.τ).loc Cert.AttnSampleIdeal.main_arg5)
      ∧ m' ((c.tc : Thread Cert.AttnSampleRefIdeal.nD Cert.AttnSampleRefIdeal.τ).loc Cert.AttnSampleRefIdeal.main_arg6) = m ((c.tc : Thread Cert.AttnSampleIdeal.nD Cert.AttnSampleIdeal.τ).loc Cert.AttnSampleIdeal.main_arg6)
      ∧ m' ((c.tc : Thread Cert.AttnSampleRefIdeal.nD Cert.AttnSampleRefIdeal.τ).loc Cert.AttnSampleRefIdeal.main_arg7) = m ((c.tc : Thread Cert.AttnSampleIdeal.nD Cert.AttnSampleIdeal.τ).loc Cert.AttnSampleIdeal.main_arg7)) →
    ∃ (v0 : (c : Dev Cert.AttnSampleIdeal.nD) → Buf (Elt Ideal) ((c.tc : Thread Cert.AttnSampleIdeal.nD Cert.AttnSampleIdeal.τ).loc Cert.AttnSampleIdeal.main_v27_0)) (v1 : (c : Dev Cert.AttnSampleIdeal.nD) → Buf (Elt Ideal) ((c.tc : Thread Cert.AttnSampleIdeal.nD Cert.AttnSampleIdeal.τ).loc Cert.AttnSampleIdeal.main_v27_1)),
      θ_run (Cert.AttnSampleIdeal.defs (F := Ideal)) (onTc (τ := Cert.AttnSampleIdeal.τ) (Cert.AttnSampleIdeal.main (F := Ideal))) ⟨m, fun _ => 0, g⟩ (fun r => ∀ c : Dev Cert.AttnSampleIdeal.nD,
          r.2.mem ((c.tc : Thread Cert.AttnSampleIdeal.nD Cert.AttnSampleIdeal.τ).loc Cert.AttnSampleIdeal.main_v27_0) = v0 c
          ∧ r.2.mem ((c.tc : Thread Cert.AttnSampleIdeal.nD Cert.AttnSampleIdeal.τ).loc Cert.AttnSampleIdeal.main_v27_1) = v1 c
          ∧ r.2.mem ((c.tc : Thread Cert.AttnSampleIdeal.nD Cert.AttnSampleIdeal.τ).loc Cert.AttnSampleIdeal.main_arg0) = m ((c.tc : Thread Cert.AttnSampleIdeal.nD Cert.AttnSampleIdeal.τ).loc Cert.AttnSampleIdeal.main_arg0)
          ∧ r.2.mem ((c.tc : Thread Cert.AttnSampleIdeal.nD Cert.AttnSampleIdeal.τ).loc Cert.AttnSampleIdeal.main_arg1) = m ((c.tc : Thread Cert.AttnSampleIdeal.nD Cert.AttnSampleIdeal.τ).loc Cert.AttnSampleIdeal.main_arg1)
          ∧ r.2.mem ((c.tc : Thread Cert.AttnSampleIdeal.nD Cert.AttnSampleIdeal.τ).loc Cert.AttnSampleIdeal.main_arg2) = m ((c.tc : Thread Cert.AttnSampleIdeal.nD Cert.AttnSampleIdeal.τ).loc Cert.AttnSampleIdeal.main_arg2)
          ∧ r.2.mem ((c.tc : Thread Cert.AttnSampleIdeal.nD Cert.AttnSampleIdeal.τ).loc Cert.AttnSampleIdeal.main_arg3) = m ((c.tc : Thread Cert.AttnSampleIdeal.nD Cert.AttnSampleIdeal.τ).loc Cert.AttnSampleIdeal.main_arg3)
          ∧ r.2.mem ((c.tc : Thread Cert.AttnSampleIdeal.nD Cert.AttnSampleIdeal.τ).loc Cert.AttnSampleIdeal.main_arg4) = m ((c.tc : Thread Cert.AttnSampleIdeal.nD Cert.AttnSampleIdeal.τ).loc Cert.AttnSampleIdeal.main_arg4)
          ∧ r.2.mem ((c.tc : Thread Cert.AttnSampleIdeal.nD Cert.AttnSampleIdeal.τ).loc Cert.AttnSampleIdeal.main_arg5) = m ((c.tc : Thread Cert.AttnSampleIdeal.nD Cert.AttnSampleIdeal.τ).loc Cert.AttnSampleIdeal.main_arg5)
          ∧ r.2.mem ((c.tc : Thread Cert.AttnSampleIdeal.nD Cert.AttnSampleIdeal.τ).loc Cert.AttnSampleIdeal.main_arg6) = m ((c.tc : Thread Cert.AttnSampleIdeal.nD Cert.AttnSampleIdeal.τ).loc Cert.AttnSampleIdeal.main_arg6)
          ∧ r.2.mem ((c.tc : Thread Cert.AttnSampleIdeal.nD Cert.AttnSampleIdeal.τ).loc Cert.AttnSampleIdeal.main_arg7) = m ((c.tc : Thread Cert.AttnSampleIdeal.nD Cert.AttnSampleIdeal.τ).loc Cert.AttnSampleIdeal.main_arg7))
      ∧ θ_run (Cert.AttnSampleRefIdeal.defs (F := Ideal)) (onTc (τ := Cert.AttnSampleRefIdeal.τ) (Cert.AttnSampleRefIdeal.main (F := Ideal))) ⟨m', fun _ => 0, g'⟩ (fun r => ∀ c : Dev Cert.AttnSampleRefIdeal.nD,
          r.2.mem ((c.tc : Thread Cert.AttnSampleRefIdeal.nD Cert.AttnSampleRefIdeal.τ).loc Cert.AttnSampleRefIdeal.main_v173) = v0 c
          ∧ r.2.mem ((c.tc : Thread Cert.AttnSampleRefIdeal.nD Cert.AttnSampleRefIdeal.τ).loc Cert.AttnSampleRefIdeal.main_v174) = v1 c
          ∧ r.2.mem ((c.tc : Thread Cert.AttnSampleRefIdeal.nD Cert.AttnSampleRefIdeal.τ).loc Cert.AttnSampleRefIdeal.main_arg0) = m' ((c.tc : Thread Cert.AttnSampleRefIdeal.nD Cert.AttnSampleRefIdeal.τ).loc Cert.AttnSampleRefIdeal.main_arg0)
          ∧ r.2.mem ((c.tc : Thread Cert.AttnSampleRefIdeal.nD Cert.AttnSampleRefIdeal.τ).loc Cert.AttnSampleRefIdeal.main_arg1) = m' ((c.tc : Thread Cert.AttnSampleRefIdeal.nD Cert.AttnSampleRefIdeal.τ).loc Cert.AttnSampleRefIdeal.main_arg1)
          ∧ r.2.mem ((c.tc : Thread Cert.AttnSampleRefIdeal.nD Cert.AttnSampleRefIdeal.τ).loc Cert.AttnSampleRefIdeal.main_arg2) = m' ((c.tc : Thread Cert.AttnSampleRefIdeal.nD Cert.AttnSampleRefIdeal.τ).loc Cert.AttnSampleRefIdeal.main_arg2)
          ∧ r.2.mem ((c.tc : Thread Cert.AttnSampleRefIdeal.nD Cert.AttnSampleRefIdeal.τ).loc Cert.AttnSampleRefIdeal.main_arg3) = m' ((c.tc : Thread Cert.AttnSampleRefIdeal.nD Cert.AttnSampleRefIdeal.τ).loc Cert.AttnSampleRefIdeal.main_arg3)
          ∧ r.2.mem ((c.tc : Thread Cert.AttnSampleRefIdeal.nD Cert.AttnSampleRefIdeal.τ).loc Cert.AttnSampleRefIdeal.main_arg4) = m' ((c.tc : Thread Cert.AttnSampleRefIdeal.nD Cert.AttnSampleRefIdeal.τ).loc Cert.AttnSampleRefIdeal.main_arg4)
          ∧ r.2.mem ((c.tc : Thread Cert.AttnSampleRefIdeal.nD Cert.AttnSampleRefIdeal.τ).loc Cert.AttnSampleRefIdeal.main_arg5) = m' ((c.tc : Thread Cert.AttnSampleRefIdeal.nD Cert.AttnSampleRefIdeal.τ).loc Cert.AttnSampleRefIdeal.main_arg5)
          ∧ r.2.mem ((c.tc : Thread Cert.AttnSampleRefIdeal.nD Cert.AttnSampleRefIdeal.τ).loc Cert.AttnSampleRefIdeal.main_arg6) = m' ((c.tc : Thread Cert.AttnSampleRefIdeal.nD Cert.AttnSampleRefIdeal.τ).loc Cert.AttnSampleRefIdeal.main_arg6)
          ∧ r.2.mem ((c.tc : Thread Cert.AttnSampleRefIdeal.nD Cert.AttnSampleRefIdeal.τ).loc Cert.AttnSampleRefIdeal.main_arg7) = m' ((c.tc : Thread Cert.AttnSampleRefIdeal.nD Cert.AttnSampleRefIdeal.τ).loc Cert.AttnSampleRefIdeal.main_arg7))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v10)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v10) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v36) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v5_0)) (v1 : (c : Dev Cert.MemKvIdeal.nD) → Buf (Elt Ideal) ((c.tc : Thread Cert.MemKvIdeal.nD Cert.MemKvIdeal.τ).loc Cert.MemKvIdeal.main_v5_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v5_0) = v0 c
          ∧ r.2.mem ((c.tc : Thread Cert.MemKvIdeal.nD Cert.MemKvIdeal.τ).loc Cert.MemKvIdeal.main_v5_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v17) = v0 c
          ∧ r.2.mem ((c.tc : Thread Cert.MemKvRefIdeal.nD Cert.MemKvRefIdeal.τ).loc Cert.MemKvRefIdeal.main_v18) = v1 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v5_0)) (v1 : (c : Dev Cert.InProjIdeal.nD) → Buf (Elt Ideal) ((c.tc : Thread Cert.InProjIdeal.nD Cert.InProjIdeal.τ).loc Cert.InProjIdeal.main_v5_1)) (v2 : (c : Dev Cert.InProjIdeal.nD) → Buf (Elt Ideal) ((c.tc : Thread Cert.InProjIdeal.nD Cert.InProjIdeal.τ).loc Cert.InProjIdeal.main_v5_2)) (v3 : (c : Dev Cert.InProjIdeal.nD) → Buf (Elt Ideal) ((c.tc : Thread Cert.InProjIdeal.nD Cert.InProjIdeal.τ).loc Cert.InProjIdeal.main_v5_3)) (v4 : (c : Dev Cert.InProjIdeal.nD) → Buf (Elt Ideal) ((c.tc : Thread Cert.InProjIdeal.nD Cert.InProjIdeal.τ).loc Cert.InProjIdeal.main_v5_4)) (v5 : (c : Dev Cert.InProjIdeal.nD) → Buf (Elt Ideal) ((c.tc : Thread Cert.InProjIdeal.nD Cert.InProjIdeal.τ).loc Cert.InProjIdeal.main_v5_5)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v5_0) = v0 c
          ∧ r.2.mem ((c.tc : Thread Cert.InProjIdeal.nD Cert.InProjIdeal.τ).loc Cert.InProjIdeal.main_v5_1) = v1 c
          ∧ r.2.mem ((c.tc : Thread Cert.InProjIdeal.nD Cert.InProjIdeal.τ).loc Cert.InProjIdeal.main_v5_2) = v2 c
          ∧ r.2.mem ((c.tc : Thread Cert.InProjIdeal.nD Cert.InProjIdeal.τ).loc Cert.InProjIdeal.main_v5_3) = v3 c
          ∧ r.2.mem ((c.tc : Thread Cert.InProjIdeal.nD Cert.InProjIdeal.τ).loc Cert.InProjIdeal.main_v5_4) = v4 c
          ∧ r.2.mem ((c.tc : Thread Cert.InProjIdeal.nD Cert.InProjIdeal.τ).loc Cert.InProjIdeal.main_v5_5) = v5 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v31) = v0 c
          ∧ r.2.mem ((c.tc : Thread Cert.InProjRefIdeal.nD Cert.InProjRefIdeal.τ).loc Cert.InProjRefIdeal.main_v33) = v1 c
          ∧ r.2.mem ((c.tc : Thread Cert.InProjRefIdeal.nD Cert.InProjRefIdeal.τ).loc Cert.InProjRefIdeal.main_v27) = v2 c
          ∧ r.2.mem ((c.tc : Thread Cert.InProjRefIdeal.nD Cert.InProjRefIdeal.τ).loc Cert.InProjRefIdeal.main_v28) = v3 c
          ∧ r.2.mem ((c.tc : Thread Cert.InProjRefIdeal.nD Cert.InProjRefIdeal.τ).loc Cert.InProjRefIdeal.main_v29) = v4 c
          ∧ r.2.mem ((c.tc : Thread Cert.InProjRefIdeal.nD Cert.InProjRefIdeal.τ).loc Cert.InProjRefIdeal.main_v34) = v5 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_InProjS_InProjSIdeal : Prop :=
  True

def algebraic_InProjSIdeal_InProjSRefIdeal [hInProjSIdeal : Cert.InProjSIdeal.Facts] [hInProjSRefIdeal : Cert.InProjSRefIdeal.Facts] : Prop :=
  ∀ (m : (ℓ : Loc Cert.InProjSIdeal.nD Cert.InProjSIdeal.τ Cert.InProjSIdeal.sig) → Buf (Elt Ideal) ℓ) (g : Dev Cert.InProjSIdeal.nD → PrngReg)
    (m' : (ℓ : Loc Cert.InProjSRefIdeal.nD Cert.InProjSRefIdeal.τ Cert.InProjSRefIdeal.sig) → Buf (Elt Ideal) ℓ) (g' : Dev Cert.InProjSRefIdeal.nD → PrngReg), Pre_InProjSIdeal m →
    (∀ c : Dev Cert.InProjSIdeal.nD,
      m' ((c.tc : Thread Cert.InProjSRefIdeal.nD Cert.InProjSRefIdeal.τ).loc Cert.InProjSRefIdeal.main_arg0) = m ((c.tc : Thread Cert.InProjSIdeal.nD Cert.InProjSIdeal.τ).loc Cert.InProjSIdeal.main_arg0)
      ∧ m' ((c.tc : Thread Cert.InProjSRefIdeal.nD Cert.InProjSRefIdeal.τ).loc Cert.InProjSRefIdeal.main_arg1) = m ((c.tc : Thread Cert.InProjSIdeal.nD Cert.InProjSIdeal.τ).loc Cert.InProjSIdeal.main_arg1)
      ∧ m' ((c.tc : Thread Cert.InProjSRefIdeal.nD Cert.InProjSRefIdeal.τ).loc Cert.InProjSRefIdeal.main_arg2) = m ((c.tc : Thread Cert.InProjSIdeal.nD Cert.InProjSIdeal.τ).loc Cert.InProjSIdeal.main_arg2)) →
    ∃ (v0 : (c : Dev Cert.InProjSIdeal.nD) → Buf (Elt Ideal) ((c.tc : Thread Cert.InProjSIdeal.nD Cert.InProjSIdeal.τ).loc Cert.InProjSIdeal.main_v5_0)) (v1 : (c : Dev Cert.InProjSIdeal.nD) → Buf (Elt Ideal) ((c.tc : Thread Cert.InProjSIdeal.nD Cert.InProjSIdeal.τ).loc Cert.InProjSIdeal.main_v5_1)) (v2 : (c : Dev Cert.InProjSIdeal.nD) → Buf (Elt Ideal) ((c.tc : Thread Cert.InProjSIdeal.nD Cert.InProjSIdeal.τ).loc Cert.InProjSIdeal.main_v5_2)) (v3 : (c : Dev Cert.InProjSIdeal.nD) → Buf (Elt Ideal) ((c.tc : Thread Cert.InProjSIdeal.nD Cert.InProjSIdeal.τ).loc Cert.InProjSIdeal.main_v5_3)) (v4 : (c : Dev Cert.InProjSIdeal.nD) → Buf (Elt Ideal) ((c.tc : Thread Cert.InProjSIdeal.nD Cert.InProjSIdeal.τ).loc Cert.InProjSIdeal.main_v5_4)) (v5 : (c : Dev Cert.InProjSIdeal.nD) → Buf (Elt Ideal) ((c.tc : Thread Cert.InProjSIdeal.nD Cert.InProjSIdeal.τ).loc Cert.InProjSIdeal.main_v5_5)),
      θ_run (Cert.InProjSIdeal.defs (F := Ideal)) (onTc (τ := Cert.InProjSIdeal.τ) (Cert.InProjSIdeal.main (F := Ideal))) ⟨m, fun _ => 0, g⟩ (fun r => ∀ c : Dev Cert.InProjSIdeal.nD,
          r.2.mem ((c.tc : Thread Cert.InProjSIdeal.nD Cert.InProjSIdeal.τ).loc Cert.InProjSIdeal.main_v5_0) = v0 c
          ∧ r.2.mem ((c.tc : Thread Cert.InProjSIdeal.nD Cert.InProjSIdeal.τ).loc Cert.InProjSIdeal.main_v5_1) = v1 c
          ∧ r.2.mem ((c.tc : Thread Cert.InProjSIdeal.nD Cert.InProjSIdeal.τ).loc Cert.InProjSIdeal.main_v5_2) = v2 c
          ∧ r.2.mem ((c.tc : Thread Cert.InProjSIdeal.nD Cert.InProjSIdeal.τ).loc Cert.InProjSIdeal.main_v5_3) = v3 c
          ∧ r.2.mem ((c.tc : Thread Cert.InProjSIdeal.nD Cert.InProjSIdeal.τ).loc Cert.InProjSIdeal.main_v5_4) = v4 c
          ∧ r.2.mem ((c.tc : Thread Cert.InProjSIdeal.nD Cert.InProjSIdeal.τ).loc Cert.InProjSIdeal.main_v5_5) = v5 c
          ∧ r.2.mem ((c.tc : Thread Cert.InProjSIdeal.nD Cert.InProjSIdeal.τ).loc Cert.InProjSIdeal.main_arg0) = m ((c.tc : Thread Cert.InProjSIdeal.nD Cert.InProjSIdeal.τ).loc Cert.InProjSIdeal.main_arg0)
          ∧ r.2.mem ((c.tc : Thread Cert.InProjSIdeal.nD Cert.InProjSIdeal.τ).loc Cert.InProjSIdeal.main_arg1) = m ((c.tc : Thread Cert.InProjSIdeal.nD Cert.InProjSIdeal.τ).loc Cert.InProjSIdeal.main_arg1)
          ∧ r.2.mem ((c.tc : Thread Cert.InProjSIdeal.nD Cert.InProjSIdeal.τ).loc Cert.InProjSIdeal.main_arg2) = m ((c.tc : Thread Cert.InProjSIdeal.nD Cert.InProjSIdeal.τ).loc Cert.InProjSIdeal.main_arg2))
      ∧ θ_run (Cert.InProjSRefIdeal.defs (F := Ideal)) (onTc (τ := Cert.InProjSRefIdeal.τ) (Cert.InProjSRefIdeal.main (F := Ideal))) ⟨m', fun _ => 0, g'⟩ (fun r => ∀ c : Dev Cert.InProjSRefIdeal.nD,
          r.2.mem ((c.tc : Thread Cert.InProjSRefIdeal.nD Cert.InProjSRefIdeal.τ).loc Cert.InProjSRefIdeal.main_v31) = v0 c
          ∧ r.2.mem ((c.tc : Thread Cert.InProjSRefIdeal.nD Cert.InProjSRefIdeal.τ).loc Cert.InProjSRefIdeal.main_v26) = v1 c
          ∧ r.2.mem ((c.tc : Thread Cert.InProjSRefIdeal.nD Cert.InProjSRefIdeal.τ).loc Cert.InProjSRefIdeal.main_v27) = v2 c
          ∧ r.2.mem ((c.tc : Thread Cert.InProjSRefIdeal.nD Cert.InProjSRefIdeal.τ).loc Cert.InProjSRefIdeal.main_v28) = v3 c
          ∧ r.2.mem ((c.tc : Thread Cert.InProjSRefIdeal.nD Cert.InProjSRefIdeal.τ).loc Cert.InProjSRefIdeal.main_v29) = v4 c
          ∧ r.2.mem ((c.tc : Thread Cert.InProjSRefIdeal.nD Cert.InProjSRefIdeal.τ).loc Cert.InProjSRefIdeal.main_v30) = v5 c
          ∧ r.2.mem ((c.tc : Thread Cert.InProjSRefIdeal.nD Cert.InProjSRefIdeal.τ).loc Cert.InProjSRefIdeal.main_arg0) = m' ((c.tc : Thread Cert.InProjSRefIdeal.nD Cert.InProjSRefIdeal.τ).loc Cert.InProjSRefIdeal.main_arg0)
          ∧ r.2.mem ((c.tc : Thread Cert.InProjSRefIdeal.nD Cert.InProjSRefIdeal.τ).loc Cert.InProjSRefIdeal.main_arg1) = m' ((c.tc : Thread Cert.InProjSRefIdeal.nD Cert.InProjSRefIdeal.τ).loc Cert.InProjSRefIdeal.main_arg1)
          ∧ r.2.mem ((c.tc : Thread Cert.InProjSRefIdeal.nD Cert.InProjSRefIdeal.τ).loc Cert.InProjSRefIdeal.main_arg2) = m' ((c.tc : Thread Cert.InProjSRefIdeal.nD Cert.InProjSRefIdeal.τ).loc Cert.InProjSRefIdeal.main_arg2))

def preserves_FfnS_FfnSIdeal : Prop :=
  True

def algebraic_FfnSIdeal_FfnSRefIdeal [hFfnSIdeal : Cert.FfnSIdeal.Facts] [hFfnSRefIdeal : Cert.FfnSRefIdeal.Facts] : Prop :=
  ∀ (m : (ℓ : Loc Cert.FfnSIdeal.nD Cert.FfnSIdeal.τ Cert.FfnSIdeal.sig) → Buf (Elt Ideal) ℓ) (g : Dev Cert.FfnSIdeal.nD → PrngReg)
    (m' : (ℓ : Loc Cert.FfnSRefIdeal.nD Cert.FfnSRefIdeal.τ Cert.FfnSRefIdeal.sig) → Buf (Elt Ideal) ℓ) (g' : Dev Cert.FfnSRefIdeal.nD → PrngReg), Pre_FfnSIdeal m →
    (∀ c : Dev Cert.FfnSIdeal.nD,
      m' ((c.tc : Thread Cert.FfnSRefIdeal.nD Cert.FfnSRefIdeal.τ).loc Cert.FfnSRefIdeal.main_arg0) = m ((c.tc : Thread Cert.FfnSIdeal.nD Cert.FfnSIdeal.τ).loc Cert.FfnSIdeal.main_arg0)
      ∧ m' ((c.tc : Thread Cert.FfnSRefIdeal.nD Cert.FfnSRefIdeal.τ).loc Cert.FfnSRefIdeal.main_arg1) = m ((c.tc : Thread Cert.FfnSIdeal.nD Cert.FfnSIdeal.τ).loc Cert.FfnSIdeal.main_arg1)
      ∧ m' ((c.tc : Thread Cert.FfnSRefIdeal.nD Cert.FfnSRefIdeal.τ).loc Cert.FfnSRefIdeal.main_arg2) = m ((c.tc : Thread Cert.FfnSIdeal.nD Cert.FfnSIdeal.τ).loc Cert.FfnSIdeal.main_arg2)
      ∧ m' ((c.tc : Thread Cert.FfnSRefIdeal.nD Cert.FfnSRefIdeal.τ).loc Cert.FfnSRefIdeal.main_arg3) = m ((c.tc : Thread Cert.FfnSIdeal.nD Cert.FfnSIdeal.τ).loc Cert.FfnSIdeal.main_arg3)
      ∧ m' ((c.tc : Thread Cert.FfnSRefIdeal.nD Cert.FfnSRefIdeal.τ).loc Cert.FfnSRefIdeal.main_arg4) = m ((c.tc : Thread Cert.FfnSIdeal.nD Cert.FfnSIdeal.τ).loc Cert.FfnSIdeal.main_arg4)
      ∧ m' ((c.tc : Thread Cert.FfnSRefIdeal.nD Cert.FfnSRefIdeal.τ).loc Cert.FfnSRefIdeal.main_arg5) = m ((c.tc : Thread Cert.FfnSIdeal.nD Cert.FfnSIdeal.τ).loc Cert.FfnSIdeal.main_arg5)) →
    ∃ (v0 : (c : Dev Cert.FfnSIdeal.nD) → Buf (Elt Ideal) ((c.tc : Thread Cert.FfnSIdeal.nD Cert.FfnSIdeal.τ).loc Cert.FfnSIdeal.main_v10)),
      θ_run (Cert.FfnSIdeal.defs (F := Ideal)) (onTc (τ := Cert.FfnSIdeal.τ) (Cert.FfnSIdeal.main (F := Ideal))) ⟨m, fun _ => 0, g⟩ (fun r => ∀ c : Dev Cert.FfnSIdeal.nD,
          r.2.mem ((c.tc : Thread Cert.FfnSIdeal.nD Cert.FfnSIdeal.τ).loc Cert.FfnSIdeal.main_v10) = v0 c
          ∧ r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
          ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
          ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
          ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
          ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
          ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5))
      ∧ θ_run (Cert.FfnSRefIdeal.defs (F := Ideal)) (onTc (τ := Cert.FfnSRefIdeal.τ) (Cert.FfnSRefIdeal.main (F := Ideal))) ⟨m', fun _ => 0, g'⟩ (fun r => ∀ c : Dev Cert.FfnSRefIdeal.nD,
          r.2.mem ((c.tc : Thread Cert.FfnSRefIdeal.nD Cert.FfnSRefIdeal.τ).loc Cert.FfnSRefIdeal.main_v36) = v0 c
          ∧ r.2.mem ((c.tc : Thread Cert.FfnSRefIdeal.nD Cert.FfnSRefIdeal.τ).loc Cert.FfnSRefIdeal.main_arg0) = m' ((c.tc : Thread Cert.FfnSRefIdeal.nD Cert.FfnSRefIdeal.τ).loc Cert.FfnSRefIdeal.main_arg0)
          ∧ r.2.mem ((c.tc : Thread Cert.FfnSRefIdeal.nD Cert.FfnSRefIdeal.τ).loc Cert.FfnSRefIdeal.main_arg1) = m' ((c.tc : Thread Cert.FfnSRefIdeal.nD Cert.FfnSRefIdeal.τ).loc Cert.FfnSRefIdeal.main_arg1)
          ∧ r.2.mem ((c.tc : Thread Cert.FfnSRefIdeal.nD Cert.FfnSRefIdeal.τ).loc Cert.FfnSRefIdeal.main_arg2) = m' ((c.tc : Thread Cert.FfnSRefIdeal.nD Cert.FfnSRefIdeal.τ).loc Cert.FfnSRefIdeal.main_arg2)
          ∧ r.2.mem ((c.tc : Thread Cert.FfnSRefIdeal.nD Cert.FfnSRefIdeal.τ).loc Cert.FfnSRefIdeal.main_arg3) = m' ((c.tc : Thread Cert.FfnSRefIdeal.nD Cert.FfnSRefIdeal.τ).loc Cert.FfnSRefIdeal.main_arg3)
          ∧ r.2.mem ((c.tc : Thread Cert.FfnSRefIdeal.nD Cert.FfnSRefIdeal.τ).loc Cert.FfnSRefIdeal.main_arg4) = m' ((c.tc : Thread Cert.FfnSRefIdeal.nD Cert.FfnSRefIdeal.τ).loc Cert.FfnSRefIdeal.main_arg4)
          ∧ r.2.mem ((c.tc : Thread Cert.FfnSRefIdeal.nD Cert.FfnSRefIdeal.τ).loc Cert.FfnSRefIdeal.main_arg5) = m' ((c.tc : Thread Cert.FfnSRefIdeal.nD Cert.FfnSRefIdeal.τ).loc Cert.FfnSRefIdeal.main_arg5))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v17)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v17) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v54) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11))

def Claim : Prop :=
  ∃ (hAttnSample : Cert.AttnSample.Facts) (hAttnSampleIdeal : Cert.AttnSampleIdeal.Facts) (hAttnSampleRefIdeal : Cert.AttnSampleRefIdeal.Facts) (hFfn : Cert.Ffn.Facts) (hFfnIdeal : Cert.FfnIdeal.Facts) (hFfnRefIdeal : Cert.FfnRefIdeal.Facts) (hMemKv : Cert.MemKv.Facts) (hMemKvIdeal : Cert.MemKvIdeal.Facts) (hMemKvRefIdeal : Cert.MemKvRefIdeal.Facts) (hInProj : Cert.InProj.Facts) (hInProjIdeal : Cert.InProjIdeal.Facts) (hInProjRefIdeal : Cert.InProjRefIdeal.Facts) (hInProjS : Cert.InProjS.Facts) (hInProjSIdeal : Cert.InProjSIdeal.Facts) (hInProjSRefIdeal : Cert.InProjSRefIdeal.Facts) (hFfnS : Cert.FfnS.Facts) (hFfnSIdeal : Cert.FfnSIdeal.Facts) (hFfnSRefIdeal : Cert.FfnSRefIdeal.Facts) (hMerge : Cert.Merge.Facts) (hMergeIdeal : Cert.MergeIdeal.Facts) (hMergeRefIdeal : Cert.MergeRefIdeal.Facts) (hPre_finite : Cert.Pre_finite.Facts),
    quiescent_AttnSample (hAttnSample := hAttnSample)
    ∧ quiescent_AttnSampleIdeal (hAttnSampleIdeal := hAttnSampleIdeal)
    ∧ quiescent_AttnSampleIdeal_pre_finite (hAttnSampleIdeal := hAttnSampleIdeal) (hPre_finite := hPre_finite)
    ∧ quiescent_AttnSampleRefIdeal (hAttnSampleRefIdeal := hAttnSampleRefIdeal)
    ∧ quiescent_AttnSampleRefIdeal_pre_finite (hAttnSampleRefIdeal := hAttnSampleRefIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_InProj (hInProj := hInProj)
    ∧ quiescent_InProjIdeal (hInProjIdeal := hInProjIdeal)
    ∧ quiescent_InProjRefIdeal (hInProjRefIdeal := hInProjRefIdeal)
    ∧ quiescent_InProjS (hInProjS := hInProjS)
    ∧ quiescent_InProjSIdeal (hInProjSIdeal := hInProjSIdeal)
    ∧ quiescent_InProjSRefIdeal (hInProjSRefIdeal := hInProjSRefIdeal)
    ∧ quiescent_FfnS (hFfnS := hFfnS)
    ∧ quiescent_FfnSIdeal (hFfnSIdeal := hFfnSIdeal)
    ∧ quiescent_FfnSRefIdeal (hFfnSRefIdeal := hFfnSRefIdeal)
    ∧ quiescent_Merge (hMerge := hMerge)
    ∧ quiescent_MergeIdeal (hMergeIdeal := hMergeIdeal)
    ∧ quiescent_MergeRefIdeal (hMergeRefIdeal := hMergeRefIdeal)
    ∧ preserves_AttnSample_AttnSampleIdeal
    ∧ algebraic_AttnSampleIdeal_AttnSampleRefIdeal_pre_finite (hAttnSampleIdeal := hAttnSampleIdeal) (hAttnSampleRefIdeal := hAttnSampleRefIdeal) (hPre_finite := hPre_finite)
    ∧ preserves_Ffn_FfnIdeal
    ∧ algebraic_FfnIdeal_FfnRefIdeal (hFfnIdeal := hFfnIdeal) (hFfnRefIdeal := hFfnRefIdeal)
    ∧ preserves_MemKv_MemKvIdeal
    ∧ algebraic_MemKvIdeal_MemKvRefIdeal (hMemKvIdeal := hMemKvIdeal) (hMemKvRefIdeal := hMemKvRefIdeal)
    ∧ preserves_InProj_InProjIdeal
    ∧ algebraic_InProjIdeal_InProjRefIdeal (hInProjIdeal := hInProjIdeal) (hInProjRefIdeal := hInProjRefIdeal)
    ∧ preserves_InProjS_InProjSIdeal
    ∧ algebraic_InProjSIdeal_InProjSRefIdeal (hInProjSIdeal := hInProjSIdeal) (hInProjSRefIdeal := hInProjSRefIdeal)
    ∧ preserves_FfnS_FfnSIdeal
    ∧ algebraic_FfnSIdeal_FfnSRefIdeal (hFfnSIdeal := hFfnSIdeal) (hFfnSRefIdeal := hFfnSRefIdeal)
    ∧ preserves_Merge_MergeIdeal
    ∧ algebraic_MergeIdeal_MergeRefIdeal (hMergeIdeal := hMergeIdeal) (hMergeRefIdeal := hMergeRefIdeal)
-- ==== Pre_finite.lean ====
abbrev S32x1536 : Shape := ⟨2, ![32, 1536]⟩
abbrev S32x512 : Shape := ⟨2, ![32, 512]⟩
abbrev S1x32x2048x4x128 : Shape := ⟨5, ![1, 32, 2048, 4, 128]⟩
abbrev S1x32x256x4x128 : Shape := ⟨5, ![1, 32, 256, 4, 128]⟩
abbrev S_ : Shape := ⟨0, ![]⟩

class Facts : Prop where
  bcast_S_S32x1536 : S_.BroadcastsInDim S32x1536 (![] : Fin 0 → Fin S32x1536.rank)
  reducesTo_S32x1536_S_d0_1 : S32x1536.ReducesTo [0, 1] S_
  h_S_ : 0 < S_.numel
  bcast_S_S32x512 : S_.BroadcastsInDim S32x512 (![] : Fin 0 → Fin S32x512.rank)
  reducesTo_S32x512_S_d0_1 : S32x512.ReducesTo [0, 1] S_
  bcast_S_S1x32x2048x4x128 : S_.BroadcastsInDim S1x32x2048x4x128 (![] : Fin 0 → Fin S1x32x2048x4x128.rank)
  reducesTo_S1x32x2048x4x128_S_d0_1_2_3_4 : S1x32x2048x4x128.ReducesTo [0, 1, 2, 3, 4] S_
  bcast_S_S1x32x256x4x128 : S_.BroadcastsInDim S1x32x256x4x128 (![] : Fin 0 → Fin S1x32x256x4x128.rank)
  reducesTo_S1x32x256x4x128_S_d0_1_2_3_4 : S1x32x256x4x128.ReducesTo [0, 1, 2, 3, 4] S_

variable [Facts]

def fn_part1 {F : FTy → Type} [FloatOps F] (main_arg6 : FVec F S1x32x256x4x128 .f32) (main_v3 : IVec S_ 1) (main_v7 : IVec S_ 1) (main_v11 : IVec S_ 1) (main_v15 : IVec S_ 1) : IVec S_ 1 :=
  let main_v16 : FVec F S1x32x256x4x128 .f32 := Host.absf main_arg6
  let main_cst_6 : FVec F S_ .f32 := constant S_ .f32 0x7F800000#32
  let main_v17 : FVec F S1x32x256x4x128 .f32 := broadcastInDim S1x32x256x4x128 ![] bcast_S_S1x32x256x4x128 main_cst_6
  let main_v18 : IVec S1x32x256x4x128 1 := cmpf .olt main_v16 main_v17
  let main_c_7 : IVec S_ 1 := constantI S_ 1 1#1
  let main_v19 : IVec S_ 1 := (fun x v => Host.reduce IntOp.andi x v reducesTo_S1x32x256x4x128_S_d0_1_2_3_4 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S32x1536 .f32) (main_arg1 : FVec F S32x512 .f32) (main_arg2 : FVec F S32x512 .f32) (main_arg3 : FVec F S32x512 .f32) (main_arg4 : FVec F S1x32x2048x4x128 .f32) (main_arg5 : FVec F S1x32x2048x4x128 .f32) (main_arg6 : FVec F S1x32x256x4x128 .f32) (main_arg7 : FVec F S1x32x256x4x128 .f32) : IVec S_ 1 :=
  let main_v0 : FVec F S32x1536 .f32 := Host.absf main_arg0
  let main_cst : FVec F S_ .f32 := constant S_ .f32 0x7F800000#32
  let main_v1 : FVec F S32x1536 .f32 := broadcastInDim S32x1536 ![] bcast_S_S32x1536 main_cst
  let main_v2 : IVec S32x1536 1 := cmpf .olt main_v0 main_v1
  let main_c : IVec S_ 1 := constantI S_ 1 1#1
  let main_v3 : IVec S_ 1 := (fun x v => Host.reduce IntOp.andi x v reducesTo_S32x1536_S_d0_1 h_S_) main_v2 main_c
  let main_v4 : FVec F S32x512 .f32 := Host.absf main_arg1
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : FVec F S32x512 .f32 := Host.absf main_arg3
  let main_cst_2 : FVec F S_ .f32 := constant S_ .f32 0x7F800000#32
  let main_v9 : FVec F S32x512 .f32 := broadcastInDim S32x512 ![] bcast_S_S32x512 main_cst_2
  let main_v10 : IVec S32x512 1 := cmpf .olt main_v8 main_v9
  let main_c_3 : IVec S_ 1 := constantI S_ 1 1#1
  let main_v11 : IVec S_ 1 := (fun x v => Host.reduce IntOp.andi x v reducesTo_S32x512_S_d0_1 h_S_) main_v10 main_c_3
  let main_v12 : FVec F S1x32x2048x4x128 .f32 := Host.absf main_arg4
  let main_cst_4 : FVec F S_ .f32 := constant S_ .f32 0x7F800000#32
  let main_v13 : FVec F S1x32x2048x4x128 .f32 := broadcastInDim S1x32x2048x4x128 ![] bcast_S_S1x32x2048x4x128 main_cst_4
  let main_v14 : IVec S1x32x2048x4x128 1 := cmpf .olt main_v12 main_v13
  let main_c_5 : IVec S_ 1 := constantI S_ 1 1#1
  let main_v15 : IVec S_ 1 := (fun x v => Host.reduce IntOp.andi x v reducesTo_S1x32x2048x4x128_S_d0_1_2_3_4 h_S_) main_v14 main_c_5
  fn_part1 (F := F) main_arg6 main_v3 main_v7 main_v11 main_v15
-- ==== AttnSample.lean ====
abbrev S32x1536 : Shape := ⟨2, ![32, 1536]⟩
abbrev S32x512 : Shape := ⟨2, ![32, 512]⟩
abbrev S1x32x2048x4x128 : Shape := ⟨5, ![1, 32, 2048, 4, 128]⟩
abbrev S1x32x256x4x128 : Shape := ⟨5, ![1, 32, 256, 4, 128]⟩
abbrev S12 : Shape := ⟨1, ![12]⟩
abbrev S_ : Shape := ⟨0, ![]⟩
abbrev S3x4 : Shape := ⟨2, ![3, 4]⟩
abbrev S32x2048x4x128 : Shape := ⟨4, ![32, 2048, 4, 128]⟩
abbrev S32x2048x512 : Shape := ⟨3, ![32, 2048, 512]⟩
abbrev S32x256x4x128 : Shape := ⟨4, ![32, 256, 4, 128]⟩
abbrev S32x256x512 : Shape := ⟨3, ![32, 256, 512]⟩
abbrev S32x512x2048 : Shape := ⟨3, ![32, 512, 2048]⟩
abbrev S32x128x8192 : Shape := ⟨3, ![32, 128, 8192]⟩
abbrev S32x1x1536 : Shape := ⟨3, ![32, 1, 1536]⟩
abbrev S32x1x512 : Shape := ⟨3, ![32, 1, 512]⟩
abbrev S4x1x1536 : Shape := ⟨3, ![4, 1, 1536]⟩
abbrev S4x1x512 : Shape := ⟨3, ![4, 1, 512]⟩
abbrev S4x128x512 : Shape := ⟨3, ![4, 128, 512]⟩
abbrev S4x256x512 : Shape := ⟨3, ![4, 256, 512]⟩
abbrev S128x1 : Shape := ⟨2, ![128, 1]⟩
abbrev S1x1x128 : Shape := ⟨3, ![1, 1, 128]⟩
abbrev S1x128 : Shape := ⟨2, ![1, 128]⟩
abbrev S1x128x128 : Shape := ⟨3, ![1, 128, 128]⟩
abbrev S128x128 : Shape := ⟨2, ![128, 128]⟩
abbrev S128 : Shape := ⟨1, ![128]⟩
abbrev S1x1 : Shape := ⟨2, ![1, 1]⟩
abbrev S1 : Shape := ⟨1, ![1]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩

abbrev nBuf : Space → Nat
  | .hbm => 41
  | .vmem => 28
  | .smem => 1
  | _ => 0

abbrev bufTy : (tb : Table) → Fin (tcTables nBuf tb) → BufTy
  | .hbm, ⟨0, _⟩ => ⟨S32x1536, .f32⟩
  | .hbm, ⟨1, _⟩ => ⟨S32x512, .f32⟩
  | .hbm, ⟨2, _⟩ => ⟨S32x512, .f32⟩
  | .hbm, ⟨3, _⟩ => ⟨S32x512, .f32⟩
  | .hbm, ⟨4, _⟩ => ⟨S1x32x2048x4x128, .f32⟩
  | .hbm, ⟨5, _⟩ => ⟨S1x32x2048x4x128, .f32⟩
  | .hbm, ⟨6, _⟩ => ⟨S1x32x256x4x128, .f32⟩
  | .hbm, ⟨7, _⟩ => ⟨S1x32x256x4x128, .f32⟩
  | .hbm, ⟨8, _⟩ => ⟨S12, .f32⟩
  | .hbm, ⟨9, _⟩ => ⟨S_, .f32⟩
  | .hbm, ⟨10, _⟩ => ⟨S12, .f32⟩
  | .hbm, ⟨11, _⟩ => ⟨S12, .f32⟩
  | .hbm, ⟨12, _⟩ => ⟨S_, .f32⟩
  | .hbm, ⟨13, _⟩ => ⟨S12, .f32⟩
  | .hbm, ⟨14, _⟩ => ⟨S12, .f32⟩
  | .hbm, ⟨15, _⟩ => ⟨S_, .f32⟩
  | .hbm, ⟨16, _⟩ => ⟨S12, .f32⟩
  | .hbm, ⟨17, _⟩ => ⟨S12, .f32⟩
  | .hbm, ⟨18, _⟩ => ⟨S_, .f32⟩
  | .hbm, ⟨19, _⟩ => ⟨S12, .f32⟩
  | .hbm, ⟨20, _⟩ => ⟨S12, .f32⟩
  | .hbm, ⟨21, _⟩ => ⟨S12, .f32⟩
  | .hbm, ⟨22, _⟩ => ⟨S3x4, .f32⟩
  | .hbm, ⟨23, _⟩ => ⟨S32x2048x4x128, .f32⟩
  | .hbm, ⟨24, _⟩ => ⟨S32x2048x512, .f32⟩
  | .hbm, ⟨25, _⟩ => ⟨S32x2048x4x128, .f32⟩
  | .hbm, ⟨26, _⟩ => ⟨S32x2048x512, .f32⟩
  | .hbm, ⟨27, _⟩ => ⟨S32x256x4x128, .f32⟩
  | .hbm, ⟨28, _⟩ => ⟨S32x256x512, .f32⟩
  | .hbm, ⟨29, _⟩ => ⟨S32x256x4x128, .f32⟩
  | .hbm, ⟨30, _⟩ => ⟨S32x256x512, .f32⟩
  | .hbm, ⟨31, _⟩ => ⟨S32x512x2048, .f32⟩
  | .hbm, ⟨32, _⟩ => ⟨S32x512x2048, .f32⟩
  | .hbm, ⟨33, _⟩ => ⟨S32x128x8192, .f32⟩
  | .hbm, ⟨34, _⟩ => ⟨S32x128x8192, .f32⟩
  | .hbm, ⟨35, _⟩ => ⟨S32x1x1536, .f32⟩
  | .hbm, ⟨36, _⟩ => ⟨S32x1x512, .f32⟩
  | .hbm, ⟨37, _⟩ => ⟨S32x1x512, .f32⟩
  | .hbm, ⟨38, _⟩ => ⟨S32x1x512, .f32⟩
  | .hbm, ⟨39, _⟩ => ⟨S32x1x512, .f32⟩
  | .hbm, ⟨40, _⟩ => ⟨S32x1x512, .f32⟩
  | .local _ .vmem, ⟨0, _⟩ => ⟨S4x1x1536, .f32⟩
  | .local _ .vmem, ⟨1, _⟩ => ⟨S4x1x1536, .f32⟩
  | .local _ .vmem, ⟨2, _⟩ => ⟨S4x1x512, .f32⟩
  | .local _ .vmem, ⟨3, _⟩ => ⟨S4x1x512, .f32⟩
  | .local _ .vmem, ⟨4, _⟩ => ⟨S4x1x512, .f32⟩
  | .local _ .vmem, ⟨5, _⟩ => ⟨S4x1x512, .f32⟩
  | .local _ .vmem, ⟨6, _⟩ => ⟨S4x1x512, .f32⟩
  | .local _ .vmem, ⟨7, _⟩ => ⟨S4x1x512, .f32⟩
  | .local _ .vmem, ⟨8, _⟩ => ⟨S4x128x512, .f32⟩
  | .local _ .vmem, ⟨9, _⟩ => ⟨S4x128x512, .f32⟩
  | .local _ .vmem, ⟨10, _⟩ => ⟨S4x128x512, .f32⟩
  | .local _ .vmem, ⟨11, _⟩ => ⟨S4x128x512, .f32⟩
  | .local _ .vmem, ⟨12, _⟩ => ⟨S4x128x512, .f32⟩
  | .local _ .vmem, ⟨13, _⟩ => ⟨S4x128x512, .f32⟩
  | .local _ .vmem, ⟨14, _⟩ => ⟨S4x128x512, .f32⟩
  | .local _ .vmem, ⟨15, _⟩ => ⟨S4x128x512, .f32⟩
  | .local _ .vmem, ⟨16, _⟩ => ⟨S4x128x512, .f32⟩
  | .local _ .vmem, ⟨17, _⟩ => ⟨S4x128x512, .f32⟩
  | .local _ .vmem, ⟨18, _⟩ => ⟨S4x128x512, .f32⟩
  | .local _ .vmem, ⟨19, _⟩ => ⟨S4x128x512, .f32⟩
  | .local _ .vmem, ⟨20, _⟩ => ⟨S4x256x512, .f32⟩
  | .local _ .vmem, ⟨21, _⟩ => ⟨S4x256x512, .f32⟩
  | .local _ .vmem, ⟨22, _⟩ => ⟨S4x256x512, .f32⟩
  | .local _ .vmem, ⟨23, _⟩ => ⟨S4x256x512, .f32⟩
  | .local _ .vmem, ⟨24, _⟩ => ⟨S4x1x512, .f32⟩
  | .local _ .vmem, ⟨25, _⟩ => ⟨S4x1x512, .f32⟩
  | .local _ .vmem, ⟨26, _⟩ => ⟨S4x1x512, .f32⟩
  | .local _ .vmem, ⟨27, _⟩ => ⟨S4x1x512, .f32⟩
  | .local _ .smem, ⟨0, _⟩ => ⟨S3x4, .f32⟩
  | _, _ => ⟨S32x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .smem, ⟨0, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27_0 : Ref sig .tc := ⟨.hbm, 39, rfl⟩
abbrev main_v27_1 : Ref sig .tc := ⟨.hbm, 40, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c4_i32 : BitVec 32 := 4#32
  let v4 : BitVec 32 := Scalar.addi c0_i32 c4_i32
  let c1_i32 : BitVec 32 := 1#32
  ⟨c0_i32, v4, c1_i32⟩
def k0_off1 (k0_t1 : Fin k0_t1_loop.trips) : Fin 3 → Nat :=
  let c0_i32 : BitVec 32 := 0#32
  let c1_i32 : BitVec 32 := 1#32
  let arg16 : BitVec 32 := Scf.iv c0_i32 c1_i32 k0_t1
  let v5 : Index := Scalar.indexCast arg16
  let c0 : Index := 0#32
  let c0_1 : Index := 0#32
  ![v5.toNat, 0, 0]
def k0_off2 (k0_t1 : Fin k0_t1_loop.trips) : Fin 3 → Nat :=
  let c0_i32 : BitVec 32 := 0#32
  let c1_i32 : BitVec 32 := 1#32
  let arg16 : BitVec 32 := Scf.iv c0_i32 c1_i32 k0_t1
  let v11 : Index := Scalar.indexCast arg16
  let c0_4 : Index := 0#32
  let c0_5 : Index := 0#32
  ![v11.toNat, 0, 0]
def k0_off3 (k0_t1 : Fin k0_t1_loop.trips) : Fin 3 → Nat :=
  let c0_i32 : BitVec 32 := 0#32
  let c1_i32 : BitVec 32 := 1#32
  let arg16 : BitVec 32 := Scf.iv c0_i32 c1_i32 k0_t1
  let v14 : Index := Scalar.indexCast arg16
  let c0_6 : Index := 0#32
  let c0_7 : Index := 0#32
  ![v14.toNat, 0, 0]
def k0_off4 (k0_t1 : Fin k0_t1_loop.trips) : Fin 3 → Nat :=
  let c0_i32 : BitVec 32 := 0#32
  let c1_i32 : BitVec 32 := 1#32
  let arg16 : BitVec 32 := Scf.iv c0_i32 c1_i32 k0_t1
  let v34 : Index := Scalar.indexCast arg16
  let c0_14 : Index := 0#32
  let c512 : Index := 512#32
  ![v34.toNat, 0, 512]
def k0_off5 (k0_t1 : Fin k0_t1_loop.trips) : Fin 3 → Nat :=
  let c0_i32 : BitVec 32 := 0#32
  let c1_i32 : BitVec 32 := 1#32
  let arg16 : BitVec 32 := Scf.iv c0_i32 c1_i32 k0_t1
  let v57 : Index := Scalar.indexCast arg16
  let c0_23 : Index := 0#32
  let c1024 : Index := 1024#32
  ![v57.toNat, 0, 1024]
def k0_off6 (k0_t1 : Fin k0_t1_loop.trips) : Fin 3 → Nat :=
  let c0_i32 : BitVec 32 := 0#32
  let c1_i32 : BitVec 32 := 1#32
  let arg16 : BitVec 32 := Scf.iv c0_i32 c1_i32 k0_t1
  let v163 : Index := Scalar.indexCast arg16
  let c0_53 : Index := 0#32
  let c0_54 : Index := 0#32
  ![v163.toNat, 0, 0]
def k0_off7 (k0_t1 : Fin k0_t1_loop.trips) : Fin 3 → Nat :=
  let c0_i32 : BitVec 32 := 0#32
  let c1_i32 : BitVec 32 := 1#32
  let arg16 : BitVec 32 := Scf.iv c0_i32 c1_i32 k0_t1
  let v192 : Index := Scalar.indexCast arg16
  let c0_64 : Index := 0#32
  let c128 : Index := 128#32
  ![v192.toNat, 0, 128]
def k0_off8 (k0_t1 : Fin k0_t1_loop.trips) : Fin 3 → Nat :=
  let c0_i32 : BitVec 32 := 0#32
  let c1_i32 : BitVec 32 := 1#32
  let arg16 : BitVec 32 := Scf.iv c0_i32 c1_i32 k0_t1
  let v198 : Index := Scalar.indexCast arg16
  let c0_67 : Index := 0#32
  let c128_68 : Index := 128#32
  ![v198.toNat, 0, 128]
def k0_off9 (k0_t1 : Fin k0_t1_loop.trips) : Fin 3 → Nat :=
  let c0_i32 : BitVec 32 := 0#32
  let c1_i32 : BitVec 32 := 1#32
  let arg16 : BitVec 32 := Scf.iv c0_i32 c1_i32 k0_t1
  let v201 : Index := Scalar.indexCast arg16
  let c0_69 : Index := 0#32
  let c128_70 : Index := 128#32
  ![v201.toNat, 0, 128]
def k0_off10 (k0_t1 : Fin k0_t1_loop.trips) : Fin 3 → Nat :=
  let c0_i32 : BitVec 32 := 0#32
  let c1_i32 : BitVec 32 := 1#32
  let arg16 : BitVec 32 := Scf.iv c0_i32 c1_i32 k0_t1
  let v221 : Index := Scalar.indexCast arg16
  let c0_78 : Index := 0#32
  let c640 : Index := 640#32
  ![v221.toNat, 0, 640]
def k0_off11 (k0_t1 : Fin k0_t1_loop.trips) : Fin 3 → Nat :=
  let c0_i32 : BitVec 32 := 0#32
  let c1_i32 : BitVec 32 := 1#32
  let arg16 : BitVec 32 := Scf.iv c0_i32 c1_i32 k0_t1
  let v244 : Index := Scalar.indexCast arg16
  let c0_88 : Index := 0#32
  let c1152 : Index := 1152#32
  ![v244.toNat, 0, 1152]
def k0_off12 (k0_t1 : Fin k0_t1_loop.trips) : Fin 3 → Nat :=
  let c0_i32 : BitVec 32 := 0#32
  let c1_i32 : BitVec 32 := 1#32
  let arg16 : BitVec 32 := Scf.iv c0_i32 c1_i32 k0_t1
  let v350 : Index := Scalar.indexCast arg16
  let c0_119 : Index := 0#32
  let c128_120 : Index := 128#32
  ![v350.toNat, 0, 128]
def k0_off13 (k0_t1 : Fin k0_t1_loop.trips) : Fin 3 → Nat :=
  let c0_i32 : BitVec 32 := 0#32
  let c1_i32 : BitVec 32 := 1#32
  let arg16 : BitVec 32 := Scf.iv c0_i32 c1_i32 k0_t1
  let v379 : Index := Scalar.indexCast arg16
  let c0_130 : Index := 0#32
  let c256 : Index := 256#32
  ![v379.toNat, 0, 256]
def k0_off14 (k0_t1 : Fin k0_t1_loop.trips) : Fin 3 → Nat :=
  let c0_i32 : BitVec 32 := 0#32
  let c1_i32 : BitVec 32 := 1#32
  let arg16 : BitVec 32 := Scf.iv c0_i32 c1_i32 k0_t1
  let v385 : Index := Scalar.indexCast arg16
  let c0_133 : Index := 0#32
  let c256_134 : Index := 256#32
  ![v385.toNat, 0, 256]
def k0_off15 (k0_t1 : Fin k0_t1_loop.trips) : Fin 3 → Nat :=
  let c0_i32 : BitVec 32 := 0#32
  let c1_i32 : BitVec 32 := 1#32
  let arg16 : BitVec 32 := Scf.iv c0_i32 c1_i32 k0_t1
  let v388 : Index := Scalar.indexCast arg16
  let c0_135 : Index := 0#32
  let c256_136 : Index := 256#32
  ![v388.toNat, 0, 256]
def k0_off16 (k0_t1 : Fin k0_t1_loop.trips) : Fin 3 → Nat :=
  let c0_i32 : BitVec 32 := 0#32
  let c1_i32 : BitVec 32 := 1#32
  let arg16 : BitVec 32 := Scf.iv c0_i32 c1_i32 k0_t1
  let v408 : Index := Scalar.indexCast arg16
  let c0_144 : Index := 0#32
  let c768 : Index := 768#32
  ![v408.toNat, 0, 768]
def k0_off17 (k0_t1 : Fin k0_t1_loop.trips) : Fin 3 → Nat :=
  let c0_i32 : BitVec 32 := 0#32
  let c1_i32 : BitVec 32 := 1#32
  let arg16 : BitVec 32 := Scf.iv c0_i32 c1_i32 k0_t1
  let v431 : Index := Scalar.indexCast arg16
  let c0_154 : Index := 0#32
  let c1280 : Index := 1280#32
  ![v431.toNat, 0, 1280]
def k0_off18 (k0_t1 : Fin k0_t1_loop.trips) : Fin 3 → Nat :=
  let c0_i32 : BitVec 32 := 0#32
  let c1_i32 : BitVec 32 := 1#32
  let arg16 : BitVec 32 := Scf.iv c0_i32 c1_i32 k0_t1
  let v537 : Index := Scalar.indexCast arg16
  let c0_185 : Index := 0#32
  let c256_186 : Index := 256#32
  ![v537.toNat, 0, 256]
def k0_off19 (k0_t1 : Fin k0_t1_loop.trips) : Fin 3 → Nat :=
  let c0_i32 : BitVec 32 := 0#32
  let c1_i32 : BitVec 32 := 1#32
  let arg16 : BitVec 32 := Scf.iv c0_i32 c1_i32 k0_t1
  let v566 : Index := Scalar.indexCast arg16
  let c0_196 : Index := 0#32
  let c384 : Index := 384#32
  ![v566.toNat, 0, 384]
def k0_off20 (k0_t1 : Fin k0_t1_loop.trips) : Fin 3 → Nat :=
  let c0_i32 : BitVec 32 := 0#32
  let c1_i32 : BitVec 32 := 1#32
  let arg16 : BitVec 32 := Scf.iv c0_i32 c1_i32 k0_t1
  let v572 : Index := Scalar.indexCast arg16
  let c0_199 : Index := 0#32
  let c384_200 : Index := 384#32
  ![v572.toNat, 0, 384]
def k0_off21 (k0_t1 : Fin k0_t1_loop.trips) : Fin 3 → Nat :=
  let c0_i32 : BitVec 32 := 0#32
  let c1_i32 : BitVec 32 := 1#32
  let arg16 : BitVec 32 := Scf.iv c0_i32 c1_i32 k0_t1
  let v575 : Index := Scalar.indexCast arg16
  let c0_201 : Index := 0#32
  let c384_202 : Index := 384#32
  ![v575.toNat, 0, 384]
def k0_off22 (k0_t1 : Fin k0_t1_loop.trips) : Fin 3 → Nat :=
  let c0_i32 : BitVec 32 := 0#32
  let c1_i32 : BitVec 32 := 1#32
  let arg16 : BitVec 32 := Scf.iv c0_i32 c1_i32 k0_t1
  let v595 : Index := Scalar.indexCast arg16
  let c0_209 : Index := 0#32
  let c896 : Index := 896#32
  ![v595.toNat, 0, 896]
def k0_off23 (k0_t1 : Fin k0_t1_loop.trips) : Fin 3 → Nat :=
  let c0_i32 : BitVec 32 := 0#32
  let c1_i32 : BitVec 32 := 1#32
  let arg16 : BitVec 32 := Scf.iv c0_i32 c1_i32 k0_t1
  let v618 : Index := Scalar.indexCast arg16
  let c0_219 : Index := 0#32
  let c1408 : Index := 1408#32
  ![v618.toNat, 0, 1408]
def k0_off24 (k0_t1 : Fin k0_t1_loop.trips) : Fin 3 → Nat :=
  let c0_i32 : BitVec 32 := 0#32
  let c1_i32 : BitVec 32 := 1#32
  let arg16 : BitVec 32 := Scf.iv c0_i32 c1_i32 k0_t1
  let v724 : Index := Scalar.indexCast arg16
  let c0_250 : Index := 0#32
  let c384_251 : Index := 384#32
  ![v724.toNat, 0, 384]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c15_i32 : BitVec 32 := 15#32
  let c0_i32 : BitVec 32 := 0#32
  let c0_i32_0 : BitVec 32 := 0#32
  ![arg0.toNat, c15_i32.toNat, c0_i32.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![arg0.toNat, c3_i32.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c15_i32 : BitVec 32 := 15#32
  let c0_i32 : BitVec 32 := 0#32
  let c0_i32_0 : BitVec 32 := 0#32
  ![arg0.toNat, c15_i32.toNat, c0_i32.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![arg0.toNat, c3_i32.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S3x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4x1x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x1x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4x1x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== AttnSampleRefIdeal.lean ====
abbrev S32x1536 : Shape := ⟨2, ![32, 1536]⟩
abbrev S32x512 : Shape := ⟨2, ![32, 512]⟩
abbrev S1x32x2048x4x128 : Shape := ⟨5, ![1, 32, 2048, 4, 128]⟩
abbrev S1x32x256x4x128 : Shape := ⟨5, ![1, 32, 256, 4, 128]⟩
abbrev S12 : Shape := ⟨1, ![12]⟩
abbrev S_ : Shape := ⟨0, ![]⟩
abbrev S3x4 : Shape := ⟨2, ![3, 4]⟩
abbrev S32x1x3x4x128 : Shape := ⟨5, ![32, 1, 3, 4, 128]⟩
abbrev S32x1x4x128 : Shape := ⟨4, ![32, 1, 4, 128]⟩
abbrev S32x2048x4x128 : Shape := ⟨4, ![32, 2048, 4, 128]⟩
abbrev S32x2049x4x128 : Shape := ⟨4, ![32, 2049, 4, 128]⟩
abbrev S32x129x4x128 : Shape := ⟨4, ![32, 129, 4, 128]⟩
abbrev S129 : Shape := ⟨1, ![129]⟩
abbrev S32x1x1x4x128 : Shape := ⟨5, ![32, 1, 1, 4, 128]⟩
abbrev S32x4x129x1 : Shape := ⟨4, ![32, 4, 129, 1]⟩
abbrev S32x1x4x129 : Shape := ⟨4, ![32, 1, 4, 129]⟩
abbrev S1x4 : Shape := ⟨2, ![1, 4]⟩
abbrev S4 : Shape := ⟨1, ![4]⟩
abbrev S4x1 : Shape := ⟨2, ![4, 1]⟩
abbrev S1x129 : Shape := ⟨2, ![1, 129]⟩
abbrev S4x129 : Shape := ⟨2, ![4, 129]⟩
abbrev S1x1x4x129 : Shape := ⟨4, ![1, 1, 4, 129]⟩
abbrev S32x1x4 : Shape := ⟨3, ![32, 1, 4]⟩
abbrev S32x1x4x1 : Shape := ⟨4, ![32, 1, 4, 1]⟩
abbrev S32x4x128x1 : Shape := ⟨4, ![32, 4, 128, 1]⟩
abbrev S1x32x1x4 : Shape := ⟨4, ![1, 32, 1, 4]⟩
abbrev S3x32x1x4 : Shape := ⟨4, ![3, 32, 1, 4]⟩
abbrev S3x32x1x4x1 : Shape := ⟨5, ![3, 32, 1, 4, 1]⟩
abbrev S1x32x1x4x128 : Shape := ⟨5, ![1, 32, 1, 4, 128]⟩
abbrev S3x32x1x4x128 : Shape := ⟨5, ![3, 32, 1, 4, 128]⟩
abbrev S32x256x4x128 : Shape := ⟨4, ![32, 256, 4, 128]⟩
abbrev S32x4x1x256 : Shape := ⟨4, ![32, 4, 1, 256]⟩
abbrev S32x4x1 : Shape := ⟨3, ![32, 4, 1]⟩
abbrev S32x4x1x1 : Shape := ⟨4, ![32, 4, 1, 1]⟩
abbrev S32x1x512 : Shape := ⟨3, ![32, 1, 512]⟩

abbrev nBuf : Space → Nat
  | .hbm => 208
  | .vmem => 0
  | .smem => 0
  | _ => 0

abbrev hbmTy0_0 (i : Nat) : BufTy := match i % 128 with
  | 0 => ⟨S32x1536, .f32⟩
  | 1 => ⟨S32x512, .f32⟩
  | 2 => ⟨S32x512, .f32⟩
  | 3 => ⟨S32x512, .f32⟩
  | 4 => ⟨S1x32x2048x4x128, .f32⟩
  | 5 => ⟨S1x32x2048x4x128, .f32⟩
  | 6 => ⟨S1x32x256x4x128, .f32⟩
  | 7 => ⟨S1x32x256x4x128, .f32⟩
  | 8 => ⟨S12, .f32⟩
  | 9 => ⟨S_, .f32⟩
  | 10 => ⟨S12, .f32⟩
  | 11 => ⟨S12, .f32⟩
  | 12 => ⟨S_, .f32⟩
  | 13 => ⟨S12, .f32⟩
  | 14 => ⟨S12, .f32⟩
  | 15 => ⟨S_, .f32⟩
  | 16 => ⟨S12, .f32⟩
  | 17 => ⟨S12, .f32⟩
  | 18 => ⟨S_, .f32⟩
  | 19 => ⟨S12, .f32⟩
  | 20 => ⟨S12, .f32⟩
  | 21 => ⟨S12, .f32⟩
  | 22 => ⟨S3x4, .f32⟩
  | 23 => ⟨S32x1x3x4x128, .f32⟩
  | 24 => ⟨S32x1x4x128, .f32⟩
  | 25 => ⟨S32x1x4x128, .f32⟩
  | 26 => ⟨S32x2048x4x128, .f32⟩
  | 27 => ⟨S32x2048x4x128, .f32⟩
  | 28 => ⟨S32x2049x4x128, .f32⟩
  | 29 => ⟨S32x2049x4x128, .f32⟩
  | 30 => ⟨S32x129x4x128, .f32⟩
  | 31 => ⟨S32x129x4x128, .f32⟩
  | 32 => ⟨S129, .i32⟩
  | 33 => ⟨S_, .i32⟩
  | 34 => ⟨S129, .i32⟩
  | 35 => ⟨S129, .i32⟩
  | 36 => ⟨S_, .i32⟩
  | 37 => ⟨S129, .i32⟩
  | 38 => ⟨S129, .i32⟩
  | 39 => ⟨S129, .f32⟩
  | 40 => ⟨S32x1x1x4x128, .f32⟩
  | 41 => ⟨S32x1x4x128, .f32⟩
  | 42 => ⟨S32x4x129x1, .f32⟩
  | 43 => ⟨S32x1x4x129, .f32⟩
  | 44 => ⟨S_, .f32⟩
  | 45 => ⟨S32x1x4x129, .f32⟩
  | 46 => ⟨S32x1x4x129, .f32⟩
  | 47 => ⟨S1x4, .f32⟩
  | 48 => ⟨S4, .f32⟩
  | 49 => ⟨S4x1, .f32⟩
  | 50 => ⟨S1x129, .f32⟩
  | 51 => ⟨S4x129, .f32⟩
  | 52 => ⟨S4x129, .f32⟩
  | 53 => ⟨S4x129, .f32⟩
  | 54 => ⟨S1x1x4x129, .f32⟩
  | 55 => ⟨S32x1x4x129, .f32⟩
  | 56 => ⟨S32x1x4x129, .f32⟩
  | 57 => ⟨S_, .f32⟩
  | 58 => ⟨S32x1x4, .f32⟩
  | 59 => ⟨S32x1x4x1, .f32⟩
  | 60 => ⟨S32x1x4, .f32⟩
  | 61 => ⟨S32x1x4x129, .f32⟩
  | 62 => ⟨S32x1x4x129, .f32⟩
  | 63 => ⟨S32x1x4x129, .f32⟩
  | 64 => ⟨S_, .f32⟩
  | 65 => ⟨S32x1x4, .f32⟩
  | 66 => ⟨S32x1x4, .f32⟩
  | 67 => ⟨S32x1x4, .f32⟩
  | 68 => ⟨S32x1x4x1, .f32⟩
  | 69 => ⟨S32x1x4x129, .f32⟩
  | 70 => ⟨S32x1x4x129, .f32⟩
  | 71 => ⟨S32x1x4x129, .f32⟩
  | 72 => ⟨S32x4x128x1, .f32⟩
  | 73 => ⟨S32x1x4x128, .f32⟩
  | 74 => ⟨S32x129x4x128, .f32⟩
  | 75 => ⟨S32x129x4x128, .f32⟩
  | 76 => ⟨S129, .i32⟩
  | 77 => ⟨S_, .i32⟩
  | 78 => ⟨S129, .i32⟩
  | 79 => ⟨S129, .i32⟩
  | 80 => ⟨S_, .i32⟩
  | 81 => ⟨S129, .i32⟩
  | 82 => ⟨S129, .i32⟩
  | 83 => ⟨S129, .f32⟩
  | 84 => ⟨S32x1x1x4x128, .f32⟩
  | 85 => ⟨S32x1x4x128, .f32⟩
  | 86 => ⟨S32x4x129x1, .f32⟩
  | 87 => ⟨S32x1x4x129, .f32⟩
  | 88 => ⟨S_, .f32⟩
  | 89 => ⟨S32x1x4x129, .f32⟩
  | 90 => ⟨S32x1x4x129, .f32⟩
  | 91 => ⟨S1x4, .f32⟩
  | 92 => ⟨S4, .f32⟩
  | 93 => ⟨S4x1, .f32⟩
  | 94 => ⟨S1x129, .f32⟩
  | 95 => ⟨S4x129, .f32⟩
  | 96 => ⟨S4x129, .f32⟩
  | 97 => ⟨S4x129, .f32⟩
  | 98 => ⟨S1x1x4x129, .f32⟩
  | 99 => ⟨S32x1x4x129, .f32⟩
  | 100 => ⟨S32x1x4x129, .f32⟩
  | 101 => ⟨S_, .f32⟩
  | 102 => ⟨S32x1x4, .f32⟩
  | 103 => ⟨S32x1x4x1, .f32⟩
  | 104 => ⟨S32x1x4, .f32⟩
  | 105 => ⟨S32x1x4x129, .f32⟩
  | 106 => ⟨S32x1x4x129, .f32⟩
  | 107 => ⟨S32x1x4x129, .f32⟩
  | 108 => ⟨S_, .f32⟩
  | 109 => ⟨S32x1x4, .f32⟩
  | 110 => ⟨S32x1x4, .f32⟩
  | 111 => ⟨S32x1x4, .f32⟩
  | 112 => ⟨S32x1x4x1, .f32⟩
  | 113 => ⟨S32x1x4x129, .f32⟩
  | 114 => ⟨S32x1x4x129, .f32⟩
  | 115 => ⟨S32x1x4x129, .f32⟩
  | 116 => ⟨S32x4x128x1, .f32⟩
  | 117 => ⟨S32x1x4x128, .f32⟩
  | 118 => ⟨S32x129x4x128, .f32⟩
  | 119 => ⟨S32x129x4x128, .f32⟩
  | 120 => ⟨S129, .i32⟩
  | 121 => ⟨S_, .i32⟩
  | 122 => ⟨S129, .i32⟩
  | 123 => ⟨S129, .i32⟩
  | 124 => ⟨S_, .i32⟩
  | 125 => ⟨S129, .i32⟩
  | 126 => ⟨S129, .i32⟩
  | 127 => ⟨S129, .f32⟩
  | _ => ⟨S32x1536, .f32⟩

abbrev hbmTy0_1 (i : Nat) : BufTy := match i % 128 with
  | 0 => ⟨S32x1x1x4x128, .f32⟩
  | 1 => ⟨S32x1x4x128, .f32⟩
  | 2 => ⟨S32x4x129x1, .f32⟩
  | 3 => ⟨S32x1x4x129, .f32⟩
  | 4 => ⟨S_, .f32⟩
  | 5 => ⟨S32x1x4x129, .f32⟩
  | 6 => ⟨S32x1x4x129, .f32⟩
  | 7 => ⟨S1x4, .f32⟩
  | 8 => ⟨S4, .f32⟩
  | 9 => ⟨S4x1, .f32⟩
  | 10 => ⟨S1x129, .f32⟩
  | 11 => ⟨S4x129, .f32⟩
  | 12 => ⟨S4x129, .f32⟩
  | 13 => ⟨S4x129, .f32⟩
  | 14 => ⟨S1x1x4x129, .f32⟩
  | 15 => ⟨S32x1x4x129, .f32⟩
  | 16 => ⟨S32x1x4x129, .f32⟩
  | 17 => ⟨S_, .f32⟩
  | 18 => ⟨S32x1x4, .f32⟩
  | 19 => ⟨S32x1x4x1, .f32⟩
  | 20 => ⟨S32x1x4, .f32⟩
  | 21 => ⟨S32x1x4x129, .f32⟩
  | 22 => ⟨S32x1x4x129, .f32⟩
  | 23 => ⟨S32x1x4x129, .f32⟩
  | 24 => ⟨S_, .f32⟩
  | 25 => ⟨S32x1x4, .f32⟩
  | 26 => ⟨S32x1x4, .f32⟩
  | 27 => ⟨S32x1x4, .f32⟩
  | 28 => ⟨S32x1x4x1, .f32⟩
  | 29 => ⟨S32x1x4x129, .f32⟩
  | 30 => ⟨S32x1x4x129, .f32⟩
  | 31 => ⟨S32x1x4x129, .f32⟩
  | 32 => ⟨S32x4x128x1, .f32⟩
  | 33 => ⟨S32x1x4x128, .f32⟩
  | 34 => ⟨S1x32x1x4, .f32⟩
  | 35 => ⟨S1x32x1x4, .f32⟩
  | 36 => ⟨S1x32x1x4, .f32⟩
  | 37 => ⟨S3x32x1x4, .f32⟩
  | 38 => ⟨S_, .f32⟩
  | 39 => ⟨S32x1x4, .f32⟩
  | 40 => ⟨S1x32x1x4, .f32⟩
  | 41 => ⟨S3x32x1x4, .f32⟩
  | 42 => ⟨S3x32x1x4, .f32⟩
  | 43 => ⟨S3x32x1x4, .f32⟩
  | 44 => ⟨S_, .f32⟩
  | 45 => ⟨S32x1x4, .f32⟩
  | 46 => ⟨S1x32x1x4, .f32⟩
  | 47 => ⟨S3x32x1x4, .f32⟩
  | 48 => ⟨S3x32x1x4, .f32⟩
  | 49 => ⟨S3x32x1x4x1, .f32⟩
  | 50 => ⟨S1x32x1x4x128, .f32⟩
  | 51 => ⟨S1x32x1x4x128, .f32⟩
  | 52 => ⟨S1x32x1x4x128, .f32⟩
  | 53 => ⟨S3x32x1x4x128, .f32⟩
  | 54 => ⟨S3x32x1x4x128, .f32⟩
  | 55 => ⟨S3x32x1x4x128, .f32⟩
  | 56 => ⟨S_, .f32⟩
  | 57 => ⟨S32x1x4x128, .f32⟩
  | 58 => ⟨S32x1x4x128, .f32⟩
  | 59 => ⟨S32x256x4x128, .f32⟩
  | 60 => ⟨S32x256x4x128, .f32⟩
  | 61 => ⟨S32x4x1x256, .f32⟩
  | 62 => ⟨S_, .f32⟩
  | 63 => ⟨S32x4x1x256, .f32⟩
  | 64 => ⟨S32x4x1x256, .f32⟩
  | 65 => ⟨S_, .f32⟩
  | 66 => ⟨S32x4x1, .f32⟩
  | 67 => ⟨S32x4x1x1, .f32⟩
  | 68 => ⟨S32x4x1x256, .f32⟩
  | 69 => ⟨S32x4x1x256, .f32⟩
  | 70 => ⟨S32x4x1x256, .f32⟩
  | 71 => ⟨S_, .f32⟩
  | 72 => ⟨S32x4x1, .f32⟩
  | 73 => ⟨S32x4x1x1, .f32⟩
  | 74 => ⟨S32x4x1x256, .f32⟩
  | 75 => ⟨S32x4x1x256, .f32⟩
  | 76 => ⟨S32x4x128x1, .f32⟩
  | 77 => ⟨S32x1x4x128, .f32⟩
  | 78 => ⟨S32x1x512, .f32⟩
  | 79 => ⟨S32x1x512, .f32⟩
  | _ => ⟨S32x1536, .f32⟩

abbrev hbmTy (i : Nat) : BufTy := match i / 128 with
  | 0 => hbmTy0_0 i
  | 1 => hbmTy0_1 i
  | _ => ⟨S32x1536, .f32⟩

abbrev bufTy : (tb : Table) → Fin (tcTables nBuf tb) → BufTy
  | .hbm, ⟨i, _⟩ => hbmTy i
  | _, _ => ⟨S32x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_5 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_6 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_c_7 : Ref sig .tc := ⟨.hbm, 77, rfl⟩
abbrev main_v60 : Ref sig .tc := ⟨.hbm, 78, rfl⟩
abbrev main_v61 : Ref sig .tc := ⟨.hbm, 79, rfl⟩
abbrev main_c_8 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_9 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_cst_10 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_cst_11 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_c_12 : Ref sig .tc := ⟨.hbm, 121, rfl⟩
abbrev main_v99 : Ref sig .tc := ⟨.hbm, 122, rfl⟩
abbrev main_v100 : Ref sig .tc := ⟨.hbm, 123, rfl⟩
abbrev main_c_13 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_cst_14 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_cst_15 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_cst_16 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_cst_17 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_cst_18 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_cst_19 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_cst_20 : Ref sig .tc := ⟨.hbm, 190, rfl⟩
abbrev main_v160 : Ref sig .tc := ⟨.hbm, 191, rfl⟩
abbrev main_v161 : Ref sig .tc := ⟨.hbm, 192, rfl⟩
abbrev main_cst_21 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_cst_22 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩

abbrev nD : Nat := 1
abbrev τ : Topo := Topo.v7x

variable {F : FTy → Type} [FloatOps F]
-- ==== Ffn.lean ====
abbrev S8192x2048 : Shape := ⟨2, ![8192, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048x5632 : Shape := ⟨2, ![2048, 5632]⟩
abbrev S5632x2048 : Shape := ⟨2, ![5632, 2048]⟩
abbrev S2048 : Shape := ⟨1, ![2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 17
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S1x2048, .f32⟩
  | .hbm, ⟨6, _⟩ => ⟨S2048x5632, .f32⟩
  | .hbm, ⟨7, _⟩ => ⟨S2048x5632, .bf16⟩
  | .hbm, ⟨8, _⟩ => ⟨S2048x5632, .f32⟩
  | .hbm, ⟨9, _⟩ => ⟨S2048x5632, .bf16⟩
  | .hbm, ⟨10, _⟩ => ⟨S5632x2048, .f32⟩
  | .hbm, ⟨11, _⟩ => ⟨S5632x2048, .bf16⟩
  | .hbm, ⟨12, _⟩ => ⟨S2048, .f32⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def k0_cond4 (i : grid0.Coords) : BitVec 1 :=
  let arg1 : BitVec 32 := BitVec.ofNat 32 (i 1).val
  let c10_i32 : BitVec 32 := 10#32
  let v23 : BitVec 1 := Scalar.cmpi .eq arg1 c10_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S8192x2048 : Shape := ⟨2, ![8192, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x5632 : Shape := ⟨2, ![2048, 5632]⟩
abbrev S8192x5632 : Shape := ⟨2, ![8192, 5632]⟩
abbrev S5632x2048 : Shape := ⟨2, ![5632, 2048]⟩

abbrev nBuf : Space → Nat
  | .hbm => 57
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S1x2048, .f32⟩
  | .hbm, ⟨6, _⟩ => ⟨S2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S2048x5632, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S_, .f32⟩
  | .hbm, ⟨28, _⟩ => ⟨S8192x5632, .f32⟩
  | .hbm, ⟨29, _⟩ => ⟨S8192x5632, .f32⟩
  | .hbm, ⟨30, _⟩ => ⟨S_, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S2048x5632, .f32⟩
  | .hbm, ⟨35, _⟩ => ⟨S8192x5632, .f32⟩
  | .hbm, ⟨36, _⟩ => ⟨S8192x5632, .f32⟩
  | .hbm, ⟨37, _⟩ => ⟨S5632x2048, .f32⟩
  | .hbm, ⟨38, _⟩ => ⟨S8192x2048, .f32⟩
  | .hbm, ⟨39, _⟩ => ⟨S2048, .f32⟩
  | .hbm, ⟨40, _⟩ => ⟨S8192x2048, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S8192x2048, .f32⟩
  | .hbm, ⟨52, _⟩ => ⟨S8192x2048, .f32⟩
  | .hbm, ⟨53, _⟩ => ⟨S1x2048, .f32⟩
  | .hbm, ⟨54, _⟩ => ⟨S8192x2048, .f32⟩
  | .hbm, ⟨55, _⟩ => ⟨S8192x2048, .f32⟩
  | .hbm, ⟨56, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== MemKv.lean ====
abbrev S4x256x2048 : Shape := ⟨3, ![4, 256, 2048]⟩
abbrev S1x2048 : Shape := ⟨2, ![1, 2048]⟩
abbrev S1x2048x1024 : Shape := ⟨3, ![1, 2048, 1024]⟩
abbrev S2048x1024 : Shape := ⟨2, ![2048, 1024]⟩
abbrev S1024x2048 : Shape := ⟨2, ![1024, 2048]⟩
abbrev S2048 : Shape := ⟨1, ![2048]⟩
abbrev S1024x512 : Shape := ⟨2, ![1024, 512]⟩
abbrev S512x2048 : Shape := ⟨2, ![512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 10
  | .vmem => 10
  | .smem => 0
  | _ => 0

abbrev bufTy : (tb : Table) → Fin (tcTables nBuf tb) → BufTy
  | .hbm, ⟨0, _⟩ => ⟨S4x256x2048, .f32⟩
  | .hbm, ⟨1, _⟩ => ⟨S1x2048, .f32⟩
  | .hbm, ⟨2, _⟩ => ⟨S1x2048x1024, .f32⟩
  | .hbm, ⟨3, _⟩ => ⟨S2048x1024, .f32⟩
  | .hbm, ⟨4, _⟩ => ⟨S2048x1024, .bf16⟩
  | .hbm, ⟨5, _⟩ => ⟨S1024x2048, .f32⟩
  | .hbm, ⟨6, _⟩ => ⟨S2048, .f32⟩
  | .hbm, ⟨7, _⟩ => ⟨S1x2048, .f32⟩
  | .hbm, ⟨8, _⟩ => ⟨S1024x512, .f32⟩
  | .hbm, ⟨9, _⟩ => ⟨S1024x512, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x2048, .bf16⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MemKvRefIdeal.lean ====
abbrev S4x256x2048 : Shape := ⟨3, ![4, 256, 2048]⟩
abbrev S1x2048 : Shape := ⟨2, ![1, 2048]⟩
abbrev S1x2048x1024 : Shape := ⟨3, ![1, 2048, 1024]⟩
abbrev S1024x2048 : Shape := ⟨2, ![1024, 2048]⟩
abbrev S2048 : Shape := ⟨1, ![2048]⟩
abbrev S_ : Shape := ⟨0, ![]⟩
abbrev S1024 : Shape := ⟨1, ![1024]⟩
abbrev S1024x1 : Shape := ⟨2, ![1024, 1]⟩
abbrev S2048x1024 : Shape := ⟨2, ![2048, 1024]⟩
abbrev S1024x1024 : Shape := ⟨2, ![1024, 1024]⟩
abbrev S1024x512 : Shape := ⟨2, ![1024, 512]⟩

abbrev nBuf : Space → Nat
  | .hbm => 25
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S1x2048, .f32⟩
  | .hbm, ⟨2, _⟩ => ⟨S1x2048x1024, .f32⟩
  | .hbm, ⟨3, _⟩ => ⟨S1024x2048, .f32⟩
  | .hbm, ⟨4, _⟩ => ⟨S2048, .f32⟩
  | .hbm, ⟨5, _⟩ => ⟨S1024x2048, .f32⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S_, .f32⟩
  | .hbm, ⟨13, _⟩ => ⟨S1024x1, .f32⟩
  | .hbm, ⟨14, _⟩ => ⟨S1024x1, .f32⟩
  | .hbm, ⟨15, _⟩ => ⟨S1024x1, .f32⟩
  | .hbm, ⟨16, _⟩ => ⟨S1024x2048, .f32⟩
  | .hbm, ⟨17, _⟩ => ⟨S1024x2048, .f32⟩
  | .hbm, ⟨18, _⟩ => ⟨S1x2048, .f32⟩
  | .hbm, ⟨19, _⟩ => ⟨S1024x2048, .f32⟩
  | .hbm, ⟨20, _⟩ => ⟨S1024x2048, .f32⟩
  | .hbm, ⟨21, _⟩ => ⟨S2048x1024, .f32⟩
  | .hbm, ⟨22, _⟩ => ⟨S1024x1024, .f32⟩
  | .hbm, ⟨23, _⟩ => ⟨S1024x512, .f32⟩
  | .hbm, ⟨24, _⟩ => ⟨S1024x512, .f32⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== InProj.lean ====
abbrev S4x2048x2048 : Shape := ⟨3, ![4, 2048, 2048]⟩
abbrev S1x2048 : Shape := ⟨2, ![1, 2048]⟩
abbrev S1x2048x11264 : Shape := ⟨3, ![1, 2048, 11264]⟩
abbrev S8192x2048 : Shape := ⟨2, ![8192, 2048]⟩
abbrev S2048x11264 : Shape := ⟨2, ![2048, 11264]⟩
abbrev S2048 : Shape := ⟨1, ![2048]⟩
abbrev S8x8192x128 : Shape := ⟨3, ![8, 8192, 128]⟩
abbrev S8192x1536 : Shape := ⟨2, ![8192, 1536]⟩
abbrev S8192x512 : Shape := ⟨2, ![8192, 512]⟩
abbrev S512x2048 : Shape := ⟨2, ![512, 2048]⟩
abbrev S2048x512 : Shape := ⟨2, ![2048, 512]⟩
abbrev S4x512x128 : Shape := ⟨3, ![4, 512, 128]⟩
abbrev S512x512 : Shape := ⟨2, ![512, 512]⟩
abbrev S512 : Shape := ⟨1, ![512]⟩
abbrev S512x1 : Shape := ⟨2, ![512, 1]⟩
abbrev S512x128 : Shape := ⟨2, ![512, 128]⟩
abbrev S1x512x128 : Shape := ⟨3, ![1, 512, 128]⟩

abbrev nBuf : Space → Nat
  | .hbm => 14
  | .vmem => 19
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048x11264, .f32⟩
  | .hbm, ⟨3, _⟩ => ⟨S8192x2048, .f32⟩
  | .hbm, ⟨4, _⟩ => ⟨S2048x11264, .f32⟩
  | .hbm, ⟨5, _⟩ => ⟨S2048x11264, .bf16⟩
  | .hbm, ⟨6, _⟩ => ⟨S2048, .f32⟩
  | .hbm, ⟨7, _⟩ => ⟨S1x2048, .f32⟩
  | .hbm, ⟨8, _⟩ => ⟨S8192x2048, .bf16⟩
  | .hbm, ⟨9, _⟩ => ⟨S8x8192x128, .f32⟩
  | .hbm, ⟨10, _⟩ => ⟨S8192x1536, .f32⟩
  | .hbm, ⟨11, _⟩ => ⟨S8192x512, .f32⟩
  | .hbm, ⟨12, _⟩ => ⟨S8192x512, .f32⟩
  | .hbm, ⟨13, _⟩ => ⟨S8192x512, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S4x512x128, .f32⟩
  | .local _ .vmem, ⟨10, _⟩ => ⟨S4x512x128, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .bf16⟩
  | .local _ .vmem, ⟨18, _⟩ => ⟨S512x512, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v5_3 : Ref sig .tc := ⟨.hbm, 11, rfl⟩
abbrev main_v5_4 : Ref sig .tc := ⟨.hbm, 12, rfl⟩
abbrev main_v5_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c2_i32 : BitVec 32 := 2#32
  let v3 : BitVec 1 := Scalar.cmpi .slt arg1 c2_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32_2 : BitVec 32 := 2#32
  let v6 : BitVec 1 := Scalar.cmpi .sge arg1 c2_i32_2
  let c5_i32 : BitVec 32 := 5#32
  let v7 : BitVec 1 := Scalar.cmpi .slt arg1 c5_i32
  let v8 : BitVec 1 := Scalar.andi v6 v7
  let v9 : BitVec 32 := Scalar.extui v8
  let c0_i32_3 : BitVec 32 := 0#32
  let v10 : BitVec 1 := Scalar.cmpi .ne v9 c0_i32_3
  v10

def k0_cond4 (i : grid0.Coords) : BitVec 1 :=
  let arg1 : BitVec 32 := BitVec.ofNat 32 (i 1).val
  let c5_i32_4 : BitVec 32 := 5#32
  let v11 : BitVec 1 := Scalar.cmpi .eq arg1 c5_i32_4
  let v12 : BitVec 32 := Scalar.extui v11
  let c0_i32_5 : BitVec 32 := 0#32
  let v13 : BitVec 1 := Scalar.cmpi .ne v12 c0_i32_5
  v13

def k0_cond5 (i : grid0.Coords) : BitVec 1 :=
  let arg1 : BitVec 32 := BitVec.ofNat 32 (i 1).val
  let c6_i32 : BitVec 32 := 6#32
  let v14 : BitVec 1 := Scalar.cmpi .eq arg1 c6_i32
  let v15 : BitVec 32 := Scalar.extui v14
  let c0_i32_6 : BitVec 32 := 0#32
  let v16 : BitVec 1 := Scalar.cmpi .ne v15 c0_i32_6
  v16

def k0_cond6 (i : grid0.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_7 : BitVec 32 := 0#32
  let v19 : BitVec 1 := Scalar.cmpi .ne v18 c0_i32_7
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c2_i32_0 : BitVec 32 := 2#32
  let v1 : BitVec 32 := Scalar.addi arg1 c2_i32_0
  let v2 : BitVec 32 := Scalar.select v0 arg1 v1
  let c0_i32 : BitVec 32 := 0#32
  let c0_i32_1 : BitVec 32 := 0#32
  ![c0_i32.toNat, v2.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c2_i32 : BitVec 32 := 2#32
  let v1 : BitVec 32 := Scalar.addi v0 c2_i32
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  ![v0.toNat, arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c2_i32_0 : BitVec 32 := 2#32
  let v1 : BitVec 32 := Scalar.maxsi c0_i32 v0
  let v2 : BitVec 32 := Scalar.minsi c2_i32_0 v1
  let c0_i32_1 : BitVec 32 := 0#32
  ![arg0.toNat, v2.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== InProjRefIdeal.lean ====
abbrev S4x2048x2048 : Shape := ⟨3, ![4, 2048, 2048]⟩
abbrev S1x2048 : Shape := ⟨2, ![1, 2048]⟩
abbrev S1x2048x11264 : Shape := ⟨3, ![1, 2048, 11264]⟩
abbrev S8192x2048 : Shape := ⟨2, ![8192, 2048]⟩
abbrev S2048 : Shape := ⟨1, ![2048]⟩
abbrev S2048x11264 : Shape := ⟨2, ![2048, 11264]⟩
abbrev S_ : Shape := ⟨0, ![]⟩
abbrev S8192 : Shape := ⟨1, ![8192]⟩
abbrev S8192x1 : Shape := ⟨2, ![8192, 1]⟩
abbrev S2048x5120 : Shape := ⟨2, ![2048, 5120]⟩
abbrev S8192x5120 : Shape := ⟨2, ![8192, 5120]⟩
abbrev S8192x1024 : Shape := ⟨2, ![8192, 1024]⟩
abbrev S8192x1536 : Shape := ⟨2, ![8192, 1536]⟩
abbrev S8192x512 : Shape := ⟨2, ![8192, 512]⟩
abbrev S8192x8x128 : Shape := ⟨3, ![8192, 8, 128]⟩
abbrev S8x8192x128 : Shape := ⟨3, ![8, 8192, 128]⟩

abbrev nBuf : Space → Nat
  | .hbm => 43
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048x11264, .f32⟩
  | .hbm, ⟨3, _⟩ => ⟨S8192x2048, .f32⟩
  | .hbm, ⟨4, _⟩ => ⟨S2048, .f32⟩
  | .hbm, ⟨5, _⟩ => ⟨S2048x11264, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S2048x5120, .f32⟩
  | .hbm, ⟨23, _⟩ => ⟨S8192x5120, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1536, .f32⟩
  | .hbm, ⟨36, _⟩ => ⟨S8192x512, .f32⟩
  | .hbm, ⟨37, _⟩ => ⟨S8192x512, .f32⟩
  | .hbm, ⟨38, _⟩ => ⟨S8192x512, .f32⟩
  | .hbm, ⟨39, _⟩ => ⟨S8192x2048, .bf16⟩
  | .hbm, ⟨40, _⟩ => ⟨S8192x8x128, .f32⟩
  | .hbm, ⟨41, _⟩ => ⟨S8x8192x128, .f32⟩
  | .hbm, ⟨42, _⟩ => ⟨S8192x512, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩

abbrev nD : Nat := 1
abbrev τ : Topo := Topo.v7x

variable {F : FTy → Type} [FloatOps F]
-- ==== InProjS.lean ====
abbrev S32x1x2048 : Shape := ⟨3, ![32, 1, 2048]⟩
abbrev S1x2048 : Shape := ⟨2, ![1, 2048]⟩
abbrev S1x2048x11264 : Shape := ⟨3, ![1, 2048, 11264]⟩
abbrev S32x2048 : Shape := ⟨2, ![32, 2048]⟩
abbrev S2048x11264 : Shape := ⟨2, ![2048, 11264]⟩
abbrev S2048 : Shape := ⟨1, ![2048]⟩
abbrev S32x1024 : Shape := ⟨2, ![32, 1024]⟩
abbrev S32x1536 : Shape := ⟨2, ![32, 1536]⟩
abbrev S32x512 : Shape := ⟨2, ![32, 512]⟩
abbrev S2048x512 : Shape := ⟨2, ![2048, 512]⟩
abbrev S32 : Shape := ⟨1, ![32]⟩
abbrev S32x1 : Shape := ⟨2, ![32, 1]⟩

abbrev nBuf : Space → Nat
  | .hbm => 14
  | .vmem => 14
  | .smem => 0
  | _ => 0

abbrev bufTy : (tb : Table) → Fin (tcTables nBuf tb) → BufTy
  | .hbm, ⟨0, _⟩ => ⟨S32x1x2048, .f32⟩
  | .hbm, ⟨1, _⟩ => ⟨S1x2048, .f32⟩
  | .hbm, ⟨2, _⟩ => ⟨S1x2048x11264, .f32⟩
  | .hbm, ⟨3, _⟩ => ⟨S32x2048, .f32⟩
  | .hbm, ⟨4, _⟩ => ⟨S2048x11264, .f32⟩
  | .hbm, ⟨5, _⟩ => ⟨S2048x11264, .bf16⟩
  | .hbm, ⟨6, _⟩ => ⟨S2048, .f32⟩
  | .hbm, ⟨7, _⟩ => ⟨S1x2048, .f32⟩
  | .hbm, ⟨8, _⟩ => ⟨S32x2048, .bf16⟩
  | .hbm, ⟨9, _⟩ => ⟨S32x1024, .f32⟩
  | .hbm, ⟨10, _⟩ => ⟨S32x1536, .f32⟩
  | .hbm, ⟨11, _⟩ => ⟨S32x512, .f32⟩
  | .hbm, ⟨12, _⟩ => ⟨S32x512, .f32⟩
  | .hbm, ⟨13, _⟩ => ⟨S32x512, .f32⟩
  | .local _ .vmem, ⟨0, _⟩ => ⟨S32x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S32x2048, .bf16⟩
  | .local _ .vmem, ⟨7, _⟩ => ⟨S32x512, .f32⟩
  | .local _ .vmem, ⟨8, _⟩ => ⟨S32x512, .f32⟩
  | .local _ .vmem, ⟨9, _⟩ => ⟨S32x512, .f32⟩
  | .local _ .vmem, ⟨10, _⟩ => ⟨S32x512, .f32⟩
  | .local _ .vmem, ⟨11, _⟩ => ⟨S32x512, .f32⟩
  | .local _ .vmem, ⟨12, _⟩ => ⟨S32x512, .f32⟩
  | .local _ .vmem, ⟨13, _⟩ => ⟨S32x512, .f32⟩
  | _, _ => ⟨S32x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v5_3 : Ref sig .tc := ⟨.hbm, 11, rfl⟩
abbrev main_v5_4 : Ref sig .tc := ⟨.hbm, 12, rfl⟩
abbrev main_v5_5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c2_i32 : BitVec 32 := 2#32
  let v3 : BitVec 1 := Scalar.cmpi .slt arg1 c2_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32_2 : BitVec 32 := 2#32
  let v6 : BitVec 1 := Scalar.cmpi .sge arg1 c2_i32_2
  let c5_i32 : BitVec 32 := 5#32
  let v7 : BitVec 1 := Scalar.cmpi .slt arg1 c5_i32
  let v8 : BitVec 1 := Scalar.andi v6 v7
  let v9 : BitVec 32 := Scalar.extui v8
  let c0_i32_3 : BitVec 32 := 0#32
  let v10 : BitVec 1 := Scalar.cmpi .ne v9 c0_i32_3
  v10

def k0_cond4 (i : grid0.Coords) : BitVec 1 :=
  let arg1 : BitVec 32 := BitVec.ofNat 32 (i 1).val
  let c5_i32_4 : BitVec 32 := 5#32
  let v11 : BitVec 1 := Scalar.cmpi .eq arg1 c5_i32_4
  let v12 : BitVec 32 := Scalar.extui v11
  let c0_i32_5 : BitVec 32 := 0#32
  let v13 : BitVec 1 := Scalar.cmpi .ne v12 c0_i32_5
  v13

def k0_cond5 (i : grid0.Coords) : BitVec 1 :=
  let arg1 : BitVec 32 := BitVec.ofNat 32 (i 1).val
  let c6_i32 : BitVec 32 := 6#32
  let v14 : BitVec 1 := Scalar.cmpi .eq arg1 c6_i32
  let v15 : BitVec 32 := Scalar.extui v14
  let c0_i32_6 : BitVec 32 := 0#32
  let v16 : BitVec 1 := Scalar.cmpi .ne v15 c0_i32_6
  v16

def k0_cond6 (i : grid0.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_7 : BitVec 32 := 0#32
  let v19 : BitVec 1 := Scalar.cmpi .ne v18 c0_i32_7
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c2_i32_0 : BitVec 32 := 2#32
  let v1 : BitVec 32 := Scalar.addi arg1 c2_i32_0
  let v2 : BitVec 32 := Scalar.select v0 arg1 v1
  let c0_i32 : BitVec 32 := 0#32
  let c0_i32_1 : BitVec 32 := 0#32
  ![c0_i32.toNat, v2.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c2_i32 : BitVec 32 := 2#32
  let v1 : BitVec 32 := Scalar.addi v0 c2_i32
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c2_i32_0 : BitVec 32 := 2#32
  let v1 : BitVec 32 := Scalar.maxsi c0_i32 v0
  let v2 : BitVec 32 := Scalar.minsi c2_i32_0 v1
  let c0_i32_1 : BitVec 32 := 0#32
  ![arg0.toNat, v2.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S32x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S32x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S32x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S32x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]
-- ==== InProjSRefIdeal.lean ====
abbrev S32x1x2048 : Shape := ⟨3, ![32, 1, 2048]⟩
abbrev S1x2048 : Shape := ⟨2, ![1, 2048]⟩
abbrev S1x2048x11264 : Shape := ⟨3, ![1, 2048, 11264]⟩
abbrev S32x2048 : Shape := ⟨2, ![32, 2048]⟩
abbrev S2048 : Shape := ⟨1, ![2048]⟩
abbrev S2048x11264 : Shape := ⟨2, ![2048, 11264]⟩
abbrev S_ : Shape := ⟨0, ![]⟩
abbrev S32 : Shape := ⟨1, ![32]⟩
abbrev S32x1 : Shape := ⟨2, ![32, 1]⟩
abbrev S2048x5120 : Shape := ⟨2, ![2048, 5120]⟩
abbrev S32x5120 : Shape := ⟨2, ![32, 5120]⟩
abbrev S32x1024 : Shape := ⟨2, ![32, 1024]⟩
abbrev S32x1536 : Shape := ⟨2, ![32, 1536]⟩
abbrev S32x512 : Shape := ⟨2, ![32, 512]⟩

abbrev nBuf : Space → Nat
  | .hbm => 40
  | .vmem => 0
  | .smem => 0
  | _ => 0

abbrev bufTy : (tb : Table) → Fin (tcTables nBuf tb) → BufTy
  | .hbm, ⟨0, _⟩ => ⟨S32x1x2048, .f32⟩
  | .hbm, ⟨1, _⟩ => ⟨S1x2048, .f32⟩
  | .hbm, ⟨2, _⟩ => ⟨S1x2048x11264, .f32⟩
  | .hbm, ⟨3, _⟩ => ⟨S32x2048, .f32⟩
  | .hbm, ⟨4, _⟩ => ⟨S2048, .f32⟩
  | .hbm, ⟨5, _⟩ => ⟨S2048x11264, .f32⟩
  | .hbm, ⟨6, _⟩ => ⟨S32x2048, .f32⟩
  | .hbm, ⟨7, _⟩ => ⟨S_, .f32⟩
  | .hbm, ⟨8, _⟩ => ⟨S32, .f32⟩
  | .hbm, ⟨9, _⟩ => ⟨S32x1, .f32⟩
  | .hbm, ⟨10, _⟩ => ⟨S_, .f32⟩
  | .hbm, ⟨11, _⟩ => ⟨S32x1, .f32⟩
  | .hbm, ⟨12, _⟩ => ⟨S32x1, .f32⟩
  | .hbm, ⟨13, _⟩ => ⟨S_, .f32⟩
  | .hbm, ⟨14, _⟩ => ⟨S32x1, .f32⟩
  | .hbm, ⟨15, _⟩ => ⟨S32x1, .f32⟩
  | .hbm, ⟨16, _⟩ => ⟨S32x1, .f32⟩
  | .hbm, ⟨17, _⟩ => ⟨S32x2048, .f32⟩
  | .hbm, ⟨18, _⟩ => ⟨S32x2048, .f32⟩
  | .hbm, ⟨19, _⟩ => ⟨S1x2048, .f32⟩
  | .hbm, ⟨20, _⟩ => ⟨S32x2048, .f32⟩
  | .hbm, ⟨21, _⟩ => ⟨S32x2048, .f32⟩
  | .hbm, ⟨22, _⟩ => ⟨S2048x5120, .f32⟩
  | .hbm, ⟨23, _⟩ => ⟨S32x5120, .f32⟩
  | .hbm, ⟨24, _⟩ => ⟨S32x1024, .f32⟩
  | .hbm, ⟨25, _⟩ => ⟨S32x1024, .f32⟩
  | .hbm, ⟨26, _⟩ => ⟨S32x1024, .f32⟩
  | .hbm, ⟨27, _⟩ => ⟨S32x1024, .f32⟩
  | .hbm, ⟨28, _⟩ => ⟨S_, .f32⟩
  | .hbm, ⟨29, _⟩ => ⟨S32x1024, .f32⟩
  | .hbm, ⟨30, _⟩ => ⟨S32x1024, .f32⟩
  | .hbm, ⟨31, _⟩ => ⟨S_, .f32⟩
  | .hbm, ⟨32, _⟩ => ⟨S32x1024, .f32⟩
  | .hbm, ⟨33, _⟩ => ⟨S32x1024, .f32⟩
  | .hbm, ⟨34, _⟩ => ⟨S32x1024, .f32⟩
  | .hbm, ⟨35, _⟩ => ⟨S32x1536, .f32⟩
  | .hbm, ⟨36, _⟩ => ⟨S32x512, .f32⟩
  | .hbm, ⟨37, _⟩ => ⟨S32x512, .f32⟩
  | .hbm, ⟨38, _⟩ => ⟨S32x512, .f32⟩
  | .hbm, ⟨39, _⟩ => ⟨S32x2048, .bf16⟩
  | _, _ => ⟨S32x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== FfnS.lean ====
abbrev S32x2048 : Shape := ⟨2, ![32, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048x5632 : Shape := ⟨2, ![2048, 5632]⟩
abbrev S5632x2048 : Shape := ⟨2, ![5632, 2048]⟩
abbrev S2048 : Shape := ⟨1, ![2048]⟩
abbrev S2048x512 : Shape := ⟨2, ![2048, 512]⟩
abbrev S512x2048 : Shape := ⟨2, ![512, 2048]⟩
abbrev S32 : Shape := ⟨1, ![32]⟩
abbrev S32x1 : Shape := ⟨2, ![32, 1]⟩
abbrev S32x512 : Shape := ⟨2, ![32, 512]⟩

abbrev nBuf : Space → Nat
  | .hbm => 17
  | .vmem => 12
  | .smem => 0
  | _ => 0

abbrev bufTy : (tb : Table) → Fin (tcTables nBuf tb) → BufTy
  | .hbm, ⟨0, _⟩ => ⟨S32x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S1x2048, .f32⟩
  | .hbm, ⟨6, _⟩ => ⟨S2048x5632, .f32⟩
  | .hbm, ⟨7, _⟩ => ⟨S2048x5632, .bf16⟩
  | .hbm, ⟨8, _⟩ => ⟨S2048x5632, .f32⟩
  | .hbm, ⟨9, _⟩ => ⟨S2048x5632, .bf16⟩
  | .hbm, ⟨10, _⟩ => ⟨S5632x2048, .f32⟩
  | .hbm, ⟨11, _⟩ => ⟨S5632x2048, .bf16⟩
  | .hbm, ⟨12, _⟩ => ⟨S2048, .f32⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S32x2048, .f32⟩
  | .local _ .vmem, ⟨0, _⟩ => ⟨S32x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S32x2048, .f32⟩
  | .local _ .vmem, ⟨10, _⟩ => ⟨S32x2048, .bf16⟩
  | .local _ .vmem, ⟨11, _⟩ => ⟨S32x2048, .f32⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![1, 11], ![false, false]⟩

def k0_cond4 (i : grid0.Coords) : BitVec 1 :=
  let arg1 : BitVec 32 := BitVec.ofNat 32 (i 1).val
  let c10_i32 : BitVec 32 := 10#32
  let v23 : BitVec 1 := Scalar.cmpi .eq arg1 c10_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== FfnSRefIdeal.lean ====
abbrev S32x2048 : Shape := ⟨2, ![32, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S_ : Shape := ⟨0, ![]⟩
abbrev S32 : Shape := ⟨1, ![32]⟩
abbrev S32x1 : Shape := ⟨2, ![32, 1]⟩
abbrev S2048x5632 : Shape := ⟨2, ![2048, 5632]⟩
abbrev S32x5632 : Shape := ⟨2, ![32, 5632]⟩
abbrev S5632x2048 : Shape := ⟨2, ![5632, 2048]⟩

abbrev nBuf : Space → Nat
  | .hbm => 57
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S1x2048, .f32⟩
  | .hbm, ⟨6, _⟩ => ⟨S2048, .f32⟩
  | .hbm, ⟨7, _⟩ => ⟨S32x2048, .f32⟩
  | .hbm, ⟨8, _⟩ => ⟨S_, .f32⟩
  | .hbm, ⟨9, _⟩ => ⟨S32, .f32⟩
  | .hbm, ⟨10, _⟩ => ⟨S32x1, .f32⟩
  | .hbm, ⟨11, _⟩ => ⟨S_, .f32⟩
  | .hbm, ⟨12, _⟩ => ⟨S32x1, .f32⟩
  | .hbm, ⟨13, _⟩ => ⟨S32x1, .f32⟩
  | .hbm, ⟨14, _⟩ => ⟨S_, .f32⟩
  | .hbm, ⟨15, _⟩ => ⟨S32x1, .f32⟩
  | .hbm, ⟨16, _⟩ => ⟨S32x1, .f32⟩
  | .hbm, ⟨17, _⟩ => ⟨S32x1, .f32⟩
  | .hbm, ⟨18, _⟩ => ⟨S32x2048, .f32⟩
  | .hbm, ⟨19, _⟩ => ⟨S32x2048, .f32⟩
  | .hbm, ⟨20, _⟩ => ⟨S1x2048, .f32⟩
  | .hbm, ⟨21, _⟩ => ⟨S32x2048, .f32⟩
  | .hbm, ⟨22, _⟩ => ⟨S32x2048, .f32⟩
  | .hbm, ⟨23, _⟩ => ⟨S2048x5632, .f32⟩
  | .hbm, ⟨24, _⟩ => ⟨S32x5632, .f32⟩
  | .hbm, ⟨25, _⟩ => ⟨S32x5632, .f32⟩
  | .hbm, ⟨26, _⟩ => ⟨S32x5632, .f32⟩
  | .hbm, ⟨27, _⟩ => ⟨S_, .f32⟩
  | .hbm, ⟨28, _⟩ => ⟨S32x5632, .f32⟩
  | .hbm, ⟨29, _⟩ => ⟨S32x5632, .f32⟩
  | .hbm, ⟨30, _⟩ => ⟨S_, .f32⟩
  | .hbm, ⟨31, _⟩ => ⟨S32x5632, .f32⟩
  | .hbm, ⟨32, _⟩ => ⟨S32x5632, .f32⟩
  | .hbm, ⟨33, _⟩ => ⟨S32x5632, .f32⟩
  | .hbm, ⟨34, _⟩ => ⟨S2048x5632, .f32⟩
  | .hbm, ⟨35, _⟩ => ⟨S32x5632, .f32⟩
  | .hbm, ⟨36, _⟩ => ⟨S32x5632, .f32⟩
  | .hbm, ⟨37, _⟩ => ⟨S5632x2048, .f32⟩
  | .hbm, ⟨38, _⟩ => ⟨S32x2048, .f32⟩
  | .hbm, ⟨39, _⟩ => ⟨S2048, .f32⟩
  | .hbm, ⟨40, _⟩ => ⟨S32x2048, .f32⟩
  | .hbm, ⟨41, _⟩ => ⟨S_, .f32⟩
  | .hbm, ⟨42, _⟩ => ⟨S32, .f32⟩
  | .hbm, ⟨43, _⟩ => ⟨S32x1, .f32⟩
  | .hbm, ⟨44, _⟩ => ⟨S_, .f32⟩
  | .hbm, ⟨45, _⟩ => ⟨S32x1, .f32⟩
  | .hbm, ⟨46, _⟩ => ⟨S32x1, .f32⟩
  | .hbm, ⟨47, _⟩ => ⟨S_, .f32⟩
  | .hbm, ⟨48, _⟩ => ⟨S32x1, .f32⟩
  | .hbm, ⟨49, _⟩ => ⟨S32x1, .f32⟩
  | .hbm, ⟨50, _⟩ => ⟨S32x1, .f32⟩
  | .hbm, ⟨51, _⟩ => ⟨S32x2048, .f32⟩
  | .hbm, ⟨52, _⟩ => ⟨S32x2048, .f32⟩
  | .hbm, ⟨53, _⟩ => ⟨S1x2048, .f32⟩
  | .hbm, ⟨54, _⟩ => ⟨S32x2048, .f32⟩
  | .hbm, ⟨55, _⟩ => ⟨S32x2048, .f32⟩
  | .hbm, ⟨56, _⟩ => ⟨S32x2048, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== Merge.lean ====
abbrev S8192x2048 : Shape := ⟨2, ![8192, 2048]⟩
abbrev S8192x1024 : Shape := ⟨2, ![8192, 1024]⟩
abbrev S4x2048x512 : Shape := ⟨3, ![4, 2048, 512]⟩
abbrev S4x2048x2048 : Shape := ⟨3, ![4, 2048, 2048]⟩
abbrev S1x2048x11264 : Shape := ⟨3, ![1, 2048, 11264]⟩
abbrev S1x6144 : Shape := ⟨2, ![1, 6144]⟩
abbrev S1x1024x2048 : Shape := ⟨3, ![1, 1024, 2048]⟩
abbrev S1x512x2048 : Shape := ⟨3, ![1, 512, 2048]⟩
abbrev S1x2048x2048 : Shape := ⟨3, ![1, 2048, 2048]⟩
abbrev S1x2048 : Shape := ⟨2, ![1, 2048]⟩
abbrev S2048x11264 : Shape := ⟨2, ![2048, 11264]⟩
abbrev S1024x2048 : Shape := ⟨2, ![1024, 2048]⟩
abbrev S512x2048 : Shape := ⟨2, ![512, 2048]⟩
abbrev S2048x2048 : Shape := ⟨2, ![2048, 2048]⟩
abbrev S2048 : Shape := ⟨1, ![2048]⟩
abbrev S8192x512 : Shape := ⟨2, ![8192, 512]⟩
abbrev S6144 : Shape := ⟨1, ![6144]⟩
abbrev S3x1x2048 : Shape := ⟨3, ![3, 1, 2048]⟩
abbrev S512x1024 : Shape := ⟨2, ![512, 1024]⟩
abbrev S512x512 : Shape := ⟨2, ![512, 512]⟩
abbrev S2048x256 : Shape := ⟨2, ![2048, 256]⟩
abbrev S3x1x256 : Shape := ⟨3, ![3, 1, 256]⟩
abbrev S1024x256 : Shape := ⟨2, ![1024, 256]⟩
abbrev S512x256 : Shape := ⟨2, ![512, 256]⟩
abbrev S2048x512 : Shape := ⟨2, ![2048, 512]⟩
abbrev S8x512x256 : Shape := ⟨3, ![8, 512, 256]⟩
abbrev S4x512x512 : Shape := ⟨3, ![4, 512, 512]⟩
abbrev S1x1x256 : Shape := ⟨3, ![1, 1, 256]⟩
abbrev S1x256 : Shape := ⟨2, ![1, 256]⟩
abbrev S1x512x256 : Shape := ⟨3, ![1, 512, 256]⟩
abbrev S256x512 : Shape := ⟨2, ![256, 512]⟩
abbrev S1x512x512 : Shape := ⟨3, ![1, 512, 512]⟩
abbrev S512 : Shape := ⟨1, ![512]⟩
abbrev S512x1 : Shape := ⟨2, ![512, 1]⟩
abbrev S1x512 : Shape := ⟨2, ![1, 512]⟩

abbrev nBuf : Space → Nat
  | .hbm => 30
  | .vmem => 31
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S4x2048x512, .bf16⟩
  | .hbm, ⟨3, _⟩ => ⟨S4x2048x512, .bf16⟩
  | .hbm, ⟨4, _⟩ => ⟨S4x2048x2048, .f32⟩
  | .hbm, ⟨5, _⟩ => ⟨S1x2048x11264, .f32⟩
  | .hbm, ⟨6, _⟩ => ⟨S1x6144, .f32⟩
  | .hbm, ⟨7, _⟩ => ⟨S1x1024x2048, .f32⟩
  | .hbm, ⟨8, _⟩ => ⟨S1x512x2048, .f32⟩
  | .hbm, ⟨9, _⟩ => ⟨S1x512x2048, .f32⟩
  | .hbm, ⟨10, _⟩ => ⟨S1x2048x2048, .f32⟩
  | .hbm, ⟨11, _⟩ => ⟨S1x2048, .f32⟩
  | .hbm, ⟨12, _⟩ => ⟨S8192x2048, .f32⟩
  | .hbm, ⟨13, _⟩ => ⟨S2048x11264, .f32⟩
  | .hbm, ⟨14, _⟩ => ⟨S2048x11264, .bf16⟩
  | .hbm, ⟨15, _⟩ => ⟨S1024x2048, .f32⟩
  | .hbm, ⟨16, _⟩ => ⟨S1024x2048, .bf16⟩
  | .hbm, ⟨17, _⟩ => ⟨S512x2048, .f32⟩
  | .hbm, ⟨18, _⟩ => ⟨S512x2048, .bf16⟩
  | .hbm, ⟨19, _⟩ => ⟨S512x2048, .f32⟩
  | .hbm, ⟨20, _⟩ => ⟨S512x2048, .bf16⟩
  | .hbm, ⟨21, _⟩ => ⟨S2048x2048, .f32⟩
  | .hbm, ⟨22, _⟩ => ⟨S2048x2048, .bf16⟩
  | .hbm, ⟨23, _⟩ => ⟨S2048, .f32⟩
  | .hbm, ⟨24, _⟩ => ⟨S1x2048, .f32⟩
  | .hbm, ⟨25, _⟩ => ⟨S8192x512, .bf16⟩
  | .hbm, ⟨26, _⟩ => ⟨S8192x512, .bf16⟩
  | .hbm, ⟨27, _⟩ => ⟨S6144, .f32⟩
  | .hbm, ⟨28, _⟩ => ⟨S3x1x2048, .f32⟩
  | .hbm, ⟨29, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x2048, .f32⟩
  | .local _ .vmem, ⟨9, _⟩ => ⟨S512x2048, .f32⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S3x1x256, .f32⟩
  | .local _ .vmem, ⟨17, _⟩ => ⟨S3x1x256, .f32⟩
  | .local _ .vmem, ⟨18, _⟩ => ⟨S1024x256, .bf16⟩
  | .local _ .vmem, ⟨19, _⟩ => ⟨S1024x256, .bf16⟩
  | .local _ .vmem, ⟨20, _⟩ => ⟨S512x256, .bf16⟩
  | .local _ .vmem, ⟨21, _⟩ => ⟨S512x256, .bf16⟩
  | .local _ .vmem, ⟨22, _⟩ => ⟨S512x256, .bf16⟩
  | .local _ .vmem, ⟨23, _⟩ => ⟨S512x256, .bf16⟩
  | .local _ .vmem, ⟨24, _⟩ => ⟨S2048x512, .bf16⟩
  | .local _ .vmem, ⟨25, _⟩ => ⟨S2048x512, .bf16⟩
  | .local _ .vmem, ⟨26, _⟩ => ⟨S1x2048, .f32⟩
  | .local _ .vmem, ⟨27, _⟩ => ⟨S512x2048, .f32⟩
  | .local _ .vmem, ⟨28, _⟩ => ⟨S512x2048, .f32⟩
  | .local _ .vmem, ⟨29, _⟩ => ⟨S8x512x256, .bf16⟩
  | .local _ .vmem, ⟨30, _⟩ => ⟨S4x512x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg14_1 : Ref sig .tc := ⟨.vmem, 28, rfl⟩
abbrev cc0_scratch0 : Ref sig .tc := ⟨.vmem, 29, rfl⟩
abbrev cc0_scratch1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem14_1 : DmaSem sig := 28

abbrev nD : Nat := 1
abbrev τ : Topo := Topo.v7x

variable {F : FTy → Type} [FloatOps F]

abbrev grid0 : Pipeline.Grid := ⟨2, ![16, 12], ![false, false]⟩

def k0_cond1 (i : grid0.Coords) : BitVec 1 :=
  let arg1 : BitVec 32 := BitVec.ofNat 32 (i 1).val
  let c8_i32 : BitVec 32 := 8#32
  let v0 : BitVec 1 := Scalar.cmpi .slt arg1 c8_i32
  let v1 : BitVec 32 := Scalar.extui v0
  let c0_i32 : BitVec 32 := 0#32
  let v2 : BitVec 1 := Scalar.cmpi .ne v1 c0_i32
  v2

def k0_off1 (i : grid0.Coords) : Fin 3 → Nat :=
  let arg1 : BitVec 32 := BitVec.ofNat 32 (i 1).val
  let v54 : Index := Scalar.indexCast arg1
  let c0_34 : Index := 0#32
  let c0_35 : Index := 0#32
  ![v54.toNat, 0, 0]
def k0_cond2 (i : grid0.Coords) : BitVec 1 :=
  let arg1 : BitVec 32 := BitVec.ofNat 32 (i 1).val
  let c8_i32_0 : BitVec 32 := 8#32
  let v3 : BitVec 1 := Scalar.cmpi .sge arg1 c8_i32_0
  let v4 : BitVec 32 := Scalar.extui v3
  let c0_i32_1 : BitVec 32 := 0#32
  let v5 : BitVec 1 := Scalar.cmpi .ne v4 c0_i32_1
  v5

def k0_off2 (i : grid0.Coords) : Fin 3 → Nat :=
  let arg1 : BitVec 32 := BitVec.ofNat 32 (i 1).val
  let c8_i32_35 : BitVec 32 := 8#32
  let v56 : BitVec 32 := Scalar.subi arg1 c8_i32_35
  let v57 : Index := Scalar.indexCast v56
  let c0_36 : Index := 0#32
  let c0_37 : Index := 0#32
  ![v57.toNat, 0, 0]
def k0_cond3 (i : grid0.Coords) : BitVec 1 :=
  let arg1 : BitVec 32 := BitVec.ofNat 32 (i 1).val
  let c11_i32 : BitVec 32 := 11#32
  let v6 : BitVec 1 := Scalar.cmpi .eq arg1 c11_i32
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c20_i32 : BitVec 32 := 20#32
  let v1 : BitVec 32 := Scalar.addi c20_i32 v0
  let c0_i32 : BitVec 32 := 0#32
  let c0_i32_0 : BitVec 32 := 0#32
  ![c0_i32.toNat, v1.toNat]

def cc0_transform_6 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c28_i32 : BitVec 32 := 28#32
  let v1 : BitVec 32 := Scalar.addi c28_i32 v0
  let c0_i32 : BitVec 32 := 0#32
  let c0_i32_0 : BitVec 32 := 0#32
  ![c0_i32.toNat, v1.toNat]

def cc0_transform_7 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c36_i32 : BitVec 32 := 36#32
  let v1 : BitVec 32 := Scalar.addi c36_i32 v0
  let c0_i32 : BitVec 32 := 0#32
  let c0_i32_0 : BitVec 32 := 0#32
  ![c0_i32.toNat, v1.toNat]

def cc0_transform_8 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  let c0_i32_1 : BitVec 32 := 0#32
  ![c0_i32.toNat, c0_i32_0.toNat, v0.toNat]

def cc0_transform_9 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S3x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S2048x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S512x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== MergeRefIdeal.lean ====
abbrev S8192x2048 : Shape := ⟨2, ![8192, 2048]⟩
abbrev S8192x1024 : Shape := ⟨2, ![8192, 1024]⟩
abbrev S4x2048x512 : Shape := ⟨3, ![4, 2048, 512]⟩
abbrev S4x2048x2048 : Shape := ⟨3, ![4, 2048, 2048]⟩
abbrev S1x2048x11264 : Shape := ⟨3, ![1, 2048, 11264]⟩
abbrev S1x6144 : Shape := ⟨2, ![1, 6144]⟩
abbrev S1x1024x2048 : Shape := ⟨3, ![1, 1024, 2048]⟩
abbrev S1x512x2048 : Shape := ⟨3, ![1, 512, 2048]⟩
abbrev S1x2048x2048 : Shape := ⟨3, ![1, 2048, 2048]⟩
abbrev S1x2048 : Shape := ⟨2, ![1, 2048]⟩
abbrev S2048x11264 : Shape := ⟨2, ![2048, 11264]⟩
abbrev S2048x6144 : Shape := ⟨2, ![2048, 6144]⟩
abbrev S8192x6144 : Shape := ⟨2, ![8192, 6144]⟩
abbrev S6144 : Shape := ⟨1, ![6144]⟩
abbrev S_ : Shape := ⟨0, ![]⟩
abbrev S8192x3x2048 : Shape := ⟨3, ![8192, 3, 2048]⟩
abbrev S1024x2048 : Shape := ⟨2, ![1024, 2048]⟩
abbrev S8192x512 : Shape := ⟨2, ![8192, 512]⟩
abbrev S512x2048 : Shape := ⟨2, ![512, 2048]⟩
abbrev S8192x1x2048 : Shape := ⟨3, ![8192, 1, 2048]⟩
abbrev S2048x2048 : Shape := ⟨2, ![2048, 2048]⟩
abbrev S2048 : Shape := ⟨1, ![2048]⟩
abbrev S8192 : Shape := ⟨1, ![8192]⟩
abbrev S8192x1 : Shape := ⟨2, ![8192, 1]⟩

abbrev nBuf : Space → Nat
  | .hbm => 72
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S4x2048x512, .bf16⟩
  | .hbm, ⟨3, _⟩ => ⟨S4x2048x512, .bf16⟩
  | .hbm, ⟨4, _⟩ => ⟨S4x2048x2048, .f32⟩
  | .hbm, ⟨5, _⟩ => ⟨S1x2048x11264, .f32⟩
  | .hbm, ⟨6, _⟩ => ⟨S1x6144, .f32⟩
  | .hbm, ⟨7, _⟩ => ⟨S1x1024x2048, .f32⟩
  | .hbm, ⟨8, _⟩ => ⟨S1x512x2048, .f32⟩
  | .hbm, ⟨9, _⟩ => ⟨S1x512x2048, .f32⟩
  | .hbm, ⟨10, _⟩ => ⟨S1x2048x2048, .f32⟩
  | .hbm, ⟨11, _⟩ => ⟨S1x2048, .f32⟩
  | .hbm, ⟨12, _⟩ => ⟨S8192x2048, .f32⟩
  | .hbm, ⟨13, _⟩ => ⟨S8192x2048, .f32⟩
  | .hbm, ⟨14, _⟩ => ⟨S2048x11264, .f32⟩
  | .hbm, ⟨15, _⟩ => ⟨S2048x6144, .f32⟩
  | .hbm, ⟨16, _⟩ => ⟨S8192x6144, .f32⟩
  | .hbm, ⟨17, _⟩ => ⟨S6144, .f32⟩
  | .hbm, ⟨18, _⟩ => ⟨S1x6144, .f32⟩
  | .hbm, ⟨19, _⟩ => ⟨S8192x6144, .f32⟩
  | .hbm, ⟨20, _⟩ => ⟨S8192x6144, .f32⟩
  | .hbm, ⟨21, _⟩ => ⟨S8192x6144, .f32⟩
  | .hbm, ⟨22, _⟩ => ⟨S8192x6144, .f32⟩
  | .hbm, ⟨23, _⟩ => ⟨S_, .f32⟩
  | .hbm, ⟨24, _⟩ => ⟨S8192x6144, .f32⟩
  | .hbm, ⟨25, _⟩ => ⟨S8192x6144, .f32⟩
  | .hbm, ⟨26, _⟩ => ⟨S_, .f32⟩
  | .hbm, ⟨27, _⟩ => ⟨S8192x6144, .f32⟩
  | .hbm, ⟨28, _⟩ => ⟨S8192x6144, .f32⟩
  | .hbm, ⟨29, _⟩ => ⟨S8192x3x2048, .f32⟩
  | .hbm, ⟨30, _⟩ => ⟨S8192x1024, .f32⟩
  | .hbm, ⟨31, _⟩ => ⟨S1024x2048, .f32⟩
  | .hbm, ⟨32, _⟩ => ⟨S8192x2048, .f32⟩
  | .hbm, ⟨33, _⟩ => ⟨S8192x512, .bf16⟩
  | .hbm, ⟨34, _⟩ => ⟨S8192x512, .f32⟩
  | .hbm, ⟨35, _⟩ => ⟨S512x2048, .f32⟩
  | .hbm, ⟨36, _⟩ => ⟨S8192x2048, .f32⟩
  | .hbm, ⟨37, _⟩ => ⟨S8192x512, .bf16⟩
  | .hbm, ⟨38, _⟩ => ⟨S8192x512, .f32⟩
  | .hbm, ⟨39, _⟩ => ⟨S512x2048, .f32⟩
  | .hbm, ⟨40, _⟩ => ⟨S8192x2048, .f32⟩
  | .hbm, ⟨41, _⟩ => ⟨S8192x1x2048, .f32⟩
  | .hbm, ⟨42, _⟩ => ⟨S8192x2048, .f32⟩
  | .hbm, ⟨43, _⟩ => ⟨S8192x2048, .f32⟩
  | .hbm, ⟨44, _⟩ => ⟨S8192x1x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x1x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S2048x2048, .f32⟩
  | .hbm, ⟨53, _⟩ => ⟨S8192x2048, .f32⟩
  | .hbm, ⟨54, _⟩ => ⟨S2048, .f32⟩
  | .hbm, ⟨55, _⟩ => ⟨S8192x2048, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S8192x1, .f32⟩
  | .hbm, ⟨66, _⟩ => ⟨S8192x2048, .f32⟩
  | .hbm, ⟨67, _⟩ => ⟨S8192x2048, .f32⟩
  | .hbm, ⟨68, _⟩ => ⟨S1x2048, .f32⟩
  | .hbm, ⟨69, _⟩ => ⟨S8192x2048, .f32⟩
  | .hbm, ⟨70, _⟩ => ⟨S8192x2048, .f32⟩
  | .hbm, ⟨71, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_1 : Ref sig .tc := ⟨.hbm, 56, rfl⟩
abbrev main_v42 : Ref sig .tc := ⟨.hbm, 57, rfl⟩
abbrev main_v43 : Ref sig .tc := ⟨.hbm, 58, rfl⟩
abbrev main_cst_2 : Ref sig .tc := ⟨.hbm, 59, rfl⟩
abbrev main_v44 : Ref sig .tc := ⟨.hbm, 60, rfl⟩
abbrev main_v45 : Ref sig .tc := ⟨.hbm, 61, rfl⟩
abbrev main_cst_3 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩

abbrev nD : Nat := 1
abbrev τ : Topo := Topo.v7x

variable {F : FTy → Type} [FloatOps F]
-- ==== Proof.Keep.lean ====
/-
  Two facts about an output block that a pipelined kernel stores at some grid points only: at a point where the kernel
  leaves the block alone it hands its buffer back as required, and at a point where it stores it the requirement is the
  stored contents.
-/
module

public import Idealize.ShloMosaic.Lib.Pipeline.TableIdle
public import Idealize.ShloMosaic.Lib.Pipeline.FrameBody
public import Idealize.ShloMosaic.Lib.Pipeline.Value
public import Idealize.ShloMosaic.Lib.Ring
public import Idealize.ShloMosaic.Lib.Tactic

@[expose] public section

noncomputable section

namespace Cert.Keep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {nD : Nat} {τ : Topo} {sig : RefSig} {Val : EltTy → Type}
variable {Ix : Type} [DecidableEq Ix] {Name : Type} [DecidableEq Name] {U : Type} [URA U] {Lvl : Type}
variable {Λ₀ : Labels} {cfg : Cfg sig Λ₀} {c : Dev nD} (dat : Dat τ Val Ix Name U Lvl cfg c)

/-- A point that stores the block leaves it at the stated contents. -/
theorem stored (w : Fin cfg.W) (t : Fin cfg.N) (hi : cfg.idle w (cfg.grid.coords t) = false) :
    dat.leavesExact w t = (owns c ((cfg.win w).stage (cfg.slots t w)) fullShare (dat.after w t) : sProp (MT nD τ sig Ix Val Name U Lvl)) := by
  unfold Dat.leavesExact
  rw [hi]

/-- A point that leaves the block alone hands its buffer back: unchanged if it is not written back there, and at the
    contents of the last store if it is. -/
theorem kept (w : Fin cfg.W) (hw : (cfg.win w).isOut = true)
    (hclip : ∀ (i : cfg.grid.Coords) a, (cfg.win w).clip i a = none)
    (hcarry : ∀ (t : Fin cfg.N) (_ : t.val ≠ 0), cfg.idle w (cfg.grid.coords t) = true → cfg.fresh w t.val = false →
      dat.after w t = dat.after w ⟨t.val - 1, by omega⟩)
    (hback : ∀ t : Fin cfg.N, cfg.idle w (cfg.grid.coords t) = true → (cfg.win w).flush t = true → cfg.fresh w t.val = false)
    (t : Fin cfg.N) (hi : cfg.idle w (cfg.grid.coords t) = true) :
    iprop(∃ d, owns c ((cfg.win w).stage (cfg.slots t w)) fullShare (dat.before w t d))
      ⊢ (dat.leavesExact w t : sProp (MT nD τ sig Ix Val Name U Lvl)) := by
  cases hf : (cfg.win w).flush t
  · rw [Dat.leavesExact_idle dat w t hi hf]
  · have hfr := hback t hi hf
    have ht0 : t.val ≠ 0 := fun h => by rw [h, Cfg.fresh_zero] at hfr; exact Bool.false_ne_true hfr.symm
    unfold Dat.leavesExact
    rw [hi, hf]
    iintro ⟨%d, H⟩
    rw [dat.before_out_traj w hw hclip hcarry t.val t rfl d, if_neg (by rw [hfr]; exact Bool.false_ne_true), ← hcarry t ht0 hi hfr]
    iexact H

variable {κ : Kind} {sp : Space} {S : Shape} {e : EltTy}

/-- One store through a box that is the whole shape leaves its payload, whatever was there before. -/
theorem read_whole [∀ e, Nonempty (Val e)] (v : View sig κ sp S e) (f : v.ty.Contents Val) {off : Fin S.rank → Nat}
    (h : off = fun _ => 0) (inb : ∀ a, off a + S.size a ≤ S.size a) (x : S.Idx → Val e) :
    v.read Val (v.writes Val f [(⟨Rect.unit off S.size inb, x⟩ : View.Piece Val S e)]) = x := by
  subst h
  have hc : ∀ y : S.Idx, ∃ p ∈ [(⟨Rect.unit (fun _ => 0) S.size inb, x⟩ : View.Piece Val S e)], y ∈ p.1.set := fun y =>
    ⟨_, List.mem_singleton_self _, by
      show y ∈ (Rect.whole S).set
      rw [Rect.set_whole]
      exact Finset.mem_univ y⟩
  rw [View.read_writes_of_cover v f v v.junk _ hc, View.read_writes_junk_eq_canon, View.canon_unit_zero rfl]

/-- Stores that together cover the shape leave what they leave on any buffer, whatever was there before. -/
theorem read_cover [∀ e, Nonempty (Val e)] (v : View sig κ sp S e) (f : v.ty.Contents Val) (L : List (View.Piece Val S e))
    (hc : ∀ y, ∃ p ∈ L, y ∈ p.1.set) : v.read Val (v.writes Val f L) = View.canon L := by
  rw [View.read_writes_of_cover v f v v.junk _ hc, View.read_writes_junk_eq_canon]

end Cert.Keep

end
-- ==== Proof.MemKvIdealFrame.lean ====
/-
  The memory-projection kernel runs: from any memory it ends, leaves its arguments as they were, and its two results hold, block
  by block, what the kernel stored at the two steps of each block of rows.
-/
module

public import proofs.«01_k».proof.Proof.Gen.MemKvIdeal.Launch
public import proofs.«01_k».proof.Proof.Gen.MemKvIdeal.Skeleton
public import proofs.«01_k».proof.Proof.Gen.MemKvIdeal.Points
public import proofs.«01_k».proof.Proof.Keep
public import Idealize.ShloMosaic.Lib.WordCmp
public import Idealize.ShloMosaic.Lib.Claim

@[expose] public section

set_option maxRecDepth 16384

noncomputable section

namespace Cert.MemKvIdeal.Hand

open Cert.MemKvIdeal Cert.MemKvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The TensorCore buffers of core `c` where the kernel's region begins: the host's casts and reshapes have run. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]
  repeat' constructor

set_option maxHeartbeats 800000 in
/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host writes no argument: `main_arg0` reaches the region as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))

/-- The host writes no argument: `main_arg1` reaches the region as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))

/-- The host writes no argument: `main_arg2` reaches the region as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))

/-- The block of window `w` at point `t`, read off its array where the region begins. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input 0's buffer holds its block at every point, for any data over these arrays whose body leaves it in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl)
      (fun t => by rw [hafter]; unfold Dat.blockOf iblk; rw [hA]; try rfl) t d).trans
    (by unfold Dat.fetched Dat.blockOf iblk; rw [hA]; try rfl)

/-- Input 1's buffer holds its block at every point, for any data over these arrays whose body leaves it in place. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl)
      (fun t => by rw [hafter]; unfold Dat.blockOf iblk; rw [hA]; try rfl) t d).trans
    (by unfold Dat.fetched Dat.blockOf iblk; rw [hA]; try rfl)

/-- Input 2's buffer holds its block at every point, for any data over these arrays whose body leaves it in place. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl)
      (fun t => by rw [hafter]; unfold Dat.blockOf iblk; rw [hA]; try rfl) t d).trans
    (by unfold Dat.fetched Dat.blockOf iblk; rw [hA]; try rfl)
abbrev ms_0 (t : Fin cfg0.N) : Memref sig .tc .vmem S512x2048 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1x2048 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S2048x512 .bf16 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S512x512 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S512x512 .f32 := win0_4.stage (cfg0.slots t 4)
abbrev hs_4 (t : Fin cfg0.N) : (ms_4 t).IsWhole := hstage0_4 ((cfg0.slots t 4).cast nbuf0_4)
abbrev scM_0 : Memref sig .tc .vmem S512x2048 .bf16 := Memref.whole cc0_scratch0

/-- A rank-two offset that is zero in both coordinates. -/
theorem off0 : (![0, 0] : Fin 2 → Nat) = fun _ => 0 := funext fun a => by fin_cases a <;> rfl

set_option maxHeartbeats 1000000 in
/-- At the first step of a block of rows the kernel normalises the rows into its scratch and stores their product with the first
    block of columns. -/
theorem run_first (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x2048 .bf16) (harg7 : arg7.IsWhole)
    (hc1 : k0_cond1 i = 1#1) (hc2 : ¬k0_cond2 i = 1#1)
    (x0 : Vec F S512x2048 .f32) (x1 : Vec F S1x2048 .f32) (x2 : Vec F S2048x512 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare (k0_pay2 (k0_pay1 x0 x1) x2) ∗ owns (c : Thread nD τ) arg7 fullShare (k0_pay1 x0 x1)) -∗ K ⟨⟩))
      ⊢ wp frame (wpE (defs₀ (F := F)) Variants.none c none) E (cc0_mem_kv i arg2 harg2 arg3 harg3 arg4 harg4 arg5 harg5 arg6 harg6 arg7 harg7) K := by
  simp only [cc0_mem_kv_eq_skeleton]
  unfold cc0_mem_kv_skel
  unfold owns
  iintro ⟨⟨%f0, %hf0, H0⟩, ⟨%f1, %hf1, H1⟩, ⟨%f2, %hf2, H2⟩, ⟨%d3, %f3, -, H3⟩, ⟨%d5, %f5, -, H5⟩, Hk⟩
  obtain rfl := harg2.eq_unread hf0
  obtain rfl := harg3.eq_unread hf1
  obtain rfl := harg4.eq_unread hf2
  sl_exec (disch := first | sl_exact hc1 | sl_exact hc2)
  sl_step
  iapply Hk
  isplitl [H0]
  · iexists _
    isplitr
    swap
    · iexact H0
    ipureintro
    exact harg2.read_unread _
  isplitl [H1]
  · iexists _
    isplitr
    swap
    · iexact H1
    ipureintro
    exact harg3.read_unread _
  isplitl [H2]
  · iexists _
    isplitr
    swap
    · iexact H2
    ipureintro
    exact harg4.read_unread _
  isplitl [H3]
  · iexists _
    isplitr
    swap
    · iexact H3
    ipureintro
    sl_unfold_words
    rw [Cert.Keep.read_whole _ _ off0]
    simp only [View.readAt_eq_ld, harg2.read_unread, harg3.read_unread, harg4.read_unread,
      View.ld_unit_zero (S := S512x2048) off0, View.ld_unit_zero (S := S1x2048) off0, View.ld_unit_zero (S := S2048x512) off0, View.readCov_unit_zero (S := S512x2048) _ off0]
  iexists _
  isplitr
  swap
  · iexact H5
  ipureintro
  sl_unfold_words
  rw [Cert.Keep.read_whole _ _ off0]
  simp only [View.readAt_eq_ld, harg2.read_unread, harg3.read_unread, harg4.read_unread,
    View.ld_unit_zero (S := S512x2048) off0, View.ld_unit_zero (S := S1x2048) off0, View.ld_unit_zero (S := S2048x512) off0, View.readCov_unit_zero (S := S512x2048) _ off0]

set_option maxHeartbeats 1000000 in
/-- At the second step it stores the product of the scratch with the second block of columns. -/
theorem run_second (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S512x512 .f32) (harg5 : arg5.IsWhole) (arg6 : Memref sig .tc .vmem S512x512 .f32) (harg6 : arg6.IsWhole) (arg7 : Memref sig .tc .vmem S512x2048 .bf16) (harg7 : arg7.IsWhole)
    (hc1 : ¬k0_cond1 i = 1#1) (hc2 : k0_cond2 i = 1#1)
    (x2 : Vec F S2048x512 .bf16) (xs : Vec F S512x2048 .bf16) (E : Set ℕ) (K : PUnit → sProp 𝕄) :
    iprop(owns (c : Thread nD τ) arg4 fullShare x2 ∗ (∃ d, owns (c : Thread nD τ) arg6 fullShare d) ∗ owns (c : Thread nD τ) arg7 fullShare xs
        ∗ (iprop(owns (c : Thread nD τ) arg4 fullShare x2 ∗ owns (c : Thread nD τ) arg6 fullShare (k0_pay3 xs x2) ∗ owns (c : Thread nD τ) arg7 fullShare xs) -∗ K ⟨⟩))
      ⊢ wp frame (wpE (defs₀ (F := F)) Variants.none c none) E (cc0_mem_kv i arg2 harg2 arg3 harg3 arg4 harg4 arg5 harg5 arg6 harg6 arg7 harg7) K := by
  simp only [cc0_mem_kv_eq_skeleton]
  unfold cc0_mem_kv_skel
  unfold owns
  iintro ⟨⟨%f2, %hf2, H2⟩, ⟨%d4, %f4, -, H4⟩, ⟨%f5, %hf5, H5⟩, Hk⟩
  obtain rfl := harg4.eq_unread hf2
  obtain rfl := harg7.eq_unread hf5
  sl_exec (disch := first | sl_exact hc1 | sl_exact hc2)
  sl_step
  iapply Hk
  isplitl [H2]
  · iexists _
    isplitr
    swap
    · iexact H2
    ipureintro
    exact harg4.read_unread _
  isplitl [H4]
  · iexists _
    isplitr
    swap
    · iexact H4
    ipureintro
    sl_unfold_words
    rw [Cert.Keep.read_whole _ _ off0]
    simp only [View.readAt_eq_ld, harg4.read_unread, harg7.read_unread,
      View.ld_unit_zero (S := S512x2048) off0, View.ld_unit_zero (S := S1x2048) off0, View.ld_unit_zero (S := S2048x512) off0, View.readCov_unit_zero (S := S512x2048) _ off0]
  iexists _
  isplitr
  swap
  · iexact H5
  ipureintro
  exact harg7.read_unread _

/-- The first of the two steps of the block of rows `t` works on. -/
def top (t : Fin cfg0.N) : Fin cfg0.N := ⟨t.val - t.val % 2, by have := t.isLt; omega⟩

theorem top_of_even (t : Fin cfg0.N) (h : t.val % 2 = 0) : top t = t := Fin.ext (by show t.val - t.val % 2 = t.val; omega)
theorem top_pred (t : Fin cfg0.N) (h : t.val % 2 = 1) : top ⟨t.val - 1, by omega⟩ = top t :=
  Fin.ext (by show t.val - 1 - (t.val - 1) % 2 = t.val - t.val % 2; omega)

/-- The normalised rows of the block, as the scratch holds them. -/
def rows (c : Dev nD) (t : Fin cfg0.N) : Vec F S512x2048 .bf16 := k0_pay1 (iblk m c 0 (top t)) (iblk m c 1 (top t))
/-- The first result's block. -/
def keys (c : Dev nD) (t : Fin cfg0.N) : Vec F S512x512 .f32 := k0_pay2 (rows m c t) (iblk m c 2 (top t))
/-- The second result's block. -/
def vals (c : Dev nD) (t : Fin cfg0.N) : Vec F S512x512 .f32 := k0_pay3 (rows m c t) (iblk m c 2 t)

theorem rows_pred (c : Dev nD) (t : Fin cfg0.N) (h : t.val % 2 = 1) : rows m c ⟨t.val - 1, by omega⟩ = rows m c t := by
  unfold rows
  rw [top_pred t h]
theorem keys_pred (c : Dev nD) (t : Fin cfg0.N) (h : t.val % 2 = 1) : keys m c ⟨t.val - 1, by omega⟩ = keys m c t := by
  unfold keys
  rw [top_pred t h, rows_pred m c t h]

/-- The first step is where the first condition holds, -/
theorem cond1 : ∀ t : Fin cfg0.N, k0_cond1 (grid0.coords t) = 1#1 ↔ t.val % 2 = 0 :=
  (by decide +kernel : ∀ t : Fin grid0.N, k0_cond1 (grid0.coords t) = 1#1 ↔ t.val % 2 = 0)
/-- and the second step where the second does. -/
theorem cond2 : ∀ t : Fin cfg0.N, k0_cond2 (grid0.coords t) = 1#1 ↔ t.val % 2 = 1 :=
  (by decide +kernel : ∀ t : Fin grid0.N, k0_cond2 (grid0.coords t) = 1#1 ↔ t.val % 2 = 1)

theorem idle_3 : ∀ t : Fin cfg0.N, cfg0.idle 3 (grid0.coords t) = decide (t.val % 2 = 1) :=
  (by decide +kernel : ∀ t : Fin cfg0.N, cfg0.idle 3 (grid0.coords t) = decide (t.val % 2 = 1))
theorem idle_4 : ∀ t : Fin cfg0.N, cfg0.idle 4 (grid0.coords t) = decide (t.val % 2 = 0) :=
  (by decide +kernel : ∀ t : Fin cfg0.N, cfg0.idle 4 (grid0.coords t) = decide (t.val % 2 = 0))
theorem fresh_3 : ∀ t : Fin cfg0.N, cfg0.fresh 3 t.val = decide (t.val % 2 = 0) :=
  (by decide +kernel : ∀ t : Fin cfg0.N, cfg0.fresh 3 t.val = decide (t.val % 2 = 0))
theorem fresh_4 : ∀ t : Fin cfg0.N, cfg0.fresh 4 t.val = true :=
  (by decide +kernel : ∀ t : Fin cfg0.N, cfg0.fresh 4 t.val = true)
theorem back_4 : ∀ t : Fin cfg0.N, cfg0.idle 4 (grid0.coords t) = true → (cfg0.win 4).flush t = true → cfg0.fresh 4 t.val = false :=
  (by decide +kernel : ∀ t : Fin cfg0.N, cfg0.idle 4 (grid0.coords t) = true → (cfg0.win 4).flush t = true → cfg0.fresh 4 t.val = false)

/-- What the scratch holds between points. -/
def PhiS (c : Dev nD) : (n : ℕ) → n ≤ cfg0.N → sProp 𝕄
  | 0, _ => Pipeline.ΦA spec0 c
  | n + 1, hn => iprop(owns (c : Thread nD τ) scM_0 fullShare (rows m c ⟨n, hn⟩) ∗ (∃ r, prngReg c r))

theorem PhiA_eq (c : Dev nD) :
    (Pipeline.ΦA spec0 c : sProp 𝕄) = iprop((∃ d, owns (c : Thread nD τ) scM_0 fullShare d) ∗ (∃ r, prngReg c r)) := by
  unfold Pipeline.ΦA
  rw [scopedRest0_eq]
  simp only [scM_0, owns_whole]
  try rfl

theorem PhiS_any (c : Dev nD) (n : ℕ) (h : n ≤ cfg0.N) :
    PhiS m c n h ⊢ iprop((∃ d, owns (c : Thread nD τ) scM_0 fullShare d) ∗ (∃ r, prngReg c r)) := by
  cases n with
  | zero => rw [show PhiS m c 0 h = Pipeline.ΦA spec0 c from rfl, PhiA_eq]
  | succ n =>
    rw [show PhiS m c (n + 1) h = iprop(owns (c : Thread nD τ) scM_0 fullShare (rows m c ⟨n, h⟩) ∗ (∃ r, prngReg c r)) from rfl]
    iintro ⟨H, Hg⟩
    isplitl [H]
    · iexists _; iexact H
    iexact Hg

theorem PhiS_pos (c : Dev nD) (n : ℕ) (h : n ≤ cfg0.N) (hz : n ≠ 0) :
    PhiS m c n h = iprop(owns (c : Thread nD τ) scM_0 fullShare (rows m c ⟨n - 1, by omega⟩) ∗ (∃ r, prngReg c r)) := by
  cases n with
  | zero => exact absurd rfl hz
  | succ n => rfl

/-- The pipeline's data: the arrays as the region finds them, and what each window's buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => keys m c t
    | ⟨4, _⟩ => vals m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) : (dats m 0 c).Φ t.castSucc = PhiS m c t.val (Nat.le_of_lt t.isLt) := by
  dsimp only [dats]
  exact Pipeline.Dat.Φ_castSucc (PhiS m c) t
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = keys m c t := by dsimp only [dats]
theorem after_4 (c : Dev nD) (t : Fin cfg0.N) : (dats m 0 c).after 4 t = vals m c t := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d

theorem kept_3 (c : Dev nD) (t : Fin cfg0.N) (h : t.val % 2 = 1) :
    iprop(∃ d, owns (c : Thread nD τ) (ms_3 t) fullShare ((dats m 0 c).before 3 t d)) ⊢ ((dats m 0 c).leavesExact 3 t : sProp 𝕄) :=
  Cert.Keep.kept (dats m 0 c) 3 rfl (fun _ _ => rfl)
    (fun t _ hi _ => by
      rw [idle_3, decide_eq_true_eq] at hi
      rw [after_3, after_3]
      exact (keys_pred m c t hi).symm)
    (fun t hi _ => by
      rw [idle_3, decide_eq_true_eq] at hi
      rw [fresh_3, decide_eq_false_iff_not]
      omega) t (by rw [idle_3]; exact decide_eq_true h)

theorem kept_4 (c : Dev nD) (t : Fin cfg0.N) (h : t.val % 2 = 0) :
    iprop(∃ d, owns (c : Thread nD τ) (ms_4 t) fullShare ((dats m 0 c).before 4 t d)) ⊢ ((dats m 0 c).leavesExact 4 t : sProp 𝕄) :=
  Cert.Keep.kept (dats m 0 c) 4 rfl (fun _ _ => rfl)
    (fun t _ _ hf => by
      rw [fresh_4] at hf
      exact absurd hf (by decide))
    back_4 t (by rw [idle_4]; exact decide_eq_true h)

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl,
    show (dats m 0 c).Φ t.succ = iprop(owns (c : Thread nD τ) scM_0 fullShare (rows m c t) ∗ (∃ r, prngReg c r)) from rfl,
    PhiS_castSucc, Cert.Keep.stored (dats m 0 c) 0 t rfl, Cert.Keep.stored (dats m 0 c) 1 t rfl,
    Cert.Keep.stored (dats m 0 c) 2 t rfl, after_0, after_1, after_2]
  by_cases h : t.val % 2 = 0
  · have e : rows m c t = k0_pay1 (iblk m c 0 t) (iblk m c 1 t) := by unfold rows; rw [top_of_even t h]
    rw [Cert.Keep.stored (dats m 0 c) 3 t (by rw [idle_3]; exact decide_eq_false (by omega)), after_3,
      show keys m c t = k0_pay2 (k0_pay1 (iblk m c 0 t) (iblk m c 1 t)) (iblk m c 2 t) from by unfold keys; rw [top_of_even t h, e], e]
    iintro ⟨HΦ, Ho, ⟨%d0, H0⟩, ⟨%d1, H1⟩, ⟨%d2, H2⟩, ⟨%d3, H3⟩, H4⟩
    ihave HΦ' := (PhiS_any m c t.val (Nat.le_of_lt t.isLt)) $$ HΦ
    icases HΦ' with ⟨HS, Hg⟩
    iapply (run_first c (grid0.coords t) _ _ _ _ _ _ _ _ _ _ _ _ ((cond1 t).mpr h) (fun hh => by have := (cond2 t).mp hh; omega)
      (iblk m c 0 t) (iblk m c 1 t) (iblk m c 2 t) Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iapply (kept_4 m c t h)
    iexact H4
  · have h' : t.val % 2 = 1 := by omega
    rw [Cert.Keep.stored (dats m 0 c) 4 t (by rw [idle_4]; exact decide_eq_false (by omega)), after_4,
      PhiS_pos m c t.val _ (by omega), rows_pred m c t h', show vals m c t = k0_pay3 (rows m c t) (iblk m c 2 t) from rfl]
    iintro ⟨⟨HS, Hg⟩, Ho, ⟨%d0, H0⟩, ⟨%d1, H1⟩, ⟨%d2, H2⟩, H3, ⟨%d4, H4⟩⟩
    iapply (run_second c (grid0.coords t) _ _ _ _ _ _ _ _ _ _ _ _ (fun hh => h ((cond1 t).mp hh)) ((cond2 t).mpr h')
      (iblk m c 2 t) (rows m c t) Set.univ _)
    isplitl [H2]; · iexact H2
    isplitl [H4]; · iexists _; iexact H4
    isplitl [HS]; · iexact HS
    iintro ⟨H2, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]
    · iapply (kept_3 m c t h')
      iexact H3
    iexact H4

theorem defs₀_row (t : Fin cfg0.N) : defs₀ (F := F) .tc cfg0.body (cfg0.bodyArgs t (cfg0.slots t)) = bodyAt0 t := by
  unfold defs₀
  rw [Defs.onTc_tc]

/-- The pipeline's obligation on the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The region begins with the scratch at anything, -/
theorem hin (c : Dev nD) : Pipeline.ΦA spec0 c ⊢ (dats m 0 c).Φ 0 := by
  rw [show (dats m 0 c).Φ 0 = Pipeline.ΦA spec0 c from rfl]

/-- and ends with it at anything. -/
theorem hout (c : Dev nD) : (dats m 0 c).Φ (Fin.last cfg0.N) ⊢ Pipeline.ΦA spec0 c := by
  rw [show (dats m 0 c).Φ (Fin.last cfg0.N) = PhiS m c cfg0.N (Nat.le_refl _) from rfl, PhiA_eq]
  exact PhiS_any m c _ _

set_option backward.isDefEq.respectTransparency.types false in
/-- Every run ends, with the arrays at what the data say and no semaphore left raised. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

/-- The frame: every run ends, the arguments as they began and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.MemKvIdeal.Hand

end
-- ==== Proof.MemKvFrame.lean ====
/-
  The projection of the prompt's memory: the frame of the printed call, from that of the call printed for reading over the extended reals, which is the same program.
-/
module

public import proofs.«01_k».proof.Proof.Gen.MemKv
public import proofs.«01_k».proof.Proof.MemKvIdealFrame

@[expose] public section

noncomputable section

namespace Cert.MemKv.Hand

open Cert.MemKv Cert.MemKv.Gen Idealize.ShloMosaic Idealize.ShloMosaic.TcCoe Idealize.SL Idealize.SL.Sem

variable {F : FTy → Type} [FloatOps F]

/-- The bodies of the two calls are the same. -/
theorem bodies : (defs₀ (F := F)) = Cert.MemKvIdeal.defs₀ (F := F) := by
  unfold defs₀ Cert.MemKvIdeal.defs₀
  refine congrArg Defs.onTc (funext fun l => funext fun a => ?_)
  match l, a with
  | 0, (t, s) => rfl
  | ⟨_ + 1, h⟩, _ => exact absurd h (Nat.not_lt.2 (Nat.le_add_left _ _))

@[inherit_doc bodies] theorem bodies' : (defs (F := F)) = Cert.MemKvIdeal.defs (F := F) :=
  congrArg (Pipeline.defs pcfgs) bodies

/-- The frame: every run ends, the arguments as they began and every semaphore at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [bodies']
  exact Cert.MemKvIdeal.Hand.frame m ρ

end Cert.MemKv.Hand

end
-- ==== Proof.FfnPay.lean ====
/-
  The feed-forward kernel's stored values read at an index over the extended reals: the normalised block
  (`norm_at`), one hidden slab's partial product (`part_at`), the two accumulator stores (`first_at`, `next_at`) and
  the block that is written back (`last_at`).
-/
module

public import proofs.«01_k».proof.Proof.Gen.FfnIdeal.Skeleton
public import Idealize.ShloMosaic.Lib.Pointwise

@[expose] public section

set_option maxRecDepth 16384

noncomputable section

open Idealize.ShloMosaic

namespace Cert.Ffn1k

/-- Entry `k` of a row scaled by the reciprocal root of its mean square, times a gain. -/
def rms (row : Fin 2048 → EReal) (g : EReal) (k : Fin 2048) : EReal :=
  row k * Ideal.rsqrt (Ideal.div (∑ j : Fin 2048, row j * row j) (Ideal.ofBits .f32 0x45000000#32) + Ideal.ofBits .f32 0x358637BD#32) * g

/-- The gated activation of one hidden unit: `u · σ(u) · v`, `u` and `v` the row's products with the unit's columns. -/
def unit (h wg wu : Fin 2048 → EReal) : EReal :=
  (∑ k : Fin 2048, h k * wg k) * Ideal.logistic (∑ k : Fin 2048, h k * wg k) * ∑ k : Fin 2048, h k * wu k

open Cert.FfnIdeal Cert.FfnIdeal.Gen

/-- The stored normalised block at row `r`, column `k`. -/
theorem norm_at (x : FVec Ideal S512x2048 .f32) (g : FVec Ideal S1x2048 .f32) (r : Fin 512) (k : Fin 2048) :
    k0_pay1 (F := Ideal) x g (ix2 r k) = rms (fun j => x (ix2 r j)) (g (ix2 0 k)) k := by
  unfold rms
  pointwise! [k0_pay1]

/-- One hidden slab's partial product at row `r`, column `d`. -/
theorem part_at (h : FVec Ideal S512x2048 .bf16) (wg wu : FVec Ideal S2048x512 .bf16) (wd : FVec Ideal S512x2048 .bf16)
    (r : Fin 512) (d : Fin 2048) :
    k0_pay2 (F := Ideal) h wg wu wd (ix2 r d)
      = ∑ j : Fin 512, unit (fun k => h (ix2 r k)) (fun k => wg (ix2 k j)) (fun k => wu (ix2 k j)) * wd (ix2 j d) := by
  unfold unit
  pointwise! [k0_pay2]

/-- The accumulator's first store is the partial product. -/
theorem first_at (h : FVec Ideal S512x2048 .bf16) (wg wu : FVec Ideal S2048x512 .bf16) (wd : FVec Ideal S512x2048 .bf16)
    (r : Fin 512) (d : Fin 2048) :
    k0_pay3 (F := Ideal) h wg wu wd (ix2 r d) = k0_pay2 (F := Ideal) h wg wu wd (ix2 r d) := by
  unfold k0_pay3
  generalize k0_pay2 (F := Ideal) h wg wu wd = p
  pointwise

/-- A later store adds the partial product to what the accumulator held. -/
theorem next_at (h : FVec Ideal S512x2048 .bf16) (wg wu : FVec Ideal S2048x512 .bf16) (wd : FVec Ideal S512x2048 .bf16)
    (acc : FVec Ideal S512x2048 .f32) (r : Fin 512) (d : Fin 2048) :
    k0_pay4 (F := Ideal) h wg wu wd acc (ix2 r d) = acc (ix2 r d) + k0_pay2 (F := Ideal) h wg wu wd (ix2 r d) := by
  unfold k0_pay4
  generalize k0_pay2 (F := Ideal) h wg wu wd = p
  pointwise

/-- The written block: the residual plus the normalised accumulator. -/
theorem last_at (x acc : FVec Ideal S512x2048 .f32) (g : FVec Ideal S1x2048 .f32) (r : Fin 512) (d : Fin 2048) :
    k0_pay5 (F := Ideal) x acc g (ix2 r d) = x (ix2 r d) + rms (fun j => acc (ix2 r j)) (g (ix2 0 d)) d := by
  unfold rms
  pointwise! [k0_pay5]

end Cert.Ffn1k

end
-- ==== Proof.Rows.lean ====
/-
  Rows normalised by their mean square and multiplied into a weight matrix: the projections the layer takes of its inputs.
-/
module

public import proofs.«01_k».proof.Proof.FfnPay

@[expose] public section

set_option maxRecDepth 16384

noncomputable section

open Idealize.ShloMosaic Idealize.ShloMosaic.TcCoe Idealize.SL.Sem

namespace Cert.Rows

open Cert.Ffn1k

/-- Row `R` of an array, normalised and scaled by the gain, at column `k`. -/
def hid {n : ℕ} (x : FVec Ideal ⟨2, ![n, 2048]⟩ .f32) (g : FVec Ideal ⟨2, ![1, 2048]⟩ .f32) (R : Fin n) (k : Fin 2048) : EReal :=
  rms (fun j => x (ix2 R j)) (g (ix2 0 k)) k

/-- The normalised row's product with column `J` of the one-layer weight. -/
def proj {n d : ℕ} (x : FVec Ideal ⟨2, ![n, 2048]⟩ .f32) (g : FVec Ideal ⟨2, ![1, 2048]⟩ .f32) (w : FVec Ideal ⟨3, ![1, 2048, d]⟩ .f32)
    (R : Fin n) (J : Fin d) : EReal :=
  ∑ k : Fin 2048, hid x g R k * w (ix3 0 k J)

/-- The gated entry: the product with column `J` times the logistic of the product with the column 1024 further on. -/
def glu {n : ℕ} (x : FVec Ideal ⟨2, ![n, 2048]⟩ .f32) (g : FVec Ideal ⟨2, ![1, 2048]⟩ .f32) (w : FVec Ideal ⟨3, ![1, 2048, 11264]⟩ .f32)
    (R : Fin n) (J : Fin 1024) : EReal :=
  proj x g w R ⟨J.val, by omega⟩ * Ideal.logistic (proj x g w R ⟨1024 + J.val, by omega⟩)

/-- Arrays of three axes with equal entries are equal. -/
theorem ext3 {n d e : ℕ} {φ : FTy} {a b : FVec Ideal ⟨3, ![n, d, e]⟩ φ} (h : ∀ (R : Fin n) (k : Fin d) (l : Fin e), a (ix3 R k l) = b (ix3 R k l)) :
    a = b := by
  funext i
  have e : i = ix3 (i 0) (i 1) (i 2) := by
    funext a
    match a with
    | ⟨0, _⟩ => rfl
    | ⟨1, _⟩ => rfl
    | ⟨2, _⟩ => rfl
  rw [e]
  exact h _ _ _

/-- Arrays of two axes with equal entries are equal. -/
theorem ext2 {n d : ℕ} {φ : FTy} {a b : FVec Ideal ⟨2, ![n, d]⟩ φ} (h : ∀ R : Fin n, ∀ k : Fin d, a (ix2 R k) = b (ix2 R k)) : a = b := by
  funext i
  have e : i = ix2 (i 0) (i 1) := by
    funext a
    match a with
    | ⟨0, _⟩ => rfl
    | ⟨1, _⟩ => rfl
  rw [e]
  exact h _ _

end Cert.Rows

end
-- ==== Proof.MemKvValue.lean ====
/-
  The memory projection over the extended reals: what its two results hold, read off its arguments.
-/
module

public import proofs.«01_k».proof.Proof.Rows
public import proofs.«01_k».proof.Proof.MemKvIdealFrame
public import Idealize.ShloMosaic.Lib.Pointwise
public import Idealize.ShloMosaic.Lib.StableHlo.ReadAt
public import Idealize.ShloMosaic.Lib.Tactic

@[expose] public section

set_option maxRecDepth 16384

noncomputable section

open Idealize.ShloMosaic Idealize.ShloMosaic.TcCoe Idealize.SL.Sem

namespace Cert.MemKvIdeal.Hand

open Cert.MemKvIdeal Cert.MemKvIdeal.Gen Cert.Ffn1k

/-- The stored normalised block at row `r`, column `k`. -/
theorem norm_at (x : FVec Ideal S512x2048 .f32) (g : FVec Ideal S1x2048 .f32) (r : Fin 512) (k : Fin 2048) :
    k0_pay1 (F := Ideal) x g (ix2 r k) = rms (fun j => x (ix2 r j)) (g (ix2 0 k)) k := by
  unfold rms
  pointwise! [k0_pay1]

/-- The first stored product at row `r`, column `d`. -/
theorem key_at (h : FVec Ideal S512x2048 .bf16) (w : FVec Ideal S2048x512 .bf16) (r d : Fin 512) :
    k0_pay2 (F := Ideal) h w (ix2 r d) = ∑ k : Fin 2048, h (ix2 r k) * w (ix2 k d) := by
  pointwise! [k0_pay2]

/-- The second stored product at row `r`, column `d`. -/
theorem val_at (h : FVec Ideal S512x2048 .bf16) (w : FVec Ideal S2048x512 .bf16) (r d : Fin 512) :
    k0_pay3 (F := Ideal) h w (ix2 r d) = ∑ k : Fin 2048, h (ix2 r k) * w (ix2 k d) := by
  pointwise! [k0_pay3]

variable (m : (ℓ : Loc nD τ sig) → Buf (Elt Ideal) ℓ) (c : Dev nD)

/-- The memory with its batch and position axes joined. -/
def X : FVec Ideal ⟨2, ![1024, 2048]⟩ .f32 :=
  shapeCast _ (m ((c : Thread nD τ).loc main_arg0) : FVec Ideal S4x256x2048 .f32) shapeCasts_S4x256x2048_S1024x2048
/-- The gain. -/
abbrev G : FVec Ideal ⟨2, ![1, 2048]⟩ .f32 := m ((c : Thread nD τ).loc main_arg1)
/-- The weights. -/
abbrev W : FVec Ideal ⟨3, ![1, 2048, 1024]⟩ .f32 := m ((c : Thread nD τ).loc main_arg2)

/-- The kernel's first operand is the memory with its axes joined. -/
theorem x_at (R : Fin 1024) (k : Fin 2048) : (V m c main_v2 : FVec Ideal S1024x2048 .f32) (ix2 R k) = X m c (ix2 R k) := by
  unfold V X
  after_reads_simp
  try rfl

/-- The gain in the kernel's layout is the argument's row. -/
theorem gain_at (k : Fin 2048) : (V m c main_v4 : FVec Ideal S1x2048 .f32) (ix2 0 k) = G m c (ix2 0 k) := by
  unfold V
  after_reads_at

/-- The weights in the kernel's layout are the argument's one layer. -/
theorem w_at (k : Fin 2048) (j : Fin 1024) : (V m c main_v1 : FVec Ideal S2048x1024 .bf16) (ix2 k j) = W m c (ix3 0 k j) := by
  unfold V
  after_reads_at

/-- Where the windows' blocks lie. -/
theorem places : ∀ t : Fin cfg0.N, win0_0.index t (0 : Fin 2) = t.val / 2 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 2
    ∧ win0_3.index t (0 : Fin 2) = t.val / 2 ∧ win0_3.index t (1 : Fin 2) = 0
    ∧ win0_4.index t (0 : Fin 2) = t.val / 2 ∧ win0_4.index t (1 : Fin 2) = 0 :=
  (by decide +kernel : ∀ t : Fin grid0.N, _)

/-- Row `r` of the input block is row `512 (t / 2) + r` of the memory. -/
theorem rows_at (t : Fin cfg0.N) (r : Fin 512) (k : Fin 2048) (R : Fin 1024) (hR : R.val = 512 * (t.val / 2) + r.val) :
    (iblk m c 0 t : FVec Ideal S512x2048 .f32) (ix2 r k) = X m c (ix2 R k) := by
  obtain ⟨a0, a1, -⟩ := places t
  rw [← x_at m c]
  refine congrArg (V m c main_v2) (funext fun a => Fin.ext ?_)
  match a with
  | ⟨0, _⟩ => show win0_0.index t (0 : Fin 2) * 512 + 1 * r.val = R.val; omega
  | ⟨1, _⟩ => show win0_0.index t (1 : Fin 2) * 2048 + 1 * k.val = k.val; omega

/-- The gain's block is the gain. -/
theorem gain_blk (t : Fin cfg0.N) (k : Fin 2048) : (iblk m c 1 t : FVec Ideal S1x2048 .f32) (ix2 0 k) = G m c (ix2 0 k) := by
  obtain ⟨-, -, a0, a1, -⟩ := places t
  rw [← gain_at m c k]
  refine congrArg (V m c main_v4) (funext fun a => Fin.ext ?_)
  match a with
  | ⟨0, _⟩ => show win0_1.index t (0 : Fin 2) * 1 + 1 * 0 = 0; omega
  | ⟨1, _⟩ => show win0_1.index t (1 : Fin 2) * 2048 + 1 * k.val = k.val; omega

/-- Column `j` of the weights' block is column `512 (t % 2) + j` of the weights. -/
theorem w_blk (t : Fin cfg0.N) (k : Fin 2048) (j : Fin 512) (J : Fin 1024) (hJ : J.val = (t.val % 2) * 512 + j.val) :
    (iblk m c 2 t : FVec Ideal S2048x512 .bf16) (ix2 k j) = W m c (ix3 0 k J) := by
  obtain ⟨-, -, -, -, a0, a1, -⟩ := places t
  rw [← w_at m c k J]
  refine congrArg (V m c main_v1) (funext fun a => Fin.ext ?_)
  match a with
  | ⟨0, _⟩ => show win0_2.index t (0 : Fin 2) * 2048 + 1 * k.val = k.val; omega
  | ⟨1, _⟩ => show win0_2.index t (1 : Fin 2) * 512 + 1 * j.val = J.val; omega

/-- The scratch's rows are the memory's rows normalised. -/
theorem rows_hid (t : Fin cfg0.N) (r : Fin 512) (k : Fin 2048) (R : Fin 1024) (hR : R.val = 512 * (t.val / 2) + r.val) :
    rows m c t (ix2 r k) = Cert.Rows.hid (X m c) (G m c) R k := by
  unfold rows Cert.Rows.hid
  refine (norm_at (iblk m c 0 (top t)) (iblk m c 1 (top t)) r k).trans ?_
  rw [show (fun j => (iblk m c 0 (top t) : FVec Ideal S512x2048 .f32) (ix2 r j)) = fun j => X m c (ix2 R j) from
    funext fun j => rows_at m c (top t) r j R (by rw [hR]; unfold top; dsimp only; omega)]
  exact congrArg (fun z => rms _ z k) (gain_blk m c (top t) k)

/-- The first result's block is the projection onto the first 512 columns. -/
theorem keys_at (t : Fin cfg0.N) (r d : Fin 512) (R : Fin 1024) (hR : R.val = 512 * (t.val / 2) + r.val) :
    keys m c t (ix2 r d) = Cert.Rows.proj (X m c) (G m c) (W m c) R ⟨d.val, by omega⟩ := by
  unfold keys Cert.Rows.proj
  refine (key_at _ _ r d).trans (Finset.sum_congr rfl fun k _ => ?_)
  exact congrArg₂ (· * ·) (rows_hid m c t r k R hR) (w_blk m c (top t) k d _ (by unfold top; dsimp only; omega))

/-- The second result's block, at a second step, is the projection onto the last 512 columns. -/
theorem vals_at (t : Fin cfg0.N) (h : t.val % 2 = 1) (r d : Fin 512) (R : Fin 1024) (hR : R.val = 512 * (t.val / 2) + r.val) :
    vals m c t (ix2 r d) = Cert.Rows.proj (X m c) (G m c) (W m c) R ⟨512 + d.val, by omega⟩ := by
  unfold vals Cert.Rows.proj
  refine (val_at _ _ r d).trans (Finset.sum_congr rfl fun k _ => ?_)
  exact congrArg₂ (· * ·) (rows_hid m c t r k R hR) (w_blk m c t k d _ (by dsimp only; omega))

/-- The results as whole arrays. -/
def KA : FVec Ideal ⟨2, ![1024, 512]⟩ .f32 := fun i => Cert.Rows.proj (X m c) (G m c) (W m c) (i 0) ⟨(i 1).val, by have : (i 1).val < 512 := (i 1).isLt; omega⟩
@[inherit_doc KA] def VA : FVec Ideal ⟨2, ![1024, 512]⟩ .f32 := fun i => Cert.Rows.proj (X m c) (G m c) (W m c) (i 0) ⟨512 + (i 1).val, by have : (i 1).val < 512 := (i 1).isLt; omega⟩

theorem flush_3 : ∀ t : Fin cfg0.N, (cfg0.win 3).flush t = decide (t.val % 2 = 1) :=
  (by decide +kernel : ∀ t : Fin cfg0.N, (cfg0.win 3).flush t = decide (t.val % 2 = 1))

/-- Every index of the result lies in a written block. -/
theorem cover_3 (i : S1024x512.Idx) : ∃ t : Fin cfg0.N, (cfg0.win 3).flush t = true ∧ i ∈ ((cfg0.win 3).blk t).view.set := by
  have h0 : (i 0).val < 1024 := (i 0).isLt
  have h1 : (i 1).val < 512 := (i 1).isLt
  refine ⟨⟨2 * ((i 0).val / 512) + 1, lt_of_lt_of_eq (by omega) N_0.symm⟩, ?_, ?_⟩
  · rw [flush_3]
    exact decide_eq_true (by dsimp only; omega)
  · generalize ht : (⟨2 * ((i 0).val / 512) + 1, lt_of_lt_of_eq (by omega) N_0.symm⟩ : Fin cfg0.N) = t
    have hv : t.val = 2 * ((i 0).val / 512) + 1 := congrArg Fin.val ht.symm
    obtain ⟨-, -, -, -, -, -, a0, a1, -⟩ := places t
    show i ∈ ((View.whole main_v5_0).slice (win0_3.rect t)).set
    rw [View.set_slice_whole, Rect.mem_set_unit]
    intro a
    match a with
    | ⟨0, _⟩ => show win0_3.index t (0 : Fin 2) * 512 ≤ (i 0).val ∧ (i 0).val < win0_3.index t (0 : Fin 2) * 512 + 512; omega
    | ⟨1, _⟩ => show win0_3.index t (1 : Fin 2) * 512 ≤ (i 1).val ∧ (i 1).val < win0_3.index t (1 : Fin 2) * 512 + 512; omega

/-- The result array at the end of the run. -/
theorem final_3 : (dats m 0 c).arrAt 3 cfg0.N = KA m c := by
  refine (dats m 0 c).arrAt_eq_of_cover 3 _ (fun t hf => ?_) (cover_3)
  rw [flush_3, decide_eq_true_eq] at hf
  have hN : t.val < 4 := lt_of_lt_of_eq t.isLt N_0
  obtain ⟨-, -, -, -, -, -, a0, a1, -⟩ := places t
  show (cfg0.win 3).cut (grid0.coords t) ((dats m 0 c).after 3 t) = _
  rw [after_3]
  funext y
  have hy0 : (y 0).val < 512 := (y 0).isLt
  have hy1 : (y 1).val < 512 := (y 1).isLt
  have e0 : (((cfg0.win 3).blk t).view.emb y 0).val = 512 * (t.val / 2) + (y 0).val := by
    show win0_3.index t (0 : Fin 2) * 512 + 1 * (y 0).val = _; omega
  have e1 : (((cfg0.win 3).blk t).view.emb y 1).val = (y 1).val := by
    show win0_3.index t (1 : Fin 2) * 512 + 1 * (y 1).val = _; omega
  have ex : (cfg0.win 3).xinj (grid0.coords t) y = (ix2 ⟨(y 0).val, hy0⟩ ⟨(y 1).val, hy1⟩ : S512x512.Idx) := by
    funext a
    match a with
    | ⟨0, _⟩ => rfl
    | ⟨1, _⟩ => rfl
  show keys m c t ((cfg0.win 3).xinj (grid0.coords t) y) = KA m c (((cfg0.win 3).blk t).view.emb y)
  rw [ex]
  refine (keys_at m c t _ _ ⟨512 * (t.val / 2) + (y 0).val, by omega⟩ rfl).trans ?_
  unfold KA
  exact congrArg₂ (Cert.Rows.proj (X m c) (G m c) (W m c)) (Fin.ext e0.symm) (Fin.ext (by dsimp only; rw [e1]))

theorem flush_4 : ∀ t : Fin cfg0.N, (cfg0.win 4).flush t = decide (t.val % 2 = 1) :=
  (by decide +kernel : ∀ t : Fin cfg0.N, (cfg0.win 4).flush t = decide (t.val % 2 = 1))

/-- Every index of the result lies in a written block. -/
theorem cover_4 (i : S1024x512.Idx) : ∃ t : Fin cfg0.N, (cfg0.win 4).flush t = true ∧ i ∈ ((cfg0.win 4).blk t).view.set := by
  have h0 : (i 0).val < 1024 := (i 0).isLt
  have h1 : (i 1).val < 512 := (i 1).isLt
  refine ⟨⟨2 * ((i 0).val / 512) + 1, lt_of_lt_of_eq (by omega) N_0.symm⟩, ?_, ?_⟩
  · rw [flush_4]
    exact decide_eq_true (by dsimp only; omega)
  · generalize ht : (⟨2 * ((i 0).val / 512) + 1, lt_of_lt_of_eq (by omega) N_0.symm⟩ : Fin cfg0.N) = t
    have hv : t.val = 2 * ((i 0).val / 512) + 1 := congrArg Fin.val ht.symm
    obtain ⟨-, -, -, -, -, -, -, -, a0, a1⟩ := places t
    show i ∈ ((View.whole main_v5_1).slice (win0_4.rect t)).set
    rw [View.set_slice_whole, Rect.mem_set_unit]
    intro a
    match a with
    | ⟨0, _⟩ => show win0_4.index t (0 : Fin 2) * 512 ≤ (i 0).val ∧ (i 0).val < win0_4.index t (0 : Fin 2) * 512 + 512; omega
    | ⟨1, _⟩ => show win0_4.index t (1 : Fin 2) * 512 ≤ (i 1).val ∧ (i 1).val < win0_4.index t (1 : Fin 2) * 512 + 512; omega

/-- The result array at the end of the run. -/
theorem final_4 : (dats m 0 c).arrAt 4 cfg0.N = VA m c := by
  refine (dats m 0 c).arrAt_eq_of_cover 4 _ (fun t hf => ?_) (cover_4)
  rw [flush_4, decide_eq_true_eq] at hf
  have hN : t.val < 4 := lt_of_lt_of_eq t.isLt N_0
  obtain ⟨-, -, -, -, -, -, -, -, a0, a1⟩ := places t
  show (cfg0.win 4).cut (grid0.coords t) ((dats m 0 c).after 4 t) = _
  rw [after_4]
  funext y
  have hy0 : (y 0).val < 512 := (y 0).isLt
  have hy1 : (y 1).val < 512 := (y 1).isLt
  have e0 : (((cfg0.win 4).blk t).view.emb y 0).val = 512 * (t.val / 2) + (y 0).val := by
    show win0_4.index t (0 : Fin 2) * 512 + 1 * (y 0).val = _; omega
  have e1 : (((cfg0.win 4).blk t).view.emb y 1).val = (y 1).val := by
    show win0_4.index t (1 : Fin 2) * 512 + 1 * (y 1).val = _; omega
  have ex : (cfg0.win 4).xinj (grid0.coords t) y = (ix2 ⟨(y 0).val, hy0⟩ ⟨(y 1).val, hy1⟩ : S512x512.Idx) := by
    funext a
    match a with
    | ⟨0, _⟩ => rfl
    | ⟨1, _⟩ => rfl
  show vals m c t ((cfg0.win 4).xinj (grid0.coords t) y) = VA m c (((cfg0.win 4).blk t).view.emb y)
  rw [ex]
  refine (vals_at m c t hf _ _ ⟨512 * (t.val / 2) + (y 0).val, by omega⟩ rfl).trans ?_
  unfold VA
  exact congrArg₂ (Cert.Rows.proj (X m c) (G m c) (W m c)) (Fin.ext e0.symm) (Fin.ext (by dsimp only; rw [e1]))

variable (ρ : Dev nD → PrngReg)

/-- Every run ends with the two results at the projections and the arguments as they began. -/
theorem run : θ_run defs (onTc (τ := τ) (main (F := Ideal))) ⟨m, fun _ => 0, ρ⟩ (fun r => ∀ c : Dev nD,
      r.2.mem ((c.tc : Thread nD τ).loc main_v5_0) = KA m c
      ∧ r.2.mem ((c.tc : Thread nD τ).loc main_v5_1) = VA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 3).trans (final_3 m c), ((h c).1 4).trans (final_4 m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩) (run_main m ρ)

end Cert.MemKvIdeal.Hand

end
-- ==== Proof.MemKvClaim.lean ====
/-
  The memory projection claim: over the extended reals the kernel and the reference compute the same two arrays from the same arguments.
-/
module

public import proofs.«01_k».proof.Defs
public import proofs.«01_k».proof.Proof.MemKvValue
public import proofs.«01_k».proof.Proof.Gen.MemKvRefIdeal.Read
public import Idealize.ShloMosaic.Lib.Quiescent

@[expose] public section

set_option maxRecDepth 16384

noncomputable section

open Idealize.ShloMosaic Idealize.ShloMosaic.TcCoe Idealize.SL.Sem

namespace Cert.MemKv1k

open Cert.MemKvRefIdeal Cert.MemKvRefIdeal.Read

/-- The reference's normalised rows. -/
theorem ref_hid (x : FVec Ideal S4x256x2048 .f32) (g : FVec Ideal ⟨2, ![1, 2048]⟩ .f32) (R : Fin 1024) (k : Fin 2048) :
    val_main_v14 (F := Ideal) x g (ix2 R k) = Cert.Rows.hid (val_main_v0 (F := Ideal) x) g R k := by
  unfold Cert.Rows.hid Cert.Ffn1k.rms
  unfold val_main_v14 val_main_v11 val_main_v10 val_main_v9 val_main_v8 val_main_v6 val_main_v4 val_main_v3 val_main_v2
  generalize val_main_v0 (F := Ideal) x = y
  pointwise! [val_main_v13, val_main_v12, val_main_v7, val_main_v5, val_main_v1, val_main_cst, val_main_cst_0, val_main_cst_1]

/-- The reference's product. -/
theorem ref_proj (x : FVec Ideal S4x256x2048 .f32) (g : FVec Ideal ⟨2, ![1, 2048]⟩ .f32) (w : FVec Ideal ⟨3, ![1, 2048, 1024]⟩ .f32)
    (R : Fin 1024) (J : Fin 1024) :
    val_main_v16 (F := Ideal) x g w (ix2 R J) = Cert.Rows.proj (val_main_v0 (F := Ideal) x) g w R J := by
  unfold Cert.Rows.proj
  have e := fun k => ref_hid x g R k
  revert e
  unfold val_main_v16 val_main_v15
  generalize val_main_v14 (F := Ideal) x g = h
  intro e
  simp only [← e]
  pointwise!

/-- The reference's first result. -/
theorem ref_keys (x : FVec Ideal S4x256x2048 .f32) (g : FVec Ideal ⟨2, ![1, 2048]⟩ .f32) (w : FVec Ideal ⟨3, ![1, 2048, 1024]⟩ .f32)
    (R : Fin 1024) (d : Fin 512) :
    val_main_v17 (F := Ideal) x g w (ix2 R d) = Cert.Rows.proj (val_main_v0 (F := Ideal) x) g w R ⟨d.val, by omega⟩ := by
  refine (val_main_v17_apply (F := Ideal) x g w (ix2 R d)).trans ((congrArg (val_main_v16 (F := Ideal) x g w) ?_).trans (ref_proj x g w R ⟨d.val, by omega⟩))
  funext a
  match a with
  | ⟨0, _⟩ => rfl
  | ⟨1, _⟩ => rfl

/-- The reference's second result. -/
theorem ref_vals (x : FVec Ideal S4x256x2048 .f32) (g : FVec Ideal ⟨2, ![1, 2048]⟩ .f32) (w : FVec Ideal ⟨3, ![1, 2048, 1024]⟩ .f32)
    (R : Fin 1024) (d : Fin 512) :
    val_main_v18 (F := Ideal) x g w (ix2 R d) = Cert.Rows.proj (val_main_v0 (F := Ideal) x) g w R ⟨512 + d.val, by omega⟩ := by
  refine (val_main_v18_apply (F := Ideal) x g w (ix2 R d)).trans ((congrArg (val_main_v16 (F := Ideal) x g w) ?_).trans (ref_proj x g w R ⟨512 + d.val, by omega⟩))
  funext a
  match a with
  | ⟨0, _⟩ => rfl
  | ⟨1, _⟩ => rfl

/-- The reference leaves its arguments and declares no semaphore. -/
theorem ref_frame : Cert.quiescent_MemKvRefIdeal (hMemKvRefIdeal := Cert.MemKvRefIdeal.Gen.facts) := fun m ρ _ =>
  (θ_run Cert.MemKvRefIdeal.defs _ _).mono (fun r h => ⟨fun c => (h c).2.2, Idealize.ShloMosaic.sem_eq_zero_of_no_sems (by decide) r.2⟩)
    (Cert.MemKvRefIdeal.Value.run (F := Ideal) m ρ)

/-- The kernel and the reference agree on equal arguments. -/
theorem algebraic : Cert.algebraic_MemKvIdeal_MemKvRefIdeal (hMemKvIdeal := Cert.MemKvIdeal.Gen.facts) (hMemKvRefIdeal := Cert.MemKvRefIdeal.Gen.facts) := by
  intro m ρ m' ρ' _ hag
  refine ⟨fun c => Cert.MemKvIdeal.Hand.KA m c, fun c => Cert.MemKvIdeal.Hand.VA m c, Cert.MemKvIdeal.Hand.run m ρ, ?_⟩
  refine (θ_run _ _ _).mono (fun _ h c => ?_) (Cert.MemKvRefIdeal.Value.run (F := Ideal) m' ρ')
  obtain ⟨e0, e1, e2⟩ := hag c
  obtain ⟨h0, h1, k0, k1, k2⟩ := h c
  refine ⟨h0.trans ?_, h1.trans ?_, k0, k1, k2⟩
  · refine (val_main_v17_eq (F := Ideal) _ _ _).trans ?_
    rw [e0, e1, e2]
    exact Cert.Rows.ext2 fun R d => ref_keys _ _ _ R d
  · refine (val_main_v18_eq (F := Ideal) _ _ _).trans ?_
    rw [e0, e1, e2]
    exact Cert.Rows.ext2 fun R d => ref_vals _ _ _ R d

end Cert.MemKv1k

end
-- ==== Proof.InProjIdealFrame.lean ====
/-
  The input-projection kernel runs: from any memory it ends, leaves its arguments as they were, and its six results hold, block
  by block, what the kernel stored at the eight steps of each block of rows.
-/
module

public import proofs.«01_k».proof.Proof.Gen.InProjIdeal.Launch
public import proofs.«01_k».proof.Proof.Gen.InProjIdeal.Skeleton
public import proofs.«01_k».proof.Proof.Gen.InProjIdeal.Points
public import proofs.«01_k».proof.Proof.Keep
public import Idealize.ShloMosaic.Lib.WordCmp
public import Idealize.ShloMosaic.Lib.Claim

@[expose] public section

set_option maxRecDepth 16384

noncomputable section

namespace Cert.InProjIdeal.Hand

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The TensorCore buffers of core `c` where the kernel's region begins: the host's casts and reshapes have run. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]
  repeat' constructor

set_option maxHeartbeats 800000 in
/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host writes no argument: `main_arg0` reaches the region as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))

/-- The host writes no argument: `main_arg1` reaches the region as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))

/-- The host writes no argument: `main_arg2` reaches the region as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))

/-- The block of window `w` at point `t`, read off its array where the region begins. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input 0's buffer holds its block at every point, for any data over these arrays whose body leaves it in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl)
      (fun t => by rw [hafter]; unfold Dat.blockOf iblk; rw [hA]; try rfl) t d).trans
    (by unfold Dat.fetched Dat.blockOf iblk; rw [hA]; try rfl)

/-- Input 1's buffer holds its block at every point, for any data over these arrays whose body leaves it in place. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl)
      (fun t => by rw [hafter]; unfold Dat.blockOf iblk; rw [hA]; try rfl) t d).trans
    (by unfold Dat.fetched Dat.blockOf iblk; rw [hA]; try rfl)

/-- Input 2's buffer holds its block at every point, for any data over these arrays whose body leaves it in place. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl)
      (fun t => by rw [hafter]; unfold Dat.blockOf iblk; rw [hA]; try rfl) t d).trans
    (by unfold Dat.fetched Dat.blockOf iblk; rw [hA]; try rfl)

/-- Input 3's buffer holds its block at every point, for any data over these arrays whose body leaves it in place. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl)
      (fun t => by rw [hafter]; unfold Dat.blockOf iblk; rw [hA]; try rfl) t d).trans
    (by unfold Dat.fetched Dat.blockOf iblk; rw [hA]; try rfl)
abbrev ms_0 (t : Fin cfg0.N) : Memref sig .tc .vmem S512x2048 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1x2048 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S2048x512 .bf16 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S2048x512 .bf16 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S512x2048 .bf16 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S4x512x128 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S512x512 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S512x512 .f32 := win0_7.stage (cfg0.slots t 7)
abbrev hs_7 (t : Fin cfg0.N) : (ms_7 t).IsWhole := hstage0_7 ((cfg0.slots t 7).cast nbuf0_7)
abbrev ms_8 (t : Fin cfg0.N) : Memref sig .tc .vmem S512x512 .f32 := win0_8.stage (cfg0.slots t 8)
abbrev hs_8 (t : Fin cfg0.N) : (ms_8 t).IsWhole := hstage0_8 ((cfg0.slots t 8).cast nbuf0_8)
abbrev ms_9 (t : Fin cfg0.N) : Memref sig .tc .vmem S512x512 .bf16 := win0_9.stage (cfg0.slots t 9)
abbrev hs_9 (t : Fin cfg0.N) : (ms_9 t).IsWhole := hstage0_9 ((cfg0.slots t 9).cast nbuf0_9)

/-- A rank-two offset that is zero in both coordinates. -/
theorem off0 : (![0, 0] : Fin 2 → Nat) = fun _ => 0 := funext fun a => by fin_cases a <;> rfl

/-- The four stores of 128 columns each cover the block. -/
theorem slab_cover (p0 p1 p2 p3 : Vec F S1x512x128 .f32) (y : S4x512x128.Idx) :
    ∃ p ∈ [(⟨Rect.unit ![3, 0, 0] S1x512x128.size inb_S4x512x128_S1x512x128_3_0_0, p3⟩ : View.Piece (Elt F) S4x512x128 .f32),
        ⟨Rect.unit ![2, 0, 0] S1x512x128.size inb_S4x512x128_S1x512x128_2_0_0, p2⟩,
        ⟨Rect.unit ![1, 0, 0] S1x512x128.size inb_S4x512x128_S1x512x128_1_0_0, p1⟩,
        ⟨Rect.unit ![0, 0, 0] S1x512x128.size inb_S4x512x128_S1x512x128_0_0_0, p0⟩], y ∈ p.1.set := by
  have h0 : (y 0).val < 4 := (y 0).isLt
  have h1 : (y 1).val < 512 := (y 1).isLt
  have h2 : (y 2).val < 128 := (y 2).isLt
  have key : ∀ (j : ℕ) (inb : ∀ a, (![j, 0, 0] : Fin 3 → ℕ) a + S1x512x128.size a ≤ S4x512x128.size a), (y 0).val = j →
      y ∈ (Rect.unit (s := S4x512x128) ![j, 0, 0] S1x512x128.size inb).set := by
    intro j inb hj
    rw [Rect.mem_set_unit]
    intro a
    match a with
    | ⟨0, _⟩ => show j ≤ (y 0).val ∧ (y 0).val < j + 1; omega
    | ⟨1, _⟩ => show 0 ≤ (y 1).val ∧ (y 1).val < 0 + 512; omega
    | ⟨2, _⟩ => show 0 ≤ (y 2).val ∧ (y 2).val < 0 + 128; omega
  have hc : (y 0).val = 0 ∨ (y 0).val = 1 ∨ (y 0).val = 2 ∨ (y 0).val = 3 := by omega
  rcases hc with h | h | h | h
  · exact ⟨_, List.mem_cons_of_mem _ (List.mem_cons_of_mem _ (List.mem_cons_of_mem _ List.mem_cons_self)), key 0 inb_S4x512x128_S1x512x128_0_0_0 h⟩
  · exact ⟨_, List.mem_cons_of_mem _ (List.mem_cons_of_mem _ List.mem_cons_self), key 1 inb_S4x512x128_S1x512x128_1_0_0 h⟩
  · exact ⟨_, List.mem_cons_of_mem _ List.mem_cons_self, key 2 inb_S4x512x128_S1x512x128_2_0_0 h⟩
  · exact ⟨_, List.mem_cons_self, key 3 inb_S4x512x128_S1x512x128_3_0_0 h⟩

/-- The block the four stores leave. -/
def slabs (h : Vec F S512x2048 .bf16) (w1 w2 : Vec F S2048x512 .bf16) : Vec F S4x512x128 .f32 :=
  View.canon [(⟨Rect.unit ![3, 0, 0] S1x512x128.size inb_S4x512x128_S1x512x128_3_0_0, k0_pay6 h w1 w2⟩ : View.Piece (Elt F) S4x512x128 .f32),
    ⟨Rect.unit ![2, 0, 0] S1x512x128.size inb_S4x512x128_S1x512x128_2_0_0, k0_pay5 h w1 w2⟩,
    ⟨Rect.unit ![1, 0, 0] S1x512x128.size inb_S4x512x128_S1x512x128_1_0_0, k0_pay4 h w1 w2⟩,
    ⟨Rect.unit ![0, 0, 0] S1x512x128.size inb_S4x512x128_S1x512x128_0_0_0, k0_pay3 h w1 w2⟩]

set_option maxHeartbeats 1000000 in
/-- At the first step of a block of rows the kernel stores the normalised rows, reads them back and stores the first half of the
    gated columns. -/
theorem run_0 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S4x512x128 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .bf16) (harg11 : arg11.IsWhole)
    (hc1 : k0_cond1 i = 1#1) (hc2 : k0_cond2 i = 1#1) (hc3 : ¬k0_cond3 i = 1#1) (hc4 : ¬k0_cond4 i = 1#1) (hc5 : ¬k0_cond5 i = 1#1) (hc6 : ¬k0_cond6 i = 1#1)
    (x0 : Vec F S512x2048 .f32) (x1 : Vec F S1x2048 .f32) (x2 : Vec F S2048x512 .bf16) (x3 : Vec F S2048x512 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay1 x0 x1) ∗ owns (c : Thread nD τ) arg7 fullShare (slabs (k0_pay1 x0 x1) x2 x3)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11) K := by
  simp only [cc0_in_proj_eq_skeleton]
  unfold cc0_in_proj_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := harg2.eq_unread hf0
  obtain rfl := harg3.eq_unread hf1
  obtain rfl := harg4.eq_unread hf2
  obtain rfl := harg5.eq_unread hf3
  sl_exec (disch := first | sl_exact hc1 | sl_exact hc2 | sl_exact hc3 | sl_exact hc4 | sl_exact hc5 | sl_exact hc6)
  sl_step
  iapply Hk
  isplitl [H0]
  · iexists _
    isplitr
    swap
    · iexact H0
    ipureintro
    exact harg2.read_unread _
  isplitl [H1]
  · iexists _
    isplitr
    swap
    · iexact H1
    ipureintro
    exact harg3.read_unread _
  isplitl [H2]
  · iexists _
    isplitr
    swap
    · iexact H2
    ipureintro
    exact harg4.read_unread _
  isplitl [H3]
  · iexists _
    isplitr
    swap
    · iexact H3
    ipureintro
    exact harg5.read_unread _
  isplitl [H4]
  · iexists _
    isplitr
    swap
    · iexact H4
    ipureintro
    sl_unfold_words
    rw [Cert.Keep.read_whole _ _ off0]
    simp only [View.readAt_eq_ld, harg2.read_unread, harg3.read_unread, harg4.read_unread, harg5.read_unread,
      View.ld_unit_zero (S := S512x2048) off0, View.ld_unit_zero (S := S1x2048) off0, View.ld_unit_zero (S := S2048x512) off0, View.readCov_unit_zero (S := S512x2048) _ off0]
  iexists _
  isplitr
  swap
  · iexact H5
  ipureintro
  sl_unfold_words
  rw [Cert.Keep.read_cover _ _ _ (slab_cover _ _ _ _)]
  unfold slabs
  simp only [View.readAt_eq_ld, harg2.read_unread, harg3.read_unread, harg4.read_unread, harg5.read_unread,
    View.ld_unit_zero (S := S512x2048) off0, View.ld_unit_zero (S := S1x2048) off0, View.ld_unit_zero (S := S2048x512) off0, View.readCov_unit_zero (S := S512x2048) _ off0]

set_option maxHeartbeats 1000000 in
/-- At the second step it stores the second half of the gated columns. -/
theorem run_1 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S4x512x128 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .bf16) (harg11 : arg11.IsWhole)
    (hc1 : ¬k0_cond1 i = 1#1) (hc2 : k0_cond2 i = 1#1) (hc3 : ¬k0_cond3 i = 1#1) (hc4 : ¬k0_cond4 i = 1#1) (hc5 : ¬k0_cond5 i = 1#1) (hc6 : ¬k0_cond6 i = 1#1)
    (x2 : Vec F S2048x512 .bf16) (x3 : Vec F S2048x512 .bf16) (x4 : Vec F S512x2048 .bf16) (E : Set ℕ) (K : PUnit → sProp 𝕄) :
    iprop(owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg4 fullShare x2 ∗ owns (c : Thread nD τ) arg5 fullShare x3 ∗ owns (c : Thread nD τ) arg6 fullShare x4 ∗ owns (c : Thread nD τ) arg7 fullShare (slabs x4 x2 x3)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11) K := by
  simp only [cc0_in_proj_eq_skeleton]
  unfold cc0_in_proj_skel
  unfold owns
  iintro ⟨⟨%f2, %hf2, H2⟩, ⟨%f3, %hf3, H3⟩, ⟨%f4, %hf4, H4⟩, ⟨%d5, %f5, -, H5⟩, Hk⟩
  obtain rfl := harg4.eq_unread hf2
  obtain rfl := harg5.eq_unread hf3
  obtain rfl := harg6.eq_unread hf4
  sl_exec (disch := first | sl_exact hc1 | sl_exact hc2 | sl_exact hc3 | sl_exact hc4 | sl_exact hc5 | sl_exact hc6)
  sl_step
  iapply Hk
  isplitl [H2]
  · iexists _
    isplitr
    swap
    · iexact H2
    ipureintro
    exact harg4.read_unread _
  isplitl [H3]
  · iexists _
    isplitr
    swap
    · iexact H3
    ipureintro
    exact harg5.read_unread _
  isplitl [H4]
  · iexists _
    isplitr
    swap
    · iexact H4
    ipureintro
    exact harg6.read_unread _
  iexists _
  isplitr
  swap
  · iexact H5
  ipureintro
  sl_unfold_words
  rw [Cert.Keep.read_cover _ _ _ (slab_cover _ _ _ _)]
  unfold slabs
  simp only [View.readAt_eq_ld, harg4.read_unread, harg5.read_unread, harg6.read_unread,
    View.ld_unit_zero (S := S512x2048) off0, View.ld_unit_zero (S := S1x2048) off0, View.ld_unit_zero (S := S2048x512) off0, View.readCov_unit_zero (S := S512x2048) _ off0]

set_option maxHeartbeats 1000000 in
/-- At the three next steps it stores a third of the queries. -/
theorem run_2 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S4x512x128 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .bf16) (harg11 : arg11.IsWhole)
    (hc1 : ¬k0_cond1 i = 1#1) (hc2 : ¬k0_cond2 i = 1#1) (hc3 : k0_cond3 i = 1#1) (hc4 : ¬k0_cond4 i = 1#1) (hc5 : ¬k0_cond5 i = 1#1) (hc6 : ¬k0_cond6 i = 1#1)
    (x2 : Vec F S2048x512 .bf16) (x4 : Vec F S512x2048 .bf16) (E : Set ℕ) (K : PUnit → sProp 𝕄) :
    iprop(owns (c : Thread nD τ) arg4 fullShare x2 ∗ owns (c : Thread nD τ) arg6 fullShare x4 ∗ (∃ d, owns (c : Thread nD τ) arg8 fullShare d)
        ∗ (iprop(owns (c : Thread nD τ) arg4 fullShare x2 ∗ owns (c : Thread nD τ) arg6 fullShare x4 ∗ owns (c : Thread nD τ) arg8 fullShare (k0_pay7 x4 x2)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11) K := by
  simp only [cc0_in_proj_eq_skeleton]
  unfold cc0_in_proj_skel
  unfold owns
  iintro ⟨⟨%f2, %hf2, H2⟩, ⟨%f4, %hf4, H4⟩, ⟨%d6, %f6, -, H6⟩, Hk⟩
  obtain rfl := harg4.eq_unread hf2
  obtain rfl := harg6.eq_unread hf4
  sl_exec (disch := first | sl_exact hc1 | sl_exact hc2 | sl_exact hc3 | sl_exact hc4 | sl_exact hc5 | sl_exact hc6)
  sl_step
  iapply Hk
  isplitl [H2]
  · iexists _
    isplitr
    swap
    · iexact H2
    ipureintro
    exact harg4.read_unread _
  isplitl [H4]
  · iexists _
    isplitr
    swap
    · iexact H4
    ipureintro
    exact harg6.read_unread _
  iexists _
  isplitr
  swap
  · iexact H6
  ipureintro
  sl_unfold_words
  rw [Cert.Keep.read_whole _ _ off0]
  simp only [View.readAt_eq_ld, harg4.read_unread, harg6.read_unread,
    View.ld_unit_zero (S := S512x2048) off0, View.ld_unit_zero (S := S1x2048) off0, View.ld_unit_zero (S := S2048x512) off0, View.readCov_unit_zero (S := S512x2048) _ off0]

set_option maxHeartbeats 1000000 in
/-- At the step after them it stores the keys. -/
theorem run_3 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S4x512x128 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .bf16) (harg11 : arg11.IsWhole)
    (hc1 : ¬k0_cond1 i = 1#1) (hc2 : ¬k0_cond2 i = 1#1) (hc3 : ¬k0_cond3 i = 1#1) (hc4 : k0_cond4 i = 1#1) (hc5 : ¬k0_cond5 i = 1#1) (hc6 : ¬k0_cond6 i = 1#1)
    (x2 : Vec F S2048x512 .bf16) (x4 : Vec F S512x2048 .bf16) (E : Set ℕ) (K : PUnit → sProp 𝕄) :
    iprop(owns (c : Thread nD τ) arg4 fullShare x2 ∗ owns (c : Thread nD τ) arg6 fullShare x4 ∗ (∃ d, owns (c : Thread nD τ) arg9 fullShare d)
        ∗ (iprop(owns (c : Thread nD τ) arg4 fullShare x2 ∗ owns (c : Thread nD τ) arg6 fullShare x4 ∗ owns (c : Thread nD τ) arg9 fullShare (k0_pay8 x4 x2)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11) K := by
  simp only [cc0_in_proj_eq_skeleton]
  unfold cc0_in_proj_skel
  unfold owns
  iintro ⟨⟨%f2, %hf2, H2⟩, ⟨%f4, %hf4, H4⟩, ⟨%d7, %f7, -, H7⟩, Hk⟩
  obtain rfl := harg4.eq_unread hf2
  obtain rfl := harg6.eq_unread hf4
  sl_exec (disch := first | sl_exact hc1 | sl_exact hc2 | sl_exact hc3 | sl_exact hc4 | sl_exact hc5 | sl_exact hc6)
  sl_step
  iapply Hk
  isplitl [H2]
  · iexists _
    isplitr
    swap
    · iexact H2
    ipureintro
    exact harg4.read_unread _
  isplitl [H4]
  · iexists _
    isplitr
    swap
    · iexact H4
    ipureintro
    exact harg6.read_unread _
  iexists _
  isplitr
  swap
  · iexact H7
  ipureintro
  sl_unfold_words
  rw [Cert.Keep.read_whole _ _ off0]
  simp only [View.readAt_eq_ld, harg4.read_unread, harg6.read_unread,
    View.ld_unit_zero (S := S512x2048) off0, View.ld_unit_zero (S := S1x2048) off0, View.ld_unit_zero (S := S2048x512) off0, View.readCov_unit_zero (S := S512x2048) _ off0]

set_option maxHeartbeats 1000000 in
/-- At the next it stores the values. -/
theorem run_4 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S4x512x128 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .bf16) (harg11 : arg11.IsWhole)
    (hc1 : ¬k0_cond1 i = 1#1) (hc2 : ¬k0_cond2 i = 1#1) (hc3 : ¬k0_cond3 i = 1#1) (hc4 : ¬k0_cond4 i = 1#1) (hc5 : k0_cond5 i = 1#1) (hc6 : ¬k0_cond6 i = 1#1)
    (x2 : Vec F S2048x512 .bf16) (x4 : Vec F S512x2048 .bf16) (E : Set ℕ) (K : PUnit → sProp 𝕄) :
    iprop(owns (c : Thread nD τ) arg4 fullShare x2 ∗ owns (c : Thread nD τ) arg6 fullShare x4 ∗ (∃ d, owns (c : Thread nD τ) arg10 fullShare d)
        ∗ (iprop(owns (c : Thread nD τ) arg4 fullShare x2 ∗ owns (c : Thread nD τ) arg6 fullShare x4 ∗ owns (c : Thread nD τ) arg10 fullShare (k0_pay9 x4 x2)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11) K := by
  simp only [cc0_in_proj_eq_skeleton]
  unfold cc0_in_proj_skel
  unfold owns
  iintro ⟨⟨%f2, %hf2, H2⟩, ⟨%f4, %hf4, H4⟩, ⟨%d8, %f8, -, H8⟩, Hk⟩
  obtain rfl := harg4.eq_unread hf2
  obtain rfl := harg6.eq_unread hf4
  sl_exec (disch := first | sl_exact hc1 | sl_exact hc2 | sl_exact hc3 | sl_exact hc4 | sl_exact hc5 | sl_exact hc6)
  sl_step
  iapply Hk
  isplitl [H2]
  · iexists _
    isplitr
    swap
    · iexact H2
    ipureintro
    exact harg4.read_unread _
  isplitl [H4]
  · iexists _
    isplitr
    swap
    · iexact H4
    ipureintro
    exact harg6.read_unread _
  iexists _
  isplitr
  swap
  · iexact H8
  ipureintro
  sl_unfold_words
  rw [Cert.Keep.read_whole _ _ off0]
  simp only [View.readAt_eq_ld, harg4.read_unread, harg6.read_unread,
    View.ld_unit_zero (S := S512x2048) off0, View.ld_unit_zero (S := S1x2048) off0, View.ld_unit_zero (S := S2048x512) off0, View.readCov_unit_zero (S := S512x2048) _ off0]

set_option maxHeartbeats 1000000 in
/-- At the last it stores the queries of the memory. -/
theorem run_5 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S4x512x128 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .bf16) (harg11 : arg11.IsWhole)
    (hc1 : ¬k0_cond1 i = 1#1) (hc2 : ¬k0_cond2 i = 1#1) (hc3 : ¬k0_cond3 i = 1#1) (hc4 : ¬k0_cond4 i = 1#1) (hc5 : ¬k0_cond5 i = 1#1) (hc6 : k0_cond6 i = 1#1)
    (x2 : Vec F S2048x512 .bf16) (x4 : Vec F S512x2048 .bf16) (E : Set ℕ) (K : PUnit → sProp 𝕄) :
    iprop(owns (c : Thread nD τ) arg4 fullShare x2 ∗ owns (c : Thread nD τ) arg6 fullShare x4 ∗ (∃ d, owns (c : Thread nD τ) arg11 fullShare d)
        ∗ (iprop(owns (c : Thread nD τ) arg4 fullShare x2 ∗ owns (c : Thread nD τ) arg6 fullShare x4 ∗ owns (c : Thread nD τ) arg11 fullShare (k0_pay10 x4 x2)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11) K := by
  simp only [cc0_in_proj_eq_skeleton]
  unfold cc0_in_proj_skel
  unfold owns
  iintro ⟨⟨%f2, %hf2, H2⟩, ⟨%f4, %hf4, H4⟩, ⟨%d9, %f9, -, H9⟩, Hk⟩
  obtain rfl := harg4.eq_unread hf2
  obtain rfl := harg6.eq_unread hf4
  sl_exec (disch := first | sl_exact hc1 | sl_exact hc2 | sl_exact hc3 | sl_exact hc4 | sl_exact hc5 | sl_exact hc6)
  sl_step
  iapply Hk
  isplitl [H2]
  · iexists _
    isplitr
    swap
    · iexact H2
    ipureintro
    exact harg4.read_unread _
  isplitl [H4]
  · iexists _
    isplitr
    swap
    · iexact H4
    ipureintro
    exact harg6.read_unread _
  iexists _
  isplitr
  swap
  · iexact H9
  ipureintro
  sl_unfold_words
  rw [Cert.Keep.read_whole _ _ off0]
  simp only [View.readAt_eq_ld, harg4.read_unread, harg6.read_unread,
    View.ld_unit_zero (S := S512x2048) off0, View.ld_unit_zero (S := S1x2048) off0, View.ld_unit_zero (S := S2048x512) off0, View.readCov_unit_zero (S := S512x2048) _ off0]

/-- Step `k` of the block of rows `t` works on. -/
def pt (t : Fin cfg0.N) (k : ℕ) : Fin cfg0.N :=
  ⟨t.val - t.val % 8 + min k 7, by have := t.isLt; have hN : cfg0.N = 128 := N_0; omega⟩

theorem pt_self (t : Fin cfg0.N) (k : ℕ) (h : t.val % 8 = k) : pt t k = t :=
  Fin.ext (by show t.val - t.val % 8 + min k 7 = t.val; omega)
theorem pt_pred (t : Fin cfg0.N) (h : t.val % 8 ≠ 0) (j k : ℕ) (e : min j 7 = min k 7) : pt ⟨t.val - 1, by omega⟩ j = pt t k :=
  Fin.ext (by show t.val - 1 - (t.val - 1) % 8 + min j 7 = t.val - t.val % 8 + min k 7; omega)

/-- The normalised rows of the block. -/
def rows (c : Dev nD) (t : Fin cfg0.N) : Vec F S512x2048 .bf16 := k0_pay1 (iblk m c 0 (pt t 0)) (iblk m c 1 (pt t 0))
/-- The gated columns' block. -/
def us (c : Dev nD) (t : Fin cfg0.N) : Vec F S4x512x128 .f32 :=
  slabs (rows m c t) (iblk m c 2 (pt t (min (t.val % 8) 1))) (iblk m c 3 (pt t (min (t.val % 8) 1)))
/-- The queries' block. -/
def qs (c : Dev nD) (t : Fin cfg0.N) : Vec F S512x512 .f32 := k0_pay7 (rows m c t) (iblk m c 2 (pt t (max 2 (min (t.val % 8) 4))))
/-- The keys' block. -/
def ks (c : Dev nD) (t : Fin cfg0.N) : Vec F S512x512 .f32 := k0_pay8 (rows m c t) (iblk m c 2 (pt t 5))
/-- The values' block. -/
def vs (c : Dev nD) (t : Fin cfg0.N) : Vec F S512x512 .f32 := k0_pay9 (rows m c t) (iblk m c 2 (pt t 6))
/-- The block of the queries of the memory. -/
def xs (c : Dev nD) (t : Fin cfg0.N) : Vec F S512x512 .bf16 := k0_pay10 (rows m c t) (iblk m c 2 (pt t 7))

theorem rows_pred (c : Dev nD) (t : Fin cfg0.N) (h : t.val % 8 ≠ 0) : rows m c ⟨t.val - 1, by omega⟩ = rows m c t := by
  unfold rows
  rw [pt_pred t h 0 0 rfl]
theorem us_pred (c : Dev nD) (t : Fin cfg0.N) (h : 2 ≤ t.val % 8) : us m c ⟨t.val - 1, by omega⟩ = us m c t := by
  unfold us
  rw [rows_pred m c t (by omega), pt_pred t (by omega) _ (min (t.val % 8) 1) (by dsimp only; omega)]
theorem qs_pred (c : Dev nD) (t : Fin cfg0.N) (h : 5 ≤ t.val % 8) : qs m c ⟨t.val - 1, by omega⟩ = qs m c t := by
  unfold qs
  rw [rows_pred m c t (by omega), pt_pred t (by omega) _ (max 2 (min (t.val % 8) 4)) (by dsimp only; omega)]
theorem ks_pred (c : Dev nD) (t : Fin cfg0.N) (h : t.val % 8 ≠ 0) : ks m c ⟨t.val - 1, by omega⟩ = ks m c t := by
  unfold ks
  rw [rows_pred m c t h, pt_pred t h 5 5 rfl]
theorem vs_pred (c : Dev nD) (t : Fin cfg0.N) (h : t.val % 8 ≠ 0) : vs m c ⟨t.val - 1, by omega⟩ = vs m c t := by
  unfold vs
  rw [rows_pred m c t h, pt_pred t h 6 6 rfl]

/-- The steps at which each condition holds. -/
theorem cond1 : ∀ t : Fin cfg0.N, k0_cond1 (grid0.coords t) = 1#1 ↔ t.val % 8 = 0 :=
  (by decide +kernel : ∀ t : Fin grid0.N, k0_cond1 (grid0.coords t) = 1#1 ↔ t.val % 8 = 0)
@[inherit_doc cond1] theorem cond2 : ∀ t : Fin cfg0.N, k0_cond2 (grid0.coords t) = 1#1 ↔ t.val % 8 ≤ 1 :=
  (by decide +kernel : ∀ t : Fin grid0.N, k0_cond2 (grid0.coords t) = 1#1 ↔ t.val % 8 ≤ 1)
@[inherit_doc cond1] theorem cond3 : ∀ t : Fin cfg0.N, k0_cond3 (grid0.coords t) = 1#1 ↔ (2 ≤ t.val % 8 ∧ t.val % 8 ≤ 4) :=
  (by decide +kernel : ∀ t : Fin grid0.N, k0_cond3 (grid0.coords t) = 1#1 ↔ (2 ≤ t.val % 8 ∧ t.val % 8 ≤ 4))
@[inherit_doc cond1] theorem cond4 : ∀ t : Fin cfg0.N, k0_cond4 (grid0.coords t) = 1#1 ↔ t.val % 8 = 5 :=
  (by decide +kernel : ∀ t : Fin grid0.N, k0_cond4 (grid0.coords t) = 1#1 ↔ t.val % 8 = 5)
@[inherit_doc cond1] theorem cond5 : ∀ t : Fin cfg0.N, k0_cond5 (grid0.coords t) = 1#1 ↔ t.val % 8 = 6 :=
  (by decide +kernel : ∀ t : Fin grid0.N, k0_cond5 (grid0.coords t) = 1#1 ↔ t.val % 8 = 6)
@[inherit_doc cond1] theorem cond6 : ∀ t : Fin cfg0.N, k0_cond6 (grid0.coords t) = 1#1 ↔ t.val % 8 = 7 :=
  (by decide +kernel : ∀ t : Fin grid0.N, k0_cond6 (grid0.coords t) = 1#1 ↔ t.val % 8 = 7)

theorem idle_4 : ∀ t : Fin cfg0.N, cfg0.idle 4 (grid0.coords t) = !decide (t.val % 8 = 0) :=
  (by decide +kernel : ∀ t : Fin cfg0.N, cfg0.idle 4 (grid0.coords t) = !decide (t.val % 8 = 0))
theorem flush_4 : ∀ t : Fin cfg0.N, (cfg0.win 4).flush t = decide (t.val % 8 = 7) :=
  (by decide +kernel : ∀ t : Fin cfg0.N, (cfg0.win 4).flush t = decide (t.val % 8 = 7))
theorem fresh_4 (t : Fin cfg0.N) : cfg0.fresh 4 t.val = decide (t.val % 8 = 0) := by
  refine cfg0.fresh_tab 4 (fun n => decide (n % 8 = 0)) rfl (fun t => ?_) t.val (Nat.le_of_lt t.isLt)
  rw [flush_4, show cfg0.idle 4 (cfg0.grid.coords t) = !decide (t.val % 8 = 0) from idle_4 t]
  exact (by decide +kernel : ∀ t : Fin grid0.N, decide ((t.val + 1) % 8 = 0) = (decide (t.val % 8 = 7) || ((!decide (t.val % 8 = 0)) && decide (t.val % 8 = 0)))) t

theorem idle_5 : ∀ t : Fin cfg0.N, cfg0.idle 5 (grid0.coords t) = !decide (t.val % 8 ≤ 1) :=
  (by decide +kernel : ∀ t : Fin cfg0.N, cfg0.idle 5 (grid0.coords t) = !decide (t.val % 8 ≤ 1))
theorem flush_5 : ∀ t : Fin cfg0.N, (cfg0.win 5).flush t = decide (t.val % 8 = 0 ∨ t.val % 8 = 7) :=
  (by decide +kernel : ∀ t : Fin cfg0.N, (cfg0.win 5).flush t = decide (t.val % 8 = 0 ∨ t.val % 8 = 7))
theorem fresh_5 (t : Fin cfg0.N) : cfg0.fresh 5 t.val = decide (t.val % 8 ≤ 1) := by
  refine cfg0.fresh_tab 5 (fun n => decide (n % 8 ≤ 1)) rfl (fun t => ?_) t.val (Nat.le_of_lt t.isLt)
  rw [flush_5, show cfg0.idle 5 (cfg0.grid.coords t) = !decide (t.val % 8 ≤ 1) from idle_5 t]
  exact (by decide +kernel : ∀ t : Fin grid0.N, decide ((t.val + 1) % 8 ≤ 1) = (decide (t.val % 8 = 0 ∨ t.val % 8 = 7) || ((!decide (t.val % 8 ≤ 1)) && decide (t.val % 8 ≤ 1)))) t

theorem idle_6 : ∀ t : Fin cfg0.N, cfg0.idle 6 (grid0.coords t) = !decide (2 ≤ t.val % 8 ∧ t.val % 8 ≤ 4) :=
  (by decide +kernel : ∀ t : Fin cfg0.N, cfg0.idle 6 (grid0.coords t) = !decide (2 ≤ t.val % 8 ∧ t.val % 8 ≤ 4))
theorem flush_6 : ∀ t : Fin cfg0.N, (cfg0.win 6).flush t = decide (t.val % 8 = 2 ∨ t.val % 8 = 3 ∨ t.val % 8 = 7) :=
  (by decide +kernel : ∀ t : Fin cfg0.N, (cfg0.win 6).flush t = decide (t.val % 8 = 2 ∨ t.val % 8 = 3 ∨ t.val % 8 = 7))
theorem fresh_6 (t : Fin cfg0.N) : cfg0.fresh 6 t.val = decide (t.val % 8 ≤ 4) := by
  refine cfg0.fresh_tab 6 (fun n => decide (n % 8 ≤ 4)) rfl (fun t => ?_) t.val (Nat.le_of_lt t.isLt)
  rw [flush_6, show cfg0.idle 6 (cfg0.grid.coords t) = !decide (2 ≤ t.val % 8 ∧ t.val % 8 ≤ 4) from idle_6 t]
  exact (by decide +kernel : ∀ t : Fin grid0.N, decide ((t.val + 1) % 8 ≤ 4) = (decide (t.val % 8 = 2 ∨ t.val % 8 = 3 ∨ t.val % 8 = 7) || ((!decide (2 ≤ t.val % 8 ∧ t.val % 8 ≤ 4)) && decide (t.val % 8 ≤ 4)))) t

theorem idle_7 : ∀ t : Fin cfg0.N, cfg0.idle 7 (grid0.coords t) = !decide (t.val % 8 = 5) :=
  (by decide +kernel : ∀ t : Fin cfg0.N, cfg0.idle 7 (grid0.coords t) = !decide (t.val % 8 = 5))
theorem flush_7 : ∀ t : Fin cfg0.N, (cfg0.win 7).flush t = decide (t.val % 8 = 7) :=
  (by decide +kernel : ∀ t : Fin cfg0.N, (cfg0.win 7).flush t = decide (t.val % 8 = 7))
theorem fresh_7 (t : Fin cfg0.N) : cfg0.fresh 7 t.val = decide (t.val % 8 ≤ 5) := by
  refine cfg0.fresh_tab 7 (fun n => decide (n % 8 ≤ 5)) rfl (fun t => ?_) t.val (Nat.le_of_lt t.isLt)
  rw [flush_7, show cfg0.idle 7 (cfg0.grid.coords t) = !decide (t.val % 8 = 5) from idle_7 t]
  exact (by decide +kernel : ∀ t : Fin grid0.N, decide ((t.val + 1) % 8 ≤ 5) = (decide (t.val % 8 = 7) || ((!decide (t.val % 8 = 5)) && decide (t.val % 8 ≤ 5)))) t

theorem idle_8 : ∀ t : Fin cfg0.N, cfg0.idle 8 (grid0.coords t) = !decide (t.val % 8 = 6) :=
  (by decide +kernel : ∀ t : Fin cfg0.N, cfg0.idle 8 (grid0.coords t) = !decide (t.val % 8 = 6))
theorem flush_8 : ∀ t : Fin cfg0.N, (cfg0.win 8).flush t = decide (t.val % 8 = 7) :=
  (by decide +kernel : ∀ t : Fin cfg0.N, (cfg0.win 8).flush t = decide (t.val % 8 = 7))
theorem fresh_8 (t : Fin cfg0.N) : cfg0.fresh 8 t.val = decide (t.val % 8 ≤ 6) := by
  refine cfg0.fresh_tab 8 (fun n => decide (n % 8 ≤ 6)) rfl (fun t => ?_) t.val (Nat.le_of_lt t.isLt)
  rw [flush_8, show cfg0.idle 8 (cfg0.grid.coords t) = !decide (t.val % 8 = 6) from idle_8 t]
  exact (by decide +kernel : ∀ t : Fin grid0.N, decide ((t.val + 1) % 8 ≤ 6) = (decide (t.val % 8 = 7) || ((!decide (t.val % 8 = 6)) && decide (t.val % 8 ≤ 6)))) t

theorem idle_9 : ∀ t : Fin cfg0.N, cfg0.idle 9 (grid0.coords t) = !decide (t.val % 8 = 7) :=
  (by decide +kernel : ∀ t : Fin cfg0.N, cfg0.idle 9 (grid0.coords t) = !decide (t.val % 8 = 7))
theorem flush_9 : ∀ t : Fin cfg0.N, (cfg0.win 9).flush t = decide (t.val % 8 = 7) :=
  (by decide +kernel : ∀ t : Fin cfg0.N, (cfg0.win 9).flush t = decide (t.val % 8 = 7))
theorem fresh_9 (t : Fin cfg0.N) : cfg0.fresh 9 t.val = decide (t.val % 8 ≤ 7) := by
  refine cfg0.fresh_tab 9 (fun n => decide (n % 8 ≤ 7)) rfl (fun t => ?_) t.val (Nat.le_of_lt t.isLt)
  rw [flush_9, show cfg0.idle 9 (cfg0.grid.coords t) = !decide (t.val % 8 = 7) from idle_9 t]
  exact (by decide +kernel : ∀ t : Fin grid0.N, decide ((t.val + 1) % 8 ≤ 7) = (decide (t.val % 8 = 7) || ((!decide (t.val % 8 = 7)) && decide (t.val % 8 ≤ 7)))) t

/-- The pipeline's data: the arrays as the region finds them, and what each window's buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => rows m c t
    | ⟨5, _⟩ => us m c t
    | ⟨6, _⟩ => qs m c t
    | ⟨7, _⟩ => ks m c t
    | ⟨8, _⟩ => vs m c t
    | ⟨9, _⟩ => xs m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = rows m c t := by dsimp only [dats]
theorem after_5 (c : Dev nD) (t : Fin cfg0.N) : (dats m 0 c).after 5 t = us m c t := by dsimp only [dats]
theorem after_6 (c : Dev nD) (t : Fin cfg0.N) : (dats m 0 c).after 6 t = qs m c t := by dsimp only [dats]
theorem after_7 (c : Dev nD) (t : Fin cfg0.N) : (dats m 0 c).after 7 t = ks m c t := by dsimp only [dats]
theorem after_8 (c : Dev nD) (t : Fin cfg0.N) : (dats m 0 c).after 8 t = vs m c t := by dsimp only [dats]
theorem after_9 (c : Dev nD) (t : Fin cfg0.N) : (dats m 0 c).after 9 t = xs m c t := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d

theorem carry_4 (c : Dev nD) (t : Fin cfg0.N) (_ : t.val ≠ 0) (hi : cfg0.idle 4 (cfg0.grid.coords t) = true)
    (hf : cfg0.fresh 4 t.val = false) : (dats m 0 c).after 4 t = (dats m 0 c).after 4 ⟨t.val - 1, by omega⟩ := by
    rw [idle_4, Bool.not_eq_true', decide_eq_false_iff_not] at hi
    rw [fresh_4, decide_eq_false_iff_not] at hf
    rw [after_4, after_4]
    exact (rows_pred m c t (by omega)).symm

/-- A point that leaves window 4 alone hands its buffer back. -/
theorem kept_4 (c : Dev nD) (t : Fin cfg0.N) (h : ¬(t.val % 8 = 0)) :
    iprop(∃ d, owns (c : Thread nD τ) (ms_4 t) fullShare ((dats m 0 c).before 4 t d)) ⊢ ((dats m 0 c).leavesExact 4 t : sProp 𝕄) :=
  Cert.Keep.kept (dats m 0 c) 4 rfl (fun _ _ => rfl) (carry_4 m c)
    (fun t hi hf => by
      rw [idle_4, Bool.not_eq_true', decide_eq_false_iff_not] at hi
      rw [flush_4, decide_eq_true_eq] at hf
      rw [fresh_4, decide_eq_false_iff_not]
      omega) t (by rw [idle_4, decide_eq_false h]; rfl)

theorem carry_5 (c : Dev nD) (t : Fin cfg0.N) (_ : t.val ≠ 0) (hi : cfg0.idle 5 (cfg0.grid.coords t) = true)
    (hf : cfg0.fresh 5 t.val = false) : (dats m 0 c).after 5 t = (dats m 0 c).after 5 ⟨t.val - 1, by omega⟩ := by
    rw [idle_5, Bool.not_eq_true', decide_eq_false_iff_not] at hi
    rw [fresh_5, decide_eq_false_iff_not] at hf
    rw [after_5, after_5]
    exact (us_pred m c t (by omega)).symm

/-- A point that leaves window 5 alone hands its buffer back. -/
theorem kept_5 (c : Dev nD) (t : Fin cfg0.N) (h : ¬(t.val % 8 ≤ 1)) :
    iprop(∃ d, owns (c : Thread nD τ) (ms_5 t) fullShare ((dats m 0 c).before 5 t d)) ⊢ ((dats m 0 c).leavesExact 5 t : sProp 𝕄) :=
  Cert.Keep.kept (dats m 0 c) 5 rfl (fun _ _ => rfl) (carry_5 m c)
    (fun t hi hf => by
      rw [idle_5, Bool.not_eq_true', decide_eq_false_iff_not] at hi
      rw [flush_5, decide_eq_true_eq] at hf
      rw [fresh_5, decide_eq_false_iff_not]
      omega) t (by rw [idle_5, decide_eq_false h]; rfl)

theorem carry_6 (c : Dev nD) (t : Fin cfg0.N) (_ : t.val ≠ 0) (hi : cfg0.idle 6 (cfg0.grid.coords t) = true)
    (hf : cfg0.fresh 6 t.val = false) : (dats m 0 c).after 6 t = (dats m 0 c).after 6 ⟨t.val - 1, by omega⟩ := by
    rw [idle_6, Bool.not_eq_true', decide_eq_false_iff_not] at hi
    rw [fresh_6, decide_eq_false_iff_not] at hf
    rw [after_6, after_6]
    exact (qs_pred m c t (by omega)).symm

/-- A point that leaves window 6 alone hands its buffer back. -/
theorem kept_6 (c : Dev nD) (t : Fin cfg0.N) (h : ¬(2 ≤ t.val % 8 ∧ t.val % 8 ≤ 4)) :
    iprop(∃ d, owns (c : Thread nD τ) (ms_6 t) fullShare ((dats m 0 c).before 6 t d)) ⊢ ((dats m 0 c).leavesExact 6 t : sProp 𝕄) :=
  Cert.Keep.kept (dats m 0 c) 6 rfl (fun _ _ => rfl) (carry_6 m c)
    (fun t hi hf => by
      rw [idle_6, Bool.not_eq_true', decide_eq_false_iff_not] at hi
      rw [flush_6, decide_eq_true_eq] at hf
      rw [fresh_6, decide_eq_false_iff_not]
      omega) t (by rw [idle_6, decide_eq_false h]; rfl)

theorem carry_7 (c : Dev nD) (t : Fin cfg0.N) (_ : t.val ≠ 0) (hi : cfg0.idle 7 (cfg0.grid.coords t) = true)
    (hf : cfg0.fresh 7 t.val = false) : (dats m 0 c).after 7 t = (dats m 0 c).after 7 ⟨t.val - 1, by omega⟩ := by
    rw [idle_7, Bool.not_eq_true', decide_eq_false_iff_not] at hi
    rw [fresh_7, decide_eq_false_iff_not] at hf
    rw [after_7, after_7]
    exact (ks_pred m c t (by omega)).symm

/-- A point that leaves window 7 alone hands its buffer back. -/
theorem kept_7 (c : Dev nD) (t : Fin cfg0.N) (h : ¬(t.val % 8 = 5)) :
    iprop(∃ d, owns (c : Thread nD τ) (ms_7 t) fullShare ((dats m 0 c).before 7 t d)) ⊢ ((dats m 0 c).leavesExact 7 t : sProp 𝕄) :=
  Cert.Keep.kept (dats m 0 c) 7 rfl (fun _ _ => rfl) (carry_7 m c)
    (fun t hi hf => by
      rw [idle_7, Bool.not_eq_true', decide_eq_false_iff_not] at hi
      rw [flush_7, decide_eq_true_eq] at hf
      rw [fresh_7, decide_eq_false_iff_not]
      omega) t (by rw [idle_7, decide_eq_false h]; rfl)

theorem carry_8 (c : Dev nD) (t : Fin cfg0.N) (_ : t.val ≠ 0) (hi : cfg0.idle 8 (cfg0.grid.coords t) = true)
    (hf : cfg0.fresh 8 t.val = false) : (dats m 0 c).after 8 t = (dats m 0 c).after 8 ⟨t.val - 1, by omega⟩ := by
    rw [idle_8, Bool.not_eq_true', decide_eq_false_iff_not] at hi
    rw [fresh_8, decide_eq_false_iff_not] at hf
    rw [after_8, after_8]
    exact (vs_pred m c t (by omega)).symm

/-- A point that leaves window 8 alone hands its buffer back. -/
theorem kept_8 (c : Dev nD) (t : Fin cfg0.N) (h : ¬(t.val % 8 = 6)) :
    iprop(∃ d, owns (c : Thread nD τ) (ms_8 t) fullShare ((dats m 0 c).before 8 t d)) ⊢ ((dats m 0 c).leavesExact 8 t : sProp 𝕄) :=
  Cert.Keep.kept (dats m 0 c) 8 rfl (fun _ _ => rfl) (carry_8 m c)
    (fun t hi hf => by
      rw [idle_8, Bool.not_eq_true', decide_eq_false_iff_not] at hi
      rw [flush_8, decide_eq_true_eq] at hf
      rw [fresh_8, decide_eq_false_iff_not]
      omega) t (by rw [idle_8, decide_eq_false h]; rfl)

theorem carry_9 (c : Dev nD) (t : Fin cfg0.N) (_ : t.val ≠ 0) (hi : cfg0.idle 9 (cfg0.grid.coords t) = true)
    (hf : cfg0.fresh 9 t.val = false) : (dats m 0 c).after 9 t = (dats m 0 c).after 9 ⟨t.val - 1, by omega⟩ := by
    rw [fresh_9, decide_eq_false_iff_not] at hf
    omega

/-- A point that leaves window 9 alone hands its buffer back. -/
theorem kept_9 (c : Dev nD) (t : Fin cfg0.N) (h : ¬(t.val % 8 = 7)) :
    iprop(∃ d, owns (c : Thread nD τ) (ms_9 t) fullShare ((dats m 0 c).before 9 t d)) ⊢ ((dats m 0 c).leavesExact 9 t : sProp 𝕄) :=
  Cert.Keep.kept (dats m 0 c) 9 rfl (fun _ _ => rfl) (carry_9 m c)
    (fun t hi hf => by
      rw [idle_9, Bool.not_eq_true', decide_eq_false_iff_not] at hi
      rw [flush_9, decide_eq_true_eq] at hf
      rw [fresh_9, decide_eq_false_iff_not]
      omega) t (by rw [idle_9, decide_eq_false h]; rfl)

/-- After the first step of a block of rows the kernel finds the normalised rows where it stored them. -/
theorem before_4 (c : Dev nD) (t : Fin cfg0.N) (h : t.val % 8 ≠ 0) (d) : (dats m 0 c).before 4 t d = rows m c t := by
  rw [(dats m 0 c).before_out_traj 4 rfl (fun _ _ => rfl) (carry_4 m c) t.val t rfl d, if_neg (by rw [fresh_4, decide_eq_true_eq]; exact h),
    after_4, rows_pred m c t h]

/-- The rows, left alone, are handed back. -/
theorem rows_kept (c : Dev nD) (t : Fin cfg0.N) (h : t.val % 8 ≠ 0) :
    owns (c : Thread nD τ) (ms_4 t) fullShare (rows m c t) ⊢ ((dats m 0 c).leavesExact 4 t : sProp 𝕄) := by
  have e := kept_4 m c t h
  rw [show (fun d => (owns (c : Thread nD τ) (ms_4 t) fullShare ((dats m 0 c).before 4 t d) : sProp 𝕄))
    = fun _ => owns (c : Thread nD τ) (ms_4 t) fullShare (rows m c t) from funext fun d => by rw [before_4 m c t h]] at e
  iintro H
  iapply e
  iexists (rows m c t)
  iexact H

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t)

set_option maxHeartbeats 4000000 in
/-- The body at a point, case by case of the step. -/
theorem sound_0 (c : Dev nD) (t : Fin cfg0.N) (h : t.val % 8 = 0) :
    bodyPre m c t ⊢ wp frame (wpE (defs₀ (F := F)) Variants.none c none) Set.univ (bodyAt0 t) (fun _ => bodyPost m c t) := by
  have e0 : rows m c t = k0_pay1 (iblk m c 0 t) (iblk m c 1 t) := by unfold rows; rw [pt_self t 0 h]
  have e1 : us m c t = slabs (k0_pay1 (iblk m c 0 t) (iblk m c 1 t)) (iblk m c 2 t) (iblk m c 3 t) := by unfold us; rw [e0, pt_self t (min (t.val % 8) 1) (by omega)]
  unfold bodyPre bodyPost bodyAt0
  simp only [before_0, before_1, before_2, before_3]
  rw [show (dats m 0 c).owesAt () t.succ = (dats m 0 c).owesAt () t.castSucc from rfl,
    show (dats m 0 c).Φ t.succ = (dats m 0 c).Φ t.castSucc from rfl,
    Cert.Keep.stored (dats m 0 c) 0 t rfl, Cert.Keep.stored (dats m 0 c) 1 t rfl, Cert.Keep.stored (dats m 0 c) 2 t rfl, Cert.Keep.stored (dats m 0 c) 3 t rfl, after_0, after_1, after_2, after_3,
    Cert.Keep.stored (dats m 0 c) 4 t (by rw [idle_4, decide_eq_true (by omega)]; rfl), after_4,
    Cert.Keep.stored (dats m 0 c) 5 t (by rw [idle_5, decide_eq_true (by omega)]; rfl), after_5, e1, e0]
  iintro ⟨HΦ, Ho, ⟨%d0, H0⟩, ⟨%d1, H1⟩, ⟨%d2, H2⟩, ⟨%d3, H3⟩, ⟨%d4, H4⟩, ⟨%d5, H5⟩, H6, H7, H8, H9⟩
  iapply (run_0 c (grid0.coords t) _ _ _ _ _ _ _ _ _ _ _ _ _ _ _ _ _ _ _ _ ((cond1 t).mpr (by omega)) ((cond2 t).mpr (by omega)) (fun hh => by have := (cond3 t).mp hh; omega) (fun hh => by have := (cond4 t).mp hh; omega) (fun hh => by have := (cond5 t).mp hh; omega) (fun hh => by have := (cond6 t).mp hh; omega)
    (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (kept_6 m c t (by omega)); iexact H6
  isplitl [H7]; · iapply (kept_7 m c t (by omega)); iexact H7
  isplitl [H8]; · iapply (kept_8 m c t (by omega)); iexact H8
  iapply (kept_9 m c t (by omega)); iexact H9

set_option maxHeartbeats 4000000 in
/-- The body at a point, case by case of the step. -/
theorem sound_1 (c : Dev nD) (t : Fin cfg0.N) (h : t.val % 8 = 1) :
    bodyPre m c t ⊢ wp frame (wpE (defs₀ (F := F)) Variants.none c none) Set.univ (bodyAt0 t) (fun _ => bodyPost m c t) := by
  have e0 : us m c t = slabs (rows m c t) (iblk m c 2 t) (iblk m c 3 t) := by unfold us; rw [pt_self t (min (t.val % 8) 1) (by omega)]
  unfold bodyPre bodyPost bodyAt0
  simp only [before_0, before_1, before_2, before_3, before_4 m c t (show t.val % 8 ≠ 0 by omega)]
  rw [show (dats m 0 c).owesAt () t.succ = (dats m 0 c).owesAt () t.castSucc from rfl,
    show (dats m 0 c).Φ t.succ = (dats m 0 c).Φ t.castSucc from rfl,
    Cert.Keep.stored (dats m 0 c) 0 t rfl, Cert.Keep.stored (dats m 0 c) 1 t rfl, Cert.Keep.stored (dats m 0 c) 2 t rfl, Cert.Keep.stored (dats m 0 c) 3 t rfl, after_0, after_1, after_2, after_3,
    Cert.Keep.stored (dats m 0 c) 5 t (by rw [idle_5, decide_eq_true (by omega)]; rfl), after_5, e0]
  iintro ⟨HΦ, Ho, ⟨%d0, H0⟩, ⟨%d1, H1⟩, ⟨%d2, H2⟩, ⟨%d3, H3⟩, ⟨%d4, H4⟩, ⟨%d5, H5⟩, H6, H7, H8, H9⟩
  iapply (run_1 c (grid0.coords t) _ _ _ _ _ _ _ _ _ _ _ _ _ _ _ _ _ _ _ _ (fun hh => by have := (cond1 t).mp hh; omega) ((cond2 t).mpr (by omega)) (fun hh => by have := (cond3 t).mp hh; omega) (fun hh => by have := (cond4 t).mp hh; omega) (fun hh => by have := (cond5 t).mp hh; omega) (fun hh => by have := (cond6 t).mp hh; omega)
    (iblk m c 2 t) (iblk m c 3 t) (rows m c t) Set.univ _)
  isplitl [H2]; · iexact H2
  isplitl [H3]; · iexact H3
  isplitl [H4]; · iexact H4
  isplitl [H5]; · iexists _; iexact H5
  iintro ⟨H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iapply (rows_kept m c t (show t.val % 8 ≠ 0 by omega)); iexact H4
  isplitl [H5]; · iexact H5
  isplitl [H6]; · iapply (kept_6 m c t (by omega)); iexact H6
  isplitl [H7]; · iapply (kept_7 m c t (by omega)); iexact H7
  isplitl [H8]; · iapply (kept_8 m c t (by omega)); iexact H8
  iapply (kept_9 m c t (by omega)); iexact H9

set_option maxHeartbeats 4000000 in
/-- The body at a point, case by case of the step. -/
theorem sound_2 (c : Dev nD) (t : Fin cfg0.N) (h : 2 ≤ t.val % 8 ∧ t.val % 8 ≤ 4) :
    bodyPre m c t ⊢ wp frame (wpE (defs₀ (F := F)) Variants.none c none) Set.univ (bodyAt0 t) (fun _ => bodyPost m c t) := by
  have e0 : qs m c t = k0_pay7 (rows m c t) (iblk m c 2 t) := by unfold qs; rw [pt_self t (max 2 (min (t.val % 8) 4)) (by omega)]
  unfold bodyPre bodyPost bodyAt0
  simp only [before_0, before_1, before_2, before_3, before_4 m c t (show t.val % 8 ≠ 0 by omega)]
  rw [show (dats m 0 c).owesAt () t.succ = (dats m 0 c).owesAt () t.castSucc from rfl,
    show (dats m 0 c).Φ t.succ = (dats m 0 c).Φ t.castSucc from rfl,
    Cert.Keep.stored (dats m 0 c) 0 t rfl, Cert.Keep.stored (dats m 0 c) 1 t rfl, Cert.Keep.stored (dats m 0 c) 2 t rfl, Cert.Keep.stored (dats m 0 c) 3 t rfl, after_0, after_1, after_2, after_3,
    Cert.Keep.stored (dats m 0 c) 6 t (by rw [idle_6, decide_eq_true (by omega)]; rfl), after_6, e0]
  iintro ⟨HΦ, Ho, ⟨%d0, H0⟩, ⟨%d1, H1⟩, ⟨%d2, H2⟩, ⟨%d3, H3⟩, ⟨%d4, H4⟩, H5, ⟨%d6, H6⟩, H7, H8, H9⟩
  iapply (run_2 c (grid0.coords t) _ _ _ _ _ _ _ _ _ _ _ _ _ _ _ _ _ _ _ _ (fun hh => by have := (cond1 t).mp hh; omega) (fun hh => by have := (cond2 t).mp hh; omega) ((cond3 t).mpr (by omega)) (fun hh => by have := (cond4 t).mp hh; omega) (fun hh => by have := (cond5 t).mp hh; omega) (fun hh => by have := (cond6 t).mp hh; omega)
    (iblk m c 2 t) (rows m c t) Set.univ _)
  isplitl [H2]; · iexact H2
  isplitl [H4]; · iexact H4
  isplitl [H6]; · iexists _; iexact H6
  iintro ⟨H2, H4, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iapply (rows_kept m c t (show t.val % 8 ≠ 0 by omega)); iexact H4
  isplitl [H5]; · iapply (kept_5 m c t (by omega)); iexact H5
  isplitl [H6]; · iexact H6
  isplitl [H7]; · iapply (kept_7 m c t (by omega)); iexact H7
  isplitl [H8]; · iapply (kept_8 m c t (by omega)); iexact H8
  iapply (kept_9 m c t (by omega)); iexact H9

set_option maxHeartbeats 4000000 in
/-- The body at a point, case by case of the step. -/
theorem sound_3 (c : Dev nD) (t : Fin cfg0.N) (h : t.val % 8 = 5) :
    bodyPre m c t ⊢ wp frame (wpE (defs₀ (F := F)) Variants.none c none) Set.univ (bodyAt0 t) (fun _ => bodyPost m c t) := by
  have e0 : ks m c t = k0_pay8 (rows m c t) (iblk m c 2 t) := by unfold ks; rw [pt_self t 5 h]
  unfold bodyPre bodyPost bodyAt0
  simp only [before_0, before_1, before_2, before_3, before_4 m c t (show t.val % 8 ≠ 0 by omega)]
  rw [show (dats m 0 c).owesAt () t.succ = (dats m 0 c).owesAt () t.castSucc from rfl,
    show (dats m 0 c).Φ t.succ = (dats m 0 c).Φ t.castSucc from rfl,
    Cert.Keep.stored (dats m 0 c) 0 t rfl, Cert.Keep.stored (dats m 0 c) 1 t rfl, Cert.Keep.stored (dats m 0 c) 2 t rfl, Cert.Keep.stored (dats m 0 c) 3 t rfl, after_0, after_1, after_2, after_3,
    Cert.Keep.stored (dats m 0 c) 7 t (by rw [idle_7, decide_eq_true (by omega)]; rfl), after_7, e0]
  iintro ⟨HΦ, Ho, ⟨%d0, H0⟩, ⟨%d1, H1⟩, ⟨%d2, H2⟩, ⟨%d3, H3⟩, ⟨%d4, H4⟩, H5, H6, ⟨%d7, H7⟩, H8, H9⟩
  iapply (run_3 c (grid0.coords t) _ _ _ _ _ _ _ _ _ _ _ _ _ _ _ _ _ _ _ _ (fun hh => by have := (cond1 t).mp hh; omega) (fun hh => by have := (cond2 t).mp hh; omega) (fun hh => by have := (cond3 t).mp hh; omega) ((cond4 t).mpr (by omega)) (fun hh => by have := (cond5 t).mp hh; omega) (fun hh => by have := (cond6 t).mp hh; omega)
    (iblk m c 2 t) (rows m c t) Set.univ _)
  isplitl [H2]; · iexact H2
  isplitl [H4]; · iexact H4
  isplitl [H7]; · iexists _; iexact H7
  iintro ⟨H2, H4, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iapply (rows_kept m c t (show t.val % 8 ≠ 0 by omega)); iexact H4
  isplitl [H5]; · iapply (kept_5 m c t (by omega)); iexact H5
  isplitl [H6]; · iapply (kept_6 m c t (by omega)); iexact H6
  isplitl [H7]; · iexact H7
  isplitl [H8]; · iapply (kept_8 m c t (by omega)); iexact H8
  iapply (kept_9 m c t (by omega)); iexact H9

set_option maxHeartbeats 4000000 in
/-- The body at a point, case by case of the step. -/
theorem sound_4 (c : Dev nD) (t : Fin cfg0.N) (h : t.val % 8 = 6) :
    bodyPre m c t ⊢ wp frame (wpE (defs₀ (F := F)) Variants.none c none) Set.univ (bodyAt0 t) (fun _ => bodyPost m c t) := by
  have e0 : vs m c t = k0_pay9 (rows m c t) (iblk m c 2 t) := by unfold vs; rw [pt_self t 6 h]
  unfold bodyPre bodyPost bodyAt0
  simp only [before_0, before_1, before_2, before_3, before_4 m c t (show t.val % 8 ≠ 0 by omega)]
  rw [show (dats m 0 c).owesAt () t.succ = (dats m 0 c).owesAt () t.castSucc from rfl,
    show (dats m 0 c).Φ t.succ = (dats m 0 c).Φ t.castSucc from rfl,
    Cert.Keep.stored (dats m 0 c) 0 t rfl, Cert.Keep.stored (dats m 0 c) 1 t rfl, Cert.Keep.stored (dats m 0 c) 2 t rfl, Cert.Keep.stored (dats m 0 c) 3 t rfl, after_0, after_1, after_2, after_3,
    Cert.Keep.stored (dats m 0 c) 8 t (by rw [idle_8, decide_eq_true (by omega)]; rfl), after_8, e0]
  iintro ⟨HΦ, Ho, ⟨%d0, H0⟩, ⟨%d1, H1⟩, ⟨%d2, H2⟩, ⟨%d3, H3⟩, ⟨%d4, H4⟩, H5, H6, H7, ⟨%d8, H8⟩, H9⟩
  iapply (run_4 c (grid0.coords t) _ _ _ _ _ _ _ _ _ _ _ _ _ _ _ _ _ _ _ _ (fun hh => by have := (cond1 t).mp hh; omega) (fun hh => by have := (cond2 t).mp hh; omega) (fun hh => by have := (cond3 t).mp hh; omega) (fun hh => by have := (cond4 t).mp hh; omega) ((cond5 t).mpr (by omega)) (fun hh => by have := (cond6 t).mp hh; omega)
    (iblk m c 2 t) (rows m c t) Set.univ _)
  isplitl [H2]; · iexact H2
  isplitl [H4]; · iexact H4
  isplitl [H8]; · iexists _; iexact H8
  iintro ⟨H2, H4, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iapply (rows_kept m c t (show t.val % 8 ≠ 0 by omega)); iexact H4
  isplitl [H5]; · iapply (kept_5 m c t (by omega)); iexact H5
  isplitl [H6]; · iapply (kept_6 m c t (by omega)); iexact H6
  isplitl [H7]; · iapply (kept_7 m c t (by omega)); iexact H7
  isplitl [H8]; · iexact H8
  iapply (kept_9 m c t (by omega)); iexact H9

set_option maxHeartbeats 4000000 in
/-- The body at a point, case by case of the step. -/
theorem sound_5 (c : Dev nD) (t : Fin cfg0.N) (h : t.val % 8 = 7) :
    bodyPre m c t ⊢ wp frame (wpE (defs₀ (F := F)) Variants.none c none) Set.univ (bodyAt0 t) (fun _ => bodyPost m c t) := by
  have e0 : xs m c t = k0_pay10 (rows m c t) (iblk m c 2 t) := by unfold xs; rw [pt_self t 7 h]
  unfold bodyPre bodyPost bodyAt0
  simp only [before_0, before_1, before_2, before_3, before_4 m c t (show t.val % 8 ≠ 0 by omega)]
  rw [show (dats m 0 c).owesAt () t.succ = (dats m 0 c).owesAt () t.castSucc from rfl,
    show (dats m 0 c).Φ t.succ = (dats m 0 c).Φ t.castSucc from rfl,
    Cert.Keep.stored (dats m 0 c) 0 t rfl, Cert.Keep.stored (dats m 0 c) 1 t rfl, Cert.Keep.stored (dats m 0 c) 2 t rfl, Cert.Keep.stored (dats m 0 c) 3 t rfl, after_0, after_1, after_2, after_3,
    Cert.Keep.stored (dats m 0 c) 9 t (by rw [idle_9, decide_eq_true (by omega)]; rfl), after_9, e0]
  iintro ⟨HΦ, Ho, ⟨%d0, H0⟩, ⟨%d1, H1⟩, ⟨%d2, H2⟩, ⟨%d3, H3⟩, ⟨%d4, H4⟩, H5, H6, H7, H8, ⟨%d9, H9⟩⟩
  iapply (run_5 c (grid0.coords t) _ _ _ _ _ _ _ _ _ _ _ _ _ _ _ _ _ _ _ _ (fun hh => by have := (cond1 t).mp hh; omega) (fun hh => by have := (cond2 t).mp hh; omega) (fun hh => by have := (cond3 t).mp hh; omega) (fun hh => by have := (cond4 t).mp hh; omega) (fun hh => by have := (cond5 t).mp hh; omega) ((cond6 t).mpr (by omega))
    (iblk m c 2 t) (rows m c t) Set.univ _)
  isplitl [H2]; · iexact H2
  isplitl [H4]; · iexact H4
  isplitl [H9]; · iexists _; iexact H9
  iintro ⟨H2, H4, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iapply (rows_kept m c t (show t.val % 8 ≠ 0 by omega)); iexact H4
  isplitl [H5]; · iapply (kept_5 m c t (by omega)); iexact H5
  isplitl [H6]; · iapply (kept_6 m c t (by omega)); iexact H6
  isplitl [H7]; · iapply (kept_7 m c t (by omega)); iexact H7
  isplitl [H8]; · iapply (kept_8 m c t (by omega)); iexact H8
  iexact H9

/-- The body at any point. -/
theorem sound_body (c : Dev nD) (t : Fin cfg0.N) :
    bodyPre m c t ⊢ wp frame (wpE (defs₀ (F := F)) Variants.none c none) Set.univ (bodyAt0 t) (fun _ => bodyPost m c t) := by
  have hc : t.val % 8 = 0 ∨ t.val % 8 = 1 ∨ (2 ≤ t.val % 8 ∧ t.val % 8 ≤ 4) ∨ t.val % 8 = 5 ∨ t.val % 8 = 6 ∨ t.val % 8 = 7 := by omega
  rcases hc with h | h | h | h | h | h
  · exact sound_0 m c t h
  · exact sound_1 m c t h
  · exact sound_2 m c t h
  · exact sound_3 m c t h
  · exact sound_4 m c t h
  · exact sound_5 m c t h

/-- The region begins and ends with nothing of its own beside the windows. -/
theorem hin (c : Dev nD) : Pipeline.ΦA spec0 c ⊢ (dats m 0 c).Φ 0 := by
  rw [show (dats m 0 c).Φ 0 = Pipeline.ΦA spec0 c from rfl]
@[inherit_doc hin] theorem hout (c : Dev nD) : (dats m 0 c).Φ (Fin.last cfg0.N) ⊢ Pipeline.ΦA spec0 c := by
  rw [show (dats m 0 c).Φ (Fin.last cfg0.N) = Pipeline.ΦA spec0 c from rfl]

theorem defs₀_row (t : Fin cfg0.N) : defs₀ (F := F) .tc cfg0.body (cfg0.bodyArgs t (cfg0.slots t)) = bodyAt0 t := by
  unfold defs₀
  rw [Defs.onTc_tc]

/-- The pipeline's obligation on the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every run ends, with the arrays at what the data say and no semaphore left raised. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ w _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

/-- The frame: every run ends, the arguments as they began and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.InProjIdeal.Hand

end
-- ==== Proof.InProjFrame.lean ====
/-
  The prompt projections: the frame of the printed call, from that of the call printed for reading over the extended reals, which is the same program.
-/
module

public import proofs.«01_k».proof.Proof.Gen.InProj
public import proofs.«01_k».proof.Proof.InProjIdealFrame

@[expose] public section

noncomputable section

namespace Cert.InProj.Hand

open Cert.InProj Cert.InProj.Gen Idealize.ShloMosaic Idealize.ShloMosaic.TcCoe Idealize.SL Idealize.SL.Sem

variable {F : FTy → Type} [FloatOps F]

/-- The bodies of the two calls are the same. -/
theorem bodies : (defs₀ (F := F)) = Cert.InProjIdeal.defs₀ (F := F) := by
  unfold defs₀ Cert.InProjIdeal.defs₀
  refine congrArg Defs.onTc (funext fun l => funext fun a => ?_)
  match l, a with
  | 0, (t, s) => rfl
  | ⟨_ + 1, h⟩, _ => exact absurd h (Nat.not_lt.2 (Nat.le_add_left _ _))

@[inherit_doc bodies] theorem bodies' : (defs (F := F)) = Cert.InProjIdeal.defs (F := F) :=
  congrArg (Pipeline.defs pcfgs) bodies

/-- The frame: every run ends, the arguments as they began and every semaphore at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [bodies']
  exact Cert.InProjIdeal.Hand.frame m ρ

end Cert.InProj.Hand

end
-- ==== Proof.InProjValue.lean ====
/-
  The prompt projections of the input over the extended reals: what the six results hold, read off the arguments.
-/
module

public import proofs.«01_k».proof.Proof.Rows
public import proofs.«01_k».proof.Proof.InProjIdealFrame
public import Idealize.ShloMosaic.Lib.Pointwise
public import Idealize.ShloMosaic.Lib.StableHlo.ReadAt
public import Idealize.ShloMosaic.Lib.Tactic

@[expose] public section

set_option maxRecDepth 16384

noncomputable section

open Idealize.ShloMosaic Idealize.ShloMosaic.TcCoe Idealize.SL.Sem

namespace Cert.InProjIdeal.Hand

open Cert.InProjIdeal Cert.InProjIdeal.Gen Cert.Ffn1k

/-- The stored normalised block at row `r`, column `k`. -/
theorem norm_at (x : FVec Ideal S512x2048 .f32) (g : FVec Ideal S1x2048 .f32) (r : Fin 512) (k : Fin 2048) :
    k0_pay1 (F := Ideal) x g (ix2 r k) = rms (fun j => x (ix2 r j)) (g (ix2 0 k)) k := by
  unfold rms
  pointwise! [k0_pay1]

/-- The gated product at row `r`, column `d`. -/
theorem glu_at (h : FVec Ideal S512x2048 .bf16) (w1 w2 : FVec Ideal S2048x512 .bf16) (r : Fin 512) (d : Fin 512) :
    k0_pay2 (F := Ideal) h w1 w2 (ix2 r d)
      = (∑ k : Fin 2048, h (ix2 r k) * w1 (ix2 k d)) * Ideal.logistic (∑ k : Fin 2048, h (ix2 r k) * w2 (ix2 k d)) := by
  pointwise! [k0_pay2]

/-- The stored product of the queries at row `r`, column `d`. -/
theorem mm_at0 (h : FVec Ideal S512x2048 .bf16) (w : FVec Ideal S2048x512 .bf16) (r : Fin 512) (d : Fin 512) :
    k0_pay7 (F := Ideal) h w (ix2 r d) = ∑ k : Fin 2048, h (ix2 r k) * w (ix2 k d) := by
  pointwise! [k0_pay7]

/-- The stored product of the keys at row `r`, column `d`. -/
theorem mm_at1 (h : FVec Ideal S512x2048 .bf16) (w : FVec Ideal S2048x512 .bf16) (r : Fin 512) (d : Fin 512) :
    k0_pay8 (F := Ideal) h w (ix2 r d) = ∑ k : Fin 2048, h (ix2 r k) * w (ix2 k d) := by
  pointwise! [k0_pay8]

/-- The stored product of the values at row `r`, column `d`. -/
theorem mm_at2 (h : FVec Ideal S512x2048 .bf16) (w : FVec Ideal S2048x512 .bf16) (r : Fin 512) (d : Fin 512) :
    k0_pay9 (F := Ideal) h w (ix2 r d) = ∑ k : Fin 2048, h (ix2 r k) * w (ix2 k d) := by
  pointwise! [k0_pay9]

/-- The stored product of the memory queries at row `r`, column `d`. -/
theorem mm_at3 (h : FVec Ideal S512x2048 .bf16) (w : FVec Ideal S2048x512 .bf16) (r : Fin 512) (d : Fin 512) :
    k0_pay10 (F := Ideal) h w (ix2 r d) = ∑ k : Fin 2048, h (ix2 r k) * w (ix2 k d) := by
  pointwise! [k0_pay10]

/-- Store 0 of the gated columns is 128 columns of them. -/
theorem slab_0 (h : FVec Ideal S512x2048 .bf16) (w1 w2 : FVec Ideal S2048x512 .bf16) (r : Fin 512) (l : Fin 128) :
    k0_pay3 (F := Ideal) h w1 w2 (ix3 0 r l) = k0_pay2 (F := Ideal) h w1 w2 (ix2 r ⟨0 + l.val, by omega⟩) := by
  unfold k0_pay3
  generalize k0_pay2 (F := Ideal) h w1 w2 = y
  pointwise!

/-- Store 1 of the gated columns is 128 columns of them. -/
theorem slab_1 (h : FVec Ideal S512x2048 .bf16) (w1 w2 : FVec Ideal S2048x512 .bf16) (r : Fin 512) (l : Fin 128) :
    k0_pay4 (F := Ideal) h w1 w2 (ix3 0 r l) = k0_pay2 (F := Ideal) h w1 w2 (ix2 r ⟨128 + l.val, by omega⟩) := by
  unfold k0_pay4
  generalize k0_pay2 (F := Ideal) h w1 w2 = y
  pointwise!

/-- Store 2 of the gated columns is 128 columns of them. -/
theorem slab_2 (h : FVec Ideal S512x2048 .bf16) (w1 w2 : FVec Ideal S2048x512 .bf16) (r : Fin 512) (l : Fin 128) :
    k0_pay5 (F := Ideal) h w1 w2 (ix3 0 r l) = k0_pay2 (F := Ideal) h w1 w2 (ix2 r ⟨256 + l.val, by omega⟩) := by
  unfold k0_pay5
  generalize k0_pay2 (F := Ideal) h w1 w2 = y
  pointwise!

/-- Store 3 of the gated columns is 128 columns of them. -/
theorem slab_3 (h : FVec Ideal S512x2048 .bf16) (w1 w2 : FVec Ideal S2048x512 .bf16) (r : Fin 512) (l : Fin 128) :
    k0_pay6 (F := Ideal) h w1 w2 (ix3 0 r l) = k0_pay2 (F := Ideal) h w1 w2 (ix2 r ⟨384 + l.val, by omega⟩) := by
  unfold k0_pay6
  generalize k0_pay2 (F := Ideal) h w1 w2 = y
  pointwise!

theorem ix3_eq (x : S1x512x128.Idx) : x = ix3 0 (x 1) (x 2) := by
  funext a
  match a with
  | ⟨0, _⟩ => exact Fin.ext (by show (x 0).val = 0; have h : (x 0).val < 1 := (x 0).isLt; omega)
  | ⟨1, _⟩ => rfl
  | ⟨2, _⟩ => rfl

/-- The block the four stores leave, at slab `j`, row `r`, column `l`. -/
theorem slabs_at (h : FVec Ideal S512x2048 .bf16) (w1 w2 : FVec Ideal S2048x512 .bf16) (j : Fin 4) (r : Fin 512) (l : Fin 128) :
    slabs (F := Ideal) h w1 w2 (ix3 j r l) = k0_pay2 (F := Ideal) h w1 w2 (ix2 r ⟨128 * j.val + l.val, by omega⟩) := by
  unfold slabs
  refine View.canon_apply_of_pieces (Val := Elt Ideal) (S := S4x512x128) (e := .f32) (fun y : S4x512x128.Idx => k0_pay2 (F := Ideal) h w1 w2 (ix2 (y 1)
      ⟨128 * (y 0).val + (y 2).val, by have a0 : (y 0).val < 4 := (y 0).isLt; have a2 : (y 2).val < 128 := (y 2).isLt; omega⟩)) _ ?_ (ix3 j r l) (slab_cover _ _ _ _ _)
  simp only [List.forall_mem_cons]
  refine ⟨?_, ?_, ?_, ?_, fun p hp => absurd hp List.not_mem_nil⟩
  · intro x
    refine (congrArg (k0_pay6 (F := Ideal) h w1 w2) (ix3_eq x)).trans ((slab_3 h w1 w2 (x 1) (x 2)).trans (congrArg (k0_pay2 (F := Ideal) h w1 w2) (funext fun a => Fin.ext ?_)))
    match a with
    | ⟨0, _⟩ => show (x 1).val = 0 + 1 * (x 1).val; omega
    | ⟨1, _⟩ => show 384 + (x 2).val = 128 * (3 + 1 * (x 0).val) + (0 + 1 * (x 2).val); have a0 : (x 0).val < 1 := (x 0).isLt; omega
  · intro x
    refine (congrArg (k0_pay5 (F := Ideal) h w1 w2) (ix3_eq x)).trans ((slab_2 h w1 w2 (x 1) (x 2)).trans (congrArg (k0_pay2 (F := Ideal) h w1 w2) (funext fun a => Fin.ext ?_)))
    match a with
    | ⟨0, _⟩ => show (x 1).val = 0 + 1 * (x 1).val; omega
    | ⟨1, _⟩ => show 256 + (x 2).val = 128 * (2 + 1 * (x 0).val) + (0 + 1 * (x 2).val); have a0 : (x 0).val < 1 := (x 0).isLt; omega
  · intro x
    refine (congrArg (k0_pay4 (F := Ideal) h w1 w2) (ix3_eq x)).trans ((slab_1 h w1 w2 (x 1) (x 2)).trans (congrArg (k0_pay2 (F := Ideal) h w1 w2) (funext fun a => Fin.ext ?_)))
    match a with
    | ⟨0, _⟩ => show (x 1).val = 0 + 1 * (x 1).val; omega
    | ⟨1, _⟩ => show 128 + (x 2).val = 128 * (1 + 1 * (x 0).val) + (0 + 1 * (x 2).val); have a0 : (x 0).val < 1 := (x 0).isLt; omega
  · intro x
    refine (congrArg (k0_pay3 (F := Ideal) h w1 w2) (ix3_eq x)).trans ((slab_0 h w1 w2 (x 1) (x 2)).trans (congrArg (k0_pay2 (F := Ideal) h w1 w2) (funext fun a => Fin.ext ?_)))
    match a with
    | ⟨0, _⟩ => show (x 1).val = 0 + 1 * (x 1).val; omega
    | ⟨1, _⟩ => show 0 + (x 2).val = 128 * (0 + 1 * (x 0).val) + (0 + 1 * (x 2).val); have a0 : (x 0).val < 1 := (x 0).isLt; omega

variable (m : (ℓ : Loc nD τ sig) → Buf (Elt Ideal) ℓ) (c : Dev nD)

/-- The input with its batch and position axes joined. -/
def X : FVec Ideal ⟨2, ![8192, 2048]⟩ .f32 :=
  shapeCast _ (m ((c : Thread nD τ).loc main_arg0) : FVec Ideal S4x2048x2048 .f32) shapeCasts_S4x2048x2048_S8192x2048
/-- The gain. -/
abbrev G : FVec Ideal ⟨2, ![1, 2048]⟩ .f32 := m ((c : Thread nD τ).loc main_arg1)
/-- The weights. -/
abbrev W : FVec Ideal ⟨3, ![1, 2048, 11264]⟩ .f32 := m ((c : Thread nD τ).loc main_arg2)

/-- The kernel's first operand is the input with its axes joined. -/
theorem x_at (R : Fin 8192) (k : Fin 2048) : (V m c main_v0 : FVec Ideal S8192x2048 .f32) (ix2 R k) = X m c (ix2 R k) := by
  unfold V X
  after_reads_simp
  try rfl

/-- The gain in the kernel's layout is the argument's row. -/
theorem gain_at (k : Fin 2048) : (V m c main_v4 : FVec Ideal S1x2048 .f32) (ix2 0 k) = G m c (ix2 0 k) := by
  unfold V
  after_reads_at

/-- The weights in the kernel's layout are the argument's one layer. -/
theorem w_at (k : Fin 2048) (j : Fin 11264) : (V m c main_v2 : FVec Ideal S2048x11264 .bf16) (ix2 k j) = W m c (ix3 0 k j) := by
  unfold V
  after_reads_at

/-- Where the windows' blocks lie. -/
theorem place_0 : ∀ t : Fin cfg0.N, win0_0.index t (0 : Fin 2) = t.val / 8 ∧ win0_0.index t (1 : Fin 2) = 0 :=
  (by decide +kernel : ∀ t : Fin grid0.N, _)
@[inherit_doc place_0] theorem place_1 : ∀ t : Fin cfg0.N, win0_1.index t (0 : Fin 2) = 0 ∧ win0_1.index t (1 : Fin 2) = 0 :=
  (by decide +kernel : ∀ t : Fin grid0.N, _)
@[inherit_doc place_0] theorem place_2 : ∀ t : Fin cfg0.N, win0_2.index t (0 : Fin 2) = 0
    ∧ (t.val % 8 < 2 → win0_2.index t (1 : Fin 2) = t.val % 8) ∧ (2 ≤ t.val % 8 → win0_2.index t (1 : Fin 2) = t.val % 8 + 2) :=
  (by decide +kernel : ∀ t : Fin grid0.N, _)
@[inherit_doc place_0] theorem place_3 : ∀ t : Fin cfg0.N, win0_3.index t (0 : Fin 2) = 0 ∧ win0_3.index t (1 : Fin 2) = min (t.val % 8) 1 + 2 :=
  (by decide +kernel : ∀ t : Fin grid0.N, _)
@[inherit_doc place_0] theorem place_4 : ∀ t : Fin cfg0.N, win0_4.index t (0 : Fin 2) = t.val / 8 ∧ win0_4.index t (1 : Fin 2) = 0 :=
  (by decide +kernel : ∀ t : Fin grid0.N, _)
@[inherit_doc place_0] theorem place_6 : ∀ t : Fin cfg0.N, win0_6.index t (0 : Fin 2) = t.val / 8 ∧ win0_6.index t (1 : Fin 2) = max 2 (min (t.val % 8) 4) - 2 :=
  (by decide +kernel : ∀ t : Fin grid0.N, _)
@[inherit_doc place_0] theorem place_7 : ∀ t : Fin cfg0.N, win0_7.index t (0 : Fin 2) = t.val / 8 ∧ win0_7.index t (1 : Fin 2) = 0 :=
  (by decide +kernel : ∀ t : Fin grid0.N, _)
@[inherit_doc place_0] theorem place_8 : ∀ t : Fin cfg0.N, win0_8.index t (0 : Fin 2) = t.val / 8 ∧ win0_8.index t (1 : Fin 2) = 0 :=
  (by decide +kernel : ∀ t : Fin grid0.N, _)
@[inherit_doc place_0] theorem place_9 : ∀ t : Fin cfg0.N, win0_9.index t (0 : Fin 2) = t.val / 8 ∧ win0_9.index t (1 : Fin 2) = 0 :=
  (by decide +kernel : ∀ t : Fin grid0.N, _)
@[inherit_doc place_0] theorem place_5 : ∀ t : Fin cfg0.N, win0_5.index t (0 : Fin 3) = min (t.val % 8) 1 ∧ win0_5.index t (1 : Fin 3) = t.val / 8
    ∧ win0_5.index t (2 : Fin 3) = 0 :=
  (by decide +kernel : ∀ t : Fin grid0.N, _)

/-- Row `r` of the input block is row `512 (t / 8) + r` of the input. -/
theorem rows_at (t : Fin cfg0.N) (r : Fin 512) (k : Fin 2048) (R : Fin 8192) (hR : R.val = 512 * (t.val / 8) + r.val) :
    (iblk m c 0 t : FVec Ideal S512x2048 .f32) (ix2 r k) = X m c (ix2 R k) := by
  obtain ⟨a0, a1⟩ := place_0 t
  rw [← x_at m c]
  refine congrArg (V m c main_v0) (funext fun a => Fin.ext ?_)
  match a with
  | ⟨0, _⟩ => show win0_0.index t (0 : Fin 2) * 512 + 1 * r.val = R.val; omega
  | ⟨1, _⟩ => show win0_0.index t (1 : Fin 2) * 2048 + 1 * k.val = k.val; omega

/-- The gain's block is the gain. -/
theorem gain_blk (t : Fin cfg0.N) (k : Fin 2048) : (iblk m c 1 t : FVec Ideal S1x2048 .f32) (ix2 0 k) = G m c (ix2 0 k) := by
  obtain ⟨a0, a1⟩ := place_1 t
  rw [← gain_at m c k]
  refine congrArg (V m c main_v4) (funext fun a => Fin.ext ?_)
  match a with
  | ⟨0, _⟩ => show win0_1.index t (0 : Fin 2) * 1 + 1 * 0 = 0; omega
  | ⟨1, _⟩ => show win0_1.index t (1 : Fin 2) * 2048 + 1 * k.val = k.val; omega

/-- A column of block 1 of the weights is a column of the weights. -/
theorem w_blk2 (t : Fin cfg0.N) (k : Fin 2048) (j : Fin 512) (J : Fin 11264) (hJ : J.val = win0_2.index t (1 : Fin 2) * 512 + j.val) :
    (iblk m c 2 t : FVec Ideal S2048x512 .bf16) (ix2 k j) = W m c (ix3 0 k J) := by
  have a0 := (place_2 t).1
  rw [← w_at m c k J]
  refine congrArg (V m c main_v2) (funext fun a => Fin.ext ?_)
  match a with
  | ⟨0, _⟩ => show win0_2.index t (0 : Fin 2) * 2048 + 1 * k.val = k.val; omega
  | ⟨1, _⟩ => show win0_2.index t (1 : Fin 2) * 512 + 1 * j.val = J.val; omega

/-- A column of block 2 of the weights is a column of the weights. -/
theorem w_blk3 (t : Fin cfg0.N) (k : Fin 2048) (j : Fin 512) (J : Fin 11264) (hJ : J.val = win0_3.index t (1 : Fin 2) * 512 + j.val) :
    (iblk m c 3 t : FVec Ideal S2048x512 .bf16) (ix2 k j) = W m c (ix3 0 k J) := by
  have a0 := (place_3 t).1
  rw [← w_at m c k J]
  refine congrArg (V m c main_v2) (funext fun a => Fin.ext ?_)
  match a with
  | ⟨0, _⟩ => show win0_3.index t (0 : Fin 2) * 2048 + 1 * k.val = k.val; omega
  | ⟨1, _⟩ => show win0_3.index t (1 : Fin 2) * 512 + 1 * j.val = J.val; omega

theorem pt_val (t : Fin cfg0.N) (k : ℕ) (hk : k < 8) : (pt t k).val % 8 = k ∧ (pt t k).val / 8 = t.val / 8 := by
  have e : (pt t k).val = t.val - t.val % 8 + min k 7 := rfl
  omega

/-- The stored rows are the input's rows normalised. -/
theorem rows_hid (t : Fin cfg0.N) (r : Fin 512) (k : Fin 2048) (R : Fin 8192) (hR : R.val = 512 * (t.val / 8) + r.val) :
    rows m c t (ix2 r k) = Cert.Rows.hid (X m c) (G m c) R k := by
  have hp := pt_val t 0 (by omega)
  unfold rows Cert.Rows.hid
  refine (norm_at (iblk m c 0 (pt t 0)) (iblk m c 1 (pt t 0)) r k).trans ?_
  rw [show (fun j => (iblk m c 0 (pt t 0) : FVec Ideal S512x2048 .f32) (ix2 r j)) = fun j => X m c (ix2 R j) from
    funext fun j => rows_at m c (pt t 0) r j R (by omega)]
  exact congrArg (fun z => rms _ z k) (gain_blk m c (pt t 0) k)

/-- The stored rows' product with a block of the weights is the projection onto the block's columns. -/
theorem prod_at (t u : Fin cfg0.N) (r : Fin 512) (d : Fin 512) (R : Fin 8192) (hR : R.val = 512 * (t.val / 8) + r.val) (J : Fin 11264)
    (hJ : J.val = win0_2.index u (1 : Fin 2) * 512 + d.val) :
    ∑ k : Fin 2048, rows m c t (ix2 r k) * (iblk m c 2 u : FVec Ideal S2048x512 .bf16) (ix2 k d) = Cert.Rows.proj (X m c) (G m c) (W m c) R J :=
  Finset.sum_congr rfl fun k _ => congrArg₂ (· * ·) (rows_hid m c t r k R hR) (w_blk2 m c u k d J hJ)

@[inherit_doc prod_at] theorem prod3_at (t u : Fin cfg0.N) (r : Fin 512) (d : Fin 512) (R : Fin 8192) (hR : R.val = 512 * (t.val / 8) + r.val) (J : Fin 11264)
    (hJ : J.val = win0_3.index u (1 : Fin 2) * 512 + d.val) :
    ∑ k : Fin 2048, rows m c t (ix2 r k) * (iblk m c 3 u : FVec Ideal S2048x512 .bf16) (ix2 k d) = Cert.Rows.proj (X m c) (G m c) (W m c) R J :=
  Finset.sum_congr rfl fun k _ => congrArg₂ (· * ·) (rows_hid m c t r k R hR) (w_blk3 m c u k d J hJ)

/-- The gated block holds the gated projections. -/
theorem gated_at (t : Fin cfg0.N) (r : Fin 512) (d : Fin 512) (R : Fin 8192) (hR : R.val = 512 * (t.val / 8) + r.val) (J : Fin 1024)
    (hJ : J.val = min (t.val % 8) 1 * 512 + d.val) :
    k0_pay2 (F := Ideal) (rows m c t) (iblk m c 2 (pt t (min (t.val % 8) 1))) (iblk m c 3 (pt t (min (t.val % 8) 1))) (ix2 r d)
      = Cert.Rows.glu (X m c) (G m c) (W m c) R J := by
  have hp := pt_val t (min (t.val % 8) 1) (by omega)
  have h2 := (place_2 (pt t (min (t.val % 8) 1))).2.1 (by omega)
  have h3 := (place_3 (pt t (min (t.val % 8) 1))).2
  unfold Cert.Rows.glu
  refine (glu_at _ _ _ r d).trans ?_
  exact congrArg₂ (fun a b => a * Ideal.logistic b) (prod_at m c t _ r d R hR _ (by dsimp only; omega)) (prod3_at m c t _ r d R hR _ (by dsimp only; omega))

/-- The block of the queries holds the projections onto their columns. -/
theorem qs_at (t : Fin cfg0.N) (r : Fin 512) (d : Fin 512) (R : Fin 8192) (hR : R.val = 512 * (t.val / 8) + r.val) (J : Fin 11264)
    (hJ : J.val = 2048 + ((max 2 (min (t.val % 8) 4) - 2) * 512 + d.val)) :
    qs m c t (ix2 r d) = Cert.Rows.proj (X m c) (G m c) (W m c) R J := by
  have hp := pt_val t (max 2 (min (t.val % 8) 4)) (by omega)
  have h2 := (place_2 (pt t (max 2 (min (t.val % 8) 4)))).2.2 (by omega)
  unfold qs
  exact (mm_at0 _ _ r d).trans (prod_at m c t _ r d R hR J (by omega))

/-- The block of the keys holds the projections onto their columns. -/
theorem ks_at (t : Fin cfg0.N) (r : Fin 512) (d : Fin 512) (R : Fin 8192) (hR : R.val = 512 * (t.val / 8) + r.val) (J : Fin 11264)
    (hJ : J.val = 3584 + (d.val)) :
    ks m c t (ix2 r d) = Cert.Rows.proj (X m c) (G m c) (W m c) R J := by
  have hp := pt_val t (5) (by omega)
  have h2 := (place_2 (pt t (5))).2.2 (by omega)
  unfold ks
  exact (mm_at1 _ _ r d).trans (prod_at m c t _ r d R hR J (by omega))

/-- The block of the values holds the projections onto their columns. -/
theorem vs_at (t : Fin cfg0.N) (r : Fin 512) (d : Fin 512) (R : Fin 8192) (hR : R.val = 512 * (t.val / 8) + r.val) (J : Fin 11264)
    (hJ : J.val = 4096 + (d.val)) :
    vs m c t (ix2 r d) = Cert.Rows.proj (X m c) (G m c) (W m c) R J := by
  have hp := pt_val t (6) (by omega)
  have h2 := (place_2 (pt t (6))).2.2 (by omega)
  unfold vs
  exact (mm_at2 _ _ r d).trans (prod_at m c t _ r d R hR J (by omega))

/-- The block of the memory queries holds the projections onto their columns. -/
theorem xs_at (t : Fin cfg0.N) (r : Fin 512) (d : Fin 512) (R : Fin 8192) (hR : R.val = 512 * (t.val / 8) + r.val) (J : Fin 11264)
    (hJ : J.val = 4608 + (d.val)) :
    xs m c t (ix2 r d) = Cert.Rows.proj (X m c) (G m c) (W m c) R J := by
  have hp := pt_val t (7) (by omega)
  have h2 := (place_2 (pt t (7))).2.2 (by omega)
  unfold xs
  exact (mm_at3 _ _ r d).trans (prod_at m c t _ r d R hR J (by omega))

/-- The results as whole arrays. -/
def HA : FVec Ideal ⟨2, ![8192, 2048]⟩ .bf16 := fun i => Cert.Rows.hid (X m c) (G m c) (i 0) (i 1)
@[inherit_doc HA] def UA : FVec Ideal ⟨3, ![8, 8192, 128]⟩ .f32 := fun i => Cert.Rows.glu (X m c) (G m c) (W m c) (i 1)
  ⟨128 * (i 0).val + (i 2).val, by have a0 : (i 0).val < 8 := (i 0).isLt; have a2 : (i 2).val < 128 := (i 2).isLt; omega⟩
@[inherit_doc HA] def QA : FVec Ideal ⟨2, ![8192, 1536]⟩ .f32 := fun i => Cert.Rows.proj (X m c) (G m c) (W m c) (i 0)
  ⟨2048 + (i 1).val, by have : (i 1).val < 1536 := (i 1).isLt; omega⟩
@[inherit_doc HA] def KA : FVec Ideal ⟨2, ![8192, 512]⟩ .f32 := fun i => Cert.Rows.proj (X m c) (G m c) (W m c) (i 0)
  ⟨3584 + (i 1).val, by have : (i 1).val < 512 := (i 1).isLt; omega⟩
@[inherit_doc HA] def VA : FVec Ideal ⟨2, ![8192, 512]⟩ .f32 := fun i => Cert.Rows.proj (X m c) (G m c) (W m c) (i 0)
  ⟨4096 + (i 1).val, by have : (i 1).val < 512 := (i 1).isLt; omega⟩
@[inherit_doc HA] def XA : FVec Ideal ⟨2, ![8192, 512]⟩ .bf16 := fun i => Cert.Rows.proj (X m c) (G m c) (W m c) (i 0)
  ⟨4608 + (i 1).val, by have : (i 1).val < 512 := (i 1).isLt; omega⟩

/-- Every index of the result lies in a written block. -/
theorem cover_4 (i : S8192x2048.Idx) : ∃ t : Fin cfg0.N, (cfg0.win 4).flush t = true ∧ i ∈ ((cfg0.win 4).blk t).view.set := by
  have h0 : (i 0).val < 8192 := (i 0).isLt
  have h1 : (i 1).val < 2048 := (i 1).isLt
  have hlt : 8 * ((i 0).val / 512) + 7 < cfg0.N := lt_of_lt_of_eq (by omega) N_0.symm
  refine ⟨⟨8 * ((i 0).val / 512) + 7, hlt⟩, ?_, ?_⟩
  · rw [flush_4]
    exact decide_eq_true (by dsimp only; omega)
  · generalize ht : (⟨8 * ((i 0).val / 512) + 7, hlt⟩ : Fin cfg0.N) = t
    have hv : t.val = 8 * ((i 0).val / 512) + 7 := congrArg Fin.val ht.symm
    obtain ⟨a0, a1⟩ := place_4 t
    show i ∈ ((View.whole main_v5_0).slice (win0_4.rect t)).set
    rw [View.set_slice_whole, Rect.mem_set_unit]
    intro a
    match a with
    | ⟨0, _⟩ => show win0_4.index t (0 : Fin 2) * 512 ≤ (i 0).val ∧ (i 0).val < win0_4.index t (0 : Fin 2) * 512 + 512; omega
    | ⟨1, _⟩ => show win0_4.index t (1 : Fin 2) * 2048 ≤ (i 1).val ∧ (i 1).val < win0_4.index t (1 : Fin 2) * 2048 + 2048; omega

/-- The result array at the end of the run. -/
theorem final_4 : (dats m 0 c).arrAt 4 cfg0.N = HA m c := by
  refine (dats m 0 c).arrAt_eq_of_cover 4 _ (fun t hf => ?_) (cover_4)
  rw [flush_4, decide_eq_true_eq] at hf
  have hN : t.val < 128 := lt_of_lt_of_eq t.isLt N_0
  obtain ⟨a0, a1⟩ := place_4 t
  show (cfg0.win 4).cut (grid0.coords t) ((dats m 0 c).after 4 t) = _
  rw [after_4]
  funext y
  have hy0 : (y 0).val < 512 := (y 0).isLt
  have hy1 : (y 1).val < 2048 := (y 1).isLt
  have e0 : (((cfg0.win 4).blk t).view.emb y 0).val = 512 * (t.val / 8) + (y 0).val := by
    show win0_4.index t (0 : Fin 2) * 512 + 1 * (y 0).val = _; omega
  have e1 : (((cfg0.win 4).blk t).view.emb y 1).val = (y 1).val := by
    show win0_4.index t (1 : Fin 2) * 2048 + 1 * (y 1).val = _; omega
  have ex : (cfg0.win 4).xinj (grid0.coords t) y = (ix2 ⟨(y 0).val, hy0⟩ ⟨(y 1).val, hy1⟩ : S512x2048.Idx) := by
    funext a
    match a with
    | ⟨0, _⟩ => rfl
    | ⟨1, _⟩ => rfl
  show rows m c t ((cfg0.win 4).xinj (grid0.coords t) y) = HA m c (((cfg0.win 4).blk t).view.emb y)
  rw [ex]
  unfold HA
  refine (rows_hid m c t _ _ ⟨512 * (t.val / 8) + (y 0).val, by omega⟩ rfl).trans ?_
  exact congrArg₂ (Cert.Rows.hid (X m c) (G m c)) (Fin.ext e0.symm) (Fin.ext e1.symm)

/-- Every index of the result lies in a written block. -/
theorem cover_5 (i : S8x8192x128.Idx) : ∃ t : Fin cfg0.N, (cfg0.win 5).flush t = true ∧ i ∈ ((cfg0.win 5).blk t).view.set := by
  have h0 : (i 0).val < 8 := (i 0).isLt
  have h1 : (i 1).val < 8192 := (i 1).isLt
  have h2 : (i 2).val < 128 := (i 2).isLt
  have hc : (i 0).val / 4 = 0 ∨ (i 0).val / 4 = 1 := by omega
  have hlt : 8 * ((i 1).val / 512) + 7 * ((i 0).val / 4) < cfg0.N := lt_of_lt_of_eq (by omega) N_0.symm
  refine ⟨⟨8 * ((i 1).val / 512) + 7 * ((i 0).val / 4), hlt⟩, ?_, ?_⟩
  · rw [flush_5]
    exact decide_eq_true (by dsimp only; (rcases hc with hc | hc <;> omega))
  · generalize ht : (⟨8 * ((i 1).val / 512) + 7 * ((i 0).val / 4), hlt⟩ : Fin cfg0.N) = t
    have hv : t.val = 8 * ((i 1).val / 512) + 7 * ((i 0).val / 4) := congrArg Fin.val ht.symm
    obtain ⟨a0, a1, a2⟩ := place_5 t
    show i ∈ ((View.whole main_v5_1).slice (win0_5.rect t)).set
    rw [View.set_slice_whole, Rect.mem_set_unit]
    intro a
    match a with
    | ⟨0, _⟩ => show win0_5.index t (0 : Fin 3) * 4 ≤ (i 0).val ∧ (i 0).val < win0_5.index t (0 : Fin 3) * 4 + 4; (rcases hc with hc | hc <;> omega)
    | ⟨1, _⟩ => show win0_5.index t (1 : Fin 3) * 512 ≤ (i 1).val ∧ (i 1).val < win0_5.index t (1 : Fin 3) * 512 + 512; (rcases hc with hc | hc <;> omega)
    | ⟨2, _⟩ => show win0_5.index t (2 : Fin 3) * 128 ≤ (i 2).val ∧ (i 2).val < win0_5.index t (2 : Fin 3) * 128 + 128; omega

/-- The result array at the end of the run. -/
theorem final_5 : (dats m 0 c).arrAt 5 cfg0.N = UA m c := by
  refine (dats m 0 c).arrAt_eq_of_cover 5 _ (fun t hf => ?_) (cover_5)
  rw [flush_5, decide_eq_true_eq] at hf
  have hN : t.val < 128 := lt_of_lt_of_eq t.isLt N_0
  obtain ⟨a0, a1, a2⟩ := place_5 t
  show (cfg0.win 5).cut (grid0.coords t) ((dats m 0 c).after 5 t) = _
  rw [after_5]
  funext y
  have hy0 : (y 0).val < 4 := (y 0).isLt
  have hy1 : (y 1).val < 512 := (y 1).isLt
  have hy2 : (y 2).val < 128 := (y 2).isLt
  have e0 : (((cfg0.win 5).blk t).view.emb y 0).val = min (t.val % 8) 1 * 4 + (y 0).val := by
    show win0_5.index t (0 : Fin 3) * 4 + 1 * (y 0).val = _; omega
  have e1 : (((cfg0.win 5).blk t).view.emb y 1).val = 512 * (t.val / 8) + (y 1).val := by
    show win0_5.index t (1 : Fin 3) * 512 + 1 * (y 1).val = _; omega
  have e2 : (((cfg0.win 5).blk t).view.emb y 2).val = (y 2).val := by
    show win0_5.index t (2 : Fin 3) * 128 + 1 * (y 2).val = _; omega
  have ex : (cfg0.win 5).xinj (grid0.coords t) y = (ix3 ⟨(y 0).val, hy0⟩ ⟨(y 1).val, hy1⟩ ⟨(y 2).val, hy2⟩ : S4x512x128.Idx) := by
    funext a
    match a with
    | ⟨0, _⟩ => rfl
    | ⟨1, _⟩ => rfl
    | ⟨2, _⟩ => rfl
  show us m c t ((cfg0.win 5).xinj (grid0.coords t) y) = UA m c (((cfg0.win 5).blk t).view.emb y)
  rw [ex]
  unfold UA us
  refine (slabs_at _ _ _ _ _ _).trans ?_
  refine (gated_at m c t _ _ ⟨512 * (t.val / 8) + (y 1).val, by omega⟩ rfl ⟨min (t.val % 8) 1 * 512 + (128 * (y 0).val + (y 2).val), by omega⟩ rfl).trans ?_
  exact congrArg₂ (Cert.Rows.glu (X m c) (G m c) (W m c)) (Fin.ext e1.symm) (Fin.ext (by dsimp only; rw [e0, e2]; omega))

/-- Every index of the result lies in a written block. -/
theorem cover_6 (i : S8192x1536.Idx) : ∃ t : Fin cfg0.N, (cfg0.win 6).flush t = true ∧ i ∈ ((cfg0.win 6).blk t).view.set := by
  have h0 : (i 0).val < 8192 := (i 0).isLt
  have h1 : (i 1).val < 1536 := (i 1).isLt
  have hc : (i 1).val / 512 = 0 ∨ (i 1).val / 512 = 1 ∨ (i 1).val / 512 = 2 := by omega
  have hlt : 8 * ((i 0).val / 512) + (2 + (i 1).val / 512 + 3 * ((i 1).val / 1024)) < cfg0.N := lt_of_lt_of_eq (by omega) N_0.symm
  refine ⟨⟨8 * ((i 0).val / 512) + (2 + (i 1).val / 512 + 3 * ((i 1).val / 1024)), hlt⟩, ?_, ?_⟩
  · rw [flush_6]
    exact decide_eq_true (by dsimp only; (rcases hc with hc | hc | hc <;> omega))
  · generalize ht : (⟨8 * ((i 0).val / 512) + (2 + (i 1).val / 512 + 3 * ((i 1).val / 1024)), hlt⟩ : Fin cfg0.N) = t
    have hv : t.val = 8 * ((i 0).val / 512) + (2 + (i 1).val / 512 + 3 * ((i 1).val / 1024)) := congrArg Fin.val ht.symm
    obtain ⟨a0, a1⟩ := place_6 t
    show i ∈ ((View.whole main_v5_2).slice (win0_6.rect t)).set
    rw [View.set_slice_whole, Rect.mem_set_unit]
    intro a
    match a with
    | ⟨0, _⟩ => show win0_6.index t (0 : Fin 2) * 512 ≤ (i 0).val ∧ (i 0).val < win0_6.index t (0 : Fin 2) * 512 + 512; (rcases hc with hc | hc | hc <;> omega)
    | ⟨1, _⟩ => show win0_6.index t (1 : Fin 2) * 512 ≤ (i 1).val ∧ (i 1).val < win0_6.index t (1 : Fin 2) * 512 + 512; (rcases hc with hc | hc | hc <;> omega)

/-- The result array at the end of the run. -/
theorem final_6 : (dats m 0 c).arrAt 6 cfg0.N = QA m c := by
  refine (dats m 0 c).arrAt_eq_of_cover 6 _ (fun t hf => ?_) (cover_6)
  rw [flush_6, decide_eq_true_eq] at hf
  have hN : t.val < 128 := lt_of_lt_of_eq t.isLt N_0
  obtain ⟨a0, a1⟩ := place_6 t
  show (cfg0.win 6).cut (grid0.coords t) ((dats m 0 c).after 6 t) = _
  rw [after_6]
  funext y
  have hy0 : (y 0).val < 512 := (y 0).isLt
  have hy1 : (y 1).val < 512 := (y 1).isLt
  have e0 : (((cfg0.win 6).blk t).view.emb y 0).val = 512 * (t.val / 8) + (y 0).val := by
    show win0_6.index t (0 : Fin 2) * 512 + 1 * (y 0).val = _; omega
  have e1 : (((cfg0.win 6).blk t).view.emb y 1).val = (max 2 (min (t.val % 8) 4) - 2) * 512 + (y 1).val := by
    show win0_6.index t (1 : Fin 2) * 512 + 1 * (y 1).val = _; omega
  have ex : (cfg0.win 6).xinj (grid0.coords t) y = (ix2 ⟨(y 0).val, hy0⟩ ⟨(y 1).val, hy1⟩ : S512x512.Idx) := by
    funext a
    match a with
    | ⟨0, _⟩ => rfl
    | ⟨1, _⟩ => rfl
  show qs m c t ((cfg0.win 6).xinj (grid0.coords t) y) = QA m c (((cfg0.win 6).blk t).view.emb y)
  rw [ex]
  unfold QA
  refine (qs_at m c t _ _ ⟨512 * (t.val / 8) + (y 0).val, by omega⟩ rfl ⟨2048 + ((max 2 (min (t.val % 8) 4) - 2) * 512 + (y 1).val), by omega⟩ rfl).trans ?_
  exact congrArg₂ (Cert.Rows.proj (X m c) (G m c) (W m c)) (Fin.ext e0.symm) (Fin.ext (by dsimp only; rw [e1]))

/-- Every index of the result lies in a written block. -/
theorem cover_7 (i : S8192x512.Idx) : ∃ t : Fin cfg0.N, (cfg0.win 7).flush t = true ∧ i ∈ ((cfg0.win 7).blk t).view.set := by
  have h0 : (i 0).val < 8192 := (i 0).isLt
  have h1 : (i 1).val < 512 := (i 1).isLt
  have hlt : 8 * ((i 0).val / 512) + 7 < cfg0.N := lt_of_lt_of_eq (by omega) N_0.symm
  refine ⟨⟨8 * ((i 0).val / 512) + 7, hlt⟩, ?_, ?_⟩
  · rw [flush_7]
    exact decide_eq_true (by dsimp only; omega)
  · generalize ht : (⟨8 * ((i 0).val / 512) + 7, hlt⟩ : Fin cfg0.N) = t
    have hv : t.val = 8 * ((i 0).val / 512) + 7 := congrArg Fin.val ht.symm
    obtain ⟨a0, a1⟩ := place_7 t
    show i ∈ ((View.whole main_v5_3).slice (win0_7.rect t)).set
    rw [View.set_slice_whole, Rect.mem_set_unit]
    intro a
    match a with
    | ⟨0, _⟩ => show win0_7.index t (0 : Fin 2) * 512 ≤ (i 0).val ∧ (i 0).val < win0_7.index t (0 : Fin 2) * 512 + 512; omega
    | ⟨1, _⟩ => show win0_7.index t (1 : Fin 2) * 512 ≤ (i 1).val ∧ (i 1).val < win0_7.index t (1 : Fin 2) * 512 + 512; omega

/-- The result array at the end of the run. -/
theorem final_7 : (dats m 0 c).arrAt 7 cfg0.N = KA m c := by
  refine (dats m 0 c).arrAt_eq_of_cover 7 _ (fun t hf => ?_) (cover_7)
  rw [flush_7, decide_eq_true_eq] at hf
  have hN : t.val < 128 := lt_of_lt_of_eq t.isLt N_0
  obtain ⟨a0, a1⟩ := place_7 t
  show (cfg0.win 7).cut (grid0.coords t) ((dats m 0 c).after 7 t) = _
  rw [after_7]
  funext y
  have hy0 : (y 0).val < 512 := (y 0).isLt
  have hy1 : (y 1).val < 512 := (y 1).isLt
  have e0 : (((cfg0.win 7).blk t).view.emb y 0).val = 512 * (t.val / 8) + (y 0).val := by
    show win0_7.index t (0 : Fin 2) * 512 + 1 * (y 0).val = _; omega
  have e1 : (((cfg0.win 7).blk t).view.emb y 1).val = (y 1).val := by
    show win0_7.index t (1 : Fin 2) * 512 + 1 * (y 1).val = _; omega
  have ex : (cfg0.win 7).xinj (grid0.coords t) y = (ix2 ⟨(y 0).val, hy0⟩ ⟨(y 1).val, hy1⟩ : S512x512.Idx) := by
    funext a
    match a with
    | ⟨0, _⟩ => rfl
    | ⟨1, _⟩ => rfl
  show ks m c t ((cfg0.win 7).xinj (grid0.coords t) y) = KA m c (((cfg0.win 7).blk t).view.emb y)
  rw [ex]
  unfold KA
  refine (ks_at m c t _ _ ⟨512 * (t.val / 8) + (y 0).val, by omega⟩ rfl ⟨3584 + ((y 1).val), by omega⟩ rfl).trans ?_
  exact congrArg₂ (Cert.Rows.proj (X m c) (G m c) (W m c)) (Fin.ext e0.symm) (Fin.ext (by dsimp only; rw [e1]))

/-- Every index of the result lies in a written block. -/
theorem cover_8 (i : S8192x512.Idx) : ∃ t : Fin cfg0.N, (cfg0.win 8).flush t = true ∧ i ∈ ((cfg0.win 8).blk t).view.set := by
  have h0 : (i 0).val < 8192 := (i 0).isLt
  have h1 : (i 1).val < 512 := (i 1).isLt
  have hlt : 8 * ((i 0).val / 512) + 7 < cfg0.N := lt_of_lt_of_eq (by omega) N_0.symm
  refine ⟨⟨8 * ((i 0).val / 512) + 7, hlt⟩, ?_, ?_⟩
  · rw [flush_8]
    exact decide_eq_true (by dsimp only; omega)
  · generalize ht : (⟨8 * ((i 0).val / 512) + 7, hlt⟩ : Fin cfg0.N) = t
    have hv : t.val = 8 * ((i 0).val / 512) + 7 := congrArg Fin.val ht.symm
    obtain ⟨a0, a1⟩ := place_8 t
    show i ∈ ((View.whole main_v5_4).slice (win0_8.rect t)).set
    rw [View.set_slice_whole, Rect.mem_set_unit]
    intro a
    match a with
    | ⟨0, _⟩ => show win0_8.index t (0 : Fin 2) * 512 ≤ (i 0).val ∧ (i 0).val < win0_8.index t (0 : Fin 2) * 512 + 512; omega
    | ⟨1, _⟩ => show win0_8.index t (1 : Fin 2) * 512 ≤ (i 1).val ∧ (i 1).val < win0_8.index t (1 : Fin 2) * 512 + 512; omega

/-- The result array at the end of the run. -/
theorem final_8 : (dats m 0 c).arrAt 8 cfg0.N = VA m c := by
  refine (dats m 0 c).arrAt_eq_of_cover 8 _ (fun t hf => ?_) (cover_8)
  rw [flush_8, decide_eq_true_eq] at hf
  have hN : t.val < 128 := lt_of_lt_of_eq t.isLt N_0
  obtain ⟨a0, a1⟩ := place_8 t
  show (cfg0.win 8).cut (grid0.coords t) ((dats m 0 c).after 8 t) = _
  rw [after_8]
  funext y
  have hy0 : (y 0).val < 512 := (y 0).isLt
  have hy1 : (y 1).val < 512 := (y 1).isLt
  have e0 : (((cfg0.win 8).blk t).view.emb y 0).val = 512 * (t.val / 8) + (y 0).val := by
    show win0_8.index t (0 : Fin 2) * 512 + 1 * (y 0).val = _; omega
  have e1 : (((cfg0.win 8).blk t).view.emb y 1).val = (y 1).val := by
    show win0_8.index t (1 : Fin 2) * 512 + 1 * (y 1).val = _; omega
  have ex : (cfg0.win 8).xinj (grid0.coords t) y = (ix2 ⟨(y 0).val, hy0⟩ ⟨(y 1).val, hy1⟩ : S512x512.Idx) := by
    funext a
    match a with
    | ⟨0, _⟩ => rfl
    | ⟨1, _⟩ => rfl
  show vs m c t ((cfg0.win 8).xinj (grid0.coords t) y) = VA m c (((cfg0.win 8).blk t).view.emb y)
  rw [ex]
  unfold VA
  refine (vs_at m c t _ _ ⟨512 * (t.val / 8) + (y 0).val, by omega⟩ rfl ⟨4096 + ((y 1).val), by omega⟩ rfl).trans ?_
  exact congrArg₂ (Cert.Rows.proj (X m c) (G m c) (W m c)) (Fin.ext e0.symm) (Fin.ext (by dsimp only; rw [e1]))

/-- Every index of the result lies in a written block. -/
theorem cover_9 (i : S8192x512.Idx) : ∃ t : Fin cfg0.N, (cfg0.win 9).flush t = true ∧ i ∈ ((cfg0.win 9).blk t).view.set := by
  have h0 : (i 0).val < 8192 := (i 0).isLt
  have h1 : (i 1).val < 512 := (i 1).isLt
  have hlt : 8 * ((i 0).val / 512) + 7 < cfg0.N := lt_of_lt_of_eq (by omega) N_0.symm
  refine ⟨⟨8 * ((i 0).val / 512) + 7, hlt⟩, ?_, ?_⟩
  · rw [flush_9]
    exact decide_eq_true (by dsimp only; omega)
  · generalize ht : (⟨8 * ((i 0).val / 512) + 7, hlt⟩ : Fin cfg0.N) = t
    have hv : t.val = 8 * ((i 0).val / 512) + 7 := congrArg Fin.val ht.symm
    obtain ⟨a0, a1⟩ := place_9 t
    show i ∈ ((View.whole main_v5_5).slice (win0_9.rect t)).set
    rw [View.set_slice_whole, Rect.mem_set_unit]
    intro a
    match a with
    | ⟨0, _⟩ => show win0_9.index t (0 : Fin 2) * 512 ≤ (i 0).val ∧ (i 0).val < win0_9.index t (0 : Fin 2) * 512 + 512; omega
    | ⟨1, _⟩ => show win0_9.index t (1 : Fin 2) * 512 ≤ (i 1).val ∧ (i 1).val < win0_9.index t (1 : Fin 2) * 512 + 512; omega

/-- The result array at the end of the run. -/
theorem final_9 : (dats m 0 c).arrAt 9 cfg0.N = XA m c := by
  refine (dats m 0 c).arrAt_eq_of_cover 9 _ (fun t hf => ?_) (cover_9)
  rw [flush_9, decide_eq_true_eq] at hf
  have hN : t.val < 128 := lt_of_lt_of_eq t.isLt N_0
  obtain ⟨a0, a1⟩ := place_9 t
  show (cfg0.win 9).cut (grid0.coords t) ((dats m 0 c).after 9 t) = _
  rw [after_9]
  funext y
  have hy0 : (y 0).val < 512 := (y 0).isLt
  have hy1 : (y 1).val < 512 := (y 1).isLt
  have e0 : (((cfg0.win 9).blk t).view.emb y 0).val = 512 * (t.val / 8) + (y 0).val := by
    show win0_9.index t (0 : Fin 2) * 512 + 1 * (y 0).val = _; omega
  have e1 : (((cfg0.win 9).blk t).view.emb y 1).val = (y 1).val := by
    show win0_9.index t (1 : Fin 2) * 512 + 1 * (y 1).val = _; omega
  have ex : (cfg0.win 9).xinj (grid0.coords t) y = (ix2 ⟨(y 0).val, hy0⟩ ⟨(y 1).val, hy1⟩ : S512x512.Idx) := by
    funext a
    match a with
    | ⟨0, _⟩ => rfl
    | ⟨1, _⟩ => rfl
  show xs m c t ((cfg0.win 9).xinj (grid0.coords t) y) = XA m c (((cfg0.win 9).blk t).view.emb y)
  rw [ex]
  unfold XA
  refine (xs_at m c t _ _ ⟨512 * (t.val / 8) + (y 0).val, by omega⟩ rfl ⟨4608 + ((y 1).val), by omega⟩ rfl).trans ?_
  exact congrArg₂ (Cert.Rows.proj (X m c) (G m c) (W m c)) (Fin.ext e0.symm) (Fin.ext (by dsimp only; rw [e1]))

variable (ρ : Dev nD → PrngReg)

/-- Every run ends with the six results at the projections and the arguments as they began. -/
theorem run : θ_run defs (onTc (τ := τ) (main (F := Ideal))) ⟨m, fun _ => 0, ρ⟩ (fun r => ∀ c : Dev nD,
      r.2.mem ((c.tc : Thread nD τ).loc main_v5_0) = HA m c
      ∧ r.2.mem ((c.tc : Thread nD τ).loc main_v5_1) = UA m c
      ∧ r.2.mem ((c.tc : Thread nD τ).loc main_v5_2) = QA m c
      ∧ r.2.mem ((c.tc : Thread nD τ).loc main_v5_3) = KA m c
      ∧ r.2.mem ((c.tc : Thread nD τ).loc main_v5_4) = VA m c
      ∧ r.2.mem ((c.tc : Thread nD τ).loc main_v5_5) = XA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 4).trans (final_4 m c),
    ((h c).1 5).trans (final_5 m c),
    ((h c).1 6).trans (final_6 m c),
    ((h c).1 7).trans (final_7 m c),
    ((h c).1 8).trans (final_8 m c),
    ((h c).1 9).trans (final_9 m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩) (run_main m ρ)

end Cert.InProjIdeal.Hand

end
-- ==== Proof.InProjClaim.lean ====
/-
  The prompt projections claim: over the extended reals the kernel and the reference compute the same six arrays from the same arguments.
-/
module

public import proofs.«01_k».proof.Defs
public import proofs.«01_k».proof.Proof.InProjValue
public import proofs.«01_k».proof.Proof.Gen.InProjRefIdeal.Read
public import Idealize.ShloMosaic.Lib.Quiescent

@[expose] public section

set_option maxRecDepth 16384

noncomputable section

open Idealize.ShloMosaic Idealize.ShloMosaic.TcCoe Idealize.SL.Sem

namespace Cert.InProj1k

open Cert.InProjRefIdeal Cert.InProjRefIdeal.Read

/-- The reference's normalised rows. -/
theorem ref_hid (x : FVec Ideal S4x2048x2048 .f32) (g : FVec Ideal ⟨2, ![1, 2048]⟩ .f32) (R : Fin 8192) (k : Fin 2048) :
    val_main_v15 (F := Ideal) x g (ix2 R k) = Cert.Rows.hid (val_main_v0 (F := Ideal) x) g R k := by
  unfold Cert.Rows.hid Cert.Ffn1k.rms
  unfold val_main_v15 val_main_v12 val_main_v11 val_main_v10 val_main_v9 val_main_v7 val_main_v5 val_main_v4 val_main_v3
  generalize val_main_v0 (F := Ideal) x = y
  pointwise! [val_main_v14, val_main_v13, val_main_v8, val_main_v6, val_main_v1, val_main_cst, val_main_cst_0, val_main_cst_1]

/-- The reference's stored rows. -/
theorem ref_rows (x : FVec Ideal S4x2048x2048 .f32) (g : FVec Ideal ⟨2, ![1, 2048]⟩ .f32) (R : Fin 8192) (k : Fin 2048) :
    val_main_v31 (F := Ideal) x g (ix2 R k) = Cert.Rows.hid (val_main_v0 (F := Ideal) x) g R k :=
  (val_main_v31_apply (F := Ideal) x g (ix2 R k)).trans (ref_hid x g R k)

/-- The reference's product. -/
theorem ref_proj (x : FVec Ideal S4x2048x2048 .f32) (g : FVec Ideal ⟨2, ![1, 2048]⟩ .f32) (w : FVec Ideal ⟨3, ![1, 2048, 11264]⟩ .f32)
    (R : Fin 8192) (J : Fin 5120) :
    val_main_v17 (F := Ideal) x g w (ix2 R J) = Cert.Rows.proj (val_main_v0 (F := Ideal) x) g w R ⟨J.val, by omega⟩ := by
  unfold Cert.Rows.proj
  have e := fun k => ref_hid x g R k
  revert e
  unfold val_main_v17 val_main_v16 val_main_v2
  generalize val_main_v15 (F := Ideal) x g = h
  intro e
  simp only [← e]
  pointwise!

/-- The reference's gated product. -/
theorem ref_gated (x : FVec Ideal S4x2048x2048 .f32) (g : FVec Ideal ⟨2, ![1, 2048]⟩ .f32) (w : FVec Ideal ⟨3, ![1, 2048, 11264]⟩ .f32)
    (R : Fin 8192) (J : Fin 1024) :
    val_main_v26 (F := Ideal) x g w (ix2 R J) = Cert.Rows.glu (val_main_v0 (F := Ideal) x) g w R J := by
  have e1 : val_main_v18 (F := Ideal) x g w (ix2 R J) = Cert.Rows.proj (val_main_v0 (F := Ideal) x) g w R ⟨J.val, by omega⟩ := by
    refine (val_main_v18_apply (F := Ideal) x g w (ix2 R J)).trans ((congrArg (val_main_v17 (F := Ideal) x g w) ?_).trans (ref_proj x g w R ⟨J.val, by omega⟩))
    funext a
    match a with
    | ⟨0, _⟩ => rfl
    | ⟨1, _⟩ => rfl
  have e2 : val_main_v19 (F := Ideal) x g w (ix2 R J) = Cert.Rows.proj (val_main_v0 (F := Ideal) x) g w R ⟨1024 + J.val, by omega⟩ := by
    refine (val_main_v19_apply (F := Ideal) x g w (ix2 R J)).trans ((congrArg (val_main_v17 (F := Ideal) x g w) ?_).trans (ref_proj x g w R ⟨1024 + J.val, by omega⟩))
    funext a
    match a with
    | ⟨0, _⟩ => rfl
    | ⟨1, _⟩ => rfl
  unfold Cert.Rows.glu Ideal.logistic
  rw [← e1, ← e2]
  unfold val_main_v26 val_main_v25 val_main_v23 val_main_v21 val_main_v20
  generalize val_main_v18 (F := Ideal) x g w = a
  generalize val_main_v19 (F := Ideal) x g w = b
  pointwise! [val_main_v24, val_main_v22, val_main_cst_2, val_main_cst_3]

/-- The reference's gated product in slabs of 128 columns. -/
theorem ref_slabs (x : FVec Ideal S4x2048x2048 .f32) (g : FVec Ideal ⟨2, ![1, 2048]⟩ .f32) (w : FVec Ideal ⟨3, ![1, 2048, 11264]⟩ .f32) (b : Fin 8) (R : Fin 8192) (l : Fin 128) :
    val_main_v33 (F := Ideal) x g w (ix3 b R l) = Cert.Rows.glu (val_main_v0 (F := Ideal) x) g w R ⟨128 * b.val + l.val, by omega⟩ := by
  refine (val_main_v33_apply (F := Ideal) x g w (ix3 b R l)).trans ((val_main_v32_apply (F := Ideal) x g w _).trans
    ((congrArg (val_main_v26 (F := Ideal) x g w) (funext fun a => Fin.ext ?_)).trans (ref_gated x g w R ⟨128 * b.val + l.val, by omega⟩)))
  match a with
  | ⟨0, _⟩ => show ((R.val * 8 + b.val) * 128 + l.val) / 1024 = R.val; omega
  | ⟨1, _⟩ => show ((R.val * 8 + b.val) * 128 + l.val) % 1024 = 128 * b.val + l.val; omega

/-- The reference's queries. -/
theorem ref_qs (x : FVec Ideal S4x2048x2048 .f32) (g : FVec Ideal ⟨2, ![1, 2048]⟩ .f32) (w : FVec Ideal ⟨3, ![1, 2048, 11264]⟩ .f32)
    (R : Fin 8192) (d : Fin 1536) :
    val_main_v27 (F := Ideal) x g w (ix2 R d) = Cert.Rows.proj (val_main_v0 (F := Ideal) x) g w R ⟨2048 + d.val, by omega⟩ := by
  refine (val_main_v27_apply (F := Ideal) x g w (ix2 R d)).trans ((congrArg (val_main_v17 (F := Ideal) x g w) ?_).trans (ref_proj x g w R ⟨2048 + d.val, by omega⟩))
  funext a
  match a with
  | ⟨0, _⟩ => rfl
  | ⟨1, _⟩ => rfl

/-- The reference's keys. -/
theorem ref_ks (x : FVec Ideal S4x2048x2048 .f32) (g : FVec Ideal ⟨2, ![1, 2048]⟩ .f32) (w : FVec Ideal ⟨3, ![1, 2048, 11264]⟩ .f32)
    (R : Fin 8192) (d : Fin 512) :
    val_main_v28 (F := Ideal) x g w (ix2 R d) = Cert.Rows.proj (val_main_v0 (F := Ideal) x) g w R ⟨3584 + d.val, by omega⟩ := by
  refine (val_main_v28_apply (F := Ideal) x g w (ix2 R d)).trans ((congrArg (val_main_v17 (F := Ideal) x g w) ?_).trans (ref_proj x g w R ⟨3584 + d.val, by omega⟩))
  funext a
  match a with
  | ⟨0, _⟩ => rfl
  | ⟨1, _⟩ => rfl

/-- The reference's values. -/
theorem ref_vs (x : FVec Ideal S4x2048x2048 .f32) (g : FVec Ideal ⟨2, ![1, 2048]⟩ .f32) (w : FVec Ideal ⟨3, ![1, 2048, 11264]⟩ .f32)
    (R : Fin 8192) (d : Fin 512) :
    val_main_v29 (F := Ideal) x g w (ix2 R d) = Cert.Rows.proj (val_main_v0 (F := Ideal) x) g w R ⟨4096 + d.val, by omega⟩ := by
  refine (val_main_v29_apply (F := Ideal) x g w (ix2 R d)).trans ((congrArg (val_main_v17 (F := Ideal) x g w) ?_).trans (ref_proj x g w R ⟨4096 + d.val, by omega⟩))
  funext a
  match a with
  | ⟨0, _⟩ => rfl
  | ⟨1, _⟩ => rfl

/-- The reference's memory queries. -/
theorem ref_xs (x : FVec Ideal S4x2048x2048 .f32) (g : FVec Ideal ⟨2, ![1, 2048]⟩ .f32) (w : FVec Ideal ⟨3, ![1, 2048, 11264]⟩ .f32)
    (R : Fin 8192) (d : Fin 512) :
    val_main_v30 (F := Ideal) x g w (ix2 R d) = Cert.Rows.proj (val_main_v0 (F := Ideal) x) g w R ⟨4608 + d.val, by omega⟩ := by
  refine (val_main_v30_apply (F := Ideal) x g w (ix2 R d)).trans ((congrArg (val_main_v17 (F := Ideal) x g w) ?_).trans (ref_proj x g w R ⟨4608 + d.val, by omega⟩))
  funext a
  match a with
  | ⟨0, _⟩ => rfl
  | ⟨1, _⟩ => rfl

@[inherit_doc ref_xs] theorem ref_xs' (x : FVec Ideal S4x2048x2048 .f32) (g : FVec Ideal ⟨2, ![1, 2048]⟩ .f32) (w : FVec Ideal ⟨3, ![1, 2048, 11264]⟩ .f32)
    (R : Fin 8192) (d : Fin 512) :
    val_main_v34 (F := Ideal) x g w (ix2 R d) = Cert.Rows.proj (val_main_v0 (F := Ideal) x) g w R ⟨4608 + d.val, by omega⟩ :=
  (val_main_v34_apply (F := Ideal) x g w (ix2 R d)).trans (ref_xs x g w R d)

/-- The reference leaves its arguments and declares no semaphore. -/
theorem ref_frame : Cert.quiescent_InProjRefIdeal (hInProjRefIdeal := Cert.InProjRefIdeal.Gen.facts) := fun m ρ _ =>
  (θ_run Cert.InProjRefIdeal.defs _ _).mono (fun r h => ⟨fun c => (h c).2.2.2.2.2.2, Idealize.ShloMosaic.sem_eq_zero_of_no_sems (by decide) r.2⟩)
    (Cert.InProjRefIdeal.Value.run (F := Ideal) m ρ)

/-- The kernel and the reference agree on equal arguments. -/
theorem algebraic : Cert.algebraic_InProjIdeal_InProjRefIdeal (hInProjIdeal := Cert.InProjIdeal.Gen.facts) (hInProjRefIdeal := Cert.InProjRefIdeal.Gen.facts) := by
  intro m ρ m' ρ' _ hag
  refine ⟨fun c => Cert.InProjIdeal.Hand.HA m c, fun c => Cert.InProjIdeal.Hand.UA m c, fun c => Cert.InProjIdeal.Hand.QA m c, fun c => Cert.InProjIdeal.Hand.KA m c, fun c => Cert.InProjIdeal.Hand.VA m c, fun c => Cert.InProjIdeal.Hand.XA m c, Cert.InProjIdeal.Hand.run m ρ, ?_⟩
  refine (θ_run _ _ _).mono (fun _ h c => ?_) (Cert.InProjRefIdeal.Value.run (F := Ideal) m' ρ')
  obtain ⟨e0, e1, e2⟩ := hag c
  obtain ⟨h0, h1, h2, h3, h4, h5, k0, k1, k2⟩ := h c
  refine ⟨h0.trans ?_, h1.trans ?_, h2.trans ?_, h3.trans ?_, h4.trans ?_, h5.trans ?_, k0, k1, k2⟩
  · refine (val_main_v31_eq (F := Ideal) _ _).trans ?_
    rw [e0, e1]
    exact Cert.Rows.ext2 fun R d => ref_rows _ _ R d
  · refine (val_main_v33_eq (F := Ideal) _ _ _).trans ?_
    rw [e0, e1, e2]
    exact Cert.Rows.ext3 fun b R d => ref_slabs _ _ _ b R d
  · refine (val_main_v27_eq (F := Ideal) _ _ _).trans ?_
    rw [e0, e1, e2]
    exact Cert.Rows.ext2 fun R d => ref_qs _ _ _ R d
  · refine (val_main_v28_eq (F := Ideal) _ _ _).trans ?_
    rw [e0, e1, e2]
    exact Cert.Rows.ext2 fun R d => ref_ks _ _ _ R d
  · refine (val_main_v29_eq (F := Ideal) _ _ _).trans ?_
    rw [e0, e1, e2]
    exact Cert.Rows.ext2 fun R d => ref_vs _ _ _ R d
  · refine (val_main_v34_eq (F := Ideal) _ _ _).trans ?_
    rw [e0, e1, e2]
    exact Cert.Rows.ext2 fun R d => ref_xs' _ _ _ R d

end Cert.InProj1k

end
-- ==== Proof.InProjSIdealFrame.lean ====
/-
  The input-projection kernel runs: from any memory it ends, leaves its arguments as they were, and its six results hold, block
  by block, what the kernel stored at the eight steps of each block of rows.
-/
module

public import proofs.«01_k».proof.Proof.Gen.InProjSIdeal.Launch
public import proofs.«01_k».proof.Proof.Gen.InProjSIdeal.Skeleton
public import proofs.«01_k».proof.Proof.Gen.InProjSIdeal.Points
public import proofs.«01_k».proof.Proof.Keep
public import Idealize.ShloMosaic.Lib.WordCmp
public import Idealize.ShloMosaic.Lib.Claim

@[expose] public section

set_option maxRecDepth 16384

noncomputable section

namespace Cert.InProjSIdeal.Hand

open Cert.InProjSIdeal Cert.InProjSIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The TensorCore buffers of core `c` where the kernel's region begins: the host's casts and reshapes have run. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]
  repeat' constructor

set_option maxHeartbeats 800000 in
/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host writes no argument: `main_arg0` reaches the region as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))

/-- The host writes no argument: `main_arg1` reaches the region as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))

/-- The host writes no argument: `main_arg2` reaches the region as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))

/-- The block of window `w` at point `t`, read off its array where the region begins. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input 0's buffer holds its block at every point, for any data over these arrays whose body leaves it in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl)
      (fun t => by rw [hafter]; unfold Dat.blockOf iblk; rw [hA]; try rfl) t d).trans
    (by unfold Dat.fetched Dat.blockOf iblk; rw [hA]; try rfl)

/-- Input 1's buffer holds its block at every point, for any data over these arrays whose body leaves it in place. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl)
      (fun t => by rw [hafter]; unfold Dat.blockOf iblk; rw [hA]; try rfl) t d).trans
    (by unfold Dat.fetched Dat.blockOf iblk; rw [hA]; try rfl)

/-- Input 2's buffer holds its block at every point, for any data over these arrays whose body leaves it in place. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl)
      (fun t => by rw [hafter]; unfold Dat.blockOf iblk; rw [hA]; try rfl) t d).trans
    (by unfold Dat.fetched Dat.blockOf iblk; rw [hA]; try rfl)

/-- Input 3's buffer holds its block at every point, for any data over these arrays whose body leaves it in place. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl)
      (fun t => by rw [hafter]; unfold Dat.blockOf iblk; rw [hA]; try rfl) t d).trans
    (by unfold Dat.fetched Dat.blockOf iblk; rw [hA]; try rfl)
abbrev ms_0 (t : Fin cfg0.N) : Memref sig .tc .vmem S32x2048 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1x2048 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S2048x512 .bf16 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S2048x512 .bf16 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S32x2048 .bf16 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S32x512 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S32x512 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S32x512 .f32 := win0_7.stage (cfg0.slots t 7)
abbrev hs_7 (t : Fin cfg0.N) : (ms_7 t).IsWhole := hstage0_7 ((cfg0.slots t 7).cast nbuf0_7)
abbrev ms_8 (t : Fin cfg0.N) : Memref sig .tc .vmem S32x512 .f32 := win0_8.stage (cfg0.slots t 8)
abbrev hs_8 (t : Fin cfg0.N) : (ms_8 t).IsWhole := hstage0_8 ((cfg0.slots t 8).cast nbuf0_8)
abbrev ms_9 (t : Fin cfg0.N) : Memref sig .tc .vmem S32x512 .f32 := win0_9.stage (cfg0.slots t 9)
abbrev hs_9 (t : Fin cfg0.N) : (ms_9 t).IsWhole := hstage0_9 ((cfg0.slots t 9).cast nbuf0_9)

/-- A rank-two offset that is zero in both coordinates. -/
theorem off0 : (![0, 0] : Fin 2 → Nat) = fun _ => 0 := funext fun a => by fin_cases a <;> rfl

set_option maxHeartbeats 1000000 in
/-- At the first step of a block of rows the kernel stores the normalised rows, reads them back and stores the first half of the
    gated columns. -/
theorem run_0 (c : Dev nD) (i : grid0.Coords) (arg2 : Memref sig .tc .vmem S32x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S32x2048 .bf16) (harg6 : arg6.IsWhole) (arg7 : Memref sig .tc .vmem S32x512 .f32) (harg7 : arg7.IsWhole) (arg8 : Memref sig .tc .vmem S32x512 .f32) (harg8 : arg8.IsWhole) (arg9 : Memref sig .tc .vmem S32x512 .f32) (harg9 : arg9.IsWhole) (arg10 : Memref sig .tc .vmem S32x512 .f32) (harg10 : arg10.IsWhole) (arg11 : Memref sig .tc .vmem S32x512 .f32) (harg11 : arg11.IsWhole)
    (hc1 : k0_cond1 i = 1#1) (hc2 : k0_cond2 i = 1#1) (hc3 : ¬k0_cond3 i = 1#1) (hc4 : ¬k0_cond4 i = 1#1) (hc5 : ¬k0_cond5 i = 1#1) (hc6 : ¬k0_cond6 i = 1#1)
    (x0 : Vec F S32x2048 .f32) (x1 : Vec F S1x2048 .f32) (x2 : Vec F S2048x512 .bf16) (x3 : Vec F S2048x512 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay1 x0 x1) ∗ owns (c : Thread nD τ) arg7 fullShare (k0_pay2 (k0_pay1 x0 x1) x2 x3)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11) K := by
  simp only [cc0_in_proj_eq_skeleton]
  unfold cc0_in_proj_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := harg2.eq_unread hf0
  obtain rfl := harg3.eq_unread hf1
  obtain rfl := harg4.eq_unread hf2
  obtain rfl := harg5.eq_unread hf3
  sl_exec (disch := first | sl_exact hc1 | sl_exact hc2 | sl_exact hc3 | sl_exact hc4 | sl_exact hc5 | sl_exact hc6)
  sl_step
  iapply Hk
  isplitl [H0]
  · iexists _
    isplitr
    swap
    · iexact H0
    ipureintro
    exact harg2.read_unread _
  isplitl [H1]
  · iexists _
    isplitr
    swap
    · iexact H1
    ipureintro
    exact harg3.read_unread _
  isplitl [H2]
  · iexists _
    isplitr
    swap
    · iexact H2
    ipureintro
    exact harg4.read_unread _
  isplitl [H3]
  · iexists _
    isplitr
    swap
    · iexact H3
    ipureintro
    exact harg5.read_unread _
  isplitl [H4]
  · iexists _
    isplitr
    swap
    · iexact H4
    ipureintro
    sl_unfold_words
    rw [Cert.Keep.read_whole _ _ off0]
    simp only [View.readAt_eq_ld, harg2.read_unread, harg3.read_unread, harg4.read_unread, harg5.read_unread,
      View.ld_unit_zero (S := S32x2048) off0, View.ld_unit_zero (S := S1x2048) off0, View.ld_unit_zero (S := S2048x512) off0, View.readCov_unit_zero (S := S32x2048) _ off0]
  iexists _
  isplitr
  swap
  · iexact H5
  ipureintro
  sl_unfold_words
  rw [Cert.Keep.read_whole _ _ off0]
  simp only [View.readAt_eq_ld, harg2.read_unread, harg3.read_unread, harg4.read_unread, harg5.read_unread,
    View.ld_unit_zero (S := S32x2048) off0, View.ld_unit_zero (S := S1x2048) off0, View.ld_unit_zero (S := S2048x512) off0, View.readCov_unit_zero (S := S32x2048) _ off0]

set_option maxHeartbeats 1000000 in
/-- At the second step it stores the second half of the gated columns. -/
theorem run_1 (c : Dev nD) (i : grid0.Coords) (arg2 : Memref sig .tc .vmem S32x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S32x2048 .bf16) (harg6 : arg6.IsWhole) (arg7 : Memref sig .tc .vmem S32x512 .f32) (harg7 : arg7.IsWhole) (arg8 : Memref sig .tc .vmem S32x512 .f32) (harg8 : arg8.IsWhole) (arg9 : Memref sig .tc .vmem S32x512 .f32) (harg9 : arg9.IsWhole) (arg10 : Memref sig .tc .vmem S32x512 .f32) (harg10 : arg10.IsWhole) (arg11 : Memref sig .tc .vmem S32x512 .f32) (harg11 : arg11.IsWhole)
    (hc1 : ¬k0_cond1 i = 1#1) (hc2 : k0_cond2 i = 1#1) (hc3 : ¬k0_cond3 i = 1#1) (hc4 : ¬k0_cond4 i = 1#1) (hc5 : ¬k0_cond5 i = 1#1) (hc6 : ¬k0_cond6 i = 1#1)
    (x2 : Vec F S2048x512 .bf16) (x3 : Vec F S2048x512 .bf16) (x4 : Vec F S32x2048 .bf16) (E : Set ℕ) (K : PUnit → sProp 𝕄) :
    iprop(owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg4 fullShare x2 ∗ owns (c : Thread nD τ) arg5 fullShare x3 ∗ owns (c : Thread nD τ) arg6 fullShare x4 ∗ owns (c : Thread nD τ) arg7 fullShare (k0_pay2 x4 x2 x3)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11) K := by
  simp only [cc0_in_proj_eq_skeleton]
  unfold cc0_in_proj_skel
  unfold owns
  iintro ⟨⟨%f2, %hf2, H2⟩, ⟨%f3, %hf3, H3⟩, ⟨%f4, %hf4, H4⟩, ⟨%d5, %f5, -, H5⟩, Hk⟩
  obtain rfl := harg4.eq_unread hf2
  obtain rfl := harg5.eq_unread hf3
  obtain rfl := harg6.eq_unread hf4
  sl_exec (disch := first | sl_exact hc1 | sl_exact hc2 | sl_exact hc3 | sl_exact hc4 | sl_exact hc5 | sl_exact hc6)
  sl_step
  iapply Hk
  isplitl [H2]
  · iexists _
    isplitr
    swap
    · iexact H2
    ipureintro
    exact harg4.read_unread _
  isplitl [H3]
  · iexists _
    isplitr
    swap
    · iexact H3
    ipureintro
    exact harg5.read_unread _
  isplitl [H4]
  · iexists _
    isplitr
    swap
    · iexact H4
    ipureintro
    exact harg6.read_unread _
  iexists _
  isplitr
  swap
  · iexact H5
  ipureintro
  sl_unfold_words
  rw [Cert.Keep.read_whole _ _ off0]
  simp only [View.readAt_eq_ld, harg4.read_unread, harg5.read_unread, harg6.read_unread,
    View.ld_unit_zero (S := S32x2048) off0, View.ld_unit_zero (S := S1x2048) off0, View.ld_unit_zero (S := S2048x512) off0, View.readCov_unit_zero (S := S32x2048) _ off0]

set_option maxHeartbeats 1000000 in
/-- At the three next steps it stores a third of the queries. -/
theorem run_2 (c : Dev nD) (i : grid0.Coords) (arg2 : Memref sig .tc .vmem S32x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S32x2048 .bf16) (harg6 : arg6.IsWhole) (arg7 : Memref sig .tc .vmem S32x512 .f32) (harg7 : arg7.IsWhole) (arg8 : Memref sig .tc .vmem S32x512 .f32) (harg8 : arg8.IsWhole) (arg9 : Memref sig .tc .vmem S32x512 .f32) (harg9 : arg9.IsWhole) (arg10 : Memref sig .tc .vmem S32x512 .f32) (harg10 : arg10.IsWhole) (arg11 : Memref sig .tc .vmem S32x512 .f32) (harg11 : arg11.IsWhole)
    (hc1 : ¬k0_cond1 i = 1#1) (hc2 : ¬k0_cond2 i = 1#1) (hc3 : k0_cond3 i = 1#1) (hc4 : ¬k0_cond4 i = 1#1) (hc5 : ¬k0_cond5 i = 1#1) (hc6 : ¬k0_cond6 i = 1#1)
    (x2 : Vec F S2048x512 .bf16) (x4 : Vec F S32x2048 .bf16) (E : Set ℕ) (K : PUnit → sProp 𝕄) :
    iprop(owns (c : Thread nD τ) arg4 fullShare x2 ∗ owns (c : Thread nD τ) arg6 fullShare x4 ∗ (∃ d, owns (c : Thread nD τ) arg8 fullShare d)
        ∗ (iprop(owns (c : Thread nD τ) arg4 fullShare x2 ∗ owns (c : Thread nD τ) arg6 fullShare x4 ∗ owns (c : Thread nD τ) arg8 fullShare (k0_pay3 x4 x2)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11) K := by
  simp only [cc0_in_proj_eq_skeleton]
  unfold cc0_in_proj_skel
  unfold owns
  iintro ⟨⟨%f2, %hf2, H2⟩, ⟨%f4, %hf4, H4⟩, ⟨%d6, %f6, -, H6⟩, Hk⟩
  obtain rfl := harg4.eq_unread hf2
  obtain rfl := harg6.eq_unread hf4
  sl_exec (disch := first | sl_exact hc1 | sl_exact hc2 | sl_exact hc3 | sl_exact hc4 | sl_exact hc5 | sl_exact hc6)
  sl_step
  iapply Hk
  isplitl [H2]
  · iexists _
    isplitr
    swap
    · iexact H2
    ipureintro
    exact harg4.read_unread _
  isplitl [H4]
  · iexists _
    isplitr
    swap
    · iexact H4
    ipureintro
    exact harg6.read_unread _
  iexists _
  isplitr
  swap
  · iexact H6
  ipureintro
  sl_unfold_words
  rw [Cert.Keep.read_whole _ _ off0]
  simp only [View.readAt_eq_ld, harg4.read_unread, harg6.read_unread,
    View.ld_unit_zero (S := S32x2048) off0, View.ld_unit_zero (S := S1x2048) off0, View.ld_unit_zero (S := S2048x512) off0, View.readCov_unit_zero (S := S32x2048) _ off0]

set_option maxHeartbeats 1000000 in
/-- At the step after them it stores the keys. -/
theorem run_3 (c : Dev nD) (i : grid0.Coords) (arg2 : Memref sig .tc .vmem S32x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S32x2048 .bf16) (harg6 : arg6.IsWhole) (arg7 : Memref sig .tc .vmem S32x512 .f32) (harg7 : arg7.IsWhole) (arg8 : Memref sig .tc .vmem S32x512 .f32) (harg8 : arg8.IsWhole) (arg9 : Memref sig .tc .vmem S32x512 .f32) (harg9 : arg9.IsWhole) (arg10 : Memref sig .tc .vmem S32x512 .f32) (harg10 : arg10.IsWhole) (arg11 : Memref sig .tc .vmem S32x512 .f32) (harg11 : arg11.IsWhole)
    (hc1 : ¬k0_cond1 i = 1#1) (hc2 : ¬k0_cond2 i = 1#1) (hc3 : ¬k0_cond3 i = 1#1) (hc4 : k0_cond4 i = 1#1) (hc5 : ¬k0_cond5 i = 1#1) (hc6 : ¬k0_cond6 i = 1#1)
    (x2 : Vec F S2048x512 .bf16) (x4 : Vec F S32x2048 .bf16) (E : Set ℕ) (K : PUnit → sProp 𝕄) :
    iprop(owns (c : Thread nD τ) arg4 fullShare x2 ∗ owns (c : Thread nD τ) arg6 fullShare x4 ∗ (∃ d, owns (c : Thread nD τ) arg9 fullShare d)
        ∗ (iprop(owns (c : Thread nD τ) arg4 fullShare x2 ∗ owns (c : Thread nD τ) arg6 fullShare x4 ∗ owns (c : Thread nD τ) arg9 fullShare (k0_pay4 x4 x2)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11) K := by
  simp only [cc0_in_proj_eq_skeleton]
  unfold cc0_in_proj_skel
  unfold owns
  iintro ⟨⟨%f2, %hf2, H2⟩, ⟨%f4, %hf4, H4⟩, ⟨%d7, %f7, -, H7⟩, Hk⟩
  obtain rfl := harg4.eq_unread hf2
  obtain rfl := harg6.eq_unread hf4
  sl_exec (disch := first | sl_exact hc1 | sl_exact hc2 | sl_exact hc3 | sl_exact hc4 | sl_exact hc5 | sl_exact hc6)
  sl_step
  iapply Hk
  isplitl [H2]
  · iexists _
    isplitr
    swap
    · iexact H2
    ipureintro
    exact harg4.read_unread _
  isplitl [H4]
  · iexists _
    isplitr
    swap
    · iexact H4
    ipureintro
    exact harg6.read_unread _
  iexists _
  isplitr
  swap
  · iexact H7
  ipureintro
  sl_unfold_words
  rw [Cert.Keep.read_whole _ _ off0]
  simp only [View.readAt_eq_ld, harg4.read_unread, harg6.read_unread,
    View.ld_unit_zero (S := S32x2048) off0, View.ld_unit_zero (S := S1x2048) off0, View.ld_unit_zero (S := S2048x512) off0, View.readCov_unit_zero (S := S32x2048) _ off0]

set_option maxHeartbeats 1000000 in
/-- At the next it stores the values. -/
theorem run_4 (c : Dev nD) (i : grid0.Coords) (arg2 : Memref sig .tc .vmem S32x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S32x2048 .bf16) (harg6 : arg6.IsWhole) (arg7 : Memref sig .tc .vmem S32x512 .f32) (harg7 : arg7.IsWhole) (arg8 : Memref sig .tc .vmem S32x512 .f32) (harg8 : arg8.IsWhole) (arg9 : Memref sig .tc .vmem S32x512 .f32) (harg9 : arg9.IsWhole) (arg10 : Memref sig .tc .vmem S32x512 .f32) (harg10 : arg10.IsWhole) (arg11 : Memref sig .tc .vmem S32x512 .f32) (harg11 : arg11.IsWhole)
    (hc1 : ¬k0_cond1 i = 1#1) (hc2 : ¬k0_cond2 i = 1#1) (hc3 : ¬k0_cond3 i = 1#1) (hc4 : ¬k0_cond4 i = 1#1) (hc5 : k0_cond5 i = 1#1) (hc6 : ¬k0_cond6 i = 1#1)
    (x2 : Vec F S2048x512 .bf16) (x4 : Vec F S32x2048 .bf16) (E : Set ℕ) (K : PUnit → sProp 𝕄) :
    iprop(owns (c : Thread nD τ) arg4 fullShare x2 ∗ owns (c : Thread nD τ) arg6 fullShare x4 ∗ (∃ d, owns (c : Thread nD τ) arg10 fullShare d)
        ∗ (iprop(owns (c : Thread nD τ) arg4 fullShare x2 ∗ owns (c : Thread nD τ) arg6 fullShare x4 ∗ owns (c : Thread nD τ) arg10 fullShare (k0_pay5 x4 x2)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11) K := by
  simp only [cc0_in_proj_eq_skeleton]
  unfold cc0_in_proj_skel
  unfold owns
  iintro ⟨⟨%f2, %hf2, H2⟩, ⟨%f4, %hf4, H4⟩, ⟨%d8, %f8, -, H8⟩, Hk⟩
  obtain rfl := harg4.eq_unread hf2
  obtain rfl := harg6.eq_unread hf4
  sl_exec (disch := first | sl_exact hc1 | sl_exact hc2 | sl_exact hc3 | sl_exact hc4 | sl_exact hc5 | sl_exact hc6)
  sl_step
  iapply Hk
  isplitl [H2]
  · iexists _
    isplitr
    swap
    · iexact H2
    ipureintro
    exact harg4.read_unread _
  isplitl [H4]
  · iexists _
    isplitr
    swap
    · iexact H4
    ipureintro
    exact harg6.read_unread _
  iexists _
  isplitr
  swap
  · iexact H8
  ipureintro
  sl_unfold_words
  rw [Cert.Keep.read_whole _ _ off0]
  simp only [View.readAt_eq_ld, harg4.read_unread, harg6.read_unread,
    View.ld_unit_zero (S := S32x2048) off0, View.ld_unit_zero (S := S1x2048) off0, View.ld_unit_zero (S := S2048x512) off0, View.readCov_unit_zero (S := S32x2048) _ off0]

set_option maxHeartbeats 1000000 in
/-- At the last it stores the queries of the memory. -/
theorem run_5 (c : Dev nD) (i : grid0.Coords) (arg2 : Memref sig .tc .vmem S32x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S32x2048 .bf16) (harg6 : arg6.IsWhole) (arg7 : Memref sig .tc .vmem S32x512 .f32) (harg7 : arg7.IsWhole) (arg8 : Memref sig .tc .vmem S32x512 .f32) (harg8 : arg8.IsWhole) (arg9 : Memref sig .tc .vmem S32x512 .f32) (harg9 : arg9.IsWhole) (arg10 : Memref sig .tc .vmem S32x512 .f32) (harg10 : arg10.IsWhole) (arg11 : Memref sig .tc .vmem S32x512 .f32) (harg11 : arg11.IsWhole)
    (hc1 : ¬k0_cond1 i = 1#1) (hc2 : ¬k0_cond2 i = 1#1) (hc3 : ¬k0_cond3 i = 1#1) (hc4 : ¬k0_cond4 i = 1#1) (hc5 : ¬k0_cond5 i = 1#1) (hc6 : k0_cond6 i = 1#1)
    (x2 : Vec F S2048x512 .bf16) (x4 : Vec F S32x2048 .bf16) (E : Set ℕ) (K : PUnit → sProp 𝕄) :
    iprop(owns (c : Thread nD τ) arg4 fullShare x2 ∗ owns (c : Thread nD τ) arg6 fullShare x4 ∗ (∃ d, owns (c : Thread nD τ) arg11 fullShare d)
        ∗ (iprop(owns (c : Thread nD τ) arg4 fullShare x2 ∗ owns (c : Thread nD τ) arg6 fullShare x4 ∗ owns (c : Thread nD τ) arg11 fullShare (k0_pay6 x4 x2)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11) K := by
  simp only [cc0_in_proj_eq_skeleton]
  unfold cc0_in_proj_skel
  unfold owns
  iintro ⟨⟨%f2, %hf2, H2⟩, ⟨%f4, %hf4, H4⟩, ⟨%d9, %f9, -, H9⟩, Hk⟩
  obtain rfl := harg4.eq_unread hf2
  obtain rfl := harg6.eq_unread hf4
  sl_exec (disch := first | sl_exact hc1 | sl_exact hc2 | sl_exact hc3 | sl_exact hc4 | sl_exact hc5 | sl_exact hc6)
  sl_step
  iapply Hk
  isplitl [H2]
  · iexists _
    isplitr
    swap
    · iexact H2
    ipureintro
    exact harg4.read_unread _
  isplitl [H4]
  · iexists _
    isplitr
    swap
    · iexact H4
    ipureintro
    exact harg6.read_unread _
  iexists _
  isplitr
  swap
  · iexact H9
  ipureintro
  sl_unfold_words
  rw [Cert.Keep.read_whole _ _ off0]
  simp only [View.readAt_eq_ld, harg4.read_unread, harg6.read_unread,
    View.ld_unit_zero (S := S32x2048) off0, View.ld_unit_zero (S := S1x2048) off0, View.ld_unit_zero (S := S2048x512) off0, View.readCov_unit_zero (S := S32x2048) _ off0]

/-- Step `k` of the block of rows `t` works on. -/
def pt (t : Fin cfg0.N) (k : ℕ) : Fin cfg0.N :=
  ⟨t.val - t.val % 8 + min k 7, by have := t.isLt; have hN : cfg0.N = 8 := N_0; omega⟩

theorem pt_self (t : Fin cfg0.N) (k : ℕ) (h : t.val % 8 = k) : pt t k = t :=
  Fin.ext (by show t.val - t.val % 8 + min k 7 = t.val; omega)
theorem pt_pred (t : Fin cfg0.N) (h : t.val % 8 ≠ 0) (j k : ℕ) (e : min j 7 = min k 7) : pt ⟨t.val - 1, by omega⟩ j = pt t k :=
  Fin.ext (by show t.val - 1 - (t.val - 1) % 8 + min j 7 = t.val - t.val % 8 + min k 7; omega)

/-- The normalised rows of the block. -/
def rows (c : Dev nD) (t : Fin cfg0.N) : Vec F S32x2048 .bf16 := k0_pay1 (iblk m c 0 (pt t 0)) (iblk m c 1 (pt t 0))
/-- The gated columns' block. -/
def us (c : Dev nD) (t : Fin cfg0.N) : Vec F S32x512 .f32 :=
  k0_pay2 (rows m c t) (iblk m c 2 (pt t (min (t.val % 8) 1))) (iblk m c 3 (pt t (min (t.val % 8) 1)))
/-- The queries' block. -/
def qs (c : Dev nD) (t : Fin cfg0.N) : Vec F S32x512 .f32 := k0_pay3 (rows m c t) (iblk m c 2 (pt t (max 2 (min (t.val % 8) 4))))
/-- The keys' block. -/
def ks (c : Dev nD) (t : Fin cfg0.N) : Vec F S32x512 .f32 := k0_pay4 (rows m c t) (iblk m c 2 (pt t 5))
/-- The values' block. -/
def vs (c : Dev nD) (t : Fin cfg0.N) : Vec F S32x512 .f32 := k0_pay5 (rows m c t) (iblk m c 2 (pt t 6))
/-- The block of the queries of the memory. -/
def xs (c : Dev nD) (t : Fin cfg0.N) : Vec F S32x512 .f32 := k0_pay6 (rows m c t) (iblk m c 2 (pt t 7))

theorem rows_pred (c : Dev nD) (t : Fin cfg0.N) (h : t.val % 8 ≠ 0) : rows m c ⟨t.val - 1, by omega⟩ = rows m c t := by
  unfold rows
  rw [pt_pred t h 0 0 rfl]
theorem us_pred (c : Dev nD) (t : Fin cfg0.N) (h : 2 ≤ t.val % 8) : us m c ⟨t.val - 1, by omega⟩ = us m c t := by
  unfold us
  rw [rows_pred m c t (by omega), pt_pred t (by omega) _ (min (t.val % 8) 1) (by dsimp only; omega)]
theorem qs_pred (c : Dev nD) (t : Fin cfg0.N) (h : 5 ≤ t.val % 8) : qs m c ⟨t.val - 1, by omega⟩ = qs m c t := by
  unfold qs
  rw [rows_pred m c t (by omega), pt_pred t (by omega) _ (max 2 (min (t.val % 8) 4)) (by dsimp only; omega)]
theorem ks_pred (c : Dev nD) (t : Fin cfg0.N) (h : t.val % 8 ≠ 0) : ks m c ⟨t.val - 1, by omega⟩ = ks m c t := by
  unfold ks
  rw [rows_pred m c t h, pt_pred t h 5 5 rfl]
theorem vs_pred (c : Dev nD) (t : Fin cfg0.N) (h : t.val % 8 ≠ 0) : vs m c ⟨t.val - 1, by omega⟩ = vs m c t := by
  unfold vs
  rw [rows_pred m c t h, pt_pred t h 6 6 rfl]

/-- The steps at which each condition holds. -/
theorem cond1 : ∀ t : Fin cfg0.N, k0_cond1 (grid0.coords t) = 1#1 ↔ t.val % 8 = 0 :=
  (by decide +kernel : ∀ t : Fin grid0.N, k0_cond1 (grid0.coords t) = 1#1 ↔ t.val % 8 = 0)
@[inherit_doc cond1] theorem cond2 : ∀ t : Fin cfg0.N, k0_cond2 (grid0.coords t) = 1#1 ↔ t.val % 8 ≤ 1 :=
  (by decide +kernel : ∀ t : Fin grid0.N, k0_cond2 (grid0.coords t) = 1#1 ↔ t.val % 8 ≤ 1)
@[inherit_doc cond1] theorem cond3 : ∀ t : Fin cfg0.N, k0_cond3 (grid0.coords t) = 1#1 ↔ (2 ≤ t.val % 8 ∧ t.val % 8 ≤ 4) :=
  (by decide +kernel : ∀ t : Fin grid0.N, k0_cond3 (grid0.coords t) = 1#1 ↔ (2 ≤ t.val % 8 ∧ t.val % 8 ≤ 4))
@[inherit_doc cond1] theorem cond4 : ∀ t : Fin cfg0.N, k0_cond4 (grid0.coords t) = 1#1 ↔ t.val % 8 = 5 :=
  (by decide +kernel : ∀ t : Fin grid0.N, k0_cond4 (grid0.coords t) = 1#1 ↔ t.val % 8 = 5)
@[inherit_doc cond1] theorem cond5 : ∀ t : Fin cfg0.N, k0_cond5 (grid0.coords t) = 1#1 ↔ t.val % 8 = 6 :=
  (by decide +kernel : ∀ t : Fin grid0.N, k0_cond5 (grid0.coords t) = 1#1 ↔ t.val % 8 = 6)
@[inherit_doc cond1] theorem cond6 : ∀ t : Fin cfg0.N, k0_cond6 (grid0.coords t) = 1#1 ↔ t.val % 8 = 7 :=
  (by decide +kernel : ∀ t : Fin grid0.N, k0_cond6 (grid0.coords t) = 1#1 ↔ t.val % 8 = 7)

theorem idle_4 : ∀ t : Fin cfg0.N, cfg0.idle 4 (grid0.coords t) = !decide (t.val % 8 = 0) :=
  (by decide +kernel : ∀ t : Fin cfg0.N, cfg0.idle 4 (grid0.coords t) = !decide (t.val % 8 = 0))
theorem flush_4 : ∀ t : Fin cfg0.N, (cfg0.win 4).flush t = decide (t.val % 8 = 7) :=
  (by decide +kernel : ∀ t : Fin cfg0.N, (cfg0.win 4).flush t = decide (t.val % 8 = 7))
theorem fresh_4 (t : Fin cfg0.N) : cfg0.fresh 4 t.val = decide (t.val % 8 = 0) := by
  refine cfg0.fresh_tab 4 (fun n => decide (n % 8 = 0)) rfl (fun t => ?_) t.val (Nat.le_of_lt t.isLt)
  rw [flush_4, show cfg0.idle 4 (cfg0.grid.coords t) = !decide (t.val % 8 = 0) from idle_4 t]
  exact (by decide +kernel : ∀ t : Fin grid0.N, decide ((t.val + 1) % 8 = 0) = (decide (t.val % 8 = 7) || ((!decide (t.val % 8 = 0)) && decide (t.val % 8 = 0)))) t

theorem idle_5 : ∀ t : Fin cfg0.N, cfg0.idle 5 (grid0.coords t) = !decide (t.val % 8 ≤ 1) :=
  (by decide +kernel : ∀ t : Fin cfg0.N, cfg0.idle 5 (grid0.coords t) = !decide (t.val % 8 ≤ 1))
theorem flush_5 : ∀ t : Fin cfg0.N, (cfg0.win 5).flush t = decide (t.val % 8 = 0 ∨ t.val % 8 = 7) :=
  (by decide +kernel : ∀ t : Fin cfg0.N, (cfg0.win 5).flush t = decide (t.val % 8 = 0 ∨ t.val % 8 = 7))
theorem fresh_5 (t : Fin cfg0.N) : cfg0.fresh 5 t.val = decide (t.val % 8 ≤ 1) := by
  refine cfg0.fresh_tab 5 (fun n => decide (n % 8 ≤ 1)) rfl (fun t => ?_) t.val (Nat.le_of_lt t.isLt)
  rw [flush_5, show cfg0.idle 5 (cfg0.grid.coords t) = !decide (t.val % 8 ≤ 1) from idle_5 t]
  exact (by decide +kernel : ∀ t : Fin grid0.N, decide ((t.val + 1) % 8 ≤ 1) = (decide (t.val % 8 = 0 ∨ t.val % 8 = 7) || ((!decide (t.val % 8 ≤ 1)) && decide (t.val % 8 ≤ 1)))) t

theorem idle_6 : ∀ t : Fin cfg0.N, cfg0.idle 6 (grid0.coords t) = !decide (2 ≤ t.val % 8 ∧ t.val % 8 ≤ 4) :=
  (by decide +kernel : ∀ t : Fin cfg0.N, cfg0.idle 6 (grid0.coords t) = !decide (2 ≤ t.val % 8 ∧ t.val % 8 ≤ 4))
theorem flush_6 : ∀ t : Fin cfg0.N, (cfg0.win 6).flush t = decide (t.val % 8 = 2 ∨ t.val % 8 = 3 ∨ t.val % 8 = 7) :=
  (by decide +kernel : ∀ t : Fin cfg0.N, (cfg0.win 6).flush t = decide (t.val % 8 = 2 ∨ t.val % 8 = 3 ∨ t.val % 8 = 7))
theorem fresh_6 (t : Fin cfg0.N) : cfg0.fresh 6 t.val = decide (t.val % 8 ≤ 4) := by
  refine cfg0.fresh_tab 6 (fun n => decide (n % 8 ≤ 4)) rfl (fun t => ?_) t.val (Nat.le_of_lt t.isLt)
  rw [flush_6, show cfg0.idle 6 (cfg0.grid.coords t) = !decide (2 ≤ t.val % 8 ∧ t.val % 8 ≤ 4) from idle_6 t]
  exact (by decide +kernel : ∀ t : Fin grid0.N, decide ((t.val + 1) % 8 ≤ 4) = (decide (t.val % 8 = 2 ∨ t.val % 8 = 3 ∨ t.val % 8 = 7) || ((!decide (2 ≤ t.val % 8 ∧ t.val % 8 ≤ 4)) && decide (t.val % 8 ≤ 4)))) t

theorem idle_7 : ∀ t : Fin cfg0.N, cfg0.idle 7 (grid0.coords t) = !decide (t.val % 8 = 5) :=
  (by decide +kernel : ∀ t : Fin cfg0.N, cfg0.idle 7 (grid0.coords t) = !decide (t.val % 8 = 5))
theorem flush_7 : ∀ t : Fin cfg0.N, (cfg0.win 7).flush t = decide (t.val % 8 = 7) :=
  (by decide +kernel : ∀ t : Fin cfg0.N, (cfg0.win 7).flush t = decide (t.val % 8 = 7))
theorem fresh_7 (t : Fin cfg0.N) : cfg0.fresh 7 t.val = decide (t.val % 8 ≤ 5) := by
  refine cfg0.fresh_tab 7 (fun n => decide (n % 8 ≤ 5)) rfl (fun t => ?_) t.val (Nat.le_of_lt t.isLt)
  rw [flush_7, show cfg0.idle 7 (cfg0.grid.coords t) = !decide (t.val % 8 = 5) from idle_7 t]
  exact (by decide +kernel : ∀ t : Fin grid0.N, decide ((t.val + 1) % 8 ≤ 5) = (decide (t.val % 8 = 7) || ((!decide (t.val % 8 = 5)) && decide (t.val % 8 ≤ 5)))) t

theorem idle_8 : ∀ t : Fin cfg0.N, cfg0.idle 8 (grid0.coords t) = !decide (t.val % 8 = 6) :=
  (by decide +kernel : ∀ t : Fin cfg0.N, cfg0.idle 8 (grid0.coords t) = !decide (t.val % 8 = 6))
theorem flush_8 : ∀ t : Fin cfg0.N, (cfg0.win 8).flush t = decide (t.val % 8 = 7) :=
  (by decide +kernel : ∀ t : Fin cfg0.N, (cfg0.win 8).flush t = decide (t.val % 8 = 7))
theorem fresh_8 (t : Fin cfg0.N) : cfg0.fresh 8 t.val = decide (t.val % 8 ≤ 6) := by
  refine cfg0.fresh_tab 8 (fun n => decide (n % 8 ≤ 6)) rfl (fun t => ?_) t.val (Nat.le_of_lt t.isLt)
  rw [flush_8, show cfg0.idle 8 (cfg0.grid.coords t) = !decide (t.val % 8 = 6) from idle_8 t]
  exact (by decide +kernel : ∀ t : Fin grid0.N, decide ((t.val + 1) % 8 ≤ 6) = (decide (t.val % 8 = 7) || ((!decide (t.val % 8 = 6)) && decide (t.val % 8 ≤ 6)))) t

theorem idle_9 : ∀ t : Fin cfg0.N, cfg0.idle 9 (grid0.coords t) = !decide (t.val % 8 = 7) :=
  (by decide +kernel : ∀ t : Fin cfg0.N, cfg0.idle 9 (grid0.coords t) = !decide (t.val % 8 = 7))
theorem flush_9 : ∀ t : Fin cfg0.N, (cfg0.win 9).flush t = decide (t.val % 8 = 7) :=
  (by decide +kernel : ∀ t : Fin cfg0.N, (cfg0.win 9).flush t = decide (t.val % 8 = 7))
theorem fresh_9 (t : Fin cfg0.N) : cfg0.fresh 9 t.val = decide (t.val % 8 ≤ 7) := by
  refine cfg0.fresh_tab 9 (fun n => decide (n % 8 ≤ 7)) rfl (fun t => ?_) t.val (Nat.le_of_lt t.isLt)
  rw [flush_9, show cfg0.idle 9 (cfg0.grid.coords t) = !decide (t.val % 8 = 7) from idle_9 t]
  exact (by decide +kernel : ∀ t : Fin grid0.N, decide ((t.val + 1) % 8 ≤ 7) = (decide (t.val % 8 = 7) || ((!decide (t.val % 8 = 7)) && decide (t.val % 8 ≤ 7)))) t

/-- The pipeline's data: the arrays as the region finds them, and what each window's buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => rows m c t
    | ⟨5, _⟩ => us m c t
    | ⟨6, _⟩ => qs m c t
    | ⟨7, _⟩ => ks m c t
    | ⟨8, _⟩ => vs m c t
    | ⟨9, _⟩ => xs m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = rows m c t := by dsimp only [dats]
theorem after_5 (c : Dev nD) (t : Fin cfg0.N) : (dats m 0 c).after 5 t = us m c t := by dsimp only [dats]
theorem after_6 (c : Dev nD) (t : Fin cfg0.N) : (dats m 0 c).after 6 t = qs m c t := by dsimp only [dats]
theorem after_7 (c : Dev nD) (t : Fin cfg0.N) : (dats m 0 c).after 7 t = ks m c t := by dsimp only [dats]
theorem after_8 (c : Dev nD) (t : Fin cfg0.N) : (dats m 0 c).after 8 t = vs m c t := by dsimp only [dats]
theorem after_9 (c : Dev nD) (t : Fin cfg0.N) : (dats m 0 c).after 9 t = xs m c t := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d

theorem carry_4 (c : Dev nD) (t : Fin cfg0.N) (_ : t.val ≠ 0) (hi : cfg0.idle 4 (cfg0.grid.coords t) = true)
    (hf : cfg0.fresh 4 t.val = false) : (dats m 0 c).after 4 t = (dats m 0 c).after 4 ⟨t.val - 1, by omega⟩ := by
    rw [idle_4, Bool.not_eq_true', decide_eq_false_iff_not] at hi
    rw [fresh_4, decide_eq_false_iff_not] at hf
    rw [after_4, after_4]
    exact (rows_pred m c t (by omega)).symm

/-- A point that leaves window 4 alone hands its buffer back. -/
theorem kept_4 (c : Dev nD) (t : Fin cfg0.N) (h : ¬(t.val % 8 = 0)) :
    iprop(∃ d, owns (c : Thread nD τ) (ms_4 t) fullShare ((dats m 0 c).before 4 t d)) ⊢ ((dats m 0 c).leavesExact 4 t : sProp 𝕄) :=
  Cert.Keep.kept (dats m 0 c) 4 rfl (fun _ _ => rfl) (carry_4 m c)
    (fun t hi hf => by
      rw [idle_4, Bool.not_eq_true', decide_eq_false_iff_not] at hi
      rw [flush_4, decide_eq_true_eq] at hf
      rw [fresh_4, decide_eq_false_iff_not]
      omega) t (by rw [idle_4, decide_eq_false h]; rfl)

theorem carry_5 (c : Dev nD) (t : Fin cfg0.N) (_ : t.val ≠ 0) (hi : cfg0.idle 5 (cfg0.grid.coords t) = true)
    (hf : cfg0.fresh 5 t.val = false) : (dats m 0 c).after 5 t = (dats m 0 c).after 5 ⟨t.val - 1, by omega⟩ := by
    rw [idle_5, Bool.not_eq_true', decide_eq_false_iff_not] at hi
    rw [fresh_5, decide_eq_false_iff_not] at hf
    rw [after_5, after_5]
    exact (us_pred m c t (by omega)).symm

/-- A point that leaves window 5 alone hands its buffer back. -/
theorem kept_5 (c : Dev nD) (t : Fin cfg0.N) (h : ¬(t.val % 8 ≤ 1)) :
    iprop(∃ d, owns (c : Thread nD τ) (ms_5 t) fullShare ((dats m 0 c).before 5 t d)) ⊢ ((dats m 0 c).leavesExact 5 t : sProp 𝕄) :=
  Cert.Keep.kept (dats m 0 c) 5 rfl (fun _ _ => rfl) (carry_5 m c)
    (fun t hi hf => by
      rw [idle_5, Bool.not_eq_true', decide_eq_false_iff_not] at hi
      rw [flush_5, decide_eq_true_eq] at hf
      rw [fresh_5, decide_eq_false_iff_not]
      omega) t (by rw [idle_5, decide_eq_false h]; rfl)

theorem carry_6 (c : Dev nD) (t : Fin cfg0.N) (_ : t.val ≠ 0) (hi : cfg0.idle 6 (cfg0.grid.coords t) = true)
    (hf : cfg0.fresh 6 t.val = false) : (dats m 0 c).after 6 t = (dats m 0 c).after 6 ⟨t.val - 1, by omega⟩ := by
    rw [idle_6, Bool.not_eq_true', decide_eq_false_iff_not] at hi
    rw [fresh_6, decide_eq_false_iff_not] at hf
    rw [after_6, after_6]
    exact (qs_pred m c t (by omega)).symm

/-- A point that leaves window 6 alone hands its buffer back. -/
theorem kept_6 (c : Dev nD) (t : Fin cfg0.N) (h : ¬(2 ≤ t.val % 8 ∧ t.val % 8 ≤ 4)) :
    iprop(∃ d, owns (c : Thread nD τ) (ms_6 t) fullShare ((dats m 0 c).before 6 t d)) ⊢ ((dats m 0 c).leavesExact 6 t : sProp 𝕄) :=
  Cert.Keep.kept (dats m 0 c) 6 rfl (fun _ _ => rfl) (carry_6 m c)
    (fun t hi hf => by
      rw [idle_6, Bool.not_eq_true', decide_eq_false_iff_not] at hi
      rw [flush_6, decide_eq_true_eq] at hf
      rw [fresh_6, decide_eq_false_iff_not]
      omega) t (by rw [idle_6, decide_eq_false h]; rfl)

theorem carry_7 (c : Dev nD) (t : Fin cfg0.N) (_ : t.val ≠ 0) (hi : cfg0.idle 7 (cfg0.grid.coords t) = true)
    (hf : cfg0.fresh 7 t.val = false) : (dats m 0 c).after 7 t = (dats m 0 c).after 7 ⟨t.val - 1, by omega⟩ := by
    rw [idle_7, Bool.not_eq_true', decide_eq_false_iff_not] at hi
    rw [fresh_7, decide_eq_false_iff_not] at hf
    rw [after_7, after_7]
    exact (ks_pred m c t (by omega)).symm

/-- A point that leaves window 7 alone hands its buffer back. -/
theorem kept_7 (c : Dev nD) (t : Fin cfg0.N) (h : ¬(t.val % 8 = 5)) :
    iprop(∃ d, owns (c : Thread nD τ) (ms_7 t) fullShare ((dats m 0 c).before 7 t d)) ⊢ ((dats m 0 c).leavesExact 7 t : sProp 𝕄) :=
  Cert.Keep.kept (dats m 0 c) 7 rfl (fun _ _ => rfl) (carry_7 m c)
    (fun t hi hf => by
      rw [idle_7, Bool.not_eq_true', decide_eq_false_iff_not] at hi
      rw [flush_7, decide_eq_true_eq] at hf
      rw [fresh_7, decide_eq_false_iff_not]
      omega) t (by rw [idle_7, decide_eq_false h]; rfl)

theorem carry_8 (c : Dev nD) (t : Fin cfg0.N) (_ : t.val ≠ 0) (hi : cfg0.idle 8 (cfg0.grid.coords t) = true)
    (hf : cfg0.fresh 8 t.val = false) : (dats m 0 c).after 8 t = (dats m 0 c).after 8 ⟨t.val - 1, by omega⟩ := by
    rw [idle_8, Bool.not_eq_true', decide_eq_false_iff_not] at hi
    rw [fresh_8, decide_eq_false_iff_not] at hf
    rw [after_8, after_8]
    exact (vs_pred m c t (by omega)).symm

/-- A point that leaves window 8 alone hands its buffer back. -/
theorem kept_8 (c : Dev nD) (t : Fin cfg0.N) (h : ¬(t.val % 8 = 6)) :
    iprop(∃ d, owns (c : Thread nD τ) (ms_8 t) fullShare ((dats m 0 c).before 8 t d)) ⊢ ((dats m 0 c).leavesExact 8 t : sProp 𝕄) :=
  Cert.Keep.kept (dats m 0 c) 8 rfl (fun _ _ => rfl) (carry_8 m c)
    (fun t hi hf => by
      rw [idle_8, Bool.not_eq_true', decide_eq_false_iff_not] at hi
      rw [flush_8, decide_eq_true_eq] at hf
      rw [fresh_8, decide_eq_false_iff_not]
      omega) t (by rw [idle_8, decide_eq_false h]; rfl)

theorem carry_9 (c : Dev nD) (t : Fin cfg0.N) (_ : t.val ≠ 0) (hi : cfg0.idle 9 (cfg0.grid.coords t) = true)
    (hf : cfg0.fresh 9 t.val = false) : (dats m 0 c).after 9 t = (dats m 0 c).after 9 ⟨t.val - 1, by omega⟩ := by
    rw [fresh_9, decide_eq_false_iff_not] at hf
    omega

/-- A point that leaves window 9 alone hands its buffer back. -/
theorem kept_9 (c : Dev nD) (t : Fin cfg0.N) (h : ¬(t.val % 8 = 7)) :
    iprop(∃ d, owns (c : Thread nD τ) (ms_9 t) fullShare ((dats m 0 c).before 9 t d)) ⊢ ((dats m 0 c).leavesExact 9 t : sProp 𝕄) :=
  Cert.Keep.kept (dats m 0 c) 9 rfl (fun _ _ => rfl) (carry_9 m c)
    (fun t hi hf => by
      rw [idle_9, Bool.not_eq_true', decide_eq_false_iff_not] at hi
      rw [flush_9, decide_eq_true_eq] at hf
      rw [fresh_9, decide_eq_false_iff_not]
      omega) t (by rw [idle_9, decide_eq_false h]; rfl)

/-- After the first step of a block of rows the kernel finds the normalised rows where it stored them. -/
theorem before_4 (c : Dev nD) (t : Fin cfg0.N) (h : t.val % 8 ≠ 0) (d) : (dats m 0 c).before 4 t d = rows m c t := by
  rw [(dats m 0 c).before_out_traj 4 rfl (fun _ _ => rfl) (carry_4 m c) t.val t rfl d, if_neg (by rw [fresh_4, decide_eq_true_eq]; exact h),
    after_4, rows_pred m c t h]

/-- The rows, left alone, are handed back. -/
theorem rows_kept (c : Dev nD) (t : Fin cfg0.N) (h : t.val % 8 ≠ 0) :
    owns (c : Thread nD τ) (ms_4 t) fullShare (rows m c t) ⊢ ((dats m 0 c).leavesExact 4 t : sProp 𝕄) := by
  have e := kept_4 m c t h
  rw [show (fun d => (owns (c : Thread nD τ) (ms_4 t) fullShare ((dats m 0 c).before 4 t d) : sProp 𝕄))
    = fun _ => owns (c : Thread nD τ) (ms_4 t) fullShare (rows m c t) from funext fun d => by rw [before_4 m c t h]] at e
  iintro H
  iapply e
  iexists (rows m c t)
  iexact H

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t)

set_option maxHeartbeats 4000000 in
/-- The body at a point, case by case of the step. -/
theorem sound_0 (c : Dev nD) (t : Fin cfg0.N) (h : t.val % 8 = 0) :
    bodyPre m c t ⊢ wp frame (wpE (defs₀ (F := F)) Variants.none c none) Set.univ (bodyAt0 t) (fun _ => bodyPost m c t) := by
  have e0 : rows m c t = k0_pay1 (iblk m c 0 t) (iblk m c 1 t) := by unfold rows; rw [pt_self t 0 h]
  have e1 : us m c t = k0_pay2 (k0_pay1 (iblk m c 0 t) (iblk m c 1 t)) (iblk m c 2 t) (iblk m c 3 t) := by unfold us; rw [e0, pt_self t (min (t.val % 8) 1) (by omega)]
  unfold bodyPre bodyPost bodyAt0
  simp only [before_0, before_1, before_2, before_3]
  rw [show (dats m 0 c).owesAt () t.succ = (dats m 0 c).owesAt () t.castSucc from rfl,
    show (dats m 0 c).Φ t.succ = (dats m 0 c).Φ t.castSucc from rfl,
    Cert.Keep.stored (dats m 0 c) 0 t rfl, Cert.Keep.stored (dats m 0 c) 1 t rfl, Cert.Keep.stored (dats m 0 c) 2 t rfl, Cert.Keep.stored (dats m 0 c) 3 t rfl, after_0, after_1, after_2, after_3,
    Cert.Keep.stored (dats m 0 c) 4 t (by rw [idle_4, decide_eq_true (by omega)]; rfl), after_4,
    Cert.Keep.stored (dats m 0 c) 5 t (by rw [idle_5, decide_eq_true (by omega)]; rfl), after_5, e1, e0]
  iintro ⟨HΦ, Ho, ⟨%d0, H0⟩, ⟨%d1, H1⟩, ⟨%d2, H2⟩, ⟨%d3, H3⟩, ⟨%d4, H4⟩, ⟨%d5, H5⟩, H6, H7, H8, H9⟩
  iapply (run_0 c (grid0.coords t) _ _ _ _ _ _ _ _ _ _ _ _ _ _ _ _ _ _ _ _ ((cond1 t).mpr (by omega)) ((cond2 t).mpr (by omega)) (fun hh => by have := (cond3 t).mp hh; omega) (fun hh => by have := (cond4 t).mp hh; omega) (fun hh => by have := (cond5 t).mp hh; omega) (fun hh => by have := (cond6 t).mp hh; omega)
    (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (kept_6 m c t (by omega)); iexact H6
  isplitl [H7]; · iapply (kept_7 m c t (by omega)); iexact H7
  isplitl [H8]; · iapply (kept_8 m c t (by omega)); iexact H8
  iapply (kept_9 m c t (by omega)); iexact H9

set_option maxHeartbeats 4000000 in
/-- The body at a point, case by case of the step. -/
theorem sound_1 (c : Dev nD) (t : Fin cfg0.N) (h : t.val % 8 = 1) :
    bodyPre m c t ⊢ wp frame (wpE (defs₀ (F := F)) Variants.none c none) Set.univ (bodyAt0 t) (fun _ => bodyPost m c t) := by
  have e0 : us m c t = k0_pay2 (rows m c t) (iblk m c 2 t) (iblk m c 3 t) := by unfold us; rw [pt_self t (min (t.val % 8) 1) (by omega)]
  unfold bodyPre bodyPost bodyAt0
  simp only [before_0, before_1, before_2, before_3, before_4 m c t (show t.val % 8 ≠ 0 by omega)]
  rw [show (dats m 0 c).owesAt () t.succ = (dats m 0 c).owesAt () t.castSucc from rfl,
    show (dats m 0 c).Φ t.succ = (dats m 0 c).Φ t.castSucc from rfl,
    Cert.Keep.stored (dats m 0 c) 0 t rfl, Cert.Keep.stored (dats m 0 c) 1 t rfl, Cert.Keep.stored (dats m 0 c) 2 t rfl, Cert.Keep.stored (dats m 0 c) 3 t rfl, after_0, after_1, after_2, after_3,
    Cert.Keep.stored (dats m 0 c) 5 t (by rw [idle_5, decide_eq_true (by omega)]; rfl), after_5, e0]
  iintro ⟨HΦ, Ho, ⟨%d0, H0⟩, ⟨%d1, H1⟩, ⟨%d2, H2⟩, ⟨%d3, H3⟩, ⟨%d4, H4⟩, ⟨%d5, H5⟩, H6, H7, H8, H9⟩
  iapply (run_1 c (grid0.coords t) _ _ _ _ _ _ _ _ _ _ _ _ _ _ _ _ _ _ _ _ (fun hh => by have := (cond1 t).mp hh; omega) ((cond2 t).mpr (by omega)) (fun hh => by have := (cond3 t).mp hh; omega) (fun hh => by have := (cond4 t).mp hh; omega) (fun hh => by have := (cond5 t).mp hh; omega) (fun hh => by have := (cond6 t).mp hh; omega)
    (iblk m c 2 t) (iblk m c 3 t) (rows m c t) Set.univ _)
  isplitl [H2]; · iexact H2
  isplitl [H3]; · iexact H3
  isplitl [H4]; · iexact H4
  isplitl [H5]; · iexists _; iexact H5
  iintro ⟨H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iapply (rows_kept m c t (show t.val % 8 ≠ 0 by omega)); iexact H4
  isplitl [H5]; · iexact H5
  isplitl [H6]; · iapply (kept_6 m c t (by omega)); iexact H6
  isplitl [H7]; · iapply (kept_7 m c t (by omega)); iexact H7
  isplitl [H8]; · iapply (kept_8 m c t (by omega)); iexact H8
  iapply (kept_9 m c t (by omega)); iexact H9

set_option maxHeartbeats 4000000 in
/-- The body at a point, case by case of the step. -/
theorem sound_2 (c : Dev nD) (t : Fin cfg0.N) (h : 2 ≤ t.val % 8 ∧ t.val % 8 ≤ 4) :
    bodyPre m c t ⊢ wp frame (wpE (defs₀ (F := F)) Variants.none c none) Set.univ (bodyAt0 t) (fun _ => bodyPost m c t) := by
  have e0 : qs m c t = k0_pay3 (rows m c t) (iblk m c 2 t) := by unfold qs; rw [pt_self t (max 2 (min (t.val % 8) 4)) (by omega)]
  unfold bodyPre bodyPost bodyAt0
  simp only [before_0, before_1, before_2, before_3, before_4 m c t (show t.val % 8 ≠ 0 by omega)]
  rw [show (dats m 0 c).owesAt () t.succ = (dats m 0 c).owesAt () t.castSucc from rfl,
    show (dats m 0 c).Φ t.succ = (dats m 0 c).Φ t.castSucc from rfl,
    Cert.Keep.stored (dats m 0 c) 0 t rfl, Cert.Keep.stored (dats m 0 c) 1 t rfl, Cert.Keep.stored (dats m 0 c) 2 t rfl, Cert.Keep.stored (dats m 0 c) 3 t rfl, after_0, after_1, after_2, after_3,
    Cert.Keep.stored (dats m 0 c) 6 t (by rw [idle_6, decide_eq_true (by omega)]; rfl), after_6, e0]
  iintro ⟨HΦ, Ho, ⟨%d0, H0⟩, ⟨%d1, H1⟩, ⟨%d2, H2⟩, ⟨%d3, H3⟩, ⟨%d4, H4⟩, H5, ⟨%d6, H6⟩, H7, H8, H9⟩
  iapply (run_2 c (grid0.coords t) _ _ _ _ _ _ _ _ _ _ _ _ _ _ _ _ _ _ _ _ (fun hh => by have := (cond1 t).mp hh; omega) (fun hh => by have := (cond2 t).mp hh; omega) ((cond3 t).mpr (by omega)) (fun hh => by have := (cond4 t).mp hh; omega) (fun hh => by have := (cond5 t).mp hh; omega) (fun hh => by have := (cond6 t).mp hh; omega)
    (iblk m c 2 t) (rows m c t) Set.univ _)
  isplitl [H2]; · iexact H2
  isplitl [H4]; · iexact H4
  isplitl [H6]; · iexists _; iexact H6
  iintro ⟨H2, H4, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iapply (rows_kept m c t (show t.val % 8 ≠ 0 by omega)); iexact H4
  isplitl [H5]; · iapply (kept_5 m c t (by omega)); iexact H5
  isplitl [H6]; · iexact H6
  isplitl [H7]; · iapply (kept_7 m c t (by omega)); iexact H7
  isplitl [H8]; · iapply (kept_8 m c t (by omega)); iexact H8
  iapply (kept_9 m c t (by omega)); iexact H9

set_option maxHeartbeats 4000000 in
/-- The body at a point, case by case of the step. -/
theorem sound_3 (c : Dev nD) (t : Fin cfg0.N) (h : t.val % 8 = 5) :
    bodyPre m c t ⊢ wp frame (wpE (defs₀ (F := F)) Variants.none c none) Set.univ (bodyAt0 t) (fun _ => bodyPost m c t) := by
  have e0 : ks m c t = k0_pay4 (rows m c t) (iblk m c 2 t) := by unfold ks; rw [pt_self t 5 h]
  unfold bodyPre bodyPost bodyAt0
  simp only [before_0, before_1, before_2, before_3, before_4 m c t (show t.val % 8 ≠ 0 by omega)]
  rw [show (dats m 0 c).owesAt () t.succ = (dats m 0 c).owesAt () t.castSucc from rfl,
    show (dats m 0 c).Φ t.succ = (dats m 0 c).Φ t.castSucc from rfl,
    Cert.Keep.stored (dats m 0 c) 0 t rfl, Cert.Keep.stored (dats m 0 c) 1 t rfl, Cert.Keep.stored (dats m 0 c) 2 t rfl, Cert.Keep.stored (dats m 0 c) 3 t rfl, after_0, after_1, after_2, after_3,
    Cert.Keep.stored (dats m 0 c) 7 t (by rw [idle_7, decide_eq_true (by omega)]; rfl), after_7, e0]
  iintro ⟨HΦ, Ho, ⟨%d0, H0⟩, ⟨%d1, H1⟩, ⟨%d2, H2⟩, ⟨%d3, H3⟩, ⟨%d4, H4⟩, H5, H6, ⟨%d7, H7⟩, H8, H9⟩
  iapply (run_3 c (grid0.coords t) _ _ _ _ _ _ _ _ _ _ _ _ _ _ _ _ _ _ _ _ (fun hh => by have := (cond1 t).mp hh; omega) (fun hh => by have := (cond2 t).mp hh; omega) (fun hh => by have := (cond3 t).mp hh; omega) ((cond4 t).mpr (by omega)) (fun hh => by have := (cond5 t).mp hh; omega) (fun hh => by have := (cond6 t).mp hh; omega)
    (iblk m c 2 t) (rows m c t) Set.univ _)
  isplitl [H2]; · iexact H2
  isplitl [H4]; · iexact H4
  isplitl [H7]; · iexists _; iexact H7
  iintro ⟨H2, H4, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iapply (rows_kept m c t (show t.val % 8 ≠ 0 by omega)); iexact H4
  isplitl [H5]; · iapply (kept_5 m c t (by omega)); iexact H5
  isplitl [H6]; · iapply (kept_6 m c t (by omega)); iexact H6
  isplitl [H7]; · iexact H7
  isplitl [H8]; · iapply (kept_8 m c t (by omega)); iexact H8
  iapply (kept_9 m c t (by omega)); iexact H9

set_option maxHeartbeats 4000000 in
/-- The body at a point, case by case of the step. -/
theorem sound_4 (c : Dev nD) (t : Fin cfg0.N) (h : t.val % 8 = 6) :
    bodyPre m c t ⊢ wp frame (wpE (defs₀ (F := F)) Variants.none c none) Set.univ (bodyAt0 t) (fun _ => bodyPost m c t) := by
  have e0 : vs m c t = k0_pay5 (rows m c t) (iblk m c 2 t) := by unfold vs; rw [pt_self t 6 h]
  unfold bodyPre bodyPost bodyAt0
  simp only [before_0, before_1, before_2, before_3, before_4 m c t (show t.val % 8 ≠ 0 by omega)]
  rw [show (dats m 0 c).owesAt () t.succ = (dats m 0 c).owesAt () t.castSucc from rfl,
    show (dats m 0 c).Φ t.succ = (dats m 0 c).Φ t.castSucc from rfl,
    Cert.Keep.stored (dats m 0 c) 0 t rfl, Cert.Keep.stored (dats m 0 c) 1 t rfl, Cert.Keep.stored (dats m 0 c) 2 t rfl, Cert.Keep.stored (dats m 0 c) 3 t rfl, after_0, after_1, after_2, after_3,
    Cert.Keep.stored (dats m 0 c) 8 t (by rw [idle_8, decide_eq_true (by omega)]; rfl), after_8, e0]
  iintro ⟨HΦ, Ho, ⟨%d0, H0⟩, ⟨%d1, H1⟩, ⟨%d2, H2⟩, ⟨%d3, H3⟩, ⟨%d4, H4⟩, H5, H6, H7, ⟨%d8, H8⟩, H9⟩
  iapply (run_4 c (grid0.coords t) _ _ _ _ _ _ _ _ _ _ _ _ _ _ _ _ _ _ _ _ (fun hh => by have := (cond1 t).mp hh; omega) (fun hh => by have := (cond2 t).mp hh; omega) (fun hh => by have := (cond3 t).mp hh; omega) (fun hh => by have := (cond4 t).mp hh; omega) ((cond5 t).mpr (by omega)) (fun hh => by have := (cond6 t).mp hh; omega)
    (iblk m c 2 t) (rows m c t) Set.univ _)
  isplitl [H2]; · iexact H2
  isplitl [H4]; · iexact H4
  isplitl [H8]; · iexists _; iexact H8
  iintro ⟨H2, H4, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iapply (rows_kept m c t (show t.val % 8 ≠ 0 by omega)); iexact H4
  isplitl [H5]; · iapply (kept_5 m c t (by omega)); iexact H5
  isplitl [H6]; · iapply (kept_6 m c t (by omega)); iexact H6
  isplitl [H7]; · iapply (kept_7 m c t (by omega)); iexact H7
  isplitl [H8]; · iexact H8
  iapply (kept_9 m c t (by omega)); iexact H9

set_option maxHeartbeats 4000000 in
/-- The body at a point, case by case of the step. -/
theorem sound_5 (c : Dev nD) (t : Fin cfg0.N) (h : t.val % 8 = 7) :
    bodyPre m c t ⊢ wp frame (wpE (defs₀ (F := F)) Variants.none c none) Set.univ (bodyAt0 t) (fun _ => bodyPost m c t) := by
  have e0 : xs m c t = k0_pay6 (rows m c t) (iblk m c 2 t) := by unfold xs; rw [pt_self t 7 h]
  unfold bodyPre bodyPost bodyAt0
  simp only [before_0, before_1, before_2, before_3, before_4 m c t (show t.val % 8 ≠ 0 by omega)]
  rw [show (dats m 0 c).owesAt () t.succ = (dats m 0 c).owesAt () t.castSucc from rfl,
    show (dats m 0 c).Φ t.succ = (dats m 0 c).Φ t.castSucc from rfl,
    Cert.Keep.stored (dats m 0 c) 0 t rfl, Cert.Keep.stored (dats m 0 c) 1 t rfl, Cert.Keep.stored (dats m 0 c) 2 t rfl, Cert.Keep.stored (dats m 0 c) 3 t rfl, after_0, after_1, after_2, after_3,
    Cert.Keep.stored (dats m 0 c) 9 t (by rw [idle_9, decide_eq_true (by omega)]; rfl), after_9, e0]
  iintro ⟨HΦ, Ho, ⟨%d0, H0⟩, ⟨%d1, H1⟩, ⟨%d2, H2⟩, ⟨%d3, H3⟩, ⟨%d4, H4⟩, H5, H6, H7, H8, ⟨%d9, H9⟩⟩
  iapply (run_5 c (grid0.coords t) _ _ _ _ _ _ _ _ _ _ _ _ _ _ _ _ _ _ _ _ (fun hh => by have := (cond1 t).mp hh; omega) (fun hh => by have := (cond2 t).mp hh; omega) (fun hh => by have := (cond3 t).mp hh; omega) (fun hh => by have := (cond4 t).mp hh; omega) (fun hh => by have := (cond5 t).mp hh; omega) ((cond6 t).mpr (by omega))
    (iblk m c 2 t) (rows m c t) Set.univ _)
  isplitl [H2]; · iexact H2
  isplitl [H4]; · iexact H4
  isplitl [H9]; · iexists _; iexact H9
  iintro ⟨H2, H4, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iapply (rows_kept m c t (show t.val % 8 ≠ 0 by omega)); iexact H4
  isplitl [H5]; · iapply (kept_5 m c t (by omega)); iexact H5
  isplitl [H6]; · iapply (kept_6 m c t (by omega)); iexact H6
  isplitl [H7]; · iapply (kept_7 m c t (by omega)); iexact H7
  isplitl [H8]; · iapply (kept_8 m c t (by omega)); iexact H8
  iexact H9

/-- The body at any point. -/
theorem sound_body (c : Dev nD) (t : Fin cfg0.N) :
    bodyPre m c t ⊢ wp frame (wpE (defs₀ (F := F)) Variants.none c none) Set.univ (bodyAt0 t) (fun _ => bodyPost m c t) := by
  have hc : t.val % 8 = 0 ∨ t.val % 8 = 1 ∨ (2 ≤ t.val % 8 ∧ t.val % 8 ≤ 4) ∨ t.val % 8 = 5 ∨ t.val % 8 = 6 ∨ t.val % 8 = 7 := by omega
  rcases hc with h | h | h | h | h | h
  · exact sound_0 m c t h
  · exact sound_1 m c t h
  · exact sound_2 m c t h
  · exact sound_3 m c t h
  · exact sound_4 m c t h
  · exact sound_5 m c t h

/-- The region begins and ends with nothing of its own beside the windows. -/
theorem hin (c : Dev nD) : Pipeline.ΦA spec0 c ⊢ (dats m 0 c).Φ 0 := by
  rw [show (dats m 0 c).Φ 0 = Pipeline.ΦA spec0 c from rfl]
@[inherit_doc hin] theorem hout (c : Dev nD) : (dats m 0 c).Φ (Fin.last cfg0.N) ⊢ Pipeline.ΦA spec0 c := by
  rw [show (dats m 0 c).Φ (Fin.last cfg0.N) = Pipeline.ΦA spec0 c from rfl]

theorem defs₀_row (t : Fin cfg0.N) : defs₀ (F := F) .tc cfg0.body (cfg0.bodyArgs t (cfg0.slots t)) = bodyAt0 t := by
  unfold defs₀
  rw [Defs.onTc_tc]

/-- The pipeline's obligation on the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every run ends, with the arrays at what the data say and no semaphore left raised. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ w _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

/-- The frame: every run ends, the arguments as they began and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.InProjSIdeal.Hand

end
-- ==== Proof.InProjSFrame.lean ====
/-
  The sample projections: the frame of the printed call, from that of the call printed for reading over the extended reals, which is the same program.
-/
module

public import proofs.«01_k».proof.Proof.Gen.InProjS
public import proofs.«01_k».proof.Proof.InProjSIdealFrame

@[expose] public section

noncomputable section

namespace Cert.InProjS.Hand

open Cert.InProjS Cert.InProjS.Gen Idealize.ShloMosaic Idealize.ShloMosaic.TcCoe Idealize.SL Idealize.SL.Sem

variable {F : FTy → Type} [FloatOps F]

/-- The bodies of the two calls are the same. -/
theorem bodies : (defs₀ (F := F)) = Cert.InProjSIdeal.defs₀ (F := F) := by
  unfold defs₀ Cert.InProjSIdeal.defs₀
  refine congrArg Defs.onTc (funext fun l => funext fun a => ?_)
  match l, a with
  | 0, (t, s) => rfl
  | ⟨_ + 1, h⟩, _ => exact absurd h (Nat.not_lt.2 (Nat.le_add_left _ _))

@[inherit_doc bodies] theorem bodies' : (defs (F := F)) = Cert.InProjSIdeal.defs (F := F) :=
  congrArg (Pipeline.defs pcfgs) bodies

/-- The frame: every run ends, the arguments as they began and every semaphore at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [bodies']
  exact Cert.InProjSIdeal.Hand.frame m ρ

end Cert.InProjS.Hand

end
-- ==== Proof.InProjSValue.lean ====
/-
  The sample projections of the input over the extended reals: what the six results hold, read off the arguments.
-/
module

public import proofs.«01_k».proof.Proof.Rows
public import proofs.«01_k».proof.Proof.InProjSIdealFrame
public import Idealize.ShloMosaic.Lib.Pointwise
public import Idealize.ShloMosaic.Lib.StableHlo.ReadAt
public import Idealize.ShloMosaic.Lib.Tactic

@[expose] public section

set_option maxRecDepth 16384

noncomputable section

open Idealize.ShloMosaic Idealize.ShloMosaic.TcCoe Idealize.SL.Sem

namespace Cert.InProjSIdeal.Hand

open Cert.InProjSIdeal Cert.InProjSIdeal.Gen Cert.Ffn1k

/-- The stored normalised block at row `r`, column `k`. -/
theorem norm_at (x : FVec Ideal S32x2048 .f32) (g : FVec Ideal S1x2048 .f32) (r : Fin 32) (k : Fin 2048) :
    k0_pay1 (F := Ideal) x g (ix2 r k) = rms (fun j => x (ix2 r j)) (g (ix2 0 k)) k := by
  unfold rms
  pointwise! [k0_pay1]

/-- The gated product at row `r`, column `d`. -/
theorem glu_at (h : FVec Ideal S32x2048 .bf16) (w1 w2 : FVec Ideal S2048x512 .bf16) (r : Fin 32) (d : Fin 512) :
    k0_pay2 (F := Ideal) h w1 w2 (ix2 r d)
      = (∑ k : Fin 2048, h (ix2 r k) * w1 (ix2 k d)) * Ideal.logistic (∑ k : Fin 2048, h (ix2 r k) * w2 (ix2 k d)) := by
  pointwise! [k0_pay2]

/-- The stored product of the queries at row `r`, column `d`. -/
theorem mm_at0 (h : FVec Ideal S32x2048 .bf16) (w : FVec Ideal S2048x512 .bf16) (r : Fin 32) (d : Fin 512) :
    k0_pay3 (F := Ideal) h w (ix2 r d) = ∑ k : Fin 2048, h (ix2 r k) * w (ix2 k d) := by
  pointwise! [k0_pay3]

/-- The stored product of the keys at row `r`, column `d`. -/
theorem mm_at1 (h : FVec Ideal S32x2048 .bf16) (w : FVec Ideal S2048x512 .bf16) (r : Fin 32) (d : Fin 512) :
    k0_pay4 (F := Ideal) h w (ix2 r d) = ∑ k : Fin 2048, h (ix2 r k) * w (ix2 k d) := by
  pointwise! [k0_pay4]

/-- The stored product of the values at row `r`, column `d`. -/
theorem mm_at2 (h : FVec Ideal S32x2048 .bf16) (w : FVec Ideal S2048x512 .bf16) (r : Fin 32) (d : Fin 512) :
    k0_pay5 (F := Ideal) h w (ix2 r d) = ∑ k : Fin 2048, h (ix2 r k) * w (ix2 k d) := by
  pointwise! [k0_pay5]

/-- The stored product of the memory queries at row `r`, column `d`. -/
theorem mm_at3 (h : FVec Ideal S32x2048 .bf16) (w : FVec Ideal S2048x512 .bf16) (r : Fin 32) (d : Fin 512) :
    k0_pay6 (F := Ideal) h w (ix2 r d) = ∑ k : Fin 2048, h (ix2 r k) * w (ix2 k d) := by
  pointwise! [k0_pay6]

variable (m : (ℓ : Loc nD τ sig) → Buf (Elt Ideal) ℓ) (c : Dev nD)

/-- The input with its batch and position axes joined. -/
def X : FVec Ideal ⟨2, ![32, 2048]⟩ .f32 :=
  shapeCast _ (m ((c : Thread nD τ).loc main_arg0) : FVec Ideal S32x1x2048 .f32) shapeCasts_S32x1x2048_S32x2048
/-- The gain. -/
abbrev G : FVec Ideal ⟨2, ![1, 2048]⟩ .f32 := m ((c : Thread nD τ).loc main_arg1)
/-- The weights. -/
abbrev W : FVec Ideal ⟨3, ![1, 2048, 11264]⟩ .f32 := m ((c : Thread nD τ).loc main_arg2)

/-- The kernel's first operand is the input with its axes joined. -/
theorem x_at (R : Fin 32) (k : Fin 2048) : (V m c main_v0 : FVec Ideal S32x2048 .f32) (ix2 R k) = X m c (ix2 R k) := by
  unfold V X
  after_reads_simp
  try rfl

/-- The gain in the kernel's layout is the argument's row. -/
theorem gain_at (k : Fin 2048) : (V m c main_v4 : FVec Ideal S1x2048 .f32) (ix2 0 k) = G m c (ix2 0 k) := by
  unfold V
  after_reads_at

/-- The weights in the kernel's layout are the argument's one layer. -/
theorem w_at (k : Fin 2048) (j : Fin 11264) : (V m c main_v2 : FVec Ideal S2048x11264 .bf16) (ix2 k j) = W m c (ix3 0 k j) := by
  unfold V
  after_reads_at

/-- Where the windows' blocks lie. -/
theorem place_0 : ∀ t : Fin cfg0.N, win0_0.index t (0 : Fin 2) = t.val / 8 ∧ win0_0.index t (1 : Fin 2) = 0 :=
  (by decide +kernel : ∀ t : Fin grid0.N, _)
@[inherit_doc place_0] theorem place_1 : ∀ t : Fin cfg0.N, win0_1.index t (0 : Fin 2) = 0 ∧ win0_1.index t (1 : Fin 2) = 0 :=
  (by decide +kernel : ∀ t : Fin grid0.N, _)
@[inherit_doc place_0] theorem place_2 : ∀ t : Fin cfg0.N, win0_2.index t (0 : Fin 2) = 0
    ∧ (t.val % 8 < 2 → win0_2.index t (1 : Fin 2) = t.val % 8) ∧ (2 ≤ t.val % 8 → win0_2.index t (1 : Fin 2) = t.val % 8 + 2) :=
  (by decide +kernel : ∀ t : Fin grid0.N, _)
@[inherit_doc place_0] theorem place_3 : ∀ t : Fin cfg0.N, win0_3.index t (0 : Fin 2) = 0 ∧ win0_3.index t (1 : Fin 2) = min (t.val % 8) 1 + 2 :=
  (by decide +kernel : ∀ t : Fin grid0.N, _)
@[inherit_doc place_0] theorem place_4 : ∀ t : Fin cfg0.N, win0_4.index t (0 : Fin 2) = t.val / 8 ∧ win0_4.index t (1 : Fin 2) = 0 :=
  (by decide +kernel : ∀ t : Fin grid0.N, _)
@[inherit_doc place_0] theorem place_5 : ∀ t : Fin cfg0.N, win0_5.index t (0 : Fin 2) = t.val / 8 ∧ win0_5.index t (1 : Fin 2) = min (t.val % 8) 1 :=
  (by decide +kernel : ∀ t : Fin grid0.N, _)
@[inherit_doc place_0] theorem place_6 : ∀ t : Fin cfg0.N, win0_6.index t (0 : Fin 2) = t.val / 8 ∧ win0_6.index t (1 : Fin 2) = max 2 (min (t.val % 8) 4) - 2 :=
  (by decide +kernel : ∀ t : Fin grid0.N, _)
@[inherit_doc place_0] theorem place_7 : ∀ t : Fin cfg0.N, win0_7.index t (0 : Fin 2) = t.val / 8 ∧ win0_7.index t (1 : Fin 2) = 0 :=
  (by decide +kernel : ∀ t : Fin grid0.N, _)
@[inherit_doc place_0] theorem place_8 : ∀ t : Fin cfg0.N, win0_8.index t (0 : Fin 2) = t.val / 8 ∧ win0_8.index t (1 : Fin 2) = 0 :=
  (by decide +kernel : ∀ t : Fin grid0.N, _)
@[inherit_doc place_0] theorem place_9 : ∀ t : Fin cfg0.N, win0_9.index t (0 : Fin 2) = t.val / 8 ∧ win0_9.index t (1 : Fin 2) = 0 :=
  (by decide +kernel : ∀ t : Fin grid0.N, _)

/-- Row `r` of the input block is row `32 (t / 8) + r` of the input. -/
theorem rows_at (t : Fin cfg0.N) (r : Fin 32) (k : Fin 2048) (R : Fin 32) (hR : R.val = 32 * (t.val / 8) + r.val) :
    (iblk m c 0 t : FVec Ideal S32x2048 .f32) (ix2 r k) = X m c (ix2 R k) := by
  obtain ⟨a0, a1⟩ := place_0 t
  rw [← x_at m c]
  refine congrArg (V m c main_v0) (funext fun a => Fin.ext ?_)
  match a with
  | ⟨0, _⟩ => show win0_0.index t (0 : Fin 2) * 32 + 1 * r.val = R.val; omega
  | ⟨1, _⟩ => show win0_0.index t (1 : Fin 2) * 2048 + 1 * k.val = k.val; omega

/-- The gain's block is the gain. -/
theorem gain_blk (t : Fin cfg0.N) (k : Fin 2048) : (iblk m c 1 t : FVec Ideal S1x2048 .f32) (ix2 0 k) = G m c (ix2 0 k) := by
  obtain ⟨a0, a1⟩ := place_1 t
  rw [← gain_at m c k]
  refine congrArg (V m c main_v4) (funext fun a => Fin.ext ?_)
  match a with
  | ⟨0, _⟩ => show win0_1.index t (0 : Fin 2) * 1 + 1 * 0 = 0; omega
  | ⟨1, _⟩ => show win0_1.index t (1 : Fin 2) * 2048 + 1 * k.val = k.val; omega

/-- A column of block 1 of the weights is a column of the weights. -/
theorem w_blk2 (t : Fin cfg0.N) (k : Fin 2048) (j : Fin 512) (J : Fin 11264) (hJ : J.val = win0_2.index t (1 : Fin 2) * 512 + j.val) :
    (iblk m c 2 t : FVec Ideal S2048x512 .bf16) (ix2 k j) = W m c (ix3 0 k J) := by
  have a0 := (place_2 t).1
  rw [← w_at m c k J]
  refine congrArg (V m c main_v2) (funext fun a => Fin.ext ?_)
  match a with
  | ⟨0, _⟩ => show win0_2.index t (0 : Fin 2) * 2048 + 1 * k.val = k.val; omega
  | ⟨1, _⟩ => show win0_2.index t (1 : Fin 2) * 512 + 1 * j.val = J.val; omega

/-- A column of block 2 of the weights is a column of the weights. -/
theorem w_blk3 (t : Fin cfg0.N) (k : Fin 2048) (j : Fin 512) (J : Fin 11264) (hJ : J.val = win0_3.index t (1 : Fin 2) * 512 + j.val) :
    (iblk m c 3 t : FVec Ideal S2048x512 .bf16) (ix2 k j) = W m c (ix3 0 k J) := by
  have a0 := (place_3 t).1
  rw [← w_at m c k J]
  refine congrArg (V m c main_v2) (funext fun a => Fin.ext ?_)
  match a with
  | ⟨0, _⟩ => show win0_3.index t (0 : Fin 2) * 2048 + 1 * k.val = k.val; omega
  | ⟨1, _⟩ => show win0_3.index t (1 : Fin 2) * 512 + 1 * j.val = J.val; omega

theorem pt_val (t : Fin cfg0.N) (k : ℕ) (hk : k < 8) : (pt t k).val % 8 = k ∧ (pt t k).val / 8 = t.val / 8 := by
  have e : (pt t k).val = t.val - t.val % 8 + min k 7 := rfl
  omega

/-- The stored rows are the input's rows normalised. -/
theorem rows_hid (t : Fin cfg0.N) (r : Fin 32) (k : Fin 2048) (R : Fin 32) (hR : R.val = 32 * (t.val / 8) + r.val) :
    rows m c t (ix2 r k) = Cert.Rows.hid (X m c) (G m c) R k := by
  have hp := pt_val t 0 (by omega)
  unfold rows Cert.Rows.hid
  refine (norm_at (iblk m c 0 (pt t 0)) (iblk m c 1 (pt t 0)) r k).trans ?_
  rw [show (fun j => (iblk m c 0 (pt t 0) : FVec Ideal S32x2048 .f32) (ix2 r j)) = fun j => X m c (ix2 R j) from
    funext fun j => rows_at m c (pt t 0) r j R (by omega)]
  exact congrArg (fun z => rms _ z k) (gain_blk m c (pt t 0) k)

/-- The stored rows' product with a block of the weights is the projection onto the block's columns. -/
theorem prod_at (t u : Fin cfg0.N) (r : Fin 32) (d : Fin 512) (R : Fin 32) (hR : R.val = 32 * (t.val / 8) + r.val) (J : Fin 11264)
    (hJ : J.val = win0_2.index u (1 : Fin 2) * 512 + d.val) :
    ∑ k : Fin 2048, rows m c t (ix2 r k) * (iblk m c 2 u : FVec Ideal S2048x512 .bf16) (ix2 k d) = Cert.Rows.proj (X m c) (G m c) (W m c) R J :=
  Finset.sum_congr rfl fun k _ => congrArg₂ (· * ·) (rows_hid m c t r k R hR) (w_blk2 m c u k d J hJ)

@[inherit_doc prod_at] theorem prod3_at (t u : Fin cfg0.N) (r : Fin 32) (d : Fin 512) (R : Fin 32) (hR : R.val = 32 * (t.val / 8) + r.val) (J : Fin 11264)
    (hJ : J.val = win0_3.index u (1 : Fin 2) * 512 + d.val) :
    ∑ k : Fin 2048, rows m c t (ix2 r k) * (iblk m c 3 u : FVec Ideal S2048x512 .bf16) (ix2 k d) = Cert.Rows.proj (X m c) (G m c) (W m c) R J :=
  Finset.sum_congr rfl fun k _ => congrArg₂ (· * ·) (rows_hid m c t r k R hR) (w_blk3 m c u k d J hJ)

/-- The gated block holds the gated projections. -/
theorem gated_at (t : Fin cfg0.N) (r : Fin 32) (d : Fin 512) (R : Fin 32) (hR : R.val = 32 * (t.val / 8) + r.val) (J : Fin 1024)
    (hJ : J.val = min (t.val % 8) 1 * 512 + d.val) :
    k0_pay2 (F := Ideal) (rows m c t) (iblk m c 2 (pt t (min (t.val % 8) 1))) (iblk m c 3 (pt t (min (t.val % 8) 1))) (ix2 r d)
      = Cert.Rows.glu (X m c) (G m c) (W m c) R J := by
  have hp := pt_val t (min (t.val % 8) 1) (by omega)
  have h2 := (place_2 (pt t (min (t.val % 8) 1))).2.1 (by omega)
  have h3 := (place_3 (pt t (min (t.val % 8) 1))).2
  unfold Cert.Rows.glu
  refine (glu_at _ _ _ r d).trans ?_
  exact congrArg₂ (fun a b => a * Ideal.logistic b) (prod_at m c t _ r d R hR _ (by dsimp only; omega)) (prod3_at m c t _ r d R hR _ (by dsimp only; omega))

/-- The block of the queries holds the projections onto their columns. -/
theorem qs_at (t : Fin cfg0.N) (r : Fin 32) (d : Fin 512) (R : Fin 32) (hR : R.val = 32 * (t.val / 8) + r.val) (J : Fin 11264)
    (hJ : J.val = 2048 + ((max 2 (min (t.val % 8) 4) - 2) * 512 + d.val)) :
    qs m c t (ix2 r d) = Cert.Rows.proj (X m c) (G m c) (W m c) R J := by
  have hp := pt_val t (max 2 (min (t.val % 8) 4)) (by omega)
  have h2 := (place_2 (pt t (max 2 (min (t.val % 8) 4)))).2.2 (by omega)
  unfold qs
  exact (mm_at0 _ _ r d).trans (prod_at m c t _ r d R hR J (by omega))

/-- The block of the keys holds the projections onto their columns. -/
theorem ks_at (t : Fin cfg0.N) (r : Fin 32) (d : Fin 512) (R : Fin 32) (hR : R.val = 32 * (t.val / 8) + r.val) (J : Fin 11264)
    (hJ : J.val = 3584 + (d.val)) :
    ks m c t (ix2 r d) = Cert.Rows.proj (X m c) (G m c) (W m c) R J := by
  have hp := pt_val t (5) (by omega)
  have h2 := (place_2 (pt t (5))).2.2 (by omega)
  unfold ks
  exact (mm_at1 _ _ r d).trans (prod_at m c t _ r d R hR J (by omega))

/-- The block of the values holds the projections onto their columns. -/
theorem vs_at (t : Fin cfg0.N) (r : Fin 32) (d : Fin 512) (R : Fin 32) (hR : R.val = 32 * (t.val / 8) + r.val) (J : Fin 11264)
    (hJ : J.val = 4096 + (d.val)) :
    vs m c t (ix2 r d) = Cert.Rows.proj (X m c) (G m c) (W m c) R J := by
  have hp := pt_val t (6) (by omega)
  have h2 := (place_2 (pt t (6))).2.2 (by omega)
  unfold vs
  exact (mm_at2 _ _ r d).trans (prod_at m c t _ r d R hR J (by omega))

/-- The block of the memory queries holds the projections onto their columns. -/
theorem xs_at (t : Fin cfg0.N) (r : Fin 32) (d : Fin 512) (R : Fin 32) (hR : R.val = 32 * (t.val / 8) + r.val) (J : Fin 11264)
    (hJ : J.val = 4608 + (d.val)) :
    xs m c t (ix2 r d) = Cert.Rows.proj (X m c) (G m c) (W m c) R J := by
  have hp := pt_val t (7) (by omega)
  have h2 := (place_2 (pt t (7))).2.2 (by omega)
  unfold xs
  exact (mm_at3 _ _ r d).trans (prod_at m c t _ r d R hR J (by omega))

/-- The results as whole arrays. -/
def HA : FVec Ideal ⟨2, ![32, 2048]⟩ .bf16 := fun i => Cert.Rows.hid (X m c) (G m c) (i 0) (i 1)
@[inherit_doc HA] def UA : FVec Ideal ⟨2, ![32, 1024]⟩ .f32 := fun i => Cert.Rows.glu (X m c) (G m c) (W m c) (i 0) (i 1)
@[inherit_doc HA] def QA : FVec Ideal ⟨2, ![32, 1536]⟩ .f32 := fun i => Cert.Rows.proj (X m c) (G m c) (W m c) (i 0)
  ⟨2048 + (i 1).val, by have : (i 1).val < 1536 := (i 1).isLt; omega⟩
@[inherit_doc HA] def KA : FVec Ideal ⟨2, ![32, 512]⟩ .f32 := fun i => Cert.Rows.proj (X m c) (G m c) (W m c) (i 0)
  ⟨3584 + (i 1).val, by have : (i 1).val < 512 := (i 1).isLt; omega⟩
@[inherit_doc HA] def VA : FVec Ideal ⟨2, ![32, 512]⟩ .f32 := fun i => Cert.Rows.proj (X m c) (G m c) (W m c) (i 0)
  ⟨4096 + (i 1).val, by have : (i 1).val < 512 := (i 1).isLt; omega⟩
@[inherit_doc HA] def XA : FVec Ideal ⟨2, ![32, 512]⟩ .f32 := fun i => Cert.Rows.proj (X m c) (G m c) (W m c) (i 0)
  ⟨4608 + (i 1).val, by have : (i 1).val < 512 := (i 1).isLt; omega⟩

/-- Every index of the result lies in a written block. -/
theorem cover_4 (i : S32x2048.Idx) : ∃ t : Fin cfg0.N, (cfg0.win 4).flush t = true ∧ i ∈ ((cfg0.win 4).blk t).view.set := by
  have h0 : (i 0).val < 32 := (i 0).isLt
  have h1 : (i 1).val < 2048 := (i 1).isLt
  have hlt : 8 * ((i 0).val / 32) + 7 < cfg0.N := lt_of_lt_of_eq (by omega) N_0.symm
  refine ⟨⟨8 * ((i 0).val / 32) + 7, hlt⟩, ?_, ?_⟩
  · rw [flush_4]
    exact decide_eq_true (by dsimp only; omega)
  · generalize ht : (⟨8 * ((i 0).val / 32) + 7, hlt⟩ : Fin cfg0.N) = t
    have hv : t.val = 8 * ((i 0).val / 32) + 7 := congrArg Fin.val ht.symm
    obtain ⟨a0, a1⟩ := place_4 t
    show i ∈ ((View.whole main_v5_0).slice (win0_4.rect t)).set
    rw [View.set_slice_whole, Rect.mem_set_unit]
    intro a
    match a with
    | ⟨0, _⟩ => show win0_4.index t (0 : Fin 2) * 32 ≤ (i 0).val ∧ (i 0).val < win0_4.index t (0 : Fin 2) * 32 + 32; omega
    | ⟨1, _⟩ => show win0_4.index t (1 : Fin 2) * 2048 ≤ (i 1).val ∧ (i 1).val < win0_4.index t (1 : Fin 2) * 2048 + 2048; omega

/-- The result array at the end of the run. -/
theorem final_4 : (dats m 0 c).arrAt 4 cfg0.N = HA m c := by
  refine (dats m 0 c).arrAt_eq_of_cover 4 _ (fun t hf => ?_) (cover_4)
  rw [flush_4, decide_eq_true_eq] at hf
  have hN : t.val < 8 := lt_of_lt_of_eq t.isLt N_0
  obtain ⟨a0, a1⟩ := place_4 t
  show (cfg0.win 4).cut (grid0.coords t) ((dats m 0 c).after 4 t) = _
  rw [after_4]
  funext y
  have hy0 : (y 0).val < 32 := (y 0).isLt
  have hy1 : (y 1).val < 2048 := (y 1).isLt
  have e0 : (((cfg0.win 4).blk t).view.emb y 0).val = 32 * (t.val / 8) + (y 0).val := by
    show win0_4.index t (0 : Fin 2) * 32 + 1 * (y 0).val = _; omega
  have e1 : (((cfg0.win 4).blk t).view.emb y 1).val = (y 1).val := by
    show win0_4.index t (1 : Fin 2) * 2048 + 1 * (y 1).val = _; omega
  have ex : (cfg0.win 4).xinj (grid0.coords t) y = (ix2 ⟨(y 0).val, hy0⟩ ⟨(y 1).val, hy1⟩ : S32x2048.Idx) := by
    funext a
    match a with
    | ⟨0, _⟩ => rfl
    | ⟨1, _⟩ => rfl
  show rows m c t ((cfg0.win 4).xinj (grid0.coords t) y) = HA m c (((cfg0.win 4).blk t).view.emb y)
  rw [ex]
  unfold HA
  refine (rows_hid m c t _ _ ⟨32 * (t.val / 8) + (y 0).val, by omega⟩ rfl).trans ?_
  exact congrArg₂ (Cert.Rows.hid (X m c) (G m c)) (Fin.ext e0.symm) (Fin.ext e1.symm)

/-- Every index of the result lies in a written block. -/
theorem cover_5 (i : S32x1024.Idx) : ∃ t : Fin cfg0.N, (cfg0.win 5).flush t = true ∧ i ∈ ((cfg0.win 5).blk t).view.set := by
  have h0 : (i 0).val < 32 := (i 0).isLt
  have h1 : (i 1).val < 1024 := (i 1).isLt
  have hc : (i 1).val / 512 = 0 ∨ (i 1).val / 512 = 1 := by omega
  have hlt : 8 * ((i 0).val / 32) + 7 * ((i 1).val / 512) < cfg0.N := lt_of_lt_of_eq (by omega) N_0.symm
  refine ⟨⟨8 * ((i 0).val / 32) + 7 * ((i 1).val / 512), hlt⟩, ?_, ?_⟩
  · rw [flush_5]
    exact decide_eq_true (by dsimp only; (rcases hc with hc | hc <;> omega))
  · generalize ht : (⟨8 * ((i 0).val / 32) + 7 * ((i 1).val / 512), hlt⟩ : Fin cfg0.N) = t
    have hv : t.val = 8 * ((i 0).val / 32) + 7 * ((i 1).val / 512) := congrArg Fin.val ht.symm
    obtain ⟨a0, a1⟩ := place_5 t
    show i ∈ ((View.whole main_v5_1).slice (win0_5.rect t)).set
    rw [View.set_slice_whole, Rect.mem_set_unit]
    intro a
    match a with
    | ⟨0, _⟩ => show win0_5.index t (0 : Fin 2) * 32 ≤ (i 0).val ∧ (i 0).val < win0_5.index t (0 : Fin 2) * 32 + 32; (rcases hc with hc | hc <;> omega)
    | ⟨1, _⟩ => show win0_5.index t (1 : Fin 2) * 512 ≤ (i 1).val ∧ (i 1).val < win0_5.index t (1 : Fin 2) * 512 + 512; (rcases hc with hc | hc <;> omega)

/-- The result array at the end of the run. -/
theorem final_5 : (dats m 0 c).arrAt 5 cfg0.N = UA m c := by
  refine (dats m 0 c).arrAt_eq_of_cover 5 _ (fun t hf => ?_) (cover_5)
  rw [flush_5, decide_eq_true_eq] at hf
  have hN : t.val < 8 := lt_of_lt_of_eq t.isLt N_0
  obtain ⟨a0, a1⟩ := place_5 t
  show (cfg0.win 5).cut (grid0.coords t) ((dats m 0 c).after 5 t) = _
  rw [after_5]
  funext y
  have hy0 : (y 0).val < 32 := (y 0).isLt
  have hy1 : (y 1).val < 512 := (y 1).isLt
  have e0 : (((cfg0.win 5).blk t).view.emb y 0).val = 32 * (t.val / 8) + (y 0).val := by
    show win0_5.index t (0 : Fin 2) * 32 + 1 * (y 0).val = _; omega
  have e1 : (((cfg0.win 5).blk t).view.emb y 1).val = min (t.val % 8) 1 * 512 + (y 1).val := by
    show win0_5.index t (1 : Fin 2) * 512 + 1 * (y 1).val = _; omega
  have ex : (cfg0.win 5).xinj (grid0.coords t) y = (ix2 ⟨(y 0).val, hy0⟩ ⟨(y 1).val, hy1⟩ : S32x512.Idx) := by
    funext a
    match a with
    | ⟨0, _⟩ => rfl
    | ⟨1, _⟩ => rfl
  show us m c t ((cfg0.win 5).xinj (grid0.coords t) y) = UA m c (((cfg0.win 5).blk t).view.emb y)
  rw [ex]
  unfold UA
  unfold us
  refine (gated_at m c t _ _ ⟨32 * (t.val / 8) + (y 0).val, by omega⟩ rfl ⟨min (t.val % 8) 1 * 512 + (y 1).val, by omega⟩ rfl).trans ?_
  exact congrArg₂ (Cert.Rows.glu (X m c) (G m c) (W m c)) (Fin.ext e0.symm) (Fin.ext e1.symm)

/-- Every index of the result lies in a written block. -/
theorem cover_6 (i : S32x1536.Idx) : ∃ t : Fin cfg0.N, (cfg0.win 6).flush t = true ∧ i ∈ ((cfg0.win 6).blk t).view.set := by
  have h0 : (i 0).val < 32 := (i 0).isLt
  have h1 : (i 1).val < 1536 := (i 1).isLt
  have hc : (i 1).val / 512 = 0 ∨ (i 1).val / 512 = 1 ∨ (i 1).val / 512 = 2 := by omega
  have hlt : 8 * ((i 0).val / 32) + (2 + (i 1).val / 512 + 3 * ((i 1).val / 1024)) < cfg0.N := lt_of_lt_of_eq (by omega) N_0.symm
  refine ⟨⟨8 * ((i 0).val / 32) + (2 + (i 1).val / 512 + 3 * ((i 1).val / 1024)), hlt⟩, ?_, ?_⟩
  · rw [flush_6]
    exact decide_eq_true (by dsimp only; (rcases hc with hc | hc | hc <;> omega))
  · generalize ht : (⟨8 * ((i 0).val / 32) + (2 + (i 1).val / 512 + 3 * ((i 1).val / 1024)), hlt⟩ : Fin cfg0.N) = t
    have hv : t.val = 8 * ((i 0).val / 32) + (2 + (i 1).val / 512 + 3 * ((i 1).val / 1024)) := congrArg Fin.val ht.symm
    obtain ⟨a0, a1⟩ := place_6 t
    show i ∈ ((View.whole main_v5_2).slice (win0_6.rect t)).set
    rw [View.set_slice_whole, Rect.mem_set_unit]
    intro a
    match a with
    | ⟨0, _⟩ => show win0_6.index t (0 : Fin 2) * 32 ≤ (i 0).val ∧ (i 0).val < win0_6.index t (0 : Fin 2) * 32 + 32; (rcases hc with hc | hc | hc <;> omega)
    | ⟨1, _⟩ => show win0_6.index t (1 : Fin 2) * 512 ≤ (i 1).val ∧ (i 1).val < win0_6.index t (1 : Fin 2) * 512 + 512; (rcases hc with hc | hc | hc <;> omega)

/-- The result array at the end of the run. -/
theorem final_6 : (dats m 0 c).arrAt 6 cfg0.N = QA m c := by
  refine (dats m 0 c).arrAt_eq_of_cover 6 _ (fun t hf => ?_) (cover_6)
  rw [flush_6, decide_eq_true_eq] at hf
  have hN : t.val < 8 := lt_of_lt_of_eq t.isLt N_0
  obtain ⟨a0, a1⟩ := place_6 t
  show (cfg0.win 6).cut (grid0.coords t) ((dats m 0 c).after 6 t) = _
  rw [after_6]
  funext y
  have hy0 : (y 0).val < 32 := (y 0).isLt
  have hy1 : (y 1).val < 512 := (y 1).isLt
  have e0 : (((cfg0.win 6).blk t).view.emb y 0).val = 32 * (t.val / 8) + (y 0).val := by
    show win0_6.index t (0 : Fin 2) * 32 + 1 * (y 0).val = _; omega
  have e1 : (((cfg0.win 6).blk t).view.emb y 1).val = (max 2 (min (t.val % 8) 4) - 2) * 512 + (y 1).val := by
    show win0_6.index t (1 : Fin 2) * 512 + 1 * (y 1).val = _; omega
  have ex : (cfg0.win 6).xinj (grid0.coords t) y = (ix2 ⟨(y 0).val, hy0⟩ ⟨(y 1).val, hy1⟩ : S32x512.Idx) := by
    funext a
    match a with
    | ⟨0, _⟩ => rfl
    | ⟨1, _⟩ => rfl
  show qs m c t ((cfg0.win 6).xinj (grid0.coords t) y) = QA m c (((cfg0.win 6).blk t).view.emb y)
  rw [ex]
  unfold QA
  refine (qs_at m c t _ _ ⟨32 * (t.val / 8) + (y 0).val, by omega⟩ rfl ⟨2048 + ((max 2 (min (t.val % 8) 4) - 2) * 512 + (y 1).val), by omega⟩ rfl).trans ?_
  exact congrArg₂ (Cert.Rows.proj (X m c) (G m c) (W m c)) (Fin.ext e0.symm) (Fin.ext (by dsimp only; rw [e1]))

/-- Every index of the result lies in a written block. -/
theorem cover_7 (i : S32x512.Idx) : ∃ t : Fin cfg0.N, (cfg0.win 7).flush t = true ∧ i ∈ ((cfg0.win 7).blk t).view.set := by
  have h0 : (i 0).val < 32 := (i 0).isLt
  have h1 : (i 1).val < 512 := (i 1).isLt
  have hlt : 8 * ((i 0).val / 32) + 7 < cfg0.N := lt_of_lt_of_eq (by omega) N_0.symm
  refine ⟨⟨8 * ((i 0).val / 32) + 7, hlt⟩, ?_, ?_⟩
  · rw [flush_7]
    exact decide_eq_true (by dsimp only; omega)
  · generalize ht : (⟨8 * ((i 0).val / 32) + 7, hlt⟩ : Fin cfg0.N) = t
    have hv : t.val = 8 * ((i 0).val / 32) + 7 := congrArg Fin.val ht.symm
    obtain ⟨a0, a1⟩ := place_7 t
    show i ∈ ((View.whole main_v5_3).slice (win0_7.rect t)).set
    rw [View.set_slice_whole, Rect.mem_set_unit]
    intro a
    match a with
    | ⟨0, _⟩ => show win0_7.index t (0 : Fin 2) * 32 ≤ (i 0).val ∧ (i 0).val < win0_7.index t (0 : Fin 2) * 32 + 32; omega
    | ⟨1, _⟩ => show win0_7.index t (1 : Fin 2) * 512 ≤ (i 1).val ∧ (i 1).val < win0_7.index t (1 : Fin 2) * 512 + 512; omega

/-- The result array at the end of the run. -/
theorem final_7 : (dats m 0 c).arrAt 7 cfg0.N = KA m c := by
  refine (dats m 0 c).arrAt_eq_of_cover 7 _ (fun t hf => ?_) (cover_7)
  rw [flush_7, decide_eq_true_eq] at hf
  have hN : t.val < 8 := lt_of_lt_of_eq t.isLt N_0
  obtain ⟨a0, a1⟩ := place_7 t
  show (cfg0.win 7).cut (grid0.coords t) ((dats m 0 c).after 7 t) = _
  rw [after_7]
  funext y
  have hy0 : (y 0).val < 32 := (y 0).isLt
  have hy1 : (y 1).val < 512 := (y 1).isLt
  have e0 : (((cfg0.win 7).blk t).view.emb y 0).val = 32 * (t.val / 8) + (y 0).val := by
    show win0_7.index t (0 : Fin 2) * 32 + 1 * (y 0).val = _; omega
  have e1 : (((cfg0.win 7).blk t).view.emb y 1).val = (y 1).val := by
    show win0_7.index t (1 : Fin 2) * 512 + 1 * (y 1).val = _; omega
  have ex : (cfg0.win 7).xinj (grid0.coords t) y = (ix2 ⟨(y 0).val, hy0⟩ ⟨(y 1).val, hy1⟩ : S32x512.Idx) := by
    funext a
    match a with
    | ⟨0, _⟩ => rfl
    | ⟨1, _⟩ => rfl
  show ks m c t ((cfg0.win 7).xinj (grid0.coords t) y) = KA m c (((cfg0.win 7).blk t).view.emb y)
  rw [ex]
  unfold KA
  refine (ks_at m c t _ _ ⟨32 * (t.val / 8) + (y 0).val, by omega⟩ rfl ⟨3584 + ((y 1).val), by omega⟩ rfl).trans ?_
  exact congrArg₂ (Cert.Rows.proj (X m c) (G m c) (W m c)) (Fin.ext e0.symm) (Fin.ext (by dsimp only; rw [e1]))

/-- Every index of the result lies in a written block. -/
theorem cover_8 (i : S32x512.Idx) : ∃ t : Fin cfg0.N, (cfg0.win 8).flush t = true ∧ i ∈ ((cfg0.win 8).blk t).view.set := by
  have h0 : (i 0).val < 32 := (i 0).isLt
  have h1 : (i 1).val < 512 := (i 1).isLt
  have hlt : 8 * ((i 0).val / 32) + 7 < cfg0.N := lt_of_lt_of_eq (by omega) N_0.symm
  refine ⟨⟨8 * ((i 0).val / 32) + 7, hlt⟩, ?_, ?_⟩
  · rw [flush_8]
    exact decide_eq_true (by dsimp only; omega)
  · generalize ht : (⟨8 * ((i 0).val / 32) + 7, hlt⟩ : Fin cfg0.N) = t
    have hv : t.val = 8 * ((i 0).val / 32) + 7 := congrArg Fin.val ht.symm
    obtain ⟨a0, a1⟩ := place_8 t
    show i ∈ ((View.whole main_v5_4).slice (win0_8.rect t)).set
    rw [View.set_slice_whole, Rect.mem_set_unit]
    intro a
    match a with
    | ⟨0, _⟩ => show win0_8.index t (0 : Fin 2) * 32 ≤ (i 0).val ∧ (i 0).val < win0_8.index t (0 : Fin 2) * 32 + 32; omega
    | ⟨1, _⟩ => show win0_8.index t (1 : Fin 2) * 512 ≤ (i 1).val ∧ (i 1).val < win0_8.index t (1 : Fin 2) * 512 + 512; omega

/-- The result array at the end of the run. -/
theorem final_8 : (dats m 0 c).arrAt 8 cfg0.N = VA m c := by
  refine (dats m 0 c).arrAt_eq_of_cover 8 _ (fun t hf => ?_) (cover_8)
  rw [flush_8, decide_eq_true_eq] at hf
  have hN : t.val < 8 := lt_of_lt_of_eq t.isLt N_0
  obtain ⟨a0, a1⟩ := place_8 t
  show (cfg0.win 8).cut (grid0.coords t) ((dats m 0 c).after 8 t) = _
  rw [after_8]
  funext y
  have hy0 : (y 0).val < 32 := (y 0).isLt
  have hy1 : (y 1).val < 512 := (y 1).isLt
  have e0 : (((cfg0.win 8).blk t).view.emb y 0).val = 32 * (t.val / 8) + (y 0).val := by
    show win0_8.index t (0 : Fin 2) * 32 + 1 * (y 0).val = _; omega
  have e1 : (((cfg0.win 8).blk t).view.emb y 1).val = (y 1).val := by
    show win0_8.index t (1 : Fin 2) * 512 + 1 * (y 1).val = _; omega
  have ex : (cfg0.win 8).xinj (grid0.coords t) y = (ix2 ⟨(y 0).val, hy0⟩ ⟨(y 1).val, hy1⟩ : S32x512.Idx) := by
    funext a
    match a with
    | ⟨0, _⟩ => rfl
    | ⟨1, _⟩ => rfl
  show vs m c t ((cfg0.win 8).xinj (grid0.coords t) y) = VA m c (((cfg0.win 8).blk t).view.emb y)
  rw [ex]
  unfold VA
  refine (vs_at m c t _ _ ⟨32 * (t.val / 8) + (y 0).val, by omega⟩ rfl ⟨4096 + ((y 1).val), by omega⟩ rfl).trans ?_
  exact congrArg₂ (Cert.Rows.proj (X m c) (G m c) (W m c)) (Fin.ext e0.symm) (Fin.ext (by dsimp only; rw [e1]))

/-- Every index of the result lies in a written block. -/
theorem cover_9 (i : S32x512.Idx) : ∃ t : Fin cfg0.N, (cfg0.win 9).flush t = true ∧ i ∈ ((cfg0.win 9).blk t).view.set := by
  have h0 : (i 0).val < 32 := (i 0).isLt
  have h1 : (i 1).val < 512 := (i 1).isLt
  have hlt : 8 * ((i 0).val / 32) + 7 < cfg0.N := lt_of_lt_of_eq (by omega) N_0.symm
  refine ⟨⟨8 * ((i 0).val / 32) + 7, hlt⟩, ?_, ?_⟩
  · rw [flush_9]
    exact decide_eq_true (by dsimp only; omega)
  · generalize ht : (⟨8 * ((i 0).val / 32) + 7, hlt⟩ : Fin cfg0.N) = t
    have hv : t.val = 8 * ((i 0).val / 32) + 7 := congrArg Fin.val ht.symm
    obtain ⟨a0, a1⟩ := place_9 t
    show i ∈ ((View.whole main_v5_5).slice (win0_9.rect t)).set
    rw [View.set_slice_whole, Rect.mem_set_unit]
    intro a
    match a with
    | ⟨0, _⟩ => show win0_9.index t (0 : Fin 2) * 32 ≤ (i 0).val ∧ (i 0).val < win0_9.index t (0 : Fin 2) * 32 + 32; omega
    | ⟨1, _⟩ => show win0_9.index t (1 : Fin 2) * 512 ≤ (i 1).val ∧ (i 1).val < win0_9.index t (1 : Fin 2) * 512 + 512; omega

/-- The result array at the end of the run. -/
theorem final_9 : (dats m 0 c).arrAt 9 cfg0.N = XA m c := by
  refine (dats m 0 c).arrAt_eq_of_cover 9 _ (fun t hf => ?_) (cover_9)
  rw [flush_9, decide_eq_true_eq] at hf
  have hN : t.val < 8 := lt_of_lt_of_eq t.isLt N_0
  obtain ⟨a0, a1⟩ := place_9 t
  show (cfg0.win 9).cut (grid0.coords t) ((dats m 0 c).after 9 t) = _
  rw [after_9]
  funext y
  have hy0 : (y 0).val < 32 := (y 0).isLt
  have hy1 : (y 1).val < 512 := (y 1).isLt
  have e0 : (((cfg0.win 9).blk t).view.emb y 0).val = 32 * (t.val / 8) + (y 0).val := by
    show win0_9.index t (0 : Fin 2) * 32 + 1 * (y 0).val = _; omega
  have e1 : (((cfg0.win 9).blk t).view.emb y 1).val = (y 1).val := by
    show win0_9.index t (1 : Fin 2) * 512 + 1 * (y 1).val = _; omega
  have ex : (cfg0.win 9).xinj (grid0.coords t) y = (ix2 ⟨(y 0).val, hy0⟩ ⟨(y 1).val, hy1⟩ : S32x512.Idx) := by
    funext a
    match a with
    | ⟨0, _⟩ => rfl
    | ⟨1, _⟩ => rfl
  show xs m c t ((cfg0.win 9).xinj (grid0.coords t) y) = XA m c (((cfg0.win 9).blk t).view.emb y)
  rw [ex]
  unfold XA
  refine (xs_at m c t _ _ ⟨32 * (t.val / 8) + (y 0).val, by omega⟩ rfl ⟨4608 + ((y 1).val), by omega⟩ rfl).trans ?_
  exact congrArg₂ (Cert.Rows.proj (X m c) (G m c) (W m c)) (Fin.ext e0.symm) (Fin.ext (by dsimp only; rw [e1]))

variable (ρ : Dev nD → PrngReg)

/-- Every run ends with the six results at the projections and the arguments as they began. -/
theorem run : θ_run defs (onTc (τ := τ) (main (F := Ideal))) ⟨m, fun _ => 0, ρ⟩ (fun r => ∀ c : Dev nD,
      r.2.mem ((c.tc : Thread nD τ).loc main_v5_0) = HA m c
      ∧ r.2.mem ((c.tc : Thread nD τ).loc main_v5_1) = UA m c
      ∧ r.2.mem ((c.tc : Thread nD τ).loc main_v5_2) = QA m c
      ∧ r.2.mem ((c.tc : Thread nD τ).loc main_v5_3) = KA m c
      ∧ r.2.mem ((c.tc : Thread nD τ).loc main_v5_4) = VA m c
      ∧ r.2.mem ((c.tc : Thread nD τ).loc main_v5_5) = XA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 4).trans (final_4 m c),
    ((h c).1 5).trans (final_5 m c),
    ((h c).1 6).trans (final_6 m c),
    ((h c).1 7).trans (final_7 m c),
    ((h c).1 8).trans (final_8 m c),
    ((h c).1 9).trans (final_9 m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩) (run_main m ρ)

end Cert.InProjSIdeal.Hand

end
-- ==== Proof.InProjSClaim.lean ====
/-
  The sample projections claim: over the extended reals the kernel and the reference compute the same six arrays from the same arguments.
-/
module

public import proofs.«01_k».proof.Defs
public import proofs.«01_k».proof.Proof.InProjSValue
public import proofs.«01_k».proof.Proof.Gen.InProjSRefIdeal.Read
public import Idealize.ShloMosaic.Lib.Quiescent

@[expose] public section

set_option maxRecDepth 16384

noncomputable section

open Idealize.ShloMosaic Idealize.ShloMosaic.TcCoe Idealize.SL.Sem

namespace Cert.InProjS1k

open Cert.InProjSRefIdeal Cert.InProjSRefIdeal.Read

/-- The reference's normalised rows. -/
theorem ref_hid (x : FVec Ideal S32x1x2048 .f32) (g : FVec Ideal ⟨2, ![1, 2048]⟩ .f32) (R : Fin 32) (k : Fin 2048) :
    val_main_v15 (F := Ideal) x g (ix2 R k) = Cert.Rows.hid (val_main_v0 (F := Ideal) x) g R k := by
  unfold Cert.Rows.hid Cert.Ffn1k.rms
  unfold val_main_v15 val_main_v12 val_main_v11 val_main_v10 val_main_v9 val_main_v7 val_main_v5 val_main_v4 val_main_v3
  generalize val_main_v0 (F := Ideal) x = y
  pointwise! [val_main_v14, val_main_v13, val_main_v8, val_main_v6, val_main_v1, val_main_cst, val_main_cst_0, val_main_cst_1]

/-- The reference's stored rows. -/
theorem ref_rows (x : FVec Ideal S32x1x2048 .f32) (g : FVec Ideal ⟨2, ![1, 2048]⟩ .f32) (R : Fin 32) (k : Fin 2048) :
    val_main_v31 (F := Ideal) x g (ix2 R k) = Cert.Rows.hid (val_main_v0 (F := Ideal) x) g R k :=
  (val_main_v31_apply (F := Ideal) x g (ix2 R k)).trans (ref_hid x g R k)

/-- The reference's product. -/
theorem ref_proj (x : FVec Ideal S32x1x2048 .f32) (g : FVec Ideal ⟨2, ![1, 2048]⟩ .f32) (w : FVec Ideal ⟨3, ![1, 2048, 11264]⟩ .f32)
    (R : Fin 32) (J : Fin 5120) :
    val_main_v17 (F := Ideal) x g w (ix2 R J) = Cert.Rows.proj (val_main_v0 (F := Ideal) x) g w R ⟨J.val, by omega⟩ := by
  unfold Cert.Rows.proj
  have e := fun k => ref_hid x g R k
  revert e
  unfold val_main_v17 val_main_v16 val_main_v2
  generalize val_main_v15 (F := Ideal) x g = h
  intro e
  simp only [← e]
  pointwise!

/-- The reference's gated product. -/
theorem ref_gated (x : FVec Ideal S32x1x2048 .f32) (g : FVec Ideal ⟨2, ![1, 2048]⟩ .f32) (w : FVec Ideal ⟨3, ![1, 2048, 11264]⟩ .f32)
    (R : Fin 32) (J : Fin 1024) :
    val_main_v26 (F := Ideal) x g w (ix2 R J) = Cert.Rows.glu (val_main_v0 (F := Ideal) x) g w R J := by
  have e1 : val_main_v18 (F := Ideal) x g w (ix2 R J) = Cert.Rows.proj (val_main_v0 (F := Ideal) x) g w R ⟨J.val, by omega⟩ := by
    refine (val_main_v18_apply (F := Ideal) x g w (ix2 R J)).trans ((congrArg (val_main_v17 (F := Ideal) x g w) ?_).trans (ref_proj x g w R ⟨J.val, by omega⟩))
    funext a
    match a with
    | ⟨0, _⟩ => rfl
    | ⟨1, _⟩ => rfl
  have e2 : val_main_v19 (F := Ideal) x g w (ix2 R J) = Cert.Rows.proj (val_main_v0 (F := Ideal) x) g w R ⟨1024 + J.val, by omega⟩ := by
    refine (val_main_v19_apply (F := Ideal) x g w (ix2 R J)).trans ((congrArg (val_main_v17 (F := Ideal) x g w) ?_).trans (ref_proj x g w R ⟨1024 + J.val, by omega⟩))
    funext a
    match a with
    | ⟨0, _⟩ => rfl
    | ⟨1, _⟩ => rfl
  unfold Cert.Rows.glu Ideal.logistic
  rw [← e1, ← e2]
  unfold val_main_v26 val_main_v25 val_main_v23 val_main_v21 val_main_v20
  generalize val_main_v18 (F := Ideal) x g w = a
  generalize val_main_v19 (F := Ideal) x g w = b
  pointwise! [val_main_v24, val_main_v22, val_main_cst_2, val_main_cst_3]

/-- The reference's queries. -/
theorem ref_qs (x : FVec Ideal S32x1x2048 .f32) (g : FVec Ideal ⟨2, ![1, 2048]⟩ .f32) (w : FVec Ideal ⟨3, ![1, 2048, 11264]⟩ .f32)
    (R : Fin 32) (d : Fin 1536) :
    val_main_v27 (F := Ideal) x g w (ix2 R d) = Cert.Rows.proj (val_main_v0 (F := Ideal) x) g w R ⟨2048 + d.val, by omega⟩ := by
  refine (val_main_v27_apply (F := Ideal) x g w (ix2 R d)).trans ((congrArg (val_main_v17 (F := Ideal) x g w) ?_).trans (ref_proj x g w R ⟨2048 + d.val, by omega⟩))
  funext a
  match a with
  | ⟨0, _⟩ => rfl
  | ⟨1, _⟩ => rfl

/-- The reference's keys. -/
theorem ref_ks (x : FVec Ideal S32x1x2048 .f32) (g : FVec Ideal ⟨2, ![1, 2048]⟩ .f32) (w : FVec Ideal ⟨3, ![1, 2048, 11264]⟩ .f32)
    (R : Fin 32) (d : Fin 512) :
    val_main_v28 (F := Ideal) x g w (ix2 R d) = Cert.Rows.proj (val_main_v0 (F := Ideal) x) g w R ⟨3584 + d.val, by omega⟩ := by
  refine (val_main_v28_apply (F := Ideal) x g w (ix2 R d)).trans ((congrArg (val_main_v17 (F := Ideal) x g w) ?_).trans (ref_proj x g w R ⟨3584 + d.val, by omega⟩))
  funext a
  match a with
  | ⟨0, _⟩ => rfl
  | ⟨1, _⟩ => rfl

/-- The reference's values. -/
theorem ref_vs (x : FVec Ideal S32x1x2048 .f32) (g : FVec Ideal ⟨2, ![1, 2048]⟩ .f32) (w : FVec Ideal ⟨3, ![1, 2048, 11264]⟩ .f32)
    (R : Fin 32) (d : Fin 512) :
    val_main_v29 (F := Ideal) x g w (ix2 R d) = Cert.Rows.proj (val_main_v0 (F := Ideal) x) g w R ⟨4096 + d.val, by omega⟩ := by
  refine (val_main_v29_apply (F := Ideal) x g w (ix2 R d)).trans ((congrArg (val_main_v17 (F := Ideal) x g w) ?_).trans (ref_proj x g w R ⟨4096 + d.val, by omega⟩))
  funext a
  match a with
  | ⟨0, _⟩ => rfl
  | ⟨1, _⟩ => rfl

/-- The reference's memory queries. -/
theorem ref_xs (x : FVec Ideal S32x1x2048 .f32) (g : FVec Ideal ⟨2, ![1, 2048]⟩ .f32) (w : FVec Ideal ⟨3, ![1, 2048, 11264]⟩ .f32)
    (R : Fin 32) (d : Fin 512) :
    val_main_v30 (F := Ideal) x g w (ix2 R d) = Cert.Rows.proj (val_main_v0 (F := Ideal) x) g w R ⟨4608 + d.val, by omega⟩ := by
  refine (val_main_v30_apply (F := Ideal) x g w (ix2 R d)).trans ((congrArg (val_main_v17 (F := Ideal) x g w) ?_).trans (ref_proj x g w R ⟨4608 + d.val, by omega⟩))
  funext a
  match a with
  | ⟨0, _⟩ => rfl
  | ⟨1, _⟩ => rfl

/-- The reference leaves its arguments and declares no semaphore. -/
theorem ref_frame : Cert.quiescent_InProjSRefIdeal (hInProjSRefIdeal := Cert.InProjSRefIdeal.Gen.facts) := fun m ρ _ =>
  (θ_run Cert.InProjSRefIdeal.defs _ _).mono (fun r h => ⟨fun c => (h c).2.2.2.2.2.2, Idealize.ShloMosaic.sem_eq_zero_of_no_sems (by decide) r.2⟩)
    (Cert.InProjSRefIdeal.Value.run (F := Ideal) m ρ)

/-- The kernel and the reference agree on equal arguments. -/
theorem algebraic : Cert.algebraic_InProjSIdeal_InProjSRefIdeal (hInProjSIdeal := Cert.InProjSIdeal.Gen.facts) (hInProjSRefIdeal := Cert.InProjSRefIdeal.Gen.facts) := by
  intro m ρ m' ρ' _ hag
  refine ⟨fun c => Cert.InProjSIdeal.Hand.HA m c, fun c => Cert.InProjSIdeal.Hand.UA m c, fun c => Cert.InProjSIdeal.Hand.QA m c, fun c => Cert.InProjSIdeal.Hand.KA m c, fun c => Cert.InProjSIdeal.Hand.VA m c, fun c => Cert.InProjSIdeal.Hand.XA m c, Cert.InProjSIdeal.Hand.run m ρ, ?_⟩
  refine (θ_run _ _ _).mono (fun _ h c => ?_) (Cert.InProjSRefIdeal.Value.run (F := Ideal) m' ρ')
  obtain ⟨e0, e1, e2⟩ := hag c
  obtain ⟨h0, h1, h2, h3, h4, h5, k0, k1, k2⟩ := h c
  refine ⟨h0.trans ?_, h1.trans ?_, h2.trans ?_, h3.trans ?_, h4.trans ?_, h5.trans ?_, k0, k1, k2⟩
  · refine (val_main_v31_eq (F := Ideal) _ _).trans ?_
    rw [e0, e1]
    exact Cert.Rows.ext2 fun R d => ref_rows _ _ R d
  · refine (val_main_v26_eq (F := Ideal) _ _ _).trans ?_
    rw [e0, e1, e2]
    exact Cert.Rows.ext2 fun R d => ref_gated _ _ _ R d
  · refine (val_main_v27_eq (F := Ideal) _ _ _).trans ?_
    rw [e0, e1, e2]
    exact Cert.Rows.ext2 fun R d => ref_qs _ _ _ R d
  · refine (val_main_v28_eq (F := Ideal) _ _ _).trans ?_
    rw [e0, e1, e2]
    exact Cert.Rows.ext2 fun R d => ref_ks _ _ _ R d
  · refine (val_main_v29_eq (F := Ideal) _ _ _).trans ?_
    rw [e0, e1, e2]
    exact Cert.Rows.ext2 fun R d => ref_vs _ _ _ R d
  · refine (val_main_v30_eq (F := Ideal) _ _ _).trans ?_
    rw [e0, e1, e2]
    exact Cert.Rows.ext2 fun R d => ref_xs _ _ _ R d

end Cert.InProjS1k

end
-- ==== Proof.FfnCases.lean ====
/-
  What one grid point of the feed-forward kernel leaves in its two scratch arrays and in its output block, case by
  case of the step `t % 11` (first, middle, last), as the stored values over the point's blocks.
-/
module

public import proofs.«01_k».proof.Proof.Gen.FfnIdeal.Value
public import Idealize.ShloMosaic.Lib.Tactic

@[expose] public section

set_option maxRecDepth 16384

noncomputable section

open Idealize.ShloMosaic Idealize.ShloMosaic.TcCoe Idealize.SL.Sem

namespace Cert.FfnIdeal.Cases

open Cert.FfnIdeal Cert.FfnIdeal.Gen Cert.FfnIdeal.Value

variable {F : FTy → Type} [FloatOps F]
variable (m : (ℓ : Loc nD τ sig) → Buf (Elt F) ℓ)

/-- A rank-two offset that is zero in both coordinates. -/
theorem off0 : (![0, 0] : Fin 2 → Nat) = fun _ => 0 := funext fun a => by fin_cases a <;> rfl

/-- The first step of a row block stores the normalised rows and the first partial product. -/
theorem at_first (c : Dev nD) (t : Fin cfg0.N) (acc : Vec F S512x2048 .f32 × Vec F S512x2048 .bf16 × Vec F S512x2048 .f32)
    (h : t.val % 11 = 0) :
    (stAt0 m c t.val t.isLt acc).2
      = (k0_pay1 (iblk m c 0 t) (iblk m c 1 t), k0_pay3 (k0_pay1 (iblk m c 0 t) (iblk m c 1 t)) (iblk m c 2 t) (iblk m c 3 t) (iblk m c 4 t)) := by
  rw [stAt0_A m c t acc h h (by omega) (by omega)]
  refine Prod.ext ?_ ?_
  · dsimp only
    unfold sout0_A_0
    rw [View.read_writes_junk_eq_canon]
    unfold kernelRun0_A
    dsimp only
    sl_unfold_words
    rw [View.canon_unit_zero off0]
    simp only [View.readAt_eq_ld, (hs0_0 t).read_unread, (hs0_1 t).read_unread, View.ld_unit_zero (S := S512x2048) off0, View.ld_unit_zero (S := S1x2048) off0]
  · dsimp only
    unfold sout0_A_1
    rw [View.read_writes_junk_eq_canon]
    unfold kernelRun0_A
    dsimp only
    sl_unfold_words
    rw [View.canon_unit_zero off0]
    simp only [View.readAt_eq_ld, (hs0_0 t).read_unread, (hs0_1 t).read_unread, (hs0_2 t).read_unread, (hs0_3 t).read_unread, (hs0_4 t).read_unread,
      View.ld_unit_zero (S := S512x2048) off0, View.ld_unit_zero (S := S1x2048) off0, View.ld_unit_zero (S := S2048x512) off0, View.readCov_unit_zero (S := S512x2048) _ off0]

/-- A middle step leaves the normalised rows and adds its partial product. -/
theorem at_middle (c : Dev nD) (t : Fin cfg0.N) (acc : Vec F S512x2048 .f32 × Vec F S512x2048 .bf16 × Vec F S512x2048 .f32)
    (h : 1 ≤ t.val % 11) (h' : ¬t.val % 11 = 10) :
    (stAt0 m c t.val t.isLt acc).2
      = (acc.2.1, k0_pay4 acc.2.1 (iblk m c 2 t) (iblk m c 3 t) (iblk m c 4 t) acc.2.2) := by
  rw [stAt0_B m c t acc (by omega) (by omega) h h']
  refine Prod.ext ?_ ?_
  · rfl
  · dsimp only
    unfold sout0_B_1
    rw [View.read_writes_junk_eq_canon]
    unfold kernelRun0_B
    dsimp only
    sl_unfold_words
    rw [View.canon_unit_zero off0]
    simp only [View.readAt_eq_ld, (hs0_2 t).read_unread, (hs0_3 t).read_unread, (hs0_4 t).read_unread, (Memref.isWhole_whole _).read_unread,
      View.ld_unit_zero (S := S512x2048) off0, View.ld_unit_zero (S := S2048x512) off0]

/-- The last step writes the block: the residual plus the normalised, completed accumulator. -/
theorem at_last (c : Dev nD) (t : Fin cfg0.N) (acc : Vec F S512x2048 .f32 × Vec F S512x2048 .bf16 × Vec F S512x2048 .f32)
    (h : t.val % 11 = 10) :
    (stAt0 m c t.val t.isLt acc).1
      = k0_pay5 (iblk m c 0 t) (k0_pay4 acc.2.1 (iblk m c 2 t) (iblk m c 3 t) (iblk m c 4 t) acc.2.2) (iblk m c 5 t) := by
  rw [stAt0_C m c t acc (by omega) (by omega) (by omega) h]
  dsimp only
  unfold out0_C_6
  rw [View.read_writes_junk_eq_canon]
  unfold kernelRun0_C
  dsimp only
  sl_unfold_words
  rw [View.canon_unit_zero off0]
  simp only [View.readAt_eq_ld, (hs0_0 t).read_unread, (hs0_2 t).read_unread, (hs0_3 t).read_unread, (hs0_4 t).read_unread, (hs0_5 t).read_unread,
    (Memref.isWhole_whole _).read_unread, View.readCov_unit_zero (S := S512x2048) _ off0,
    View.ld_unit_zero (S := S512x2048) off0, View.ld_unit_zero (S := S1x2048) off0, View.ld_unit_zero (S := S2048x512) off0]

end Cert.FfnIdeal.Cases

end
-- ==== Proof.FfnBlocks.lean ====
/-
  The feed-forward kernel's blocks read off its arguments: the rows of the input, the two gains, and the slabs of the
  three weight matrices that one grid point works on.
-/
module

public import proofs.«01_k».proof.Proof.Gen.FfnIdeal.Frame
public import Idealize.ShloMosaic.Lib.Pointwise
public import Idealize.ShloMosaic.Lib.StableHlo.ReadAt
public import Idealize.ShloMosaic.Lib.Tactic

@[expose] public section

set_option maxRecDepth 16384

noncomputable section

open Idealize.ShloMosaic Idealize.ShloMosaic.TcCoe Idealize.SL.Sem

namespace Cert.FfnIdeal.Blocks

open Cert.FfnIdeal Cert.FfnIdeal.Gen

variable (m : (ℓ : Loc nD τ sig) → Buf (Elt Ideal) ℓ)

/-- The gate matrix in the kernel's layout is the argument's one layer. -/
theorem gate_at (c : Dev nD) (k : Fin 2048) (j : Fin 5632) :
    (V m c main_v1 : FVec Ideal S2048x5632 .bf16) (ix2 k j) = (m ((c : Thread nD τ).loc main_arg2) : FVec Ideal S1x2048x5632 .f32) (ix3 0 k j) := by
  unfold V
  after_reads_at

/-- The up matrix in the kernel's layout is the argument's one layer. -/
theorem up_at (c : Dev nD) (k : Fin 2048) (j : Fin 5632) :
    (V m c main_v3 : FVec Ideal S2048x5632 .bf16) (ix2 k j) = (m ((c : Thread nD τ).loc main_arg3) : FVec Ideal S1x2048x5632 .f32) (ix3 0 k j) := by
  unfold V
  after_reads_at

/-- The down matrix in the kernel's layout is the argument's one layer. -/
theorem down_at (c : Dev nD) (j : Fin 5632) (d : Fin 2048) :
    (V m c main_v5 : FVec Ideal S5632x2048 .bf16) (ix2 j d) = (m ((c : Thread nD τ).loc main_arg4) : FVec Ideal S1x5632x2048 .f32) (ix3 0 j d) := by
  unfold V
  after_reads_at

/-- The gain before the product is the argument's row. -/
theorem gain_at (c : Dev nD) (k : Fin 2048) :
    (V m c main_v7 : FVec Ideal S1x2048 .f32) (ix2 0 k) = (m ((c : Thread nD τ).loc main_arg1) : FVec Ideal S1x2048 .f32) (ix2 0 k) := by
  unfold V
  after_reads_at

/-- The gain after the product is the argument's row. -/
theorem post_at (c : Dev nD) (k : Fin 2048) :
    (V m c main_v9 : FVec Ideal S1x2048 .f32) (ix2 0 k) = (m ((c : Thread nD τ).loc main_arg5) : FVec Ideal S1x2048 .f32) (ix2 0 k) := by
  unfold V
  after_reads_at

/-- Where the windows' blocks lie: the row block is `t / 11`, the weights' slab `t % 11`. -/
theorem places : ∀ t : Fin cfg0.N, win0_0.index t (0 : Fin 2) = t.val / 11 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 11
    ∧ win0_3.index t (0 : Fin 2) = 0 ∧ win0_3.index t (1 : Fin 2) = t.val % 11
    ∧ win0_4.index t (0 : Fin 2) = t.val % 11 ∧ win0_4.index t (1 : Fin 2) = 0
    ∧ win0_5.index t (0 : Fin 2) = 0 ∧ win0_5.index t (1 : Fin 2) = 0 :=
  (by decide +kernel : ∀ t : Fin grid0.N, _)

/-- Row `r` of the input block is row `512 (t / 11) + r` of the input. -/
theorem rows_at (c : Dev nD) (t : Fin cfg0.N) (r : Fin 512) (k : Fin 2048) (R : Fin 8192) (hR : R.val = 512 * (t.val / 11) + r.val) :
    (iblk m c 0 t : FVec Ideal S512x2048 .f32) (ix2 r k) = (m ((c : Thread nD τ).loc main_arg0) : FVec Ideal S8192x2048 .f32) (ix2 R k) := by
  obtain ⟨a0, a1, -⟩ := places t
  rw [← V_main_arg0 m c]
  refine congrArg (V m c main_arg0) (funext fun a => Fin.ext ?_)
  match a with
  | ⟨0, _⟩ => show win0_0.index t (0 : Fin 2) * 512 + 1 * r.val = R.val; omega
  | ⟨1, _⟩ => show win0_0.index t (1 : Fin 2) * 2048 + 1 * k.val = k.val; omega

/-- The gain's block is the gain. -/
theorem gain_blk (c : Dev nD) (t : Fin cfg0.N) (k : Fin 2048) :
    (iblk m c 1 t : FVec Ideal S1x2048 .f32) (ix2 0 k) = (m ((c : Thread nD τ).loc main_arg1) : FVec Ideal S1x2048 .f32) (ix2 0 k) := by
  obtain ⟨-, -, a0, a1, -⟩ := places t
  rw [← gain_at m c k]
  refine congrArg (V m c main_v7) (funext fun a => Fin.ext ?_)
  match a with
  | ⟨0, _⟩ => show win0_1.index t (0 : Fin 2) * 1 + 1 * 0 = 0; omega
  | ⟨1, _⟩ => show win0_1.index t (1 : Fin 2) * 2048 + 1 * k.val = k.val; omega

/-- Column `j` of the gate slab is hidden unit `512 (t % 11) + j`. -/
theorem gate_blk (c : Dev nD) (t : Fin cfg0.N) (k : Fin 2048) (j : Fin 512) (J : Fin 5632) (hJ : J.val = (t.val % 11) * 512 + j.val) :
    (iblk m c 2 t : FVec Ideal S2048x512 .bf16) (ix2 k j) = (m ((c : Thread nD τ).loc main_arg2) : FVec Ideal S1x2048x5632 .f32) (ix3 0 k J) := by
  obtain ⟨-, -, -, -, a0, a1, -⟩ := places t
  rw [← gate_at m c k J]
  refine congrArg (V m c main_v1) (funext fun a => Fin.ext ?_)
  match a with
  | ⟨0, _⟩ => show win0_2.index t (0 : Fin 2) * 2048 + 1 * k.val = k.val; omega
  | ⟨1, _⟩ => show win0_2.index t (1 : Fin 2) * 512 + 1 * j.val = J.val; omega

/-- Column `j` of the up slab is hidden unit `512 (t % 11) + j`. -/
theorem up_blk (c : Dev nD) (t : Fin cfg0.N) (k : Fin 2048) (j : Fin 512) (J : Fin 5632) (hJ : J.val = (t.val % 11) * 512 + j.val) :
    (iblk m c 3 t : FVec Ideal S2048x512 .bf16) (ix2 k j) = (m ((c : Thread nD τ).loc main_arg3) : FVec Ideal S1x2048x5632 .f32) (ix3 0 k J) := by
  obtain ⟨-, -, -, -, -, -, a0, a1, -⟩ := places t
  rw [← up_at m c k J]
  refine congrArg (V m c main_v3) (funext fun a => Fin.ext ?_)
  match a with
  | ⟨0, _⟩ => show win0_3.index t (0 : Fin 2) * 2048 + 1 * k.val = k.val; omega
  | ⟨1, _⟩ => show win0_3.index t (1 : Fin 2) * 512 + 1 * j.val = J.val; omega

/-- Row `j` of the down slab is hidden unit `512 (t % 11) + j`. -/
theorem down_blk (c : Dev nD) (t : Fin cfg0.N) (j : Fin 512) (d : Fin 2048) (J : Fin 5632) (hJ : J.val = (t.val % 11) * 512 + j.val) :
    (iblk m c 4 t : FVec Ideal S512x2048 .bf16) (ix2 j d) = (m ((c : Thread nD τ).loc main_arg4) : FVec Ideal S1x5632x2048 .f32) (ix3 0 J d) := by
  obtain ⟨-, -, -, -, -, -, -, -, a0, a1, -⟩ := places t
  rw [← down_at m c J d]
  refine congrArg (V m c main_v5) (funext fun a => Fin.ext ?_)
  match a with
  | ⟨0, _⟩ => show win0_4.index t (0 : Fin 2) * 512 + 1 * j.val = J.val; omega
  | ⟨1, _⟩ => show win0_4.index t (1 : Fin 2) * 2048 + 1 * d.val = d.val; omega

/-- The second gain's block is the gain. -/
theorem post_blk (c : Dev nD) (t : Fin cfg0.N) (k : Fin 2048) :
    (iblk m c 5 t : FVec Ideal S1x2048 .f32) (ix2 0 k) = (m ((c : Thread nD τ).loc main_arg5) : FVec Ideal S1x2048 .f32) (ix2 0 k) := by
  obtain ⟨-, -, -, -, -, -, -, -, -, -, a0, a1⟩ := places t
  rw [← post_at m c k]
  refine congrArg (V m c main_v9) (funext fun a => Fin.ext ?_)
  match a with
  | ⟨0, _⟩ => show win0_5.index t (0 : Fin 2) * 1 + 1 * 0 = 0; omega
  | ⟨1, _⟩ => show win0_5.index t (1 : Fin 2) * 2048 + 1 * k.val = k.val; omega

end Cert.FfnIdeal.Blocks

end
-- ==== Proof.FfnFold.lean ====
/-
  The feed-forward kernel's scratch arrays and result, point by point: after step `s` of row block `q` the first scratch
  holds the block's normalised rows and the second the sum of the first `s + 1` partial products; the last step's block
  is the layer's result for those rows.
-/
module

public import proofs.«01_k».proof.Proof.FfnPay
public import proofs.«01_k».proof.Proof.FfnCases
public import proofs.«01_k».proof.Proof.FfnBlocks

@[expose] public section

set_option maxRecDepth 16384

noncomputable section

open Idealize.ShloMosaic Idealize.ShloMosaic.TcCoe Idealize.SL.Sem

namespace Cert.Ffn1k

/-- The feed-forward part of the layer for one row, as a function of the arrays it reads. -/
def hid (x : FVec Ideal ⟨2, ![8192, 2048]⟩ .f32) (g : FVec Ideal ⟨2, ![1, 2048]⟩ .f32) (R : Fin 8192) (k : Fin 2048) : EReal :=
  rms (fun j => x (ix2 R j)) (g (ix2 0 k)) k

/-- Hidden unit `J`'s activation for row `R`. -/
def act (x : FVec Ideal ⟨2, ![8192, 2048]⟩ .f32) (g : FVec Ideal ⟨2, ![1, 2048]⟩ .f32)
    (wg wu : FVec Ideal ⟨3, ![1, 2048, 5632]⟩ .f32) (R : Fin 8192) (J : Fin 5632) : EReal :=
  unit (hid x g R) (fun k => wg (ix3 0 k J)) (fun k => wu (ix3 0 k J))

/-- The product of the activations with the down matrix over all hidden units. -/
def down (x : FVec Ideal ⟨2, ![8192, 2048]⟩ .f32) (g : FVec Ideal ⟨2, ![1, 2048]⟩ .f32)
    (wg wu : FVec Ideal ⟨3, ![1, 2048, 5632]⟩ .f32) (wd : FVec Ideal ⟨3, ![1, 5632, 2048]⟩ .f32) (R : Fin 8192) (d : Fin 2048) : EReal :=
  ∑ J : Fin 5632, act x g wg wu R J * wd (ix3 0 J d)

/-- One slab's share of that product. -/
def slab (x : FVec Ideal ⟨2, ![8192, 2048]⟩ .f32) (g : FVec Ideal ⟨2, ![1, 2048]⟩ .f32)
    (wg wu : FVec Ideal ⟨3, ![1, 2048, 5632]⟩ .f32) (wd : FVec Ideal ⟨3, ![1, 5632, 2048]⟩ .f32) (R : Fin 8192) (d : Fin 2048) (s : Fin 11) : EReal :=
  ∑ j : Fin 512, act x g wg wu R ⟨s.val * 512 + j.val, by omega⟩ * wd (ix3 0 ⟨s.val * 512 + j.val, by omega⟩ d)

/-- The whole product is the sum of the slabs' shares. -/
theorem down_eq_slabs (x : FVec Ideal ⟨2, ![8192, 2048]⟩ .f32) (g : FVec Ideal ⟨2, ![1, 2048]⟩ .f32)
    (wg wu : FVec Ideal ⟨3, ![1, 2048, 5632]⟩ .f32) (wd : FVec Ideal ⟨3, ![1, 5632, 2048]⟩ .f32) (R : Fin 8192) (d : Fin 2048) :
    down x g wg wu wd R d = ∑ s : Fin 11, slab x g wg wu wd R d s := by
  unfold down slab
  exact Fin.sum_univ_tiles 11 512 rfl _

/-- Row `R` of the result at column `d`. -/
def out (x : FVec Ideal ⟨2, ![8192, 2048]⟩ .f32) (g : FVec Ideal ⟨2, ![1, 2048]⟩ .f32)
    (wg wu : FVec Ideal ⟨3, ![1, 2048, 5632]⟩ .f32) (wd : FVec Ideal ⟨3, ![1, 5632, 2048]⟩ .f32) (gp : FVec Ideal ⟨2, ![1, 2048]⟩ .f32)
    (R : Fin 8192) (d : Fin 2048) : EReal :=
  x (ix2 R d) + rms (down x g wg wu wd R) (gp (ix2 0 d)) d

/-- A sum over the first `a + 2` of eleven terms is the sum over the first `a + 1` and one more term. -/
theorem upto_succ (f : Fin 11 → EReal) (a : ℕ) (ha : a + 1 < 11) :
    (∑ s : Fin 11, if s.val ≤ a + 1 then f s else 0) = (∑ s : Fin 11, if s.val ≤ a then f s else 0) + f ⟨a + 1, ha⟩ := by
  have e : f ⟨a + 1, ha⟩ = ∑ s : Fin 11, if s = ⟨a + 1, ha⟩ then f s else 0 := by
    rw [Finset.sum_ite_eq' Finset.univ (⟨a + 1, ha⟩ : Fin 11) f]; simp
  rw [e, ← Finset.sum_add_distrib]
  refine Finset.sum_congr rfl fun s _ => ?_
  by_cases h1 : s.val ≤ a
  · rw [if_pos (by omega), if_pos h1, if_neg (fun h => by rw [h] at h1; dsimp only at h1; omega), add_zero]
  · by_cases h2 : s.val = a + 1
    · rw [if_pos (by omega), if_neg h1, if_pos (Fin.ext h2), zero_add]
    · rw [if_neg (by omega), if_neg h1, if_neg (fun h => h2 (by rw [h])), add_zero]

/-- The sum over the first of eleven terms is that term. -/
theorem upto_zero (f : Fin 11 → EReal) : (∑ s : Fin 11, if s.val ≤ 0 then f s else 0) = f ⟨0, by omega⟩ := by
  rw [Finset.sum_eq_single (⟨0, by omega⟩ : Fin 11) (fun b _ hb => if_neg (fun h => hb (Fin.ext (by dsimp only; omega)))) (fun h => absurd (Finset.mem_univ _) h)]
  rfl

/-- The sum over the first eleven of eleven terms is the whole sum. -/
theorem upto_last (f : Fin 11 → EReal) : (∑ s : Fin 11, if s.val ≤ 10 then f s else 0) = ∑ s : Fin 11, f s :=
  Finset.sum_congr rfl fun s _ => if_pos (by omega)

open Cert.FfnIdeal Cert.FfnIdeal.Gen Cert.FfnIdeal.Value

variable (m : (ℓ : Loc nD τ sig) → Buf (Elt Ideal) ℓ) (c : Dev nD)

/-- The arguments, at their printed shapes. -/
abbrev X : FVec Ideal ⟨2, ![8192, 2048]⟩ .f32 := m ((c : Thread nD τ).loc main_arg0)
@[inherit_doc X] abbrev G0 : FVec Ideal ⟨2, ![1, 2048]⟩ .f32 := m ((c : Thread nD τ).loc main_arg1)
@[inherit_doc X] abbrev WG : FVec Ideal ⟨3, ![1, 2048, 5632]⟩ .f32 := m ((c : Thread nD τ).loc main_arg2)
@[inherit_doc X] abbrev WU : FVec Ideal ⟨3, ![1, 2048, 5632]⟩ .f32 := m ((c : Thread nD τ).loc main_arg3)
@[inherit_doc X] abbrev WD : FVec Ideal ⟨3, ![1, 5632, 2048]⟩ .f32 := m ((c : Thread nD τ).loc main_arg4)
@[inherit_doc X] abbrev G1 : FVec Ideal ⟨2, ![1, 2048]⟩ .f32 := m ((c : Thread nD τ).loc main_arg5)

/-- The normalised block a first step stores is the rows' normalisation. -/
theorem norm_blk (t : Fin cfg0.N) (r : Fin 512) (k : Fin 2048) (R : Fin 8192) (hR : R.val = 512 * (t.val / 11) + r.val) :
    k0_pay1 (F := Ideal) (iblk m c 0 t) (iblk m c 1 t) (ix2 r k) = hid (X m c) (G0 m c) R k := by
  refine (norm_at (iblk m c 0 t) (iblk m c 1 t) r k).trans ?_
  unfold hid
  rw [show (fun j => (iblk m c 0 t : FVec Ideal S512x2048 .f32) (ix2 r j)) = fun j => X m c (ix2 R j) from
    funext fun j => Blocks.rows_at m c t r j R hR]
  exact congrArg (fun z => rms _ z k) (Blocks.gain_blk m c t k)

/-- The partial product over the normalised rows is the slab's share. -/
theorem part_blk (t : Fin cfg0.N) (h : FVec Ideal S512x2048 .bf16) (r : Fin 512) (d : Fin 2048) (R : Fin 8192) (s : Fin 11)
    (hs : s.val = t.val % 11) (hh : ∀ k : Fin 2048, h (ix2 r k) = hid (X m c) (G0 m c) R k) :
    k0_pay2 (F := Ideal) h (iblk m c 2 t) (iblk m c 3 t) (iblk m c 4 t) (ix2 r d)
      = slab (X m c) (G0 m c) (WG m c) (WU m c) (WD m c) R d s := by
  refine (part_at h (iblk m c 2 t) (iblk m c 3 t) (iblk m c 4 t) r d).trans ?_
  unfold slab act
  refine Finset.sum_congr rfl fun j _ => ?_
  rw [show (fun k => h (ix2 r k)) = hid (X m c) (G0 m c) R from funext hh,
    show (fun k => (iblk m c 2 t : FVec Ideal S2048x512 .bf16) (ix2 k j)) = fun k => WG m c (ix3 0 k ⟨s.val * 512 + j.val, by omega⟩) from
      funext fun k => Blocks.gate_blk m c t k j _ (by dsimp only; omega),
    show (fun k => (iblk m c 3 t : FVec Ideal S2048x512 .bf16) (ix2 k j)) = fun k => WU m c (ix3 0 k ⟨s.val * 512 + j.val, by omega⟩) from
      funext fun k => Blocks.up_blk m c t k j _ (by dsimp only; omega)]
  exact congrArg (_ * ·) (Blocks.down_blk m c t j d _ (by dsimp only; omega))

/-- What the two scratch arrays hold after a step that is not the last of its row block. -/
theorem scratch (n : ℕ) (hn : n < cfg0.N) (hl : n % 11 ≠ 10) (r : Fin 512) (R : Fin 8192) (hR : R.val = 512 * (n / 11) + r.val) :
    (∀ k : Fin 2048, (outsAt0 m c n hn).2.1 (ix2 r k) = hid (X m c) (G0 m c) R k)
    ∧ ∀ d : Fin 2048, (outsAt0 m c n hn).2.2 (ix2 r d)
        = ∑ s : Fin 11, if s.val ≤ n % 11 then slab (X m c) (G0 m c) (WG m c) (WU m c) (WD m c) R d s else 0 := by
  have first : ∀ (n : ℕ) (hn : n < cfg0.N) (acc), n % 11 = 0 → R.val = 512 * (n / 11) + r.val → outsAt0 m c n hn = stAt0 m c n hn acc →
      (∀ k : Fin 2048, (outsAt0 m c n hn).2.1 (ix2 r k) = hid (X m c) (G0 m c) R k)
      ∧ ∀ d : Fin 2048, (outsAt0 m c n hn).2.2 (ix2 r d)
        = ∑ s : Fin 11, if s.val ≤ n % 11 then slab (X m c) (G0 m c) (WG m c) (WU m c) (WD m c) R d s else 0 := by
    intro n hn acc h0 hR e
    rw [e, Cases.at_first m c ⟨n, hn⟩ acc h0]
    have hk : ∀ k : Fin 2048, k0_pay1 (F := Ideal) (iblk m c 0 ⟨n, hn⟩) (iblk m c 1 ⟨n, hn⟩) (ix2 r k) = hid (X m c) (G0 m c) R k :=
      fun k => norm_blk m c ⟨n, hn⟩ r k R hR
    refine ⟨hk, fun d => ?_⟩
    rw [h0, upto_zero]
    refine (first_at _ _ _ _ r d).trans ?_
    exact part_blk m c ⟨n, hn⟩ _ r d R ⟨0, by omega⟩ h0.symm hk
  induction n with
  | zero => exact first 0 hn _ rfl hR (outsAt0_zero m c hn)
  | succ n ih =>
    by_cases h0 : (n + 1) % 11 = 0
    · exact first (n + 1) hn _ h0 hR (outsAt0_succ m c n hn)
    · obtain ⟨i1, i2⟩ := ih (Nat.lt_of_succ_lt hn) (by omega) (by omega)
      rw [outsAt0_succ, Cases.at_middle m c ⟨n + 1, hn⟩ _ (by dsimp only; omega) hl]
      refine ⟨i1, fun d => ?_⟩
      refine (next_at _ _ _ _ _ r d).trans ?_
      rw [i2 d, part_blk m c ⟨n + 1, hn⟩ _ r d R ⟨n % 11 + 1, by omega⟩ (by dsimp only; omega) i1,
        show (n + 1) % 11 = n % 11 + 1 by omega, upto_succ _ _ (by omega)]

/-- The block a row block's last step writes is the layer's result for those rows. -/
theorem written (n : ℕ) (hn : n + 1 < cfg0.N) (hl : (n + 1) % 11 = 10) (r : Fin 512) (d : Fin 2048) (R : Fin 8192)
    (hR : R.val = 512 * ((n + 1) / 11) + r.val) :
    (outsAt0 m c (n + 1) hn).1 (ix2 r d) = out (X m c) (G0 m c) (WG m c) (WU m c) (WD m c) (G1 m c) R d := by
  obtain ⟨i1, i2⟩ := scratch m c n (Nat.lt_of_succ_lt hn) (by omega) r R (by omega)
  rw [outsAt0_succ, Cases.at_last m c ⟨n + 1, hn⟩ _ hl]
  refine (last_at _ _ _ r d).trans ?_
  unfold out
  refine congrArg₂ (· + ·) (Blocks.rows_at m c ⟨n + 1, hn⟩ r d R hR) ?_
  rw [show (fun j => k0_pay4 (F := Ideal) (outsAt0 m c n (Nat.lt_of_succ_lt hn)).2.1 (iblk m c 2 ⟨n + 1, hn⟩) (iblk m c 3 ⟨n + 1, hn⟩) (iblk m c 4 ⟨n + 1, hn⟩)
        (outsAt0 m c n (Nat.lt_of_succ_lt hn)).2.2 (ix2 r j)) = down (X m c) (G0 m c) (WG m c) (WU m c) (WD m c) R from funext fun j => by
      refine (next_at _ _ _ _ _ r j).trans ?_
      rw [i2 j, part_blk m c ⟨n + 1, hn⟩ _ r j R ⟨n % 11 + 1, by omega⟩ (by dsimp only; omega) i1, ← upto_succ _ _ (by omega),
        show n % 11 + 1 = 10 by omega, upto_last, down_eq_slabs]]
  exact congrArg (fun z => rms _ z d) (Blocks.post_blk m c ⟨n + 1, hn⟩ d)

/-- The result array holds the layer's result at every index. -/
theorem result_at (R : Fin 8192) (d : Fin 2048) :
    (G6 m c : FVec Ideal ⟨2, ![8192, 2048]⟩ .f32) (ix2 R d) = out (X m c) (G0 m c) (WG m c) (WU m c) (WD m c) (G1 m c) R d := by
  have hN : cfg0.N = 176 := N_0
  have hp : pt6Of (ix2 R d) = 11 * (R.val / 512) + 9 + 1 := by
    show 11 * (1 * (R.val / 512 - 0) + 1 * (d.val / 2048 - 0)) + 10 = _
    omega
  unfold G6
  rw [dif_pos (show pt6Of (ix2 R d) < cfg0.N by rw [hp]; omega), ← outsAt0_sweep m c (pt6Of (ix2 R d)) (by rw [hp]; omega)]
  have key : ∀ p (hpN : p < cfg0.N), p = 11 * (R.val / 512) + 9 + 1 → (outsAt0 m c p hpN).1 (loc6Of (ix2 R d))
      = out (X m c) (G0 m c) (WG m c) (WU m c) (WD m c) (G1 m c) R d := by
    intro p hpN e
    subst e
    rw [← written m c _ hpN (by omega) ⟨R.val % 512, by omega⟩ d R (by dsimp only; omega)]
    refine congrArg (outsAt0 m c _ hpN).1 (funext fun a => Fin.ext ?_)
    match a with
    | ⟨0, _⟩ => show R.val % 512 = R.val % 512; rfl
    | ⟨1, _⟩ => show d.val % 2048 = d.val; omega
  exact key _ _ hp

end Cert.Ffn1k

end
-- ==== Proof.FfnSPay.lean ====
/-
  The sample feed-forward kernel's stored values read at an index over the extended reals: the normalised block
  (`norm_at`), one hidden slab's partial product (`part_at`), the two accumulator stores (`first_at`, `next_at`) and
  the block that is written back (`last_at`).
-/
module

public import proofs.«01_k».proof.Proof.Gen.FfnSIdeal.Skeleton
public import proofs.«01_k».proof.Proof.FfnFold
public import Idealize.ShloMosaic.Lib.Pointwise

@[expose] public section

set_option maxRecDepth 16384

noncomputable section

open Idealize.ShloMosaic

namespace Cert.FfnS1k

open Cert.FfnSIdeal Cert.FfnSIdeal.Gen

open Cert.Ffn1k (rms unit)

/-- The stored normalised block at row `r`, column `k`. -/
theorem norm_at (x : FVec Ideal S32x2048 .f32) (g : FVec Ideal S1x2048 .f32) (r : Fin 32) (k : Fin 2048) :
    k0_pay1 (F := Ideal) x g (ix2 r k) = rms (fun j => x (ix2 r j)) (g (ix2 0 k)) k := by
  unfold rms
  pointwise! [k0_pay1]

/-- One hidden slab's partial product at row `r`, column `d`. -/
theorem part_at (h : FVec Ideal S32x2048 .bf16) (wg wu : FVec Ideal S2048x512 .bf16) (wd : FVec Ideal S512x2048 .bf16)
    (r : Fin 32) (d : Fin 2048) :
    k0_pay2 (F := Ideal) h wg wu wd (ix2 r d)
      = ∑ j : Fin 512, unit (fun k => h (ix2 r k)) (fun k => wg (ix2 k j)) (fun k => wu (ix2 k j)) * wd (ix2 j d) := by
  unfold unit
  pointwise! [k0_pay2]

/-- The accumulator's first store is the partial product. -/
theorem first_at (h : FVec Ideal S32x2048 .bf16) (wg wu : FVec Ideal S2048x512 .bf16) (wd : FVec Ideal S512x2048 .bf16)
    (r : Fin 32) (d : Fin 2048) :
    k0_pay3 (F := Ideal) h wg wu wd (ix2 r d) = k0_pay2 (F := Ideal) h wg wu wd (ix2 r d) := by
  unfold k0_pay3
  generalize k0_pay2 (F := Ideal) h wg wu wd = p
  pointwise

/-- A later store adds the partial product to what the accumulator held. -/
theorem next_at (h : FVec Ideal S32x2048 .bf16) (wg wu : FVec Ideal S2048x512 .bf16) (wd : FVec Ideal S512x2048 .bf16)
    (acc : FVec Ideal S32x2048 .f32) (r : Fin 32) (d : Fin 2048) :
    k0_pay4 (F := Ideal) h wg wu wd acc (ix2 r d) = acc (ix2 r d) + k0_pay2 (F := Ideal) h wg wu wd (ix2 r d) := by
  unfold k0_pay4
  generalize k0_pay2 (F := Ideal) h wg wu wd = p
  pointwise

/-- The written block: the residual plus the normalised accumulator. -/
theorem last_at (x acc : FVec Ideal S32x2048 .f32) (g : FVec Ideal S1x2048 .f32) (r : Fin 32) (d : Fin 2048) :
    k0_pay5 (F := Ideal) x acc g (ix2 r d) = x (ix2 r d) + rms (fun j => acc (ix2 r j)) (g (ix2 0 d)) d := by
  unfold rms
  pointwise! [k0_pay5]

end Cert.FfnS1k

end
-- ==== Proof.FfnSCases.lean ====
/-
  What one grid point of the sample feed-forward kernel leaves in its two scratch arrays and in its output block, case by
  case of the step `t % 11` (first, middle, last), as the stored values over the point's blocks.
-/
module

public import proofs.«01_k».proof.Proof.Gen.FfnSIdeal.Value
public import Idealize.ShloMosaic.Lib.Tactic

@[expose] public section

set_option maxRecDepth 16384

noncomputable section

open Idealize.ShloMosaic Idealize.ShloMosaic.TcCoe Idealize.SL.Sem

namespace Cert.FfnSIdeal.Cases

open Cert.FfnSIdeal Cert.FfnSIdeal.Gen Cert.FfnSIdeal.Value

variable {F : FTy → Type} [FloatOps F]
variable (m : (ℓ : Loc nD τ sig) → Buf (Elt F) ℓ)

/-- A rank-two offset that is zero in both coordinates. -/
theorem off0 : (![0, 0] : Fin 2 → Nat) = fun _ => 0 := funext fun a => by fin_cases a <;> rfl

/-- The first step of a row block stores the normalised rows and the first partial product. -/
theorem at_first (c : Dev nD) (t : Fin cfg0.N) (acc : Vec F S32x2048 .f32 × Vec F S32x2048 .bf16 × Vec F S32x2048 .f32)
    (h : t.val % 11 = 0) :
    (stAt0 m c t.val t.isLt acc).2
      = (k0_pay1 (iblk m c 0 t) (iblk m c 1 t), k0_pay3 (k0_pay1 (iblk m c 0 t) (iblk m c 1 t)) (iblk m c 2 t) (iblk m c 3 t) (iblk m c 4 t)) := by
  have hN : t.val < 11 := lt_of_lt_of_eq t.isLt N_0
  rw [stAt0_A m c t acc h h (by omega) (by omega)]
  refine Prod.ext ?_ ?_
  · dsimp only
    unfold sout0_A_0
    rw [View.read_writes_junk_eq_canon]
    unfold kernelRun0_A
    dsimp only
    sl_unfold_words
    rw [View.canon_unit_zero off0]
    simp only [View.readAt_eq_ld, (hs0_0 t).read_unread, (hs0_1 t).read_unread, View.ld_unit_zero (S := S32x2048) off0, View.ld_unit_zero (S := S512x2048) off0, View.ld_unit_zero (S := S1x2048) off0]
  · dsimp only
    unfold sout0_A_1
    rw [View.read_writes_junk_eq_canon]
    unfold kernelRun0_A
    dsimp only
    sl_unfold_words
    rw [View.canon_unit_zero off0]
    simp only [View.readAt_eq_ld, (hs0_0 t).read_unread, (hs0_1 t).read_unread, (hs0_2 t).read_unread, (hs0_3 t).read_unread, (hs0_4 t).read_unread,
      View.ld_unit_zero (S := S32x2048) off0, View.ld_unit_zero (S := S512x2048) off0, View.ld_unit_zero (S := S1x2048) off0, View.ld_unit_zero (S := S2048x512) off0, View.readCov_unit_zero (S := S32x2048) _ off0]

/-- A middle step leaves the normalised rows and adds its partial product. -/
theorem at_middle (c : Dev nD) (t : Fin cfg0.N) (acc : Vec F S32x2048 .f32 × Vec F S32x2048 .bf16 × Vec F S32x2048 .f32)
    (h : 1 ≤ t.val % 11) (h' : ¬t.val % 11 = 10) :
    (stAt0 m c t.val t.isLt acc).2
      = (acc.2.1, k0_pay4 acc.2.1 (iblk m c 2 t) (iblk m c 3 t) (iblk m c 4 t) acc.2.2) := by
  rw [stAt0_B m c t acc (by omega) (by omega) (by omega) h']
  refine Prod.ext ?_ ?_
  · rfl
  · dsimp only
    unfold sout0_B_1
    rw [View.read_writes_junk_eq_canon]
    unfold kernelRun0_B
    dsimp only
    sl_unfold_words
    rw [View.canon_unit_zero off0]
    simp only [View.readAt_eq_ld, (hs0_2 t).read_unread, (hs0_3 t).read_unread, (hs0_4 t).read_unread, (Memref.isWhole_whole _).read_unread,
      View.ld_unit_zero (S := S32x2048) off0, View.ld_unit_zero (S := S512x2048) off0, View.ld_unit_zero (S := S2048x512) off0]

/-- The last step writes the block: the residual plus the normalised, completed accumulator. -/
theorem at_last (c : Dev nD) (t : Fin cfg0.N) (acc : Vec F S32x2048 .f32 × Vec F S32x2048 .bf16 × Vec F S32x2048 .f32)
    (h : t.val % 11 = 10) :
    (stAt0 m c t.val t.isLt acc).1
      = k0_pay5 (iblk m c 0 t) (k0_pay4 acc.2.1 (iblk m c 2 t) (iblk m c 3 t) (iblk m c 4 t) acc.2.2) (iblk m c 5 t) := by
  rw [stAt0_C m c t acc (by omega) (by omega) (by omega) h]
  dsimp only
  unfold out0_C_6
  rw [View.read_writes_junk_eq_canon]
  unfold kernelRun0_C
  dsimp only
  sl_unfold_words
  rw [View.canon_unit_zero off0]
  simp only [View.readAt_eq_ld, (hs0_0 t).read_unread, (hs0_2 t).read_unread, (hs0_3 t).read_unread, (hs0_4 t).read_unread, (hs0_5 t).read_unread,
    (Memref.isWhole_whole _).read_unread, View.readCov_unit_zero (S := S32x2048) _ off0,
    View.ld_unit_zero (S := S32x2048) off0, View.ld_unit_zero (S := S512x2048) off0, View.ld_unit_zero (S := S1x2048) off0, View.ld_unit_zero (S := S2048x512) off0]

end Cert.FfnSIdeal.Cases

end
-- ==== Proof.FfnSBlocks.lean ====
/-
  The sample feed-forward kernel's blocks read off its arguments: the rows of the input, the two gains, and the slabs of the
  three weight matrices that one grid point works on.
-/
module

public import proofs.«01_k».proof.Proof.Gen.FfnSIdeal.Frame
public import Idealize.ShloMosaic.Lib.Pointwise
public import Idealize.ShloMosaic.Lib.StableHlo.ReadAt
public import Idealize.ShloMosaic.Lib.Tactic

@[expose] public section

set_option maxRecDepth 16384

noncomputable section

open Idealize.ShloMosaic Idealize.ShloMosaic.TcCoe Idealize.SL.Sem

namespace Cert.FfnSIdeal.Blocks

open Cert.FfnSIdeal Cert.FfnSIdeal.Gen

variable (m : (ℓ : Loc nD τ sig) → Buf (Elt Ideal) ℓ)

/-- The gate matrix in the kernel's layout is the argument's one layer. -/
theorem gate_at (c : Dev nD) (k : Fin 2048) (j : Fin 5632) :
    (V m c main_v1 : FVec Ideal S2048x5632 .bf16) (ix2 k j) = (m ((c : Thread nD τ).loc main_arg2) : FVec Ideal S1x2048x5632 .f32) (ix3 0 k j) := by
  unfold V
  after_reads_at

/-- The up matrix in the kernel's layout is the argument's one layer. -/
theorem up_at (c : Dev nD) (k : Fin 2048) (j : Fin 5632) :
    (V m c main_v3 : FVec Ideal S2048x5632 .bf16) (ix2 k j) = (m ((c : Thread nD τ).loc main_arg3) : FVec Ideal S1x2048x5632 .f32) (ix3 0 k j) := by
  unfold V
  after_reads_at

/-- The down matrix in the kernel's layout is the argument's one layer. -/
theorem down_at (c : Dev nD) (j : Fin 5632) (d : Fin 2048) :
    (V m c main_v5 : FVec Ideal S5632x2048 .bf16) (ix2 j d) = (m ((c : Thread nD τ).loc main_arg4) : FVec Ideal S1x5632x2048 .f32) (ix3 0 j d) := by
  unfold V
  after_reads_at

/-- The gain before the product is the argument's row. -/
theorem gain_at (c : Dev nD) (k : Fin 2048) :
    (V m c main_v7 : FVec Ideal S1x2048 .f32) (ix2 0 k) = (m ((c : Thread nD τ).loc main_arg1) : FVec Ideal S1x2048 .f32) (ix2 0 k) := by
  unfold V
  after_reads_at

/-- The gain after the product is the argument's row. -/
theorem post_at (c : Dev nD) (k : Fin 2048) :
    (V m c main_v9 : FVec Ideal S1x2048 .f32) (ix2 0 k) = (m ((c : Thread nD τ).loc main_arg5) : FVec Ideal S1x2048 .f32) (ix2 0 k) := by
  unfold V
  after_reads_at

/-- Where the windows' blocks lie: the row block is `t / 11`, the weights' slab `t % 11`. -/
theorem places : ∀ t : Fin cfg0.N, win0_0.index t (0 : Fin 2) = t.val / 11 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 11
    ∧ win0_3.index t (0 : Fin 2) = 0 ∧ win0_3.index t (1 : Fin 2) = t.val % 11
    ∧ win0_4.index t (0 : Fin 2) = t.val % 11 ∧ win0_4.index t (1 : Fin 2) = 0
    ∧ win0_5.index t (0 : Fin 2) = 0 ∧ win0_5.index t (1 : Fin 2) = 0 :=
  (by decide +kernel : ∀ t : Fin grid0.N, _)

/-- Row `r` of the input block is row `32 (t / 11) + r` of the input. -/
theorem rows_at (c : Dev nD) (t : Fin cfg0.N) (r : Fin 32) (k : Fin 2048) (R : Fin 32) (hR : R.val = 32 * (t.val / 11) + r.val) :
    (iblk m c 0 t : FVec Ideal S32x2048 .f32) (ix2 r k) = (m ((c : Thread nD τ).loc main_arg0) : FVec Ideal S32x2048 .f32) (ix2 R k) := by
  obtain ⟨a0, a1, -⟩ := places t
  rw [← V_main_arg0 m c]
  refine congrArg (V m c main_arg0) (funext fun a => Fin.ext ?_)
  match a with
  | ⟨0, _⟩ => show win0_0.index t (0 : Fin 2) * 32 + 1 * r.val = R.val; omega
  | ⟨1, _⟩ => show win0_0.index t (1 : Fin 2) * 2048 + 1 * k.val = k.val; omega

/-- The gain's block is the gain. -/
theorem gain_blk (c : Dev nD) (t : Fin cfg0.N) (k : Fin 2048) :
    (iblk m c 1 t : FVec Ideal S1x2048 .f32) (ix2 0 k) = (m ((c : Thread nD τ).loc main_arg1) : FVec Ideal S1x2048 .f32) (ix2 0 k) := by
  obtain ⟨-, -, a0, a1, -⟩ := places t
  rw [← gain_at m c k]
  refine congrArg (V m c main_v7) (funext fun a => Fin.ext ?_)
  match a with
  | ⟨0, _⟩ => show win0_1.index t (0 : Fin 2) * 1 + 1 * 0 = 0; omega
  | ⟨1, _⟩ => show win0_1.index t (1 : Fin 2) * 2048 + 1 * k.val = k.val; omega

/-- Column `j` of the gate slab is hidden unit `512 (t % 11) + j`. -/
theorem gate_blk (c : Dev nD) (t : Fin cfg0.N) (k : Fin 2048) (j : Fin 512) (J : Fin 5632) (hJ : J.val = (t.val % 11) * 512 + j.val) :
    (iblk m c 2 t : FVec Ideal S2048x512 .bf16) (ix2 k j) = (m ((c : Thread nD τ).loc main_arg2) : FVec Ideal S1x2048x5632 .f32) (ix3 0 k J) := by
  obtain ⟨-, -, -, -, a0, a1, -⟩ := places t
  rw [← gate_at m c k J]
  refine congrArg (V m c main_v1) (funext fun a => Fin.ext ?_)
  match a with
  | ⟨0, _⟩ => show win0_2.index t (0 : Fin 2) * 2048 + 1 * k.val = k.val; omega
  | ⟨1, _⟩ => show win0_2.index t (1 : Fin 2) * 512 + 1 * j.val = J.val; omega

/-- Column `j` of the up slab is hidden unit `512 (t % 11) + j`. -/
theorem up_blk (c : Dev nD) (t : Fin cfg0.N) (k : Fin 2048) (j : Fin 512) (J : Fin 5632) (hJ : J.val = (t.val % 11) * 512 + j.val) :
    (iblk m c 3 t : FVec Ideal S2048x512 .bf16) (ix2 k j) = (m ((c : Thread nD τ).loc main_arg3) : FVec Ideal S1x2048x5632 .f32) (ix3 0 k J) := by
  obtain ⟨-, -, -, -, -, -, a0, a1, -⟩ := places t
  rw [← up_at m c k J]
  refine congrArg (V m c main_v3) (funext fun a => Fin.ext ?_)
  match a with
  | ⟨0, _⟩ => show win0_3.index t (0 : Fin 2) * 2048 + 1 * k.val = k.val; omega
  | ⟨1, _⟩ => show win0_3.index t (1 : Fin 2) * 512 + 1 * j.val = J.val; omega

/-- Row `j` of the down slab is hidden unit `512 (t % 11) + j`. -/
theorem down_blk (c : Dev nD) (t : Fin cfg0.N) (j : Fin 512) (d : Fin 2048) (J : Fin 5632) (hJ : J.val = (t.val % 11) * 512 + j.val) :
    (iblk m c 4 t : FVec Ideal S512x2048 .bf16) (ix2 j d) = (m ((c : Thread nD τ).loc main_arg4) : FVec Ideal S1x5632x2048 .f32) (ix3 0 J d) := by
  obtain ⟨-, -, -, -, -, -, -, -, a0, a1, -⟩ := places t
  rw [← down_at m c J d]
  refine congrArg (V m c main_v5) (funext fun a => Fin.ext ?_)
  match a with
  | ⟨0, _⟩ => show win0_4.index t (0 : Fin 2) * 512 + 1 * j.val = J.val; omega
  | ⟨1, _⟩ => show win0_4.index t (1 : Fin 2) * 2048 + 1 * d.val = d.val; omega

/-- The second gain's block is the gain. -/
theorem post_blk (c : Dev nD) (t : Fin cfg0.N) (k : Fin 2048) :
    (iblk m c 5 t : FVec Ideal S1x2048 .f32) (ix2 0 k) = (m ((c : Thread nD τ).loc main_arg5) : FVec Ideal S1x2048 .f32) (ix2 0 k) := by
  obtain ⟨-, -, -, -, -, -, -, -, -, -, a0, a1⟩ := places t
  rw [← post_at m c k]
  refine congrArg (V m c main_v9) (funext fun a => Fin.ext ?_)
  match a with
  | ⟨0, _⟩ => show win0_5.index t (0 : Fin 2) * 1 + 1 * 0 = 0; omega
  | ⟨1, _⟩ => show win0_5.index t (1 : Fin 2) * 2048 + 1 * k.val = k.val; omega

end Cert.FfnSIdeal.Blocks

end
-- ==== Proof.FfnSFold.lean ====
/-
  The sample feed-forward kernel's scratch arrays and result, point by point: after step `s` of row block `q` the first scratch
  holds the block's normalised rows and the second the sum of the first `s + 1` partial products; the last step's block
  is the layer's result for those rows.
-/
module

public import proofs.«01_k».proof.Proof.FfnSPay
public import proofs.«01_k».proof.Proof.FfnSCases
public import proofs.«01_k».proof.Proof.FfnSBlocks

@[expose] public section

set_option maxRecDepth 16384

noncomputable section

open Idealize.ShloMosaic Idealize.ShloMosaic.TcCoe Idealize.SL.Sem

namespace Cert.FfnS1k

open Cert.Ffn1k (rms unit upto_succ upto_zero upto_last)

/-- The sample feed-forward part of the layer for one row, as a function of the arrays it reads. -/
def hid (x : FVec Ideal ⟨2, ![32, 2048]⟩ .f32) (g : FVec Ideal ⟨2, ![1, 2048]⟩ .f32) (R : Fin 32) (k : Fin 2048) : EReal :=
  rms (fun j => x (ix2 R j)) (g (ix2 0 k)) k

/-- Hidden unit `J`'s activation for row `R`. -/
def act (x : FVec Ideal ⟨2, ![32, 2048]⟩ .f32) (g : FVec Ideal ⟨2, ![1, 2048]⟩ .f32)
    (wg wu : FVec Ideal ⟨3, ![1, 2048, 5632]⟩ .f32) (R : Fin 32) (J : Fin 5632) : EReal :=
  unit (hid x g R) (fun k => wg (ix3 0 k J)) (fun k => wu (ix3 0 k J))

/-- The product of the activations with the down matrix over all hidden units. -/
def down (x : FVec Ideal ⟨2, ![32, 2048]⟩ .f32) (g : FVec Ideal ⟨2, ![1, 2048]⟩ .f32)
    (wg wu : FVec Ideal ⟨3, ![1, 2048, 5632]⟩ .f32) (wd : FVec Ideal ⟨3, ![1, 5632, 2048]⟩ .f32) (R : Fin 32) (d : Fin 2048) : EReal :=
  ∑ J : Fin 5632, act x g wg wu R J * wd (ix3 0 J d)

/-- One slab's share of that product. -/
def slab (x : FVec Ideal ⟨2, ![32, 2048]⟩ .f32) (g : FVec Ideal ⟨2, ![1, 2048]⟩ .f32)
    (wg wu : FVec Ideal ⟨3, ![1, 2048, 5632]⟩ .f32) (wd : FVec Ideal ⟨3, ![1, 5632, 2048]⟩ .f32) (R : Fin 32) (d : Fin 2048) (s : Fin 11) : EReal :=
  ∑ j : Fin 512, act x g wg wu R ⟨s.val * 512 + j.val, by omega⟩ * wd (ix3 0 ⟨s.val * 512 + j.val, by omega⟩ d)

/-- The whole product is the sum of the slabs' shares. -/
theorem down_eq_slabs (x : FVec Ideal ⟨2, ![32, 2048]⟩ .f32) (g : FVec Ideal ⟨2, ![1, 2048]⟩ .f32)
    (wg wu : FVec Ideal ⟨3, ![1, 2048, 5632]⟩ .f32) (wd : FVec Ideal ⟨3, ![1, 5632, 2048]⟩ .f32) (R : Fin 32) (d : Fin 2048) :
    down x g wg wu wd R d = ∑ s : Fin 11, slab x g wg wu wd R d s := by
  unfold down slab
  exact Fin.sum_univ_tiles 11 512 rfl _

/-- Row `R` of the result at column `d`. -/
def out (x : FVec Ideal ⟨2, ![32, 2048]⟩ .f32) (g : FVec Ideal ⟨2, ![1, 2048]⟩ .f32)
    (wg wu : FVec Ideal ⟨3, ![1, 2048, 5632]⟩ .f32) (wd : FVec Ideal ⟨3, ![1, 5632, 2048]⟩ .f32) (gp : FVec Ideal ⟨2, ![1, 2048]⟩ .f32)
    (R : Fin 32) (d : Fin 2048) : EReal :=
  x (ix2 R d) + rms (down x g wg wu wd R) (gp (ix2 0 d)) d

open Cert.FfnSIdeal Cert.FfnSIdeal.Gen Cert.FfnSIdeal.Value

variable (m : (ℓ : Loc nD τ sig) → Buf (Elt Ideal) ℓ) (c : Dev nD)

/-- The arguments, at their printed shapes. -/
abbrev X : FVec Ideal ⟨2, ![32, 2048]⟩ .f32 := m ((c : Thread nD τ).loc main_arg0)
@[inherit_doc X] abbrev G0 : FVec Ideal ⟨2, ![1, 2048]⟩ .f32 := m ((c : Thread nD τ).loc main_arg1)
@[inherit_doc X] abbrev WG : FVec Ideal ⟨3, ![1, 2048, 5632]⟩ .f32 := m ((c : Thread nD τ).loc main_arg2)
@[inherit_doc X] abbrev WU : FVec Ideal ⟨3, ![1, 2048, 5632]⟩ .f32 := m ((c : Thread nD τ).loc main_arg3)
@[inherit_doc X] abbrev WD : FVec Ideal ⟨3, ![1, 5632, 2048]⟩ .f32 := m ((c : Thread nD τ).loc main_arg4)
@[inherit_doc X] abbrev G1 : FVec Ideal ⟨2, ![1, 2048]⟩ .f32 := m ((c : Thread nD τ).loc main_arg5)

/-- The normalised block a first step stores is the rows' normalisation. -/
theorem norm_blk (t : Fin cfg0.N) (r : Fin 32) (k : Fin 2048) (R : Fin 32) (hR : R.val = 32 * (t.val / 11) + r.val) :
    k0_pay1 (F := Ideal) (iblk m c 0 t) (iblk m c 1 t) (ix2 r k) = hid (X m c) (G0 m c) R k := by
  refine (norm_at (iblk m c 0 t) (iblk m c 1 t) r k).trans ?_
  unfold hid
  rw [show (fun j => (iblk m c 0 t : FVec Ideal S32x2048 .f32) (ix2 r j)) = fun j => X m c (ix2 R j) from
    funext fun j => Blocks.rows_at m c t r j R hR]
  exact congrArg (fun z => rms _ z k) (Blocks.gain_blk m c t k)

/-- The partial product over the normalised rows is the slab's share. -/
theorem part_blk (t : Fin cfg0.N) (h : FVec Ideal S32x2048 .bf16) (r : Fin 32) (d : Fin 2048) (R : Fin 32) (s : Fin 11)
    (hs : s.val = t.val % 11) (hh : ∀ k : Fin 2048, h (ix2 r k) = hid (X m c) (G0 m c) R k) :
    k0_pay2 (F := Ideal) h (iblk m c 2 t) (iblk m c 3 t) (iblk m c 4 t) (ix2 r d)
      = slab (X m c) (G0 m c) (WG m c) (WU m c) (WD m c) R d s := by
  refine (part_at h (iblk m c 2 t) (iblk m c 3 t) (iblk m c 4 t) r d).trans ?_
  unfold slab act
  refine Finset.sum_congr rfl fun j _ => ?_
  rw [show (fun k => h (ix2 r k)) = hid (X m c) (G0 m c) R from funext hh,
    show (fun k => (iblk m c 2 t : FVec Ideal S2048x512 .bf16) (ix2 k j)) = fun k => WG m c (ix3 0 k ⟨s.val * 512 + j.val, by omega⟩) from
      funext fun k => Blocks.gate_blk m c t k j _ (by dsimp only; omega),
    show (fun k => (iblk m c 3 t : FVec Ideal S2048x512 .bf16) (ix2 k j)) = fun k => WU m c (ix3 0 k ⟨s.val * 512 + j.val, by omega⟩) from
      funext fun k => Blocks.up_blk m c t k j _ (by dsimp only; omega)]
  exact congrArg (_ * ·) (Blocks.down_blk m c t j d _ (by dsimp only; omega))

/-- What the two scratch arrays hold after a step that is not the last of its row block. -/
theorem scratch (n : ℕ) (hn : n < cfg0.N) (hl : n % 11 ≠ 10) (r : Fin 32) (R : Fin 32) (hR : R.val = 32 * (n / 11) + r.val) :
    (∀ k : Fin 2048, (outsAt0 m c n hn).2.1 (ix2 r k) = hid (X m c) (G0 m c) R k)
    ∧ ∀ d : Fin 2048, (outsAt0 m c n hn).2.2 (ix2 r d)
        = ∑ s : Fin 11, if s.val ≤ n % 11 then slab (X m c) (G0 m c) (WG m c) (WU m c) (WD m c) R d s else 0 := by
  have first : ∀ (n : ℕ) (hn : n < cfg0.N) (acc), n % 11 = 0 → R.val = 32 * (n / 11) + r.val → outsAt0 m c n hn = stAt0 m c n hn acc →
      (∀ k : Fin 2048, (outsAt0 m c n hn).2.1 (ix2 r k) = hid (X m c) (G0 m c) R k)
      ∧ ∀ d : Fin 2048, (outsAt0 m c n hn).2.2 (ix2 r d)
        = ∑ s : Fin 11, if s.val ≤ n % 11 then slab (X m c) (G0 m c) (WG m c) (WU m c) (WD m c) R d s else 0 := by
    intro n hn acc h0 hR e
    rw [e, Cases.at_first m c ⟨n, hn⟩ acc h0]
    have hk : ∀ k : Fin 2048, k0_pay1 (F := Ideal) (iblk m c 0 ⟨n, hn⟩) (iblk m c 1 ⟨n, hn⟩) (ix2 r k) = hid (X m c) (G0 m c) R k :=
      fun k => norm_blk m c ⟨n, hn⟩ r k R hR
    refine ⟨hk, fun d => ?_⟩
    rw [h0, upto_zero]
    refine (first_at _ _ _ _ r d).trans ?_
    exact part_blk m c ⟨n, hn⟩ _ r d R ⟨0, by omega⟩ h0.symm hk
  induction n with
  | zero => exact first 0 hn _ rfl hR (outsAt0_zero m c hn)
  | succ n ih =>
    by_cases h0 : (n + 1) % 11 = 0
    · exact first (n + 1) hn _ h0 hR (outsAt0_succ m c n hn)
    · obtain ⟨i1, i2⟩ := ih (Nat.lt_of_succ_lt hn) (by omega) (by omega)
      rw [outsAt0_succ, Cases.at_middle m c ⟨n + 1, hn⟩ _ (by dsimp only; omega) hl]
      refine ⟨i1, fun d => ?_⟩
      refine (next_at _ _ _ _ _ r d).trans ?_
      rw [i2 d, part_blk m c ⟨n + 1, hn⟩ _ r d R ⟨n % 11 + 1, by omega⟩ (by dsimp only; omega) i1,
        show (n + 1) % 11 = n % 11 + 1 by omega, upto_succ _ _ (by omega)]

/-- The block a row block's last step writes is the layer's result for those rows. -/
theorem written (n : ℕ) (hn : n + 1 < cfg0.N) (hl : (n + 1) % 11 = 10) (r : Fin 32) (d : Fin 2048) (R : Fin 32)
    (hR : R.val = 32 * ((n + 1) / 11) + r.val) :
    (outsAt0 m c (n + 1) hn).1 (ix2 r d) = out (X m c) (G0 m c) (WG m c) (WU m c) (WD m c) (G1 m c) R d := by
  obtain ⟨i1, i2⟩ := scratch m c n (Nat.lt_of_succ_lt hn) (by omega) r R (by omega)
  rw [outsAt0_succ, Cases.at_last m c ⟨n + 1, hn⟩ _ hl]
  refine (last_at _ _ _ r d).trans ?_
  unfold out
  refine congrArg₂ (· + ·) (Blocks.rows_at m c ⟨n + 1, hn⟩ r d R hR) ?_
  rw [show (fun j => k0_pay4 (F := Ideal) (outsAt0 m c n (Nat.lt_of_succ_lt hn)).2.1 (iblk m c 2 ⟨n + 1, hn⟩) (iblk m c 3 ⟨n + 1, hn⟩) (iblk m c 4 ⟨n + 1, hn⟩)
        (outsAt0 m c n (Nat.lt_of_succ_lt hn)).2.2 (ix2 r j)) = down (X m c) (G0 m c) (WG m c) (WU m c) (WD m c) R from funext fun j => by
      refine (next_at _ _ _ _ _ r j).trans ?_
      rw [i2 j, part_blk m c ⟨n + 1, hn⟩ _ r j R ⟨n % 11 + 1, by omega⟩ (by dsimp only; omega) i1, ← upto_succ _ _ (by omega),
        show n % 11 + 1 = 10 by omega, upto_last, down_eq_slabs]]
  exact congrArg (fun z => rms _ z d) (Blocks.post_blk m c ⟨n + 1, hn⟩ d)

/-- The result array holds the layer's result at every index. -/
theorem result_at (R : Fin 32) (d : Fin 2048) :
    (G6 m c : FVec Ideal ⟨2, ![32, 2048]⟩ .f32) (ix2 R d) = out (X m c) (G0 m c) (WG m c) (WU m c) (WD m c) (G1 m c) R d := by
  have hN : cfg0.N = 11 := N_0
  have hp : pt6Of (ix2 R d) = 11 * (R.val / 32) + 9 + 1 := by
    show 11 * (1 * (R.val / 32 - 0) + 1 * (d.val / 2048 - 0)) + 10 = _
    omega
  unfold G6
  rw [dif_pos (show pt6Of (ix2 R d) < cfg0.N by rw [hp]; omega), ← outsAt0_sweep m c (pt6Of (ix2 R d)) (by rw [hp]; omega)]
  have key : ∀ p (hpN : p < cfg0.N), p = 11 * (R.val / 32) + 9 + 1 → (outsAt0 m c p hpN).1 (loc6Of (ix2 R d))
      = out (X m c) (G0 m c) (WG m c) (WU m c) (WD m c) (G1 m c) R d := by
    intro p hpN e
    subst e
    rw [← written m c _ hpN (by omega) ⟨R.val % 32, by omega⟩ d R (by dsimp only; omega)]
    refine congrArg (outsAt0 m c _ hpN).1 (funext fun a => Fin.ext ?_)
    match a with
    | ⟨0, _⟩ => show R.val % 32 = R.val % 32; rfl
    | ⟨1, _⟩ => show d.val % 2048 = d.val; omega
  exact key _ _ hp

end Cert.FfnS1k

end
-- ==== Proof.FfnSRef.lean ====
/-
  The feed-forward reference at the sample's shapes, read at an index over the extended reals: its result is `FfnS1k.out` of its arguments.
-/
module

public import proofs.«01_k».proof.Proof.FfnSFold
public import proofs.«01_k».proof.Proof.Gen.FfnSRefIdeal.Read

@[expose] public section

set_option maxRecDepth 16384

noncomputable section

open Idealize.ShloMosaic Idealize.ShloMosaic.TcCoe

namespace Cert.FfnS1k

open Cert.Ffn1k (rms unit)

open Cert.FfnSRefIdeal Cert.FfnSRefIdeal.Read

variable (x : FVec Ideal ⟨2, ![32, 2048]⟩ .f32) (g gp : FVec Ideal ⟨2, ![1, 2048]⟩ .f32)
  (wg wu : FVec Ideal ⟨3, ![1, 2048, 5632]⟩ .f32) (wd : FVec Ideal ⟨3, ![1, 5632, 2048]⟩ .f32)

/-- The normalised input at row `R`, column `k`. -/
theorem ref_hid (R : Fin 32) (k : Fin 2048) : val_main_v13 (F := Ideal) x g (ix2 R k) = hid x g R k := by
  unfold hid rms
  pointwise! [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]

/-- The gate product at row `R`, hidden unit `J`. -/
theorem ref_gate (R : Fin 32) (J : Fin 5632) :
    val_main_v15 (F := Ideal) x g wg (ix2 R J) = ∑ k : Fin 2048, hid x g R k * wg (ix3 0 k J) := by
  have e := fun k => ref_hid x g R k
  revert e
  unfold val_main_v15 val_main_v14
  generalize val_main_v13 (F := Ideal) x g = h
  intro e
  simp only [← e]
  pointwise!

/-- The up product at row `R`, hidden unit `J`. -/
theorem ref_up (R : Fin 32) (J : Fin 5632) :
    val_main_v18 (F := Ideal) x g wu (ix2 R J) = ∑ k : Fin 2048, hid x g R k * wu (ix3 0 k J) := by
  have e := fun k => ref_hid x g R k
  revert e
  unfold val_main_v18 val_main_v17
  generalize val_main_v13 (F := Ideal) x g = h
  intro e
  simp only [← e]
  pointwise!

/-- The activation at row `R`, hidden unit `J`. -/
theorem ref_act (R : Fin 32) (J : Fin 5632) : val_main_v19 (F := Ideal) x g wg wu (ix2 R J) = act x g wg wu R J := by
  unfold act unit Ideal.logistic
  simp only [← ref_gate x g wg R J, ← ref_up x g wu R J]
  unfold val_main_v19 val_main_v16 val_main_call0_v5 val_main_call0_v3 val_main_call0_v1 val_main_call0_v0
  generalize val_main_v15 (F := Ideal) x g wg = a
  generalize val_main_v18 (F := Ideal) x g wu = b
  pointwise [val_main_call0_v2, val_main_call0_v4, val_main_call0_cst, val_main_call0_cst_0]

/-- The down product at row `R`, column `d`. -/
theorem ref_down (R : Fin 32) (d : Fin 2048) : val_main_v21 (F := Ideal) x g wg wu wd (ix2 R d) = down x g wg wu wd R d := by
  unfold down
  have e := fun J => ref_act x g wg wu R J
  revert e
  unfold val_main_v21 val_main_v20
  generalize val_main_v19 (F := Ideal) x g wg wu = h
  intro e
  simp only [← e]
  pointwise!

/-- The reference's result at row `R`, column `d`. -/
theorem ref_out (R : Fin 32) (d : Fin 2048) : val_main_v36 (F := Ideal) x g wg wu wd gp (ix2 R d) = out x g wg wu wd gp R d := by
  unfold out
  have e : (fun j => val_main_v21 (F := Ideal) x g wg wu wd (ix2 R j)) = down x g wg wu wd R := funext fun j => ref_down x g wg wu wd R j
  rw [← e]
  unfold rms
  unfold val_main_v36 val_main_v35 val_main_v32 val_main_v31 val_main_v30 val_main_v29 val_main_v27 val_main_v25 val_main_v24 val_main_v23
  generalize val_main_v21 (F := Ideal) x g wg wu wd = f
  pointwise! [val_main_v22, val_main_v26, val_main_v28, val_main_v33, val_main_v34, val_main_cst_2, val_main_cst_3, val_main_cst_4]

end Cert.FfnS1k

end
-- ==== Proof.FfnSClaim.lean ====
/-
  The feed-forward claim: over the extended reals the kernel and the reference compute one array from the same arguments.
-/
module

public import proofs.«01_k».proof.Defs
public import proofs.«01_k».proof.Proof.FfnSRef
public import Idealize.ShloMosaic.Lib.Quiescent

@[expose] public section

set_option maxRecDepth 16384

noncomputable section

open Idealize.ShloMosaic Idealize.ShloMosaic.TcCoe Idealize.SL.Sem

namespace Cert.FfnS1k

/-- Arrays with equal entries at every row and column are equal. -/
theorem arr_ext {n d : ℕ} {a b : FVec Ideal ⟨2, ![n, d]⟩ .f32} (h : ∀ R : Fin n, ∀ k : Fin d, a (ix2 R k) = b (ix2 R k)) : a = b := by
  funext i
  have e : i = ix2 (i 0) (i 1) := by
    funext a
    match a with
    | ⟨0, _⟩ => rfl
    | ⟨1, _⟩ => rfl
  rw [e]
  exact h _ _

/-- The reference leaves its arguments and declares no semaphore. -/
theorem ref_frame : Cert.quiescent_FfnSRefIdeal (hFfnSRefIdeal := Cert.FfnSRefIdeal.Gen.facts) := fun m ρ _ =>
  (θ_run Cert.FfnSRefIdeal.defs _ _).mono (fun r h => ⟨fun c => (h c).2, Idealize.ShloMosaic.sem_eq_zero_of_no_sems (by decide) r.2⟩)
    (Cert.FfnSRefIdeal.Value.run (F := Ideal) m ρ)

/-- The kernel and the reference agree on equal arguments. -/
theorem algebraic : Cert.algebraic_FfnSIdeal_FfnSRefIdeal (hFfnSIdeal := Cert.FfnSIdeal.Gen.facts) (hFfnSRefIdeal := Cert.FfnSRefIdeal.Gen.facts) := by
  intro m ρ m' ρ' _ hag
  refine ⟨fun c => Cert.FfnSIdeal.Value.G6 m c, Cert.FfnSIdeal.Value.run m ρ, ?_⟩
  refine (θ_run _ _ _).mono (fun _ h c => ?_) (Cert.FfnSRefIdeal.Value.run (F := Ideal) m' ρ')
  obtain ⟨e0, e1, e2, e3, e4, e5⟩ := hag c
  obtain ⟨hr, k0, k1, k2, k3, k4, k5⟩ := h c
  refine ⟨hr.trans ?_, k0, k1, k2, k3, k4, k5⟩
  refine (Cert.FfnSRefIdeal.Read.val_main_v36_eq m' c).trans ?_
  rw [e0, e1, e2, e3, e4, e5]
  exact arr_ext fun R k => (ref_out _ _ _ _ _ _ R k).trans (result_at m c R k).symm

end Cert.FfnS1k

end
-- ==== Proof.MergeIdealSetup.lean ====
/-
  What the merge kernel stores at a step, and the host's part before its region.
-/
module

public import proofs.«01_k».proof.Proof.Gen.MergeIdeal.Launch
public import proofs.«01_k».proof.Proof.Gen.MergeIdeal.Skeleton
public import proofs.«01_k».proof.Proof.Gen.MergeIdeal.Points
public import proofs.«01_k».proof.Proof.Keep
public import Idealize.ShloMosaic.Lib.WordCmp
public import Idealize.ShloMosaic.Lib.VecWindow
public import Idealize.ShloMosaic.Lib.Claim

@[expose] public section

set_option maxRecDepth 16384

noncomputable section

namespace Cert.MergeIdeal.Hand

open Cert.MergeIdeal Cert.MergeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The TensorCore buffers of core `c` where the kernel's region begins: the host's casts and reshapes have run. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]
  repeat' constructor

set_option maxHeartbeats 800000 in
/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host writes only its own buffers: every other one reaches the region as launched. -/
theorem V_of (c : Dev nD) (b : Ref sig .tc) (h : ∀ r ∈ [main_v0, main_v1, main_v2, main_v3, main_v4, main_v5, main_v6, main_v7, main_v8, main_v9, main_v10, main_v11, main_v12, main_v13, main_v14, main_v15, main_v16], b ≠ r) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (h _ (by decide))))

/-- The host writes no argument. -/
theorem V_main_arg0 (c : Dev nD) : V m c main_arg0 = m ((c : Thread nD τ).loc main_arg0) := V_of m c main_arg0 (by decide)
@[inherit_doc V_main_arg0] theorem V_main_arg1 (c : Dev nD) : V m c main_arg1 = m ((c : Thread nD τ).loc main_arg1) := V_of m c main_arg1 (by decide)
@[inherit_doc V_main_arg0] theorem V_main_arg2 (c : Dev nD) : V m c main_arg2 = m ((c : Thread nD τ).loc main_arg2) := V_of m c main_arg2 (by decide)
@[inherit_doc V_main_arg0] theorem V_main_arg3 (c : Dev nD) : V m c main_arg3 = m ((c : Thread nD τ).loc main_arg3) := V_of m c main_arg3 (by decide)
@[inherit_doc V_main_arg0] theorem V_main_arg4 (c : Dev nD) : V m c main_arg4 = m ((c : Thread nD τ).loc main_arg4) := V_of m c main_arg4 (by decide)
@[inherit_doc V_main_arg0] theorem V_main_arg5 (c : Dev nD) : V m c main_arg5 = m ((c : Thread nD τ).loc main_arg5) := V_of m c main_arg5 (by decide)
@[inherit_doc V_main_arg0] theorem V_main_arg6 (c : Dev nD) : V m c main_arg6 = m ((c : Thread nD τ).loc main_arg6) := V_of m c main_arg6 (by decide)
@[inherit_doc V_main_arg0] theorem V_main_arg7 (c : Dev nD) : V m c main_arg7 = m ((c : Thread nD τ).loc main_arg7) := V_of m c main_arg7 (by decide)
@[inherit_doc V_main_arg0] theorem V_main_arg8 (c : Dev nD) : V m c main_arg8 = m ((c : Thread nD τ).loc main_arg8) := V_of m c main_arg8 (by decide)
@[inherit_doc V_main_arg0] theorem V_main_arg9 (c : Dev nD) : V m c main_arg9 = m ((c : Thread nD τ).loc main_arg9) := V_of m c main_arg9 (by decide)
@[inherit_doc V_main_arg0] theorem V_main_arg10 (c : Dev nD) : V m c main_arg10 = m ((c : Thread nD τ).loc main_arg10) := V_of m c main_arg10 (by decide)
@[inherit_doc V_main_arg0] theorem V_main_arg11 (c : Dev nD) : V m c main_arg11 = m ((c : Thread nD τ).loc main_arg11) := V_of m c main_arg11 (by decide)

/-- The block of window `w` at point `t`, read off its array where the region begins. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input 0's buffer holds its block at every point, for any data over these arrays whose body leaves it in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl)
      (fun t => by rw [hafter]; unfold Dat.blockOf iblk; rw [hA]; try rfl) t d).trans
    (by unfold Dat.fetched Dat.blockOf iblk; rw [hA]; try rfl)

@[inherit_doc before_0_of]
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl)
      (fun t => by rw [hafter]; unfold Dat.blockOf iblk; rw [hA]; try rfl) t d).trans
    (by unfold Dat.fetched Dat.blockOf iblk; rw [hA]; try rfl)

@[inherit_doc before_0_of]
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl)
      (fun t => by rw [hafter]; unfold Dat.blockOf iblk; rw [hA]; try rfl) t d).trans
    (by unfold Dat.fetched Dat.blockOf iblk; rw [hA]; try rfl)

@[inherit_doc before_0_of]
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl)
      (fun t => by rw [hafter]; unfold Dat.blockOf iblk; rw [hA]; try rfl) t d).trans
    (by unfold Dat.fetched Dat.blockOf iblk; rw [hA]; try rfl)

@[inherit_doc before_0_of]
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl)
      (fun t => by rw [hafter]; unfold Dat.blockOf iblk; rw [hA]; try rfl) t d).trans
    (by unfold Dat.fetched Dat.blockOf iblk; rw [hA]; try rfl)

@[inherit_doc before_0_of]
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl)
      (fun t => by rw [hafter]; unfold Dat.blockOf iblk; rw [hA]; try rfl) t d).trans
    (by unfold Dat.fetched Dat.blockOf iblk; rw [hA]; try rfl)

@[inherit_doc before_0_of]
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl)
      (fun t => by rw [hafter]; unfold Dat.blockOf iblk; rw [hA]; try rfl) t d).trans
    (by unfold Dat.fetched Dat.blockOf iblk; rw [hA]; try rfl)

@[inherit_doc before_0_of]
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl)
      (fun t => by rw [hafter]; unfold Dat.blockOf iblk; rw [hA]; try rfl) t d).trans
    (by unfold Dat.fetched Dat.blockOf iblk; rw [hA]; try rfl)

@[inherit_doc before_0_of]
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl)
      (fun t => by rw [hafter]; unfold Dat.blockOf iblk; rw [hA]; try rfl) t d).trans
    (by unfold Dat.fetched Dat.blockOf iblk; rw [hA]; try rfl)

@[inherit_doc before_0_of]
theorem before_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl)
      (fun t => by rw [hafter]; unfold Dat.blockOf iblk; rw [hA]; try rfl) t d).trans
    (by unfold Dat.fetched Dat.blockOf iblk; rw [hA]; try rfl)

@[inherit_doc before_0_of]
theorem before_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl)
      (fun t => by rw [hafter]; unfold Dat.blockOf iblk; rw [hA]; try rfl) t d).trans
    (by unfold Dat.fetched Dat.blockOf iblk; rw [hA]; try rfl)

@[inherit_doc before_0_of]
theorem before_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl)
      (fun t => by rw [hafter]; unfold Dat.blockOf iblk; rw [hA]; try rfl) t d).trans
    (by unfold Dat.fetched Dat.blockOf iblk; rw [hA]; try rfl)

@[inherit_doc before_0_of]
theorem before_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl)
      (fun t => by rw [hafter]; unfold Dat.blockOf iblk; rw [hA]; try rfl) t d).trans
    (by unfold Dat.fetched Dat.blockOf iblk; rw [hA]; try rfl)

@[inherit_doc before_0_of]
theorem before_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl)
      (fun t => by rw [hafter]; unfold Dat.blockOf iblk; rw [hA]; try rfl) t d).trans
    (by unfold Dat.fetched Dat.blockOf iblk; rw [hA]; try rfl)
abbrev ms_0 (t : Fin cfg0.N) : Memref sig .tc .vmem S512x2048 .bf16 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S512x1024 .bf16 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S512x512 .bf16 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S512x512 .bf16 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S512x2048 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S2048x256 .bf16 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S2048x256 .bf16 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S2048x256 .bf16 := win0_7.stage (cfg0.slots t 7)
abbrev hs_7 (t : Fin cfg0.N) : (ms_7 t).IsWhole := hstage0_7 ((cfg0.slots t 7).cast nbuf0_7)
abbrev ms_8 (t : Fin cfg0.N) : Memref sig .tc .vmem S3x1x256 .f32 := win0_8.stage (cfg0.slots t 8)
abbrev hs_8 (t : Fin cfg0.N) : (ms_8 t).IsWhole := hstage0_8 ((cfg0.slots t 8).cast nbuf0_8)
abbrev ms_9 (t : Fin cfg0.N) : Memref sig .tc .vmem S1024x256 .bf16 := win0_9.stage (cfg0.slots t 9)
abbrev hs_9 (t : Fin cfg0.N) : (ms_9 t).IsWhole := hstage0_9 ((cfg0.slots t 9).cast nbuf0_9)
abbrev ms_10 (t : Fin cfg0.N) : Memref sig .tc .vmem S512x256 .bf16 := win0_10.stage (cfg0.slots t 10)
abbrev hs_10 (t : Fin cfg0.N) : (ms_10 t).IsWhole := hstage0_10 ((cfg0.slots t 10).cast nbuf0_10)
abbrev ms_11 (t : Fin cfg0.N) : Memref sig .tc .vmem S512x256 .bf16 := win0_11.stage (cfg0.slots t 11)
abbrev hs_11 (t : Fin cfg0.N) : (ms_11 t).IsWhole := hstage0_11 ((cfg0.slots t 11).cast nbuf0_11)
abbrev ms_12 (t : Fin cfg0.N) : Memref sig .tc .vmem S2048x512 .bf16 := win0_12.stage (cfg0.slots t 12)
abbrev hs_12 (t : Fin cfg0.N) : (ms_12 t).IsWhole := hstage0_12 ((cfg0.slots t 12).cast nbuf0_12)
abbrev ms_13 (t : Fin cfg0.N) : Memref sig .tc .vmem S1x2048 .f32 := win0_13.stage (cfg0.slots t 13)
abbrev hs_13 (t : Fin cfg0.N) : (ms_13 t).IsWhole := hstage0_13 ((cfg0.slots t 13).cast nbuf0_13)
abbrev ms_14 (t : Fin cfg0.N) : Memref sig .tc .vmem S512x2048 .f32 := win0_14.stage (cfg0.slots t 14)
abbrev hs_14 (t : Fin cfg0.N) : (ms_14 t).IsWhole := hstage0_14 ((cfg0.slots t 14).cast nbuf0_14)
abbrev scM_0 : Memref sig .tc .vmem S8x512x256 .bf16 := Memref.whole cc0_scratch0
abbrev scM_1 : Memref sig .tc .vmem S4x512x512 .f32 := Memref.whole cc0_scratch1

/-- A rank-two offset that is zero in both coordinates. -/
theorem off0 : (![0, 0] : Fin 2 → Nat) = fun _ => 0 := funext fun a => by fin_cases a <;> rfl

/-- One store through a box leaves the payload there and the rest as it was. -/
theorem put_read {κ : Kind} {sp : Space} {s : Shape} {e : EltTy} (v : View sig κ sp s e) (f : v.ty.Contents (Elt F)) {off size : Fin s.rank → ℕ}
    (inb : ∀ a, off a + size a ≤ s.size a) (w : (Rect.unit off size inb).shape.Idx → Elt F e) (L : List (View.Piece (Elt F) s e)) :
    v.read (Elt F) (v.writes (Elt F) f (⟨Rect.unit off size inb, w⟩ :: L)) = VecWindow.put (v.read (Elt F) (v.writes (Elt F) f L)) off size w :=
  View.read_writes_cons_put v f inb w L rfl

/-- A load of the box just stored reads the payload. -/
theorem readCov_same [∀ e, Nonempty (Elt F e)] {κ : Kind} {sp : Space} {s : Shape} {e : EltTy} (v : View sig κ sp s e) {off off' size : Fin s.rank → ℕ}
    (h : off = off') (inb : ∀ a, off a + size a ≤ s.size a) (inb' : ∀ a, off' a + size a ≤ s.size a) (w : (Rect.unit off size inb).shape.Idx → Elt F e) :
    v.readCov [(⟨Rect.unit off size inb, w⟩ : View.Piece (Elt F) s e)] (Rect.unit off' size inb').toLoadRect = w := by
  subst h
  unfold View.readCov
  rw [View.readAt_eq_ld, put_read]
  exact VecWindow.window_put_same _ off size inb w

/-- At the last step the second scratch is stored at its last slab. -/
instance closedOff_last (i : grid0.Coords) [h : Fact (k0_off2 i = ![3, 0, 0])] : ClosedOff (k0_off2 i) := ⟨![3, 0, 0], h.out⟩

theorem sl8_inb (j : ℕ) (h : j < 8) (a : Fin 3) : (![j, 0, 0] : Fin 3 → ℕ) a + S1x512x256.size a ≤ S8x512x256.size a := by
  fin_cases a
  · show j + 1 ≤ 8; omega
  · show 0 + 512 ≤ 512; omega
  · show 0 + 256 ≤ 256; omega
theorem sl4_inb (j : ℕ) (h : j < 4) (a : Fin 3) : (![j, 0, 0] : Fin 3 → ℕ) a + S1x512x512.size a ≤ S4x512x512.size a := by
  fin_cases a
  · show j + 1 ≤ 4; omega
  · show 0 + 512 ≤ 512; omega
  · show 0 + 512 ≤ 512; omega

/-- Slab `j` of the first scratch: the merged columns of step `j`. -/
abbrev sl8 (a : Vec F S8x512x256 .bf16) (j : ℕ) (h : j < 8) : Vec F S1x512x256 .bf16 :=
  View.ld (Val := Elt F) a (Rect.unit (s := S8x512x256) ![j, 0, 0] S1x512x256.size (sl8_inb j h))
/-- Slab `j` of the second scratch: block of columns `j` of the projection. -/
abbrev sl4 (b : Vec F S4x512x512 .f32) (j : ℕ) (h : j < 4) : Vec F S1x512x512 .f32 :=
  View.ld (Val := Elt F) b (Rect.unit (s := S4x512x512) ![j, 0, 0] S1x512x512.size (sl4_inb j h))

/-- What a step of the first eight stores: the gated sum of the three branches, 256 columns of it. -/
def mpay (x0 : Vec F S512x2048 .bf16) (x1 : Vec F S512x1024 .bf16) (x2 x3 : Vec F S512x512 .bf16) (x5 x6 x7 : Vec F S2048x256 .bf16)
    (x8 : Vec F S3x1x256 .f32) (x9 : Vec F S1024x256 .bf16) (x10 x11 : Vec F S512x256 .bf16) : Vec F S1x512x256 .bf16 :=
  k0_pay1 (k0_pay4 x0 x5 (View.ld (Val := Elt F) x8 (Rect.unit ![0, 0, 0] S1x1x256.size inb_S3x1x256_S1x1x256_0_0_0)) x1 x9 x6
      (View.ld (Val := Elt F) x8 (Rect.unit ![1, 0, 0] S1x1x256.size inb_S3x1x256_S1x1x256_1_0_0)) x2 x10)
    (k0_pay5 x0 x7) (View.ld (Val := Elt F) x8 (Rect.unit ![2, 0, 0] S1x1x256.size inb_S3x1x256_S1x1x256_2_0_0)) x3 x11

/-- What a step of the last four stores: 512 columns of the merged rows' projection. -/
def zpay (s0 s1 s2 s3 s4 s5 s6 s7 : Vec F S1x512x256 .bf16) (w : Vec F S2048x512 .bf16) : Vec F S1x512x512 .f32 :=
  k0_pay2 (k0_pay6 s0 (View.ld (Val := Elt F) w (Rect.unit ![0, 0] S256x512.size inb_S2048x512_S256x512_0_0)) s1 (View.ld (Val := Elt F) w (Rect.unit ![256, 0] S256x512.size inb_S2048x512_S256x512_256_0)) s2 (View.ld (Val := Elt F) w (Rect.unit ![512, 0] S256x512.size inb_S2048x512_S256x512_512_0)) s3 (View.ld (Val := Elt F) w (Rect.unit ![768, 0] S256x512.size inb_S2048x512_S256x512_768_0)) s4 (View.ld (Val := Elt F) w (Rect.unit ![1024, 0] S256x512.size inb_S2048x512_S256x512_1024_0)))
    s5 (View.ld (Val := Elt F) w (Rect.unit ![1280, 0] S256x512.size inb_S2048x512_S256x512_1280_0)) s6 (View.ld (Val := Elt F) w (Rect.unit ![1536, 0] S256x512.size inb_S2048x512_S256x512_1536_0)) s7 (View.ld (Val := Elt F) w (Rect.unit ![1792, 0] S256x512.size inb_S2048x512_S256x512_1792_0))

/-- What the last step leaves in the result's block: the rows, and the projection normalised, in four blocks of columns. -/
def opay (z0 z1 z2 z3 : Vec F S1x512x512 .f32) (x : Vec F S512x2048 .f32) (gp : Vec F S1x2048 .f32) : Vec F S512x2048 .f32 :=
  View.canon [(⟨Rect.unit ![0, 1536] S512x512.size inb_S512x2048_S512x512_0_1536, k0_pay3 (k0_pay7 z0 z1 z2 z3)
        (k0_pay13 (View.ld (Val := Elt F) x (Rect.unit ![0, 1536] S512x512.size inb_S512x2048_S512x512_0_1536))) z3
        (View.ld (Val := Elt F) gp (Rect.unit ![0, 1536] S1x512.size inb_S1x2048_S1x512_0_1536))⟩ : View.Piece (Elt F) S512x2048 .f32),
    ⟨Rect.unit ![0, 1024] S512x512.size inb_S512x2048_S512x512_0_1024, k0_pay12 (k0_pay7 z0 z1 z2 z3)
        (View.ld (Val := Elt F) x (Rect.unit ![0, 1024] S512x512.size inb_S512x2048_S512x512_0_1024)) z2
        (View.ld (Val := Elt F) gp (Rect.unit ![0, 1024] S1x512.size inb_S1x2048_S1x512_0_1024))⟩,
    ⟨Rect.unit ![0, 512] S512x512.size inb_S512x2048_S512x512_0_512, k0_pay11 (k0_pay7 z0 z1 z2 z3)
        (View.ld (Val := Elt F) x (Rect.unit ![0, 512] S512x512.size inb_S512x2048_S512x512_0_512)) z1
        (View.ld (Val := Elt F) gp (Rect.unit ![0, 512] S1x512.size inb_S1x2048_S1x512_0_512))⟩,
    ⟨Rect.unit ![0, 0] S512x512.size inb_S512x2048_S512x512_0_0, k0_pay10
        (k0_pay8 (View.ld (Val := Elt F) x (Rect.unit ![0, 0] S512x512.size inb_S512x2048_S512x512_0_0))) (k0_pay9 z0 z1 z2 z3 z0)
        (View.ld (Val := Elt F) gp (Rect.unit ![0, 0] S1x512.size inb_S1x2048_S1x512_0_0))⟩]

/-- The four stores cover the block. -/
theorem cols_cover (p0 p1 p2 p3 : Vec F S512x512 .f32) (y : S512x2048.Idx) :
    ∃ p ∈ [(⟨Rect.unit ![0, 1536] S512x512.size inb_S512x2048_S512x512_0_1536, p3⟩ : View.Piece (Elt F) S512x2048 .f32), ⟨Rect.unit ![0, 1024] S512x512.size inb_S512x2048_S512x512_0_1024, p2⟩,
      ⟨Rect.unit ![0, 512] S512x512.size inb_S512x2048_S512x512_0_512, p1⟩, ⟨Rect.unit ![0, 0] S512x512.size inb_S512x2048_S512x512_0_0, p0⟩], y ∈ p.1.set := by
  have h0 : (y 0).val < 512 := (y 0).isLt
  have h1 : (y 1).val < 2048 := (y 1).isLt
  have key : ∀ (j : ℕ) (inb : ∀ a, (![0, j] : Fin 2 → ℕ) a + S512x512.size a ≤ S512x2048.size a), j ≤ (y 1).val → (y 1).val < j + 512 →
      y ∈ (Rect.unit (s := S512x2048) ![0, j] S512x512.size inb).set := by
    intro j inb hj hj'
    rw [Rect.mem_set_unit]
    intro a
    match a with
    | ⟨0, _⟩ => show 0 ≤ (y 0).val ∧ (y 0).val < 0 + 512; omega
    | ⟨1, _⟩ => show j ≤ (y 1).val ∧ (y 1).val < j + 512; omega
  have hc : (y 1).val < 512 ∨ (512 ≤ (y 1).val ∧ (y 1).val < 1024) ∨ (1024 ≤ (y 1).val ∧ (y 1).val < 1536) ∨ 1536 ≤ (y 1).val := by omega
  rcases hc with h | h | h | h
  · exact ⟨_, List.mem_cons_of_mem _ (List.mem_cons_of_mem _ (List.mem_cons_of_mem _ List.mem_cons_self)), key 0 inb_S512x2048_S512x512_0_0 (by omega) (by omega)⟩
  · exact ⟨_, List.mem_cons_of_mem _ (List.mem_cons_of_mem _ List.mem_cons_self), key 512 inb_S512x2048_S512x512_0_512 (by omega) (by omega)⟩
  · exact ⟨_, List.mem_cons_of_mem _ List.mem_cons_self, key 1024 inb_S512x2048_S512x512_0_1024 (by omega) (by omega)⟩
  · exact ⟨_, List.mem_cons_self, key 1536 inb_S512x2048_S512x512_0_1536 (by omega) (by omega)⟩

end Cert.MergeIdeal.Hand

end
-- ==== Proof.MergeIdealRunGate.lean ====
/-
  The merge kernel's body at one kind of step.
-/
module

public import proofs.«01_k».proof.Proof.Gen.MergeIdeal.Launch
public import proofs.«01_k».proof.Proof.Gen.MergeIdeal.Skeleton
public import proofs.«01_k».proof.Proof.Gen.MergeIdeal.Points
public import proofs.«01_k».proof.Proof.Keep
public import Idealize.ShloMosaic.Lib.WordCmp
public import Idealize.ShloMosaic.Lib.Claim

public import proofs.«01_k».proof.Proof.MergeIdealSetup

@[expose] public section

set_option maxRecDepth 16384

noncomputable section

namespace Cert.MergeIdeal.Hand

open Cert.MergeIdeal Cert.MergeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- At each of the first eight steps the kernel stores the gated sum of the branches in the step's slab. -/
theorem run_gate (c : Dev nD) (i : grid0.Coords) (arg2 : Memref sig .tc .vmem S512x2048 .bf16) (harg2 : arg2.IsWhole) (arg3 : Memref sig .tc .vmem S512x1024 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x2048 .f32) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S3x1x256 .f32) (harg10 : arg10.IsWhole) (arg11 : Memref sig .tc .vmem S1024x256 .bf16) (harg11 : arg11.IsWhole) (arg12 : Memref sig .tc .vmem S512x256 .bf16) (harg12 : arg12.IsWhole) (arg13 : Memref sig .tc .vmem S512x256 .bf16) (harg13 : arg13.IsWhole) (arg14 : Memref sig .tc .vmem S2048x512 .bf16) (harg14 : arg14.IsWhole) (arg15 : Memref sig .tc .vmem S1x2048 .f32) (harg15 : arg15.IsWhole) (arg16 : Memref sig .tc .vmem S512x2048 .f32) (harg16 : arg16.IsWhole) (arg17 : Memref sig .tc .vmem S8x512x256 .bf16) (harg17 : arg17.IsWhole) (arg18 : Memref sig .tc .vmem S4x512x512 .f32) (harg18 : arg18.IsWhole)
    (hc1 : k0_cond1 i = 1#1) (hc2 : ¬k0_cond2 i = 1#1) (hc3 : ¬k0_cond3 i = 1#1)
    (x0 : Vec F S512x2048 .bf16) (x1 : Vec F S512x1024 .bf16) (x2 : Vec F S512x512 .bf16) (x3 : Vec F S512x512 .bf16) (x5 : Vec F S2048x256 .bf16) (x6 : Vec F S2048x256 .bf16) (x7 : Vec F S2048x256 .bf16) (x8 : Vec F S3x1x256 .f32) (x9 : Vec F S1024x256 .bf16) (x10 : Vec F S512x256 .bf16) (x11 : Vec F S512x256 .bf16) (a : Vec F S8x512x256 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg17 fullShare a
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg17 fullShare (VecWindow.put a (k0_off1 i) S1x512x256.size (mpay x0 x1 x2 x3 x5 x6 x7 x8 x9 x10 x11))) -∗ K ⟨⟩))
      ⊢ wp frame (wpE (defs₀ (F := F)) Variants.none c none) E (cc0_merge i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_merge_eq_skeleton]
  unfold cc0_merge_skel
  unfold owns
  iintro ⟨⟨%f0, %hf0, H0⟩, ⟨%f1, %hf1, H1⟩, ⟨%f2, %hf2, H2⟩, ⟨%f3, %hf3, H3⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f15, %hf15, H15⟩, Hk⟩
  obtain rfl := harg2.eq_unread hf0
  obtain rfl := harg3.eq_unread hf1
  obtain rfl := harg4.eq_unread hf2
  obtain rfl := harg5.eq_unread hf3
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  obtain rfl := harg13.eq_unread hf11
  obtain rfl := harg17.eq_unread hf15
  sl_exec (disch := first | sl_exact hc1 | sl_exact hc2 | sl_exact hc3)
  sl_step
  iapply Hk
  isplitl [H0]
  · iexists _
    isplitr
    swap
    · iexact H0
    ipureintro
    exact harg2.read_unread _
  isplitl [H1]
  · iexists _
    isplitr
    swap
    · iexact H1
    ipureintro
    exact harg3.read_unread _
  isplitl [H2]
  · iexists _
    isplitr
    swap
    · iexact H2
    ipureintro
    exact harg4.read_unread _
  isplitl [H3]
  · iexists _
    isplitr
    swap
    · iexact H3
    ipureintro
    exact harg5.read_unread _
  isplitl [H5]
  · iexists _
    isplitr
    swap
    · iexact H5
    ipureintro
    exact harg7.read_unread _
  isplitl [H6]
  · iexists _
    isplitr
    swap
    · iexact H6
    ipureintro
    exact harg8.read_unread _
  isplitl [H7]
  · iexists _
    isplitr
    swap
    · iexact H7
    ipureintro
    exact harg9.read_unread _
  isplitl [H8]
  · iexists _
    isplitr
    swap
    · iexact H8
    ipureintro
    exact harg10.read_unread _
  isplitl [H9]
  · iexists _
    isplitr
    swap
    · iexact H9
    ipureintro
    exact harg11.read_unread _
  isplitl [H10]
  · iexists _
    isplitr
    swap
    · iexact H10
    ipureintro
    exact harg12.read_unread _
  isplitl [H11]
  · iexists _
    isplitr
    swap
    · iexact H11
    ipureintro
    exact harg13.read_unread _
  iexists _
  isplitr
  swap
  · iexact H15
  ipureintro
  rw [put_read, View.writes_nil, harg17.read_unread]
  refine congrArg (fun w => VecWindow.put a (k0_off1 i) S1x512x256.size w) ?_
  sl_unfold_words
  unfold mpay
  simp only [View.readAt_eq_ld, harg2.read_unread, harg3.read_unread, harg4.read_unread, harg5.read_unread, harg7.read_unread, harg8.read_unread, harg9.read_unread, harg10.read_unread, harg11.read_unread, harg12.read_unread, harg13.read_unread, harg17.read_unread,
    View.ld_unit_zero (S := S512x2048) off0, View.ld_unit_zero (S := S2048x256) off0, View.ld_unit_zero (S := S512x1024) off0, View.ld_unit_zero (S := S1024x256) off0, View.ld_unit_zero (S := S512x512) off0, View.ld_unit_zero (S := S512x256) off0]

end Cert.MergeIdeal.Hand

end
-- ==== Proof.MergeIdealRunProj.lean ====
/-
  The merge kernel's body at one kind of step.
-/
module

public import proofs.«01_k».proof.Proof.Gen.MergeIdeal.Launch
public import proofs.«01_k».proof.Proof.Gen.MergeIdeal.Skeleton
public import proofs.«01_k».proof.Proof.Gen.MergeIdeal.Points
public import proofs.«01_k».proof.Proof.Keep
public import Idealize.ShloMosaic.Lib.WordCmp
public import Idealize.ShloMosaic.Lib.Claim

public import proofs.«01_k».proof.Proof.MergeIdealSetup

@[expose] public section

set_option maxRecDepth 16384

noncomputable section

namespace Cert.MergeIdeal.Hand

open Cert.MergeIdeal Cert.MergeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- At each of the last four steps but the last it stores a block of columns of the projection of the merged rows. -/
theorem run_proj (c : Dev nD) (i : grid0.Coords) (arg2 : Memref sig .tc .vmem S512x2048 .bf16) (harg2 : arg2.IsWhole) (arg3 : Memref sig .tc .vmem S512x1024 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x2048 .f32) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S3x1x256 .f32) (harg10 : arg10.IsWhole) (arg11 : Memref sig .tc .vmem S1024x256 .bf16) (harg11 : arg11.IsWhole) (arg12 : Memref sig .tc .vmem S512x256 .bf16) (harg12 : arg12.IsWhole) (arg13 : Memref sig .tc .vmem S512x256 .bf16) (harg13 : arg13.IsWhole) (arg14 : Memref sig .tc .vmem S2048x512 .bf16) (harg14 : arg14.IsWhole) (arg15 : Memref sig .tc .vmem S1x2048 .f32) (harg15 : arg15.IsWhole) (arg16 : Memref sig .tc .vmem S512x2048 .f32) (harg16 : arg16.IsWhole) (arg17 : Memref sig .tc .vmem S8x512x256 .bf16) (harg17 : arg17.IsWhole) (arg18 : Memref sig .tc .vmem S4x512x512 .f32) (harg18 : arg18.IsWhole)
    (hc1 : ¬k0_cond1 i = 1#1) (hc2 : k0_cond2 i = 1#1) (hc3 : ¬k0_cond3 i = 1#1)
    (x12 : Vec F S2048x512 .bf16) (a : Vec F S8x512x256 .bf16) (b : Vec F S4x512x512 .f32) (E : Set ℕ) (K : PUnit → sProp 𝕄) :
    iprop(owns (c : Thread nD τ) arg14 fullShare x12 ∗ owns (c : Thread nD τ) arg17 fullShare a ∗ owns (c : Thread nD τ) arg18 fullShare b
        ∗ (iprop(owns (c : Thread nD τ) arg14 fullShare x12 ∗ owns (c : Thread nD τ) arg17 fullShare a ∗ owns (c : Thread nD τ) arg18 fullShare ((VecWindow.put b (k0_off2 i) S1x512x512.size (zpay (sl8 a 0 (by decide)) (sl8 a 1 (by decide)) (sl8 a 2 (by decide)) (sl8 a 3 (by decide)) (sl8 a 4 (by decide)) (sl8 a 5 (by decide)) (sl8 a 6 (by decide)) (sl8 a 7 (by decide)) x12)))) -∗ K ⟨⟩))
      ⊢ wp frame (wpE (defs₀ (F := F)) Variants.none c none) E (cc0_merge i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_merge_eq_skeleton]
  unfold cc0_merge_skel
  unfold owns
  iintro ⟨⟨%f12, %hf12, H12⟩, ⟨%f15, %hf15, H15⟩, ⟨%f16, %hf16, H16⟩, Hk⟩
  obtain rfl := harg14.eq_unread hf12
  obtain rfl := harg17.eq_unread hf15
  obtain rfl := harg18.eq_unread hf16
  sl_exec (disch := first | sl_exact hc1 | sl_exact hc2 | sl_exact hc3)
  sl_step
  iapply Hk
  isplitl [H12]
  · iexists _
    isplitr
    swap
    · iexact H12
    ipureintro
    exact harg14.read_unread _
  isplitl [H15]
  · iexists _
    isplitr
    swap
    · iexact H15
    ipureintro
    exact harg17.read_unread _
  iexists _
  isplitr
  swap
  · iexact H16
  ipureintro
  rw [put_read, View.writes_nil, harg18.read_unread]
  refine congrArg (fun w => VecWindow.put b (k0_off2 i) S1x512x512.size w) ?_
  sl_unfold_words
  unfold zpay
  simp only [View.readAt_eq_ld, harg14.read_unread, harg17.read_unread, harg18.read_unread,
    View.ld_unit_zero (S := S512x2048) off0, View.ld_unit_zero (S := S2048x256) off0, View.ld_unit_zero (S := S512x1024) off0, View.ld_unit_zero (S := S1024x256) off0, View.ld_unit_zero (S := S512x512) off0, View.ld_unit_zero (S := S512x256) off0]

end Cert.MergeIdeal.Hand

end
-- ==== Proof.MergeIdealRunLast.lean ====
/-
  The merge kernel's body at one kind of step.
-/
module

public import proofs.«01_k».proof.Proof.Gen.MergeIdeal.Launch
public import proofs.«01_k».proof.Proof.Gen.MergeIdeal.Skeleton
public import proofs.«01_k».proof.Proof.Gen.MergeIdeal.Points
public import proofs.«01_k».proof.Proof.Keep
public import Idealize.ShloMosaic.Lib.WordCmp
public import Idealize.ShloMosaic.Lib.Claim

public import proofs.«01_k».proof.Proof.MergeIdealSetup

@[expose] public section

set_option maxRecDepth 16384

noncomputable section

namespace Cert.MergeIdeal.Hand

open Cert.MergeIdeal Cert.MergeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- At the last step it stores the last block of columns and then the result. -/
theorem run_last (c : Dev nD) (i : grid0.Coords) (arg2 : Memref sig .tc .vmem S512x2048 .bf16) (harg2 : arg2.IsWhole) (arg3 : Memref sig .tc .vmem S512x1024 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x2048 .f32) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S3x1x256 .f32) (harg10 : arg10.IsWhole) (arg11 : Memref sig .tc .vmem S1024x256 .bf16) (harg11 : arg11.IsWhole) (arg12 : Memref sig .tc .vmem S512x256 .bf16) (harg12 : arg12.IsWhole) (arg13 : Memref sig .tc .vmem S512x256 .bf16) (harg13 : arg13.IsWhole) (arg14 : Memref sig .tc .vmem S2048x512 .bf16) (harg14 : arg14.IsWhole) (arg15 : Memref sig .tc .vmem S1x2048 .f32) (harg15 : arg15.IsWhole) (arg16 : Memref sig .tc .vmem S512x2048 .f32) (harg16 : arg16.IsWhole) (arg17 : Memref sig .tc .vmem S8x512x256 .bf16) (harg17 : arg17.IsWhole) (arg18 : Memref sig .tc .vmem S4x512x512 .f32) (harg18 : arg18.IsWhole)
    (hc1 : ¬k0_cond1 i = 1#1) (hc2 : k0_cond2 i = 1#1) (hc3 : k0_cond3 i = 1#1) (ho : k0_off2 i = ![3, 0, 0])
    (x4 : Vec F S512x2048 .f32) (x12 : Vec F S2048x512 .bf16) (x13 : Vec F S1x2048 .f32) (a : Vec F S8x512x256 .bf16) (b : Vec F S4x512x512 .f32) (E : Set ℕ) (K : PUnit → sProp 𝕄) :
    iprop(owns (c : Thread nD τ) arg6 fullShare x4 ∗ owns (c : Thread nD τ) arg14 fullShare x12 ∗ owns (c : Thread nD τ) arg15 fullShare x13 ∗ (∃ d, owns (c : Thread nD τ) arg16 fullShare d) ∗ owns (c : Thread nD τ) arg17 fullShare a ∗ owns (c : Thread nD τ) arg18 fullShare b
        ∗ (iprop(owns (c : Thread nD τ) arg6 fullShare x4 ∗ owns (c : Thread nD τ) arg14 fullShare x12 ∗ owns (c : Thread nD τ) arg15 fullShare x13 ∗ owns (c : Thread nD τ) arg16 fullShare (opay (sl4 b 0 (by decide)) (sl4 b 1 (by decide)) (sl4 b 2 (by decide)) (zpay (sl8 a 0 (by decide)) (sl8 a 1 (by decide)) (sl8 a 2 (by decide)) (sl8 a 3 (by decide)) (sl8 a 4 (by decide)) (sl8 a 5 (by decide)) (sl8 a 6 (by decide)) (sl8 a 7 (by decide)) x12) x4 x13) ∗ owns (c : Thread nD τ) arg17 fullShare a ∗ (∃ d, owns (c : Thread nD τ) arg18 fullShare d)) -∗ K ⟨⟩))
      ⊢ wp frame (wpE (defs₀ (F := F)) Variants.none c none) E (cc0_merge i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_merge_eq_skeleton]
  unfold cc0_merge_skel
  unfold owns
  iintro ⟨⟨%f4, %hf4, H4⟩, ⟨%f12, %hf12, H12⟩, ⟨%f13, %hf13, H13⟩, ⟨%d14, %f14, -, H14⟩, ⟨%f15, %hf15, H15⟩, ⟨%f16, %hf16, H16⟩, Hk⟩
  obtain rfl := harg6.eq_unread hf4
  obtain rfl := harg14.eq_unread hf12
  obtain rfl := harg15.eq_unread hf13
  obtain rfl := harg17.eq_unread hf15
  obtain rfl := harg18.eq_unread hf16
  haveI : Fact (k0_off2 i = ![3, 0, 0]) := ⟨ho⟩
  sl_exec (disch := first | sl_exact hc1 | sl_exact hc2 | sl_exact hc3)
  sl_step
  iapply Hk
  isplitl [H4]
  · iexists _
    isplitr
    swap
    · iexact H4
    ipureintro
    exact harg6.read_unread _
  isplitl [H12]
  · iexists _
    isplitr
    swap
    · iexact H12
    ipureintro
    exact harg14.read_unread _
  isplitl [H13]
  · iexists _
    isplitr
    swap
    · iexact H13
    ipureintro
    exact harg15.read_unread _
  isplitl [H14]
  · iexists _
    isplitr
    swap
    · iexact H14
    ipureintro
    sl_unfold_words
    rw [Cert.Keep.read_cover _ _ _ (cols_cover _ _ _ _)]
    simp only [View.readAt_eq_ld, harg6.read_unread, harg14.read_unread, harg15.read_unread, harg17.read_unread, harg18.read_unread,
      View.ld_unit_zero (S := S512x2048) off0, View.ld_unit_zero (S := S2048x256) off0, View.ld_unit_zero (S := S512x1024) off0, View.ld_unit_zero (S := S1024x256) off0, View.ld_unit_zero (S := S512x512) off0, View.ld_unit_zero (S := S512x256) off0]
    exact congrArg (fun z => opay (sl4 b 0 (by decide)) (sl4 b 1 (by decide)) (sl4 b 2 (by decide)) z x4 x13)
      (readCov_same (s := S4x512x512) (size := S1x512x512.size) arg18.view ho (k0_off2_inb i hc2) inb_S4x512x512_S1x512x512_3_0_0 (zpay (sl8 a 0 (by decide)) (sl8 a 1 (by decide)) (sl8 a 2 (by decide)) (sl8 a 3 (by decide)) (sl8 a 4 (by decide)) (sl8 a 5 (by decide)) (sl8 a 6 (by decide)) (sl8 a 7 (by decide)) x12))
  isplitl [H15]
  · iexists _
    isplitr
    swap
    · iexact H15
    ipureintro
    exact harg17.read_unread _
  iexists _, _
  isplitr
  swap
  · iexact H16
  ipureintro
  rfl

end Cert.MergeIdeal.Hand

end
-- ==== Proof.MergeIdealPoints.lean ====
/-
  What the merge kernel's scratches hold between the steps of a block of rows.
-/
module

public import proofs.«01_k».proof.Proof.Gen.MergeIdeal.Launch
public import proofs.«01_k».proof.Proof.Gen.MergeIdeal.Skeleton
public import proofs.«01_k».proof.Proof.Gen.MergeIdeal.Points
public import proofs.«01_k».proof.Proof.Keep
public import Idealize.ShloMosaic.Lib.WordCmp
public import Idealize.ShloMosaic.Lib.Claim

public import proofs.«01_k».proof.Proof.MergeIdealSetup

@[expose] public section

set_option maxRecDepth 16384

noncomputable section

namespace Cert.MergeIdeal.Hand

open Cert.MergeIdeal Cert.MergeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A point given by its number (taken within the grid). -/
def at' (n : ℕ) : Fin cfg0.N := ⟨n % 192, Nat.mod_lt _ (by decide)⟩
/-- Step `j` of the block of rows that point `n` belongs to. -/
def pt (n j : ℕ) : Fin cfg0.N := at' (12 * (n / 12) + j)

theorem lt_N (t : Fin cfg0.N) : t.val < 192 := t.isLt
theorem pt_self (t : Fin cfg0.N) (j : ℕ) (h : t.val % 12 = j) : pt t.val j = t :=
  Fin.ext (by show (12 * (t.val / 12) + j) % 192 = t.val; have := lt_N t; omega)
theorem pt_succ (n j : ℕ) (h : n % 12 < 11) : pt (n + 1) j = pt n j := by
  unfold pt
  rw [show (n + 1) / 12 = n / 12 from by omega]
theorem pt_pt (n i j : ℕ) (hn : n < 192) (hi : i < 12) : pt (pt n i).val j = pt n j := by
  show at' (12 * (((12 * (n / 12) + i) % 192) / 12) + j) = at' (12 * (n / 12) + j)
  rw [show ((12 * (n / 12) + i) % 192) / 12 = n / 12 from by omega]

/-- The merged columns a step stores. -/
def mrg (c : Dev nD) (t : Fin cfg0.N) : Vec F S1x512x256 .bf16 :=
  mpay (iblk m c 0 t) (iblk m c 1 t) (iblk m c 2 t) (iblk m c 3 t) (iblk m c 5 t) (iblk m c 6 t) (iblk m c 7 t) (iblk m c 8 t) (iblk m c 9 t) (iblk m c 10 t) (iblk m c 11 t)
/-- The projected columns a step stores. -/
def zz (c : Dev nD) (t : Fin cfg0.N) : Vec F S1x512x512 .f32 :=
  zpay (mrg m c (pt t.val 0)) (mrg m c (pt t.val 1)) (mrg m c (pt t.val 2)) (mrg m c (pt t.val 3)) (mrg m c (pt t.val 4)) (mrg m c (pt t.val 5)) (mrg m c (pt t.val 6)) (mrg m c (pt t.val 7)) (iblk m c 12 t)
/-- The result's block. -/
def outv (c : Dev nD) (t : Fin cfg0.N) : Vec F S512x2048 .f32 :=
  opay (zz m c (pt t.val 8)) (zz m c (pt t.val 9)) (zz m c (pt t.val 10)) (zz m c (pt t.val 11)) (iblk m c 4 t) (iblk m c 13 t)

/-- Before point `n` the scratches hold what the earlier steps of the block stored. -/
def Held (c : Dev nD) (n : ℕ) (a : Vec F S8x512x256 .bf16) (b : Vec F S4x512x512 .f32) : Prop :=
  (∀ (j : ℕ) (h : j < 8), j < n % 12 → sl8 a j h = mrg m c (pt n j))
    ∧ ∀ (j : ℕ) (h : j < 4), 8 + j < n % 12 → sl4 b j h = zz m c (pt n (8 + j))

theorem held_zero (c : Dev nD) (n : ℕ) (hn : n % 12 = 0) (a : Vec F S8x512x256 .bf16) (b : Vec F S4x512x512 .f32) : Held m c n a b :=
  ⟨fun j h hj => by omega, fun j h hj => by omega⟩

theorem sl8_same (a : Vec F S8x512x256 .bf16) (off : Fin 3 → ℕ) (p : Vec F S1x512x256 .bf16) (j : ℕ) (h : j < 8) (ho : off = ![j, 0, 0]) :
    sl8 (VecWindow.put a off S1x512x256.size p) j h = p := by
  subst ho
  exact VecWindow.window_put_same a ![j, 0, 0] S1x512x256.size (sl8_inb j h) p
theorem sl8_other (a : Vec F S8x512x256 .bf16) (off : Fin 3 → ℕ) (p : Vec F S1x512x256 .bf16) (k j : ℕ) (h : j < 8) (ho : off = ![k, 0, 0]) (hk : j ≠ k) :
    sl8 (VecWindow.put a off S1x512x256.size p) j h = sl8 a j h := by
  subst ho
  exact VecWindow.window_put_of_disjoint a ![k, 0, 0] S1x512x256.size ![j, 0, 0] S1x512x256.size (sl8_inb j h) p 0
    (by show j + 1 ≤ k ∨ k + 1 ≤ j; omega)
theorem sl4_same (b : Vec F S4x512x512 .f32) (off : Fin 3 → ℕ) (p : Vec F S1x512x512 .f32) (j : ℕ) (h : j < 4) (ho : off = ![j, 0, 0]) :
    sl4 (VecWindow.put b off S1x512x512.size p) j h = p := by
  subst ho
  exact VecWindow.window_put_same b ![j, 0, 0] S1x512x512.size (sl4_inb j h) p
theorem sl4_other (b : Vec F S4x512x512 .f32) (off : Fin 3 → ℕ) (p : Vec F S1x512x512 .f32) (k j : ℕ) (h : j < 4) (ho : off = ![k, 0, 0]) (hk : j ≠ k) :
    sl4 (VecWindow.put b off S1x512x512.size p) j h = sl4 b j h := by
  subst ho
  exact VecWindow.window_put_of_disjoint b ![k, 0, 0] S1x512x512.size ![j, 0, 0] S1x512x512.size (sl4_inb j h) p 0
    (by show j + 1 ≤ k ∨ k + 1 ≤ j; omega)

theorem cond1 : ∀ t : Fin cfg0.N, k0_cond1 (grid0.coords t) = 1#1 ↔ t.val % 12 < 8 :=
  (by decide +kernel : ∀ t : Fin grid0.N, k0_cond1 (grid0.coords t) = 1#1 ↔ t.val % 12 < 8)
theorem cond2 : ∀ t : Fin cfg0.N, k0_cond2 (grid0.coords t) = 1#1 ↔ 8 ≤ t.val % 12 :=
  (by decide +kernel : ∀ t : Fin grid0.N, k0_cond2 (grid0.coords t) = 1#1 ↔ 8 ≤ t.val % 12)
theorem cond3 : ∀ t : Fin cfg0.N, k0_cond3 (grid0.coords t) = 1#1 ↔ t.val % 12 = 11 :=
  (by decide +kernel : ∀ t : Fin grid0.N, k0_cond3 (grid0.coords t) = 1#1 ↔ t.val % 12 = 11)
theorem off1_eq : ∀ t : Fin cfg0.N, k0_off1 (grid0.coords t) = ![t.val % 12, 0, 0] :=
  (by decide +kernel : ∀ t : Fin grid0.N, k0_off1 (grid0.coords t) = ![t.val % 12, 0, 0])
theorem off2_eq : ∀ t : Fin cfg0.N, 8 ≤ t.val % 12 → k0_off2 (grid0.coords t) = ![t.val % 12 - 8, 0, 0] :=
  (by decide +kernel : ∀ t : Fin grid0.N, 8 ≤ t.val % 12 → k0_off2 (grid0.coords t) = ![t.val % 12 - 8, 0, 0])
theorem idle_14 : ∀ t : Fin cfg0.N, cfg0.idle 14 (grid0.coords t) = !decide (t.val % 12 = 11) :=
  (by decide +kernel : ∀ t : Fin cfg0.N, cfg0.idle 14 (grid0.coords t) = !decide (t.val % 12 = 11))
theorem fresh_14 : ∀ t : Fin cfg0.N, cfg0.fresh 14 t.val = true :=
  (by decide +kernel : ∀ t : Fin cfg0.N, cfg0.fresh 14 t.val = true)
theorem back_14 : ∀ t : Fin cfg0.N, cfg0.idle 14 (grid0.coords t) = true → (cfg0.win 14).flush t = true → cfg0.fresh 14 t.val = false :=
  (by decide +kernel : ∀ t : Fin cfg0.N, cfg0.idle 14 (grid0.coords t) = true → (cfg0.win 14).flush t = true → cfg0.fresh 14 t.val = false)

/-- A step of the first eight adds its slab. -/
theorem held_gate (c : Dev nD) (t : Fin cfg0.N) (hs : t.val % 12 < 8) (a : Vec F S8x512x256 .bf16) (b : Vec F S4x512x512 .f32) (h : Held m c t.val a b) :
    Held m c (t.val + 1) (VecWindow.put a (k0_off1 (grid0.coords t)) S1x512x256.size (mrg m c t)) b := by
  refine ⟨fun j hj hlt => ?_, fun j hj hlt => by omega⟩
  rw [pt_succ _ _ (by omega)]
  by_cases e : t.val % 12 = j
  · rw [sl8_same _ _ _ j hj (by rw [off1_eq, e]), pt_self t j e]
  · rw [sl8_other _ _ _ (t.val % 12) j hj (off1_eq t) (fun h' => e h'.symm)]
    exact h.1 j hj (by omega)

/-- After the first eight steps the eight slabs are the merged rows. -/
theorem held_zpay (c : Dev nD) (t : Fin cfg0.N) (hs : 8 ≤ t.val % 12) (a : Vec F S8x512x256 .bf16) (b : Vec F S4x512x512 .f32) (h : Held m c t.val a b) :
    zpay (sl8 a 0 (by decide)) (sl8 a 1 (by decide)) (sl8 a 2 (by decide)) (sl8 a 3 (by decide)) (sl8 a 4 (by decide)) (sl8 a 5 (by decide)) (sl8 a 6 (by decide)) (sl8 a 7 (by decide)) (iblk m c 12 t) = zz m c t := by
  unfold zz
  rw [h.1 0 (by decide) (by omega), h.1 1 (by decide) (by omega), h.1 2 (by decide) (by omega), h.1 3 (by decide) (by omega), h.1 4 (by decide) (by omega), h.1 5 (by decide) (by omega), h.1 6 (by decide) (by omega), h.1 7 (by decide) (by omega)]

/-- A step of the next three adds its block of columns. -/
theorem held_proj (c : Dev nD) (t : Fin cfg0.N) (hs : 8 ≤ t.val % 12) (hs' : t.val % 12 < 11) (a : Vec F S8x512x256 .bf16) (b : Vec F S4x512x512 .f32)
    (h : Held m c t.val a b) :
    Held m c (t.val + 1) a (VecWindow.put b (k0_off2 (grid0.coords t)) S1x512x512.size (zz m c t)) := by
  refine ⟨fun j hj hlt => ?_, fun j hj hlt => ?_⟩
  · rw [pt_succ _ _ (by omega)]
    exact h.1 j hj (by omega)
  · rw [pt_succ _ _ (by omega)]
    by_cases e : t.val % 12 = 8 + j
    · rw [sl4_same _ _ _ j hj (by rw [off2_eq t hs, show t.val % 12 - 8 = j from by omega]), pt_self t (8 + j) e]
    · rw [sl4_other _ _ _ (t.val % 12 - 8) j hj (off2_eq t hs) (by omega)]
      exact h.2 j hj (by omega)

/-- At the last step the four blocks of columns make the result. -/
theorem held_last (c : Dev nD) (t : Fin cfg0.N) (hs : t.val % 12 = 11) (a : Vec F S8x512x256 .bf16) (b : Vec F S4x512x512 .f32) (h : Held m c t.val a b) :
    opay (sl4 b 0 (by decide)) (sl4 b 1 (by decide)) (sl4 b 2 (by decide)) (zz m c t) (iblk m c 4 t) (iblk m c 13 t)
      = outv m c t := by
  unfold outv
  rw [h.2 0 (by decide) (by omega), h.2 1 (by decide) (by omega), h.2 2 (by decide) (by omega), pt_self t (8 + 3) hs]

/-- What the scratches hold between points. -/
def PhiS (c : Dev nD) (n : ℕ) : sProp 𝕄 :=
  iprop(∃ a b, ⌜Held m c n a b⌝ ∗ owns (c : Thread nD τ) scM_0 fullShare a ∗ owns (c : Thread nD τ) scM_1 fullShare b ∗ (∃ r, prngReg c r))

theorem PhiA_eq (c : Dev nD) :
    (Pipeline.ΦA spec0 c : sProp 𝕄) = iprop(((∃ d, owns (c : Thread nD τ) scM_0 fullShare d) ∗ (∃ d, owns (c : Thread nD τ) scM_1 fullShare d)) ∗ (∃ r, prngReg c r)) := by
  unfold Pipeline.ΦA
  rw [scopedRest0_eq]
  simp only [scM_0, scM_1, owns_whole]
  try rfl

/-- The pipeline's data: the arrays as the region finds them, and what each window's buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => outv m c t
  Φ t := PhiS m c t.val
  q w := Pipeline.shareOf spec0 w
  owed _ := 0

theorem A_eq (c : Dev nD) (w : Fin cfg0.W) : (dats m 0 c).A w = V m c (Pipeline.arrRef spec0 w) := by
  dsimp only [dats]
theorem after_14 (c : Dev nD) (t : Fin cfg0.N) : (dats m 0 c).after 14 t = outv m c t := by dsimp only [dats]

end Cert.MergeIdeal.Hand

end
-- ==== Proof.MergeIdealFrame.lean ====
/-
  The merge kernel runs: from any memory it ends, leaves its arguments as they were, and its result holds, block of rows by block
  of rows, what the kernel stored at the last of the twelve steps of the block.
-/
module

public import proofs.«01_k».proof.Proof.Gen.MergeIdeal.Launch
public import proofs.«01_k».proof.Proof.Gen.MergeIdeal.Skeleton
public import proofs.«01_k».proof.Proof.Gen.MergeIdeal.Points
public import proofs.«01_k».proof.Proof.Keep
public import Idealize.ShloMosaic.Lib.WordCmp
public import Idealize.ShloMosaic.Lib.Claim

public import proofs.«01_k».proof.Proof.MergeIdealRunGate
public import proofs.«01_k».proof.Proof.MergeIdealRunProj
public import proofs.«01_k».proof.Proof.MergeIdealRunLast
public import proofs.«01_k».proof.Proof.MergeIdealPoints

@[expose] public section

set_option maxRecDepth 16384

noncomputable section

namespace Cert.MergeIdeal.Hand

open Cert.MergeIdeal Cert.MergeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before_6_of m (dats m 0 c) (A_eq m c 6) (after_6 m c) t d
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  before_7_of m (dats m 0 c) (A_eq m c 7) (after_7 m c) t d
theorem after_8 (c : Dev nD) (t : Fin cfg0.N) : (dats m 0 c).after 8 t = iblk m c 8 t := by dsimp only [dats]
theorem before_8 (c : Dev nD) (t : Fin cfg0.N) (d) : (dats m 0 c).before 8 t d = iblk m c 8 t :=
  before_8_of m (dats m 0 c) (A_eq m c 8) (after_8 m c) t d
theorem after_9 (c : Dev nD) (t : Fin cfg0.N) : (dats m 0 c).after 9 t = iblk m c 9 t := by dsimp only [dats]
theorem before_9 (c : Dev nD) (t : Fin cfg0.N) (d) : (dats m 0 c).before 9 t d = iblk m c 9 t :=
  before_9_of m (dats m 0 c) (A_eq m c 9) (after_9 m c) t d
theorem after_10 (c : Dev nD) (t : Fin cfg0.N) : (dats m 0 c).after 10 t = iblk m c 10 t := by dsimp only [dats]
theorem before_10 (c : Dev nD) (t : Fin cfg0.N) (d) : (dats m 0 c).before 10 t d = iblk m c 10 t :=
  before_10_of m (dats m 0 c) (A_eq m c 10) (after_10 m c) t d
theorem after_11 (c : Dev nD) (t : Fin cfg0.N) : (dats m 0 c).after 11 t = iblk m c 11 t := by dsimp only [dats]
theorem before_11 (c : Dev nD) (t : Fin cfg0.N) (d) : (dats m 0 c).before 11 t d = iblk m c 11 t :=
  before_11_of m (dats m 0 c) (A_eq m c 11) (after_11 m c) t d
theorem after_12 (c : Dev nD) (t : Fin cfg0.N) : (dats m 0 c).after 12 t = iblk m c 12 t := by dsimp only [dats]
theorem before_12 (c : Dev nD) (t : Fin cfg0.N) (d) : (dats m 0 c).before 12 t d = iblk m c 12 t :=
  before_12_of m (dats m 0 c) (A_eq m c 12) (after_12 m c) t d
theorem after_13 (c : Dev nD) (t : Fin cfg0.N) : (dats m 0 c).after 13 t = iblk m c 13 t := by dsimp only [dats]
theorem before_13 (c : Dev nD) (t : Fin cfg0.N) (d) : (dats m 0 c).before 13 t d = iblk m c 13 t :=
  before_13_of m (dats m 0 c) (A_eq m c 13) (after_13 m c) t d

theorem kept_14 (c : Dev nD) (t : Fin cfg0.N) (h : t.val % 12 ≠ 11) :
    iprop(∃ d, owns (c : Thread nD τ) (ms_14 t) fullShare ((dats m 0 c).before 14 t d)) ⊢ ((dats m 0 c).leavesExact 14 t : sProp 𝕄) :=
  Cert.Keep.kept (dats m 0 c) 14 rfl (fun _ _ => rfl)
    (fun t _ _ hf => by
      rw [fresh_14] at hf
      exact absurd hf (by decide))
    back_14 t (by rw [idle_14, decide_eq_false h]; rfl)

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d))
    ∗ (∃ d, owns (c : Thread nD τ) (ms_11 t) fullShare ((dats m 0 c).before 11 t d))
    ∗ (∃ d, owns (c : Thread nD τ) (ms_12 t) fullShare ((dats m 0 c).before 12 t d))
    ∗ (∃ d, owns (c : Thread nD τ) (ms_13 t) fullShare ((dats m 0 c).before 13 t d))
    ∗ (∃ d, owns (c : Thread nD τ) (ms_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t ∗ (dats m 0 c).leavesExact 14 t)

set_option maxHeartbeats 4000000 in
/-- The body at a point, case by case of the step. -/
theorem sound_gate (c : Dev nD) (t : Fin cfg0.N) (h : t.val % 12 < 8) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13]
  rw [show (dats m 0 c).owesAt () t.succ = (dats m 0 c).owesAt () t.castSucc from rfl,
    show (dats m 0 c).Φ t.succ = PhiS m c (t.val + 1) from rfl, show (dats m 0 c).Φ t.castSucc = PhiS m c t.val from rfl,
    Cert.Keep.stored (dats m 0 c) 0 t rfl, Cert.Keep.stored (dats m 0 c) 1 t rfl, Cert.Keep.stored (dats m 0 c) 2 t rfl, Cert.Keep.stored (dats m 0 c) 3 t rfl, Cert.Keep.stored (dats m 0 c) 4 t rfl, Cert.Keep.stored (dats m 0 c) 5 t rfl, Cert.Keep.stored (dats m 0 c) 6 t rfl, Cert.Keep.stored (dats m 0 c) 7 t rfl, Cert.Keep.stored (dats m 0 c) 8 t rfl, Cert.Keep.stored (dats m 0 c) 9 t rfl, Cert.Keep.stored (dats m 0 c) 10 t rfl, Cert.Keep.stored (dats m 0 c) 11 t rfl, Cert.Keep.stored (dats m 0 c) 12 t rfl, Cert.Keep.stored (dats m 0 c) 13 t rfl, after_0, after_1, after_2, after_3, after_4, after_5, after_6, after_7, after_8, after_9, after_10, after_11, after_12, after_13]
  unfold PhiS
  iintro ⟨⟨%a, %b, %hh, HA, HB, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, H14⟩
  iapply (run_gate c (grid0.coords t) _ _ _ _ _ _ _ _ _ _ _ _ _ _ _ _ _ _ _ _ _ _ _ _ _ _ _ _ _ _ _ _ _ _ ((cond1 t).mpr (by omega)) (fun hx => by have := (cond2 t).mp hx; omega) (fun hx => by have := (cond3 t).mp hx; omega)
    (iblk m c 0 t) (iblk m c 1 t) (iblk m c 2 t) (iblk m c 3 t) (iblk m c 5 t) (iblk m c 6 t) (iblk m c 7 t) (iblk m c 8 t) (iblk m c 9 t) (iblk m c 10 t) (iblk m c 11 t) a Set.univ _)
  isplitl [H0]; · iexact H0
  isplitl [H1]; · iexact H1
  isplitl [H2]; · iexact H2
  isplitl [H3]; · iexact H3
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HA]; · iexact HA
  iintro ⟨H0, H1, H2, H3, H5, H6, H7, H8, H9, H10, H11, HA⟩
  have hh' := held_gate m c t h a b hh
  unfold mrg at hh'
  isplitl [HA HB Hg]
  · iexists _, _
    isplitr
    swap
    · isplitl [HA]; · iexact HA
      isplitl [HB]; · iexact HB
      iexact Hg
    ipureintro
    exact hh'
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iapply (kept_14 m c t (by omega)); iexact H14

set_option maxHeartbeats 4000000 in
/-- The body at a point, case by case of the step. -/
theorem sound_proj (c : Dev nD) (t : Fin cfg0.N) (h : 8 ≤ t.val % 12) (h' : t.val % 12 < 11) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13]
  rw [show (dats m 0 c).owesAt () t.succ = (dats m 0 c).owesAt () t.castSucc from rfl,
    show (dats m 0 c).Φ t.succ = PhiS m c (t.val + 1) from rfl, show (dats m 0 c).Φ t.castSucc = PhiS m c t.val from rfl,
    Cert.Keep.stored (dats m 0 c) 0 t rfl, Cert.Keep.stored (dats m 0 c) 1 t rfl, Cert.Keep.stored (dats m 0 c) 2 t rfl, Cert.Keep.stored (dats m 0 c) 3 t rfl, Cert.Keep.stored (dats m 0 c) 4 t rfl, Cert.Keep.stored (dats m 0 c) 5 t rfl, Cert.Keep.stored (dats m 0 c) 6 t rfl, Cert.Keep.stored (dats m 0 c) 7 t rfl, Cert.Keep.stored (dats m 0 c) 8 t rfl, Cert.Keep.stored (dats m 0 c) 9 t rfl, Cert.Keep.stored (dats m 0 c) 10 t rfl, Cert.Keep.stored (dats m 0 c) 11 t rfl, Cert.Keep.stored (dats m 0 c) 12 t rfl, Cert.Keep.stored (dats m 0 c) 13 t rfl, after_0, after_1, after_2, after_3, after_4, after_5, after_6, after_7, after_8, after_9, after_10, after_11, after_12, after_13]
  unfold PhiS
  iintro ⟨⟨%a, %b, %hh, HA, HB, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, H14⟩
  iapply (run_proj c (grid0.coords t) _ _ _ _ _ _ _ _ _ _ _ _ _ _ _ _ _ _ _ _ _ _ _ _ _ _ _ _ _ _ _ _ _ _ (fun hx => by have := (cond1 t).mp hx; omega) ((cond2 t).mpr (by omega)) (fun hx => by have := (cond3 t).mp hx; omega)
    (iblk m c 12 t) a b Set.univ _)
  isplitl [H12]; · iexact H12
  isplitl [HA]; · iexact HA
  isplitl [HB]; · iexact HB
  iintro ⟨H12, HA, HB⟩
  rw [held_zpay m c t h a b hh]
  have hh' := held_proj m c t h h' a b hh
  isplitl [HA HB Hg]
  · iexists _, _
    isplitr
    swap
    · isplitl [HA]; · iexact HA
      isplitl [HB]; · iexact HB
      iexact Hg
    ipureintro
    exact hh'
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iapply (kept_14 m c t (by omega)); iexact H14

set_option maxHeartbeats 4000000 in
/-- The body at a point, case by case of the step. -/
theorem sound_last (c : Dev nD) (t : Fin cfg0.N) (h : t.val % 12 = 11) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13]
  rw [show (dats m 0 c).owesAt () t.succ = (dats m 0 c).owesAt () t.castSucc from rfl,
    show (dats m 0 c).Φ t.succ = PhiS m c (t.val + 1) from rfl, show (dats m 0 c).Φ t.castSucc = PhiS m c t.val from rfl,
    Cert.Keep.stored (dats m 0 c) 0 t rfl, Cert.Keep.stored (dats m 0 c) 1 t rfl, Cert.Keep.stored (dats m 0 c) 2 t rfl, Cert.Keep.stored (dats m 0 c) 3 t rfl, Cert.Keep.stored (dats m 0 c) 4 t rfl, Cert.Keep.stored (dats m 0 c) 5 t rfl, Cert.Keep.stored (dats m 0 c) 6 t rfl, Cert.Keep.stored (dats m 0 c) 7 t rfl, Cert.Keep.stored (dats m 0 c) 8 t rfl, Cert.Keep.stored (dats m 0 c) 9 t rfl, Cert.Keep.stored (dats m 0 c) 10 t rfl, Cert.Keep.stored (dats m 0 c) 11 t rfl, Cert.Keep.stored (dats m 0 c) 12 t rfl, Cert.Keep.stored (dats m 0 c) 13 t rfl, after_0, after_1, after_2, after_3, after_4, after_5, after_6, after_7, after_8, after_9, after_10, after_11, after_12, after_13,
    Cert.Keep.stored (dats m 0 c) 14 t (by rw [idle_14, decide_eq_true h]; rfl), after_14]
  unfold PhiS
  iintro ⟨⟨%a, %b, %hh, HA, HB, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (run_last c (grid0.coords t) _ _ _ _ _ _ _ _ _ _ _ _ _ _ _ _ _ _ _ _ _ _ _ _ _ _ _ _ _ _ _ _ _ _ (fun hx => by have := (cond1 t).mp hx; omega) ((cond2 t).mpr (by omega)) ((cond3 t).mpr (by omega)) (by rw [off2_eq t (by omega), h])
    (iblk m c 4 t) (iblk m c 12 t) (iblk m c 13 t) a b Set.univ _)
  isplitl [H4]; · iexact H4
  isplitl [H12]; · iexact H12
  isplitl [H13]; · iexact H13
  isplitl [H14]; · iexists _; iexact H14
  isplitl [HA]; · iexact HA
  isplitl [HB]; · iexact HB
  iintro ⟨H4, H12, H13, H14, HA, ⟨%b2, HB⟩⟩
  rw [held_zpay m c t (by omega) a b hh, held_last m c t h a b hh]
  have hh' := fun a b => held_zero m c (t.val + 1) (by omega) a b
  isplitl [HA HB Hg]
  · iexists _, _
    isplitr
    swap
    · isplitl [HA]; · iexact HA
      isplitl [HB]; · iexact HB
      iexact Hg
    ipureintro
    exact hh' _ _
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h : t.val % 12 < 8
  · exact sound_gate m c t h
  by_cases h' : t.val % 12 < 11
  · exact sound_proj m c t (by omega) h'
  · exact sound_last m c t (by omega)

theorem defs₀_row (t : Fin cfg0.N) : defs₀ (F := F) .tc cfg0.body (cfg0.bodyArgs t (cfg0.slots t)) = bodyAt0 t := by
  unfold defs₀
  rw [Defs.onTc_tc]

/-- The pipeline's obligation on the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The region begins with the scratches at anything, -/
theorem hin (c : Dev nD) : Pipeline.ΦA spec0 c ⊢ (dats m 0 c).Φ 0 := by
  rw [show (dats m 0 c).Φ 0 = PhiS m c 0 from rfl, PhiA_eq]
  unfold PhiS
  iintro ⟨⟨⟨%a, HA⟩, ⟨%b, HB⟩⟩, Hg⟩
  iexists a, b
  isplitr
  swap
  · isplitl [HA]; · iexact HA
    isplitl [HB]; · iexact HB
    iexact Hg
  ipureintro
  exact held_zero m c 0 rfl a b

/-- and ends with them at anything. -/
theorem hout (c : Dev nD) : (dats m 0 c).Φ (Fin.last cfg0.N) ⊢ Pipeline.ΦA spec0 c := by
  rw [show (dats m 0 c).Φ (Fin.last cfg0.N) = PhiS m c cfg0.N from rfl, PhiA_eq]
  unfold PhiS
  iintro ⟨%a, %b, -, HA, HB, Hg⟩
  isplitl [HA HB]
  · isplitl [HA]
    · iexists a; iexact HA
    iexists b; iexact HB
  iexact Hg

set_option backward.isDefEq.respectTransparency.types false in
/-- Every run ends, with the arrays at what the data say and no semaphore left raised. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ w _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩) (run_main m ρ)

/-- The frame: every run ends, the arguments as they began and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.MergeIdeal.Hand

end
-- ==== Proof.MergeFrame.lean ====
/-
  The gated merge: the frame of the printed call, from that of the call printed for reading over the extended reals, which is the same program.
-/
module

public import proofs.«01_k».proof.Proof.Gen.Merge
public import proofs.«01_k».proof.Proof.MergeIdealFrame

@[expose] public section

noncomputable section

namespace Cert.Merge.Hand

open Cert.Merge Cert.Merge.Gen Idealize.ShloMosaic Idealize.ShloMosaic.TcCoe Idealize.SL Idealize.SL.Sem

variable {F : FTy → Type} [FloatOps F]

set_option maxHeartbeats 4000000 in
/-- The bodies of the two calls are the same. -/
theorem bodies : (defs₀ (F := F)) = Cert.MergeIdeal.defs₀ (F := F) := by
  unfold defs₀ Cert.MergeIdeal.defs₀
  refine congrArg Defs.onTc (funext fun l => funext fun a => ?_)
  match l, a with
  | 0, (t, s) => rfl
  | ⟨_ + 1, h⟩, _ => exact absurd h (Nat.not_lt.2 (Nat.le_add_left _ _))

@[inherit_doc bodies] theorem bodies' : (defs (F := F)) = Cert.MergeIdeal.defs (F := F) :=
  congrArg (Pipeline.defs pcfgs) bodies

/-- The frame: every run ends, the arguments as they began and every semaphore at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) := by
  rw [bodies']
  exact Cert.MergeIdeal.Hand.frame m ρ

end Cert.Merge.Hand

end
-- ==== Proof.MergeSpec.lean ====
/-
  The merge of the three branches as formulas over the extended reals: the gates, the gated sum, its projection and the result.
-/
module

public import proofs.«01_k».proof.Proof.Rows
public import Idealize.ShloMosaic.Lib.Pointwise

@[expose] public section

set_option maxRecDepth 16384

noncomputable section

open Idealize.ShloMosaic Idealize.ShloMosaic.TcCoe Idealize.SL.Sem

namespace Cert.Merge1k

open Cert.Ffn1k

variable (h : FVec Ideal ⟨2, ![8192, 2048]⟩ .bf16) (c : FVec Ideal ⟨2, ![8192, 1024]⟩ .bf16) (mx xm : FVec Ideal ⟨2, ![8192, 512]⟩ .bf16)
  (w : FVec Ideal ⟨3, ![1, 2048, 11264]⟩ .f32) (b : FVec Ideal ⟨2, ![1, 6144]⟩ .f32) (wc : FVec Ideal ⟨3, ![1, 1024, 2048]⟩ .f32)
  (wd wx : FVec Ideal ⟨3, ![1, 512, 2048]⟩ .f32) (wo : FVec Ideal ⟨3, ![1, 2048, 2048]⟩ .f32)

/-- Gate `s` of row `R` at column `J`: the logistic of the row's product with the gate's column, plus its bias. -/
def gate (h : FVec Ideal ⟨2, ![8192, 2048]⟩ .bf16) (w : FVec Ideal ⟨3, ![1, 2048, 11264]⟩ .f32) (b : FVec Ideal ⟨2, ![1, 6144]⟩ .f32)
    (s : Fin 3) (R : Fin 8192) (J : Fin 2048) : EReal :=
  Ideal.logistic ((∑ k : Fin 2048, h (ix2 R k) * w (ix3 0 k ⟨5120 + 2048 * s.val + J.val, by have := s.isLt; omega⟩))
    + b (ix2 0 ⟨2048 * s.val + J.val, by have := s.isLt; omega⟩))

/-- The gated sum of the three branches' products. -/
def merged (R : Fin 8192) (J : Fin 2048) : EReal :=
  gate h w b 0 R J * (∑ k : Fin 1024, c (ix2 R k) * wc (ix3 0 k J)) + gate h w b 1 R J * (∑ k : Fin 512, mx (ix2 R k) * wd (ix3 0 k J))
    + gate h w b 2 R J * (∑ k : Fin 512, xm (ix2 R k) * wx (ix3 0 k J))

/-- The merged row's product with the output weights. -/
def down (R : Fin 8192) (d : Fin 2048) : EReal :=
  ∑ J : Fin 2048, merged h c mx xm w b wc wd wx R J * wo (ix3 0 J d)

/-- Row `R` of the result at column `d`: the input plus the normalised projection. -/
def out (x : FVec Ideal ⟨2, ![8192, 2048]⟩ .f32) (g : FVec Ideal ⟨2, ![1, 2048]⟩ .f32) (R : Fin 8192) (d : Fin 2048) : EReal :=
  x (ix2 R d) + rms (down h c mx xm w b wc wd wx wo R) (g (ix2 0 d)) d

/-- The product with 1/2048 is the quotient by 2048. -/
theorem mul_recip (x : EReal) : x * Ideal.ofBits .f32 0x3A000000#32 = Ideal.div x (Ideal.ofBits .f32 0x45000000#32) := by
  have e1 : Ideal.ofBits .f32 0x45000000#32 = ((2048 : ℝ) : EReal) := by
    simp [Ideal.ofBits, Ideal.ieee, -EReal.coe_mul]; norm_num
  have e2 : Ideal.ofBits .f32 0x3A000000#32 = ((1 / 2048 : ℝ) : EReal) := by
    simp [Ideal.ofBits, Ideal.ieee, -EReal.coe_mul]; norm_num
  rw [e1, e2, Ideal.div_coe (by norm_num)]

/-- A sum over 2048 terms in eight runs of 256. -/
theorem sum_8 (f : Fin 2048 → EReal) :
    ∑ J : Fin 2048, f J = (∑ k : Fin 256, f ⟨0 * 256 + k.val, by omega⟩) + (∑ k : Fin 256, f ⟨1 * 256 + k.val, by omega⟩) + (∑ k : Fin 256, f ⟨2 * 256 + k.val, by omega⟩)
      + (∑ k : Fin 256, f ⟨3 * 256 + k.val, by omega⟩) + (∑ k : Fin 256, f ⟨4 * 256 + k.val, by omega⟩) + (∑ k : Fin 256, f ⟨5 * 256 + k.val, by omega⟩)
      + (∑ k : Fin 256, f ⟨6 * 256 + k.val, by omega⟩) + (∑ k : Fin 256, f ⟨7 * 256 + k.val, by omega⟩) :=
  (Fin.sum_univ_tiles 8 256 rfl f).trans ((Fin.sum_univ_eight _).trans rfl)

/-- A sum over 2048 terms in four runs of 512. -/
theorem sum_4 (f : Fin 2048 → EReal) :
    ∑ J : Fin 2048, f J = (∑ k : Fin 512, f ⟨0 * 512 + k.val, by omega⟩) + (∑ k : Fin 512, f ⟨1 * 512 + k.val, by omega⟩) + (∑ k : Fin 512, f ⟨2 * 512 + k.val, by omega⟩)
      + (∑ k : Fin 512, f ⟨3 * 512 + k.val, by omega⟩) :=
  (Fin.sum_univ_tiles 4 512 rfl f).trans ((Fin.sum_univ_four _).trans rfl)

end Cert.Merge1k

end
-- ==== Proof.MergePay.lean ====
/-
  The merge kernel's stored values read at an index over the extended reals.
-/
module

public import proofs.«01_k».proof.Proof.MergeSpec
public import proofs.«01_k».proof.Proof.MergeIdealSetup
public import Idealize.ShloMosaic.Lib.Tactic

@[expose] public section

set_option maxRecDepth 16384

noncomputable section

open Idealize.ShloMosaic Idealize.ShloMosaic.TcCoe Idealize.SL.Sem

namespace Cert.MergeIdeal.Hand

open Cert.MergeIdeal Cert.MergeIdeal.Gen Cert.Ffn1k

/-- The first two branches' gated sum at row `r`, column `k`. -/
theorem two_at (x0 : FVec Ideal S512x2048 .bf16) (x5 : FVec Ideal S2048x256 .bf16) (b0 : FVec Ideal S1x1x256 .f32) (x1 : FVec Ideal S512x1024 .bf16) (x9 : FVec Ideal S1024x256 .bf16)
    (x6 : FVec Ideal S2048x256 .bf16) (b1 : FVec Ideal S1x1x256 .f32) (x2 : FVec Ideal S512x512 .bf16) (x10 : FVec Ideal S512x256 .bf16) (r : Fin 512) (k : Fin 256) :
    k0_pay4 (F := Ideal) x0 x5 b0 x1 x9 x6 b1 x2 x10 (ix2 r k)
      = Ideal.logistic ((∑ j : Fin 2048, x0 (ix2 r j) * x5 (ix2 j k)) + b0 (ix3 0 0 k)) * (∑ j : Fin 1024, x1 (ix2 r j) * x9 (ix2 j k))
        + Ideal.logistic ((∑ j : Fin 2048, x0 (ix2 r j) * x6 (ix2 j k)) + b1 (ix3 0 0 k)) * (∑ j : Fin 512, x2 (ix2 r j) * x10 (ix2 j k)) := by
  pointwise! [k0_pay4]

/-- The third gate's product. -/
theorem third_at (x0 : FVec Ideal S512x2048 .bf16) (x7 : FVec Ideal S2048x256 .bf16) (r : Fin 512) (k : Fin 256) :
    k0_pay5 (F := Ideal) x0 x7 (ix2 r k) = ∑ j : Fin 2048, x0 (ix2 r j) * x7 (ix2 j k) := by
  pointwise! [k0_pay5]

/-- The stored merge from the first two branches' sum and the third gate's product. -/
theorem all_at (a p : FVec Ideal S512x256 .f32) (b2 : FVec Ideal S1x1x256 .f32) (x3 : FVec Ideal S512x512 .bf16) (x11 : FVec Ideal S512x256 .bf16) (r : Fin 512) (k : Fin 256) :
    k0_pay1 (F := Ideal) a p b2 x3 x11 (ix3 0 r k) = a (ix2 r k) + Ideal.logistic (p (ix2 r k) + b2 (ix3 0 0 k)) * (∑ j : Fin 512, x3 (ix2 r j) * x11 (ix2 j k)) := by
  pointwise! [k0_pay1]

/-- A one-row slice of the biases. -/
theorem bias_ld (x8 : FVec Ideal S3x1x256 .f32) (s : Fin 3) (inb : ∀ a, (![s.val, 0, 0] : Fin 3 → ℕ) a + S1x1x256.size a ≤ S3x1x256.size a) (k : Fin 256) :
    View.ld (Val := Elt Ideal) (e' := .f32) x8 (Rect.unit (s := S3x1x256) ![s.val, 0, 0] S1x1x256.size inb) (ix3 0 0 k : S1x1x256.Idx) = x8 (ix3 s 0 k) := by
  refine congrArg x8 (funext fun a => Fin.ext ?_)
  match a with
  | ⟨0, _⟩ => show s.val + 1 * 0 = s.val; omega
  | ⟨1, _⟩ => show 0 + 1 * 0 = 0; omega
  | ⟨2, _⟩ => show 0 + 1 * k.val = k.val; omega

/-- The stored merge at row `r`, column `k`. -/
theorem mpay_at (x0 : FVec Ideal S512x2048 .bf16) (x1 : FVec Ideal S512x1024 .bf16) (x2 x3 : FVec Ideal S512x512 .bf16) (x5 x6 x7 : FVec Ideal S2048x256 .bf16)
    (x8 : FVec Ideal S3x1x256 .f32) (x9 : FVec Ideal S1024x256 .bf16) (x10 x11 : FVec Ideal S512x256 .bf16) (r : Fin 512) (k : Fin 256) :
    mpay (F := Ideal) x0 x1 x2 x3 x5 x6 x7 x8 x9 x10 x11 (ix3 0 r k)
      = Ideal.logistic ((∑ j : Fin 2048, x0 (ix2 r j) * x5 (ix2 j k)) + x8 (ix3 0 0 k)) * (∑ j : Fin 1024, x1 (ix2 r j) * x9 (ix2 j k))
        + Ideal.logistic ((∑ j : Fin 2048, x0 (ix2 r j) * x6 (ix2 j k)) + x8 (ix3 1 0 k)) * (∑ j : Fin 512, x2 (ix2 r j) * x10 (ix2 j k))
        + Ideal.logistic ((∑ j : Fin 2048, x0 (ix2 r j) * x7 (ix2 j k)) + x8 (ix3 2 0 k)) * (∑ j : Fin 512, x3 (ix2 r j) * x11 (ix2 j k)) := by
  unfold mpay
  refine (all_at _ _ _ _ _ r k).trans ?_
  refine congrArg₂ (· + ·) ((two_at _ _ _ _ _ _ _ _ _ r k).trans (congrArg₂ (· + ·) ?_ ?_)) ?_
  · exact congrArg (fun z => Ideal.logistic (_ + z) * _) (bias_ld x8 0 _ k)
  · exact congrArg (fun z => Ideal.logistic (_ + z) * _) (bias_ld x8 1 _ k)
  · exact congrArg₂ (fun y z => Ideal.logistic (y + z) * _) (third_at x0 x7 r k) (bias_ld x8 2 _ k)

/-- Five partial products' sum. -/
theorem five_at (s0 s1 s2 s3 s4 : FVec Ideal S1x512x256 .bf16) (w0 w1 w2 w3 w4 : FVec Ideal S256x512 .bf16) (r d : Fin 512) :
    k0_pay6 (F := Ideal) s0 w0 s1 w1 s2 w2 s3 w3 s4 w4 (ix2 r d)
      = (∑ k : Fin 256, s0 (ix3 0 r k) * w0 (ix2 k d)) + (∑ k : Fin 256, s1 (ix3 0 r k) * w1 (ix2 k d)) + (∑ k : Fin 256, s2 (ix3 0 r k) * w2 (ix2 k d))
        + (∑ k : Fin 256, s3 (ix3 0 r k) * w3 (ix2 k d)) + (∑ k : Fin 256, s4 (ix3 0 r k) * w4 (ix2 k d)) := by
  pointwise! [k0_pay6]

/-- The last three partial products added. -/
theorem three_at (a : FVec Ideal S512x512 .f32) (s5 s6 s7 : FVec Ideal S1x512x256 .bf16) (w5 w6 w7 : FVec Ideal S256x512 .bf16) (r d : Fin 512) :
    k0_pay2 (F := Ideal) a s5 w5 s6 w6 s7 w7 (ix3 0 r d)
      = a (ix2 r d) + (∑ k : Fin 256, s5 (ix3 0 r k) * w5 (ix2 k d)) + (∑ k : Fin 256, s6 (ix3 0 r k) * w6 (ix2 k d)) + (∑ k : Fin 256, s7 (ix3 0 r k) * w7 (ix2 k d)) := by
  pointwise! [k0_pay2]

/-- 256 rows of the output weights. -/
theorem rows_ld (w : FVec Ideal S2048x512 .bf16) (o : ℕ) (inb : ∀ a, (![o, 0] : Fin 2 → ℕ) a + S256x512.size a ≤ S2048x512.size a) (k : Fin 256) (d : Fin 512) (K : Fin 2048) (hK : K.val = o + k.val) :
    View.ld (Val := Elt Ideal) (e' := .bf16) w (Rect.unit (s := S2048x512) ![o, 0] S256x512.size inb) (ix2 k d : S256x512.Idx) = w (ix2 K d) := by
  refine congrArg w (funext fun a => Fin.ext ?_)
  match a with
  | ⟨0, _⟩ => show o + 1 * k.val = K.val; omega
  | ⟨1, _⟩ => show 0 + 1 * d.val = d.val; omega

/-- The stored projection at row `r`, column `d`, for slabs that hold the runs of a row of 2048 entries. -/
theorem zpay_at (s0 s1 s2 s3 s4 s5 s6 s7 : FVec Ideal S1x512x256 .bf16) (w : FVec Ideal S2048x512 .bf16) (r d : Fin 512) (M : Fin 2048 → EReal)
    (e0 : ∀ k : Fin 256, s0 (ix3 0 r k) = M ⟨0 * 256 + k.val, by omega⟩)
    (e1 : ∀ k : Fin 256, s1 (ix3 0 r k) = M ⟨1 * 256 + k.val, by omega⟩)
    (e2 : ∀ k : Fin 256, s2 (ix3 0 r k) = M ⟨2 * 256 + k.val, by omega⟩)
    (e3 : ∀ k : Fin 256, s3 (ix3 0 r k) = M ⟨3 * 256 + k.val, by omega⟩)
    (e4 : ∀ k : Fin 256, s4 (ix3 0 r k) = M ⟨4 * 256 + k.val, by omega⟩)
    (e5 : ∀ k : Fin 256, s5 (ix3 0 r k) = M ⟨5 * 256 + k.val, by omega⟩)
    (e6 : ∀ k : Fin 256, s6 (ix3 0 r k) = M ⟨6 * 256 + k.val, by omega⟩)
    (e7 : ∀ k : Fin 256, s7 (ix3 0 r k) = M ⟨7 * 256 + k.val, by omega⟩) :
    zpay (F := Ideal) s0 s1 s2 s3 s4 s5 s6 s7 w (ix3 0 r d) = ∑ J : Fin 2048, M J * w (ix2 J d) := by
  rw [Cert.Merge1k.sum_8]
  unfold zpay
  refine (three_at _ _ _ _ _ _ _ r d).trans ?_
  refine congrArg₂ (· + ·) (congrArg₂ (· + ·) (congrArg₂ (· + ·) ((five_at _ _ _ _ _ _ _ _ _ _ r d).trans ?_) ?_) ?_) ?_
  · refine congrArg₂ (· + ·) (congrArg₂ (· + ·) (congrArg₂ (· + ·) (congrArg₂ (· + ·) ?_ ?_) ?_) ?_) ?_
    · exact Finset.sum_congr rfl fun k _ => congrArg₂ (· * ·) (e0 k) (rows_ld w 0 _ k d _ (by dsimp only))
    · exact Finset.sum_congr rfl fun k _ => congrArg₂ (· * ·) (e1 k) (rows_ld w 256 _ k d _ (by dsimp only))
    · exact Finset.sum_congr rfl fun k _ => congrArg₂ (· * ·) (e2 k) (rows_ld w 512 _ k d _ (by dsimp only))
    · exact Finset.sum_congr rfl fun k _ => congrArg₂ (· * ·) (e3 k) (rows_ld w 768 _ k d _ (by dsimp only))
    · exact Finset.sum_congr rfl fun k _ => congrArg₂ (· * ·) (e4 k) (rows_ld w 1024 _ k d _ (by dsimp only))
  · exact Finset.sum_congr rfl fun k _ => congrArg₂ (· * ·) (e5 k) (rows_ld w 1280 _ k d _ (by dsimp only))
  · exact Finset.sum_congr rfl fun k _ => congrArg₂ (· * ·) (e6 k) (rows_ld w 1536 _ k d _ (by dsimp only))
  · exact Finset.sum_congr rfl fun k _ => congrArg₂ (· * ·) (e7 k) (rows_ld w 1792 _ k d _ (by dsimp only))

/-- The reciprocal root of a row's mean square. -/
theorem root_at (z0 z1 z2 z3 : FVec Ideal S1x512x512 .f32) (r : Fin 512) (Z : Fin 2048 → EReal)
    (e0 : ∀ k : Fin 512, z0 (ix3 0 r k) = Z ⟨0 * 512 + k.val, by omega⟩)
    (e1 : ∀ k : Fin 512, z1 (ix3 0 r k) = Z ⟨1 * 512 + k.val, by omega⟩)
    (e2 : ∀ k : Fin 512, z2 (ix3 0 r k) = Z ⟨2 * 512 + k.val, by omega⟩)
    (e3 : ∀ k : Fin 512, z3 (ix3 0 r k) = Z ⟨3 * 512 + k.val, by omega⟩) :
    k0_pay7 (F := Ideal) z0 z1 z2 z3 (ix2 r 0) = Ideal.rsqrt (Ideal.div (∑ j : Fin 2048, Z j * Z j) (Ideal.ofBits .f32 0x45000000#32) + Ideal.ofBits .f32 0x358637BD#32) := by
  rw [← Cert.Merge1k.mul_recip, Cert.Merge1k.sum_4]
  simp only [← e0, ← e1, ← e2, ← e3]
  pointwise! [k0_pay7]

/-- Store 1 of the result. -/
theorem col_1 (q : FVec Ideal S512x1 .f32) (x : FVec Ideal S512x512 .f32) (z : FVec Ideal S1x512x512 .f32) (g : FVec Ideal S1x512 .f32) (r d : Fin 512) :
    k0_pay11 (F := Ideal) q x z g (ix2 r d) = x (ix2 r d) + z (ix3 0 r d) * q (ix2 r 0) * g (ix2 0 d) := by
  pointwise! [k0_pay11]

/-- Store 2 of the result. -/
theorem col_2 (q : FVec Ideal S512x1 .f32) (x : FVec Ideal S512x512 .f32) (z : FVec Ideal S1x512x512 .f32) (g : FVec Ideal S1x512 .f32) (r d : Fin 512) :
    k0_pay12 (F := Ideal) q x z g (ix2 r d) = x (ix2 r d) + z (ix3 0 r d) * q (ix2 r 0) * g (ix2 0 d) := by
  pointwise! [k0_pay12]

/-- Store 0 of the result. -/
theorem col_0 (z0 z1 z2 z3 : FVec Ideal S1x512x512 .f32) (x : FVec Ideal S512x512 .f32) (g : FVec Ideal S1x512 .f32) (r d : Fin 512) :
    k0_pay10 (F := Ideal) (k0_pay8 x) (k0_pay9 z0 z1 z2 z3 z0) g (ix2 r d) = x (ix2 r d) + z0 (ix3 0 r d) * k0_pay7 (F := Ideal) z0 z1 z2 z3 (ix2 r 0) * g (ix2 0 d) := by
  unfold k0_pay9
  generalize k0_pay7 (F := Ideal) z0 z1 z2 z3 = q
  pointwise! [k0_pay10, k0_pay8]

/-- Store 3 of the result. -/
theorem col_3 (q : FVec Ideal S512x1 .f32) (x : FVec Ideal S512x512 .f32) (z : FVec Ideal S1x512x512 .f32) (g : FVec Ideal S1x512 .f32) (r d : Fin 512) :
    k0_pay3 (F := Ideal) q (k0_pay13 x) z g (ix2 r d) = x (ix2 r d) + z (ix3 0 r d) * q (ix2 r 0) * g (ix2 0 d) := by
  pointwise! [k0_pay3, k0_pay13]

/-- Each store's entry is the result's entry. -/
theorem col_eq (z : FVec Ideal S1x512x512 .f32) (x : FVec Ideal S512x2048 .f32) (gp : FVec Ideal S1x2048 .f32) (q : EReal) (Z : Fin 512 → Fin 2048 → EReal) (o : ℕ)
    (inb : ∀ a, (![0, o] : Fin 2 → ℕ) a + S512x512.size a ≤ S512x2048.size a) (inb' : ∀ a, (![0, o] : Fin 2 → ℕ) a + S1x512.size a ≤ S1x2048.size a) (ho : o ≤ 1536)
    (r d : Fin 512) (e : ∀ r k : Fin 512, z (ix3 0 r k) = Z r ⟨o + k.val, by omega⟩)
    (eq : q = Ideal.rsqrt (Ideal.div (∑ j : Fin 2048, Z r j * Z r j) (Ideal.ofBits .f32 0x45000000#32) + Ideal.ofBits .f32 0x358637BD#32)) :
    View.ld (Val := Elt Ideal) (e' := .f32) x (Rect.unit (s := S512x2048) ![0, o] S512x512.size inb) (ix2 r d : S512x512.Idx)
        + z (ix3 0 r d) * q * View.ld (Val := Elt Ideal) (e' := .f32) gp (Rect.unit (s := S1x2048) ![0, o] S1x512.size inb') (ix2 0 d : S1x512.Idx)
      = x (ix2 r ⟨o + d.val, by omega⟩) + rms (Z r) (gp (ix2 0 ⟨o + d.val, by omega⟩)) ⟨o + d.val, by omega⟩ := by
  unfold rms
  rw [e r d, eq]
  refine congrArg₂ (fun y g => y + _ * g) (congrArg x (funext fun a => Fin.ext ?_)) (congrArg gp (funext fun a => Fin.ext ?_))
  · match a with
    | ⟨0, _⟩ => show 0 + 1 * r.val = r.val; omega
    | ⟨1, _⟩ => show o + 1 * d.val = o + d.val; omega
  · match a with
    | ⟨0, _⟩ => show 0 + 1 * 0 = 0; omega
    | ⟨1, _⟩ => show o + 1 * d.val = o + d.val; omega

theorem ix2_eq (x : S512x512.Idx) : x = ix2 (x 0) (x 1) := by
  funext a
  match a with
  | ⟨0, _⟩ => rfl
  | ⟨1, _⟩ => rfl

/-- The result's block at row `r`, column `d`, for slabs that hold the runs of rows of 2048 entries. -/
theorem opay_at (z0 z1 z2 z3 : FVec Ideal S1x512x512 .f32) (x : FVec Ideal S512x2048 .f32) (gp : FVec Ideal S1x2048 .f32) (Z : Fin 512 → Fin 2048 → EReal)
    (e0 : ∀ r k : Fin 512, z0 (ix3 0 r k) = Z r ⟨0 * 512 + k.val, by omega⟩)
    (e1 : ∀ r k : Fin 512, z1 (ix3 0 r k) = Z r ⟨1 * 512 + k.val, by omega⟩)
    (e2 : ∀ r k : Fin 512, z2 (ix3 0 r k) = Z r ⟨2 * 512 + k.val, by omega⟩)
    (e3 : ∀ r k : Fin 512, z3 (ix3 0 r k) = Z r ⟨3 * 512 + k.val, by omega⟩) (r : Fin 512) (d : Fin 2048) :
    opay (F := Ideal) z0 z1 z2 z3 x gp (ix2 r d) = x (ix2 r d) + rms (Z r) (gp (ix2 0 d)) d := by
  unfold opay
  refine View.canon_apply_of_pieces (Val := Elt Ideal) (S := S512x2048) (e := .f32)
    (fun y : S512x2048.Idx => x (ix2 (y 0) (y 1)) + rms (Z (y 0)) (gp (ix2 0 (y 1))) (y 1)) _ ?_ (ix2 r d) (cols_cover _ _ _ _ _)
  have key : ∀ (o : ℕ) (ho : o ≤ 1536) (inb : ∀ a, (![0, o] : Fin 2 → ℕ) a + S512x512.size a ≤ S512x2048.size a) (y : S512x512.Idx),
      (fun y : S512x2048.Idx => x (ix2 (y 0) (y 1)) + rms (Z (y 0)) (gp (ix2 0 (y 1))) (y 1)) ((Rect.unit (s := S512x2048) ![0, o] S512x512.size inb).emb y)
        = x (ix2 (y 0) ⟨o + (y 1).val, by have h1 : (y 1).val < 512 := (y 1).isLt; omega⟩)
          + rms (Z (y 0)) (gp (ix2 0 ⟨o + (y 1).val, by have h1 : (y 1).val < 512 := (y 1).isLt; omega⟩)) ⟨o + (y 1).val, by have h1 : (y 1).val < 512 := (y 1).isLt; omega⟩ := by
    intro o ho inb y
    have h0 : ((Rect.unit (s := S512x2048) ![0, o] S512x512.size inb).emb y) 0 = y 0 := Fin.ext (by show 0 + 1 * (y 0).val = (y 0).val; omega)
    have h1 : ((Rect.unit (s := S512x2048) ![0, o] S512x512.size inb).emb y) 1 = (⟨o + (y 1).val, by have h1 : (y 1).val < 512 := (y 1).isLt; omega⟩ : Fin 2048) :=
      Fin.ext (by show o + 1 * (y 1).val = o + (y 1).val; omega)
    dsimp only
    rw [h0, h1]
  simp only [List.forall_mem_cons]
  refine ⟨?_, ?_, ?_, ?_, fun p hp => absurd hp List.not_mem_nil⟩
  · intro y
    refine ((congrArg (k0_pay3 (F := Ideal) _ _ _ _) (ix2_eq y)).trans ((col_3 _ _ z3 _ (y 0) (y 1)).trans ?_)).trans (key 1536 (by omega) inb_S512x2048_S512x512_0_1536 y).symm
    exact col_eq z3 x gp _ Z 1536 _ _ (by omega) (y 0) (y 1) (fun r k => (e3 r k).trans (congrArg (Z r) (Fin.ext (by dsimp only)))) (root_at z0 z1 z2 z3 (y 0) (Z (y 0)) (e0 (y 0)) (e1 (y 0)) (e2 (y 0)) (e3 (y 0)))
  · intro y
    refine ((congrArg (k0_pay12 (F := Ideal) _ _ _ _) (ix2_eq y)).trans ((col_2 _ _ z2 _ (y 0) (y 1)).trans ?_)).trans (key 1024 (by omega) inb_S512x2048_S512x512_0_1024 y).symm
    exact col_eq z2 x gp _ Z 1024 _ _ (by omega) (y 0) (y 1) (fun r k => (e2 r k).trans (congrArg (Z r) (Fin.ext (by dsimp only)))) (root_at z0 z1 z2 z3 (y 0) (Z (y 0)) (e0 (y 0)) (e1 (y 0)) (e2 (y 0)) (e3 (y 0)))
  · intro y
    refine ((congrArg (k0_pay11 (F := Ideal) _ _ _ _) (ix2_eq y)).trans ((col_1 _ _ z1 _ (y 0) (y 1)).trans ?_)).trans (key 512 (by omega) inb_S512x2048_S512x512_0_512 y).symm
    exact col_eq z1 x gp _ Z 512 _ _ (by omega) (y 0) (y 1) (fun r k => (e1 r k).trans (congrArg (Z r) (Fin.ext (by dsimp only)))) (root_at z0 z1 z2 z3 (y 0) (Z (y 0)) (e0 (y 0)) (e1 (y 0)) (e2 (y 0)) (e3 (y 0)))
  · intro y
    refine ((congrArg (k0_pay10 (F := Ideal) _ _ _) (ix2_eq y)).trans ((col_0 z0 z1 z2 z3 _ _ (y 0) (y 1)).trans ?_)).trans (key 0 (by omega) inb_S512x2048_S512x512_0_0 y).symm
    exact col_eq z0 x gp _ Z 0 _ _ (by omega) (y 0) (y 1) (fun r k => (e0 r k).trans (congrArg (Z r) (Fin.ext (by dsimp only)))) (root_at z0 z1 z2 z3 (y 0) (Z (y 0)) (e0 (y 0)) (e1 (y 0)) (e2 (y 0)) (e3 (y 0)))

end Cert.MergeIdeal.Hand

end
-- ==== Proof.MergeValue.lean ====
/-
  The merge over the extended reals: what its result holds, read off its arguments.
-/
module

public import proofs.«01_k».proof.Proof.MergePay
public import proofs.«01_k».proof.Proof.MergeIdealFrame
public import Idealize.ShloMosaic.Lib.Pointwise
public import Idealize.ShloMosaic.Lib.StableHlo.ReadAt
public import Idealize.ShloMosaic.Lib.Tactic

@[expose] public section

set_option maxRecDepth 16384

noncomputable section

open Idealize.ShloMosaic Idealize.ShloMosaic.TcCoe Idealize.SL.Sem

namespace Cert.MergeIdeal.Hand

open Cert.MergeIdeal Cert.MergeIdeal.Gen Cert.Ffn1k

variable (m : (ℓ : Loc nD τ sig) → Buf (Elt Ideal) ℓ) (c : Dev nD)

/-- The normalised rows. -/
abbrev H : FVec Ideal ⟨2, ![8192, 2048]⟩ .bf16 := m ((c : Thread nD τ).loc main_arg0)
/-- The first branch. -/
abbrev C : FVec Ideal ⟨2, ![8192, 1024]⟩ .bf16 := m ((c : Thread nD τ).loc main_arg1)
/-- The second branch with its batch and position axes joined. -/
def MX : FVec Ideal ⟨2, ![8192, 512]⟩ .bf16 :=
  shapeCast _ (m ((c : Thread nD τ).loc main_arg2) : FVec Ideal S4x2048x512 .bf16) shapeCasts_S4x2048x512_S8192x512
/-- The third branch with its batch and position axes joined. -/
def XM : FVec Ideal ⟨2, ![8192, 512]⟩ .bf16 :=
  shapeCast _ (m ((c : Thread nD τ).loc main_arg3) : FVec Ideal S4x2048x512 .bf16) shapeCasts_S4x2048x512_S8192x512
/-- The input with its batch and position axes joined. -/
def X : FVec Ideal ⟨2, ![8192, 2048]⟩ .f32 :=
  shapeCast _ (m ((c : Thread nD τ).loc main_arg4) : FVec Ideal S4x2048x2048 .f32) shapeCasts_S4x2048x2048_S8192x2048
/-- The weights that hold the gates' columns. -/
abbrev W : FVec Ideal ⟨3, ![1, 2048, 11264]⟩ .f32 := m ((c : Thread nD τ).loc main_arg5)
/-- The gates' biases. -/
abbrev B : FVec Ideal ⟨2, ![1, 6144]⟩ .f32 := m ((c : Thread nD τ).loc main_arg6)
/-- The first branch's weights. -/
abbrev WC : FVec Ideal ⟨3, ![1, 1024, 2048]⟩ .f32 := m ((c : Thread nD τ).loc main_arg7)
/-- The second branch's weights. -/
abbrev WD : FVec Ideal ⟨3, ![1, 512, 2048]⟩ .f32 := m ((c : Thread nD τ).loc main_arg8)
/-- The third branch's weights. -/
abbrev WX : FVec Ideal ⟨3, ![1, 512, 2048]⟩ .f32 := m ((c : Thread nD τ).loc main_arg9)
/-- The output weights. -/
abbrev WO : FVec Ideal ⟨3, ![1, 2048, 2048]⟩ .f32 := m ((c : Thread nD τ).loc main_arg10)
/-- The gain. -/
abbrev G : FVec Ideal ⟨2, ![1, 2048]⟩ .f32 := m ((c : Thread nD τ).loc main_arg11)

theorem x_at (R : Fin 8192) (k : Fin 2048) : (V m c main_v0 : FVec Ideal S8192x2048 .f32) (ix2 R k) = X m c (ix2 R k) := by
  unfold V X
  after_reads_simp
  try rfl

theorem mx_at (R : Fin 8192) (k : Fin 512) : (V m c main_v13 : FVec Ideal S8192x512 .bf16) (ix2 R k) = MX m c (ix2 R k) := by
  unfold V MX
  after_reads_simp
  try rfl

theorem xm_at (R : Fin 8192) (k : Fin 512) : (V m c main_v14 : FVec Ideal S8192x512 .bf16) (ix2 R k) = XM m c (ix2 R k) := by
  unfold V XM
  after_reads_simp
  try rfl

theorem g_at (k : Fin 2048) : (V m c main_v12 : FVec Ideal S1x2048 .f32) (ix2 0 k) = G m c (ix2 0 k) := by
  unfold V
  after_reads_at

theorem b_at (s : Fin 3) (k : Fin 2048) :
    (V m c main_v16 : FVec Ideal S3x1x2048 .f32) (ix3 s 0 k) = B m c (ix2 0 ⟨2048 * s.val + k.val, by have := s.isLt; omega⟩) := by
  unfold V
  after_reads_at
  exact congrArg (fun z => B m c (ix2 0 z)) (Fin.ext (by dsimp only; omega))

theorem W_at (k : Fin 2048) (j : Fin 11264) : (V m c main_v2 : FVec Ideal S2048x11264 .bf16) (ix2 k j) = W m c (ix3 0 k j) := by
  unfold V
  after_reads_at

theorem WC_at (k : Fin 1024) (j : Fin 2048) : (V m c main_v4 : FVec Ideal S1024x2048 .bf16) (ix2 k j) = WC m c (ix3 0 k j) := by
  unfold V
  after_reads_at

theorem WD_at (k : Fin 512) (j : Fin 2048) : (V m c main_v6 : FVec Ideal S512x2048 .bf16) (ix2 k j) = WD m c (ix3 0 k j) := by
  unfold V
  after_reads_at

theorem WX_at (k : Fin 512) (j : Fin 2048) : (V m c main_v8 : FVec Ideal S512x2048 .bf16) (ix2 k j) = WX m c (ix3 0 k j) := by
  unfold V
  after_reads_at

theorem WO_at (k : Fin 2048) (j : Fin 2048) : (V m c main_v10 : FVec Ideal S2048x2048 .bf16) (ix2 k j) = WO m c (ix3 0 k j) := by
  unfold V
  after_reads_at

/-! Where the windows' blocks lie. -/
theorem place_0 : ∀ t : Fin cfg0.N, win0_0.index t (0 : Fin 2) = t.val / 12 ∧ win0_0.index t (1 : Fin 2) = 0 :=
  (by decide +kernel : ∀ t : Fin grid0.N, _)
theorem place_1 : ∀ t : Fin cfg0.N, win0_1.index t (0 : Fin 2) = t.val / 12 ∧ win0_1.index t (1 : Fin 2) = 0 :=
  (by decide +kernel : ∀ t : Fin grid0.N, _)
theorem place_2 : ∀ t : Fin cfg0.N, win0_2.index t (0 : Fin 2) = t.val / 12 ∧ win0_2.index t (1 : Fin 2) = 0 :=
  (by decide +kernel : ∀ t : Fin grid0.N, _)
theorem place_3 : ∀ t : Fin cfg0.N, win0_3.index t (0 : Fin 2) = t.val / 12 ∧ win0_3.index t (1 : Fin 2) = 0 :=
  (by decide +kernel : ∀ t : Fin grid0.N, _)
theorem place_4 : ∀ t : Fin cfg0.N, win0_4.index t (0 : Fin 2) = t.val / 12 ∧ win0_4.index t (1 : Fin 2) = 0 :=
  (by decide +kernel : ∀ t : Fin grid0.N, _)
theorem place_5 : ∀ t : Fin cfg0.N, win0_5.index t (0 : Fin 2) = 0 ∧ win0_5.index t (1 : Fin 2) = 20 + min (t.val % 12) 7 :=
  (by decide +kernel : ∀ t : Fin grid0.N, _)
theorem place_6 : ∀ t : Fin cfg0.N, win0_6.index t (0 : Fin 2) = 0 ∧ win0_6.index t (1 : Fin 2) = 28 + min (t.val % 12) 7 :=
  (by decide +kernel : ∀ t : Fin grid0.N, _)
theorem place_7 : ∀ t : Fin cfg0.N, win0_7.index t (0 : Fin 2) = 0 ∧ win0_7.index t (1 : Fin 2) = 36 + min (t.val % 12) 7 :=
  (by decide +kernel : ∀ t : Fin grid0.N, _)
theorem place_8 : ∀ t : Fin cfg0.N, win0_8.index t (0 : Fin 3) = 0 ∧ win0_8.index t (1 : Fin 3) = 0 ∧ win0_8.index t (2 : Fin 3) = min (t.val % 12) 7 :=
  (by decide +kernel : ∀ t : Fin grid0.N, _)
theorem place_9 : ∀ t : Fin cfg0.N, win0_9.index t (0 : Fin 2) = 0 ∧ win0_9.index t (1 : Fin 2) = min (t.val % 12) 7 :=
  (by decide +kernel : ∀ t : Fin grid0.N, _)
theorem place_10 : ∀ t : Fin cfg0.N, win0_10.index t (0 : Fin 2) = 0 ∧ win0_10.index t (1 : Fin 2) = min (t.val % 12) 7 :=
  (by decide +kernel : ∀ t : Fin grid0.N, _)
theorem place_11 : ∀ t : Fin cfg0.N, win0_11.index t (0 : Fin 2) = 0 ∧ win0_11.index t (1 : Fin 2) = min (t.val % 12) 7 :=
  (by decide +kernel : ∀ t : Fin grid0.N, _)
theorem place_12 : ∀ t : Fin cfg0.N, win0_12.index t (0 : Fin 2) = 0 ∧ win0_12.index t (1 : Fin 2) = t.val % 12 - 8 :=
  (by decide +kernel : ∀ t : Fin grid0.N, _)
theorem place_13 : ∀ t : Fin cfg0.N, win0_13.index t (0 : Fin 2) = 0 ∧ win0_13.index t (1 : Fin 2) = 0 :=
  (by decide +kernel : ∀ t : Fin grid0.N, _)
theorem place_14 : ∀ t : Fin cfg0.N, win0_14.index t (0 : Fin 2) = t.val / 12 ∧ win0_14.index t (1 : Fin 2) = 0 :=
  (by decide +kernel : ∀ t : Fin grid0.N, _)

theorem blk_0 (t : Fin cfg0.N) (r : Fin 512) (k : Fin 2048) (R : Fin 8192) (hR : R.val = 512 * (t.val / 12) + r.val) :
    (iblk m c 0 t : FVec Ideal S512x2048 .bf16) (ix2 r k) = H m c (ix2 R k) := by
  obtain ⟨a0, a1⟩ := place_0 t
  rw [show H m c = V m c main_arg0 from (V_main_arg0 m c).symm]
  refine congrArg (V m c main_arg0) (funext fun a => Fin.ext ?_)
  match a with
  | ⟨0, _⟩ => show win0_0.index t (0 : Fin 2) * 512 + 1 * r.val = R.val; omega
  | ⟨1, _⟩ => show win0_0.index t (1 : Fin 2) * 2048 + 1 * k.val = k.val; omega

theorem blk_1 (t : Fin cfg0.N) (r : Fin 512) (k : Fin 1024) (R : Fin 8192) (hR : R.val = 512 * (t.val / 12) + r.val) :
    (iblk m c 1 t : FVec Ideal S512x1024 .bf16) (ix2 r k) = C m c (ix2 R k) := by
  obtain ⟨a0, a1⟩ := place_1 t
  rw [show C m c = V m c main_arg1 from (V_main_arg1 m c).symm]
  refine congrArg (V m c main_arg1) (funext fun a => Fin.ext ?_)
  match a with
  | ⟨0, _⟩ => show win0_1.index t (0 : Fin 2) * 512 + 1 * r.val = R.val; omega
  | ⟨1, _⟩ => show win0_1.index t (1 : Fin 2) * 1024 + 1 * k.val = k.val; omega

theorem blk_2 (t : Fin cfg0.N) (r : Fin 512) (k : Fin 512) (R : Fin 8192) (hR : R.val = 512 * (t.val / 12) + r.val) :
    (iblk m c 2 t : FVec Ideal S512x512 .bf16) (ix2 r k) = MX m c (ix2 R k) := by
  obtain ⟨a0, a1⟩ := place_2 t
  rw [← mx_at m c]
  refine congrArg (V m c main_v13) (funext fun a => Fin.ext ?_)
  match a with
  | ⟨0, _⟩ => show win0_2.index t (0 : Fin 2) * 512 + 1 * r.val = R.val; omega
  | ⟨1, _⟩ => show win0_2.index t (1 : Fin 2) * 512 + 1 * k.val = k.val; omega

theorem blk_3 (t : Fin cfg0.N) (r : Fin 512) (k : Fin 512) (R : Fin 8192) (hR : R.val = 512 * (t.val / 12) + r.val) :
    (iblk m c 3 t : FVec Ideal S512x512 .bf16) (ix2 r k) = XM m c (ix2 R k) := by
  obtain ⟨a0, a1⟩ := place_3 t
  rw [← xm_at m c]
  refine congrArg (V m c main_v14) (funext fun a => Fin.ext ?_)
  match a with
  | ⟨0, _⟩ => show win0_3.index t (0 : Fin 2) * 512 + 1 * r.val = R.val; omega
  | ⟨1, _⟩ => show win0_3.index t (1 : Fin 2) * 512 + 1 * k.val = k.val; omega

theorem blk_4 (t : Fin cfg0.N) (r : Fin 512) (k : Fin 2048) (R : Fin 8192) (hR : R.val = 512 * (t.val / 12) + r.val) :
    (iblk m c 4 t : FVec Ideal S512x2048 .f32) (ix2 r k) = X m c (ix2 R k) := by
  obtain ⟨a0, a1⟩ := place_4 t
  rw [← x_at m c]
  refine congrArg (V m c main_v0) (funext fun a => Fin.ext ?_)
  match a with
  | ⟨0, _⟩ => show win0_4.index t (0 : Fin 2) * 512 + 1 * r.val = R.val; omega
  | ⟨1, _⟩ => show win0_4.index t (1 : Fin 2) * 2048 + 1 * k.val = k.val; omega

theorem blk_5 (t : Fin cfg0.N) (k : Fin 2048) (j : Fin 256) (J : Fin 11264) (hJ : J.val = (20 + min (t.val % 12) 7) * 256 + j.val) :
    (iblk m c 5 t : FVec Ideal S2048x256 .bf16) (ix2 k j) = W m c (ix3 0 k J) := by
  obtain ⟨a0, a1⟩ := place_5 t
  rw [← W_at m c k J]
  refine congrArg (V m c main_v2) (funext fun a => Fin.ext ?_)
  match a with
  | ⟨0, _⟩ => show win0_5.index t (0 : Fin 2) * 2048 + 1 * k.val = k.val; omega
  | ⟨1, _⟩ => show win0_5.index t (1 : Fin 2) * 256 + 1 * j.val = J.val; omega

theorem blk_6 (t : Fin cfg0.N) (k : Fin 2048) (j : Fin 256) (J : Fin 11264) (hJ : J.val = (28 + min (t.val % 12) 7) * 256 + j.val) :
    (iblk m c 6 t : FVec Ideal S2048x256 .bf16) (ix2 k j) = W m c (ix3 0 k J) := by
  obtain ⟨a0, a1⟩ := place_6 t
  rw [← W_at m c k J]
  refine congrArg (V m c main_v2) (funext fun a => Fin.ext ?_)
  match a with
  | ⟨0, _⟩ => show win0_6.index t (0 : Fin 2) * 2048 + 1 * k.val = k.val; omega
  | ⟨1, _⟩ => show win0_6.index t (1 : Fin 2) * 256 + 1 * j.val = J.val; omega

theorem blk_7 (t : Fin cfg0.N) (k : Fin 2048) (j : Fin 256) (J : Fin 11264) (hJ : J.val = (36 + min (t.val % 12) 7) * 256 + j.val) :
    (iblk m c 7 t : FVec Ideal S2048x256 .bf16) (ix2 k j) = W m c (ix3 0 k J) := by
  obtain ⟨a0, a1⟩ := place_7 t
  rw [← W_at m c k J]
  refine congrArg (V m c main_v2) (funext fun a => Fin.ext ?_)
  match a with
  | ⟨0, _⟩ => show win0_7.index t (0 : Fin 2) * 2048 + 1 * k.val = k.val; omega
  | ⟨1, _⟩ => show win0_7.index t (1 : Fin 2) * 256 + 1 * j.val = J.val; omega

theorem blk_9 (t : Fin cfg0.N) (k : Fin 1024) (j : Fin 256) (J : Fin 2048) (hJ : J.val = (min (t.val % 12) 7) * 256 + j.val) :
    (iblk m c 9 t : FVec Ideal S1024x256 .bf16) (ix2 k j) = WC m c (ix3 0 k J) := by
  obtain ⟨a0, a1⟩ := place_9 t
  rw [← WC_at m c k J]
  refine congrArg (V m c main_v4) (funext fun a => Fin.ext ?_)
  match a with
  | ⟨0, _⟩ => show win0_9.index t (0 : Fin 2) * 1024 + 1 * k.val = k.val; omega
  | ⟨1, _⟩ => show win0_9.index t (1 : Fin 2) * 256 + 1 * j.val = J.val; omega

theorem blk_10 (t : Fin cfg0.N) (k : Fin 512) (j : Fin 256) (J : Fin 2048) (hJ : J.val = (min (t.val % 12) 7) * 256 + j.val) :
    (iblk m c 10 t : FVec Ideal S512x256 .bf16) (ix2 k j) = WD m c (ix3 0 k J) := by
  obtain ⟨a0, a1⟩ := place_10 t
  rw [← WD_at m c k J]
  refine congrArg (V m c main_v6) (funext fun a => Fin.ext ?_)
  match a with
  | ⟨0, _⟩ => show win0_10.index t (0 : Fin 2) * 512 + 1 * k.val = k.val; omega
  | ⟨1, _⟩ => show win0_10.index t (1 : Fin 2) * 256 + 1 * j.val = J.val; omega

theorem blk_11 (t : Fin cfg0.N) (k : Fin 512) (j : Fin 256) (J : Fin 2048) (hJ : J.val = (min (t.val % 12) 7) * 256 + j.val) :
    (iblk m c 11 t : FVec Ideal S512x256 .bf16) (ix2 k j) = WX m c (ix3 0 k J) := by
  obtain ⟨a0, a1⟩ := place_11 t
  rw [← WX_at m c k J]
  refine congrArg (V m c main_v8) (funext fun a => Fin.ext ?_)
  match a with
  | ⟨0, _⟩ => show win0_11.index t (0 : Fin 2) * 512 + 1 * k.val = k.val; omega
  | ⟨1, _⟩ => show win0_11.index t (1 : Fin 2) * 256 + 1 * j.val = J.val; omega

theorem blk_12 (t : Fin cfg0.N) (k : Fin 2048) (j : Fin 512) (J : Fin 2048) (hJ : J.val = (t.val % 12 - 8) * 512 + j.val) :
    (iblk m c 12 t : FVec Ideal S2048x512 .bf16) (ix2 k j) = WO m c (ix3 0 k J) := by
  obtain ⟨a0, a1⟩ := place_12 t
  rw [← WO_at m c k J]
  refine congrArg (V m c main_v10) (funext fun a => Fin.ext ?_)
  match a with
  | ⟨0, _⟩ => show win0_12.index t (0 : Fin 2) * 2048 + 1 * k.val = k.val; omega
  | ⟨1, _⟩ => show win0_12.index t (1 : Fin 2) * 512 + 1 * j.val = J.val; omega

theorem blk_8 (t : Fin cfg0.N) (s : Fin 3) (k : Fin 256) (J : Fin 6144) (hJ : J.val = 2048 * s.val + min (t.val % 12) 7 * 256 + k.val) :
    (iblk m c 8 t : FVec Ideal S3x1x256 .f32) (ix3 s 0 k) = B m c (ix2 0 J) := by
  obtain ⟨a0, a1, a2⟩ := place_8 t
  rw [show J = ⟨2048 * s.val + (⟨min (t.val % 12) 7 * 256 + k.val, by omega⟩ : Fin 2048).val, by have := s.isLt; dsimp only; omega⟩ from Fin.ext (by dsimp only; omega), ← b_at m c s]
  refine congrArg (V m c main_v16) (funext fun a => Fin.ext ?_)
  match a with
  | ⟨0, _⟩ => show win0_8.index t (0 : Fin 3) * 3 + 1 * s.val = s.val; omega
  | ⟨1, _⟩ => show win0_8.index t (1 : Fin 3) * 1 + 1 * 0 = 0; omega
  | ⟨2, _⟩ => show win0_8.index t (2 : Fin 3) * 256 + 1 * k.val = min (t.val % 12) 7 * 256 + k.val; omega

theorem blk_13 (t : Fin cfg0.N) (k : Fin 2048) : (iblk m c 13 t : FVec Ideal S1x2048 .f32) (ix2 0 k) = G m c (ix2 0 k) := by
  obtain ⟨a0, a1⟩ := place_13 t
  rw [← g_at m c k]
  refine congrArg (V m c main_v12) (funext fun a => Fin.ext ?_)
  match a with
  | ⟨0, _⟩ => show win0_13.index t (0 : Fin 2) * 1 + 1 * 0 = 0; omega
  | ⟨1, _⟩ => show win0_13.index t (1 : Fin 2) * 2048 + 1 * k.val = k.val; omega

/-- The merged rows, their projection and the result as functions of the arguments. -/
def MA (R : Fin 8192) (J : Fin 2048) : EReal := Cert.Merge1k.merged (H m c) (C m c) (MX m c) (XM m c) (W m c) (B m c) (WC m c) (WD m c) (WX m c) R J
@[inherit_doc MA] def DA (R : Fin 8192) (d : Fin 2048) : EReal := Cert.Merge1k.down (H m c) (C m c) (MX m c) (XM m c) (W m c) (B m c) (WC m c) (WD m c) (WX m c) (WO m c) R d
@[inherit_doc MA] def OA : FVec Ideal ⟨2, ![8192, 2048]⟩ .f32 := fun i => Cert.Merge1k.out (H m c) (C m c) (MX m c) (XM m c) (W m c) (B m c) (WC m c) (WD m c) (WX m c) (WO m c) (X m c) (G m c) (i 0) (i 1)

theorem pt_val (n j : ℕ) (hn : n < 192) (hj : j < 12) : (pt n j).val = 12 * (n / 12) + j := by
  unfold pt at'
  dsimp only
  omega

/-- A step of the first eight stores the merged rows' run of columns. -/
theorem mrg_at (t : Fin cfg0.N) (ht : t.val % 12 < 8) (r : Fin 512) (k : Fin 256) (R : Fin 8192) (hR : R.val = 512 * (t.val / 12) + r.val) (J : Fin 2048) (hJ : J.val = t.val % 12 * 256 + k.val) :
    mrg m c t (ix3 0 r k) = MA m c R J := by
  unfold mrg MA Cert.Merge1k.merged Cert.Merge1k.gate
  refine (mpay_at _ _ _ _ _ _ _ _ _ _ _ r k).trans ?_
  refine congrArg₂ (· + ·) (congrArg₂ (· + ·) (congrArg₂ (· * ·) (congrArg Ideal.logistic (congrArg₂ (· + ·) ?_ ?_)) ?_) (congrArg₂ (· * ·) (congrArg Ideal.logistic (congrArg₂ (· + ·) ?_ ?_)) ?_))
    (congrArg₂ (· * ·) (congrArg Ideal.logistic (congrArg₂ (· + ·) ?_ ?_)) ?_)
  · exact Finset.sum_congr rfl fun j _ => congrArg₂ (· * ·) (blk_0 m c t r j R hR) (blk_5 m c t j k _ (by show 5120 + 2048 * 0 + J.val = _; omega))
  · exact blk_8 m c t 0 k _ (by show 2048 * 0 + J.val = 2048 * 0 + _ + _; omega)
  · exact Finset.sum_congr rfl fun j _ => congrArg₂ (· * ·) (blk_1 m c t r j R hR) (blk_9 m c t j k J (by omega))
  · exact Finset.sum_congr rfl fun j _ => congrArg₂ (· * ·) (blk_0 m c t r j R hR) (blk_6 m c t j k _ (by show 5120 + 2048 * 1 + J.val = _; omega))
  · exact blk_8 m c t 1 k _ (by show 2048 * 1 + J.val = 2048 * 1 + _ + _; omega)
  · exact Finset.sum_congr rfl fun j _ => congrArg₂ (· * ·) (blk_2 m c t r j R hR) (blk_10 m c t j k J (by omega))
  · exact Finset.sum_congr rfl fun j _ => congrArg₂ (· * ·) (blk_0 m c t r j R hR) (blk_7 m c t j k _ (by show 5120 + 2048 * 2 + J.val = _; omega))
  · exact blk_8 m c t 2 k _ (by show 2048 * 2 + J.val = 2048 * 2 + _ + _; omega)
  · exact Finset.sum_congr rfl fun j _ => congrArg₂ (· * ·) (blk_3 m c t r j R hR) (blk_11 m c t j k J (by omega))

/-- A step of the last four stores the projection's run of columns. -/
theorem zz_at (t : Fin cfg0.N) (ht : 8 ≤ t.val % 12) (r d : Fin 512) (R : Fin 8192) (hR : R.val = 512 * (t.val / 12) + r.val) (D : Fin 2048) (hD : D.val = (t.val % 12 - 8) * 512 + d.val) :
    zz m c t (ix3 0 r d) = DA m c R D := by
  have hN := lt_N t
  have e : ∀ (j : ℕ) (hj : j < 8) (k : Fin 256), mrg m c (pt t.val j) (ix3 0 r k) = MA m c R ⟨j * 256 + k.val, by omega⟩ := fun j hj k =>
    mrg_at m c (pt t.val j) (by rw [pt_val t.val j hN (by omega)]; omega) r k R (by rw [pt_val t.val j hN (by omega), hR]; omega) _ (by rw [pt_val t.val j hN (by omega)]; dsimp only; omega)
  unfold zz DA Cert.Merge1k.down
  refine (zpay_at _ _ _ _ _ _ _ _ _ r d (MA m c R) (e 0 (by decide)) (e 1 (by decide)) (e 2 (by decide)) (e 3 (by decide)) (e 4 (by decide)) (e 5 (by decide)) (e 6 (by decide)) (e 7 (by decide))).trans ?_
  exact Finset.sum_congr rfl fun J _ => congrArg (MA m c R J * ·) (blk_12 m c t J d D hD)

/-- The block written back at a block's last step. -/
theorem outv_at (t : Fin cfg0.N) (r : Fin 512) (d : Fin 2048) (R : Fin 8192) (hR : R.val = 512 * (t.val / 12) + r.val) :
    outv m c t (ix2 r d) = OA m c (ix2 R d) := by
  have hN := lt_N t
  have e : ∀ (j : ℕ) (hj : j < 4) (r k : Fin 512), zz m c (pt t.val (8 + j)) (ix3 0 r k) = DA m c ⟨512 * (t.val / 12) + r.val, by omega⟩ ⟨j * 512 + k.val, by omega⟩ := fun j hj r k =>
    zz_at m c (pt t.val (8 + j)) (by rw [pt_val t.val (8 + j) hN (by omega)]; omega) r k _ (by rw [pt_val t.val (8 + j) hN (by omega)]; dsimp only; omega) _
      (by rw [pt_val t.val (8 + j) hN (by omega)]; dsimp only; omega)
  unfold outv OA Cert.Merge1k.out
  refine (opay_at _ _ _ _ _ _ (fun r => DA m c ⟨512 * (t.val / 12) + r.val, by omega⟩) (e 0 (by decide)) (e 1 (by decide)) (e 2 (by decide)) (e 3 (by decide)) r d).trans ?_
  have er : (⟨512 * (t.val / 12) + r.val, by omega⟩ : Fin 8192) = R := Fin.ext hR.symm
  refine congrArg₂ (· + ·) (blk_4 m c t r d R hR) ?_
  rw [er]
  exact congrArg (fun z => rms (DA m c R) z d) (blk_13 m c t d)

theorem flush_14 : ∀ t : Fin cfg0.N, (cfg0.win 14).flush t = decide (t.val % 12 = 11) :=
  (by decide +kernel : ∀ t : Fin cfg0.N, (cfg0.win 14).flush t = decide (t.val % 12 = 11))

/-- Every index of the result lies in a written block. -/
theorem cover_14 (i : S8192x2048.Idx) : ∃ t : Fin cfg0.N, (cfg0.win 14).flush t = true ∧ i ∈ ((cfg0.win 14).blk t).view.set := by
  have h0 : (i 0).val < 8192 := (i 0).isLt
  have h1 : (i 1).val < 2048 := (i 1).isLt
  refine ⟨⟨12 * ((i 0).val / 512) + 11, lt_of_lt_of_eq (by omega) N_0.symm⟩, ?_, ?_⟩
  · rw [flush_14]
    exact decide_eq_true (by dsimp only; omega)
  · generalize ht : (⟨12 * ((i 0).val / 512) + 11, lt_of_lt_of_eq (by omega) N_0.symm⟩ : Fin cfg0.N) = t
    have hv : t.val = 12 * ((i 0).val / 512) + 11 := congrArg Fin.val ht.symm
    obtain ⟨a0, a1⟩ := place_14 t
    show i ∈ ((View.whole main_v17).slice (win0_14.rect t)).set
    rw [View.set_slice_whole, Rect.mem_set_unit]
    intro a
    match a with
    | ⟨0, _⟩ => show win0_14.index t (0 : Fin 2) * 512 ≤ (i 0).val ∧ (i 0).val < win0_14.index t (0 : Fin 2) * 512 + 512; omega
    | ⟨1, _⟩ => show win0_14.index t (1 : Fin 2) * 2048 ≤ (i 1).val ∧ (i 1).val < win0_14.index t (1 : Fin 2) * 2048 + 2048; omega

/-- The result array at the end of the run. -/
theorem final_14 : (dats m 0 c).arrAt 14 cfg0.N = OA m c := by
  refine (dats m 0 c).arrAt_eq_of_cover 14 _ (fun t hf => ?_) (cover_14)
  have hN := lt_N t
  obtain ⟨a0, a1⟩ := place_14 t
  show (cfg0.win 14).cut (grid0.coords t) ((dats m 0 c).after 14 t) = _
  rw [after_14]
  funext y
  have hy0 : (y 0).val < 512 := (y 0).isLt
  have hy1 : (y 1).val < 2048 := (y 1).isLt
  have e0 : (((cfg0.win 14).blk t).view.emb y 0).val = 512 * (t.val / 12) + (y 0).val := by
    show win0_14.index t (0 : Fin 2) * 512 + 1 * (y 0).val = _; omega
  have e1 : (((cfg0.win 14).blk t).view.emb y 1).val = (y 1).val := by
    show win0_14.index t (1 : Fin 2) * 2048 + 1 * (y 1).val = _; omega
  have ex : (cfg0.win 14).xinj (grid0.coords t) y = (ix2 ⟨(y 0).val, hy0⟩ ⟨(y 1).val, hy1⟩ : S512x2048.Idx) := by
    funext a
    match a with
    | ⟨0, _⟩ => rfl
    | ⟨1, _⟩ => rfl
  show outv m c t ((cfg0.win 14).xinj (grid0.coords t) y) = OA m c (((cfg0.win 14).blk t).view.emb y)
  rw [ex]
  refine (outv_at m c t _ _ ⟨512 * (t.val / 12) + (y 0).val, by omega⟩ rfl).trans ?_
  refine congrArg (OA m c) (funext fun a => Fin.ext ?_)
  match a with
  | ⟨0, _⟩ => exact e0.symm
  | ⟨1, _⟩ => exact e1.symm

variable (ρ : Dev nD → PrngReg)

/-- Every run ends with the result at the merge and the arguments as they began. -/
theorem run : θ_run defs (onTc (τ := τ) (main (F := Ideal))) ⟨m, fun _ => 0, ρ⟩ (fun r => ∀ c : Dev nD,
      r.2.mem ((c.tc : Thread nD τ).loc main_v17) = OA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 14).trans (final_14 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c)⟩) (run_main m ρ)

end Cert.MergeIdeal.Hand

end
-- ==== Proof.MergeRef.lean ====
/-
  The merge reference read at an index over the extended reals: its result is the merge's formula of its arguments.
-/
module

public import proofs.«01_k».proof.Proof.MergeSpec
public import proofs.«01_k».proof.Proof.Gen.MergeRefIdeal.Read

@[expose] public section

set_option maxRecDepth 16384

noncomputable section

open Idealize.ShloMosaic Idealize.ShloMosaic.TcCoe Idealize.SL.Sem

namespace Cert.Merge1k

open Cert.MergeRefIdeal Cert.MergeRefIdeal.Read

/-- The gates' products with their biases, before the logistic. -/
theorem ref_lin (h : FVec Ideal ⟨2, ![8192, 2048]⟩ .bf16) (w : FVec Ideal ⟨3, ![1, 2048, 11264]⟩ .f32) (b : FVec Ideal ⟨2, ![1, 6144]⟩ .f32) (R : Fin 8192) (J : Fin 6144) :
    val_main_v8 (F := Ideal) h w b (ix2 R J) = (∑ k : Fin 2048, h (ix2 R k) * w (ix3 0 k ⟨5120 + J.val, by omega⟩)) + b (ix2 0 J) := by
  pointwise! [val_main_v8, val_main_v7, val_main_v6, val_main_v5, val_main_v4, val_main_v3, val_main_v2, val_main_v1]

/-- The reference's gates. -/
theorem ref_act (h : FVec Ideal ⟨2, ![8192, 2048]⟩ .bf16) (w : FVec Ideal ⟨3, ![1, 2048, 11264]⟩ .f32) (b : FVec Ideal ⟨2, ![1, 6144]⟩ .f32) (R : Fin 8192) (J : Fin 6144) :
    val_main_v14 (F := Ideal) h w b (ix2 R J) = Ideal.logistic (val_main_v8 (F := Ideal) h w b (ix2 R J)) := by
  unfold Ideal.logistic
  unfold val_main_v14 val_main_v12 val_main_v10 val_main_v9
  generalize val_main_v8 (F := Ideal) h w b = a
  pointwise! [val_main_v13, val_main_v11, val_main_cst, val_main_cst_0]

/-- The reference's gates by branch. -/
theorem ref_gate (h : FVec Ideal ⟨2, ![8192, 2048]⟩ .bf16) (w : FVec Ideal ⟨3, ![1, 2048, 11264]⟩ .f32) (b : FVec Ideal ⟨2, ![1, 6144]⟩ .f32) (s : Fin 3) (R : Fin 8192) (J : Fin 2048) :
    val_main_v15 (F := Ideal) h w b (ix3 R s J) = gate h w b s R J := by
  have hs := s.isLt
  refine (val_main_v15_apply (F := Ideal) h w b (ix3 R s J)).trans ((congrArg (val_main_v14 (F := Ideal) h w b) (?_ : _ = ix2 R ⟨2048 * s.val + J.val, by omega⟩)).trans
    ((ref_act h w b R ⟨2048 * s.val + J.val, by omega⟩).trans (congrArg Ideal.logistic ((ref_lin h w b R ⟨2048 * s.val + J.val, by omega⟩).trans ?_))))
  · refine funext fun a => Fin.ext ?_
    match a with
    | ⟨0, _⟩ => show ((R.val * 3 + s.val) * 2048 + J.val) / 6144 = R.val; omega
    | ⟨1, _⟩ => show ((R.val * 3 + s.val) * 2048 + J.val) % 6144 = 2048 * s.val + J.val; omega
  · refine congrArg (· + _) (Finset.sum_congr rfl fun k _ => congrArg (_ * w ·) (funext fun a => Fin.ext ?_))
    match a with
    | ⟨0, _⟩ => rfl
    | ⟨1, _⟩ => rfl
    | ⟨2, _⟩ => show 5120 + (2048 * s.val + J.val) = 5120 + 2048 * s.val + J.val; omega

/-- Branch 0's gate. -/
theorem ref_gate_0 (h : FVec Ideal ⟨2, ![8192, 2048]⟩ .bf16) (w : FVec Ideal ⟨3, ![1, 2048, 11264]⟩ .f32) (b : FVec Ideal ⟨2, ![1, 6144]⟩ .f32) (R : Fin 8192) (J : Fin 2048) :
    val_main_v28 (F := Ideal) h w b (ix2 R J) = gate h w b 0 R J := by
  rw [← ref_gate]
  unfold val_main_v28 val_main_v27
  generalize val_main_v15 (F := Ideal) h w b = a
  pointwise!

/-- Branch 1's gate. -/
theorem ref_gate_1 (h : FVec Ideal ⟨2, ![8192, 2048]⟩ .bf16) (w : FVec Ideal ⟨3, ![1, 2048, 11264]⟩ .f32) (b : FVec Ideal ⟨2, ![1, 6144]⟩ .f32) (R : Fin 8192) (J : Fin 2048) :
    val_main_v31 (F := Ideal) h w b (ix2 R J) = gate h w b 1 R J := by
  rw [← ref_gate]
  unfold val_main_v31 val_main_v30
  generalize val_main_v15 (F := Ideal) h w b = a
  pointwise!

/-- Branch 2's gate. -/
theorem ref_gate_2 (h : FVec Ideal ⟨2, ![8192, 2048]⟩ .bf16) (w : FVec Ideal ⟨3, ![1, 2048, 11264]⟩ .f32) (b : FVec Ideal ⟨2, ![1, 6144]⟩ .f32) (R : Fin 8192) (J : Fin 2048) :
    val_main_v35 (F := Ideal) h w b (ix2 R J) = gate h w b 2 R J := by
  rw [← ref_gate]
  unfold val_main_v35 val_main_v34
  generalize val_main_v15 (F := Ideal) h w b = a
  pointwise!

/-- The first branch's product. -/
theorem ref_c (c : FVec Ideal ⟨2, ![8192, 1024]⟩ .bf16) (wc : FVec Ideal ⟨3, ![1, 1024, 2048]⟩ .f32) (R : Fin 8192) (J : Fin 2048) :
    val_main_v18 (F := Ideal) c wc (ix2 R J) = ∑ k : Fin 1024, c (ix2 R k) * wc (ix3 0 k J) := by
  pointwise! [val_main_v18, val_main_v17, val_main_v16]

/-- The second branch's product. -/
theorem ref_d (mx : FVec Ideal S4x2048x512 .bf16) (wd : FVec Ideal ⟨3, ![1, 512, 2048]⟩ .f32) (R : Fin 8192) (J : Fin 2048) :
    val_main_v22 (F := Ideal) mx wd (ix2 R J) = ∑ k : Fin 512, val_main_v19 (F := Ideal) mx (ix2 R k) * wd (ix3 0 k J) := by
  unfold val_main_v22 val_main_v20
  generalize val_main_v19 (F := Ideal) mx = y
  pointwise! [val_main_v21]

/-- The third branch's product. -/
theorem ref_x (xm : FVec Ideal S4x2048x512 .bf16) (wx : FVec Ideal ⟨3, ![1, 512, 2048]⟩ .f32) (R : Fin 8192) (J : Fin 2048) :
    val_main_v26 (F := Ideal) xm wx (ix2 R J) = ∑ k : Fin 512, val_main_v23 (F := Ideal) xm (ix2 R k) * wx (ix3 0 k J) := by
  unfold val_main_v26 val_main_v24
  generalize val_main_v23 (F := Ideal) xm = y
  pointwise! [val_main_v25]

/-- The reference's gated sum. -/
theorem ref_merged (h : FVec Ideal ⟨2, ![8192, 2048]⟩ .bf16) (c : FVec Ideal ⟨2, ![8192, 1024]⟩ .bf16) (mx xm : FVec Ideal S4x2048x512 .bf16) (w : FVec Ideal ⟨3, ![1, 2048, 11264]⟩ .f32) (b : FVec Ideal ⟨2, ![1, 6144]⟩ .f32)
    (wc : FVec Ideal ⟨3, ![1, 1024, 2048]⟩ .f32) (wd wx : FVec Ideal ⟨3, ![1, 512, 2048]⟩ .f32) (R : Fin 8192) (J : Fin 2048) :
    val_main_v37 (F := Ideal) h c mx xm w b wc wd wx (ix2 R J) = merged h c (val_main_v19 (F := Ideal) mx) (val_main_v23 (F := Ideal) xm) w b wc wd wx R J := by
  unfold merged
  rw [← ref_gate_0, ← ref_gate_1, ← ref_gate_2, ← ref_c, ← ref_d, ← ref_x]
  rfl

/-- The reference's projection. -/
theorem ref_down (h : FVec Ideal ⟨2, ![8192, 2048]⟩ .bf16) (c : FVec Ideal ⟨2, ![8192, 1024]⟩ .bf16) (mx xm : FVec Ideal S4x2048x512 .bf16) (w : FVec Ideal ⟨3, ![1, 2048, 11264]⟩ .f32) (b : FVec Ideal ⟨2, ![1, 6144]⟩ .f32)
    (wc : FVec Ideal ⟨3, ![1, 1024, 2048]⟩ .f32) (wd wx : FVec Ideal ⟨3, ![1, 512, 2048]⟩ .f32) (wo : FVec Ideal ⟨3, ![1, 2048, 2048]⟩ .f32) (R : Fin 8192) (d : Fin 2048) :
    val_main_v39 (F := Ideal) h c mx xm w b wc wd wx wo (ix2 R d) = down h c (val_main_v19 (F := Ideal) mx) (val_main_v23 (F := Ideal) xm) w b wc wd wx wo R d := by
  unfold down
  have e := fun J => ref_merged h c mx xm w b wc wd wx R J
  revert e
  unfold val_main_v39 val_main_v38
  generalize val_main_v37 (F := Ideal) h c mx xm w b wc wd wx = y
  intro e
  simp only [← e]
  pointwise!

/-- The reference's result. -/
theorem ref_out (h : FVec Ideal ⟨2, ![8192, 2048]⟩ .bf16) (c : FVec Ideal ⟨2, ![8192, 1024]⟩ .bf16) (mx xm : FVec Ideal S4x2048x512 .bf16) (w : FVec Ideal ⟨3, ![1, 2048, 11264]⟩ .f32) (b : FVec Ideal ⟨2, ![1, 6144]⟩ .f32)
    (wc : FVec Ideal ⟨3, ![1, 1024, 2048]⟩ .f32) (wd wx : FVec Ideal ⟨3, ![1, 512, 2048]⟩ .f32) (wo : FVec Ideal ⟨3, ![1, 2048, 2048]⟩ .f32)
    (x : FVec Ideal S4x2048x2048 .f32) (g : FVec Ideal ⟨2, ![1, 2048]⟩ .f32) (R : Fin 8192) (d : Fin 2048) :
    val_main_v54 (F := Ideal) h c mx xm x w b wc wd wx wo g (ix2 R d)
      = out h c (val_main_v19 (F := Ideal) mx) (val_main_v23 (F := Ideal) xm) w b wc wd wx wo (val_main_v0 (F := Ideal) x) g R d := by
  unfold out
  have e : (fun j => val_main_v39 (F := Ideal) h c mx xm w b wc wd wx wo (ix2 R j)) = down h c (val_main_v19 (F := Ideal) mx) (val_main_v23 (F := Ideal) xm) w b wc wd wx wo R :=
    funext fun j => ref_down h c mx xm w b wc wd wx wo R j
  rw [← e]
  unfold Cert.Ffn1k.rms
  unfold val_main_v54 val_main_v53 val_main_v50 val_main_v49 val_main_v48 val_main_v47 val_main_v45 val_main_v43 val_main_v42 val_main_v41
  generalize val_main_v39 (F := Ideal) h c mx xm w b wc wd wx wo = f
  generalize val_main_v0 (F := Ideal) x = y
  pointwise! [val_main_v40, val_main_v44, val_main_v46, val_main_v51, val_main_v52, val_main_cst_1, val_main_cst_2, val_main_cst_3]

end Cert.Merge1k

end
-- ==== Proof.MergeClaim.lean ====
/-
  The merge claim: over the extended reals the kernel and the reference compute the same array from the same arguments.
-/
module

public import proofs.«01_k».proof.Defs
public import proofs.«01_k».proof.Proof.MergeValue
public import proofs.«01_k».proof.Proof.MergeRef
public import Idealize.ShloMosaic.Lib.Quiescent

@[expose] public section

set_option maxRecDepth 16384

noncomputable section

open Idealize.ShloMosaic Idealize.ShloMosaic.TcCoe Idealize.SL.Sem

namespace Cert.Merge1k

open Cert.MergeRefIdeal Cert.MergeRefIdeal.Read

/-- The reference leaves its arguments and declares no semaphore. -/
theorem ref_frame : Cert.quiescent_MergeRefIdeal (hMergeRefIdeal := Cert.MergeRefIdeal.Gen.facts) := fun m ρ _ =>
  (θ_run Cert.MergeRefIdeal.defs _ _).mono (fun r h => ⟨fun c => (h c).2, Idealize.ShloMosaic.sem_eq_zero_of_no_sems (by decide) r.2⟩)
    (Cert.MergeRefIdeal.Value.run (F := Ideal) m ρ)

/-- The kernel and the reference agree on equal arguments. -/
theorem algebraic : Cert.algebraic_MergeIdeal_MergeRefIdeal (hMergeIdeal := Cert.MergeIdeal.Gen.facts) (hMergeRefIdeal := Cert.MergeRefIdeal.Gen.facts) := by
  intro m ρ m' ρ' _ hag
  refine ⟨fun c => Cert.MergeIdeal.Hand.OA m c, Cert.MergeIdeal.Hand.run m ρ, ?_⟩
  refine (θ_run _ _ _).mono (fun _ h c => ?_) (Cert.MergeRefIdeal.Value.run (F := Ideal) m' ρ')
  obtain ⟨e0, e1, e2, e3, e4, e5, e6, e7, e8, e9, e10, e11⟩ := hag c
  refine ⟨(h c).1.trans ?_, (h c).2⟩
  refine (val_main_v54_eq (F := Ideal) _ _).trans ?_
  rw [e0, e1, e2, e3, e4, e5, e6, e7, e8, e9, e10, e11]
  exact Cert.Rows.ext2 fun R d => ref_out _ _ _ _ _ _ _ _ _ _ _ _ R d

end Cert.Merge1k

end
-- ==== Proof.AttnHead.lean ====
/-
  One head of the sample attention as the kernel computes it, written once: the scores of a group's cached keys and of
  the new key, their common maximum, the weighted sums over the three groups, and the softmax over the memory.
-/
module

public import proofs.«01_k».proof.Proof.Gen.AttnSampleIdeal.Value

@[expose] public section

set_option maxRecDepth 16384

noncomputable section

open Idealize.ShloMosaic Idealize.ShloMosaic.TcCoe Idealize.SL.Sem Idealize.ShloMosaic.Tactic

namespace Cert.AttnSampleIdeal.Head

open Cert.AttnSampleIdeal Cert.AttnSampleIdeal.Gen

variable {F : FTy → Type} [FloatOps F]

/-- A row as a plane of one row. -/
def flat (q : Vec F S1x1x128 .f32) : FVec F S1x128 .f32 :=
  shapeCast S1x128 q shapeCasts_S1x1x128_S1x128

/-- The scores of one group's 128 cached keys, with the distance's penalty. -/
def scores (q : Vec F S1x1x128 .f32) (ck : Vec F S1x128x128 .f32) (slope : Elt F .f32) (dil : BitVec 32) : FVec F S128x1 .f32 :=
  subf
    (mulf
      (shapeCast S128x1
        (multiReduction .add [1] S128
          (mulf (shapeCast S128x128 ck shapeCasts_S1x128x128_S128x128) (broadcastTo S128x128 (flat q) broadcasts_S1x128_S128x128))
          0x00000000#32 reduces_S128x128_S128 (.inl rfl) rfl)
        shapeCasts_S128_S128x1)
      (broadcast S128x1 (Scalar.ofBits .f32 0x3DB504F3#32)))
    (mulf (broadcast S128x1 slope) (mulf k0_pay1 (broadcast S128x1 (Scalar.ofBits .f32 dil))))

/-- The score of the new key. -/
def fresh (kn q : Vec F S1x1x128 .f32) : FVec F S1x1 .f32 :=
  mulf
    (shapeCast S1x1
      (multiReduction .add [1] S1 (mulf (flat kn) (flat q)) 0x00000000#32 reduces_S1x128_S1 (.inl rfl) rfl)
      shapeCasts_S1_S1x1)
    (broadcast S1x1 (Scalar.ofBits .f32 0x3DB504F3#32))

/-- One group's maximum. -/
def peak (s : FVec F S128x1 .f32) (n : FVec F S1x1 .f32) : FVec F S1x1 .f32 :=
  maximumf n (shapeCast S1x1 (multiReduction .maximumf [0] S1 s 0xFF800000#32 reduces_S128x1_S1 (.inl rfl) rfl) shapeCasts_S1_S1x1)

/-- The maximum over the three groups. -/
def top (s0 s1 s2 : FVec F S128x1 .f32) (n0 n1 n2 : FVec F S1x1 .f32) : FVec F S1x1 .f32 :=
  maximumf (maximumf (maximumf n0 (peak s0 n0)) (peak s1 n1)) (peak s2 n2)

/-- The weights of one group's cached keys before the division. -/
def weights (s : FVec F S128x1 .f32) (t : FVec F S1x1 .f32) : FVec F S128x1 .f32 :=
  exp (subf s (broadcastTo S128x1 t broadcasts_S1x1_S128x1))

/-- The weight of the new key before the division. -/
def weight (n t : FVec F S1x1 .f32) : FVec F S1x1 .f32 :=
  exp (subf n t)

/-- The numerator with one group's values added. -/
def num (acc : FVec F S1x128 .f32) (s : FVec F S128x1 .f32) (n t : FVec F S1x1 .f32) (cv : Vec F S1x128x128 .f32) (vn : Vec F S1x1x128 .f32) :
    FVec F S1x128 .f32 :=
  addf
    (addf acc
      (shapeCast S1x128
        (multiReduction .add [0] S128
          (mulf (broadcastTo S128x128 (weights s t) broadcasts_S128x1_S128x128) (shapeCast S128x128 cv shapeCasts_S1x128x128_S128x128))
          0x00000000#32 reduces_S128x128_S128_2 (.inl rfl) rfl)
        shapeCasts_S128_S1x128))
    (mulf (broadcastTo S1x128 (weight n t) broadcasts_S1x1_S1x128) (flat vn))

/-- The denominator with one group's weights added. -/
def den (acc : FVec F S1x1 .f32) (s : FVec F S128x1 .f32) (n t : FVec F S1x1 .f32) : FVec F S1x1 .f32 :=
  addf
    (addf acc
      (shapeCast S1x1 (multiReduction .add [0] S1 (weights s t) 0x00000000#32 reduces_S128x1_S1 (.inl rfl) rfl) shapeCasts_S1_S1x1))
    (weight n t)

/-- One head's mixture of the values over the three groups, from the scores. -/
def blend (s0 s1 s2 : FVec F S128x1 .f32) (n0 n1 n2 t : FVec F S1x1 .f32) (v0 v1 v2 : Vec F S1x128x128 .f32) (vn : Vec F S1x1x128 .f32) :
    FVec F S1x1x128 .f32 :=
  shapeCast S1x1x128
    (divf
      (num (num (num (broadcast S1x128 (Scalar.ofBits .f32 0x00000000#32)) s0 n0 t v0 vn) s1 n1 t v1 vn) s2 n2 t v2 vn)
      (broadcastTo S1x128
        (den (den (den (broadcast S1x1 (Scalar.ofBits .f32 0x00000000#32)) s0 n0 t) s1 n1 t) s2 n2 t)
        broadcasts_S1x1_S1x128))
    shapeCasts_S1x128_S1x1x128

/-- One head's mixture over the three groups, from its queries, keys and values. -/
def mix (q0 q1 q2 kn vn : Vec F S1x1x128 .f32) (k0 k1 k2 v0 v1 v2 : Vec F S1x128x128 .f32) (l0 l1 l2 : Elt F .f32) : FVec F S1x1x128 .f32 :=
  blend (scores q0 k0 l0 0x3F800000#32) (scores q1 k1 l1 0x40800000#32) (scores q2 k2 l2 0x41800000#32)
    (fresh kn q0) (fresh kn q1) (fresh kn q2)
    (top (scores q0 k0 l0 0x3F800000#32) (scores q1 k1 l1 0x40800000#32) (scores q2 k2 l2 0x41800000#32)
      (fresh kn q0) (fresh kn q1) (fresh kn q2))
    v0 v1 v2 vn

/-- The scores of the 256 memory keys. -/
def memScores (q : Vec F S1x1x128 .f32) (mk : Vec F S1x256x128 .f32) : FVec F S256x1 .f32 :=
  mulf
    (shapeCast S256x1
      (multiReduction .add [1] S256
        (mulf (shapeCast S256x128 mk shapeCasts_S1x256x128_S256x128) (broadcastTo S256x128 (flat q) broadcasts_S1x128_S256x128))
        0x00000000#32 reduces_S256x128_S256 (.inl rfl) rfl)
      shapeCasts_S256_S256x1)
    (broadcast S256x1 (Scalar.ofBits .f32 0x3DB504F3#32))

/-- The weights of the memory keys before the division. -/
def memWeights (s : FVec F S256x1 .f32) : FVec F S256x1 .f32 :=
  exp (subf s
    (broadcastTo S256x1
      (shapeCast S1x1 (multiReduction .maximumf [0] S1 s 0xFF800000#32 reduces_S256x1_S1 (.inl rfl) rfl) shapeCasts_S1_S1x1)
      broadcasts_S1x1_S256x1))

/-- One head's mixture of the memory's values. -/
def memMix (q : Vec F S1x1x128 .f32) (mk mv : Vec F S1x256x128 .f32) : FVec F S1x1x128 .f32 :=
  shapeCast S1x1x128
    (divf
      (shapeCast S1x128
        (multiReduction .add [0] S128
          (mulf (broadcastTo S256x128 (memWeights (memScores q mk)) broadcasts_S256x1_S256x128) (shapeCast S256x128 mv shapeCasts_S1x256x128_S256x128))
          0x00000000#32 reduces_S256x128_S128 (.inl rfl) rfl)
        shapeCasts_S128_S1x128)
      (broadcastTo S1x128
        (shapeCast S1x1 (multiReduction .add [0] S1 (memWeights (memScores q mk)) 0x00000000#32 reduces_S256x1_S1 (.inl rfl) rfl) shapeCasts_S1_S1x1)
        broadcasts_S1x1_S1x128))
    shapeCasts_S1x128_S1x1x128

/-- The trip's row of the block. -/
abbrev row (k : Nat) : Nat := BitVec.toNat (Scalar.indexCast (Scf.iv 0#32 1#32 k))

/-- The trip's row is the trip's number. -/
theorem row_eq : ∀ k : Fin k0_t1_loop.trips, row k.val = k.val := by decide +kernel

end Cert.AttnSampleIdeal.Head
end
-- ==== Proof.AttnTrip.lean ====
/-
  What one trip of the sample attention's loop writes: the four heads of one sequence, for each result.
-/
module

public import proofs.«01_k».proof.Proof.AttnHead

@[expose] public section

set_option maxRecDepth 16384

noncomputable section

open Idealize.ShloMosaic Idealize.ShloMosaic.TcCoe Idealize.SL.Sem Idealize.ShloMosaic.Tactic

namespace Cert.AttnSampleIdeal.Head

open Cert.AttnSampleIdeal Cert.AttnSampleIdeal.Gen

variable {F : FTy → Type} [FloatOps F]

/-- The trips of the loop stay below four. -/
theorem trip_lt : ∀ k : Fin k0_t1_loop.trips, row k.val < 4 := by decide +kernel

/-- A cut of `n` rows and 128 columns lies in the block. -/
theorem cut_in (a n w : Nat) (k : Fin k0_t1_loop.trips) (c : Nat) (hn : n ≤ a) (hc : c + 128 ≤ w) :
    ∀ d : Fin 3, ![row k.val, 0, c] d + (![1, n, 128] : Fin 3 → Nat) d ≤ (![4, a, w] : Fin 3 → Nat) d := by
  intro d
  have := trip_lt k
  match d with
  | ⟨0, _⟩ => show row k.val + 1 ≤ 4; omega
  | ⟨1, _⟩ => show 0 + n ≤ a; omega
  | ⟨2, _⟩ => exact hc

/-- A head's part of a query row. -/
abbrev cutQ (x : Vec F S4x1x1536 .f32) (k : Fin k0_t1_loop.trips) (c : Nat) (hc : c + 128 ≤ 1536) : Vec F S1x1x128 .f32 :=
  View.ld x (Rect.unit (s := S4x1x1536) ![row k.val, 0, c] S1x1x128.size (cut_in 1 1 1536 k c (le_refl _) hc))

/-- A head's part of a row. -/
abbrev cutR (x : Vec F S4x1x512 .f32) (k : Fin k0_t1_loop.trips) (c : Nat) (hc : c + 128 ≤ 512) : Vec F S1x1x128 .f32 :=
  View.ld x (Rect.unit (s := S4x1x512) ![row k.val, 0, c] S1x1x128.size (cut_in 1 1 512 k c (le_refl _) hc))

/-- A head's part of a sequence's cached rows. -/
abbrev cutC (x : Vec F S4x128x512 .f32) (k : Fin k0_t1_loop.trips) (c : Nat) (hc : c + 128 ≤ 512) : Vec F S1x128x128 .f32 :=
  View.ld x (Rect.unit (s := S4x128x512) ![row k.val, 0, c] S1x128x128.size (cut_in 128 128 512 k c (le_refl _) hc))

/-- A head's part of a sequence's memory rows. -/
abbrev cutM (x : Vec F S4x256x512 .f32) (k : Fin k0_t1_loop.trips) (c : Nat) (hc : c + 128 ≤ 512) : Vec F S1x256x128 .f32 :=
  View.ld x (Rect.unit (s := S4x256x512) ![row k.val, 0, c] S1x256x128.size (cut_in 256 256 512 k c (le_refl _) hc))

/-- A slope lies in the table. -/
theorem slope_in (g h : Nat) (hg : g < 3) (hh : h < 4) : ∀ d : Fin 2, ![g, h] d + (![1, 1] : Fin 2 → Nat) d ≤ (![3, 4] : Fin 2 → Nat) d := by
  intro d
  match d with
  | ⟨0, _⟩ => exact hg
  | ⟨1, _⟩ => exact hh

/-- The slope of a group's head. -/
abbrev slope (x : Vec F S3x4 .f32) (g h : Nat) (hg : g < 3) (hh : h < 4) : Elt F .f32 :=
  View.ld x (Rect.unit (s := S3x4) ![g, h] S1x1.size (slope_in g h hg hh)) (Shape.Idx.first (numel1_S1x1.symm ▸ Nat.one_pos : 0 < S1x1.numel))

/-- What the trip writes for a head of the dilated attention. -/
def mixPiece (k : Fin k0_t1_loop.trips) (x0 : Vec F S3x4 .f32) (x1 : Vec F S4x1x1536 .f32) (x2 x3 : Vec F S4x1x512 .f32)
    (x5 x6 x7 x8 x9 x10 : Vec F S4x128x512 .f32) (h : Nat) (hh : h < 4) : View.Piece (Elt F) S4x1x512 .f32 :=
  ⟨Rect.unit (s := S4x1x512) ![row k.val, 0, 128 * h] S1x1x128.size (cut_in 1 1 512 k (128 * h) (le_refl _) (by omega)),
    mix (cutQ x1 k (128 * h) (by omega)) (cutQ x1 k (128 * h + 512) (by omega)) (cutQ x1 k (128 * h + 1024) (by omega))
      (cutR x2 k (128 * h) (by omega)) (cutR x3 k (128 * h) (by omega))
      (cutC x5 k (128 * h) (by omega)) (cutC x6 k (128 * h) (by omega)) (cutC x7 k (128 * h) (by omega))
      (cutC x8 k (128 * h) (by omega)) (cutC x9 k (128 * h) (by omega)) (cutC x10 k (128 * h) (by omega))
      (slope x0 0 h (by omega) hh) (slope x0 1 h (by omega) hh) (slope x0 2 h (by omega) hh)⟩

/-- What the trip writes for a head of the attention to the memory. -/
def memPiece (k : Fin k0_t1_loop.trips) (x4 : Vec F S4x1x512 .f32) (x11 x12 : Vec F S4x256x512 .f32) (h : Nat) (hh : h < 4) :
    View.Piece (Elt F) S4x1x512 .f32 :=
  ⟨Rect.unit (s := S4x1x512) ![row k.val, 0, 128 * h] S1x1x128.size (cut_in 1 1 512 k (128 * h) (le_refl _) (by omega)),
    memMix (cutR x4 k (128 * h) (by omega)) (cutM x11 k (128 * h) (by omega)) (cutM x12 k (128 * h) (by omega))⟩

variable (c : Dev nD) (i : grid0.Coords) (arg1 : Memref sig .tc .smem S3x4 .f32) (harg1 : arg1.IsWhole) (arg2 : Memref sig .tc .vmem S4x1x1536 .f32) (harg2 : arg2.IsWhole) (arg3 : Memref sig .tc .vmem S4x1x512 .f32) (harg3 : arg3.IsWhole) (arg4 : Memref sig .tc .vmem S4x1x512 .f32) (harg4 : arg4.IsWhole) (arg5 : Memref sig .tc .vmem S4x1x512 .f32) (harg5 : arg5.IsWhole) (arg6 : Memref sig .tc .vmem S4x128x512 .f32) (harg6 : arg6.IsWhole) (arg7 : Memref sig .tc .vmem S4x128x512 .f32) (harg7 : arg7.IsWhole) (arg8 : Memref sig .tc .vmem S4x128x512 .f32) (harg8 : arg8.IsWhole) (arg9 : Memref sig .tc .vmem S4x128x512 .f32) (harg9 : arg9.IsWhole) (arg10 : Memref sig .tc .vmem S4x128x512 .f32) (harg10 : arg10.IsWhole) (arg11 : Memref sig .tc .vmem S4x128x512 .f32) (harg11 : arg11.IsWhole) (arg12 : Memref sig .tc .vmem S4x256x512 .f32) (harg12 : arg12.IsWhole) (arg13 : Memref sig .tc .vmem S4x256x512 .f32) (harg13 : arg13.IsWhole) (arg14 : Memref sig .tc .vmem S4x1x512 .f32) (harg14 : arg14.IsWhole) (arg15 : Memref sig .tc .vmem S4x1x512 .f32) (harg15 : arg15.IsWhole)
  (x0 : Vec F S3x4 .f32) (x1 : Vec F S4x1x1536 .f32) (x2 : Vec F S4x1x512 .f32) (x3 : Vec F S4x1x512 .f32) (x4 : Vec F S4x1x512 .f32) (x5 : Vec F S4x128x512 .f32) (x6 : Vec F S4x128x512 .f32) (x7 : Vec F S4x128x512 .f32) (x8 : Vec F S4x128x512 .f32) (x9 : Vec F S4x128x512 .f32) (x10 : Vec F S4x128x512 .f32) (x11 : Vec F S4x256x512 .f32) (x12 : Vec F S4x256x512 .f32)

/-- A trip writes the four heads of the dilated attention. -/
theorem trip_mix (k : Fin k0_t1_loop.trips) :
    (tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (harg1.unread x0) (harg2.unread x1) (harg3.unread x2) (harg4.unread x3) (harg5.unread x4) (harg6.unread x5) (harg7.unread x6) (harg8.unread x7) (harg9.unread x8) (harg10.unread x9) (harg11.unread x10) (harg12.unread x11) (harg13.unread x12) k).1 =
      [mixPiece k x0 x1 x2 x3 x5 x6 x7 x8 x9 x10 3 (by decide), mixPiece k x0 x1 x2 x3 x5 x6 x7 x8 x9 x10 2 (by decide),
        mixPiece k x0 x1 x2 x3 x5 x6 x7 x8 x9 x10 1 (by decide), mixPiece k x0 x1 x2 x3 x5 x6 x7 x8 x9 x10 0 (by decide)] := by
  unfold tripL_k0_t1 trip_k0_t1
  dsimp only
  sl_unfold_words
  simp only [View.readAt_eq_ld, Memref.IsWhole.read_unread]
  rfl

/-- A trip writes the four heads of the attention to the memory. -/
theorem trip_mem (k : Fin k0_t1_loop.trips) :
    (tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (harg1.unread x0) (harg2.unread x1) (harg3.unread x2) (harg4.unread x3) (harg5.unread x4) (harg6.unread x5) (harg7.unread x6) (harg8.unread x7) (harg9.unread x8) (harg10.unread x9) (harg11.unread x10) (harg12.unread x11) (harg13.unread x12) k).2 =
      [memPiece k x4 x11 x12 3 (by decide), memPiece k x4 x11 x12 2 (by decide),
        memPiece k x4 x11 x12 1 (by decide), memPiece k x4 x11 x12 0 (by decide)] := by
  unfold tripL_k0_t1 trip_k0_t1
  dsimp only
  sl_unfold_words
  simp only [View.readAt_eq_ld, Memref.IsWhole.read_unread]
  rfl

end Cert.AttnSampleIdeal.Head
end
-- ==== Proof.AttnMath.lean ====
/-
  The mathematics of the sample attention over the extended reals: a softmax over three groups taken at one maximum is
  the three groups' own softmaxes weighted by their sums.
-/
module

public import Idealize.ShloMosaic.PureOps.Ideal
public import Idealize.ShloMosaic.PureOps.Ideal.Laws

@[expose] public section

noncomputable section

open Idealize.ShloMosaic

namespace Cert.Attn1k

/-- An extended real that is a real number. -/
def IsReal (x : EReal) : Prop := ∃ r : ℝ, x = (r : EReal)

/-- A real number is one. -/
theorem real_coe (r : ℝ) : IsReal (r : EReal) := ⟨r, rfl⟩

/-- Zero is a real number. -/
theorem real_zero : IsReal 0 := ⟨0, rfl⟩

/-- A sum of two real numbers is one. -/
theorem real_add {x y : EReal} (hx : IsReal x) (hy : IsReal y) : IsReal (x + y) := by
  obtain ⟨a, rfl⟩ := hx
  obtain ⟨b, rfl⟩ := hy
  exact ⟨a + b, (EReal.coe_add a b).symm⟩

/-- A difference of two real numbers is one. -/
theorem real_sub {x y : EReal} (hx : IsReal x) (hy : IsReal y) : IsReal (x - y) := by
  obtain ⟨a, rfl⟩ := hx
  obtain ⟨b, rfl⟩ := hy
  exact ⟨a - b, (EReal.coe_sub a b).symm⟩

/-- A product of two real numbers is one. -/
theorem real_mul {x y : EReal} (hx : IsReal x) (hy : IsReal y) : IsReal (x * y) := by
  obtain ⟨a, rfl⟩ := hx
  obtain ⟨b, rfl⟩ := hy
  exact ⟨a * b, (EReal.coe_mul a b).symm⟩

/-- The greater of two real numbers is one. -/
theorem real_max {x y : EReal} (hx : IsReal x) (hy : IsReal y) : IsReal (max x y) := by
  rcases max_choice x y with h | h <;> rw [h] <;> assumption

/-- A finite sum of real numbers is one. -/
theorem real_sum {ι : Type*} (s : Finset ι) (f : ι → EReal) (h : ∀ i, IsReal (f i)) : IsReal (∑ i ∈ s, f i) := by
  classical
  induction s using Finset.induction_on with
  | empty => simpa using real_zero
  | insert a s ha ih => rw [Finset.sum_insert ha]; exact real_add (h a) ih

/-- A maximum started below everything, over real numbers, is the start or a real number. -/
theorem real_fold {ι : Type*} (s : Finset ι) (b : EReal) (f : ι → EReal) (hb : b = ⊥) (h : ∀ i, IsReal (f i)) :
    Finset.fold max b f s = ⊥ ∨ IsReal (Finset.fold max b f s) := by
  classical
  induction s using Finset.induction_on with
  | empty => left; simpa using hb
  | insert a s ha ih =>
    right
    rw [Finset.fold_insert ha]
    rcases ih with e | e
    · rw [e, max_eq_left bot_le]; exact h a
    · exact real_max (h a) e

/-- The greater of a real number and such a maximum is a real number. -/
theorem real_max_fold {ι : Type*} (s : Finset ι) (b x : EReal) (f : ι → EReal) (hb : b = ⊥) (hx : IsReal x) (h : ∀ i, IsReal (f i)) :
    IsReal (max x (Finset.fold max b f s)) := by
  rcases real_fold s b f hb h with e | e
  · rw [e, max_eq_left bot_le]; exact hx
  · exact real_max hx e

/-- Such a maximum over a set that is not empty is a real number. -/
theorem real_fold_nonempty {n : ℕ} (b : EReal) (f : Fin (n + 1) → EReal) (hb : b = ⊥) (h : ∀ i, IsReal (f i)) :
    IsReal (Finset.fold max b f Finset.univ) := by
  classical
  rw [← Finset.insert_erase (Finset.mem_univ (0 : Fin (n + 1))), Finset.fold_insert (Finset.notMem_erase _ _)]
  exact real_max_fold _ b (f 0) f hb (h 0) h

/-- The pattern of minus infinity. -/
theorem low_bits : Ideal.ofBits .f32 0xFF800000#32 = ⊥ := by
  simp [Ideal.ofBits, Ideal.ieee]

/-- A sum of real numbers, summed in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A factor that is a nonnegative real number goes into a sum of two. -/
theorem add_mul_real (x y : EReal) (c : ℝ) (hc : 0 ≤ c) : (x + y) * (c : EReal) = x * c + y * c := by
  rw [mul_comm, mul_comm x, mul_comm y]
  exact EReal.left_distrib_of_nonneg_of_ne_top (by exact_mod_cast hc) (EReal.coe_ne_top c) x y

/-- A factor that is a nonnegative real number goes into a sum. -/
theorem sum_mul_real {ι : Type*} (s : Finset ι) (f : ι → EReal) (c : ℝ) (hc : 0 ≤ c) : (∑ i ∈ s, f i) * (c : EReal) = ∑ i ∈ s, f i * (c : EReal) := by
  classical
  induction s using Finset.induction_on with
  | empty => simp
  | insert a s ha ih => rw [Finset.sum_insert ha, Finset.sum_insert ha, add_mul_real _ _ _ hc, ih]

/-- The softmax of real scores, applied to values. -/
def soft {n : ℕ} (s : Fin n → ℝ) (v : Fin n → EReal) : EReal :=
  ∑ j, ((Real.exp (s j) / ∑ i, Real.exp (s i) : ℝ) : EReal) * v j

/-- The sum of the exponentials over the three groups. -/
def total {n : ℕ} (s : Fin 3 → Fin n → ℝ) : ℝ := ∑ g, ∑ j, Real.exp (s g j)

/-- The softmax of real scores over three groups, applied to values. -/
def mixed {n : ℕ} (s : Fin 3 → Fin n → ℝ) (v : Fin 3 → Fin n → EReal) : EReal :=
  ∑ g, ∑ j, ((Real.exp (s g j) / total s : ℝ) : EReal) * v g j

/-- A sum of exponentials is positive. -/
theorem exps_pos {n : ℕ} (s : Fin (n + 1) → ℝ) : 0 < ∑ j, Real.exp (s j) :=
  Finset.sum_pos (fun j _ => Real.exp_pos (s j)) Finset.univ_nonempty

/-- The sum of the exponentials over the three groups is positive. -/
theorem total_pos {n : ℕ} (s : Fin 3 → Fin (n + 1) → ℝ) : 0 < total s :=
  Finset.sum_pos (fun g _ => exps_pos (s g)) Finset.univ_nonempty

/-- The exponential of a difference of real numbers. -/
theorem exp_sub_coe (a b : ℝ) : Ideal.exp ((a : EReal) - (b : EReal)) = ((Real.exp a * Real.exp (-b) : ℝ) : EReal) := by
  rw [← EReal.coe_sub, Ideal.exp_coe, sub_eq_add_neg, Real.exp_add]

/-- A weighted sum scaled by one number. -/
theorem weighted {n : ℕ} (s : Fin n → ℝ) (v : Fin n → EReal) (c d : ℝ) (hd : 0 ≤ d) :
    (∑ j, ((Real.exp (s j) * c : ℝ) : EReal) * v j) * (d : EReal) = ∑ j, ((Real.exp (s j) * (c * d) : ℝ) : EReal) * v j := by
  rw [sum_mul_real _ _ _ hd]
  refine Finset.sum_congr rfl fun j _ => ?_
  rw [mul_right_comm, ← EReal.coe_mul, mul_assoc]

/-- The softmax taken at any real number, and divided after the sum, is the softmax. -/
theorem soft_late {n : ℕ} (s : Fin (n + 1) → ℝ) (v : Fin (n + 1) → EReal) (t : ℝ) :
    Ideal.div (∑ j, Ideal.exp ((s j : EReal) - (t : EReal)) * v j) (∑ j, Ideal.exp ((s j : EReal) - (t : EReal))) = soft s v := by
  have hs := exps_pos s
  have ht := Real.exp_pos (-t)
  simp only [exp_sub_coe]
  rw [← coe_sum, ← Finset.sum_mul, Ideal.div_coe (by positivity), weighted _ _ _ _ (by positivity)]
  unfold soft
  refine Finset.sum_congr rfl fun j _ => ?_
  congr 2
  field_simp

/-- The softmax taken at any real number, and divided before the sum, is the softmax. -/
theorem soft_early {n : ℕ} (s : Fin (n + 1) → ℝ) (v : Fin (n + 1) → EReal) (t : ℝ) :
    ∑ j, Ideal.div (Ideal.exp ((s j : EReal) - (t : EReal))) (∑ i, Ideal.exp ((s i : EReal) - (t : EReal))) * v j = soft s v := by
  have hs := exps_pos s
  have ht := Real.exp_pos (-t)
  simp only [exp_sub_coe]
  rw [← coe_sum, ← Finset.sum_mul]
  unfold soft
  refine Finset.sum_congr rfl fun j _ => ?_
  rw [Ideal.div_coe (by positivity), ← EReal.coe_mul]
  congr 2
  field_simp

/-- The three groups' softmax taken at any one real number and divided at the end, the last key of a group apart. -/
theorem mixed_late {n : ℕ} (s : Fin 3 → Fin (n + 1) → ℝ) (v : Fin 3 → Fin (n + 1) → EReal) (t : ℝ) :
    Ideal.div
      (0 + ∑ j : Fin n, Ideal.exp ((s 0 j.castSucc : EReal) - (t : EReal)) * v 0 j.castSucc
          + Ideal.exp ((s 0 (Fin.last n) : EReal) - (t : EReal)) * v 0 (Fin.last n)
        + ∑ j : Fin n, Ideal.exp ((s 1 j.castSucc : EReal) - (t : EReal)) * v 1 j.castSucc
          + Ideal.exp ((s 1 (Fin.last n) : EReal) - (t : EReal)) * v 1 (Fin.last n)
        + ∑ j : Fin n, Ideal.exp ((s 2 j.castSucc : EReal) - (t : EReal)) * v 2 j.castSucc
          + Ideal.exp ((s 2 (Fin.last n) : EReal) - (t : EReal)) * v 2 (Fin.last n))
      (0 + ∑ j : Fin n, Ideal.exp ((s 0 j.castSucc : EReal) - (t : EReal)) + Ideal.exp ((s 0 (Fin.last n) : EReal) - (t : EReal))
        + ∑ j : Fin n, Ideal.exp ((s 1 j.castSucc : EReal) - (t : EReal)) + Ideal.exp ((s 1 (Fin.last n) : EReal) - (t : EReal))
        + ∑ j : Fin n, Ideal.exp ((s 2 j.castSucc : EReal) - (t : EReal)) + Ideal.exp ((s 2 (Fin.last n) : EReal) - (t : EReal)))
      = mixed s v := by
  have hs := total_pos s
  have ht := Real.exp_pos (-t)
  have hn : ∀ x0 x1 x2 y0 y1 y2 : EReal, 0 + x0 + y0 + x1 + y1 + x2 + y2 = (x0 + y0) + (x1 + y1) + (x2 + y2) := by
    intros
    simp only [zero_add, add_assoc]
  rw [hn, hn]
  rw [← Fin.sum_univ_castSucc (fun j => Ideal.exp ((s 0 j : EReal) - (t : EReal)) * v 0 j),
    ← Fin.sum_univ_castSucc (fun j => Ideal.exp ((s 1 j : EReal) - (t : EReal)) * v 1 j),
    ← Fin.sum_univ_castSucc (fun j => Ideal.exp ((s 2 j : EReal) - (t : EReal)) * v 2 j),
    ← Fin.sum_univ_castSucc (fun j => Ideal.exp ((s 0 j : EReal) - (t : EReal))),
    ← Fin.sum_univ_castSucc (fun j => Ideal.exp ((s 1 j : EReal) - (t : EReal))),
    ← Fin.sum_univ_castSucc (fun j => Ideal.exp ((s 2 j : EReal) - (t : EReal)))]
  simp only [exp_sub_coe]
  have hd : (∑ j, ((Real.exp (s 0 j) * Real.exp (-t) : ℝ) : EReal)) + (∑ j, ((Real.exp (s 1 j) * Real.exp (-t) : ℝ) : EReal))
      + (∑ j, ((Real.exp (s 2 j) * Real.exp (-t) : ℝ) : EReal)) = ((total s * Real.exp (-t) : ℝ) : EReal) := by
    rw [← coe_sum, ← coe_sum, ← coe_sum, ← EReal.coe_add, ← EReal.coe_add]
    congr 1
    unfold total
    rw [Fin.sum_univ_three, ← Finset.sum_mul, ← Finset.sum_mul, ← Finset.sum_mul]
    ring
  rw [hd, Ideal.div_coe (by positivity), add_mul_real _ _ _ (by positivity), add_mul_real _ _ _ (by positivity),
    weighted _ _ _ _ (by positivity), weighted _ _ _ _ (by positivity), weighted _ _ _ _ (by positivity)]
  have hc : Real.exp (-t) * (1 / (total s * Real.exp (-t))) = 1 / total s := by field_simp
  rw [hc]
  unfold mixed
  rw [Fin.sum_univ_three]
  simp only [div_eq_mul_one_div (Real.exp _)]

/-- The logarithm of a group's sum, taken at any real number. -/
theorem lse_coe {n : ℕ} (s : Fin (n + 1) → ℝ) (t : ℝ) :
    (t : EReal) + Ideal.log (∑ j, Ideal.exp ((s j : EReal) - (t : EReal))) = ((Real.log (∑ j, Real.exp (s j)) : ℝ) : EReal) := by
  have hs := exps_pos s
  have ht := Real.exp_pos (-t)
  simp only [exp_sub_coe]
  rw [← coe_sum, ← Finset.sum_mul, Ideal.log_coe, if_neg (not_le.mpr (by positivity)), ← EReal.coe_add,
    Real.log_mul hs.ne' ht.ne', Real.log_exp]
  congr 1
  ring

/-- The three groups' own softmaxes, weighted by the softmax of the logarithms of their sums. -/
theorem mixed_early {n : ℕ} (s : Fin 3 → Fin (n + 1) → ℝ) (v : Fin 3 → Fin (n + 1) → EReal) (l : Fin 3 → ℝ)
    (hl : ∀ g, l g = Real.log (∑ j, Real.exp (s g j))) (t : ℝ) :
    ∑ g, Ideal.div (Ideal.exp ((l g : EReal) - (t : EReal))) (∑ i, Ideal.exp ((l i : EReal) - (t : EReal)))
        * ∑ j, Ideal.exp ((s g j : EReal) - (l g : EReal)) * v g j = mixed s v := by
  have hs := total_pos s
  have ht := Real.exp_pos (-t)
  have he : ∀ g, Real.exp (l g) = ∑ j, Real.exp (s g j) := fun g => by rw [hl, Real.exp_log (exps_pos (s g))]
  have hd : (∑ i, Ideal.exp ((l i : EReal) - (t : EReal))) = ((total s * Real.exp (-t) : ℝ) : EReal) := by
    simp only [exp_sub_coe, he]
    rw [← coe_sum, ← Finset.sum_mul]
    rfl
  rw [hd]
  unfold mixed
  refine Finset.sum_congr rfl fun g _ => ?_
  have hg := exps_pos (s g)
  rw [Ideal.div_coe (by positivity), mul_comm]
  simp only [exp_sub_coe]
  rw [← EReal.coe_mul, weighted _ _ _ _ (by rw [he]; positivity)]
  refine Finset.sum_congr rfl fun j _ => ?_
  congr 2
  rw [Real.exp_neg (l g), he]
  field_simp

end Cert.Attn1k
end
-- ==== Proof.AttnRead.lean ====
/-
  The parts of one head of the sample attention, entry by entry over the extended reals.
-/
module

public import proofs.«01_k».proof.Proof.AttnHead
public import proofs.«01_k».proof.Proof.AttnMath
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.AttnSampleIdeal.Head

open Cert.AttnSampleIdeal Cert.AttnSampleIdeal.Gen

/-- The distance of a cached key in steps of its group: 128 for the first, 1 for the last. -/
theorem back_at (j : Fin 128) : (k0_pay1 : FVec Ideal S128x1 .f32) (ix2 j 0) = (((128 - j.val : ℤ) : ℝ) : EReal) := by
  pointwise [k0_pay1]
  have e : ∀ j : Fin 128, (IntOp.subi (128#32) (BitVec.ofNat 32 j.val)).toInt = 128 - (j.val : ℤ) := by decide +kernel
  show (((IntOp.subi (128#32) (BitVec.ofNat 32 j.val)).toInt : ℝ) : EReal) = _
  rw [e]

/-- A cached key's score. -/
theorem scores_at (q : Vec Ideal S1x1x128 .f32) (ck : Vec Ideal S1x128x128 .f32) (l : EReal) (dil : BitVec 32) (j : Fin 128) :
    scores q ck l dil (ix2 j 0) = (∑ d : Fin 128, ck (ix3 0 j d) * q (ix3 0 0 d)) * Ideal.ofBits .f32 0x3DB504F3#32
      - l * ((((128 - j.val : ℤ) : ℝ) : EReal) * Ideal.ofBits .f32 dil) := by
  rw [← back_at]
  unfold scores
  generalize (k0_pay1 : FVec Ideal S128x1 .f32) = b
  pointwise! [flat]

/-- The new key's score. -/
theorem fresh_at (kn q : Vec Ideal S1x1x128 .f32) :
    fresh kn q (ix2 0 0) = (∑ d : Fin 128, kn (ix3 0 0 d) * q (ix3 0 0 d)) * Ideal.ofBits .f32 0x3DB504F3#32 := by
  pointwise! [fresh, flat]

/-- One group's maximum is a real number when its scores are. -/
theorem peak_real (s : FVec Ideal S128x1 .f32) (n : FVec Ideal S1x1 .f32) (hs : ∀ j : Fin 128, Attn1k.IsReal (s (ix2 j 0)))
    (hn : Attn1k.IsReal (n (ix2 0 0))) : Attn1k.IsReal (peak s n (ix2 0 0)) := by
  have e : peak s n (ix2 0 0) = max (n (ix2 0 0)) (Finset.fold max (Ideal.ofBits .f32 0xFF800000#32) (fun x : Fin 128 => s (ix2 x 0)) Finset.univ) := by
    pointwise! [peak]
  rw [e]
  exact Attn1k.real_max_fold _ _ _ _ Attn1k.low_bits hn hs

/-- The maximum over the three groups is a real number when the scores are. -/
theorem top_real (s0 s1 s2 : FVec Ideal S128x1 .f32) (n0 n1 n2 : FVec Ideal S1x1 .f32)
    (h0 : ∀ j : Fin 128, Attn1k.IsReal (s0 (ix2 j 0))) (h1 : ∀ j : Fin 128, Attn1k.IsReal (s1 (ix2 j 0)))
    (h2 : ∀ j : Fin 128, Attn1k.IsReal (s2 (ix2 j 0))) (k0 : Attn1k.IsReal (n0 (ix2 0 0))) (k1 : Attn1k.IsReal (n1 (ix2 0 0)))
    (k2 : Attn1k.IsReal (n2 (ix2 0 0))) : Attn1k.IsReal (top s0 s1 s2 n0 n1 n2 (ix2 0 0)) := by
  have e : top s0 s1 s2 n0 n1 n2 (ix2 0 0)
      = max (max (max (n0 (ix2 0 0)) (peak s0 n0 (ix2 0 0))) (peak s1 n1 (ix2 0 0))) (peak s2 n2 (ix2 0 0)) := by
    pointwise! [top]
  rw [e]
  exact Attn1k.real_max (Attn1k.real_max (Attn1k.real_max k0 (peak_real _ _ h0 k0)) (peak_real _ _ h1 k1)) (peak_real _ _ h2 k2)

/-- The numerator with one group added. -/
theorem num_at (acc : FVec Ideal S1x128 .f32) (s : FVec Ideal S128x1 .f32) (n t : FVec Ideal S1x1 .f32) (cv : Vec Ideal S1x128x128 .f32)
    (vn : Vec Ideal S1x1x128 .f32) (e : Fin 128) :
    num acc s n t cv vn (ix2 0 e) = acc (ix2 0 e) + ∑ j : Fin 128, Ideal.exp (s (ix2 j 0) - t (ix2 0 0)) * cv (ix3 0 j e)
      + Ideal.exp (n (ix2 0 0) - t (ix2 0 0)) * vn (ix3 0 0 e) := by
  pointwise! [num, weights, weight, flat]

/-- The denominator with one group added. -/
theorem den_at (acc : FVec Ideal S1x1 .f32) (s : FVec Ideal S128x1 .f32) (n t : FVec Ideal S1x1 .f32) :
    den acc s n t (ix2 0 0) = acc (ix2 0 0) + ∑ j : Fin 128, Ideal.exp (s (ix2 j 0) - t (ix2 0 0))
      + Ideal.exp (n (ix2 0 0) - t (ix2 0 0)) := by
  pointwise! [den, weights, weight, flat]

/-- The mixture before its terms are opened. -/
theorem blend_at (s0 s1 s2 : FVec Ideal S128x1 .f32) (n0 n1 n2 t : FVec Ideal S1x1 .f32) (v0 v1 v2 : Vec Ideal S1x128x128 .f32)
    (vn : Vec Ideal S1x1x128 .f32) (e : Fin 128) :
    blend s0 s1 s2 n0 n1 n2 t v0 v1 v2 vn (ix3 0 0 e) =
      Ideal.div
        (num (num (num (broadcast S1x128 (Scalar.ofBits .f32 0x00000000#32)) s0 n0 t v0 vn) s1 n1 t v1 vn) s2 n2 t v2 vn (ix2 0 e))
        (den (den (den (broadcast S1x1 (Scalar.ofBits .f32 0x00000000#32)) s0 n0 t) s1 n1 t) s2 n2 t (ix2 0 0)) := by
  pointwise! [blend]

/-- The mixture at any real maximum, from real scores. -/
theorem blend_real (s0 s1 s2 : FVec Ideal S128x1 .f32) (n0 n1 n2 t : FVec Ideal S1x1 .f32) (v0 v1 v2 : Vec Ideal S1x128x128 .f32)
    (vn : Vec Ideal S1x1x128 .f32) (e : Fin 128) (s : Fin 3 → Fin 129 → ℝ) (v : Fin 3 → Fin 129 → EReal) (ht : Attn1k.IsReal (t (ix2 0 0)))
    (h0 : ∀ j : Fin 128, s0 (ix2 j 0) = (s 0 j.castSucc : EReal)) (h1 : ∀ j : Fin 128, s1 (ix2 j 0) = (s 1 j.castSucc : EReal))
    (h2 : ∀ j : Fin 128, s2 (ix2 j 0) = (s 2 j.castSucc : EReal))
    (k0 : n0 (ix2 0 0) = (s 0 (Fin.last 128) : EReal)) (k1 : n1 (ix2 0 0) = (s 1 (Fin.last 128) : EReal))
    (k2 : n2 (ix2 0 0) = (s 2 (Fin.last 128) : EReal))
    (w0 : ∀ j : Fin 128, v0 (ix3 0 j e) = v 0 j.castSucc) (w1 : ∀ j : Fin 128, v1 (ix3 0 j e) = v 1 j.castSucc)
    (w2 : ∀ j : Fin 128, v2 (ix3 0 j e) = v 2 j.castSucc) (w : ∀ g, vn (ix3 0 0 e) = v g (Fin.last 128)) :
    blend s0 s1 s2 n0 n1 n2 t v0 v1 v2 vn (ix3 0 0 e) = Attn1k.mixed s v := by
  obtain ⟨τ, ht⟩ := ht
  have z1 : (broadcast S1x128 (Scalar.ofBits .f32 0x00000000#32) : FVec Ideal S1x128 .f32) (ix2 0 e) = 0 := Ideal.ofBits_zero_f32
  have z2 : (broadcast S1x1 (Scalar.ofBits .f32 0x00000000#32) : FVec Ideal S1x1 .f32) (ix2 0 0) = 0 := Ideal.ofBits_zero_f32
  rw [blend_at, num_at, num_at, num_at, den_at, den_at, den_at, z1, z2, ht, k0, k1, k2]
  simp only [h0, h1, h2, w0, w1, w2]
  rw [← Attn1k.mixed_late s v τ, ← w 0, ← w 1, ← w 2]

/-- A memory key's score. -/
theorem memScores_at (q : Vec Ideal S1x1x128 .f32) (mk : Vec Ideal S1x256x128 .f32) (j : Fin 256) :
    memScores q mk (ix2 j 0) = (∑ d : Fin 128, mk (ix3 0 j d) * q (ix3 0 0 d)) * Ideal.ofBits .f32 0x3DB504F3#32 := by
  pointwise! [memScores, flat]

/-- A memory key's weight. -/
theorem memWeights_at (s : FVec Ideal S256x1 .f32) (j : Fin 256) : memWeights s (ix2 j 0)
    = Ideal.exp (s (ix2 j 0) - Finset.fold max (Ideal.ofBits .f32 0xFF800000#32) (fun x : Fin 256 => s (ix2 x 0)) Finset.univ) := by
  pointwise! [memWeights]

/-- The memory's mixture, from its weights. -/
theorem memMix_at (q : Vec Ideal S1x1x128 .f32) (mk mv : Vec Ideal S1x256x128 .f32) (e : Fin 128) : memMix q mk mv (ix3 0 0 e)
    = Ideal.div (∑ j : Fin 256, memWeights (memScores q mk) (ix2 j 0) * mv (ix3 0 j e)) (∑ j : Fin 256, memWeights (memScores q mk) (ix2 j 0)) := by
  pointwise! [memMix]

/-- The memory's mixture from real scores. -/
theorem memMix_real (q : Vec Ideal S1x1x128 .f32) (mk mv : Vec Ideal S1x256x128 .f32) (e : Fin 128) (s : Fin 256 → ℝ) (v : Fin 256 → EReal)
    (hs : ∀ j : Fin 256, (∑ d : Fin 128, mk (ix3 0 j d) * q (ix3 0 0 d)) * Ideal.ofBits .f32 0x3DB504F3#32 = (s j : EReal))
    (hv : ∀ j : Fin 256, mv (ix3 0 j e) = v j) : memMix q mk mv (ix3 0 0 e) = Attn1k.soft s v := by
  rw [memMix_at]
  simp only [memWeights_at, memScores_at, hs, hv]
  obtain ⟨τ, ht⟩ := Attn1k.real_fold_nonempty (n := 255) (Ideal.ofBits .f32 0xFF800000#32) (fun j => (s j : EReal)) Attn1k.low_bits fun j => ⟨s j, rfl⟩
  rw [ht]
  exact Attn1k.soft_late s v τ

end Cert.AttnSampleIdeal.Head
end
-- ==== Proof.AttnSpec.lean ====
/-
  The sample attention of one layer over its arguments: the keys, values and scores of each group, entry by entry.
-/
module

public import proofs.«01_k».proof.Proof.AttnMath
public import Idealize.ShloMosaic.Lib.Pointwise

@[expose] public section

noncomputable section

open Idealize.ShloMosaic

namespace Cert.Attn1k

/-- The step between the cached rows of a group. -/
def step : Fin 3 → ℕ := ![1, 4, 16]

/-- Every group's window fits the cache. -/
theorem step_le (g : Fin 3) : 128 * step g ≤ 2048 ∧ 0 < step g := by
  fin_cases g <;> decide

/-- The cached row of a group's key. -/
def pos (g : Fin 3) (j : Fin 128) : Fin 2048 :=
  ⟨2048 - 128 * step g + step g * j.val, by
    have ⟨h, h'⟩ := step_le g
    have := j.isLt
    have : step g * j.val < step g * 128 := Nat.mul_lt_mul_of_pos_left this h'
    omega⟩

/-- The first group's cached rows. -/
theorem pos_one (j : Fin 128) : (pos 0 j).val = 1920 + j.val := by
  simp [pos, step]

/-- The second group's cached rows. -/
theorem pos_four (j : Fin 128) : (pos 1 j).val = 1536 + 4 * j.val := by
  simp [pos, step]

/-- The third group's cached rows. -/
theorem pos_sixteen (j : Fin 128) : (pos 2 j).val = 16 * j.val := by
  simp [pos, step]

/-- A head's column. -/
def col (h : Fin 4) (d : Fin 128) : Fin 512 := ⟨128 * h.val + d.val, by omega⟩

/-- A group's head's column among the queries. -/
def qcol (g : Fin 3) (h : Fin 4) (d : Fin 128) : Fin 1536 := ⟨512 * g.val + 128 * h.val + d.val, by omega⟩

/-- The slope of a group's head. -/
def slopeAt (g : Fin 3) (h : Fin 4) : EReal :=
  Ideal.exp (Ideal.ofBits .f32 0x3F317218#32
    * Ideal.div (Ideal.ofBits .f32 0xC1000000#32 * (Ideal.ofBits .f32 0x3F800000#32 + (((4 * g.val + h.val : ℤ) : ℝ) : EReal)))
        (Ideal.ofBits .f32 0x41400000#32))

variable (q : FVec Ideal ⟨2, ![32, 1536]⟩ .f32) (kn vn qx : FVec Ideal ⟨2, ![32, 512]⟩ .f32)
  (ck cv : FVec Ideal ⟨5, ![1, 32, 2048, 4, 128]⟩ .f32) (mk mv : FVec Ideal ⟨5, ![1, 32, 256, 4, 128]⟩ .f32)

/-- Key or value `j` of a group: the cached rows, and the new row at the end. -/
def entry (x : FVec Ideal ⟨2, ![32, 512]⟩ .f32) (cx : FVec Ideal ⟨5, ![1, 32, 2048, 4, 128]⟩ .f32) (n : Fin 32) (h : Fin 4) (d : Fin 128)
    (g : Fin 3) (j : Fin 129) : EReal :=
  Fin.lastCases (motive := fun _ => EReal) (x (ix2 n (col h d))) (fun i => cx (ix5 0 n (pos g i) h d)) j

/-- The distance's penalty. -/
def penalty (h : Fin 4) (g : Fin 3) (j : Fin 129) : EReal :=
  slopeAt g h * (((step g * (128 - j.val : ℤ) : ℤ) : ℝ) : EReal)

/-- A key's score. -/
def score (n : Fin 32) (h : Fin 4) (g : Fin 3) (j : Fin 129) : EReal :=
  (∑ d : Fin 128, entry kn ck n h d g j * q (ix2 n (qcol g h d))) * Ideal.ofBits .f32 0x3DB504F3#32 - penalty h g j

/-- A memory key's score. -/
def memScore (n : Fin 32) (h : Fin 4) (j : Fin 256) : EReal :=
  (∑ d : Fin 128, mk (ix5 0 n j h d) * qx (ix2 n (col h d))) * Ideal.ofBits .f32 0x3DB504F3#32

/-- The dilated attention's entry. -/
def mixOut (n : Fin 32) (h : Fin 4) (e : Fin 128) : EReal :=
  mixed (fun g j => (score q kn ck n h g j).toReal) (entry vn cv n h e)

/-- The entry of the attention to the memory. -/
def memOut (n : Fin 32) (h : Fin 4) (e : Fin 128) : EReal :=
  soft (fun j => (memScore qx mk n h j).toReal) fun j => mv (ix5 0 n j h e)

/-- The pattern of one over the square root of 128 is a real number. -/
theorem real_scale : IsReal (Ideal.ofBits .f32 0x3DB504F3#32) := by
  simp only [Ideal.ofBits, Ideal.ieee]
  norm_num
  exact ⟨_, rfl⟩

/-- The pattern of one. -/
theorem bits_one : Ideal.ofBits .f32 0x3F800000#32 = ((1 : ℝ) : EReal) := by
  simp [Ideal.ofBits, Ideal.ieee, -EReal.coe_mul]; norm_num

/-- The pattern of four. -/
theorem bits_four : Ideal.ofBits .f32 0x40800000#32 = ((4 : ℝ) : EReal) := by
  simp [Ideal.ofBits, Ideal.ieee, -EReal.coe_mul]; norm_num

/-- The pattern of sixteen. -/
theorem bits_sixteen : Ideal.ofBits .f32 0x41800000#32 = ((16 : ℝ) : EReal) := by
  simp [Ideal.ofBits, Ideal.ieee, -EReal.coe_mul]; norm_num

/-- A quotient by a number that is not zero is a real number. -/
theorem real_div {x : EReal} (hx : IsReal x) (y : ℝ) (hy : y ≠ 0) : IsReal (Ideal.div x (y : EReal)) := by
  rw [Ideal.div_coe hy]
  exact real_mul hx ⟨_, rfl⟩

/-- A slope is a real number. -/
theorem real_slope (g : Fin 3) (h : Fin 4) : IsReal (slopeAt g h) := by
  have a : IsReal (Ideal.ofBits .f32 0x3F317218#32) := by
    simp only [Ideal.ofBits, Ideal.ieee]
    norm_num
    exact ⟨_, rfl⟩
  have b : IsReal (Ideal.ofBits .f32 0xC1000000#32) := by
    simp only [Ideal.ofBits, Ideal.ieee]
    norm_num
    exact ⟨_, rfl⟩
  have c : IsReal (Ideal.ofBits .f32 0x3F800000#32) := ⟨1, bits_one⟩
  have d : Ideal.ofBits .f32 0x41400000#32 = ((12 : ℝ) : EReal) := by
    simp [Ideal.ofBits, Ideal.ieee, -EReal.coe_mul]; norm_num
  unfold slopeAt
  rw [d]
  obtain ⟨r, hr⟩ := real_mul a (real_div (real_mul b (real_add c ⟨_, rfl⟩)) 12 (by norm_num))
  rw [hr]
  exact ⟨_, rfl⟩

/-- A real number is its own real part. -/
theorem coe_part {x : EReal} (h : IsReal x) : x = ((x.toReal : ℝ) : EReal) := by
  obtain ⟨r, rfl⟩ := h
  rfl

/-- The scores are real numbers when the queries and the keys are. -/
theorem real_score (hq : ∀ n c, IsReal (q (ix2 n c))) (hk : ∀ n c, IsReal (kn (ix2 n c))) (hc : ∀ n r h d, IsReal (ck (ix5 0 n r h d)))
    (n : Fin 32) (h : Fin 4) (g : Fin 3) (j : Fin 129) : IsReal (score q kn ck n h g j) := by
  unfold score penalty
  refine real_sub (real_mul (real_sum _ _ fun d => real_mul ?_ (hq _ _)) real_scale) (real_mul (real_slope g h) ⟨_, rfl⟩)
  unfold entry
  induction j using Fin.lastCases with
  | last => rw [Fin.lastCases_last]; exact hk _ _
  | cast i => rw [Fin.lastCases_castSucc]; exact hc _ _ _ _

/-- The memory's scores are real numbers when the queries and the keys are. -/
theorem real_memScore (hq : ∀ n c, IsReal (qx (ix2 n c))) (hk : ∀ n r h d, IsReal (mk (ix5 0 n r h d))) (n : Fin 32) (h : Fin 4) (j : Fin 256) :
    IsReal (memScore qx mk n h j) :=
  real_mul (real_sum _ _ fun d => real_mul (hk _ _ _ _) (hq _ _)) real_scale

end Cert.Attn1k
end
-- ==== Proof.AttnArgs.lean ====
/-
  The sample attention's operands as the launch lays them out, and the blocks of them that one grid point works on, read
  off the arguments.
-/
module

public import proofs.«01_k».proof.Proof.AttnSpec
public import proofs.«01_k».proof.Proof.Gen.AttnSampleIdeal.Value
public import Idealize.ShloMosaic.Lib.StableHlo.ReadAt
public import Idealize.ShloMosaic.Lib.Tactic

@[expose] public section

set_option maxRecDepth 16384

noncomputable section

open Idealize.ShloMosaic Idealize.ShloMosaic.TcCoe Idealize.SL.Sem

namespace Cert.AttnSampleIdeal.Blocks

open Cert.AttnSampleIdeal Cert.AttnSampleIdeal.Gen Cert.Attn1k

variable (m : (ℓ : Loc nD τ sig) → Buf (Elt Ideal) ℓ)

/-- An array's entry depends only on the numbers that index it. -/
theorem same5 {b : Nat} (f : FVec Ideal ⟨5, ![1, 32, b, 4, 128]⟩ .f32) {n : Fin 32} {r r' : Fin b} {h h' : Fin 4} {d d' : Fin 128}
    (hr : r.val = r'.val) (hh : h.val = h'.val) (hd : d.val = d'.val) : f (ix5 0 n r h d) = f (ix5 0 n r' h' d') := by
  obtain rfl := Fin.ext hr
  obtain rfl := Fin.ext hh
  obtain rfl := Fin.ext hd
  rfl

/-- The slopes' table. -/
theorem slope_at (c : Dev nD) (g : Fin 3) (h : Fin 4) : (V m c main_v10 : FVec Ideal S3x4 .f32) (ix2 g h) = slopeAt g h := by
  have e : ∀ (g : Fin 3) (h : Fin 4), (BitVec.ofNat 32 (g.val * 4 + h.val)).toInt = 4 * g.val + h.val := by decide +kernel
  have e' : (FloatOps.sitofp .f32 (BitVec.ofNat 32 (g.val * 4 + h.val)) : Ideal .f32) = (((4 * g.val + h.val : ℤ) : ℝ) : EReal) := by
    show (((BitVec.ofNat 32 (g.val * 4 + h.val)).toInt : ℝ) : EReal) = _
    rw [e]
  unfold V slopeAt
  after_reads_at
  rw [e']

/-- The queries in the kernel's layout. -/
theorem query_at (c : Dev nD) (n : Fin 32) (k : Fin 1536) :
    (V m c main_v23 : FVec Ideal S32x1x1536 .f32) (ix3 n 0 k) = (m ((c : Thread nD τ).loc main_arg0) : FVec Ideal S32x1536 .f32) (ix2 n k) := by
  unfold V
  after_reads_at

/-- The new keys in the kernel's layout. -/
theorem newKey_at (c : Dev nD) (n : Fin 32) (k : Fin 512) :
    (V m c main_v24 : FVec Ideal S32x1x512 .f32) (ix3 n 0 k) = (m ((c : Thread nD τ).loc main_arg1) : FVec Ideal S32x512 .f32) (ix2 n k) := by
  unfold V
  after_reads_at

/-- The new values in the kernel's layout. -/
theorem newValue_at (c : Dev nD) (n : Fin 32) (k : Fin 512) :
    (V m c main_v25 : FVec Ideal S32x1x512 .f32) (ix3 n 0 k) = (m ((c : Thread nD τ).loc main_arg2) : FVec Ideal S32x512 .f32) (ix2 n k) := by
  unfold V
  after_reads_at

/-- The queries to the memory in the kernel's layout. -/
theorem memQuery_at (c : Dev nD) (n : Fin 32) (k : Fin 512) :
    (V m c main_v26 : FVec Ideal S32x1x512 .f32) (ix3 n 0 k) = (m ((c : Thread nD τ).loc main_arg3) : FVec Ideal S32x512 .f32) (ix2 n k) := by
  unfold V
  after_reads_at

/-- The cached keys with 1 rows laid side by side. -/
theorem key1_at (c : Dev nD) (n : Fin 32) (r : Fin 2048) (e : Fin 512) (R : Fin 2048) (h : Fin 4) (d : Fin 128) (hR : R.val = 1 * r.val) (he : e.val = (col h d).val) :
    (V m c main_v12 : FVec Ideal S32x2048x512 .f32) (ix3 n r e) = (m ((c : Thread nD τ).loc main_arg4) : FVec Ideal S1x32x2048x4x128 .f32) (ix5 0 n R h d) := by
  have hc : (col h d).val = 128 * h.val + d.val := rfl
  have := h.isLt
  have := d.isLt
  unfold V
  after_reads_at
  exact same5 _ (by first | omega | (dsimp only; omega)) (by dsimp only; omega) (by dsimp only; omega)

/-- The cached keys with 4 rows laid side by side. -/
theorem key4_at (c : Dev nD) (n : Fin 32) (r : Fin 512) (e : Fin 2048) (R : Fin 2048) (h : Fin 4) (d : Fin 128) (hR : R.val = 4 * r.val) (he : e.val = (col h d).val) :
    (V m c main_v19 : FVec Ideal S32x512x2048 .f32) (ix3 n r e) = (m ((c : Thread nD τ).loc main_arg4) : FVec Ideal S1x32x2048x4x128 .f32) (ix5 0 n R h d) := by
  have hc : (col h d).val = 128 * h.val + d.val := rfl
  have := h.isLt
  have := d.isLt
  unfold V
  after_reads_at
  exact same5 _ (by first | omega | (dsimp only; omega)) (by dsimp only; omega) (by dsimp only; omega)

/-- The cached keys with 16 rows laid side by side. -/
theorem key16_at (c : Dev nD) (n : Fin 32) (r : Fin 128) (e : Fin 8192) (R : Fin 2048) (h : Fin 4) (d : Fin 128) (hR : R.val = 16 * r.val) (he : e.val = (col h d).val) :
    (V m c main_v21 : FVec Ideal S32x128x8192 .f32) (ix3 n r e) = (m ((c : Thread nD τ).loc main_arg4) : FVec Ideal S1x32x2048x4x128 .f32) (ix5 0 n R h d) := by
  have hc : (col h d).val = 128 * h.val + d.val := rfl
  have := h.isLt
  have := d.isLt
  unfold V
  after_reads_at
  exact same5 _ (by first | omega | (dsimp only; omega)) (by dsimp only; omega) (by dsimp only; omega)

/-- The cached values with 1 rows laid side by side. -/
theorem value1_at (c : Dev nD) (n : Fin 32) (r : Fin 2048) (e : Fin 512) (R : Fin 2048) (h : Fin 4) (d : Fin 128) (hR : R.val = 1 * r.val) (he : e.val = (col h d).val) :
    (V m c main_v14 : FVec Ideal S32x2048x512 .f32) (ix3 n r e) = (m ((c : Thread nD τ).loc main_arg5) : FVec Ideal S1x32x2048x4x128 .f32) (ix5 0 n R h d) := by
  have hc : (col h d).val = 128 * h.val + d.val := rfl
  have := h.isLt
  have := d.isLt
  unfold V
  after_reads_at
  exact same5 _ (by first | omega | (dsimp only; omega)) (by dsimp only; omega) (by dsimp only; omega)

/-- The cached values with 4 rows laid side by side. -/
theorem value4_at (c : Dev nD) (n : Fin 32) (r : Fin 512) (e : Fin 2048) (R : Fin 2048) (h : Fin 4) (d : Fin 128) (hR : R.val = 4 * r.val) (he : e.val = (col h d).val) :
    (V m c main_v20 : FVec Ideal S32x512x2048 .f32) (ix3 n r e) = (m ((c : Thread nD τ).loc main_arg5) : FVec Ideal S1x32x2048x4x128 .f32) (ix5 0 n R h d) := by
  have hc : (col h d).val = 128 * h.val + d.val := rfl
  have := h.isLt
  have := d.isLt
  unfold V
  after_reads_at
  exact same5 _ (by first | omega | (dsimp only; omega)) (by dsimp only; omega) (by dsimp only; omega)

/-- The cached values with 16 rows laid side by side. -/
theorem value16_at (c : Dev nD) (n : Fin 32) (r : Fin 128) (e : Fin 8192) (R : Fin 2048) (h : Fin 4) (d : Fin 128) (hR : R.val = 16 * r.val) (he : e.val = (col h d).val) :
    (V m c main_v22 : FVec Ideal S32x128x8192 .f32) (ix3 n r e) = (m ((c : Thread nD τ).loc main_arg5) : FVec Ideal S1x32x2048x4x128 .f32) (ix5 0 n R h d) := by
  have hc : (col h d).val = 128 * h.val + d.val := rfl
  have := h.isLt
  have := d.isLt
  unfold V
  after_reads_at
  exact same5 _ (by first | omega | (dsimp only; omega)) (by dsimp only; omega) (by dsimp only; omega)

/-- The memory's keys in the kernel's layout. -/
theorem memKey_at (c : Dev nD) (n : Fin 32) (r : Fin 256) (e : Fin 512) (R : Fin 256) (h : Fin 4) (d : Fin 128) (hR : R.val = 1 * r.val) (he : e.val = (col h d).val) :
    (V m c main_v16 : FVec Ideal S32x256x512 .f32) (ix3 n r e) = (m ((c : Thread nD τ).loc main_arg6) : FVec Ideal S1x32x256x4x128 .f32) (ix5 0 n R h d) := by
  have hc : (col h d).val = 128 * h.val + d.val := rfl
  have := h.isLt
  have := d.isLt
  unfold V
  after_reads_at
  exact same5 _ (by first | omega | (dsimp only; omega)) (by dsimp only; omega) (by dsimp only; omega)

/-- The memory's values in the kernel's layout. -/
theorem memValue_at (c : Dev nD) (n : Fin 32) (r : Fin 256) (e : Fin 512) (R : Fin 256) (h : Fin 4) (d : Fin 128) (hR : R.val = 1 * r.val) (he : e.val = (col h d).val) :
    (V m c main_v18 : FVec Ideal S32x256x512 .f32) (ix3 n r e) = (m ((c : Thread nD τ).loc main_arg7) : FVec Ideal S1x32x256x4x128 .f32) (ix5 0 n R h d) := by
  have hc : (col h d).val = 128 * h.val + d.val := rfl
  have := h.isLt
  have := d.isLt
  unfold V
  after_reads_at
  exact same5 _ (by first | omega | (dsimp only; omega)) (by dsimp only; omega) (by dsimp only; omega)

/-- Where the windows' blocks lie. -/
theorem places : ∀ t : Fin cfg0.N, (win0_0.index t (0 : Fin 2) = 0 ∧ win0_0.index t (1 : Fin 2) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 15 ∧ win0_5.index t (2 : Fin 3) = 0)
    ∧ (win0_6.index t (0 : Fin 3) = t.val ∧ win0_6.index t (1 : Fin 3) = 3 ∧ win0_6.index t (2 : Fin 3) = 0)
    ∧ (win0_7.index t (0 : Fin 3) = t.val ∧ win0_7.index t (1 : Fin 3) = 0 ∧ win0_7.index t (2 : Fin 3) = 0)
    ∧ (win0_8.index t (0 : Fin 3) = t.val ∧ win0_8.index t (1 : Fin 3) = 15 ∧ win0_8.index t (2 : Fin 3) = 0)
    ∧ (win0_9.index t (0 : Fin 3) = t.val ∧ win0_9.index t (1 : Fin 3) = 3 ∧ win0_9.index t (2 : Fin 3) = 0)
    ∧ (win0_10.index t (0 : Fin 3) = t.val ∧ win0_10.index t (1 : Fin 3) = 0 ∧ win0_10.index t (2 : Fin 3) = 0)
    ∧ (win0_11.index t (0 : Fin 3) = t.val ∧ win0_11.index t (1 : Fin 3) = 0 ∧ win0_11.index t (2 : Fin 3) = 0)
    ∧ (win0_12.index t (0 : Fin 3) = t.val ∧ win0_12.index t (1 : Fin 3) = 0 ∧ win0_12.index t (2 : Fin 3) = 0) :=
  (by decide +kernel : ∀ t : Fin grid0.N, _)

/-- The slopes' block is the table. -/
theorem slope_blk (c : Dev nD) (t : Fin cfg0.N) (g : Fin 3) (h : Fin 4) : (iblk m c 0 t : FVec Ideal S3x4 .f32) (ix2 g h) = slopeAt g h := by
  obtain ⟨⟨a0, a1⟩, -⟩ := places t
  rw [← slope_at m c g h]
  refine congrArg (V m c main_v10) (funext fun a => Fin.ext ?_)
  match a with
  | ⟨0, _⟩ => show win0_0.index t (0 : Fin 2) * 3 + 1 * g.val = g.val; omega
  | ⟨1, _⟩ => show win0_0.index t (1 : Fin 2) * 4 + 1 * h.val = h.val; omega

/-- Where a block of window 1 lies in its array. -/
theorem query_place (c : Dev nD) (A : (b : Ref sig .tc) → Buf (Elt Ideal) ((c : Thread nD τ).loc b)) (t : Fin cfg0.N) (r : Fin 4) (n : Fin 32) (hn : n.val = 4 * t.val + r.val) (k : Fin 1536) :
    (((cfg0.win 1).blk t).view.read (Elt Ideal) (A (Pipeline.arrRef spec0 1)) : FVec Ideal S4x1x1536 .f32) (ix3 r 0 k) = (A main_v23 : FVec Ideal S32x1x1536 .f32) (ix3 n 0 k) := by
  obtain ⟨-, ⟨a0, a1, a2⟩, -⟩ := places t
  refine congrArg (A main_v23) (funext fun a => Fin.ext ?_)
  match a with
  | ⟨0, _⟩ => show win0_1.index t (0 : Fin 3) * 4 + 1 * r.val = n.val; omega
  | ⟨1, _⟩ => show win0_1.index t (1 : Fin 3) * 1 + 1 * 0 = 0; omega
  | ⟨2, _⟩ => show win0_1.index t (2 : Fin 3) * 1536 + 1 * k.val = k.val; omega

/-- The queries of one grid point. -/
theorem query_blk (c : Dev nD) (t : Fin cfg0.N) (r : Fin 4) (n : Fin 32) (hn : n.val = 4 * t.val + r.val) (k : Fin 1536) :
    (iblk m c 1 t : FVec Ideal S4x1x1536 .f32) (ix3 r 0 k) = (m ((c : Thread nD τ).loc main_arg0) : FVec Ideal S32x1536 .f32) (ix2 n k) := by
  rw [← query_at m c n k]
  unfold iblk
  exact query_place c (V m c) t r n hn k

/-- Where a block of window 2 lies in its array. -/
theorem newKey_place (c : Dev nD) (A : (b : Ref sig .tc) → Buf (Elt Ideal) ((c : Thread nD τ).loc b)) (t : Fin cfg0.N) (r : Fin 4) (n : Fin 32) (hn : n.val = 4 * t.val + r.val) (k : Fin 512) :
    (((cfg0.win 2).blk t).view.read (Elt Ideal) (A (Pipeline.arrRef spec0 2)) : FVec Ideal S4x1x512 .f32) (ix3 r 0 k) = (A main_v24 : FVec Ideal S32x1x512 .f32) (ix3 n 0 k) := by
  obtain ⟨-, -, ⟨a0, a1, a2⟩, -⟩ := places t
  refine congrArg (A main_v24) (funext fun a => Fin.ext ?_)
  match a with
  | ⟨0, _⟩ => show win0_2.index t (0 : Fin 3) * 4 + 1 * r.val = n.val; omega
  | ⟨1, _⟩ => show win0_2.index t (1 : Fin 3) * 1 + 1 * 0 = 0; omega
  | ⟨2, _⟩ => show win0_2.index t (2 : Fin 3) * 512 + 1 * k.val = k.val; omega

/-- The new keys of one grid point. -/
theorem newKey_blk (c : Dev nD) (t : Fin cfg0.N) (r : Fin 4) (n : Fin 32) (hn : n.val = 4 * t.val + r.val) (k : Fin 512) :
    (iblk m c 2 t : FVec Ideal S4x1x512 .f32) (ix3 r 0 k) = (m ((c : Thread nD τ).loc main_arg1) : FVec Ideal S32x512 .f32) (ix2 n k) := by
  rw [← newKey_at m c n k]
  unfold iblk
  exact newKey_place c (V m c) t r n hn k

/-- Where a block of window 3 lies in its array. -/
theorem newValue_place (c : Dev nD) (A : (b : Ref sig .tc) → Buf (Elt Ideal) ((c : Thread nD τ).loc b)) (t : Fin cfg0.N) (r : Fin 4) (n : Fin 32) (hn : n.val = 4 * t.val + r.val) (k : Fin 512) :
    (((cfg0.win 3).blk t).view.read (Elt Ideal) (A (Pipeline.arrRef spec0 3)) : FVec Ideal S4x1x512 .f32) (ix3 r 0 k) = (A main_v25 : FVec Ideal S32x1x512 .f32) (ix3 n 0 k) := by
  obtain ⟨-, -, -, ⟨a0, a1, a2⟩, -⟩ := places t
  refine congrArg (A main_v25) (funext fun a => Fin.ext ?_)
  match a with
  | ⟨0, _⟩ => show win0_3.index t (0 : Fin 3) * 4 + 1 * r.val = n.val; omega
  | ⟨1, _⟩ => show win0_3.index t (1 : Fin 3) * 1 + 1 * 0 = 0; omega
  | ⟨2, _⟩ => show win0_3.index t (2 : Fin 3) * 512 + 1 * k.val = k.val; omega

/-- The new values of one grid point. -/
theorem newValue_blk (c : Dev nD) (t : Fin cfg0.N) (r : Fin 4) (n : Fin 32) (hn : n.val = 4 * t.val + r.val) (k : Fin 512) :
    (iblk m c 3 t : FVec Ideal S4x1x512 .f32) (ix3 r 0 k) = (m ((c : Thread nD τ).loc main_arg2) : FVec Ideal S32x512 .f32) (ix2 n k) := by
  rw [← newValue_at m c n k]
  unfold iblk
  exact newValue_place c (V m c) t r n hn k

/-- Where a block of window 4 lies in its array. -/
theorem memQuery_place (c : Dev nD) (A : (b : Ref sig .tc) → Buf (Elt Ideal) ((c : Thread nD τ).loc b)) (t : Fin cfg0.N) (r : Fin 4) (n : Fin 32) (hn : n.val = 4 * t.val + r.val) (k : Fin 512) :
    (((cfg0.win 4).blk t).view.read (Elt Ideal) (A (Pipeline.arrRef spec0 4)) : FVec Ideal S4x1x512 .f32) (ix3 r 0 k) = (A main_v26 : FVec Ideal S32x1x512 .f32) (ix3 n 0 k) := by
  obtain ⟨-, -, -, -, ⟨a0, a1, a2⟩, -⟩ := places t
  refine congrArg (A main_v26) (funext fun a => Fin.ext ?_)
  match a with
  | ⟨0, _⟩ => show win0_4.index t (0 : Fin 3) * 4 + 1 * r.val = n.val; omega
  | ⟨1, _⟩ => show win0_4.index t (1 : Fin 3) * 1 + 1 * 0 = 0; omega
  | ⟨2, _⟩ => show win0_4.index t (2 : Fin 3) * 512 + 1 * k.val = k.val; omega

/-- The queries to the memory of one grid point. -/
theorem memQuery_blk (c : Dev nD) (t : Fin cfg0.N) (r : Fin 4) (n : Fin 32) (hn : n.val = 4 * t.val + r.val) (k : Fin 512) :
    (iblk m c 4 t : FVec Ideal S4x1x512 .f32) (ix3 r 0 k) = (m ((c : Thread nD τ).loc main_arg3) : FVec Ideal S32x512 .f32) (ix2 n k) := by
  rw [← memQuery_at m c n k]
  unfold iblk
  exact memQuery_place c (V m c) t r n hn k

/-- Where a block of window 5 lies in its array. -/
theorem key1_place (c : Dev nD) (A : (b : Ref sig .tc) → Buf (Elt Ideal) ((c : Thread nD τ).loc b)) (t : Fin cfg0.N) (r : Fin 4) (n : Fin 32) (hn : n.val = 4 * t.val + r.val)
    (j : Fin 128) (k : Fin 512) (J : Fin 2048) (e : Fin 512) (hJ : J.val = 1920 + j.val) (he : e.val = k.val) :
    (((cfg0.win 5).blk t).view.read (Elt Ideal) (A (Pipeline.arrRef spec0 5)) : FVec Ideal S4x128x512 .f32) (ix3 r j k) = (A main_v12 : FVec Ideal S32x2048x512 .f32) (ix3 n J e) := by
  obtain ⟨-, -, -, -, -, ⟨a0, a1, a2⟩, -⟩ := places t
  refine congrArg (A main_v12) (funext fun a => Fin.ext ?_)
  match a with
  | ⟨0, _⟩ => show win0_5.index t (0 : Fin 3) * 4 + 1 * r.val = n.val; omega
  | ⟨1, _⟩ => show win0_5.index t (1 : Fin 3) * 128 + 1 * j.val = J.val; omega
  | ⟨2, _⟩ => show win0_5.index t (2 : Fin 3) * 512 + 1 * k.val = e.val; omega

/-- The cached keys of group 0 at one grid point. -/
theorem key1_blk (c : Dev nD) (t : Fin cfg0.N) (r : Fin 4) (n : Fin 32) (hn : n.val = 4 * t.val + r.val) (j : Fin 128) (h : Fin 4) (d : Fin 128) :
    (iblk m c 5 t : FVec Ideal S4x128x512 .f32) (ix3 r j (col h d)) = (m ((c : Thread nD τ).loc main_arg4) : FVec Ideal S1x32x2048x4x128 .f32) (ix5 0 n (pos 0 j) h d) := by
  obtain ⟨J, hJ⟩ : ∃ J : Fin 2048, J.val = 1920 + j.val := ⟨⟨1920 + j.val, by have := j.isLt; omega⟩, rfl⟩
  obtain ⟨e, he⟩ : ∃ e : Fin 512, e.val = (col h d).val := ⟨⟨(col h d).val, lt_of_lt_of_le (col h d).isLt (by decide)⟩, rfl⟩
  rw [← key1_at m c n J e (pos 0 j) h d (by rw [pos_one]; omega) he]
  unfold iblk
  exact key1_place c (V m c) t r n hn j (col h d) J e hJ he

/-- Where a block of window 6 lies in its array. -/
theorem key4_place (c : Dev nD) (A : (b : Ref sig .tc) → Buf (Elt Ideal) ((c : Thread nD τ).loc b)) (t : Fin cfg0.N) (r : Fin 4) (n : Fin 32) (hn : n.val = 4 * t.val + r.val)
    (j : Fin 128) (k : Fin 512) (J : Fin 512) (e : Fin 2048) (hJ : J.val = 384 + j.val) (he : e.val = k.val) :
    (((cfg0.win 6).blk t).view.read (Elt Ideal) (A (Pipeline.arrRef spec0 6)) : FVec Ideal S4x128x512 .f32) (ix3 r j k) = (A main_v19 : FVec Ideal S32x512x2048 .f32) (ix3 n J e) := by
  obtain ⟨-, -, -, -, -, -, ⟨a0, a1, a2⟩, -⟩ := places t
  refine congrArg (A main_v19) (funext fun a => Fin.ext ?_)
  match a with
  | ⟨0, _⟩ => show win0_6.index t (0 : Fin 3) * 4 + 1 * r.val = n.val; omega
  | ⟨1, _⟩ => show win0_6.index t (1 : Fin 3) * 128 + 1 * j.val = J.val; omega
  | ⟨2, _⟩ => show win0_6.index t (2 : Fin 3) * 512 + 1 * k.val = e.val; omega

/-- The cached keys of group 1 at one grid point. -/
theorem key4_blk (c : Dev nD) (t : Fin cfg0.N) (r : Fin 4) (n : Fin 32) (hn : n.val = 4 * t.val + r.val) (j : Fin 128) (h : Fin 4) (d : Fin 128) :
    (iblk m c 6 t : FVec Ideal S4x128x512 .f32) (ix3 r j (col h d)) = (m ((c : Thread nD τ).loc main_arg4) : FVec Ideal S1x32x2048x4x128 .f32) (ix5 0 n (pos 1 j) h d) := by
  obtain ⟨J, hJ⟩ : ∃ J : Fin 512, J.val = 384 + j.val := ⟨⟨384 + j.val, by have := j.isLt; omega⟩, rfl⟩
  obtain ⟨e, he⟩ : ∃ e : Fin 2048, e.val = (col h d).val := ⟨⟨(col h d).val, lt_of_lt_of_le (col h d).isLt (by decide)⟩, rfl⟩
  rw [← key4_at m c n J e (pos 1 j) h d (by rw [pos_four]; omega) he]
  unfold iblk
  exact key4_place c (V m c) t r n hn j (col h d) J e hJ he

/-- Where a block of window 7 lies in its array. -/
theorem key16_place (c : Dev nD) (A : (b : Ref sig .tc) → Buf (Elt Ideal) ((c : Thread nD τ).loc b)) (t : Fin cfg0.N) (r : Fin 4) (n : Fin 32) (hn : n.val = 4 * t.val + r.val)
    (j : Fin 128) (k : Fin 512) (J : Fin 128) (e : Fin 8192) (hJ : J.val = 0 + j.val) (he : e.val = k.val) :
    (((cfg0.win 7).blk t).view.read (Elt Ideal) (A (Pipeline.arrRef spec0 7)) : FVec Ideal S4x128x512 .f32) (ix3 r j k) = (A main_v21 : FVec Ideal S32x128x8192 .f32) (ix3 n J e) := by
  obtain ⟨-, -, -, -, -, -, -, ⟨a0, a1, a2⟩, -⟩ := places t
  refine congrArg (A main_v21) (funext fun a => Fin.ext ?_)
  match a with
  | ⟨0, _⟩ => show win0_7.index t (0 : Fin 3) * 4 + 1 * r.val = n.val; omega
  | ⟨1, _⟩ => show win0_7.index t (1 : Fin 3) * 128 + 1 * j.val = J.val; omega
  | ⟨2, _⟩ => show win0_7.index t (2 : Fin 3) * 512 + 1 * k.val = e.val; omega

/-- The cached keys of group 2 at one grid point. -/
theorem key16_blk (c : Dev nD) (t : Fin cfg0.N) (r : Fin 4) (n : Fin 32) (hn : n.val = 4 * t.val + r.val) (j : Fin 128) (h : Fin 4) (d : Fin 128) :
    (iblk m c 7 t : FVec Ideal S4x128x512 .f32) (ix3 r j (col h d)) = (m ((c : Thread nD τ).loc main_arg4) : FVec Ideal S1x32x2048x4x128 .f32) (ix5 0 n (pos 2 j) h d) := by
  obtain ⟨J, hJ⟩ : ∃ J : Fin 128, J.val = 0 + j.val := ⟨⟨0 + j.val, by have := j.isLt; omega⟩, rfl⟩
  obtain ⟨e, he⟩ : ∃ e : Fin 8192, e.val = (col h d).val := ⟨⟨(col h d).val, lt_of_lt_of_le (col h d).isLt (by decide)⟩, rfl⟩
  rw [← key16_at m c n J e (pos 2 j) h d (by rw [pos_sixteen]; omega) he]
  unfold iblk
  exact key16_place c (V m c) t r n hn j (col h d) J e hJ he

/-- Where a block of window 8 lies in its array. -/
theorem value1_place (c : Dev nD) (A : (b : Ref sig .tc) → Buf (Elt Ideal) ((c : Thread nD τ).loc b)) (t : Fin cfg0.N) (r : Fin 4) (n : Fin 32) (hn : n.val = 4 * t.val + r.val)
    (j : Fin 128) (k : Fin 512) (J : Fin 2048) (e : Fin 512) (hJ : J.val = 1920 + j.val) (he : e.val = k.val) :
    (((cfg0.win 8).blk t).view.read (Elt Ideal) (A (Pipeline.arrRef spec0 8)) : FVec Ideal S4x128x512 .f32) (ix3 r j k) = (A main_v14 : FVec Ideal S32x2048x512 .f32) (ix3 n J e) := by
  obtain ⟨-, -, -, -, -, -, -, -, ⟨a0, a1, a2⟩, -⟩ := places t
  refine congrArg (A main_v14) (funext fun a => Fin.ext ?_)
  match a with
  | ⟨0, _⟩ => show win0_8.index t (0 : Fin 3) * 4 + 1 * r.val = n.val; omega
  | ⟨1, _⟩ => show win0_8.index t (1 : Fin 3) * 128 + 1 * j.val = J.val; omega
  | ⟨2, _⟩ => show win0_8.index t (2 : Fin 3) * 512 + 1 * k.val = e.val; omega

/-- The cached values of group 0 at one grid point. -/
theorem value1_blk (c : Dev nD) (t : Fin cfg0.N) (r : Fin 4) (n : Fin 32) (hn : n.val = 4 * t.val + r.val) (j : Fin 128) (h : Fin 4) (d : Fin 128) :
    (iblk m c 8 t : FVec Ideal S4x128x512 .f32) (ix3 r j (col h d)) = (m ((c : Thread nD τ).loc main_arg5) : FVec Ideal S1x32x2048x4x128 .f32) (ix5 0 n (pos 0 j) h d) := by
  obtain ⟨J, hJ⟩ : ∃ J : Fin 2048, J.val = 1920 + j.val := ⟨⟨1920 + j.val, by have := j.isLt; omega⟩, rfl⟩
  obtain ⟨e, he⟩ : ∃ e : Fin 512, e.val = (col h d).val := ⟨⟨(col h d).val, lt_of_lt_of_le (col h d).isLt (by decide)⟩, rfl⟩
  rw [← value1_at m c n J e (pos 0 j) h d (by rw [pos_one]; omega) he]
  unfold iblk
  exact value1_place c (V m c) t r n hn j (col h d) J e hJ he

/-- Where a block of window 9 lies in its array. -/
theorem value4_place (c : Dev nD) (A : (b : Ref sig .tc) → Buf (Elt Ideal) ((c : Thread nD τ).loc b)) (t : Fin cfg0.N) (r : Fin 4) (n : Fin 32) (hn : n.val = 4 * t.val + r.val)
    (j : Fin 128) (k : Fin 512) (J : Fin 512) (e : Fin 2048) (hJ : J.val = 384 + j.val) (he : e.val = k.val) :
    (((cfg0.win 9).blk t).view.read (Elt Ideal) (A (Pipeline.arrRef spec0 9)) : FVec Ideal S4x128x512 .f32) (ix3 r j k) = (A main_v20 : FVec Ideal S32x512x2048 .f32) (ix3 n J e) := by
  obtain ⟨-, -, -, -, -, -, -, -, -, ⟨a0, a1, a2⟩, -⟩ := places t
  refine congrArg (A main_v20) (funext fun a => Fin.ext ?_)
  match a with
  | ⟨0, _⟩ => show win0_9.index t (0 : Fin 3) * 4 + 1 * r.val = n.val; omega
  | ⟨1, _⟩ => show win0_9.index t (1 : Fin 3) * 128 + 1 * j.val = J.val; omega
  | ⟨2, _⟩ => show win0_9.index t (2 : Fin 3) * 512 + 1 * k.val = e.val; omega

/-- The cached values of group 1 at one grid point. -/
theorem value4_blk (c : Dev nD) (t : Fin cfg0.N) (r : Fin 4) (n : Fin 32) (hn : n.val = 4 * t.val + r.val) (j : Fin 128) (h : Fin 4) (d : Fin 128) :
    (iblk m c 9 t : FVec Ideal S4x128x512 .f32) (ix3 r j (col h d)) = (m ((c : Thread nD τ).loc main_arg5) : FVec Ideal S1x32x2048x4x128 .f32) (ix5 0 n (pos 1 j) h d) := by
  obtain ⟨J, hJ⟩ : ∃ J : Fin 512, J.val = 384 + j.val := ⟨⟨384 + j.val, by have := j.isLt; omega⟩, rfl⟩
  obtain ⟨e, he⟩ : ∃ e : Fin 2048, e.val = (col h d).val := ⟨⟨(col h d).val, lt_of_lt_of_le (col h d).isLt (by decide)⟩, rfl⟩
  rw [← value4_at m c n J e (pos 1 j) h d (by rw [pos_four]; omega) he]
  unfold iblk
  exact value4_place c (V m c) t r n hn j (col h d) J e hJ he

/-- Where a block of window 10 lies in its array. -/
theorem value16_place (c : Dev nD) (A : (b : Ref sig .tc) → Buf (Elt Ideal) ((c : Thread nD τ).loc b)) (t : Fin cfg0.N) (r : Fin 4) (n : Fin 32) (hn : n.val = 4 * t.val + r.val)
    (j : Fin 128) (k : Fin 512) (J : Fin 128) (e : Fin 8192) (hJ : J.val = 0 + j.val) (he : e.val = k.val) :
    (((cfg0.win 10).blk t).view.read (Elt Ideal) (A (Pipeline.arrRef spec0 10)) : FVec Ideal S4x128x512 .f32) (ix3 r j k) = (A main_v22 : FVec Ideal S32x128x8192 .f32) (ix3 n J e) := by
  obtain ⟨-, -, -, -, -, -, -, -, -, -, ⟨a0, a1, a2⟩, -⟩ := places t
  refine congrArg (A main_v22) (funext fun a => Fin.ext ?_)
  match a with
  | ⟨0, _⟩ => show win0_10.index t (0 : Fin 3) * 4 + 1 * r.val = n.val; omega
  | ⟨1, _⟩ => show win0_10.index t (1 : Fin 3) * 128 + 1 * j.val = J.val; omega
  | ⟨2, _⟩ => show win0_10.index t (2 : Fin 3) * 512 + 1 * k.val = e.val; omega

/-- The cached values of group 2 at one grid point. -/
theorem value16_blk (c : Dev nD) (t : Fin cfg0.N) (r : Fin 4) (n : Fin 32) (hn : n.val = 4 * t.val + r.val) (j : Fin 128) (h : Fin 4) (d : Fin 128) :
    (iblk m c 10 t : FVec Ideal S4x128x512 .f32) (ix3 r j (col h d)) = (m ((c : Thread nD τ).loc main_arg5) : FVec Ideal S1x32x2048x4x128 .f32) (ix5 0 n (pos 2 j) h d) := by
  obtain ⟨J, hJ⟩ : ∃ J : Fin 128, J.val = 0 + j.val := ⟨⟨0 + j.val, by have := j.isLt; omega⟩, rfl⟩
  obtain ⟨e, he⟩ : ∃ e : Fin 8192, e.val = (col h d).val := ⟨⟨(col h d).val, lt_of_lt_of_le (col h d).isLt (by decide)⟩, rfl⟩
  rw [← value16_at m c n J e (pos 2 j) h d (by rw [pos_sixteen]; omega) he]
  unfold iblk
  exact value16_place c (V m c) t r n hn j (col h d) J e hJ he

/-- Where a block of window 11 lies in its array. -/
theorem memKey_place (c : Dev nD) (A : (b : Ref sig .tc) → Buf (Elt Ideal) ((c : Thread nD τ).loc b)) (t : Fin cfg0.N) (r : Fin 4) (n : Fin 32) (hn : n.val = 4 * t.val + r.val)
    (j : Fin 256) (k : Fin 512) (J : Fin 256) (e : Fin 512) (hJ : J.val = 0 + j.val) (he : e.val = k.val) :
    (((cfg0.win 11).blk t).view.read (Elt Ideal) (A (Pipeline.arrRef spec0 11)) : FVec Ideal S4x256x512 .f32) (ix3 r j k) = (A main_v16 : FVec Ideal S32x256x512 .f32) (ix3 n J e) := by
  obtain ⟨-, -, -, -, -, -, -, -, -, -, -, ⟨a0, a1, a2⟩, -⟩ := places t
  refine congrArg (A main_v16) (funext fun a => Fin.ext ?_)
  match a with
  | ⟨0, _⟩ => show win0_11.index t (0 : Fin 3) * 4 + 1 * r.val = n.val; omega
  | ⟨1, _⟩ => show win0_11.index t (1 : Fin 3) * 256 + 1 * j.val = J.val; omega
  | ⟨2, _⟩ => show win0_11.index t (2 : Fin 3) * 512 + 1 * k.val = e.val; omega

/-- The memory's keys at one grid point. -/
theorem memKey_blk (c : Dev nD) (t : Fin cfg0.N) (r : Fin 4) (n : Fin 32) (hn : n.val = 4 * t.val + r.val) (j : Fin 256) (h : Fin 4) (d : Fin 128) :
    (iblk m c 11 t : FVec Ideal S4x256x512 .f32) (ix3 r j (col h d)) = (m ((c : Thread nD τ).loc main_arg6) : FVec Ideal S1x32x256x4x128 .f32) (ix5 0 n j h d) := by
  obtain ⟨J, hJ⟩ : ∃ J : Fin 256, J.val = 0 + j.val := ⟨⟨0 + j.val, by have := j.isLt; omega⟩, rfl⟩
  obtain ⟨e, he⟩ : ∃ e : Fin 512, e.val = (col h d).val := ⟨⟨(col h d).val, lt_of_lt_of_le (col h d).isLt (by decide)⟩, rfl⟩
  rw [← memKey_at m c n J e j h d (by omega) he]
  unfold iblk
  exact memKey_place c (V m c) t r n hn j (col h d) J e hJ he

/-- Where a block of window 12 lies in its array. -/
theorem memValue_place (c : Dev nD) (A : (b : Ref sig .tc) → Buf (Elt Ideal) ((c : Thread nD τ).loc b)) (t : Fin cfg0.N) (r : Fin 4) (n : Fin 32) (hn : n.val = 4 * t.val + r.val)
    (j : Fin 256) (k : Fin 512) (J : Fin 256) (e : Fin 512) (hJ : J.val = 0 + j.val) (he : e.val = k.val) :
    (((cfg0.win 12).blk t).view.read (Elt Ideal) (A (Pipeline.arrRef spec0 12)) : FVec Ideal S4x256x512 .f32) (ix3 r j k) = (A main_v18 : FVec Ideal S32x256x512 .f32) (ix3 n J e) := by
  obtain ⟨-, -, -, -, -, -, -, -, -, -, -, -, ⟨a0, a1, a2⟩⟩ := places t
  refine congrArg (A main_v18) (funext fun a => Fin.ext ?_)
  match a with
  | ⟨0, _⟩ => show win0_12.index t (0 : Fin 3) * 4 + 1 * r.val = n.val; omega
  | ⟨1, _⟩ => show win0_12.index t (1 : Fin 3) * 256 + 1 * j.val = J.val; omega
  | ⟨2, _⟩ => show win0_12.index t (2 : Fin 3) * 512 + 1 * k.val = e.val; omega

/-- The memory's values at one grid point. -/
theorem memValue_blk (c : Dev nD) (t : Fin cfg0.N) (r : Fin 4) (n : Fin 32) (hn : n.val = 4 * t.val + r.val) (j : Fin 256) (h : Fin 4) (d : Fin 128) :
    (iblk m c 12 t : FVec Ideal S4x256x512 .f32) (ix3 r j (col h d)) = (m ((c : Thread nD τ).loc main_arg7) : FVec Ideal S1x32x256x4x128 .f32) (ix5 0 n j h d) := by
  obtain ⟨J, hJ⟩ : ∃ J : Fin 256, J.val = 0 + j.val := ⟨⟨0 + j.val, by have := j.isLt; omega⟩, rfl⟩
  obtain ⟨e, he⟩ : ∃ e : Fin 512, e.val = (col h d).val := ⟨⟨(col h d).val, lt_of_lt_of_le (col h d).isLt (by decide)⟩, rfl⟩
  rw [← memValue_at m c n J e j h d (by omega) he]
  unfold iblk
  exact memValue_place c (V m c) t r n hn j (col h d) J e hJ he

end Cert.AttnSampleIdeal.Blocks
end
-- ==== Proof.AttnPiece.lean ====
/-
  What a trip of the sample attention's loop writes, entry by entry, from the arguments.
-/
module

public import proofs.«01_k».proof.Proof.AttnTrip
public import proofs.«01_k».proof.Proof.AttnRead
public import proofs.«01_k».proof.Proof.AttnArgs

@[expose] public section

set_option maxRecDepth 16384

noncomputable section

open Idealize.ShloMosaic Idealize.ShloMosaic.TcCoe Idealize.SL.Sem

namespace Cert.Attn1k

variable (q : FVec Ideal ⟨2, ![32, 1536]⟩ .f32) (kn : FVec Ideal ⟨2, ![32, 512]⟩ .f32) (ck : FVec Ideal ⟨5, ![1, 32, 2048, 4, 128]⟩ .f32)

/-- A cached key or value. -/
theorem entry_cached (n : Fin 32) (h : Fin 4) (d : Fin 128) (g : Fin 3) (j : Fin 128) :
    entry kn ck n h d g j.castSucc = ck (ix5 0 n (pos g j) h d) := by
  unfold entry
  rw [Fin.lastCases_castSucc]

/-- The new key or value. -/
theorem entry_new (n : Fin 32) (h : Fin 4) (d : Fin 128) (g : Fin 3) : entry kn ck n h d g (Fin.last 128) = kn (ix2 n (col h d)) := by
  unfold entry
  rw [Fin.lastCases_last]

/-- A cached key's score. -/
theorem score_cached (n : Fin 32) (h : Fin 4) (g : Fin 3) (j : Fin 128) :
    score q kn ck n h g j.castSucc = (∑ d : Fin 128, ck (ix5 0 n (pos g j) h d) * q (ix2 n (qcol g h d))) * Ideal.ofBits .f32 0x3DB504F3#32
      - slopeAt g h * ((((128 - j.val : ℤ) : ℝ) : EReal) * ((step g : ℝ) : EReal)) := by
  unfold score penalty
  simp only [entry_cached]
  rw [← EReal.coe_mul, Fin.val_castSucc]
  congr 3
  push_cast
  ring

/-- The new key's score. -/
theorem score_new (n : Fin 32) (h : Fin 4) (g : Fin 3) :
    score q kn ck n h g (Fin.last 128) = (∑ d : Fin 128, kn (ix2 n (col h d)) * q (ix2 n (qcol g h d))) * Ideal.ofBits .f32 0x3DB504F3#32 := by
  unfold score penalty
  simp only [entry_new]
  have e : (((step g * (128 - (Fin.last 128).val : ℤ) : ℤ) : ℝ) : EReal) = 0 := by simp
  rw [e, mul_zero, sub_zero]

end Cert.Attn1k

namespace Cert.AttnSampleIdeal.Head

open Cert.AttnSampleIdeal Cert.AttnSampleIdeal.Gen Cert.AttnSampleIdeal.Blocks Cert.Attn1k

/-- A head's part of a query row at a column. -/
theorem cutQ_at (x : Vec Ideal S4x1x1536 .f32) (k : Fin k0_t1_loop.trips) (r : Fin 4) (hr : r.val = k.val) (c : Nat) (hc : c + 128 ≤ 1536) (d : Fin 128)
    (K : Fin 1536) (hK : K.val = c + d.val) : cutQ x k c hc (ix3 0 0 d) = x (ix3 r 0 K) := by
  have := row_eq k
  refine congrArg x (funext fun a => Fin.ext ?_)
  match a with
  | ⟨0, _⟩ => show row k.val + 1 * 0 = r.val; omega
  | ⟨1, _⟩ => show 0 + 1 * 0 = 0; omega
  | ⟨2, _⟩ => show c + 1 * d.val = K.val; omega

/-- A head's part of a row at a column. -/
theorem cutR_at (x : Vec Ideal S4x1x512 .f32) (k : Fin k0_t1_loop.trips) (r : Fin 4) (hr : r.val = k.val) (c : Nat) (hc : c + 128 ≤ 512) (d : Fin 128)
    (K : Fin 512) (hK : K.val = c + d.val) : cutR x k c hc (ix3 0 0 d) = x (ix3 r 0 K) := by
  have := row_eq k
  refine congrArg x (funext fun a => Fin.ext ?_)
  match a with
  | ⟨0, _⟩ => show row k.val + 1 * 0 = r.val; omega
  | ⟨1, _⟩ => show 0 + 1 * 0 = 0; omega
  | ⟨2, _⟩ => show c + 1 * d.val = K.val; omega

/-- A head's part of a sequence's cached rows at a row and a column. -/
theorem cutC_at (x : Vec Ideal S4x128x512 .f32) (k : Fin k0_t1_loop.trips) (r : Fin 4) (hr : r.val = k.val) (c : Nat) (hc : c + 128 ≤ 512) (j d : Fin 128)
    (K : Fin 512) (hK : K.val = c + d.val) : cutC x k c hc (ix3 0 j d) = x (ix3 r j K) := by
  have := row_eq k
  refine congrArg x (funext fun a => Fin.ext ?_)
  match a with
  | ⟨0, _⟩ => show row k.val + 1 * 0 = r.val; omega
  | ⟨1, _⟩ => show 0 + 1 * j.val = j.val; omega
  | ⟨2, _⟩ => show c + 1 * d.val = K.val; omega

/-- A head's part of a sequence's memory rows at a row and a column. -/
theorem cutM_at (x : Vec Ideal S4x256x512 .f32) (k : Fin k0_t1_loop.trips) (r : Fin 4) (hr : r.val = k.val) (c : Nat) (hc : c + 128 ≤ 512) (j : Fin 256)
    (d : Fin 128) (K : Fin 512) (hK : K.val = c + d.val) : cutM x k c hc (ix3 0 j d) = x (ix3 r j K) := by
  have := row_eq k
  refine congrArg x (funext fun a => Fin.ext ?_)
  match a with
  | ⟨0, _⟩ => show row k.val + 1 * 0 = r.val; omega
  | ⟨1, _⟩ => show 0 + 1 * j.val = j.val; omega
  | ⟨2, _⟩ => show c + 1 * d.val = K.val; omega

/-- The slope the trip loads. -/
theorem slope_ld (x : Vec Ideal S3x4 .f32) (g : Fin 3) (h : Fin 4) : slope x g.val h.val g.isLt h.isLt = x (ix2 g h) := by
  refine congrArg x (funext fun a => Fin.ext ?_)
  match a with
  | ⟨0, _⟩ => rfl
  | ⟨1, _⟩ => rfl

variable (m : (ℓ : Loc nD τ sig) → Buf (Elt Ideal) ℓ)

/-- The queries. -/
abbrev argQ (c : Dev nD) : FVec Ideal S32x1536 .f32 := m ((c : Thread nD τ).loc main_arg0)
/-- The new keys. -/
abbrev argK (c : Dev nD) : FVec Ideal S32x512 .f32 := m ((c : Thread nD τ).loc main_arg1)
/-- The new values. -/
abbrev argV (c : Dev nD) : FVec Ideal S32x512 .f32 := m ((c : Thread nD τ).loc main_arg2)
/-- The queries to the memory. -/
abbrev argX (c : Dev nD) : FVec Ideal S32x512 .f32 := m ((c : Thread nD τ).loc main_arg3)
/-- The cached keys. -/
abbrev argCK (c : Dev nD) : FVec Ideal S1x32x2048x4x128 .f32 := m ((c : Thread nD τ).loc main_arg4)
/-- The cached values. -/
abbrev argCV (c : Dev nD) : FVec Ideal S1x32x2048x4x128 .f32 := m ((c : Thread nD τ).loc main_arg5)
/-- The memory's keys. -/
abbrev argMK (c : Dev nD) : FVec Ideal S1x32x256x4x128 .f32 := m ((c : Thread nD τ).loc main_arg6)
/-- The memory's values. -/
abbrev argMV (c : Dev nD) : FVec Ideal S1x32x256x4x128 .f32 := m ((c : Thread nD τ).loc main_arg7)

section one
variable (c : Dev nD) (t : Fin cfg0.N) (k : Fin k0_t1_loop.trips) (r : Fin 4) (hr : r.val = k.val) (n : Fin 32) (hn : n.val = 4 * t.val + r.val) (h : Fin 4)
include hr hn

/-- The scores of a group's cached keys in a trip. -/
theorem cached_at (g : Fin 3) (b : BitVec 32) (hb : Ideal.ofBits .f32 b = ((step g : ℝ) : EReal)) (x : Vec Ideal S4x128x512 .f32)
    (hx : ∀ (j d : Fin 128), x (ix3 r j (col h d)) = argCK m c (ix5 0 n (pos g j) h d)) (o : Nat) (ho : o + 128 ≤ 1536) (eo : o = 512 * g.val + 128 * h.val)
    (j : Fin 128) :
    scores (cutQ (iblk m c 1 t) k o ho) (cutC x k (128 * h.val) (by omega)) (slope (iblk m c 0 t) g.val h.val g.isLt h.isLt) b (ix2 j 0)
      = score (argQ m c) (argK m c) (argCK m c) n h g j.castSucc := by
  rw [scores_at, score_cached, slope_ld, slope_blk, hb]
  congr 2
  refine Finset.sum_congr rfl fun d _ => ?_
  rw [cutC_at _ k r hr _ _ j d (col h d) rfl, hx, cutQ_at _ k r hr _ _ d (qcol g h d) (by subst eo; rfl), query_blk m c t r n hn]

/-- The new key's score in a trip. -/
theorem new_at (g : Fin 3) (o : Nat) (ho : o + 128 ≤ 1536) (eo : o = 512 * g.val + 128 * h.val) :
    fresh (cutR (iblk m c 2 t) k (128 * h.val) (by omega)) (cutQ (iblk m c 1 t) k o ho) (ix2 0 0)
      = score (argQ m c) (argK m c) (argCK m c) n h g (Fin.last 128) := by
  rw [fresh_at, score_new]
  refine congrArg (fun z : EReal => z * Ideal.ofBits .f32 0x3DB504F3#32) (Finset.sum_congr rfl fun d _ => ?_)
  rw [cutR_at _ k r hr _ _ d (col h d) rfl, newKey_blk m c t r n hn, cutQ_at _ k r hr _ _ d (qcol g h d) (by subst eo; rfl), query_blk m c t r n hn]

/-- What a trip writes for a head of the dilated attention. -/
theorem mixPiece_at (hs : ∀ g j, IsReal (score (argQ m c) (argK m c) (argCK m c) n h g j)) (e : Fin 128) :
    (mixPiece k (iblk m c 0 t) (iblk m c 1 t) (iblk m c 2 t) (iblk m c 3 t) (iblk m c 5 t) (iblk m c 6 t) (iblk m c 7 t) (iblk m c 8 t) (iblk m c 9 t)
        (iblk m c 10 t) h.val h.isLt).2 (ix3 0 0 e)
      = mixOut (argQ m c) (argK m c) (argV m c) (argCK m c) (argCV m c) n h e := by
  have b0 : Ideal.ofBits .f32 0x3F800000#32 = ((step 0 : ℝ) : EReal) := by rw [bits_one]; simp [step]
  have b1 : Ideal.ofBits .f32 0x40800000#32 = ((step 1 : ℝ) : EReal) := by rw [bits_four]; simp [step]
  have b2 : Ideal.ofBits .f32 0x41800000#32 = ((step 2 : ℝ) : EReal) := by rw [bits_sixteen]; simp [step]
  have s0 := cached_at m c t k r hr n hn h 0 _ b0 (iblk m c 5 t) (fun j d => key1_blk m c t r n hn j h d) (128 * h.val) (by omega) (by simp)
  have s1 := cached_at m c t k r hr n hn h 1 _ b1 (iblk m c 6 t) (fun j d => key4_blk m c t r n hn j h d) (128 * h.val + 512) (by omega) (by simp; omega)
  have s2 := cached_at m c t k r hr n hn h 2 _ b2 (iblk m c 7 t) (fun j d => key16_blk m c t r n hn j h d) (128 * h.val + 1024) (by omega) (by simp; omega)
  have n0 := new_at m c t k r hr n hn h 0 (128 * h.val) (by omega) (by simp)
  have n1 := new_at m c t k r hr n hn h 1 (128 * h.val + 512) (by omega) (by simp; omega)
  have n2 := new_at m c t k r hr n hn h 2 (128 * h.val + 1024) (by omega) (by simp; omega)
  unfold mixPiece mix mixOut
  refine blend_real _ _ _ _ _ _ _ _ _ _ _ e _ _ (top_real _ _ _ _ _ _ ?_ ?_ ?_ ?_ ?_ ?_) ?_ ?_ ?_ ?_ ?_ ?_ ?_ ?_ ?_ ?_
  · exact fun j => (s0 j).symm ▸ hs _ _
  · exact fun j => (s1 j).symm ▸ hs _ _
  · exact fun j => (s2 j).symm ▸ hs _ _
  · exact n0.symm ▸ hs _ _
  · exact n1.symm ▸ hs _ _
  · exact n2.symm ▸ hs _ _
  · exact fun j => (s0 j).trans (coe_part (hs _ _))
  · exact fun j => (s1 j).trans (coe_part (hs _ _))
  · exact fun j => (s2 j).trans (coe_part (hs _ _))
  · exact n0.trans (coe_part (hs _ _))
  · exact n1.trans (coe_part (hs _ _))
  · exact n2.trans (coe_part (hs _ _))
  · intro j
    rw [entry_cached, cutC_at _ k r hr _ _ j e (col h e) rfl]
    exact value1_blk m c t r n hn j h e
  · intro j
    rw [entry_cached, cutC_at _ k r hr _ _ j e (col h e) rfl]
    exact value4_blk m c t r n hn j h e
  · intro j
    rw [entry_cached, cutC_at _ k r hr _ _ j e (col h e) rfl]
    exact value16_blk m c t r n hn j h e
  · intro g
    rw [entry_new, cutR_at _ k r hr _ _ e (col h e) rfl]
    exact newValue_blk m c t r n hn (col h e)

/-- What a trip writes for a head of the attention to the memory. -/
theorem memPiece_at (hs : ∀ j, IsReal (memScore (argX m c) (argMK m c) n h j)) (e : Fin 128) :
    (memPiece k (iblk m c 4 t) (iblk m c 11 t) (iblk m c 12 t) h.val h.isLt).2 (ix3 0 0 e)
      = memOut (argX m c) (argMK m c) (argMV m c) n h e := by
  unfold memPiece memOut
  refine memMix_real _ _ _ e _ _ ?_ ?_
  · intro j
    refine Eq.trans ?_ (coe_part (hs j))
    unfold memScore
    refine congrArg (fun z : EReal => z * Ideal.ofBits .f32 0x3DB504F3#32) (Finset.sum_congr rfl fun d _ => ?_)
    rw [cutM_at _ k r hr _ _ j d (col h d) rfl, memKey_blk m c t r n hn, cutR_at _ k r hr _ _ d (col h d) rfl, memQuery_blk m c t r n hn]
  · intro j
    rw [cutM_at _ k r hr _ _ j e (col h e) rfl]
    exact memValue_blk m c t r n hn j h e

end one

end Cert.AttnSampleIdeal.Head
end
-- ==== Proof.AttnBlocks.lean ====
/-
  The sample attention's results, entry by entry, assembled from what the grid points write back.
-/
module

public import proofs.«01_k».proof.Proof.AttnPiece

@[expose] public section

set_option maxRecDepth 16384

noncomputable section

open Idealize.ShloMosaic Idealize.ShloMosaic.TcCoe Idealize.SL.Sem

namespace Cert.AttnSampleIdeal.Head

open Cert.AttnSampleIdeal Cert.AttnSampleIdeal.Gen Cert.AttnSampleIdeal.Blocks Cert.Attn1k

section run
variable (c : Dev nD) (i : grid0.Coords) (arg1 : Memref sig .tc .smem S3x4 .f32) (harg1 : arg1.IsWhole) (arg2 : Memref sig .tc .vmem S4x1x1536 .f32) (harg2 : arg2.IsWhole) (arg3 : Memref sig .tc .vmem S4x1x512 .f32) (harg3 : arg3.IsWhole) (arg4 : Memref sig .tc .vmem S4x1x512 .f32) (harg4 : arg4.IsWhole) (arg5 : Memref sig .tc .vmem S4x1x512 .f32) (harg5 : arg5.IsWhole) (arg6 : Memref sig .tc .vmem S4x128x512 .f32) (harg6 : arg6.IsWhole) (arg7 : Memref sig .tc .vmem S4x128x512 .f32) (harg7 : arg7.IsWhole) (arg8 : Memref sig .tc .vmem S4x128x512 .f32) (harg8 : arg8.IsWhole) (arg9 : Memref sig .tc .vmem S4x128x512 .f32) (harg9 : arg9.IsWhole) (arg10 : Memref sig .tc .vmem S4x128x512 .f32) (harg10 : arg10.IsWhole) (arg11 : Memref sig .tc .vmem S4x128x512 .f32) (harg11 : arg11.IsWhole) (arg12 : Memref sig .tc .vmem S4x256x512 .f32) (harg12 : arg12.IsWhole) (arg13 : Memref sig .tc .vmem S4x256x512 .f32) (harg13 : arg13.IsWhole) (arg14 : Memref sig .tc .vmem S4x1x512 .f32) (harg14 : arg14.IsWhole) (arg15 : Memref sig .tc .vmem S4x1x512 .f32) (harg15 : arg15.IsWhole)
  (x0 : Vec Ideal S3x4 .f32) (x1 : Vec Ideal S4x1x1536 .f32) (x2 : Vec Ideal S4x1x512 .f32) (x3 : Vec Ideal S4x1x512 .f32) (x4 : Vec Ideal S4x1x512 .f32) (x5 : Vec Ideal S4x128x512 .f32) (x6 : Vec Ideal S4x128x512 .f32) (x7 : Vec Ideal S4x128x512 .f32) (x8 : Vec Ideal S4x128x512 .f32) (x9 : Vec Ideal S4x128x512 .f32) (x10 : Vec Ideal S4x128x512 .f32) (x11 : Vec Ideal S4x256x512 .f32) (x12 : Vec Ideal S4x256x512 .f32)

/-- What holds of every head's piece holds of all the pieces of the trips so far. -/
theorem trips_all (P Q : View.Piece (Elt Ideal) S4x1x512 .f32 → Prop)
    (hP : ∀ (k : Fin k0_t1_loop.trips) (h : Nat) (hh : h < 4), P (mixPiece k x0 x1 x2 x3 x5 x6 x7 x8 x9 x10 h hh))
    (hQ : ∀ (k : Fin k0_t1_loop.trips) (h : Nat) (hh : h < 4), Q (memPiece k x4 x11 x12 h hh)) :
    ∀ n : Nat, n ≤ k0_t1_loop.trips → (∀ p ∈ (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (harg1.unread x0) (harg2.unread x1) (harg3.unread x2) (harg4.unread x3) (harg5.unread x4) (harg6.unread x5) (harg7.unread x6) (harg8.unread x7) (harg9.unread x8) (harg10.unread x9) (harg11.unread x10) (harg12.unread x11) (harg13.unread x12) n).1, P p)
      ∧ (∀ p ∈ (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (harg1.unread x0) (harg2.unread x1) (harg3.unread x2) (harg4.unread x3) (harg5.unread x4) (harg6.unread x5) (harg7.unread x6) (harg8.unread x7) (harg9.unread x8) (harg10.unread x9) (harg11.unread x10) (harg12.unread x11) (harg13.unread x12) n).2, Q p)
  | 0, _ => ⟨fun p hp => absurd hp (by rw [pb_k0_t1.eq_1]; exact List.not_mem_nil), fun p hp => absurd hp (by rw [pb_k0_t1.eq_1]; exact List.not_mem_nil)⟩
  | n + 1, hn => by
    obtain ⟨ih, jh⟩ := trips_all P Q hP hQ n (Nat.le_of_succ_le hn)
    have e := pb_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (harg1.unread x0) (harg2.unread x1) (harg3.unread x2) (harg4.unread x3) (harg5.unread x4) (harg6.unread x5) (harg7.unread x6) (harg8.unread x7) (harg9.unread x8) (harg10.unread x9) (harg11.unread x10) (harg12.unread x11) (harg13.unread x12) ⟨n, hn⟩
    rw [trip_mix, trip_mem] at e
    simp only [] at e
    rw [e]
    constructor
    · intro p hp
      rcases List.mem_append.mp hp with h | h
      · simp only [List.mem_cons, List.not_mem_nil, or_false] at h
        rcases h with rfl | rfl | rfl | rfl <;> exact hP _ _ _
      · exact ih p h
    · intro p hp
      rcases List.mem_append.mp hp with h | h
      · simp only [List.mem_cons, List.not_mem_nil, or_false] at h
        rcases h with rfl | rfl | rfl | rfl <;> exact hQ _ _ _
      · exact jh p h

/-- What holds of every head's piece holds of all the pieces of the body. -/
theorem run_all (P Q : View.Piece (Elt Ideal) S4x1x512 .f32 → Prop)
    (hP : ∀ (k : Fin k0_t1_loop.trips) (h : Nat) (hh : h < 4), P (mixPiece k x0 x1 x2 x3 x5 x6 x7 x8 x9 x10 h hh))
    (hQ : ∀ (k : Fin k0_t1_loop.trips) (h : Nat) (hh : h < 4), Q (memPiece k x4 x11 x12 h hh)) :
    (∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12).1, P p)
      ∧ (∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12).2.1, Q p) := by
  have := trips_all c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 P Q hP hQ k0_t1_loop.trips (le_refl _)
  unfold kernelRun0_A
  dsimp only
  simpa using this

end run

variable (m : (ℓ : Loc nD τ sig) → Buf (Elt Ideal) ℓ)

/-- A piece's function of the block agrees with its payload when it does at every column. -/
theorem piece_fun (G : S4x1x512.Idx → EReal) (k : Fin k0_t1_loop.trips) (o : Nat) (ho : o + 128 ≤ 512) (v : FVec Ideal S1x1x128 .f32)
    (r : Fin 4) (hr : r.val = k.val) (hv : ∀ (e : Fin 128) (K : Fin 512), K.val = o + e.val → v (ix3 0 0 e) = G (ix3 r 0 K))
    (x : (Rect.unit (s := S4x1x512) ![row k.val, 0, o] S1x1x128.size (cut_in 1 1 512 k o (le_refl _) ho)).shape.Idx) :
    v x = G ((Rect.unit (s := S4x1x512) ![row k.val, 0, o] S1x1x128.size (cut_in 1 1 512 k o (le_refl _) ho)).emb x) := by
  have x0 : (x 0).val < 1 := (x 0).isLt
  have x1 : (x 1).val < 1 := (x 1).isLt
  have x2 : (x 2).val < 128 := (x 2).isLt
  have hk := row_eq k
  have ex : x = ix3 0 0 ⟨(x 2).val, x2⟩ := by
    funext a
    match a with
    | ⟨0, _⟩ => exact Fin.ext (by show (x 0).val = 0; omega)
    | ⟨1, _⟩ => exact Fin.ext (by show (x 1).val = 0; omega)
    | ⟨2, _⟩ => rfl
  have hv' := hv ⟨(x 2).val, x2⟩ ⟨o + (x 2).val, by omega⟩ rfl
  rw [← ex] at hv'
  rw [hv']
  refine congrArg G (funext fun a => Fin.ext ?_)
  match a with
  | ⟨0, _⟩ => show r.val = row k.val + 1 * (x 0).val; omega
  | ⟨1, _⟩ => show 0 = 0 + 1 * (x 1).val; omega
  | ⟨2, _⟩ => show o + (x 2).val = o + 1 * (x 2).val; omega

/-- The sequence a row of a grid point's block belongs to. -/
def seqOf (t : Fin cfg0.N) (r : Fin 4) : Fin 32 :=
  ⟨4 * t.val + r.val, by have : t.val < 8 := lt_of_lt_of_eq t.isLt N_0; omega⟩

/-- The head a column belongs to. -/
def headOf (k : Fin 512) : Fin 4 := ⟨k.val / 128, by omega⟩

/-- The place of a column in its head. -/
def laneOf (k : Fin 512) : Fin 128 := ⟨k.val % 128, Nat.mod_lt _ (by decide)⟩

/-- The dilated attention's result at a grid point's block. -/
def mixBlk (c : Dev nD) (t : Fin cfg0.N) (y : S4x1x512.Idx) : EReal :=
  mixOut (argQ m c) (argK m c) (argV m c) (argCK m c) (argCV m c) (seqOf t (y 0)) (headOf (y 2)) (laneOf (y 2))

/-- The result of the attention to the memory at a grid point's block. -/
def memBlk (c : Dev nD) (t : Fin cfg0.N) (y : S4x1x512.Idx) : EReal :=
  memOut (argX m c) (argMK m c) (argMV m c) (seqOf t (y 0)) (headOf (y 2)) (laneOf (y 2))

variable (c : Dev nD) (hs : ∀ n h g j, IsReal (score (argQ m c) (argK m c) (argCK m c) n h g j)) (hm : ∀ n h j, IsReal (memScore (argX m c) (argMK m c) n h j))
include hs hm

/-- What a grid point leaves in its two blocks. -/
theorem outs_at (t : Fin cfg0.N) (y : S4x1x512.Idx) :
    out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y = mixBlk m c t y
    ∧ out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y = memBlk m c t y := by
  have trips : ∀ k : Fin k0_t1_loop.trips, k.val < 4 := fun k => (row_eq k) ▸ trip_lt k
  have all := run_all c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    (fun p => ∀ x : p.1.shape.Idx, p.2 x = mixBlk m c t (p.1.emb x)) (fun p => ∀ x : p.1.shape.Idx, p.2 x = memBlk m c t (p.1.emb x))
    (fun k h hh x => by
      refine piece_fun (mixBlk m c t) k (128 * h) (by omega) _ ⟨k.val, trips k⟩ rfl (fun e K hK => ?_) x
      have e1 : headOf K = ⟨h, hh⟩ := Fin.ext (by show K.val / 128 = h; omega)
      have e2 : laneOf K = e := Fin.ext (by show K.val % 128 = e.val; omega)
      show _ = mixOut _ _ _ _ _ (seqOf t ⟨k.val, trips k⟩) (headOf K) (laneOf K)
      rw [e1, e2]
      exact mixPiece_at m c t k ⟨k.val, trips k⟩ rfl (seqOf t ⟨k.val, trips k⟩) rfl ⟨h, hh⟩ (hs _ _) e)
    (fun k h hh x => by
      refine piece_fun (memBlk m c t) k (128 * h) (by omega) _ ⟨k.val, trips k⟩ rfl (fun e K hK => ?_) x
      have e1 : headOf K = ⟨h, hh⟩ := Fin.ext (by show K.val / 128 = h; omega)
      have e2 : laneOf K = e := Fin.ext (by show K.val % 128 = e.val; omega)
      show _ = memOut _ _ _ (seqOf t ⟨k.val, trips k⟩) (headOf K) (laneOf K)
      rw [e1, e2]
      exact memPiece_at m c t k ⟨k.val, trips k⟩ rfl (seqOf t ⟨k.val, trips k⟩) rfl ⟨h, hh⟩ (hm _ _) e)
  constructor
  · unfold out0_A_13
    exact View.read_writes_apply_of_pieces _ _ (mixBlk m c t) _ all.1 y (cover0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y)
  · unfold out0_A_14
    exact View.read_writes_apply_of_pieces _ _ (memBlk m c t) _ all.2 y (cover0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y)

omit hs hm in
/-- Every grid point writes its blocks back. -/
theorem flushes : ∀ t : Fin cfg0.N, (cfg0.win 13).flush t = true ∧ (cfg0.win 14).flush t = true :=
  (by decide +kernel : ∀ t : Fin grid0.N, _)

omit hs hm in
/-- Where the results' blocks lie. -/
theorem out_places : ∀ t : Fin cfg0.N, (win0_13.index t (0 : Fin 3) = t.val ∧ win0_13.index t (1 : Fin 3) = 0 ∧ win0_13.index t (2 : Fin 3) = 0)
    ∧ (win0_14.index t (0 : Fin 3) = t.val ∧ win0_14.index t (1 : Fin 3) = 0 ∧ win0_14.index t (2 : Fin 3) = 0) :=
  (by decide +kernel : ∀ t : Fin grid0.N, _)

/-- The dilated attention's result. -/
theorem mix_result (n : Fin 32) (k : Fin 512) : ((dats m 0 c).arrAt 13 cfg0.N : FVec Ideal S32x1x512 .f32) (ix3 n 0 k)
    = mixOut (argQ m c) (argK m c) (argV m c) (argCK m c) (argCV m c) n (headOf k) (laneOf k) := by
  have hN : n.val / 4 < cfg0.N := lt_of_lt_of_eq (by omega) N_0.symm
  have hb := (Value.blocks13 m c ⟨n.val / 4, hN⟩ (flushes ⟨n.val / 4, hN⟩).1).trans (Value.flushed13_A m c ⟨n.val / 4, hN⟩)
  have hr : n.val % 4 < 4 := Nat.mod_lt _ (by decide)
  have hy := congrFun hb (ix3 ⟨n.val % 4, hr⟩ 0 k)
  have ho := (outs_at m c hs hm ⟨n.val / 4, hN⟩ (ix3 ⟨n.val % 4, hr⟩ 0 k)).1
  have hp := (out_places ⟨n.val / 4, hN⟩).1
  have ei : ix3 n 0 k = ((cfg0.win 13).blk ⟨n.val / 4, hN⟩).view.emb (ix3 ⟨n.val % 4, hr⟩ 0 k) := by
    obtain ⟨p0, p1, p2⟩ := hp
    funext a
    refine Fin.ext ?_
    match a with
    | ⟨0, _⟩ => show n.val = win0_13.index ⟨n.val / 4, hN⟩ (0 : Fin 3) * 4 + 1 * (n.val % 4); rw [p0]; dsimp only; omega
    | ⟨1, _⟩ => show 0 = win0_13.index ⟨n.val / 4, hN⟩ (1 : Fin 3) * 1 + 1 * 0; omega
    | ⟨2, _⟩ => show k.val = win0_13.index ⟨n.val / 4, hN⟩ (2 : Fin 3) * 512 + 1 * k.val; omega
  rw [ei]
  refine Eq.trans hy (Eq.trans ho ?_)
  unfold mixBlk
  have en : seqOf ⟨n.val / 4, hN⟩ ⟨n.val % 4, hr⟩ = n := Fin.ext (by show 4 * (n.val / 4) + n.val % 4 = n.val; omega)
  show mixOut _ _ _ _ _ (seqOf ⟨n.val / 4, hN⟩ ⟨n.val % 4, hr⟩) _ _ = _
  rw [en]
  rfl

/-- The result of the attention to the memory. -/
theorem mem_result (n : Fin 32) (k : Fin 512) : ((dats m 0 c).arrAt 14 cfg0.N : FVec Ideal S32x1x512 .f32) (ix3 n 0 k)
    = memOut (argX m c) (argMK m c) (argMV m c) n (headOf k) (laneOf k) := by
  have hN : n.val / 4 < cfg0.N := lt_of_lt_of_eq (by omega) N_0.symm
  have hb := (Value.blocks14 m c ⟨n.val / 4, hN⟩ (flushes ⟨n.val / 4, hN⟩).2).trans (Value.flushed14_A m c ⟨n.val / 4, hN⟩)
  have hr : n.val % 4 < 4 := Nat.mod_lt _ (by decide)
  have hy := congrFun hb (ix3 ⟨n.val % 4, hr⟩ 0 k)
  have ho := (outs_at m c hs hm ⟨n.val / 4, hN⟩ (ix3 ⟨n.val % 4, hr⟩ 0 k)).2
  have hp := (out_places ⟨n.val / 4, hN⟩).2
  have ei : ix3 n 0 k = ((cfg0.win 14).blk ⟨n.val / 4, hN⟩).view.emb (ix3 ⟨n.val % 4, hr⟩ 0 k) := by
    obtain ⟨p0, p1, p2⟩ := hp
    funext a
    refine Fin.ext ?_
    match a with
    | ⟨0, _⟩ => show n.val = win0_14.index ⟨n.val / 4, hN⟩ (0 : Fin 3) * 4 + 1 * (n.val % 4); rw [p0]; dsimp only; omega
    | ⟨1, _⟩ => show 0 = win0_14.index ⟨n.val / 4, hN⟩ (1 : Fin 3) * 1 + 1 * 0; omega
    | ⟨2, _⟩ => show k.val = win0_14.index ⟨n.val / 4, hN⟩ (2 : Fin 3) * 512 + 1 * k.val; omega
  rw [ei]
  refine Eq.trans hy (Eq.trans ho ?_)
  unfold memBlk
  have en : seqOf ⟨n.val / 4, hN⟩ ⟨n.val % 4, hr⟩ = n := Fin.ext (by show 4 * (n.val / 4) + n.val % 4 = n.val; omega)
  show memOut _ _ _ (seqOf ⟨n.val / 4, hN⟩ ⟨n.val % 4, hr⟩) _ _ = _
  rw [en]
  rfl

end Cert.AttnSampleIdeal.Head
end
-- ==== Proof.AttnRef.lean ====
/-
  The sample attention's reference read at an index over the extended reals.
-/
module

public import proofs.«01_k».proof.Proof.AttnSpec
public import proofs.«01_k».proof.Proof.Gen.AttnSampleRefIdeal.Read

@[expose] public section

set_option maxRecDepth 16384

noncomputable section

open Idealize.ShloMosaic Idealize.ShloMosaic.TcCoe

namespace Cert.Attn1k

open Cert.AttnSampleRefIdeal Cert.AttnSampleRefIdeal.Gen Cert.AttnSampleRefIdeal.Read Idealize.ShloMosaic.StableHlo

/-- The distances of a group's window, from its length and its step. -/
def refBack (a b : BitVec 32) : FVec Ideal S129 .f32 :=
  sitofp .f32 (subi (broadcastInDim S129 ![] bcast_S_S129 (constantI S_ 32 a))
    (muli (broadcastInDim S129 ![] bcast_S_S129 (constantI S_ 32 b)) (iotaInDim S129 32 0)))

/-- A group's scores, from its keys, its queries, the slopes and the distances. -/
def refScores (K : FVec Ideal S32x129x4x128 .f32) (Q : FVec Ideal S32x1x4x128 .f32) (sl : FVec Ideal S4 .f32) (back : FVec Ideal S129 .f32) :
    FVec Ideal S32x1x4x129 .f32 :=
  subf (mulf (transpose S32x1x4x129 [0, 3, 1, 2] (Host.dotGeneral dot_S32x129x4x128_S32x1x4x128_S32x4x129x1_3_3_1_1_02_02 none K Q)
      transposes_S32x4x129x1_S32x1x4x129_0_3_1_2) (broadcastInDim S32x1x4x129 ![] bcast_S_S32x1x4x129 (constant S_ .f32 0x3DB504F3#32)))
    (broadcastInDim S32x1x4x129 ![0, 1, 2, 3] bcast_S1x1x4x129_S32x1x4x129_0_1_2_3
      (broadcastInDim S1x1x4x129 ![2, 3] bcast_S4x129_S1x1x4x129_2_3
        (mulf (broadcastInDim S4x129 ![0, 1] bcast_S4x1_S4x129_0_1 (broadcastInDim S4x1 ![0] bcast_S4_S4x1_0 sl))
          (broadcastInDim S4x129 ![0, 1] bcast_S1x129_S4x129_0_1 (broadcastInDim S1x129 ![1] bcast_S129_S1x129_1 back)))))

/-- The largest score of each head. -/
def refPeak (s : FVec Ideal S32x1x4x129 .f32) : FVec Ideal S32x1x4 .f32 :=
  Host.reduce FloatOps.maximumf s (constant S_ .f32 0xFF800000#32) reducesTo_S32x1x4x129_S32x1x4_d3 h_S_

/-- The logarithm of the sum of the exponentials of each head's scores. -/
def refLse (s : FVec Ideal S32x1x4x129 .f32) : FVec Ideal S32x1x4 .f32 :=
  addf (shapeCast _ (broadcastInDim S32x1x4x1 ![0, 1, 2] bcast_S32x1x4_S32x1x4x1_0_1_2 (refPeak s)) shapeCasts_S32x1x4x1_S32x1x4)
    (Host.log (Host.reduceAdd (Host.exp (subf s (broadcastInDim S32x1x4x129 ![0, 1, 2, 3] bcast_S32x1x4x1_S32x1x4x129_0_1_2_3
      (broadcastInDim S32x1x4x1 ![0, 1, 2] bcast_S32x1x4_S32x1x4x1_0_1_2 (refPeak s)))))
      (constant S_ .f32 0x00000000#32) reducesTo_S32x1x4x129_S32x1x4_d3 h_S_))

/-- A group's weighted values. -/
def refPart (s : FVec Ideal S32x1x4x129 .f32) (l : FVec Ideal S32x1x4 .f32) (V : FVec Ideal S32x129x4x128 .f32) : FVec Ideal S32x1x4x128 .f32 :=
  transpose S32x1x4x128 [0, 3, 1, 2] (Host.dotGeneral dot_S32x129x4x128_S32x1x4x129_S32x4x128x1_1_3_3_1_02_02 none V
    (Host.exp (subf s (broadcastInDim S32x1x4x129 ![0, 1, 2, 3] bcast_S32x1x4x1_S32x1x4x129_0_1_2_3
      (broadcastInDim S32x1x4x1 ![0, 1, 2] bcast_S32x1x4_S32x1x4x1_0_1_2 l))))) transposes_S32x4x128x1_S32x1x4x128_0_3_1_2

/-- The three groups' logarithms, joined. -/
def refJoin (a b c : FVec Ideal S32x1x4 .f32) : FVec Ideal S3x32x1x4 .f32 :=
  concatenate S3x32x1x4 0 [⟨S1x32x1x4, broadcastInDim S1x32x1x4 ![1, 2, 3] bcast_S32x1x4_S1x32x1x4_1_2_3 a⟩,
    ⟨S1x32x1x4, broadcastInDim S1x32x1x4 ![1, 2, 3] bcast_S32x1x4_S1x32x1x4_1_2_3 b⟩,
    ⟨S1x32x1x4, broadcastInDim S1x32x1x4 ![1, 2, 3] bcast_S32x1x4_S1x32x1x4_1_2_3 c⟩] concatenates_S1x32x1x4_S1x32x1x4_S1x32x1x4_S3x32x1x4_d0

/-- The three groups' weighted values, joined. -/
def refStack (a b c : FVec Ideal S32x1x4x128 .f32) : FVec Ideal S3x32x1x4x128 .f32 :=
  concatenate S3x32x1x4x128 0 [⟨S1x32x1x4x128, broadcastInDim S1x32x1x4x128 ![1, 2, 3, 4] bcast_S32x1x4x128_S1x32x1x4x128_1_2_3_4 a⟩,
    ⟨S1x32x1x4x128, broadcastInDim S1x32x1x4x128 ![1, 2, 3, 4] bcast_S32x1x4x128_S1x32x1x4x128_1_2_3_4 b⟩,
    ⟨S1x32x1x4x128, broadcastInDim S1x32x1x4x128 ![1, 2, 3, 4] bcast_S32x1x4x128_S1x32x1x4x128_1_2_3_4 c⟩]
    concatenates_S1x32x1x4x128_S1x32x1x4x128_S1x32x1x4x128_S3x32x1x4x128_d0

/-- The largest of the groups' logarithms. -/
def refTop (L : FVec Ideal S3x32x1x4 .f32) : FVec Ideal S32x1x4 .f32 :=
  Host.reduce FloatOps.maximumf L (constant S_ .f32 0xFF800000#32) reducesTo_S3x32x1x4_S32x1x4_d0 h_S_

/-- The exponentials of the groups' logarithms less the largest of them. -/
def refExps (L : FVec Ideal S3x32x1x4 .f32) : FVec Ideal S3x32x1x4 .f32 :=
  Host.exp (subf L (broadcastInDim S3x32x1x4 ![0, 1, 2, 3] bcast_S1x32x1x4_S3x32x1x4_0_1_2_3
    (broadcastInDim S1x32x1x4 ![1, 2, 3] bcast_S32x1x4_S1x32x1x4_1_2_3 (refTop L))))

/-- The groups mixed by the exponentials of their logarithms. -/
def refMix (x : FVec Ideal S3x32x1x4 .f32) (O : FVec Ideal S3x32x1x4x128 .f32) : FVec Ideal S32x1x4x128 .f32 :=
  Host.reduceAdd (mulf (broadcastInDim S3x32x1x4x128 ![0, 1, 2, 3, 4] bcast_S3x32x1x4x1_S3x32x1x4x128_0_1_2_3_4
    (broadcastInDim S3x32x1x4x1 ![0, 1, 2, 3] bcast_S3x32x1x4_S3x32x1x4x1_0_1_2_3
      (Host.divf x (broadcastInDim S3x32x1x4 ![0, 1, 2, 3] bcast_S1x32x1x4_S3x32x1x4_0_1_2_3
        (broadcastInDim S1x32x1x4 ![1, 2, 3] bcast_S32x1x4_S1x32x1x4_1_2_3
          (Host.reduceAdd x (constant S_ .f32 0x00000000#32) reducesTo_S3x32x1x4_S32x1x4_d0 h_S_)))))) O)
    (constant S_ .f32 0x00000000#32) reducesTo_S3x32x1x4x128_S32x1x4x128_d0 h_S_

/-- The distances of a group's window, at a key. -/
theorem refBack_at (a b : BitVec 32) (j : Fin 129) : refBack a b (ix1 j) = (((a - b * BitVec.ofNat 32 j.val).toInt : ℝ) : EReal) := by
  unfold refBack
  pointwise
  rfl

/-- A group's scores, at a head's key. -/
theorem refScores_at (K : FVec Ideal S32x129x4x128 .f32) (Q : FVec Ideal S32x1x4x128 .f32) (sl : FVec Ideal S4 .f32) (back : FVec Ideal S129 .f32)
    (n : Fin 32) (h : Fin 4) (j : Fin 129) : refScores K Q sl back (ix4 n 0 h j)
      = (∑ d : Fin 128, K (ix4 n j h d) * Q (ix4 n 0 h d)) * Ideal.ofBits .f32 0x3DB504F3#32 - sl (ix1 h) * back (ix1 j) := by
  unfold refScores
  pointwise!

/-- The largest score of a head. -/
theorem refPeak_at (s : FVec Ideal S32x1x4x129 .f32) (n : Fin 32) (h : Fin 4) :
    refPeak s (ix3 n 0 h) = Finset.fold max (Ideal.ofBits .f32 0xFF800000#32) (fun j : Fin 129 => s (ix4 n 0 h j)) Finset.univ := by
  unfold refPeak
  pointwise!

/-- The logarithm of the sum of the exponentials of a head's scores. -/
theorem refLse_at (s : FVec Ideal S32x1x4x129 .f32) (n : Fin 32) (h : Fin 4) :
    refLse s (ix3 n 0 h) = refPeak s (ix3 n 0 h) + Ideal.log (∑ j : Fin 129, Ideal.exp (s (ix4 n 0 h j) - refPeak s (ix3 n 0 h))) := by
  unfold refLse
  generalize refPeak s = p
  pointwise!

/-- A group's weighted values, at an entry. -/
theorem refPart_at (s : FVec Ideal S32x1x4x129 .f32) (l : FVec Ideal S32x1x4 .f32) (V : FVec Ideal S32x129x4x128 .f32) (n : Fin 32) (h : Fin 4) (e : Fin 128) :
    refPart s l V (ix4 n 0 h e) = ∑ j : Fin 129, V (ix4 n j h e) * Ideal.exp (s (ix4 n 0 h j) - l (ix3 n 0 h)) := by
  unfold refPart
  pointwise!

/-- The three groups' logarithms, one at a time. -/
theorem refJoin_at (a b c : FVec Ideal S32x1x4 .f32) (g : Fin 3) (n : Fin 32) (h : Fin 4) :
    refJoin a b c (ix4 g n 0 h) = ![a (ix3 n 0 h), b (ix3 n 0 h), c (ix3 n 0 h)] g := by
  unfold refJoin
  fin_cases g <;> pointwise!

/-- The three groups' weighted values, one at a time. -/
theorem refStack_at (a b c : FVec Ideal S32x1x4x128 .f32) (g : Fin 3) (n : Fin 32) (h : Fin 4) (e : Fin 128) :
    refStack a b c (ix5 g n 0 h e) = ![a (ix4 n 0 h e), b (ix4 n 0 h e), c (ix4 n 0 h e)] g := by
  unfold refStack
  fin_cases g <;> pointwise!

/-- The largest of the groups' logarithms, at a head. -/
theorem refTop_at (L : FVec Ideal S3x32x1x4 .f32) (n : Fin 32) (h : Fin 4) :
    refTop L (ix3 n 0 h) = Finset.fold max (Ideal.ofBits .f32 0xFF800000#32) (fun g : Fin 3 => L (ix4 g n 0 h)) Finset.univ := by
  unfold refTop
  pointwise!

/-- The exponentials of the groups' logarithms, at a head. -/
theorem refExps_at (L : FVec Ideal S3x32x1x4 .f32) (g : Fin 3) (n : Fin 32) (h : Fin 4) :
    refExps L (ix4 g n 0 h) = Ideal.exp (L (ix4 g n 0 h) - refTop L (ix3 n 0 h)) := by
  unfold refExps
  generalize refTop L = t
  pointwise!

/-- The groups mixed, at an entry. -/
theorem refMix_at (x : FVec Ideal S3x32x1x4 .f32) (O : FVec Ideal S3x32x1x4x128 .f32) (n : Fin 32) (h : Fin 4) (e : Fin 128) :
    refMix x O (ix4 n 0 h e) = ∑ g : Fin 3, Ideal.div (x (ix4 g n 0 h)) (∑ i : Fin 3, x (ix4 i n 0 h)) * O (ix5 g n 0 h e) := by
  unfold refMix
  pointwise!

variable (x0 : FVec Ideal S32x1536 .f32) (x1 x2 x3 : FVec Ideal S32x512 .f32) (x4 x5 : FVec Ideal S1x32x2048x4x128 .f32)
  (x6 x7 : FVec Ideal S1x32x256x4x128 .f32)

/-- The slopes. -/
theorem ref_slope (g : Fin 3) (h : Fin 4) : val_main_v10 (F := Ideal) (ix2 g h) = slopeAt g h := by
  unfold slopeAt
  pointwise [val_main_v10, val_main_v9, val_main_v8, val_main_v7, val_main_v6, val_main_v5, val_main_v4, val_main_v3, val_main_v2, val_main_v1, val_main_v0,
    val_main_cst, val_main_cst_0, val_main_cst_1, val_main_cst_2]
  have e : (FloatOps.sitofp FTy.f32 (BitVec.ofNat 32 (g.val * 4 + h.val)) : Ideal .f32) = (((4 * g.val + h.val : ℤ) : ℝ) : EReal) := by
    have z : ∀ g : Fin 3, ∀ h : Fin 4, (BitVec.ofNat 32 (g.val * 4 + h.val)).toInt = (4 * g.val + h.val : ℤ) := by decide
    exact congrArg (fun z : ℤ => ((z : ℝ) : EReal)) (z g h)
  rw [e]

/-- The queries. -/
theorem ref_q (n : Fin 32) (g : Fin 3) (h : Fin 4) (d : Fin 128) : val_main_v11 (F := Ideal) x0 (ix5 n 0 g h d) = x0 (ix2 n (qcol g h d)) := by
  pointwise [val_main_v11]
  exact congrArg (fun z => x0 (ix2 n z)) (Fin.ext (by show g.val * 512 + h.val * 128 + d.val = 512 * g.val + 128 * h.val + d.val; omega))

/-- The keys of the cache, then the new key. -/
theorem ref_keys (n : Fin 32) (R : Fin 2049) (h : Fin 4) (d : Fin 128) :
    val_main_v16 (F := Ideal) x1 x4 (ix4 n R h d) = if hR : R.val < 2048 then x4 (ix5 0 n ⟨R.val, hR⟩ h d) else x1 (ix2 n (col h d)) := by
  pointwise [val_main_v16, val_main_v14, val_main_v12]
  have e : (⟨h.val * 128 + d.val, by omega⟩ : Fin 512) = col h d := Fin.ext (by show h.val * 128 + d.val = 128 * h.val + d.val; omega)
  rw [e]

/-- The values of the cache, then the new value. -/
theorem ref_values (n : Fin 32) (R : Fin 2049) (h : Fin 4) (d : Fin 128) :
    val_main_v17 (F := Ideal) x2 x5 (ix4 n R h d) = if hR : R.val < 2048 then x5 (ix5 0 n ⟨R.val, hR⟩ h d) else x2 (ix2 n (col h d)) := by
  pointwise [val_main_v17, val_main_v15, val_main_v13]
  have e : (⟨h.val * 128 + d.val, by omega⟩ : Fin 512) = col h d := Fin.ext (by show h.val * 128 + d.val = 128 * h.val + d.val; omega)
  rw [e]

/-- The row of a group's key among the cache's rows and the new one. -/
theorem entry_row (x : FVec Ideal S32x512 .f32) (cx : FVec Ideal S1x32x2048x4x128 .f32) (n : Fin 32) (h : Fin 4) (d : Fin 128) (g : Fin 3) (j : Fin 129)
    (R : Fin 2049) (hR : R.val = 2048 - 128 * step g + step g * j.val) :
    (if hR : R.val < 2048 then cx (ix5 0 n ⟨R.val, hR⟩ h d) else x (ix2 n (col h d))) = entry x cx n h d g j := by
  have ⟨h1, h2⟩ := step_le g
  unfold entry
  induction j using Fin.lastCases with
  | last =>
    rw [Fin.lastCases_last, dif_neg]
    have e : step g * (Fin.last 128).val = step g * 128 := rfl
    omega
  | cast i =>
    have e : step g * i.castSucc.val < step g * 128 := Nat.mul_lt_mul_of_pos_left i.isLt h2
    rw [Fin.lastCases_castSucc, dif_pos (by omega)]
    exact congrArg (fun z => cx (ix5 0 n z h d)) (Fin.ext hR)

/-- The first group's keys. -/
theorem ref_k0 (n : Fin 32) (j : Fin 129) (h : Fin 4) (d : Fin 128) :
    val_main_v18 (F := Ideal) x1 x4 (ix4 n j h d) = entry x1 x4 n h d 0 j := by
  have e : val_main_v18 (F := Ideal) x1 x4 (ix4 n j h d) = val_main_v16 (F := Ideal) x1 x4 (ix4 n ⟨1920 + 1 * j.val, by omega⟩ h d) := by
    unfold val_main_v18
    generalize val_main_v16 (F := Ideal) x1 x4 = y
    pointwise!
  rw [e, ref_keys]
  exact entry_row x1 x4 n h d 0 j _ (by simp [step])

/-- The first group's values. -/
theorem ref_v0 (n : Fin 32) (j : Fin 129) (h : Fin 4) (d : Fin 128) :
    val_main_v19 (F := Ideal) x2 x5 (ix4 n j h d) = entry x2 x5 n h d 0 j := by
  have e : val_main_v19 (F := Ideal) x2 x5 (ix4 n j h d) = val_main_v17 (F := Ideal) x2 x5 (ix4 n ⟨1920 + 1 * j.val, by omega⟩ h d) := by
    unfold val_main_v19
    generalize val_main_v17 (F := Ideal) x2 x5 = y
    pointwise!
  rw [e, ref_values]
  exact entry_row x2 x5 n h d 0 j _ (by simp [step])

/-- The first group's scores. -/
theorem ref_s0 (n : Fin 32) (h : Fin 4) (j : Fin 129) : val_main_v41 (F := Ideal) x0 x1 x4 (ix4 n 0 h j) = score x0 x1 x4 n h 0 j := by
  have eq : ∀ d, val_main_v27 (F := Ideal) x0 (ix4 n 0 h d) = x0 (ix2 n (qcol 0 h d)) := fun d => by
    rw [← ref_q x0 n 0 h d]
    unfold val_main_v27 val_main_v26
    generalize val_main_v11 (F := Ideal) x0 = y
    pointwise!
  have es : val_main_v33 (F := Ideal) (ix1 h) = slopeAt 0 h := by
    rw [← ref_slope 0 h]
    unfold val_main_v33 val_main_v32
    generalize val_main_v10 (F := Ideal) = y
    pointwise!
  have eb : val_main_v25 (F := Ideal) (ix1 j) = (((step 0 * (128 - j.val : ℤ) : ℤ) : ℝ) : EReal) := by
    have z : ∀ j : Fin 129, (128#32 - 1#32 * BitVec.ofNat 32 j.val).toInt = (step 0 * (128 - j.val : ℤ) : ℤ) := by decide +kernel
    have b' : val_main_v25 (F := Ideal) (ix1 j) = refBack 128#32 1#32 (ix1 j) := rfl
    rw [b', refBack_at, z]
  have e : val_main_v41 (F := Ideal) x0 x1 x4 = refScores (val_main_v18 (F := Ideal) x1 x4) (val_main_v27 (F := Ideal) x0) (val_main_v33 (F := Ideal)) (val_main_v25 (F := Ideal)) := by
    unfold refScores val_main_v41 val_main_v40 val_main_v39 val_main_v38 val_main_v37 val_main_v36 val_main_v35 val_main_v34 val_main_v31 val_main_v30 val_main_cst_4 val_main_v29 val_main_v28
    rfl
  rw [e, refScores_at, es, eb]
  simp only [eq, ref_k0]
  rfl

/-- The second group's keys. -/
theorem ref_k1 (n : Fin 32) (j : Fin 129) (h : Fin 4) (d : Fin 128) :
    val_main_v57 (F := Ideal) x1 x4 (ix4 n j h d) = entry x1 x4 n h d 1 j := by
  have e : val_main_v57 (F := Ideal) x1 x4 (ix4 n j h d) = val_main_v16 (F := Ideal) x1 x4 (ix4 n ⟨1536 + 4 * j.val, by omega⟩ h d) := by
    unfold val_main_v57
    generalize val_main_v16 (F := Ideal) x1 x4 = y
    pointwise!
  rw [e, ref_keys]
  exact entry_row x1 x4 n h d 1 j _ (by simp [step])

/-- The second group's values. -/
theorem ref_v1 (n : Fin 32) (j : Fin 129) (h : Fin 4) (d : Fin 128) :
    val_main_v58 (F := Ideal) x2 x5 (ix4 n j h d) = entry x2 x5 n h d 1 j := by
  have e : val_main_v58 (F := Ideal) x2 x5 (ix4 n j h d) = val_main_v17 (F := Ideal) x2 x5 (ix4 n ⟨1536 + 4 * j.val, by omega⟩ h d) := by
    unfold val_main_v58
    generalize val_main_v17 (F := Ideal) x2 x5 = y
    pointwise!
  rw [e, ref_values]
  exact entry_row x2 x5 n h d 1 j _ (by simp [step])

/-- The second group's scores. -/
theorem ref_s1 (n : Fin 32) (h : Fin 4) (j : Fin 129) : val_main_v80 (F := Ideal) x0 x1 x4 (ix4 n 0 h j) = score x0 x1 x4 n h 1 j := by
  have eq : ∀ d, val_main_v66 (F := Ideal) x0 (ix4 n 0 h d) = x0 (ix2 n (qcol 1 h d)) := fun d => by
    rw [← ref_q x0 n 1 h d]
    unfold val_main_v66 val_main_v65
    generalize val_main_v11 (F := Ideal) x0 = y
    pointwise!
  have es : val_main_v72 (F := Ideal) (ix1 h) = slopeAt 1 h := by
    rw [← ref_slope 1 h]
    unfold val_main_v72 val_main_v71
    generalize val_main_v10 (F := Ideal) = y
    pointwise!
  have eb : val_main_v64 (F := Ideal) (ix1 j) = (((step 1 * (128 - j.val : ℤ) : ℤ) : ℝ) : EReal) := by
    have z : ∀ j : Fin 129, (512#32 - 4#32 * BitVec.ofNat 32 j.val).toInt = (step 1 * (128 - j.val : ℤ) : ℤ) := by decide +kernel
    have b' : val_main_v64 (F := Ideal) (ix1 j) = refBack 512#32 4#32 (ix1 j) := rfl
    rw [b', refBack_at, z]
  have e : val_main_v80 (F := Ideal) x0 x1 x4 = refScores (val_main_v57 (F := Ideal) x1 x4) (val_main_v66 (F := Ideal) x0) (val_main_v72 (F := Ideal)) (val_main_v64 (F := Ideal)) := by
    unfold refScores val_main_v80 val_main_v79 val_main_v78 val_main_v77 val_main_v76 val_main_v75 val_main_v74 val_main_v73 val_main_v70 val_main_v69 val_main_cst_9 val_main_v68 val_main_v67
    rfl
  rw [e, refScores_at, es, eb]
  simp only [eq, ref_k1]
  rfl

/-- The third group's keys. -/
theorem ref_k2 (n : Fin 32) (j : Fin 129) (h : Fin 4) (d : Fin 128) :
    val_main_v96 (F := Ideal) x1 x4 (ix4 n j h d) = entry x1 x4 n h d 2 j := by
  have e : val_main_v96 (F := Ideal) x1 x4 (ix4 n j h d) = val_main_v16 (F := Ideal) x1 x4 (ix4 n ⟨0 + 16 * j.val, by omega⟩ h d) := by
    unfold val_main_v96
    generalize val_main_v16 (F := Ideal) x1 x4 = y
    pointwise!
  rw [e, ref_keys]
  exact entry_row x1 x4 n h d 2 j _ (by simp [step])

/-- The third group's values. -/
theorem ref_v2 (n : Fin 32) (j : Fin 129) (h : Fin 4) (d : Fin 128) :
    val_main_v97 (F := Ideal) x2 x5 (ix4 n j h d) = entry x2 x5 n h d 2 j := by
  have e : val_main_v97 (F := Ideal) x2 x5 (ix4 n j h d) = val_main_v17 (F := Ideal) x2 x5 (ix4 n ⟨0 + 16 * j.val, by omega⟩ h d) := by
    unfold val_main_v97
    generalize val_main_v17 (F := Ideal) x2 x5 = y
    pointwise!
  rw [e, ref_values]
  exact entry_row x2 x5 n h d 2 j _ (by simp [step])

/-- The third group's scores. -/
theorem ref_s2 (n : Fin 32) (h : Fin 4) (j : Fin 129) : val_main_v119 (F := Ideal) x0 x1 x4 (ix4 n 0 h j) = score x0 x1 x4 n h 2 j := by
  have eq : ∀ d, val_main_v105 (F := Ideal) x0 (ix4 n 0 h d) = x0 (ix2 n (qcol 2 h d)) := fun d => by
    rw [← ref_q x0 n 2 h d]
    unfold val_main_v105 val_main_v104
    generalize val_main_v11 (F := Ideal) x0 = y
    pointwise!
  have es : val_main_v111 (F := Ideal) (ix1 h) = slopeAt 2 h := by
    rw [← ref_slope 2 h]
    unfold val_main_v111 val_main_v110
    generalize val_main_v10 (F := Ideal) = y
    pointwise!
  have eb : val_main_v103 (F := Ideal) (ix1 j) = (((step 2 * (128 - j.val : ℤ) : ℤ) : ℝ) : EReal) := by
    have z : ∀ j : Fin 129, (2048#32 - 16#32 * BitVec.ofNat 32 j.val).toInt = (step 2 * (128 - j.val : ℤ) : ℤ) := by decide +kernel
    have b' : val_main_v103 (F := Ideal) (ix1 j) = refBack 2048#32 16#32 (ix1 j) := rfl
    rw [b', refBack_at, z]
  have e : val_main_v119 (F := Ideal) x0 x1 x4 = refScores (val_main_v96 (F := Ideal) x1 x4) (val_main_v105 (F := Ideal) x0) (val_main_v111 (F := Ideal)) (val_main_v103 (F := Ideal)) := by
    unfold refScores val_main_v119 val_main_v118 val_main_v117 val_main_v116 val_main_v115 val_main_v114 val_main_v113 val_main_v112 val_main_v109 val_main_v108 val_main_cst_14 val_main_v107 val_main_v106
    rfl
  rw [e, refScores_at, es, eb]
  simp only [eq, ref_k2]
  rfl

/-- The first group's logarithm, from its scores. -/
theorem ref_l0 : val_main_v50 (F := Ideal) x0 x1 x4 = refLse (val_main_v41 (F := Ideal) x0 x1 x4) := by
  unfold refLse refPeak val_main_v50 val_main_v49 val_main_v48 val_main_cst_6 val_main_v47 val_main_v46 val_main_v45 val_main_v44 val_main_v43 val_main_v42 val_main_cst_5
  rfl

/-- The first group's weighted values, from its scores. -/
theorem ref_o0 : val_main_v56 (F := Ideal) x0 x1 x2 x4 x5 = refPart (val_main_v41 (F := Ideal) x0 x1 x4) (val_main_v50 (F := Ideal) x0 x1 x4) (val_main_v19 (F := Ideal) x2 x5) := by
  unfold refPart val_main_v56 val_main_v55 val_main_v54 val_main_v53 val_main_v52 val_main_v51
  rfl

/-- The second group's logarithm, from its scores. -/
theorem ref_l1 : val_main_v89 (F := Ideal) x0 x1 x4 = refLse (val_main_v80 (F := Ideal) x0 x1 x4) := by
  unfold refLse refPeak val_main_v89 val_main_v88 val_main_v87 val_main_cst_11 val_main_v86 val_main_v85 val_main_v84 val_main_v83 val_main_v82 val_main_v81 val_main_cst_10
  rfl

/-- The second group's weighted values, from its scores. -/
theorem ref_o1 : val_main_v95 (F := Ideal) x0 x1 x2 x4 x5 = refPart (val_main_v80 (F := Ideal) x0 x1 x4) (val_main_v89 (F := Ideal) x0 x1 x4) (val_main_v58 (F := Ideal) x2 x5) := by
  unfold refPart val_main_v95 val_main_v94 val_main_v93 val_main_v92 val_main_v91 val_main_v90
  rfl

/-- The third group's logarithm, from its scores. -/
theorem ref_l2 : val_main_v128 (F := Ideal) x0 x1 x4 = refLse (val_main_v119 (F := Ideal) x0 x1 x4) := by
  unfold refLse refPeak val_main_v128 val_main_v127 val_main_v126 val_main_cst_16 val_main_v125 val_main_v124 val_main_v123 val_main_v122 val_main_v121 val_main_v120 val_main_cst_15
  rfl

/-- The third group's weighted values, from its scores. -/
theorem ref_o2 : val_main_v134 (F := Ideal) x0 x1 x2 x4 x5 = refPart (val_main_v119 (F := Ideal) x0 x1 x4) (val_main_v128 (F := Ideal) x0 x1 x4) (val_main_v97 (F := Ideal) x2 x5) := by
  unfold refPart val_main_v134 val_main_v133 val_main_v132 val_main_v131 val_main_v130 val_main_v129
  rfl

/-- The groups' logarithms, joined. -/
theorem ref_join : val_main_v138 (F := Ideal) x0 x1 x4 = refJoin (val_main_v50 (F := Ideal) x0 x1 x4) (val_main_v89 (F := Ideal) x0 x1 x4) (val_main_v128 (F := Ideal) x0 x1 x4) := by
  unfold refJoin val_main_v138 val_main_v137 val_main_v136 val_main_v135
  rfl

/-- The groups' weighted values, joined. -/
theorem ref_stack : val_main_v152 (F := Ideal) x0 x1 x2 x4 x5
    = refStack (val_main_v56 (F := Ideal) x0 x1 x2 x4 x5) (val_main_v95 (F := Ideal) x0 x1 x2 x4 x5) (val_main_v134 (F := Ideal) x0 x1 x2 x4 x5) := by
  unfold refStack val_main_v152 val_main_v151 val_main_v150 val_main_v149
  rfl

/-- The exponentials of the groups' logarithms. -/
theorem ref_exps : val_main_v143 (F := Ideal) x0 x1 x4 = refExps (val_main_v138 (F := Ideal) x0 x1 x4) := by
  unfold refExps refTop val_main_v143 val_main_v142 val_main_v141 val_main_v140 val_main_v139 val_main_cst_17
  rfl

/-- The mix of the groups. -/
theorem ref_mix_of : val_main_v155 (F := Ideal) x0 x1 x2 x4 x5 = refMix (val_main_v143 (F := Ideal) x0 x1 x4) (val_main_v152 (F := Ideal) x0 x1 x2 x4 x5) := by
  unfold refMix val_main_v155 val_main_cst_19 val_main_v154 val_main_v153 val_main_v148 val_main_v147 val_main_v146 val_main_v145 val_main_v144 val_main_cst_18
  rfl

/-- The logarithm of a head's exponentials is that of its real scores. -/
theorem refLse_real (s : FVec Ideal S32x1x4x129 .f32) (n : Fin 32) (h : Fin 4) (f : Fin 129 → ℝ) (hf : ∀ j, s (ix4 n 0 h j) = (f j : EReal)) :
    refLse s (ix3 n 0 h) = ((Real.log (∑ j, Real.exp (f j)) : ℝ) : EReal) := by
  rw [refLse_at, refPeak_at]
  obtain ⟨t, ht⟩ := real_fold_nonempty (n := 128) (Ideal.ofBits .f32 0xFF800000#32) (fun j : Fin 129 => s (ix4 n 0 h j)) low_bits (fun j => ⟨f j, hf j⟩)
  rw [ht]
  simp only [hf]
  exact lse_coe f t

/-- The mix of three groups with real scores is their joint softmax. -/
theorem refMix_real (S0 S1 S2 : FVec Ideal S32x1x4x129 .f32) (V0 V1 V2 : FVec Ideal S32x129x4x128 .f32) (n : Fin 32) (h : Fin 4) (e : Fin 128)
    (f : Fin 3 → Fin 129 → ℝ) (v : Fin 3 → Fin 129 → EReal)
    (s0 : ∀ j, S0 (ix4 n 0 h j) = (f 0 j : EReal)) (s1 : ∀ j, S1 (ix4 n 0 h j) = (f 1 j : EReal)) (s2 : ∀ j, S2 (ix4 n 0 h j) = (f 2 j : EReal))
    (v0 : ∀ j, V0 (ix4 n j h e) = v 0 j) (v1 : ∀ j, V1 (ix4 n j h e) = v 1 j) (v2 : ∀ j, V2 (ix4 n j h e) = v 2 j) :
    refMix (refExps (refJoin (refLse S0) (refLse S1) (refLse S2)))
      (refStack (refPart S0 (refLse S0) V0) (refPart S1 (refLse S1) V1) (refPart S2 (refLse S2) V2)) (ix4 n 0 h e) = mixed f v := by
  have l0 := refLse_real S0 n h _ s0
  have l1 := refLse_real S1 n h _ s1
  have l2 := refLse_real S2 n h _ s2
  have p0 := refPart_at S0 (refLse S0) V0 n h e
  have p1 := refPart_at S1 (refLse S1) V1 n h e
  have p2 := refPart_at S2 (refLse S2) V2 n h e
  rw [l0] at p0
  rw [l1] at p1
  rw [l2] at p2
  simp only [s0, v0] at p0
  replace p0 := p0.trans (Finset.sum_congr rfl fun j _ => mul_comm (v 0 j) _)
  simp only [s1, v1] at p1
  replace p1 := p1.trans (Finset.sum_congr rfl fun j _ => mul_comm (v 1 j) _)
  simp only [s2, v2] at p2
  replace p2 := p2.trans (Finset.sum_congr rfl fun j _ => mul_comm (v 2 j) _)
  have hL : ∀ g, refJoin (refLse S0) (refLse S1) (refLse S2) (ix4 g n 0 h) = ((Real.log (∑ j, Real.exp (f g j)) : ℝ) : EReal) := fun g => by
    rw [refJoin_at, l0, l1, l2]
    match g with
    | 0 => rfl
    | 1 => rfl
    | 2 => rfl
  have hO : ∀ g, refStack (refPart S0 (refLse S0) V0) (refPart S1 (refLse S1) V1) (refPart S2 (refLse S2) V2) (ix5 g n 0 h e)
      = ∑ j, Ideal.exp ((f g j : EReal) - ((Real.log (∑ j, Real.exp (f g j)) : ℝ) : EReal)) * v g j := fun g => by
    rw [refStack_at, p0, p1, p2]
    match g with
    | 0 => rfl
    | 1 => rfl
    | 2 => rfl
  rw [refMix_at]
  generalize refJoin (refLse S0) (refLse S1) (refLse S2) = J at hL ⊢
  generalize refStack (refPart S0 (refLse S0) V0) (refPart S1 (refLse S1) V1) (refPart S2 (refLse S2) V2) = O at hO ⊢
  obtain ⟨t, ht⟩ := real_fold_nonempty (n := 2) (Ideal.ofBits .f32 0xFF800000#32) (fun g : Fin 3 => J (ix4 g n 0 h)) low_bits (fun g => ⟨_, hL g⟩)
  simp only [refExps_at, refTop_at]
  simp only [ht]
  simp only [hL, hO]
  exact mixed_early f v (fun g => Real.log (∑ j, Real.exp (f g j))) (fun _ => rfl) t

variable (hs : ∀ n h g j, IsReal (score x0 x1 x4 n h g j))
include hs

/-- The dilated attention of the reference. -/
theorem ref_mix (n : Fin 32) (h : Fin 4) (e : Fin 128) :
    val_main_v155 (F := Ideal) x0 x1 x2 x4 x5 (ix4 n 0 h e) = mixOut x0 x1 x2 x4 x5 n h e := by
  rw [ref_mix_of, ref_exps, ref_join, ref_stack, ref_o0, ref_o1, ref_o2, ref_l0, ref_l1, ref_l2]
  exact refMix_real _ _ _ _ _ _ n h e _ _
    (fun j => (ref_s0 x0 x1 x4 n h j).trans (coe_part (hs n h 0 j))) (fun j => (ref_s1 x0 x1 x4 n h j).trans (coe_part (hs n h 1 j)))
    (fun j => (ref_s2 x0 x1 x4 n h j).trans (coe_part (hs n h 2 j)))
    (fun j => ref_v0 x2 x5 n j h e) (fun j => ref_v1 x2 x5 n j h e) (fun j => ref_v2 x2 x5 n j h e)

/-- The reference's first result. -/
theorem ref_mixed (n : Fin 32) (k : Fin 512) : val_main_v173 (F := Ideal) x0 x1 x2 x4 x5 (ix3 n 0 k)
    = mixOut x0 x1 x2 x4 x5 n ⟨k.val / 128, by omega⟩ ⟨k.val % 128, Nat.mod_lt _ (by decide)⟩ := by
  rw [← ref_mix x0 x1 x2 x4 x5 hs]
  unfold val_main_v173
  generalize val_main_v155 (F := Ideal) x0 x1 x2 x4 x5 = y
  pointwise!

omit hs

/-- The memory's scores. -/
theorem ref_memScores (n : Fin 32) (h : Fin 4) (j : Fin 256) : val_main_v161 (F := Ideal) x3 x6 (ix4 n h 0 j) = memScore x3 x6 n h j := by
  unfold memScore
  pointwise [val_main_v161, val_main_v160, val_main_v159, val_main_v157, val_main_v156, val_main_cst_20]
  have e : ∀ d : Fin 128, (⟨h.val * 128 + d.val, by omega⟩ : Fin 512) = col h d := fun d => Fin.ext (by show h.val * 128 + d.val = 128 * h.val + d.val; omega)
  simp only [e]
  exact congrArg (fun z : EReal => z * _) (Finset.sum_congr rfl fun d _ => mul_comm _ _)

/-- The weighted values of the memory, from its scores. -/
def refMem (s : FVec Ideal S32x4x1x256 .f32) (p : FVec Ideal S32x4x1 .f32) (V : FVec Ideal S32x256x4x128 .f32) : FVec Ideal S32x1x4x128 .f32 :=
  let x : FVec Ideal S32x4x1x256 .f32 := Host.exp (subf s (broadcastInDim S32x4x1x256 ![0, 1, 2, 3] bcast_S32x4x1x1_S32x4x1x256_0_1_2_3
    (broadcastInDim S32x4x1x1 ![0, 1, 2] bcast_S32x4x1_S32x4x1x1_0_1_2 p)))
  transpose S32x1x4x128 [0, 3, 1, 2] (Host.dotGeneral dot_S32x256x4x128_S32x4x1x256_S32x4x128x1_1_3_3_2_02_01 none V
    (Host.divf x (broadcastInDim S32x4x1x256 ![0, 1, 2, 3] bcast_S32x4x1x1_S32x4x1x256_0_1_2_3
      (broadcastInDim S32x4x1x1 ![0, 1, 2] bcast_S32x4x1_S32x4x1x1_0_1_2
        (Host.reduceAdd x (constant S_ .f32 0x00000000#32) reducesTo_S32x4x1x256_S32x4x1_d3 h_S_))))) transposes_S32x4x128x1_S32x1x4x128_0_3_1_2

/-- The weighted values of the memory, at an entry. -/
theorem refMem_at (s : FVec Ideal S32x4x1x256 .f32) (p : FVec Ideal S32x4x1 .f32) (V : FVec Ideal S32x256x4x128 .f32) (n : Fin 32) (h : Fin 4) (e : Fin 128) :
    refMem s p V (ix4 n 0 h e) = ∑ j : Fin 256, V (ix4 n j h e)
      * Ideal.div (Ideal.exp (s (ix4 n h 0 j) - p (ix3 n h 0))) (∑ i : Fin 256, Ideal.exp (s (ix4 n h 0 i) - p (ix3 n h 0))) := by
  unfold refMem
  pointwise!

/-- The largest of the memory's scores, at a head. -/
theorem ref_memPeak (n : Fin 32) (h : Fin 4) : val_main_v162 (F := Ideal) x3 x6 (ix3 n h 0)
    = Finset.fold max (Ideal.ofBits .f32 0xFF800000#32) (fun j : Fin 256 => val_main_v161 (F := Ideal) x3 x6 (ix4 n h 0 j)) Finset.univ := by
  unfold val_main_v162 val_main_cst_21
  generalize val_main_v161 (F := Ideal) x3 x6 = s
  pointwise!

/-- The reference's second result. -/
theorem ref_mem (hm : ∀ n h j, IsReal (memScore x3 x6 n h j)) (n : Fin 32) (k : Fin 512) : val_main_v174 (F := Ideal) x3 x6 x7 (ix3 n 0 k)
    = memOut x3 x6 x7 n ⟨k.val / 128, by omega⟩ ⟨k.val % 128, Nat.mod_lt _ (by decide)⟩ := by
  have s0 := fun h j => (ref_memScores x3 x6 n h j).trans (coe_part (hm n h j))
  have p0 := fun h => ref_memPeak x3 x6 n h
  have e0 : val_main_v172 (F := Ideal) x3 x6 x7 = refMem (val_main_v161 (F := Ideal) x3 x6) (val_main_v162 (F := Ideal) x3 x6) (val_main_v158 (F := Ideal) x7) := by
    unfold refMem val_main_v172 val_main_v171 val_main_v170 val_main_v169 val_main_v168 val_main_v167 val_main_cst_22 val_main_v166 val_main_v165 val_main_v164 val_main_v163
    rfl
  have v0 : ∀ j h e, val_main_v158 (F := Ideal) x7 (ix4 n j h e) = x7 (ix5 0 n j h e) := fun j h e => by pointwise! [val_main_v158]
  have e1 : ∀ h e, val_main_v172 (F := Ideal) x3 x6 x7 (ix4 n 0 h e) = memOut x3 x6 x7 n h e := fun h e => by
    obtain ⟨t, ht⟩ := real_fold_nonempty (n := 255) (Ideal.ofBits .f32 0xFF800000#32) (fun j : Fin 256 => val_main_v161 (F := Ideal) x3 x6 (ix4 n h 0 j)) low_bits
      (fun j => ⟨_, s0 h j⟩)
    rw [e0, refMem_at, p0 h, ht]
    simp only [s0, v0]
    exact (Finset.sum_congr rfl fun j _ => mul_comm _ _).trans (soft_early (fun j => (memScore x3 x6 n h j).toReal) (fun j => x7 (ix5 0 n j h e)) t)
  rw [← e1]
  unfold val_main_v174
  generalize val_main_v172 (F := Ideal) x3 x6 x7 = y
  pointwise!

end Cert.Attn1k
end
-- ==== Proof.AttnClaim.lean ====
/-
  The sample attention's claim: on finite queries and keys the kernel and the reference compute the same two arrays over the
  extended reals.
-/
module

public import proofs.«01_k».proof.Defs
public import proofs.«01_k».proof.Proof.AttnBlocks
public import proofs.«01_k».proof.Proof.AttnRef
public import Idealize.ShloMosaic.Lib.ReduceAll
public import Idealize.ShloMosaic.Lib.Quiescent

@[expose] public section

set_option maxRecDepth 16384

noncomputable section

open Idealize.ShloMosaic Idealize.ShloMosaic.TcCoe Idealize.ShloMosaic.StableHlo Idealize.SL.Sem

namespace Cert.Attn1k

/-- The shape relations of the precondition's operations. -/
theorem finite_facts : Cert.Pre_finite.Facts where
  bcast_S_S32x1536 := by decide
  reducesTo_S32x1536_S_d0_1 := by decide
  h_S_ := by decide
  bcast_S_S32x512 := by decide
  reducesTo_S32x512_S_d0_1 := by decide
  bcast_S_S1x32x2048x4x128 := by decide
  reducesTo_S1x32x2048x4x128_S_d0_1_2_3_4 := by decide
  bcast_S_S1x32x256x4x128 := by decide
  reducesTo_S1x32x256x4x128_S_d0_1_2_3_4 := by decide

/-- The pattern of infinity. -/
theorem high_bits : Ideal.ofBits .f32 0x7F800000#32 = ⊤ := by
  simp [Ideal.ofBits, Ideal.ieee]

/-- A number whose absolute value is below infinity is a real number. -/
theorem real_of_abs {x : EReal} (h : Ideal.cmp .olt (max x (-x)) (Ideal.ofBits .f32 0x7F800000#32) = 1#1) : IsReal x := by
  rw [high_bits] at h
  induction x with
  | bot => exact absurd h (by simp [Ideal.cmp])
  | top => exact absurd h (by simp [Ideal.cmp])
  | coe r => exact ⟨r, rfl⟩

/-- An array whose entries are all tested finite has real entries. -/
theorem real_of_all {s : Shape} {axes : List (Fin s.rank)} (x : FVec Ideal s .f32)
    (hb : (⟨0, ![]⟩ : Shape).BroadcastsInDim s (![] : Fin 0 → Fin s.rank)) (hr : s.ReducesTo axes ⟨0, ![]⟩) (hu : 0 < (⟨0, ![]⟩ : Shape).numel)
    (h : Host.reduce IntOp.andi (cmpf .olt (Host.absf x) (broadcastInDim s ![] hb (constant ⟨0, ![]⟩ .f32 0x7F800000#32)))
      (constantI ⟨0, ![]⟩ 1 1#1) hr hu (fun a => a.elim0) = 1#1) (i : s.Idx) : IsReal (x i) := by
  haveI : Subsingleton (⟨0, ![]⟩ : Shape).Idx := ⟨fun a b => funext fun k => k.elim0⟩
  exact real_of_abs (Host.reduce_andi_all _ _ hr hu _ h i)

/-- Arrays of one row per sequence with equal entries are equal. -/
theorem row_ext {n d : ℕ} {a b : FVec Ideal ⟨3, ![n, 1, d]⟩ .f32} (h : ∀ R : Fin n, ∀ k : Fin d, a (ix3 R 0 k) = b (ix3 R 0 k)) : a = b := by
  funext i
  have e : i = ix3 (i 0) 0 (i 2) := by
    funext a
    match a with
    | ⟨0, _⟩ => rfl
    | ⟨1, _⟩ => exact Subsingleton.elim (α := Fin 1) _ _
    | ⟨2, _⟩ => rfl
  rw [e]
  exact h _ _

/-- The reference leaves its arguments and declares no semaphore. -/
theorem ref_frame : Cert.quiescent_AttnSampleRefIdeal (hAttnSampleRefIdeal := Cert.AttnSampleRefIdeal.Gen.facts) := fun m ρ _ =>
  (θ_run Cert.AttnSampleRefIdeal.defs _ _).mono (fun r h => ⟨fun c => (h c).2.2, Idealize.ShloMosaic.sem_eq_zero_of_no_sems (by decide) r.2⟩)
    (Cert.AttnSampleRefIdeal.Value.run (F := Ideal) m ρ)

section pre

open Cert.AttnSampleIdeal Cert.AttnSampleIdeal.Head

variable (m : (ℓ : Loc nD τ sig) → Buf (Elt Ideal) ℓ) (h : Cert.Pre_AttnSampleIdeal_finite (hPre_finite := finite_facts) m) (c : Dev nD)
include h

/-- Finite queries and keys are real numbers. -/
theorem real_args : (∀ i, IsReal (argQ m c i)) ∧ (∀ i, IsReal (argK m c i)) ∧ (∀ i, IsReal (argX m c i)) ∧ (∀ i, IsReal (argCK m c i))
    ∧ ∀ i, IsReal (argMK m c i) := by
  have e := congrFun (h c) (fun a => a.elim0)
  unfold Cert.Pre_finite.fn Cert.Pre_finite.fn_part1 at e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  exact ⟨real_of_all _ _ _ _ e1, real_of_all _ _ _ _ e2, real_of_all _ _ _ _ e3, real_of_all _ _ _ _ e4, real_of_all _ _ _ _ e5⟩

end pre

/-- The kernel and the reference agree on equal arguments. -/
theorem algebraic : Cert.algebraic_AttnSampleIdeal_AttnSampleRefIdeal_pre_finite (hAttnSampleIdeal := Cert.AttnSampleIdeal.Gen.facts)
    (hAttnSampleRefIdeal := Cert.AttnSampleRefIdeal.Gen.facts) (hPre_finite := finite_facts) := by
  intro m ρ m' ρ' hpre hag
  refine ⟨_, _, Cert.AttnSampleIdeal.Value.run_blocks m ρ, ?_⟩
  refine (θ_run _ _ _).mono (fun _ h c => ?_) (Cert.AttnSampleRefIdeal.Value.run (F := Ideal) m' ρ')
  obtain ⟨e0, e1, e2, e3, e4, e5, e6, e7⟩ := hag c
  obtain ⟨hr, hr', kept⟩ := h c
  obtain ⟨rq, rk, rx, rc, rm⟩ := real_args m hpre c
  have hs := real_score _ _ _ (fun n k => rq (ix2 n k)) (fun n k => rk (ix2 n k)) (fun n r g d => rc (ix5 0 n r g d))
  have hm := real_memScore _ _ (fun n k => rx (ix2 n k)) (fun n r g d => rm (ix5 0 n r g d))
  refine ⟨hr.trans ?_, hr'.trans ?_, kept⟩
  · refine (Cert.AttnSampleRefIdeal.Read.val_main_v173_eq (launchContents m' c)).trans ?_
    rw [launchContents_devRef, launchContents_devRef, launchContents_devRef, launchContents_devRef, launchContents_devRef, e0, e1, e2, e4, e5]
    exact row_ext fun n k => (ref_mixed _ _ _ _ _ hs n k).trans (Cert.AttnSampleIdeal.Head.mix_result m c hs hm n k).symm
  · refine (Cert.AttnSampleRefIdeal.Read.val_main_v174_eq (launchContents m' c)).trans ?_
    rw [launchContents_devRef, launchContents_devRef, launchContents_devRef, e3, e6, e7]
    exact row_ext fun n k => (ref_mem _ _ _ hm n k).trans (Cert.AttnSampleIdeal.Head.mem_result m c hs hm n k).symm

end Cert.Attn1k

end
-- ==== Proof.FfnRef.lean ====
/-
  The feed-forward reference read at an index over the extended reals: its result is `Ffn1k.out` of its arguments.
-/
module

public import proofs.«01_k».proof.Proof.FfnFold
public import proofs.«01_k».proof.Proof.Gen.FfnRefIdeal.Read

@[expose] public section

set_option maxRecDepth 16384

noncomputable section

open Idealize.ShloMosaic Idealize.ShloMosaic.TcCoe

namespace Cert.Ffn1k

open Cert.FfnRefIdeal Cert.FfnRefIdeal.Read

variable (x : FVec Ideal ⟨2, ![8192, 2048]⟩ .f32) (g gp : FVec Ideal ⟨2, ![1, 2048]⟩ .f32)
  (wg wu : FVec Ideal ⟨3, ![1, 2048, 5632]⟩ .f32) (wd : FVec Ideal ⟨3, ![1, 5632, 2048]⟩ .f32)

/-- The normalised input at row `R`, column `k`. -/
theorem ref_hid (R : Fin 8192) (k : Fin 2048) : val_main_v13 (F := Ideal) x g (ix2 R k) = hid x g R k := by
  unfold hid rms
  pointwise! [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]

/-- The gate product at row `R`, hidden unit `J`. -/
theorem ref_gate (R : Fin 8192) (J : Fin 5632) :
    val_main_v15 (F := Ideal) x g wg (ix2 R J) = ∑ k : Fin 2048, hid x g R k * wg (ix3 0 k J) := by
  have e := fun k => ref_hid x g R k
  revert e
  unfold val_main_v15 val_main_v14
  generalize val_main_v13 (F := Ideal) x g = h
  intro e
  simp only [← e]
  pointwise!

/-- The up product at row `R`, hidden unit `J`. -/
theorem ref_up (R : Fin 8192) (J : Fin 5632) :
    val_main_v18 (F := Ideal) x g wu (ix2 R J) = ∑ k : Fin 2048, hid x g R k * wu (ix3 0 k J) := by
  have e := fun k => ref_hid x g R k
  revert e
  unfold val_main_v18 val_main_v17
  generalize val_main_v13 (F := Ideal) x g = h
  intro e
  simp only [← e]
  pointwise!

/-- The activation at row `R`, hidden unit `J`. -/
theorem ref_act (R : Fin 8192) (J : Fin 5632) : val_main_v19 (F := Ideal) x g wg wu (ix2 R J) = act x g wg wu R J := by
  unfold act unit Ideal.logistic
  simp only [← ref_gate x g wg R J, ← ref_up x g wu R J]
  unfold val_main_v19 val_main_v16 val_main_call0_v5 val_main_call0_v3 val_main_call0_v1 val_main_call0_v0
  generalize val_main_v15 (F := Ideal) x g wg = a
  generalize val_main_v18 (F := Ideal) x g wu = b
  pointwise [val_main_call0_v2, val_main_call0_v4, val_main_call0_cst, val_main_call0_cst_0]

/-- The down product at row `R`, column `d`. -/
theorem ref_down (R : Fin 8192) (d : Fin 2048) : val_main_v21 (F := Ideal) x g wg wu wd (ix2 R d) = down x g wg wu wd R d := by
  unfold down
  have e := fun J => ref_act x g wg wu R J
  revert e
  unfold val_main_v21 val_main_v20
  generalize val_main_v19 (F := Ideal) x g wg wu = h
  intro e
  simp only [← e]
  pointwise!

/-- The reference's result at row `R`, column `d`. -/
theorem ref_out (R : Fin 8192) (d : Fin 2048) : val_main_v36 (F := Ideal) x g wg wu wd gp (ix2 R d) = out x g wg wu wd gp R d := by
  unfold out
  have e : (fun j => val_main_v21 (F := Ideal) x g wg wu wd (ix2 R j)) = down x g wg wu wd R := funext fun j => ref_down x g wg wu wd R j
  rw [← e]
  unfold rms
  unfold val_main_v36 val_main_v35 val_main_v32 val_main_v31 val_main_v30 val_main_v29 val_main_v27 val_main_v25 val_main_v24 val_main_v23
  generalize val_main_v21 (F := Ideal) x g wg wu wd = f
  pointwise! [val_main_v22, val_main_v26, val_main_v28, val_main_v33, val_main_v34, val_main_cst_2, val_main_cst_3, val_main_cst_4]

end Cert.Ffn1k

end
-- ==== Proof.FfnClaim.lean ====
/-
  The feed-forward claim: over the extended reals the kernel and the reference compute one array from the same arguments.
-/
module

public import proofs.«01_k».proof.Defs
public import proofs.«01_k».proof.Proof.FfnRef
public import Idealize.ShloMosaic.Lib.Quiescent

@[expose] public section

set_option maxRecDepth 16384

noncomputable section

open Idealize.ShloMosaic Idealize.ShloMosaic.TcCoe Idealize.SL.Sem

namespace Cert.Ffn1k

/-- Arrays with equal entries at every row and column are equal. -/
theorem arr_ext {n d : ℕ} {a b : FVec Ideal ⟨2, ![n, d]⟩ .f32} (h : ∀ R : Fin n, ∀ k : Fin d, a (ix2 R k) = b (ix2 R k)) : a = b := by
  funext i
  have e : i = ix2 (i 0) (i 1) := by
    funext a
    match a with
    | ⟨0, _⟩ => rfl
    | ⟨1, _⟩ => rfl
  rw [e]
  exact h _ _

/-- The reference leaves its arguments and declares no semaphore. -/
theorem ref_frame : Cert.quiescent_FfnRefIdeal (hFfnRefIdeal := Cert.FfnRefIdeal.Gen.facts) := fun m ρ _ =>
  (θ_run Cert.FfnRefIdeal.defs _ _).mono (fun r h => ⟨fun c => (h c).2, Idealize.ShloMosaic.sem_eq_zero_of_no_sems (by decide) r.2⟩)
    (Cert.FfnRefIdeal.Value.run (F := Ideal) m ρ)

/-- The kernel and the reference agree on equal arguments. -/
theorem algebraic : Cert.algebraic_FfnIdeal_FfnRefIdeal (hFfnIdeal := Cert.FfnIdeal.Gen.facts) (hFfnRefIdeal := Cert.FfnRefIdeal.Gen.facts) := by
  intro m ρ m' ρ' _ hag
  refine ⟨fun c => Cert.FfnIdeal.Value.G6 m c, Cert.FfnIdeal.Value.run m ρ, ?_⟩
  refine (θ_run _ _ _).mono (fun _ h c => ?_) (Cert.FfnRefIdeal.Value.run (F := Ideal) m' ρ')
  obtain ⟨e0, e1, e2, e3, e4, e5⟩ := hag c
  obtain ⟨hr, k0, k1, k2, k3, k4, k5⟩ := h c
  refine ⟨hr.trans ?_, k0, k1, k2, k3, k4, k5⟩
  refine (Cert.FfnRefIdeal.Read.val_main_v36_eq m' c).trans ?_
  rw [e0, e1, e2, e3, e4, e5]
  exact arr_ext fun R k => (ref_out _ _ _ _ _ _ R k).trans (result_at m c R k).symm

end Cert.Ffn1k

end
-- ==== Proof.lean ====
module

public import proofs.«01_k».proof.Defs
public import proofs.«01_k».proof.Proof.Gen.AttnSample.Frame
public import proofs.«01_k».proof.Proof.Gen.AttnSampleIdeal.Frame
public import proofs.«01_k».proof.Proof.Gen.Ffn.Frame
public import proofs.«01_k».proof.Proof.Gen.AttnSampleIdeal.Value
public import proofs.«01_k».proof.Proof.Gen.AttnSampleRefIdeal.Read
public import proofs.«01_k».proof.Proof.Gen.FfnIdeal.Value
public import proofs.«01_k».proof.Proof.Gen.FfnRefIdeal.Read
public import proofs.«01_k».proof.Proof.Gen.MemKv.Points
public import proofs.«01_k».proof.Proof.Gen.MemKvIdeal.Points
public import proofs.«01_k».proof.Proof.Gen.MemKv.Launch
public import proofs.«01_k».proof.Proof.Gen.MemKvIdeal.Launch
public import proofs.«01_k».proof.Proof.Gen.MemKv.Skeleton
public import proofs.«01_k».proof.Proof.Gen.MemKvIdeal.Skeleton
public import proofs.«01_k».proof.Proof.Gen.MemKvRefIdeal.Read
public import proofs.«01_k».proof.Proof.MemKvFrame
public import proofs.«01_k».proof.Proof.MemKvClaim
public import proofs.«01_k».proof.Proof.Gen.InProj.Points
public import proofs.«01_k».proof.Proof.Gen.InProjIdeal.Points
public import proofs.«01_k».proof.Proof.Gen.InProj.Launch
public import proofs.«01_k».proof.Proof.Gen.InProjIdeal.Launch
public import proofs.«01_k».proof.Proof.Gen.InProj.Skeleton
public import proofs.«01_k».proof.Proof.Gen.InProjIdeal.Skeleton
public import proofs.«01_k».proof.Proof.Gen.InProjRefIdeal.Read
public import proofs.«01_k».proof.Proof.InProjFrame
public import proofs.«01_k».proof.Proof.InProjClaim
public import proofs.«01_k».proof.Proof.Gen.InProjS.Points
public import proofs.«01_k».proof.Proof.Gen.InProjSIdeal.Points
public import proofs.«01_k».proof.Proof.Gen.InProjS.Launch
public import proofs.«01_k».proof.Proof.Gen.InProjSIdeal.Launch
public import proofs.«01_k».proof.Proof.Gen.InProjS.Skeleton
public import proofs.«01_k».proof.Proof.Gen.InProjSIdeal.Skeleton
public import proofs.«01_k».proof.Proof.Gen.InProjSRefIdeal.Read
public import proofs.«01_k».proof.Proof.InProjSFrame
public import proofs.«01_k».proof.Proof.InProjSClaim
public import proofs.«01_k».proof.Proof.Gen.FfnS.Frame
public import proofs.«01_k».proof.Proof.Gen.FfnSIdeal.Value
public import proofs.«01_k».proof.Proof.Gen.FfnSRefIdeal.Read
public import proofs.«01_k».proof.Proof.FfnSClaim
public import proofs.«01_k».proof.Proof.Gen.Merge.Points
public import proofs.«01_k».proof.Proof.Gen.MergeIdeal.Points
public import proofs.«01_k».proof.Proof.Gen.Merge.Launch
public import proofs.«01_k».proof.Proof.Gen.MergeIdeal.Launch
public import proofs.«01_k».proof.Proof.Gen.Merge.Skeleton
public import proofs.«01_k».proof.Proof.Gen.MergeIdeal.Skeleton
public import proofs.«01_k».proof.Proof.Gen.MergeRefIdeal.Read
public import proofs.«01_k».proof.Proof.MergeFrame
public import proofs.«01_k».proof.Proof.MergeClaim
public import proofs.«01_k».proof.Proof.AttnClaim
public import proofs.«01_k».proof.Proof.FfnClaim

@[expose] public section

noncomputable section

namespace Cert.Proof

open Idealize.ShloMosaic Idealize.SL.Sem

/-- Everything the certificate claims. -/
theorem claim : Cert.Claim :=
  ⟨Cert.AttnSample.Gen.facts, Cert.AttnSampleIdeal.Gen.facts, Cert.AttnSampleRefIdeal.Gen.facts,
    Cert.Ffn.Gen.facts, Cert.FfnIdeal.Gen.facts, Cert.FfnRefIdeal.Gen.facts,
    Cert.MemKv.Gen.facts, Cert.MemKvIdeal.Gen.facts, Cert.MemKvRefIdeal.Gen.facts,
    Cert.InProj.Gen.facts, Cert.InProjIdeal.Gen.facts, Cert.InProjRefIdeal.Gen.facts,
    Cert.InProjS.Gen.facts, Cert.InProjSIdeal.Gen.facts, Cert.InProjSRefIdeal.Gen.facts,
    Cert.FfnS.Gen.facts, Cert.FfnSIdeal.Gen.facts, Cert.FfnSRefIdeal.Gen.facts,
    Cert.Merge.Gen.facts, Cert.MergeIdeal.Gen.facts, Cert.MergeRefIdeal.Gen.facts,
    Cert.Attn1k.finite_facts,
    fun m ρ _ => Cert.AttnSample.Gen.frame m ρ,
    fun m ρ _ => Cert.AttnSampleIdeal.Gen.frame m ρ,
    fun m ρ _ => Cert.AttnSampleIdeal.Gen.frame m ρ,
    Cert.Attn1k.ref_frame,
    fun m ρ _ => Cert.Attn1k.ref_frame m ρ trivial,
    fun m ρ _ => Cert.Ffn.Gen.frame m ρ,
    fun m ρ _ => Cert.FfnIdeal.Gen.frame m ρ,
    Cert.Ffn1k.ref_frame,
    fun m ρ _ => Cert.MemKv.Hand.frame m ρ,
    fun m ρ _ => Cert.MemKvIdeal.Hand.frame m ρ,
    Cert.MemKv1k.ref_frame,
    fun m ρ _ => Cert.InProj.Hand.frame m ρ,
    fun m ρ _ => Cert.InProjIdeal.Hand.frame m ρ,
    Cert.InProj1k.ref_frame,
    fun m ρ _ => Cert.InProjS.Hand.frame m ρ,
    fun m ρ _ => Cert.InProjSIdeal.Hand.frame m ρ,
    Cert.InProjS1k.ref_frame,
    fun m ρ _ => Cert.FfnS.Gen.frame m ρ,
    fun m ρ _ => Cert.FfnSIdeal.Gen.frame m ρ,
    Cert.FfnS1k.ref_frame,
    fun m ρ _ => Cert.Merge.Hand.frame m ρ,
    fun m ρ _ => Cert.MergeIdeal.Hand.frame m ρ,
    Cert.Merge1k.ref_frame,
    trivial, Cert.Attn1k.algebraic, trivial, Cert.Ffn1k.algebraic, trivial, Cert.MemKv1k.algebraic, trivial, Cert.InProj1k.algebraic, trivial, Cert.InProjS1k.algebraic, trivial, Cert.FfnS1k.algebraic, trivial, Cert.Merge1k.algebraic⟩

end Cert.Proof

end
